-- ==== Defs.lean ====
def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostBwdIdeal_post_finite [hPre_post_finite : Cert.Pre_post_finite.Facts] (m : (ℓ : Loc Cert.PostBwdIdeal.nD Cert.PostBwdIdeal.τ Cert.PostBwdIdeal.sig) → Buf (Elt Ideal) ℓ) : Prop :=
  ∀ c : Dev Cert.PostBwdIdeal.nD,
    (Cert.Pre_post_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8)) (m ((c.tc : Thread Cert.PostBwdIdeal.nD Cert.PostBwdIdeal.τ).loc Cert.PostBwdIdeal.main_arg9)) (m ((c.tc : Thread Cert.PostBwdIdeal.nD Cert.PostBwdIdeal.τ).loc Cert.PostBwdIdeal.main_arg10))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_post_finite [hPre_post_finite : Cert.Pre_post_finite.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10))) = (fun _ => 1#1)

def Pre_EvenBwd (m : (ℓ : Loc Cert.EvenBwd.nD Cert.EvenBwd.τ Cert.EvenBwd.sig) → Buf (Elt Bits) ℓ) : Prop :=
  True

def Pre_EvenBwdIdeal (m : (ℓ : Loc Cert.EvenBwdIdeal.nD Cert.EvenBwdIdeal.τ Cert.EvenBwdIdeal.sig) → Buf (Elt Ideal) ℓ) : Prop :=
  True

def Pre_EvenRefIdeal (m : (ℓ : Loc Cert.EvenRefIdeal.nD Cert.EvenRefIdeal.τ Cert.EvenRefIdeal.sig) → Buf (Elt Ideal) ℓ) : Prop :=
  True

def Pre_OddBwd (m : (ℓ : Loc Cert.OddBwd.nD Cert.OddBwd.τ Cert.OddBwd.sig) → Buf (Elt Bits) ℓ) : Prop :=
  True

def Pre_OddBwdIdeal (m : (ℓ : Loc Cert.OddBwdIdeal.nD Cert.OddBwdIdeal.τ Cert.OddBwdIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_LossFwd (m : (ℓ : Loc Cert.LossFwd.nD Cert.LossFwd.τ Cert.LossFwd.sig) → Buf (Elt Bits) ℓ) : Prop :=
  True

def Pre_LossFwdIdeal (m : (ℓ : Loc Cert.LossFwdIdeal.nD Cert.LossFwdIdeal.τ Cert.LossFwdIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_MidFwd (m : (ℓ : Loc Cert.MidFwd.nD Cert.MidFwd.τ Cert.MidFwd.sig) → Buf (Elt Bits) ℓ) : Prop :=
  True

def Pre_MidFwdIdeal (m : (ℓ : Loc Cert.MidFwdIdeal.nD Cert.MidFwdIdeal.τ Cert.MidFwdIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_EvenFwd (m : (ℓ : Loc Cert.EvenFwd.nD Cert.EvenFwd.τ Cert.EvenFwd.sig) → Buf (Elt Bits) ℓ) : Prop :=
  True

def Pre_EvenFwdIdeal (m : (ℓ : Loc Cert.EvenFwdIdeal.nD Cert.EvenFwdIdeal.τ Cert.EvenFwdIdeal.sig) → Buf (Elt Ideal) ℓ) : Prop :=
  True

def Pre_EvenFwdRefIdeal (m : (ℓ : Loc Cert.EvenFwdRefIdeal.nD Cert.EvenFwdRefIdeal.τ Cert.EvenFwdRefIdeal.sig) → Buf (Elt Ideal) ℓ) : Prop :=
  True

def Pre_OddFwd (m : (ℓ : Loc Cert.OddFwd.nD Cert.OddFwd.τ Cert.OddFwd.sig) → Buf (Elt Bits) ℓ) : Prop :=
  True

def Pre_OddFwdIdeal (m : (ℓ : Loc Cert.OddFwdIdeal.nD Cert.OddFwdIdeal.τ Cert.OddFwdIdeal.sig) → Buf (Elt Ideal) ℓ) : Prop :=
  True

def Pre_OddFwdRefIdeal (m : (ℓ : Loc Cert.OddFwdRefIdeal.nD Cert.OddFwdRefIdeal.τ Cert.OddFwdRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2)
      ∧ r.2.mem ((c.tc : Thread Cert.PostBwd.nD Cert.PostBwd.τ).loc Cert.PostBwd.main_arg3) = m ((c.tc : Thread Cert.PostBwd.nD Cert.PostBwd.τ).loc Cert.PostBwd.main_arg3)
      ∧ r.2.mem ((c.tc : Thread Cert.PostBwd.nD Cert.PostBwd.τ).loc Cert.PostBwd.main_arg4) = m ((c.tc : Thread Cert.PostBwd.nD Cert.PostBwd.τ).loc Cert.PostBwd.main_arg4)
      ∧ r.2.mem ((c.tc : Thread Cert.PostBwd.nD Cert.PostBwd.τ).loc Cert.PostBwd.main_arg5) = m ((c.tc : Thread Cert.PostBwd.nD Cert.PostBwd.τ).loc Cert.PostBwd.main_arg5)
      ∧ r.2.mem ((c.tc : Thread Cert.PostBwd.nD Cert.PostBwd.τ).loc Cert.PostBwd.main_arg6) = m ((c.tc : Thread Cert.PostBwd.nD Cert.PostBwd.τ).loc Cert.PostBwd.main_arg6)
      ∧ r.2.mem ((c.tc : Thread Cert.PostBwd.nD Cert.PostBwd.τ).loc Cert.PostBwd.main_arg7) = m ((c.tc : Thread Cert.PostBwd.nD Cert.PostBwd.τ).loc Cert.PostBwd.main_arg7)
      ∧ r.2.mem ((c.tc : Thread Cert.PostBwd.nD Cert.PostBwd.τ).loc Cert.PostBwd.main_arg8) = m ((c.tc : Thread Cert.PostBwd.nD Cert.PostBwd.τ).loc Cert.PostBwd.main_arg8)
      ∧ r.2.mem ((c.tc : Thread Cert.PostBwd.nD Cert.PostBwd.τ).loc Cert.PostBwd.main_arg9) = m ((c.tc : Thread Cert.PostBwd.nD Cert.PostBwd.τ).loc Cert.PostBwd.main_arg9)
      ∧ r.2.mem ((c.tc : Thread Cert.PostBwd.nD Cert.PostBwd.τ).loc Cert.PostBwd.main_arg10) = m ((c.tc : Thread Cert.PostBwd.nD Cert.PostBwd.τ).loc Cert.PostBwd.main_arg10))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
      ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
      ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
      ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6)
      ∧ r.2.mem ((c.tc : Thread Cert.PostBwdIdeal.nD Cert.PostBwdIdeal.τ).loc Cert.PostBwdIdeal.main_arg7) = m ((c.tc : Thread Cert.PostBwdIdeal.nD Cert.PostBwdIdeal.τ).loc Cert.PostBwdIdeal.main_arg7)
      ∧ r.2.mem ((c.tc : Thread Cert.PostBwdIdeal.nD Cert.PostBwdIdeal.τ).loc Cert.PostBwdIdeal.main_arg8) = m ((c.tc : Thread Cert.PostBwdIdeal.nD Cert.PostBwdIdeal.τ).loc Cert.PostBwdIdeal.main_arg8)
      ∧ r.2.mem ((c.tc : Thread Cert.PostBwdIdeal.nD Cert.PostBwdIdeal.τ).loc Cert.PostBwdIdeal.main_arg9) = m ((c.tc : Thread Cert.PostBwdIdeal.nD Cert.PostBwdIdeal.τ).loc Cert.PostBwdIdeal.main_arg9)
      ∧ r.2.mem ((c.tc : Thread Cert.PostBwdIdeal.nD Cert.PostBwdIdeal.τ).loc Cert.PostBwdIdeal.main_arg10) = m ((c.tc : Thread Cert.PostBwdIdeal.nD Cert.PostBwdIdeal.τ).loc Cert.PostBwdIdeal.main_arg10))
      ∧ r.2.sem = fun _ => 0)

def quiescent_PostBwdIdeal_pre_post_finite [hPostBwdIdeal : Cert.PostBwdIdeal.Facts] [hPre_post_finite : Cert.Pre_post_finite.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal_post_finite m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
      ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
      ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
      ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6)
      ∧ r.2.mem ((c.tc : Thread Cert.PostBwdIdeal.nD Cert.PostBwdIdeal.τ).loc Cert.PostBwdIdeal.main_arg7) = m ((c.tc : Thread Cert.PostBwdIdeal.nD Cert.PostBwdIdeal.τ).loc Cert.PostBwdIdeal.main_arg7)
      ∧ r.2.mem ((c.tc : Thread Cert.PostBwdIdeal.nD Cert.PostBwdIdeal.τ).loc Cert.PostBwdIdeal.main_arg8) = m ((c.tc : Thread Cert.PostBwdIdeal.nD Cert.PostBwdIdeal.τ).loc Cert.PostBwdIdeal.main_arg8)
      ∧ r.2.mem ((c.tc : Thread Cert.PostBwdIdeal.nD Cert.PostBwdIdeal.τ).loc Cert.PostBwdIdeal.main_arg9) = m ((c.tc : Thread Cert.PostBwdIdeal.nD Cert.PostBwdIdeal.τ).loc Cert.PostBwdIdeal.main_arg9)
      ∧ r.2.mem ((c.tc : Thread Cert.PostBwdIdeal.nD Cert.PostBwdIdeal.τ).loc Cert.PostBwdIdeal.main_arg10) = m ((c.tc : Thread Cert.PostBwdIdeal.nD Cert.PostBwdIdeal.τ).loc Cert.PostBwdIdeal.main_arg10))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10))
      ∧ r.2.sem = fun _ => 0)

def quiescent_PostRefIdeal_pre_post_finite [hPostRefIdeal : Cert.PostRefIdeal.Facts] [hPre_post_finite : Cert.Pre_post_finite.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_post_finite m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10))
      ∧ r.2.sem = fun _ => 0)

def quiescent_EvenBwd [hEvenBwd : Cert.EvenBwd.Facts] : Prop :=
  ∀ (m : (ℓ : Loc Cert.EvenBwd.nD Cert.EvenBwd.τ Cert.EvenBwd.sig) → Buf (Elt Bits) ℓ) (g : Dev Cert.EvenBwd.nD → PrngReg), Pre_EvenBwd m →
    θ_run (Cert.EvenBwd.defs (F := Bits)) (onTc (τ := Cert.EvenBwd.τ) (Cert.EvenBwd.main (F := Bits))) ⟨m, fun _ => 0, g⟩ (fun r => (∀ c : Dev Cert.EvenBwd.nD,
      r.2.mem ((c.tc : Thread Cert.EvenBwd.nD Cert.EvenBwd.τ).loc Cert.EvenBwd.main_arg0) = m ((c.tc : Thread Cert.EvenBwd.nD Cert.EvenBwd.τ).loc Cert.EvenBwd.main_arg0)
      ∧ r.2.mem ((c.tc : Thread Cert.EvenBwd.nD Cert.EvenBwd.τ).loc Cert.EvenBwd.main_arg1) = m ((c.tc : Thread Cert.EvenBwd.nD Cert.EvenBwd.τ).loc Cert.EvenBwd.main_arg1)
      ∧ r.2.mem ((c.tc : Thread Cert.EvenBwd.nD Cert.EvenBwd.τ).loc Cert.EvenBwd.main_arg2) = m ((c.tc : Thread Cert.EvenBwd.nD Cert.EvenBwd.τ).loc Cert.EvenBwd.main_arg2)
      ∧ r.2.mem ((c.tc : Thread Cert.EvenBwd.nD Cert.EvenBwd.τ).loc Cert.EvenBwd.main_arg3) = m ((c.tc : Thread Cert.EvenBwd.nD Cert.EvenBwd.τ).loc Cert.EvenBwd.main_arg3)
      ∧ r.2.mem ((c.tc : Thread Cert.EvenBwd.nD Cert.EvenBwd.τ).loc Cert.EvenBwd.main_arg4) = m ((c.tc : Thread Cert.EvenBwd.nD Cert.EvenBwd.τ).loc Cert.EvenBwd.main_arg4)
      ∧ r.2.mem ((c.tc : Thread Cert.EvenBwd.nD Cert.EvenBwd.τ).loc Cert.EvenBwd.main_arg5) = m ((c.tc : Thread Cert.EvenBwd.nD Cert.EvenBwd.τ).loc Cert.EvenBwd.main_arg5)
      ∧ r.2.mem ((c.tc : Thread Cert.EvenBwd.nD Cert.EvenBwd.τ).loc Cert.EvenBwd.main_arg6) = m ((c.tc : Thread Cert.EvenBwd.nD Cert.EvenBwd.τ).loc Cert.EvenBwd.main_arg6)
      ∧ r.2.mem ((c.tc : Thread Cert.EvenBwd.nD Cert.EvenBwd.τ).loc Cert.EvenBwd.main_arg7) = m ((c.tc : Thread Cert.EvenBwd.nD Cert.EvenBwd.τ).loc Cert.EvenBwd.main_arg7)
      ∧ r.2.mem ((c.tc : Thread Cert.EvenBwd.nD Cert.EvenBwd.τ).loc Cert.EvenBwd.main_arg8) = m ((c.tc : Thread Cert.EvenBwd.nD Cert.EvenBwd.τ).loc Cert.EvenBwd.main_arg8)
      ∧ r.2.mem ((c.tc : Thread Cert.EvenBwd.nD Cert.EvenBwd.τ).loc Cert.EvenBwd.main_arg9) = m ((c.tc : Thread Cert.EvenBwd.nD Cert.EvenBwd.τ).loc Cert.EvenBwd.main_arg9))
      ∧ r.2.sem = fun _ => 0)

def quiescent_EvenBwdIdeal [hEvenBwdIdeal : Cert.EvenBwdIdeal.Facts] : Prop :=
  ∀ (m : (ℓ : Loc Cert.EvenBwdIdeal.nD Cert.EvenBwdIdeal.τ Cert.EvenBwdIdeal.sig) → Buf (Elt Ideal) ℓ) (g : Dev Cert.EvenBwdIdeal.nD → PrngReg), Pre_EvenBwdIdeal m →
    θ_run (Cert.EvenBwdIdeal.defs (F := Ideal)) (onTc (τ := Cert.EvenBwdIdeal.τ) (Cert.EvenBwdIdeal.main (F := Ideal))) ⟨m, fun _ => 0, g⟩ (fun r => (∀ c : Dev Cert.EvenBwdIdeal.nD,
      r.2.mem ((c.tc : Thread Cert.EvenBwdIdeal.nD Cert.EvenBwdIdeal.τ).loc Cert.EvenBwdIdeal.main_arg0) = m ((c.tc : Thread Cert.EvenBwdIdeal.nD Cert.EvenBwdIdeal.τ).loc Cert.EvenBwdIdeal.main_arg0)
      ∧ r.2.mem ((c.tc : Thread Cert.EvenBwdIdeal.nD Cert.EvenBwdIdeal.τ).loc Cert.EvenBwdIdeal.main_arg1) = m ((c.tc : Thread Cert.EvenBwdIdeal.nD Cert.EvenBwdIdeal.τ).loc Cert.EvenBwdIdeal.main_arg1)
      ∧ r.2.mem ((c.tc : Thread Cert.EvenBwdIdeal.nD Cert.EvenBwdIdeal.τ).loc Cert.EvenBwdIdeal.main_arg2) = m ((c.tc : Thread Cert.EvenBwdIdeal.nD Cert.EvenBwdIdeal.τ).loc Cert.EvenBwdIdeal.main_arg2)
      ∧ r.2.mem ((c.tc : Thread Cert.EvenBwdIdeal.nD Cert.EvenBwdIdeal.τ).loc Cert.EvenBwdIdeal.main_arg3) = m ((c.tc : Thread Cert.EvenBwdIdeal.nD Cert.EvenBwdIdeal.τ).loc Cert.EvenBwdIdeal.main_arg3)
      ∧ r.2.mem ((c.tc : Thread Cert.EvenBwdIdeal.nD Cert.EvenBwdIdeal.τ).loc Cert.EvenBwdIdeal.main_arg4) = m ((c.tc : Thread Cert.EvenBwdIdeal.nD Cert.EvenBwdIdeal.τ).loc Cert.EvenBwdIdeal.main_arg4)
      ∧ r.2.mem ((c.tc : Thread Cert.EvenBwdIdeal.nD Cert.EvenBwdIdeal.τ).loc Cert.EvenBwdIdeal.main_arg5) = m ((c.tc : Thread Cert.EvenBwdIdeal.nD Cert.EvenBwdIdeal.τ).loc Cert.EvenBwdIdeal.main_arg5)
      ∧ r.2.mem ((c.tc : Thread Cert.EvenBwdIdeal.nD Cert.EvenBwdIdeal.τ).loc Cert.EvenBwdIdeal.main_arg6) = m ((c.tc : Thread Cert.EvenBwdIdeal.nD Cert.EvenBwdIdeal.τ).loc Cert.EvenBwdIdeal.main_arg6)
      ∧ r.2.mem ((c.tc : Thread Cert.EvenBwdIdeal.nD Cert.EvenBwdIdeal.τ).loc Cert.EvenBwdIdeal.main_arg7) = m ((c.tc : Thread Cert.EvenBwdIdeal.nD Cert.EvenBwdIdeal.τ).loc Cert.EvenBwdIdeal.main_arg7)
      ∧ r.2.mem ((c.tc : Thread Cert.EvenBwdIdeal.nD Cert.EvenBwdIdeal.τ).loc Cert.EvenBwdIdeal.main_arg8) = m ((c.tc : Thread Cert.EvenBwdIdeal.nD Cert.EvenBwdIdeal.τ).loc Cert.EvenBwdIdeal.main_arg8)
      ∧ r.2.mem ((c.tc : Thread Cert.EvenBwdIdeal.nD Cert.EvenBwdIdeal.τ).loc Cert.EvenBwdIdeal.main_arg9) = m ((c.tc : Thread Cert.EvenBwdIdeal.nD Cert.EvenBwdIdeal.τ).loc Cert.EvenBwdIdeal.main_arg9))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4)
      ∧ r.2.mem ((c.tc : Thread Cert.EvenRefIdeal.nD Cert.EvenRefIdeal.τ).loc Cert.EvenRefIdeal.main_arg5) = m ((c.tc : Thread Cert.EvenRefIdeal.nD Cert.EvenRefIdeal.τ).loc Cert.EvenRefIdeal.main_arg5)
      ∧ r.2.mem ((c.tc : Thread Cert.EvenRefIdeal.nD Cert.EvenRefIdeal.τ).loc Cert.EvenRefIdeal.main_arg6) = m ((c.tc : Thread Cert.EvenRefIdeal.nD Cert.EvenRefIdeal.τ).loc Cert.EvenRefIdeal.main_arg6)
      ∧ r.2.mem ((c.tc : Thread Cert.EvenRefIdeal.nD Cert.EvenRefIdeal.τ).loc Cert.EvenRefIdeal.main_arg7) = m ((c.tc : Thread Cert.EvenRefIdeal.nD Cert.EvenRefIdeal.τ).loc Cert.EvenRefIdeal.main_arg7)
      ∧ r.2.mem ((c.tc : Thread Cert.EvenRefIdeal.nD Cert.EvenRefIdeal.τ).loc Cert.EvenRefIdeal.main_arg8) = m ((c.tc : Thread Cert.EvenRefIdeal.nD Cert.EvenRefIdeal.τ).loc Cert.EvenRefIdeal.main_arg8)
      ∧ r.2.mem ((c.tc : Thread Cert.EvenRefIdeal.nD Cert.EvenRefIdeal.τ).loc Cert.EvenRefIdeal.main_arg9) = m ((c.tc : Thread Cert.EvenRefIdeal.nD Cert.EvenRefIdeal.τ).loc Cert.EvenRefIdeal.main_arg9))
      ∧ r.2.sem = fun _ => 0)

def quiescent_OddBwd [hOddBwd : Cert.OddBwd.Facts] : Prop :=
  ∀ (m : (ℓ : Loc Cert.OddBwd.nD Cert.OddBwd.τ Cert.OddBwd.sig) → Buf (Elt Bits) ℓ) (g : Dev Cert.OddBwd.nD → PrngReg), Pre_OddBwd m →
    θ_run (Cert.OddBwd.defs (F := Bits)) (onTc (τ := Cert.OddBwd.τ) (Cert.OddBwd.main (F := Bits))) ⟨m, fun _ => 0, g⟩ (fun r => (∀ c : Dev Cert.OddBwd.nD,
      r.2.mem ((c.tc : Thread Cert.OddBwd.nD Cert.OddBwd.τ).loc Cert.OddBwd.main_arg0) = m ((c.tc : Thread Cert.OddBwd.nD Cert.OddBwd.τ).loc Cert.OddBwd.main_arg0)
      ∧ r.2.mem ((c.tc : Thread Cert.OddBwd.nD Cert.OddBwd.τ).loc Cert.OddBwd.main_arg1) = m ((c.tc : Thread Cert.OddBwd.nD Cert.OddBwd.τ).loc Cert.OddBwd.main_arg1)
      ∧ r.2.mem ((c.tc : Thread Cert.OddBwd.nD Cert.OddBwd.τ).loc Cert.OddBwd.main_arg2) = m ((c.tc : Thread Cert.OddBwd.nD Cert.OddBwd.τ).loc Cert.OddBwd.main_arg2)
      ∧ r.2.mem ((c.tc : Thread Cert.OddBwd.nD Cert.OddBwd.τ).loc Cert.OddBwd.main_arg3) = m ((c.tc : Thread Cert.OddBwd.nD Cert.OddBwd.τ).loc Cert.OddBwd.main_arg3)
      ∧ r.2.mem ((c.tc : Thread Cert.OddBwd.nD Cert.OddBwd.τ).loc Cert.OddBwd.main_arg4) = m ((c.tc : Thread Cert.OddBwd.nD Cert.OddBwd.τ).loc Cert.OddBwd.main_arg4))
      ∧ r.2.sem = fun _ => 0)

def quiescent_OddBwdIdeal [hOddBwdIdeal : Cert.OddBwdIdeal.Facts] : Prop :=
  ∀ (m : (ℓ : Loc Cert.OddBwdIdeal.nD Cert.OddBwdIdeal.τ Cert.OddBwdIdeal.sig) → Buf (Elt Ideal) ℓ) (g : Dev Cert.OddBwdIdeal.nD → PrngReg), Pre_OddBwdIdeal m →
    θ_run (Cert.OddBwdIdeal.defs (F := Ideal)) (onTc (τ := Cert.OddBwdIdeal.τ) (Cert.OddBwdIdeal.main (F := Ideal))) ⟨m, fun _ => 0, g⟩ (fun r => (∀ c : Dev Cert.OddBwdIdeal.nD,
      r.2.mem ((c.tc : Thread Cert.OddBwdIdeal.nD Cert.OddBwdIdeal.τ).loc Cert.OddBwdIdeal.main_arg0) = m ((c.tc : Thread Cert.OddBwdIdeal.nD Cert.OddBwdIdeal.τ).loc Cert.OddBwdIdeal.main_arg0)
      ∧ r.2.mem ((c.tc : Thread Cert.OddBwdIdeal.nD Cert.OddBwdIdeal.τ).loc Cert.OddBwdIdeal.main_arg1) = m ((c.tc : Thread Cert.OddBwdIdeal.nD Cert.OddBwdIdeal.τ).loc Cert.OddBwdIdeal.main_arg1)
      ∧ r.2.mem ((c.tc : Thread Cert.OddBwdIdeal.nD Cert.OddBwdIdeal.τ).loc Cert.OddBwdIdeal.main_arg2) = m ((c.tc : Thread Cert.OddBwdIdeal.nD Cert.OddBwdIdeal.τ).loc Cert.OddBwdIdeal.main_arg2)
      ∧ r.2.mem ((c.tc : Thread Cert.OddBwdIdeal.nD Cert.OddBwdIdeal.τ).loc Cert.OddBwdIdeal.main_arg3) = m ((c.tc : Thread Cert.OddBwdIdeal.nD Cert.OddBwdIdeal.τ).loc Cert.OddBwdIdeal.main_arg3)
      ∧ r.2.mem ((c.tc : Thread Cert.OddBwdIdeal.nD Cert.OddBwdIdeal.τ).loc Cert.OddBwdIdeal.main_arg4) = m ((c.tc : Thread Cert.OddBwdIdeal.nD Cert.OddBwdIdeal.τ).loc Cert.OddBwdIdeal.main_arg4))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4))
      ∧ r.2.sem = fun _ => 0)

def quiescent_LossFwd [hLossFwd : Cert.LossFwd.Facts] : Prop :=
  ∀ (m : (ℓ : Loc Cert.LossFwd.nD Cert.LossFwd.τ Cert.LossFwd.sig) → Buf (Elt Bits) ℓ) (g : Dev Cert.LossFwd.nD → PrngReg), Pre_LossFwd m →
    θ_run (Cert.LossFwd.defs (F := Bits)) (onTc (τ := Cert.LossFwd.τ) (Cert.LossFwd.main (F := Bits))) ⟨m, fun _ => 0, g⟩ (fun r => (∀ c : Dev Cert.LossFwd.nD,
      r.2.mem ((c.tc : Thread Cert.LossFwd.nD Cert.LossFwd.τ).loc Cert.LossFwd.main_arg0) = m ((c.tc : Thread Cert.LossFwd.nD Cert.LossFwd.τ).loc Cert.LossFwd.main_arg0)
      ∧ r.2.mem ((c.tc : Thread Cert.LossFwd.nD Cert.LossFwd.τ).loc Cert.LossFwd.main_arg1) = m ((c.tc : Thread Cert.LossFwd.nD Cert.LossFwd.τ).loc Cert.LossFwd.main_arg1)
      ∧ r.2.mem ((c.tc : Thread Cert.LossFwd.nD Cert.LossFwd.τ).loc Cert.LossFwd.main_arg2) = m ((c.tc : Thread Cert.LossFwd.nD Cert.LossFwd.τ).loc Cert.LossFwd.main_arg2)
      ∧ r.2.mem ((c.tc : Thread Cert.LossFwd.nD Cert.LossFwd.τ).loc Cert.LossFwd.main_arg3) = m ((c.tc : Thread Cert.LossFwd.nD Cert.LossFwd.τ).loc Cert.LossFwd.main_arg3)
      ∧ r.2.mem ((c.tc : Thread Cert.LossFwd.nD Cert.LossFwd.τ).loc Cert.LossFwd.main_arg4) = m ((c.tc : Thread Cert.LossFwd.nD Cert.LossFwd.τ).loc Cert.LossFwd.main_arg4)
      ∧ r.2.mem ((c.tc : Thread Cert.LossFwd.nD Cert.LossFwd.τ).loc Cert.LossFwd.main_arg5) = m ((c.tc : Thread Cert.LossFwd.nD Cert.LossFwd.τ).loc Cert.LossFwd.main_arg5)
      ∧ r.2.mem ((c.tc : Thread Cert.LossFwd.nD Cert.LossFwd.τ).loc Cert.LossFwd.main_arg6) = m ((c.tc : Thread Cert.LossFwd.nD Cert.LossFwd.τ).loc Cert.LossFwd.main_arg6)
      ∧ r.2.mem ((c.tc : Thread Cert.LossFwd.nD Cert.LossFwd.τ).loc Cert.LossFwd.main_arg7) = m ((c.tc : Thread Cert.LossFwd.nD Cert.LossFwd.τ).loc Cert.LossFwd.main_arg7)
      ∧ r.2.mem ((c.tc : Thread Cert.LossFwd.nD Cert.LossFwd.τ).loc Cert.LossFwd.main_arg8) = m ((c.tc : Thread Cert.LossFwd.nD Cert.LossFwd.τ).loc Cert.LossFwd.main_arg8)
      ∧ r.2.mem ((c.tc : Thread Cert.LossFwd.nD Cert.LossFwd.τ).loc Cert.LossFwd.main_arg9) = m ((c.tc : Thread Cert.LossFwd.nD Cert.LossFwd.τ).loc Cert.LossFwd.main_arg9)
      ∧ r.2.mem ((c.tc : Thread Cert.LossFwd.nD Cert.LossFwd.τ).loc Cert.LossFwd.main_arg10) = m ((c.tc : Thread Cert.LossFwd.nD Cert.LossFwd.τ).loc Cert.LossFwd.main_arg10))
      ∧ r.2.sem = fun _ => 0)

def quiescent_LossFwdIdeal [hLossFwdIdeal : Cert.LossFwdIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg), Pre_LossFwdIdeal m →
    θ_run (Cert.LossFwdIdeal.defs (F := Ideal)) (onTc (τ := Cert.LossFwdIdeal.τ) (Cert.LossFwdIdeal.main (F := Ideal))) ⟨m, fun _ => 0, g⟩ (fun r => (∀ c : Dev Cert.LossFwdIdeal.nD,
      r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
      ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1)
      ∧ r.2.mem ((c.tc : Thread Cert.LossFwdIdeal.nD Cert.LossFwdIdeal.τ).loc Cert.LossFwdIdeal.main_arg2) = m ((c.tc : Thread Cert.LossFwdIdeal.nD Cert.LossFwdIdeal.τ).loc Cert.LossFwdIdeal.main_arg2)
      ∧ r.2.mem ((c.tc : Thread Cert.LossFwdIdeal.nD Cert.LossFwdIdeal.τ).loc Cert.LossFwdIdeal.main_arg3) = m ((c.tc : Thread Cert.LossFwdIdeal.nD Cert.LossFwdIdeal.τ).loc Cert.LossFwdIdeal.main_arg3)
      ∧ r.2.mem ((c.tc : Thread Cert.LossFwdIdeal.nD Cert.LossFwdIdeal.τ).loc Cert.LossFwdIdeal.main_arg4) = m ((c.tc : Thread Cert.LossFwdIdeal.nD Cert.LossFwdIdeal.τ).loc Cert.LossFwdIdeal.main_arg4)
      ∧ r.2.mem ((c.tc : Thread Cert.LossFwdIdeal.nD Cert.LossFwdIdeal.τ).loc Cert.LossFwdIdeal.main_arg5) = m ((c.tc : Thread Cert.LossFwdIdeal.nD Cert.LossFwdIdeal.τ).loc Cert.LossFwdIdeal.main_arg5)
      ∧ r.2.mem ((c.tc : Thread Cert.LossFwdIdeal.nD Cert.LossFwdIdeal.τ).loc Cert.LossFwdIdeal.main_arg6) = m ((c.tc : Thread Cert.LossFwdIdeal.nD Cert.LossFwdIdeal.τ).loc Cert.LossFwdIdeal.main_arg6)
      ∧ r.2.mem ((c.tc : Thread Cert.LossFwdIdeal.nD Cert.LossFwdIdeal.τ).loc Cert.LossFwdIdeal.main_arg7) = m ((c.tc : Thread Cert.LossFwdIdeal.nD Cert.LossFwdIdeal.τ).loc Cert.LossFwdIdeal.main_arg7)
      ∧ r.2.mem ((c.tc : Thread Cert.LossFwdIdeal.nD Cert.LossFwdIdeal.τ).loc Cert.LossFwdIdeal.main_arg8) = m ((c.tc : Thread Cert.LossFwdIdeal.nD Cert.LossFwdIdeal.τ).loc Cert.LossFwdIdeal.main_arg8)
      ∧ r.2.mem ((c.tc : Thread Cert.LossFwdIdeal.nD Cert.LossFwdIdeal.τ).loc Cert.LossFwdIdeal.main_arg9) = m ((c.tc : Thread Cert.LossFwdIdeal.nD Cert.LossFwdIdeal.τ).loc Cert.LossFwdIdeal.main_arg9)
      ∧ r.2.mem ((c.tc : Thread Cert.LossFwdIdeal.nD Cert.LossFwdIdeal.τ).loc Cert.LossFwdIdeal.main_arg10) = m ((c.tc : Thread Cert.LossFwdIdeal.nD Cert.LossFwdIdeal.τ).loc Cert.LossFwdIdeal.main_arg10))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8)
      ∧ r.2.mem ((c.tc : Thread Cert.LossRefIdeal.nD Cert.LossRefIdeal.τ).loc Cert.LossRefIdeal.main_arg9) = m ((c.tc : Thread Cert.LossRefIdeal.nD Cert.LossRefIdeal.τ).loc Cert.LossRefIdeal.main_arg9)
      ∧ r.2.mem ((c.tc : Thread Cert.LossRefIdeal.nD Cert.LossRefIdeal.τ).loc Cert.LossRefIdeal.main_arg10) = m ((c.tc : Thread Cert.LossRefIdeal.nD Cert.LossRefIdeal.τ).loc Cert.LossRefIdeal.main_arg10))
      ∧ r.2.sem = fun _ => 0)

def quiescent_MidFwd [hMidFwd : Cert.MidFwd.Facts] : Prop :=
  ∀ (m : (ℓ : Loc Cert.MidFwd.nD Cert.MidFwd.τ Cert.MidFwd.sig) → Buf (Elt Bits) ℓ) (g : Dev Cert.MidFwd.nD → PrngReg), Pre_MidFwd m →
    θ_run (Cert.MidFwd.defs (F := Bits)) (onTc (τ := Cert.MidFwd.τ) (Cert.MidFwd.main (F := Bits))) ⟨m, fun _ => 0, g⟩ (fun r => (∀ c : Dev Cert.MidFwd.nD,
      r.2.mem ((c.tc : Thread Cert.MidFwd.nD Cert.MidFwd.τ).loc Cert.MidFwd.main_arg0) = m ((c.tc : Thread Cert.MidFwd.nD Cert.MidFwd.τ).loc Cert.MidFwd.main_arg0)
      ∧ r.2.mem ((c.tc : Thread Cert.MidFwd.nD Cert.MidFwd.τ).loc Cert.MidFwd.main_arg1) = m ((c.tc : Thread Cert.MidFwd.nD Cert.MidFwd.τ).loc Cert.MidFwd.main_arg1)
      ∧ r.2.mem ((c.tc : Thread Cert.MidFwd.nD Cert.MidFwd.τ).loc Cert.MidFwd.main_arg2) = m ((c.tc : Thread Cert.MidFwd.nD Cert.MidFwd.τ).loc Cert.MidFwd.main_arg2)
      ∧ r.2.mem ((c.tc : Thread Cert.MidFwd.nD Cert.MidFwd.τ).loc Cert.MidFwd.main_arg3) = m ((c.tc : Thread Cert.MidFwd.nD Cert.MidFwd.τ).loc Cert.MidFwd.main_arg3)
      ∧ r.2.mem ((c.tc : Thread Cert.MidFwd.nD Cert.MidFwd.τ).loc Cert.MidFwd.main_arg4) = m ((c.tc : Thread Cert.MidFwd.nD Cert.MidFwd.τ).loc Cert.MidFwd.main_arg4)
      ∧ r.2.mem ((c.tc : Thread Cert.MidFwd.nD Cert.MidFwd.τ).loc Cert.MidFwd.main_arg5) = m ((c.tc : Thread Cert.MidFwd.nD Cert.MidFwd.τ).loc Cert.MidFwd.main_arg5)
      ∧ r.2.mem ((c.tc : Thread Cert.MidFwd.nD Cert.MidFwd.τ).loc Cert.MidFwd.main_arg6) = m ((c.tc : Thread Cert.MidFwd.nD Cert.MidFwd.τ).loc Cert.MidFwd.main_arg6)
      ∧ r.2.mem ((c.tc : Thread Cert.MidFwd.nD Cert.MidFwd.τ).loc Cert.MidFwd.main_arg7) = m ((c.tc : Thread Cert.MidFwd.nD Cert.MidFwd.τ).loc Cert.MidFwd.main_arg7)
      ∧ r.2.mem ((c.tc : Thread Cert.MidFwd.nD Cert.MidFwd.τ).loc Cert.MidFwd.main_arg8) = m ((c.tc : Thread Cert.MidFwd.nD Cert.MidFwd.τ).loc Cert.MidFwd.main_arg8)
      ∧ r.2.mem ((c.tc : Thread Cert.MidFwd.nD Cert.MidFwd.τ).loc Cert.MidFwd.main_arg9) = m ((c.tc : Thread Cert.MidFwd.nD Cert.MidFwd.τ).loc Cert.MidFwd.main_arg9)
      ∧ r.2.mem ((c.tc : Thread Cert.MidFwd.nD Cert.MidFwd.τ).loc Cert.MidFwd.main_arg10) = m ((c.tc : Thread Cert.MidFwd.nD Cert.MidFwd.τ).loc Cert.MidFwd.main_arg10)
      ∧ r.2.mem ((c.tc : Thread Cert.MidFwd.nD Cert.MidFwd.τ).loc Cert.MidFwd.main_arg11) = m ((c.tc : Thread Cert.MidFwd.nD Cert.MidFwd.τ).loc Cert.MidFwd.main_arg11))
      ∧ r.2.sem = fun _ => 0)

def quiescent_MidFwdIdeal [hMidFwdIdeal : Cert.MidFwdIdeal.Facts] : Prop :=
  ∀ (m : (ℓ : Loc Cert.MidFwdIdeal.nD Cert.MidFwdIdeal.τ Cert.MidFwdIdeal.sig) → Buf (Elt Ideal) ℓ) (g : Dev Cert.MidFwdIdeal.nD → PrngReg), Pre_MidFwdIdeal m →
    θ_run (Cert.MidFwdIdeal.defs (F := Ideal)) (onTc (τ := Cert.MidFwdIdeal.τ) (Cert.MidFwdIdeal.main (F := Ideal))) ⟨m, fun _ => 0, g⟩ (fun r => (∀ c : Dev Cert.MidFwdIdeal.nD,
      r.2.mem ((c.tc : Thread Cert.MidFwdIdeal.nD Cert.MidFwdIdeal.τ).loc Cert.MidFwdIdeal.main_arg0) = m ((c.tc : Thread Cert.MidFwdIdeal.nD Cert.MidFwdIdeal.τ).loc Cert.MidFwdIdeal.main_arg0)
      ∧ r.2.mem ((c.tc : Thread Cert.MidFwdIdeal.nD Cert.MidFwdIdeal.τ).loc Cert.MidFwdIdeal.main_arg1) = m ((c.tc : Thread Cert.MidFwdIdeal.nD Cert.MidFwdIdeal.τ).loc Cert.MidFwdIdeal.main_arg1)
      ∧ r.2.mem ((c.tc : Thread Cert.MidFwdIdeal.nD Cert.MidFwdIdeal.τ).loc Cert.MidFwdIdeal.main_arg2) = m ((c.tc : Thread Cert.MidFwdIdeal.nD Cert.MidFwdIdeal.τ).loc Cert.MidFwdIdeal.main_arg2)
      ∧ r.2.mem ((c.tc : Thread Cert.MidFwdIdeal.nD Cert.MidFwdIdeal.τ).loc Cert.MidFwdIdeal.main_arg3) = m ((c.tc : Thread Cert.MidFwdIdeal.nD Cert.MidFwdIdeal.τ).loc Cert.MidFwdIdeal.main_arg3)
      ∧ r.2.mem ((c.tc : Thread Cert.MidFwdIdeal.nD Cert.MidFwdIdeal.τ).loc Cert.MidFwdIdeal.main_arg4) = m ((c.tc : Thread Cert.MidFwdIdeal.nD Cert.MidFwdIdeal.τ).loc Cert.MidFwdIdeal.main_arg4)
      ∧ r.2.mem ((c.tc : Thread Cert.MidFwdIdeal.nD Cert.MidFwdIdeal.τ).loc Cert.MidFwdIdeal.main_arg5) = m ((c.tc : Thread Cert.MidFwdIdeal.nD Cert.MidFwdIdeal.τ).loc Cert.MidFwdIdeal.main_arg5)
      ∧ r.2.mem ((c.tc : Thread Cert.MidFwdIdeal.nD Cert.MidFwdIdeal.τ).loc Cert.MidFwdIdeal.main_arg6) = m ((c.tc : Thread Cert.MidFwdIdeal.nD Cert.MidFwdIdeal.τ).loc Cert.MidFwdIdeal.main_arg6)
      ∧ r.2.mem ((c.tc : Thread Cert.MidFwdIdeal.nD Cert.MidFwdIdeal.τ).loc Cert.MidFwdIdeal.main_arg7) = m ((c.tc : Thread Cert.MidFwdIdeal.nD Cert.MidFwdIdeal.τ).loc Cert.MidFwdIdeal.main_arg7)
      ∧ r.2.mem ((c.tc : Thread Cert.MidFwdIdeal.nD Cert.MidFwdIdeal.τ).loc Cert.MidFwdIdeal.main_arg8) = m ((c.tc : Thread Cert.MidFwdIdeal.nD Cert.MidFwdIdeal.τ).loc Cert.MidFwdIdeal.main_arg8)
      ∧ r.2.mem ((c.tc : Thread Cert.MidFwdIdeal.nD Cert.MidFwdIdeal.τ).loc Cert.MidFwdIdeal.main_arg9) = m ((c.tc : Thread Cert.MidFwdIdeal.nD Cert.MidFwdIdeal.τ).loc Cert.MidFwdIdeal.main_arg9)
      ∧ r.2.mem ((c.tc : Thread Cert.MidFwdIdeal.nD Cert.MidFwdIdeal.τ).loc Cert.MidFwdIdeal.main_arg10) = m ((c.tc : Thread Cert.MidFwdIdeal.nD Cert.MidFwdIdeal.τ).loc Cert.MidFwdIdeal.main_arg10)
      ∧ r.2.mem ((c.tc : Thread Cert.MidFwdIdeal.nD Cert.MidFwdIdeal.τ).loc Cert.MidFwdIdeal.main_arg11) = m ((c.tc : Thread Cert.MidFwdIdeal.nD Cert.MidFwdIdeal.τ).loc Cert.MidFwdIdeal.main_arg11))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10)
      ∧ r.2.mem ((c.tc : Thread Cert.MidRefIdeal.nD Cert.MidRefIdeal.τ).loc Cert.MidRefIdeal.main_arg11) = m ((c.tc : Thread Cert.MidRefIdeal.nD Cert.MidRefIdeal.τ).loc Cert.MidRefIdeal.main_arg11))
      ∧ r.2.sem = fun _ => 0)

def quiescent_EvenFwd [hEvenFwd : Cert.EvenFwd.Facts] : Prop :=
  ∀ (m : (ℓ : Loc Cert.EvenFwd.nD Cert.EvenFwd.τ Cert.EvenFwd.sig) → Buf (Elt Bits) ℓ) (g : Dev Cert.EvenFwd.nD → PrngReg), Pre_EvenFwd m →
    θ_run (Cert.EvenFwd.defs (F := Bits)) (onTc (τ := Cert.EvenFwd.τ) (Cert.EvenFwd.main (F := Bits))) ⟨m, fun _ => 0, g⟩ (fun r => (∀ c : Dev Cert.EvenFwd.nD,
      r.2.mem ((c.tc : Thread Cert.EvenFwd.nD Cert.EvenFwd.τ).loc Cert.EvenFwd.main_arg0) = m ((c.tc : Thread Cert.EvenFwd.nD Cert.EvenFwd.τ).loc Cert.EvenFwd.main_arg0)
      ∧ r.2.mem ((c.tc : Thread Cert.EvenFwd.nD Cert.EvenFwd.τ).loc Cert.EvenFwd.main_arg1) = m ((c.tc : Thread Cert.EvenFwd.nD Cert.EvenFwd.τ).loc Cert.EvenFwd.main_arg1)
      ∧ r.2.mem ((c.tc : Thread Cert.EvenFwd.nD Cert.EvenFwd.τ).loc Cert.EvenFwd.main_arg2) = m ((c.tc : Thread Cert.EvenFwd.nD Cert.EvenFwd.τ).loc Cert.EvenFwd.main_arg2)
      ∧ r.2.mem ((c.tc : Thread Cert.EvenFwd.nD Cert.EvenFwd.τ).loc Cert.EvenFwd.main_arg3) = m ((c.tc : Thread Cert.EvenFwd.nD Cert.EvenFwd.τ).loc Cert.EvenFwd.main_arg3)
      ∧ r.2.mem ((c.tc : Thread Cert.EvenFwd.nD Cert.EvenFwd.τ).loc Cert.EvenFwd.main_arg4) = m ((c.tc : Thread Cert.EvenFwd.nD Cert.EvenFwd.τ).loc Cert.EvenFwd.main_arg4)
      ∧ r.2.mem ((c.tc : Thread Cert.EvenFwd.nD Cert.EvenFwd.τ).loc Cert.EvenFwd.main_arg5) = m ((c.tc : Thread Cert.EvenFwd.nD Cert.EvenFwd.τ).loc Cert.EvenFwd.main_arg5)
      ∧ r.2.mem ((c.tc : Thread Cert.EvenFwd.nD Cert.EvenFwd.τ).loc Cert.EvenFwd.main_arg6) = m ((c.tc : Thread Cert.EvenFwd.nD Cert.EvenFwd.τ).loc Cert.EvenFwd.main_arg6)
      ∧ r.2.mem ((c.tc : Thread Cert.EvenFwd.nD Cert.EvenFwd.τ).loc Cert.EvenFwd.main_arg7) = m ((c.tc : Thread Cert.EvenFwd.nD Cert.EvenFwd.τ).loc Cert.EvenFwd.main_arg7)
      ∧ r.2.mem ((c.tc : Thread Cert.EvenFwd.nD Cert.EvenFwd.τ).loc Cert.EvenFwd.main_arg8) = m ((c.tc : Thread Cert.EvenFwd.nD Cert.EvenFwd.τ).loc Cert.EvenFwd.main_arg8))
      ∧ r.2.sem = fun _ => 0)

def quiescent_EvenFwdIdeal [hEvenFwdIdeal : Cert.EvenFwdIdeal.Facts] : Prop :=
  ∀ (m : (ℓ : Loc Cert.EvenFwdIdeal.nD Cert.EvenFwdIdeal.τ Cert.EvenFwdIdeal.sig) → Buf (Elt Ideal) ℓ) (g : Dev Cert.EvenFwdIdeal.nD → PrngReg), Pre_EvenFwdIdeal m →
    θ_run (Cert.EvenFwdIdeal.defs (F := Ideal)) (onTc (τ := Cert.EvenFwdIdeal.τ) (Cert.EvenFwdIdeal.main (F := Ideal))) ⟨m, fun _ => 0, g⟩ (fun r => (∀ c : Dev Cert.EvenFwdIdeal.nD,
      r.2.mem ((c.tc : Thread Cert.EvenFwdIdeal.nD Cert.EvenFwdIdeal.τ).loc Cert.EvenFwdIdeal.main_arg0) = m ((c.tc : Thread Cert.EvenFwdIdeal.nD Cert.EvenFwdIdeal.τ).loc Cert.EvenFwdIdeal.main_arg0)
      ∧ r.2.mem ((c.tc : Thread Cert.EvenFwdIdeal.nD Cert.EvenFwdIdeal.τ).loc Cert.EvenFwdIdeal.main_arg1) = m ((c.tc : Thread Cert.EvenFwdIdeal.nD Cert.EvenFwdIdeal.τ).loc Cert.EvenFwdIdeal.main_arg1)
      ∧ r.2.mem ((c.tc : Thread Cert.EvenFwdIdeal.nD Cert.EvenFwdIdeal.τ).loc Cert.EvenFwdIdeal.main_arg2) = m ((c.tc : Thread Cert.EvenFwdIdeal.nD Cert.EvenFwdIdeal.τ).loc Cert.EvenFwdIdeal.main_arg2)
      ∧ r.2.mem ((c.tc : Thread Cert.EvenFwdIdeal.nD Cert.EvenFwdIdeal.τ).loc Cert.EvenFwdIdeal.main_arg3) = m ((c.tc : Thread Cert.EvenFwdIdeal.nD Cert.EvenFwdIdeal.τ).loc Cert.EvenFwdIdeal.main_arg3)
      ∧ r.2.mem ((c.tc : Thread Cert.EvenFwdIdeal.nD Cert.EvenFwdIdeal.τ).loc Cert.EvenFwdIdeal.main_arg4) = m ((c.tc : Thread Cert.EvenFwdIdeal.nD Cert.EvenFwdIdeal.τ).loc Cert.EvenFwdIdeal.main_arg4)
      ∧ r.2.mem ((c.tc : Thread Cert.EvenFwdIdeal.nD Cert.EvenFwdIdeal.τ).loc Cert.EvenFwdIdeal.main_arg5) = m ((c.tc : Thread Cert.EvenFwdIdeal.nD Cert.EvenFwdIdeal.τ).loc Cert.EvenFwdIdeal.main_arg5)
      ∧ r.2.mem ((c.tc : Thread Cert.EvenFwdIdeal.nD Cert.EvenFwdIdeal.τ).loc Cert.EvenFwdIdeal.main_arg6) = m ((c.tc : Thread Cert.EvenFwdIdeal.nD Cert.EvenFwdIdeal.τ).loc Cert.EvenFwdIdeal.main_arg6)
      ∧ r.2.mem ((c.tc : Thread Cert.EvenFwdIdeal.nD Cert.EvenFwdIdeal.τ).loc Cert.EvenFwdIdeal.main_arg7) = m ((c.tc : Thread Cert.EvenFwdIdeal.nD Cert.EvenFwdIdeal.τ).loc Cert.EvenFwdIdeal.main_arg7)
      ∧ r.2.mem ((c.tc : Thread Cert.EvenFwdIdeal.nD Cert.EvenFwdIdeal.τ).loc Cert.EvenFwdIdeal.main_arg8) = m ((c.tc : Thread Cert.EvenFwdIdeal.nD Cert.EvenFwdIdeal.τ).loc Cert.EvenFwdIdeal.main_arg8))
      ∧ r.2.sem = fun _ => 0)

def quiescent_EvenFwdRefIdeal [hEvenFwdRefIdeal : Cert.EvenFwdRefIdeal.Facts] : Prop :=
  ∀ (m : (ℓ : Loc Cert.EvenFwdRefIdeal.nD Cert.EvenFwdRefIdeal.τ Cert.EvenFwdRefIdeal.sig) → Buf (Elt Ideal) ℓ) (g : Dev Cert.EvenFwdRefIdeal.nD → PrngReg), Pre_EvenFwdRefIdeal m →
    θ_run (Cert.EvenFwdRefIdeal.defs (F := Ideal)) (onTc (τ := Cert.EvenFwdRefIdeal.τ) (Cert.EvenFwdRefIdeal.main (F := Ideal))) ⟨m, fun _ => 0, g⟩ (fun r => (∀ c : Dev Cert.EvenFwdRefIdeal.nD,
      r.2.mem ((c.tc : Thread Cert.EvenFwdRefIdeal.nD Cert.EvenFwdRefIdeal.τ).loc Cert.EvenFwdRefIdeal.main_arg0) = m ((c.tc : Thread Cert.EvenFwdRefIdeal.nD Cert.EvenFwdRefIdeal.τ).loc Cert.EvenFwdRefIdeal.main_arg0)
      ∧ r.2.mem ((c.tc : Thread Cert.EvenFwdRefIdeal.nD Cert.EvenFwdRefIdeal.τ).loc Cert.EvenFwdRefIdeal.main_arg1) = m ((c.tc : Thread Cert.EvenFwdRefIdeal.nD Cert.EvenFwdRefIdeal.τ).loc Cert.EvenFwdRefIdeal.main_arg1)
      ∧ r.2.mem ((c.tc : Thread Cert.EvenFwdRefIdeal.nD Cert.EvenFwdRefIdeal.τ).loc Cert.EvenFwdRefIdeal.main_arg2) = m ((c.tc : Thread Cert.EvenFwdRefIdeal.nD Cert.EvenFwdRefIdeal.τ).loc Cert.EvenFwdRefIdeal.main_arg2)
      ∧ r.2.mem ((c.tc : Thread Cert.EvenFwdRefIdeal.nD Cert.EvenFwdRefIdeal.τ).loc Cert.EvenFwdRefIdeal.main_arg3) = m ((c.tc : Thread Cert.EvenFwdRefIdeal.nD Cert.EvenFwdRefIdeal.τ).loc Cert.EvenFwdRefIdeal.main_arg3)
      ∧ r.2.mem ((c.tc : Thread Cert.EvenFwdRefIdeal.nD Cert.EvenFwdRefIdeal.τ).loc Cert.EvenFwdRefIdeal.main_arg4) = m ((c.tc : Thread Cert.EvenFwdRefIdeal.nD Cert.EvenFwdRefIdeal.τ).loc Cert.EvenFwdRefIdeal.main_arg4)
      ∧ r.2.mem ((c.tc : Thread Cert.EvenFwdRefIdeal.nD Cert.EvenFwdRefIdeal.τ).loc Cert.EvenFwdRefIdeal.main_arg5) = m ((c.tc : Thread Cert.EvenFwdRefIdeal.nD Cert.EvenFwdRefIdeal.τ).loc Cert.EvenFwdRefIdeal.main_arg5)
      ∧ r.2.mem ((c.tc : Thread Cert.EvenFwdRefIdeal.nD Cert.EvenFwdRefIdeal.τ).loc Cert.EvenFwdRefIdeal.main_arg6) = m ((c.tc : Thread Cert.EvenFwdRefIdeal.nD Cert.EvenFwdRefIdeal.τ).loc Cert.EvenFwdRefIdeal.main_arg6)
      ∧ r.2.mem ((c.tc : Thread Cert.EvenFwdRefIdeal.nD Cert.EvenFwdRefIdeal.τ).loc Cert.EvenFwdRefIdeal.main_arg7) = m ((c.tc : Thread Cert.EvenFwdRefIdeal.nD Cert.EvenFwdRefIdeal.τ).loc Cert.EvenFwdRefIdeal.main_arg7)
      ∧ r.2.mem ((c.tc : Thread Cert.EvenFwdRefIdeal.nD Cert.EvenFwdRefIdeal.τ).loc Cert.EvenFwdRefIdeal.main_arg8) = m ((c.tc : Thread Cert.EvenFwdRefIdeal.nD Cert.EvenFwdRefIdeal.τ).loc Cert.EvenFwdRefIdeal.main_arg8))
      ∧ r.2.sem = fun _ => 0)

def quiescent_OddFwd [hOddFwd : Cert.OddFwd.Facts] : Prop :=
  ∀ (m : (ℓ : Loc Cert.OddFwd.nD Cert.OddFwd.τ Cert.OddFwd.sig) → Buf (Elt Bits) ℓ) (g : Dev Cert.OddFwd.nD → PrngReg), Pre_OddFwd m →
    θ_run (Cert.OddFwd.defs (F := Bits)) (onTc (τ := Cert.OddFwd.τ) (Cert.OddFwd.main (F := Bits))) ⟨m, fun _ => 0, g⟩ (fun r => (∀ c : Dev Cert.OddFwd.nD,
      r.2.mem ((c.tc : Thread Cert.OddFwd.nD Cert.OddFwd.τ).loc Cert.OddFwd.main_arg0) = m ((c.tc : Thread Cert.OddFwd.nD Cert.OddFwd.τ).loc Cert.OddFwd.main_arg0)
      ∧ r.2.mem ((c.tc : Thread Cert.OddFwd.nD Cert.OddFwd.τ).loc Cert.OddFwd.main_arg1) = m ((c.tc : Thread Cert.OddFwd.nD Cert.OddFwd.τ).loc Cert.OddFwd.main_arg1)
      ∧ r.2.mem ((c.tc : Thread Cert.OddFwd.nD Cert.OddFwd.τ).loc Cert.OddFwd.main_arg2) = m ((c.tc : Thread Cert.OddFwd.nD Cert.OddFwd.τ).loc Cert.OddFwd.main_arg2)
      ∧ r.2.mem ((c.tc : Thread Cert.OddFwd.nD Cert.OddFwd.τ).loc Cert.OddFwd.main_arg3) = m ((c.tc : Thread Cert.OddFwd.nD Cert.OddFwd.τ).loc Cert.OddFwd.main_arg3))
      ∧ r.2.sem = fun _ => 0)

def quiescent_OddFwdIdeal [hOddFwdIdeal : Cert.OddFwdIdeal.Facts] : Prop :=
  ∀ (m : (ℓ : Loc Cert.OddFwdIdeal.nD Cert.OddFwdIdeal.τ Cert.OddFwdIdeal.sig) → Buf (Elt Ideal) ℓ) (g : Dev Cert.OddFwdIdeal.nD → PrngReg), Pre_OddFwdIdeal m →
    θ_run (Cert.OddFwdIdeal.defs (F := Ideal)) (onTc (τ := Cert.OddFwdIdeal.τ) (Cert.OddFwdIdeal.main (F := Ideal))) ⟨m, fun _ => 0, g⟩ (fun r => (∀ c : Dev Cert.OddFwdIdeal.nD,
      r.2.mem ((c.tc : Thread Cert.OddFwdIdeal.nD Cert.OddFwdIdeal.τ).loc Cert.OddFwdIdeal.main_arg0) = m ((c.tc : Thread Cert.OddFwdIdeal.nD Cert.OddFwdIdeal.τ).loc Cert.OddFwdIdeal.main_arg0)
      ∧ r.2.mem ((c.tc : Thread Cert.OddFwdIdeal.nD Cert.OddFwdIdeal.τ).loc Cert.OddFwdIdeal.main_arg1) = m ((c.tc : Thread Cert.OddFwdIdeal.nD Cert.OddFwdIdeal.τ).loc Cert.OddFwdIdeal.main_arg1)
      ∧ r.2.mem ((c.tc : Thread Cert.OddFwdIdeal.nD Cert.OddFwdIdeal.τ).loc Cert.OddFwdIdeal.main_arg2) = m ((c.tc : Thread Cert.OddFwdIdeal.nD Cert.OddFwdIdeal.τ).loc Cert.OddFwdIdeal.main_arg2)
      ∧ r.2.mem ((c.tc : Thread Cert.OddFwdIdeal.nD Cert.OddFwdIdeal.τ).loc Cert.OddFwdIdeal.main_arg3) = m ((c.tc : Thread Cert.OddFwdIdeal.nD Cert.OddFwdIdeal.τ).loc Cert.OddFwdIdeal.main_arg3))
      ∧ r.2.sem = fun _ => 0)

def quiescent_OddFwdRefIdeal [hOddFwdRefIdeal : Cert.OddFwdRefIdeal.Facts] : Prop :=
  ∀ (m : (ℓ : Loc Cert.OddFwdRefIdeal.nD Cert.OddFwdRefIdeal.τ Cert.OddFwdRefIdeal.sig) → Buf (Elt Ideal) ℓ) (g : Dev Cert.OddFwdRefIdeal.nD → PrngReg), Pre_OddFwdRefIdeal m →
    θ_run (Cert.OddFwdRefIdeal.defs (F := Ideal)) (onTc (τ := Cert.OddFwdRefIdeal.τ) (Cert.OddFwdRefIdeal.main (F := Ideal))) ⟨m, fun _ => 0, g⟩ (fun r => (∀ c : Dev Cert.OddFwdRefIdeal.nD,
      r.2.mem ((c.tc : Thread Cert.OddFwdRefIdeal.nD Cert.OddFwdRefIdeal.τ).loc Cert.OddFwdRefIdeal.main_arg0) = m ((c.tc : Thread Cert.OddFwdRefIdeal.nD Cert.OddFwdRefIdeal.τ).loc Cert.OddFwdRefIdeal.main_arg0)
      ∧ r.2.mem ((c.tc : Thread Cert.OddFwdRefIdeal.nD Cert.OddFwdRefIdeal.τ).loc Cert.OddFwdRefIdeal.main_arg1) = m ((c.tc : Thread Cert.OddFwdRefIdeal.nD Cert.OddFwdRefIdeal.τ).loc Cert.OddFwdRefIdeal.main_arg1)
      ∧ r.2.mem ((c.tc : Thread Cert.OddFwdRefIdeal.nD Cert.OddFwdRefIdeal.τ).loc Cert.OddFwdRefIdeal.main_arg2) = m ((c.tc : Thread Cert.OddFwdRefIdeal.nD Cert.OddFwdRefIdeal.τ).loc Cert.OddFwdRefIdeal.main_arg2)
      ∧ r.2.mem ((c.tc : Thread Cert.OddFwdRefIdeal.nD Cert.OddFwdRefIdeal.τ).loc Cert.OddFwdRefIdeal.main_arg3) = m ((c.tc : Thread Cert.OddFwdRefIdeal.nD Cert.OddFwdRefIdeal.τ).loc Cert.OddFwdRefIdeal.main_arg3))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2))
      ∧ r.2.sem = fun _ => 0)

def preserves_PostBwd_PostBwdIdeal : Prop :=
  True

def algebraic_PostBwdIdeal_PostRefIdeal_pre_post_finite [hPostBwdIdeal : Cert.PostBwdIdeal.Facts] [hPostRefIdeal : Cert.PostRefIdeal.Facts] [hPre_post_finite : Cert.Pre_post_finite.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostBwdIdeal_post_finite m →
    (∀ c : Dev Cert.PostBwdIdeal.nD,
      m' ((c.tc : Thread Cert.PostRefIdeal.nD Cert.PostRefIdeal.τ).loc Cert.PostRefIdeal.main_arg0) = m ((c.tc : Thread Cert.PostBwdIdeal.nD Cert.PostBwdIdeal.τ).loc Cert.PostBwdIdeal.main_arg0)
      ∧ m' ((c.tc : Thread Cert.PostRefIdeal.nD Cert.PostRefIdeal.τ).loc Cert.PostRefIdeal.main_arg1) = m ((c.tc : Thread Cert.PostBwdIdeal.nD Cert.PostBwdIdeal.τ).loc Cert.PostBwdIdeal.main_arg1)
      ∧ m' ((c.tc : Thread Cert.PostRefIdeal.nD Cert.PostRefIdeal.τ).loc Cert.PostRefIdeal.main_arg2) = m ((c.tc : Thread Cert.PostBwdIdeal.nD Cert.PostBwdIdeal.τ).loc Cert.PostBwdIdeal.main_arg2)
      ∧ m' ((c.tc : Thread Cert.PostRefIdeal.nD Cert.PostRefIdeal.τ).loc Cert.PostRefIdeal.main_arg3) = m ((c.tc : Thread Cert.PostBwdIdeal.nD Cert.PostBwdIdeal.τ).loc Cert.PostBwdIdeal.main_arg3)
      ∧ m' ((c.tc : Thread Cert.PostRefIdeal.nD Cert.PostRefIdeal.τ).loc Cert.PostRefIdeal.main_arg4) = m ((c.tc : Thread Cert.PostBwdIdeal.nD Cert.PostBwdIdeal.τ).loc Cert.PostBwdIdeal.main_arg4)
      ∧ m' ((c.tc : Thread Cert.PostRefIdeal.nD Cert.PostRefIdeal.τ).loc Cert.PostRefIdeal.main_arg5) = m ((c.tc : Thread Cert.PostBwdIdeal.nD Cert.PostBwdIdeal.τ).loc Cert.PostBwdIdeal.main_arg5)
      ∧ m' ((c.tc : Thread Cert.PostRefIdeal.nD Cert.PostRefIdeal.τ).loc Cert.PostRefIdeal.main_arg6) = m ((c.tc : Thread Cert.PostBwdIdeal.nD Cert.PostBwdIdeal.τ).loc Cert.PostBwdIdeal.main_arg6)
      ∧ m' ((c.tc : Thread Cert.PostRefIdeal.nD Cert.PostRefIdeal.τ).loc Cert.PostRefIdeal.main_arg7) = m ((c.tc : Thread Cert.PostBwdIdeal.nD Cert.PostBwdIdeal.τ).loc Cert.PostBwdIdeal.main_arg7)
      ∧ m' ((c.tc : Thread Cert.PostRefIdeal.nD Cert.PostRefIdeal.τ).loc Cert.PostRefIdeal.main_arg8) = m ((c.tc : Thread Cert.PostBwdIdeal.nD Cert.PostBwdIdeal.τ).loc Cert.PostBwdIdeal.main_arg8)
      ∧ m' ((c.tc : Thread Cert.PostRefIdeal.nD Cert.PostRefIdeal.τ).loc Cert.PostRefIdeal.main_arg9) = m ((c.tc : Thread Cert.PostBwdIdeal.nD Cert.PostBwdIdeal.τ).loc Cert.PostBwdIdeal.main_arg9)
      ∧ m' ((c.tc : Thread Cert.PostRefIdeal.nD Cert.PostRefIdeal.τ).loc Cert.PostRefIdeal.main_arg10) = m ((c.tc : Thread Cert.PostBwdIdeal.nD Cert.PostBwdIdeal.τ).loc Cert.PostBwdIdeal.main_arg10)) →
    ∃ (v0 : (c : Dev Cert.PostBwdIdeal.nD) → Buf (Elt Ideal) ((c.tc : Thread Cert.PostBwdIdeal.nD Cert.PostBwdIdeal.τ).loc Cert.PostBwdIdeal.main_v46_0)) (v1 : (c : Dev Cert.PostBwdIdeal.nD) → Buf (Elt Ideal) ((c.tc : Thread Cert.PostBwdIdeal.nD Cert.PostBwdIdeal.τ).loc Cert.PostBwdIdeal.main_v46_1)) (v2 : (c : Dev Cert.PostBwdIdeal.nD) → Buf (Elt Ideal) ((c.tc : Thread Cert.PostBwdIdeal.nD Cert.PostBwdIdeal.τ).loc Cert.PostBwdIdeal.main_v46_2)) (v3 : (c : Dev Cert.PostBwdIdeal.nD) → Buf (Elt Ideal) ((c.tc : Thread Cert.PostBwdIdeal.nD Cert.PostBwdIdeal.τ).loc Cert.PostBwdIdeal.main_v46_3)) (v4 : (c : Dev Cert.PostBwdIdeal.nD) → Buf (Elt Ideal) ((c.tc : Thread Cert.PostBwdIdeal.nD Cert.PostBwdIdeal.τ).loc Cert.PostBwdIdeal.main_v46_4)) (v5 : (c : Dev Cert.PostBwdIdeal.nD) → Buf (Elt Ideal) ((c.tc : Thread Cert.PostBwdIdeal.nD Cert.PostBwdIdeal.τ).loc Cert.PostBwdIdeal.main_v46_5)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v46_0) = v0 c
          ∧ r.2.mem ((c.tc : Thread Cert.PostBwdIdeal.nD Cert.PostBwdIdeal.τ).loc Cert.PostBwdIdeal.main_v46_1) = v1 c
          ∧ r.2.mem ((c.tc : Thread Cert.PostBwdIdeal.nD Cert.PostBwdIdeal.τ).loc Cert.PostBwdIdeal.main_v46_2) = v2 c
          ∧ r.2.mem ((c.tc : Thread Cert.PostBwdIdeal.nD Cert.PostBwdIdeal.τ).loc Cert.PostBwdIdeal.main_v46_3) = v3 c
          ∧ r.2.mem ((c.tc : Thread Cert.PostBwdIdeal.nD Cert.PostBwdIdeal.τ).loc Cert.PostBwdIdeal.main_v46_4) = v4 c
          ∧ r.2.mem ((c.tc : Thread Cert.PostBwdIdeal.nD Cert.PostBwdIdeal.τ).loc Cert.PostBwdIdeal.main_v46_5) = v5 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
          ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
          ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
          ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
          ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6)
          ∧ r.2.mem ((c.tc : Thread Cert.PostBwdIdeal.nD Cert.PostBwdIdeal.τ).loc Cert.PostBwdIdeal.main_arg7) = m ((c.tc : Thread Cert.PostBwdIdeal.nD Cert.PostBwdIdeal.τ).loc Cert.PostBwdIdeal.main_arg7)
          ∧ r.2.mem ((c.tc : Thread Cert.PostBwdIdeal.nD Cert.PostBwdIdeal.τ).loc Cert.PostBwdIdeal.main_arg8) = m ((c.tc : Thread Cert.PostBwdIdeal.nD Cert.PostBwdIdeal.τ).loc Cert.PostBwdIdeal.main_arg8)
          ∧ r.2.mem ((c.tc : Thread Cert.PostBwdIdeal.nD Cert.PostBwdIdeal.τ).loc Cert.PostBwdIdeal.main_arg9) = m ((c.tc : Thread Cert.PostBwdIdeal.nD Cert.PostBwdIdeal.τ).loc Cert.PostBwdIdeal.main_arg9)
          ∧ r.2.mem ((c.tc : Thread Cert.PostBwdIdeal.nD Cert.PostBwdIdeal.τ).loc Cert.PostBwdIdeal.main_arg10) = m ((c.tc : Thread Cert.PostBwdIdeal.nD Cert.PostBwdIdeal.τ).loc Cert.PostBwdIdeal.main_arg10))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v107) = v0 c
          ∧ r.2.mem ((c.tc : Thread Cert.PostRefIdeal.nD Cert.PostRefIdeal.τ).loc Cert.PostRefIdeal.main_v105) = v1 c
          ∧ r.2.mem ((c.tc : Thread Cert.PostRefIdeal.nD Cert.PostRefIdeal.τ).loc Cert.PostRefIdeal.main_v104) = v2 c
          ∧ r.2.mem ((c.tc : Thread Cert.PostRefIdeal.nD Cert.PostRefIdeal.τ).loc Cert.PostRefIdeal.main_v64) = v3 c
          ∧ r.2.mem ((c.tc : Thread Cert.PostRefIdeal.nD Cert.PostRefIdeal.τ).loc Cert.PostRefIdeal.main_v57) = v4 c
          ∧ r.2.mem ((c.tc : Thread Cert.PostRefIdeal.nD Cert.PostRefIdeal.τ).loc Cert.PostRefIdeal.main_v114) = v5 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10))

def preserves_EvenBwd_EvenBwdIdeal : Prop :=
  True

def algebraic_EvenBwdIdeal_EvenRefIdeal [hEvenBwdIdeal : Cert.EvenBwdIdeal.Facts] [hEvenRefIdeal : Cert.EvenRefIdeal.Facts] : Prop :=
  ∀ (m : (ℓ : Loc Cert.EvenBwdIdeal.nD Cert.EvenBwdIdeal.τ Cert.EvenBwdIdeal.sig) → Buf (Elt Ideal) ℓ) (g : Dev Cert.EvenBwdIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenBwdIdeal m →
    (∀ c : Dev Cert.EvenBwdIdeal.nD,
      m' ((c.tc : Thread Cert.EvenRefIdeal.nD Cert.EvenRefIdeal.τ).loc Cert.EvenRefIdeal.main_arg0) = m ((c.tc : Thread Cert.EvenBwdIdeal.nD Cert.EvenBwdIdeal.τ).loc Cert.EvenBwdIdeal.main_arg0)
      ∧ m' ((c.tc : Thread Cert.EvenRefIdeal.nD Cert.EvenRefIdeal.τ).loc Cert.EvenRefIdeal.main_arg1) = m ((c.tc : Thread Cert.EvenBwdIdeal.nD Cert.EvenBwdIdeal.τ).loc Cert.EvenBwdIdeal.main_arg1)
      ∧ m' ((c.tc : Thread Cert.EvenRefIdeal.nD Cert.EvenRefIdeal.τ).loc Cert.EvenRefIdeal.main_arg2) = m ((c.tc : Thread Cert.EvenBwdIdeal.nD Cert.EvenBwdIdeal.τ).loc Cert.EvenBwdIdeal.main_arg2)
      ∧ m' ((c.tc : Thread Cert.EvenRefIdeal.nD Cert.EvenRefIdeal.τ).loc Cert.EvenRefIdeal.main_arg3) = m ((c.tc : Thread Cert.EvenBwdIdeal.nD Cert.EvenBwdIdeal.τ).loc Cert.EvenBwdIdeal.main_arg3)
      ∧ m' ((c.tc : Thread Cert.EvenRefIdeal.nD Cert.EvenRefIdeal.τ).loc Cert.EvenRefIdeal.main_arg4) = m ((c.tc : Thread Cert.EvenBwdIdeal.nD Cert.EvenBwdIdeal.τ).loc Cert.EvenBwdIdeal.main_arg4)
      ∧ m' ((c.tc : Thread Cert.EvenRefIdeal.nD Cert.EvenRefIdeal.τ).loc Cert.EvenRefIdeal.main_arg5) = m ((c.tc : Thread Cert.EvenBwdIdeal.nD Cert.EvenBwdIdeal.τ).loc Cert.EvenBwdIdeal.main_arg5)
      ∧ m' ((c.tc : Thread Cert.EvenRefIdeal.nD Cert.EvenRefIdeal.τ).loc Cert.EvenRefIdeal.main_arg6) = m ((c.tc : Thread Cert.EvenBwdIdeal.nD Cert.EvenBwdIdeal.τ).loc Cert.EvenBwdIdeal.main_arg6)
      ∧ m' ((c.tc : Thread Cert.EvenRefIdeal.nD Cert.EvenRefIdeal.τ).loc Cert.EvenRefIdeal.main_arg7) = m ((c.tc : Thread Cert.EvenBwdIdeal.nD Cert.EvenBwdIdeal.τ).loc Cert.EvenBwdIdeal.main_arg7)
      ∧ m' ((c.tc : Thread Cert.EvenRefIdeal.nD Cert.EvenRefIdeal.τ).loc Cert.EvenRefIdeal.main_arg8) = m ((c.tc : Thread Cert.EvenBwdIdeal.nD Cert.EvenBwdIdeal.τ).loc Cert.EvenBwdIdeal.main_arg8)
      ∧ m' ((c.tc : Thread Cert.EvenRefIdeal.nD Cert.EvenRefIdeal.τ).loc Cert.EvenRefIdeal.main_arg9) = m ((c.tc : Thread Cert.EvenBwdIdeal.nD Cert.EvenBwdIdeal.τ).loc Cert.EvenBwdIdeal.main_arg9)) →
    ∃ (v0 : (c : Dev Cert.EvenBwdIdeal.nD) → Buf (Elt Ideal) ((c.tc : Thread Cert.EvenBwdIdeal.nD Cert.EvenBwdIdeal.τ).loc Cert.EvenBwdIdeal.main_v245)) (v1 : (c : Dev Cert.EvenBwdIdeal.nD) → Buf (Elt Ideal) ((c.tc : Thread Cert.EvenBwdIdeal.nD Cert.EvenBwdIdeal.τ).loc Cert.EvenBwdIdeal.main_v247)) (v2 : (c : Dev Cert.EvenBwdIdeal.nD) → Buf (Elt Ideal) ((c.tc : Thread Cert.EvenBwdIdeal.nD Cert.EvenBwdIdeal.τ).loc Cert.EvenBwdIdeal.main_v243_4)) (v3 : (c : Dev Cert.EvenBwdIdeal.nD) → Buf (Elt Ideal) ((c.tc : Thread Cert.EvenBwdIdeal.nD Cert.EvenBwdIdeal.τ).loc Cert.EvenBwdIdeal.main_v243_5)),
      θ_run (Cert.EvenBwdIdeal.defs (F := Ideal)) (onTc (τ := Cert.EvenBwdIdeal.τ) (Cert.EvenBwdIdeal.main (F := Ideal))) ⟨m, fun _ => 0, g⟩ (fun r => ∀ c : Dev Cert.EvenBwdIdeal.nD,
          r.2.mem ((c.tc : Thread Cert.EvenBwdIdeal.nD Cert.EvenBwdIdeal.τ).loc Cert.EvenBwdIdeal.main_v245) = v0 c
          ∧ r.2.mem ((c.tc : Thread Cert.EvenBwdIdeal.nD Cert.EvenBwdIdeal.τ).loc Cert.EvenBwdIdeal.main_v247) = v1 c
          ∧ r.2.mem ((c.tc : Thread Cert.EvenBwdIdeal.nD Cert.EvenBwdIdeal.τ).loc Cert.EvenBwdIdeal.main_v243_4) = v2 c
          ∧ r.2.mem ((c.tc : Thread Cert.EvenBwdIdeal.nD Cert.EvenBwdIdeal.τ).loc Cert.EvenBwdIdeal.main_v243_5) = v3 c
          ∧ r.2.mem ((c.tc : Thread Cert.EvenBwdIdeal.nD Cert.EvenBwdIdeal.τ).loc Cert.EvenBwdIdeal.main_arg0) = m ((c.tc : Thread Cert.EvenBwdIdeal.nD Cert.EvenBwdIdeal.τ).loc Cert.EvenBwdIdeal.main_arg0)
          ∧ r.2.mem ((c.tc : Thread Cert.EvenBwdIdeal.nD Cert.EvenBwdIdeal.τ).loc Cert.EvenBwdIdeal.main_arg1) = m ((c.tc : Thread Cert.EvenBwdIdeal.nD Cert.EvenBwdIdeal.τ).loc Cert.EvenBwdIdeal.main_arg1)
          ∧ r.2.mem ((c.tc : Thread Cert.EvenBwdIdeal.nD Cert.EvenBwdIdeal.τ).loc Cert.EvenBwdIdeal.main_arg2) = m ((c.tc : Thread Cert.EvenBwdIdeal.nD Cert.EvenBwdIdeal.τ).loc Cert.EvenBwdIdeal.main_arg2)
          ∧ r.2.mem ((c.tc : Thread Cert.EvenBwdIdeal.nD Cert.EvenBwdIdeal.τ).loc Cert.EvenBwdIdeal.main_arg3) = m ((c.tc : Thread Cert.EvenBwdIdeal.nD Cert.EvenBwdIdeal.τ).loc Cert.EvenBwdIdeal.main_arg3)
          ∧ r.2.mem ((c.tc : Thread Cert.EvenBwdIdeal.nD Cert.EvenBwdIdeal.τ).loc Cert.EvenBwdIdeal.main_arg4) = m ((c.tc : Thread Cert.EvenBwdIdeal.nD Cert.EvenBwdIdeal.τ).loc Cert.EvenBwdIdeal.main_arg4)
          ∧ r.2.mem ((c.tc : Thread Cert.EvenBwdIdeal.nD Cert.EvenBwdIdeal.τ).loc Cert.EvenBwdIdeal.main_arg5) = m ((c.tc : Thread Cert.EvenBwdIdeal.nD Cert.EvenBwdIdeal.τ).loc Cert.EvenBwdIdeal.main_arg5)
          ∧ r.2.mem ((c.tc : Thread Cert.EvenBwdIdeal.nD Cert.EvenBwdIdeal.τ).loc Cert.EvenBwdIdeal.main_arg6) = m ((c.tc : Thread Cert.EvenBwdIdeal.nD Cert.EvenBwdIdeal.τ).loc Cert.EvenBwdIdeal.main_arg6)
          ∧ r.2.mem ((c.tc : Thread Cert.EvenBwdIdeal.nD Cert.EvenBwdIdeal.τ).loc Cert.EvenBwdIdeal.main_arg7) = m ((c.tc : Thread Cert.EvenBwdIdeal.nD Cert.EvenBwdIdeal.τ).loc Cert.EvenBwdIdeal.main_arg7)
          ∧ r.2.mem ((c.tc : Thread Cert.EvenBwdIdeal.nD Cert.EvenBwdIdeal.τ).loc Cert.EvenBwdIdeal.main_arg8) = m ((c.tc : Thread Cert.EvenBwdIdeal.nD Cert.EvenBwdIdeal.τ).loc Cert.EvenBwdIdeal.main_arg8)
          ∧ r.2.mem ((c.tc : Thread Cert.EvenBwdIdeal.nD Cert.EvenBwdIdeal.τ).loc Cert.EvenBwdIdeal.main_arg9) = m ((c.tc : Thread Cert.EvenBwdIdeal.nD Cert.EvenBwdIdeal.τ).loc Cert.EvenBwdIdeal.main_arg9))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v93) = v0 c
          ∧ r.2.mem ((c.tc : Thread Cert.EvenRefIdeal.nD Cert.EvenRefIdeal.τ).loc Cert.EvenRefIdeal.main_v89) = v1 c
          ∧ r.2.mem ((c.tc : Thread Cert.EvenRefIdeal.nD Cert.EvenRefIdeal.τ).loc Cert.EvenRefIdeal.main_v85) = v2 c
          ∧ r.2.mem ((c.tc : Thread Cert.EvenRefIdeal.nD Cert.EvenRefIdeal.τ).loc Cert.EvenRefIdeal.main_v79) = v3 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2)
          ∧ r.2.mem ((c.tc : Thread Cert.EvenRefIdeal.nD Cert.EvenRefIdeal.τ).loc Cert.EvenRefIdeal.main_arg3) = m' ((c.tc : Thread Cert.EvenRefIdeal.nD Cert.EvenRefIdeal.τ).loc Cert.EvenRefIdeal.main_arg3)
          ∧ r.2.mem ((c.tc : Thread Cert.EvenRefIdeal.nD Cert.EvenRefIdeal.τ).loc Cert.EvenRefIdeal.main_arg4) = m' ((c.tc : Thread Cert.EvenRefIdeal.nD Cert.EvenRefIdeal.τ).loc Cert.EvenRefIdeal.main_arg4)
          ∧ r.2.mem ((c.tc : Thread Cert.EvenRefIdeal.nD Cert.EvenRefIdeal.τ).loc Cert.EvenRefIdeal.main_arg5) = m' ((c.tc : Thread Cert.EvenRefIdeal.nD Cert.EvenRefIdeal.τ).loc Cert.EvenRefIdeal.main_arg5)
          ∧ r.2.mem ((c.tc : Thread Cert.EvenRefIdeal.nD Cert.EvenRefIdeal.τ).loc Cert.EvenRefIdeal.main_arg6) = m' ((c.tc : Thread Cert.EvenRefIdeal.nD Cert.EvenRefIdeal.τ).loc Cert.EvenRefIdeal.main_arg6)
          ∧ r.2.mem ((c.tc : Thread Cert.EvenRefIdeal.nD Cert.EvenRefIdeal.τ).loc Cert.EvenRefIdeal.main_arg7) = m' ((c.tc : Thread Cert.EvenRefIdeal.nD Cert.EvenRefIdeal.τ).loc Cert.EvenRefIdeal.main_arg7)
          ∧ r.2.mem ((c.tc : Thread Cert.EvenRefIdeal.nD Cert.EvenRefIdeal.τ).loc Cert.EvenRefIdeal.main_arg8) = m' ((c.tc : Thread Cert.EvenRefIdeal.nD Cert.EvenRefIdeal.τ).loc Cert.EvenRefIdeal.main_arg8)
          ∧ r.2.mem ((c.tc : Thread Cert.EvenRefIdeal.nD Cert.EvenRefIdeal.τ).loc Cert.EvenRefIdeal.main_arg9) = m' ((c.tc : Thread Cert.EvenRefIdeal.nD Cert.EvenRefIdeal.τ).loc Cert.EvenRefIdeal.main_arg9))

def preserves_OddBwd_OddBwdIdeal : Prop :=
  True

def preserves_LossFwd_LossFwdIdeal : Prop :=
  True

def algebraic_LossFwdIdeal_LossRefIdeal [hLossFwdIdeal : Cert.LossFwdIdeal.Facts] [hLossRefIdeal : Cert.LossRefIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossFwdIdeal m →
    (∀ c : Dev Cert.LossFwdIdeal.nD,
      m' ((c.tc : Thread Cert.LossRefIdeal.nD Cert.LossRefIdeal.τ).loc Cert.LossRefIdeal.main_arg0) = m ((c.tc : Thread Cert.LossFwdIdeal.nD Cert.LossFwdIdeal.τ).loc Cert.LossFwdIdeal.main_arg0)
      ∧ m' ((c.tc : Thread Cert.LossRefIdeal.nD Cert.LossRefIdeal.τ).loc Cert.LossRefIdeal.main_arg1) = m ((c.tc : Thread Cert.LossFwdIdeal.nD Cert.LossFwdIdeal.τ).loc Cert.LossFwdIdeal.main_arg1)
      ∧ m' ((c.tc : Thread Cert.LossRefIdeal.nD Cert.LossRefIdeal.τ).loc Cert.LossRefIdeal.main_arg2) = m ((c.tc : Thread Cert.LossFwdIdeal.nD Cert.LossFwdIdeal.τ).loc Cert.LossFwdIdeal.main_arg2)
      ∧ m' ((c.tc : Thread Cert.LossRefIdeal.nD Cert.LossRefIdeal.τ).loc Cert.LossRefIdeal.main_arg3) = m ((c.tc : Thread Cert.LossFwdIdeal.nD Cert.LossFwdIdeal.τ).loc Cert.LossFwdIdeal.main_arg3)
      ∧ m' ((c.tc : Thread Cert.LossRefIdeal.nD Cert.LossRefIdeal.τ).loc Cert.LossRefIdeal.main_arg4) = m ((c.tc : Thread Cert.LossFwdIdeal.nD Cert.LossFwdIdeal.τ).loc Cert.LossFwdIdeal.main_arg4)
      ∧ m' ((c.tc : Thread Cert.LossRefIdeal.nD Cert.LossRefIdeal.τ).loc Cert.LossRefIdeal.main_arg5) = m ((c.tc : Thread Cert.LossFwdIdeal.nD Cert.LossFwdIdeal.τ).loc Cert.LossFwdIdeal.main_arg5)
      ∧ m' ((c.tc : Thread Cert.LossRefIdeal.nD Cert.LossRefIdeal.τ).loc Cert.LossRefIdeal.main_arg6) = m ((c.tc : Thread Cert.LossFwdIdeal.nD Cert.LossFwdIdeal.τ).loc Cert.LossFwdIdeal.main_arg6)
      ∧ m' ((c.tc : Thread Cert.LossRefIdeal.nD Cert.LossRefIdeal.τ).loc Cert.LossRefIdeal.main_arg7) = m ((c.tc : Thread Cert.LossFwdIdeal.nD Cert.LossFwdIdeal.τ).loc Cert.LossFwdIdeal.main_arg7)
      ∧ m' ((c.tc : Thread Cert.LossRefIdeal.nD Cert.LossRefIdeal.τ).loc Cert.LossRefIdeal.main_arg8) = m ((c.tc : Thread Cert.LossFwdIdeal.nD Cert.LossFwdIdeal.τ).loc Cert.LossFwdIdeal.main_arg8)
      ∧ m' ((c.tc : Thread Cert.LossRefIdeal.nD Cert.LossRefIdeal.τ).loc Cert.LossRefIdeal.main_arg9) = m ((c.tc : Thread Cert.LossFwdIdeal.nD Cert.LossFwdIdeal.τ).loc Cert.LossFwdIdeal.main_arg9)
      ∧ m' ((c.tc : Thread Cert.LossRefIdeal.nD Cert.LossRefIdeal.τ).loc Cert.LossRefIdeal.main_arg10) = m ((c.tc : Thread Cert.LossFwdIdeal.nD Cert.LossFwdIdeal.τ).loc Cert.LossFwdIdeal.main_arg10)) →
    ∃ (v0 : (c : Dev Cert.LossFwdIdeal.nD) → Buf (Elt Ideal) ((c.tc : Thread Cert.LossFwdIdeal.nD Cert.LossFwdIdeal.τ).loc Cert.LossFwdIdeal.main_v11_0)) (v1 : (c : Dev Cert.LossFwdIdeal.nD) → Buf (Elt Ideal) ((c.tc : Thread Cert.LossFwdIdeal.nD Cert.LossFwdIdeal.τ).loc Cert.LossFwdIdeal.main_v11_1)) (v2 : (c : Dev Cert.LossFwdIdeal.nD) → Buf (Elt Ideal) ((c.tc : Thread Cert.LossFwdIdeal.nD Cert.LossFwdIdeal.τ).loc Cert.LossFwdIdeal.main_v11_2)) (v3 : (c : Dev Cert.LossFwdIdeal.nD) → Buf (Elt Ideal) ((c.tc : Thread Cert.LossFwdIdeal.nD Cert.LossFwdIdeal.τ).loc Cert.LossFwdIdeal.main_v11_3)),
      θ_run (Cert.LossFwdIdeal.defs (F := Ideal)) (onTc (τ := Cert.LossFwdIdeal.τ) (Cert.LossFwdIdeal.main (F := Ideal))) ⟨m, fun _ => 0, g⟩ (fun r => ∀ c : Dev Cert.LossFwdIdeal.nD,
          r.2.mem ((c.tc : Thread Cert.LossFwdIdeal.nD Cert.LossFwdIdeal.τ).loc Cert.LossFwdIdeal.main_v11_0) = v0 c
          ∧ r.2.mem ((c.tc : Thread Cert.LossFwdIdeal.nD Cert.LossFwdIdeal.τ).loc Cert.LossFwdIdeal.main_v11_1) = v1 c
          ∧ r.2.mem ((c.tc : Thread Cert.LossFwdIdeal.nD Cert.LossFwdIdeal.τ).loc Cert.LossFwdIdeal.main_v11_2) = v2 c
          ∧ r.2.mem ((c.tc : Thread Cert.LossFwdIdeal.nD Cert.LossFwdIdeal.τ).loc Cert.LossFwdIdeal.main_v11_3) = v3 c
          ∧ r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
          ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1)
          ∧ r.2.mem ((c.tc : Thread Cert.LossFwdIdeal.nD Cert.LossFwdIdeal.τ).loc Cert.LossFwdIdeal.main_arg2) = m ((c.tc : Thread Cert.LossFwdIdeal.nD Cert.LossFwdIdeal.τ).loc Cert.LossFwdIdeal.main_arg2)
          ∧ r.2.mem ((c.tc : Thread Cert.LossFwdIdeal.nD Cert.LossFwdIdeal.τ).loc Cert.LossFwdIdeal.main_arg3) = m ((c.tc : Thread Cert.LossFwdIdeal.nD Cert.LossFwdIdeal.τ).loc Cert.LossFwdIdeal.main_arg3)
          ∧ r.2.mem ((c.tc : Thread Cert.LossFwdIdeal.nD Cert.LossFwdIdeal.τ).loc Cert.LossFwdIdeal.main_arg4) = m ((c.tc : Thread Cert.LossFwdIdeal.nD Cert.LossFwdIdeal.τ).loc Cert.LossFwdIdeal.main_arg4)
          ∧ r.2.mem ((c.tc : Thread Cert.LossFwdIdeal.nD Cert.LossFwdIdeal.τ).loc Cert.LossFwdIdeal.main_arg5) = m ((c.tc : Thread Cert.LossFwdIdeal.nD Cert.LossFwdIdeal.τ).loc Cert.LossFwdIdeal.main_arg5)
          ∧ r.2.mem ((c.tc : Thread Cert.LossFwdIdeal.nD Cert.LossFwdIdeal.τ).loc Cert.LossFwdIdeal.main_arg6) = m ((c.tc : Thread Cert.LossFwdIdeal.nD Cert.LossFwdIdeal.τ).loc Cert.LossFwdIdeal.main_arg6)
          ∧ r.2.mem ((c.tc : Thread Cert.LossFwdIdeal.nD Cert.LossFwdIdeal.τ).loc Cert.LossFwdIdeal.main_arg7) = m ((c.tc : Thread Cert.LossFwdIdeal.nD Cert.LossFwdIdeal.τ).loc Cert.LossFwdIdeal.main_arg7)
          ∧ r.2.mem ((c.tc : Thread Cert.LossFwdIdeal.nD Cert.LossFwdIdeal.τ).loc Cert.LossFwdIdeal.main_arg8) = m ((c.tc : Thread Cert.LossFwdIdeal.nD Cert.LossFwdIdeal.τ).loc Cert.LossFwdIdeal.main_arg8)
          ∧ r.2.mem ((c.tc : Thread Cert.LossFwdIdeal.nD Cert.LossFwdIdeal.τ).loc Cert.LossFwdIdeal.main_arg9) = m ((c.tc : Thread Cert.LossFwdIdeal.nD Cert.LossFwdIdeal.τ).loc Cert.LossFwdIdeal.main_arg9)
          ∧ r.2.mem ((c.tc : Thread Cert.LossFwdIdeal.nD Cert.LossFwdIdeal.τ).loc Cert.LossFwdIdeal.main_arg10) = m ((c.tc : Thread Cert.LossFwdIdeal.nD Cert.LossFwdIdeal.τ).loc Cert.LossFwdIdeal.main_arg10))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v58) = v0 c
          ∧ r.2.mem ((c.tc : Thread Cert.LossRefIdeal.nD Cert.LossRefIdeal.τ).loc Cert.LossRefIdeal.main_v6) = v1 c
          ∧ r.2.mem ((c.tc : Thread Cert.LossRefIdeal.nD Cert.LossRefIdeal.τ).loc Cert.LossRefIdeal.main_v40) = v2 c
          ∧ r.2.mem ((c.tc : Thread Cert.LossRefIdeal.nD Cert.LossRefIdeal.τ).loc Cert.LossRefIdeal.main_v62) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7)
          ∧ r.2.mem ((c.tc : Thread Cert.LossRefIdeal.nD Cert.LossRefIdeal.τ).loc Cert.LossRefIdeal.main_arg8) = m' ((c.tc : Thread Cert.LossRefIdeal.nD Cert.LossRefIdeal.τ).loc Cert.LossRefIdeal.main_arg8)
          ∧ r.2.mem ((c.tc : Thread Cert.LossRefIdeal.nD Cert.LossRefIdeal.τ).loc Cert.LossRefIdeal.main_arg9) = m' ((c.tc : Thread Cert.LossRefIdeal.nD Cert.LossRefIdeal.τ).loc Cert.LossRefIdeal.main_arg9)
          ∧ r.2.mem ((c.tc : Thread Cert.LossRefIdeal.nD Cert.LossRefIdeal.τ).loc Cert.LossRefIdeal.main_arg10) = m' ((c.tc : Thread Cert.LossRefIdeal.nD Cert.LossRefIdeal.τ).loc Cert.LossRefIdeal.main_arg10))

def preserves_MidFwd_MidFwdIdeal : Prop :=
  True

def algebraic_MidFwdIdeal_MidRefIdeal [hMidFwdIdeal : Cert.MidFwdIdeal.Facts] [hMidRefIdeal : Cert.MidRefIdeal.Facts] : Prop :=
  ∀ (m : (ℓ : Loc Cert.MidFwdIdeal.nD Cert.MidFwdIdeal.τ Cert.MidFwdIdeal.sig) → Buf (Elt Ideal) ℓ) (g : Dev Cert.MidFwdIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidFwdIdeal m →
    (∀ c : Dev Cert.MidFwdIdeal.nD,
      m' ((c.tc : Thread Cert.MidRefIdeal.nD Cert.MidRefIdeal.τ).loc Cert.MidRefIdeal.main_arg0) = m ((c.tc : Thread Cert.MidFwdIdeal.nD Cert.MidFwdIdeal.τ).loc Cert.MidFwdIdeal.main_arg0)
      ∧ m' ((c.tc : Thread Cert.MidRefIdeal.nD Cert.MidRefIdeal.τ).loc Cert.MidRefIdeal.main_arg1) = m ((c.tc : Thread Cert.MidFwdIdeal.nD Cert.MidFwdIdeal.τ).loc Cert.MidFwdIdeal.main_arg1)
      ∧ m' ((c.tc : Thread Cert.MidRefIdeal.nD Cert.MidRefIdeal.τ).loc Cert.MidRefIdeal.main_arg2) = m ((c.tc : Thread Cert.MidFwdIdeal.nD Cert.MidFwdIdeal.τ).loc Cert.MidFwdIdeal.main_arg2)
      ∧ m' ((c.tc : Thread Cert.MidRefIdeal.nD Cert.MidRefIdeal.τ).loc Cert.MidRefIdeal.main_arg3) = m ((c.tc : Thread Cert.MidFwdIdeal.nD Cert.MidFwdIdeal.τ).loc Cert.MidFwdIdeal.main_arg3)
      ∧ m' ((c.tc : Thread Cert.MidRefIdeal.nD Cert.MidRefIdeal.τ).loc Cert.MidRefIdeal.main_arg4) = m ((c.tc : Thread Cert.MidFwdIdeal.nD Cert.MidFwdIdeal.τ).loc Cert.MidFwdIdeal.main_arg4)
      ∧ m' ((c.tc : Thread Cert.MidRefIdeal.nD Cert.MidRefIdeal.τ).loc Cert.MidRefIdeal.main_arg5) = m ((c.tc : Thread Cert.MidFwdIdeal.nD Cert.MidFwdIdeal.τ).loc Cert.MidFwdIdeal.main_arg5)
      ∧ m' ((c.tc : Thread Cert.MidRefIdeal.nD Cert.MidRefIdeal.τ).loc Cert.MidRefIdeal.main_arg6) = m ((c.tc : Thread Cert.MidFwdIdeal.nD Cert.MidFwdIdeal.τ).loc Cert.MidFwdIdeal.main_arg6)
      ∧ m' ((c.tc : Thread Cert.MidRefIdeal.nD Cert.MidRefIdeal.τ).loc Cert.MidRefIdeal.main_arg7) = m ((c.tc : Thread Cert.MidFwdIdeal.nD Cert.MidFwdIdeal.τ).loc Cert.MidFwdIdeal.main_arg7)
      ∧ m' ((c.tc : Thread Cert.MidRefIdeal.nD Cert.MidRefIdeal.τ).loc Cert.MidRefIdeal.main_arg8) = m ((c.tc : Thread Cert.MidFwdIdeal.nD Cert.MidFwdIdeal.τ).loc Cert.MidFwdIdeal.main_arg8)
      ∧ m' ((c.tc : Thread Cert.MidRefIdeal.nD Cert.MidRefIdeal.τ).loc Cert.MidRefIdeal.main_arg9) = m ((c.tc : Thread Cert.MidFwdIdeal.nD Cert.MidFwdIdeal.τ).loc Cert.MidFwdIdeal.main_arg9)
      ∧ m' ((c.tc : Thread Cert.MidRefIdeal.nD Cert.MidRefIdeal.τ).loc Cert.MidRefIdeal.main_arg10) = m ((c.tc : Thread Cert.MidFwdIdeal.nD Cert.MidFwdIdeal.τ).loc Cert.MidFwdIdeal.main_arg10)
      ∧ m' ((c.tc : Thread Cert.MidRefIdeal.nD Cert.MidRefIdeal.τ).loc Cert.MidRefIdeal.main_arg11) = m ((c.tc : Thread Cert.MidFwdIdeal.nD Cert.MidFwdIdeal.τ).loc Cert.MidFwdIdeal.main_arg11)) →
    ∃ (v0 : (c : Dev Cert.MidFwdIdeal.nD) → Buf (Elt Ideal) ((c.tc : Thread Cert.MidFwdIdeal.nD Cert.MidFwdIdeal.τ).loc Cert.MidFwdIdeal.main_v13_0)) (v1 : (c : Dev Cert.MidFwdIdeal.nD) → Buf (Elt Ideal) ((c.tc : Thread Cert.MidFwdIdeal.nD Cert.MidFwdIdeal.τ).loc Cert.MidFwdIdeal.main_v13_1)) (v2 : (c : Dev Cert.MidFwdIdeal.nD) → Buf (Elt Ideal) ((c.tc : Thread Cert.MidFwdIdeal.nD Cert.MidFwdIdeal.τ).loc Cert.MidFwdIdeal.main_v13_2)) (v3 : (c : Dev Cert.MidFwdIdeal.nD) → Buf (Elt Ideal) ((c.tc : Thread Cert.MidFwdIdeal.nD Cert.MidFwdIdeal.τ).loc Cert.MidFwdIdeal.main_v13_3)),
      θ_run (Cert.MidFwdIdeal.defs (F := Ideal)) (onTc (τ := Cert.MidFwdIdeal.τ) (Cert.MidFwdIdeal.main (F := Ideal))) ⟨m, fun _ => 0, g⟩ (fun r => ∀ c : Dev Cert.MidFwdIdeal.nD,
          r.2.mem ((c.tc : Thread Cert.MidFwdIdeal.nD Cert.MidFwdIdeal.τ).loc Cert.MidFwdIdeal.main_v13_0) = v0 c
          ∧ r.2.mem ((c.tc : Thread Cert.MidFwdIdeal.nD Cert.MidFwdIdeal.τ).loc Cert.MidFwdIdeal.main_v13_1) = v1 c
          ∧ r.2.mem ((c.tc : Thread Cert.MidFwdIdeal.nD Cert.MidFwdIdeal.τ).loc Cert.MidFwdIdeal.main_v13_2) = v2 c
          ∧ r.2.mem ((c.tc : Thread Cert.MidFwdIdeal.nD Cert.MidFwdIdeal.τ).loc Cert.MidFwdIdeal.main_v13_3) = v3 c
          ∧ r.2.mem ((c.tc : Thread Cert.MidFwdIdeal.nD Cert.MidFwdIdeal.τ).loc Cert.MidFwdIdeal.main_arg0) = m ((c.tc : Thread Cert.MidFwdIdeal.nD Cert.MidFwdIdeal.τ).loc Cert.MidFwdIdeal.main_arg0)
          ∧ r.2.mem ((c.tc : Thread Cert.MidFwdIdeal.nD Cert.MidFwdIdeal.τ).loc Cert.MidFwdIdeal.main_arg1) = m ((c.tc : Thread Cert.MidFwdIdeal.nD Cert.MidFwdIdeal.τ).loc Cert.MidFwdIdeal.main_arg1)
          ∧ r.2.mem ((c.tc : Thread Cert.MidFwdIdeal.nD Cert.MidFwdIdeal.τ).loc Cert.MidFwdIdeal.main_arg2) = m ((c.tc : Thread Cert.MidFwdIdeal.nD Cert.MidFwdIdeal.τ).loc Cert.MidFwdIdeal.main_arg2)
          ∧ r.2.mem ((c.tc : Thread Cert.MidFwdIdeal.nD Cert.MidFwdIdeal.τ).loc Cert.MidFwdIdeal.main_arg3) = m ((c.tc : Thread Cert.MidFwdIdeal.nD Cert.MidFwdIdeal.τ).loc Cert.MidFwdIdeal.main_arg3)
          ∧ r.2.mem ((c.tc : Thread Cert.MidFwdIdeal.nD Cert.MidFwdIdeal.τ).loc Cert.MidFwdIdeal.main_arg4) = m ((c.tc : Thread Cert.MidFwdIdeal.nD Cert.MidFwdIdeal.τ).loc Cert.MidFwdIdeal.main_arg4)
          ∧ r.2.mem ((c.tc : Thread Cert.MidFwdIdeal.nD Cert.MidFwdIdeal.τ).loc Cert.MidFwdIdeal.main_arg5) = m ((c.tc : Thread Cert.MidFwdIdeal.nD Cert.MidFwdIdeal.τ).loc Cert.MidFwdIdeal.main_arg5)
          ∧ r.2.mem ((c.tc : Thread Cert.MidFwdIdeal.nD Cert.MidFwdIdeal.τ).loc Cert.MidFwdIdeal.main_arg6) = m ((c.tc : Thread Cert.MidFwdIdeal.nD Cert.MidFwdIdeal.τ).loc Cert.MidFwdIdeal.main_arg6)
          ∧ r.2.mem ((c.tc : Thread Cert.MidFwdIdeal.nD Cert.MidFwdIdeal.τ).loc Cert.MidFwdIdeal.main_arg7) = m ((c.tc : Thread Cert.MidFwdIdeal.nD Cert.MidFwdIdeal.τ).loc Cert.MidFwdIdeal.main_arg7)
          ∧ r.2.mem ((c.tc : Thread Cert.MidFwdIdeal.nD Cert.MidFwdIdeal.τ).loc Cert.MidFwdIdeal.main_arg8) = m ((c.tc : Thread Cert.MidFwdIdeal.nD Cert.MidFwdIdeal.τ).loc Cert.MidFwdIdeal.main_arg8)
          ∧ r.2.mem ((c.tc : Thread Cert.MidFwdIdeal.nD Cert.MidFwdIdeal.τ).loc Cert.MidFwdIdeal.main_arg9) = m ((c.tc : Thread Cert.MidFwdIdeal.nD Cert.MidFwdIdeal.τ).loc Cert.MidFwdIdeal.main_arg9)
          ∧ r.2.mem ((c.tc : Thread Cert.MidFwdIdeal.nD Cert.MidFwdIdeal.τ).loc Cert.MidFwdIdeal.main_arg10) = m ((c.tc : Thread Cert.MidFwdIdeal.nD Cert.MidFwdIdeal.τ).loc Cert.MidFwdIdeal.main_arg10)
          ∧ r.2.mem ((c.tc : Thread Cert.MidFwdIdeal.nD Cert.MidFwdIdeal.τ).loc Cert.MidFwdIdeal.main_arg11) = m ((c.tc : Thread Cert.MidFwdIdeal.nD Cert.MidFwdIdeal.τ).loc Cert.MidFwdIdeal.main_arg11))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v43) = v0 c
          ∧ r.2.mem ((c.tc : Thread Cert.MidRefIdeal.nD Cert.MidRefIdeal.τ).loc Cert.MidRefIdeal.main_v6) = v1 c
          ∧ r.2.mem ((c.tc : Thread Cert.MidRefIdeal.nD Cert.MidRefIdeal.τ).loc Cert.MidRefIdeal.main_v40) = v2 c
          ∧ r.2.mem ((c.tc : Thread Cert.MidRefIdeal.nD Cert.MidRefIdeal.τ).loc Cert.MidRefIdeal.main_v47) = v3 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8)
          ∧ r.2.mem ((c.tc : Thread Cert.MidRefIdeal.nD Cert.MidRefIdeal.τ).loc Cert.MidRefIdeal.main_arg9) = m' ((c.tc : Thread Cert.MidRefIdeal.nD Cert.MidRefIdeal.τ).loc Cert.MidRefIdeal.main_arg9)
          ∧ r.2.mem ((c.tc : Thread Cert.MidRefIdeal.nD Cert.MidRefIdeal.τ).loc Cert.MidRefIdeal.main_arg10) = m' ((c.tc : Thread Cert.MidRefIdeal.nD Cert.MidRefIdeal.τ).loc Cert.MidRefIdeal.main_arg10)
          ∧ r.2.mem ((c.tc : Thread Cert.MidRefIdeal.nD Cert.MidRefIdeal.τ).loc Cert.MidRefIdeal.main_arg11) = m' ((c.tc : Thread Cert.MidRefIdeal.nD Cert.MidRefIdeal.τ).loc Cert.MidRefIdeal.main_arg11))

def preserves_EvenFwd_EvenFwdIdeal : Prop :=
  True

def algebraic_EvenFwdIdeal_EvenFwdRefIdeal [hEvenFwdIdeal : Cert.EvenFwdIdeal.Facts] [hEvenFwdRefIdeal : Cert.EvenFwdRefIdeal.Facts] : Prop :=
  ∀ (m : (ℓ : Loc Cert.EvenFwdIdeal.nD Cert.EvenFwdIdeal.τ Cert.EvenFwdIdeal.sig) → Buf (Elt Ideal) ℓ) (g : Dev Cert.EvenFwdIdeal.nD → PrngReg)
    (m' : (ℓ : Loc Cert.EvenFwdRefIdeal.nD Cert.EvenFwdRefIdeal.τ Cert.EvenFwdRefIdeal.sig) → Buf (Elt Ideal) ℓ) (g' : Dev Cert.EvenFwdRefIdeal.nD → PrngReg), Pre_EvenFwdIdeal m →
    (∀ c : Dev Cert.EvenFwdIdeal.nD,
      m' ((c.tc : Thread Cert.EvenFwdRefIdeal.nD Cert.EvenFwdRefIdeal.τ).loc Cert.EvenFwdRefIdeal.main_arg0) = m ((c.tc : Thread Cert.EvenFwdIdeal.nD Cert.EvenFwdIdeal.τ).loc Cert.EvenFwdIdeal.main_arg0)
      ∧ m' ((c.tc : Thread Cert.EvenFwdRefIdeal.nD Cert.EvenFwdRefIdeal.τ).loc Cert.EvenFwdRefIdeal.main_arg1) = m ((c.tc : Thread Cert.EvenFwdIdeal.nD Cert.EvenFwdIdeal.τ).loc Cert.EvenFwdIdeal.main_arg1)
      ∧ m' ((c.tc : Thread Cert.EvenFwdRefIdeal.nD Cert.EvenFwdRefIdeal.τ).loc Cert.EvenFwdRefIdeal.main_arg2) = m ((c.tc : Thread Cert.EvenFwdIdeal.nD Cert.EvenFwdIdeal.τ).loc Cert.EvenFwdIdeal.main_arg2)
      ∧ m' ((c.tc : Thread Cert.EvenFwdRefIdeal.nD Cert.EvenFwdRefIdeal.τ).loc Cert.EvenFwdRefIdeal.main_arg3) = m ((c.tc : Thread Cert.EvenFwdIdeal.nD Cert.EvenFwdIdeal.τ).loc Cert.EvenFwdIdeal.main_arg3)
      ∧ m' ((c.tc : Thread Cert.EvenFwdRefIdeal.nD Cert.EvenFwdRefIdeal.τ).loc Cert.EvenFwdRefIdeal.main_arg4) = m ((c.tc : Thread Cert.EvenFwdIdeal.nD Cert.EvenFwdIdeal.τ).loc Cert.EvenFwdIdeal.main_arg4)
      ∧ m' ((c.tc : Thread Cert.EvenFwdRefIdeal.nD Cert.EvenFwdRefIdeal.τ).loc Cert.EvenFwdRefIdeal.main_arg5) = m ((c.tc : Thread Cert.EvenFwdIdeal.nD Cert.EvenFwdIdeal.τ).loc Cert.EvenFwdIdeal.main_arg5)
      ∧ m' ((c.tc : Thread Cert.EvenFwdRefIdeal.nD Cert.EvenFwdRefIdeal.τ).loc Cert.EvenFwdRefIdeal.main_arg6) = m ((c.tc : Thread Cert.EvenFwdIdeal.nD Cert.EvenFwdIdeal.τ).loc Cert.EvenFwdIdeal.main_arg6)
      ∧ m' ((c.tc : Thread Cert.EvenFwdRefIdeal.nD Cert.EvenFwdRefIdeal.τ).loc Cert.EvenFwdRefIdeal.main_arg7) = m ((c.tc : Thread Cert.EvenFwdIdeal.nD Cert.EvenFwdIdeal.τ).loc Cert.EvenFwdIdeal.main_arg7)
      ∧ m' ((c.tc : Thread Cert.EvenFwdRefIdeal.nD Cert.EvenFwdRefIdeal.τ).loc Cert.EvenFwdRefIdeal.main_arg8) = m ((c.tc : Thread Cert.EvenFwdIdeal.nD Cert.EvenFwdIdeal.τ).loc Cert.EvenFwdIdeal.main_arg8)) →
    ∃ (v0 : (c : Dev Cert.EvenFwdIdeal.nD) → Buf (Elt Ideal) ((c.tc : Thread Cert.EvenFwdIdeal.nD Cert.EvenFwdIdeal.τ).loc Cert.EvenFwdIdeal.main_v13)),
      θ_run (Cert.EvenFwdIdeal.defs (F := Ideal)) (onTc (τ := Cert.EvenFwdIdeal.τ) (Cert.EvenFwdIdeal.main (F := Ideal))) ⟨m, fun _ => 0, g⟩ (fun r => ∀ c : Dev Cert.EvenFwdIdeal.nD,
          r.2.mem ((c.tc : Thread Cert.EvenFwdIdeal.nD Cert.EvenFwdIdeal.τ).loc Cert.EvenFwdIdeal.main_v13) = v0 c
          ∧ r.2.mem ((c.tc : Thread Cert.EvenFwdIdeal.nD Cert.EvenFwdIdeal.τ).loc Cert.EvenFwdIdeal.main_arg0) = m ((c.tc : Thread Cert.EvenFwdIdeal.nD Cert.EvenFwdIdeal.τ).loc Cert.EvenFwdIdeal.main_arg0)
          ∧ r.2.mem ((c.tc : Thread Cert.EvenFwdIdeal.nD Cert.EvenFwdIdeal.τ).loc Cert.EvenFwdIdeal.main_arg1) = m ((c.tc : Thread Cert.EvenFwdIdeal.nD Cert.EvenFwdIdeal.τ).loc Cert.EvenFwdIdeal.main_arg1)
          ∧ r.2.mem ((c.tc : Thread Cert.EvenFwdIdeal.nD Cert.EvenFwdIdeal.τ).loc Cert.EvenFwdIdeal.main_arg2) = m ((c.tc : Thread Cert.EvenFwdIdeal.nD Cert.EvenFwdIdeal.τ).loc Cert.EvenFwdIdeal.main_arg2)
          ∧ r.2.mem ((c.tc : Thread Cert.EvenFwdIdeal.nD Cert.EvenFwdIdeal.τ).loc Cert.EvenFwdIdeal.main_arg3) = m ((c.tc : Thread Cert.EvenFwdIdeal.nD Cert.EvenFwdIdeal.τ).loc Cert.EvenFwdIdeal.main_arg3)
          ∧ r.2.mem ((c.tc : Thread Cert.EvenFwdIdeal.nD Cert.EvenFwdIdeal.τ).loc Cert.EvenFwdIdeal.main_arg4) = m ((c.tc : Thread Cert.EvenFwdIdeal.nD Cert.EvenFwdIdeal.τ).loc Cert.EvenFwdIdeal.main_arg4)
          ∧ r.2.mem ((c.tc : Thread Cert.EvenFwdIdeal.nD Cert.EvenFwdIdeal.τ).loc Cert.EvenFwdIdeal.main_arg5) = m ((c.tc : Thread Cert.EvenFwdIdeal.nD Cert.EvenFwdIdeal.τ).loc Cert.EvenFwdIdeal.main_arg5)
          ∧ r.2.mem ((c.tc : Thread Cert.EvenFwdIdeal.nD Cert.EvenFwdIdeal.τ).loc Cert.EvenFwdIdeal.main_arg6) = m ((c.tc : Thread Cert.EvenFwdIdeal.nD Cert.EvenFwdIdeal.τ).loc Cert.EvenFwdIdeal.main_arg6)
          ∧ r.2.mem ((c.tc : Thread Cert.EvenFwdIdeal.nD Cert.EvenFwdIdeal.τ).loc Cert.EvenFwdIdeal.main_arg7) = m ((c.tc : Thread Cert.EvenFwdIdeal.nD Cert.EvenFwdIdeal.τ).loc Cert.EvenFwdIdeal.main_arg7)
          ∧ r.2.mem ((c.tc : Thread Cert.EvenFwdIdeal.nD Cert.EvenFwdIdeal.τ).loc Cert.EvenFwdIdeal.main_arg8) = m ((c.tc : Thread Cert.EvenFwdIdeal.nD Cert.EvenFwdIdeal.τ).loc Cert.EvenFwdIdeal.main_arg8))
      ∧ θ_run (Cert.EvenFwdRefIdeal.defs (F := Ideal)) (onTc (τ := Cert.EvenFwdRefIdeal.τ) (Cert.EvenFwdRefIdeal.main (F := Ideal))) ⟨m', fun _ => 0, g'⟩ (fun r => ∀ c : Dev Cert.EvenFwdRefIdeal.nD,
          r.2.mem ((c.tc : Thread Cert.EvenFwdRefIdeal.nD Cert.EvenFwdRefIdeal.τ).loc Cert.EvenFwdRefIdeal.main_v71) = v0 c
          ∧ r.2.mem ((c.tc : Thread Cert.EvenFwdRefIdeal.nD Cert.EvenFwdRefIdeal.τ).loc Cert.EvenFwdRefIdeal.main_arg0) = m' ((c.tc : Thread Cert.EvenFwdRefIdeal.nD Cert.EvenFwdRefIdeal.τ).loc Cert.EvenFwdRefIdeal.main_arg0)
          ∧ r.2.mem ((c.tc : Thread Cert.EvenFwdRefIdeal.nD Cert.EvenFwdRefIdeal.τ).loc Cert.EvenFwdRefIdeal.main_arg1) = m' ((c.tc : Thread Cert.EvenFwdRefIdeal.nD Cert.EvenFwdRefIdeal.τ).loc Cert.EvenFwdRefIdeal.main_arg1)
          ∧ r.2.mem ((c.tc : Thread Cert.EvenFwdRefIdeal.nD Cert.EvenFwdRefIdeal.τ).loc Cert.EvenFwdRefIdeal.main_arg2) = m' ((c.tc : Thread Cert.EvenFwdRefIdeal.nD Cert.EvenFwdRefIdeal.τ).loc Cert.EvenFwdRefIdeal.main_arg2)
          ∧ r.2.mem ((c.tc : Thread Cert.EvenFwdRefIdeal.nD Cert.EvenFwdRefIdeal.τ).loc Cert.EvenFwdRefIdeal.main_arg3) = m' ((c.tc : Thread Cert.EvenFwdRefIdeal.nD Cert.EvenFwdRefIdeal.τ).loc Cert.EvenFwdRefIdeal.main_arg3)
          ∧ r.2.mem ((c.tc : Thread Cert.EvenFwdRefIdeal.nD Cert.EvenFwdRefIdeal.τ).loc Cert.EvenFwdRefIdeal.main_arg4) = m' ((c.tc : Thread Cert.EvenFwdRefIdeal.nD Cert.EvenFwdRefIdeal.τ).loc Cert.EvenFwdRefIdeal.main_arg4)
          ∧ r.2.mem ((c.tc : Thread Cert.EvenFwdRefIdeal.nD Cert.EvenFwdRefIdeal.τ).loc Cert.EvenFwdRefIdeal.main_arg5) = m' ((c.tc : Thread Cert.EvenFwdRefIdeal.nD Cert.EvenFwdRefIdeal.τ).loc Cert.EvenFwdRefIdeal.main_arg5)
          ∧ r.2.mem ((c.tc : Thread Cert.EvenFwdRefIdeal.nD Cert.EvenFwdRefIdeal.τ).loc Cert.EvenFwdRefIdeal.main_arg6) = m' ((c.tc : Thread Cert.EvenFwdRefIdeal.nD Cert.EvenFwdRefIdeal.τ).loc Cert.EvenFwdRefIdeal.main_arg6)
          ∧ r.2.mem ((c.tc : Thread Cert.EvenFwdRefIdeal.nD Cert.EvenFwdRefIdeal.τ).loc Cert.EvenFwdRefIdeal.main_arg7) = m' ((c.tc : Thread Cert.EvenFwdRefIdeal.nD Cert.EvenFwdRefIdeal.τ).loc Cert.EvenFwdRefIdeal.main_arg7)
          ∧ r.2.mem ((c.tc : Thread Cert.EvenFwdRefIdeal.nD Cert.EvenFwdRefIdeal.τ).loc Cert.EvenFwdRefIdeal.main_arg8) = m' ((c.tc : Thread Cert.EvenFwdRefIdeal.nD Cert.EvenFwdRefIdeal.τ).loc Cert.EvenFwdRefIdeal.main_arg8))

def preserves_OddFwd_OddFwdIdeal : Prop :=
  True

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v3) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2))

def Claim : Prop :=
  ∃ (hPostBwd : Cert.PostBwd.Facts) (hPostBwdIdeal : Cert.PostBwdIdeal.Facts) (hPostRefIdeal : Cert.PostRefIdeal.Facts) (hEvenBwd : Cert.EvenBwd.Facts) (hEvenBwdIdeal : Cert.EvenBwdIdeal.Facts) (hEvenRefIdeal : Cert.EvenRefIdeal.Facts) (hOddBwd : Cert.OddBwd.Facts) (hOddBwdIdeal : Cert.OddBwdIdeal.Facts) (hOddRefIdeal : Cert.OddRefIdeal.Facts) (hLossFwd : Cert.LossFwd.Facts) (hLossFwdIdeal : Cert.LossFwdIdeal.Facts) (hLossRefIdeal : Cert.LossRefIdeal.Facts) (hMidFwd : Cert.MidFwd.Facts) (hMidFwdIdeal : Cert.MidFwdIdeal.Facts) (hMidRefIdeal : Cert.MidRefIdeal.Facts) (hEvenFwd : Cert.EvenFwd.Facts) (hEvenFwdIdeal : Cert.EvenFwdIdeal.Facts) (hEvenFwdRefIdeal : Cert.EvenFwdRefIdeal.Facts) (hOddFwd : Cert.OddFwd.Facts) (hOddFwdIdeal : Cert.OddFwdIdeal.Facts) (hOddFwdRefIdeal : Cert.OddFwdRefIdeal.Facts) (hInDx : Cert.InDx.Facts) (hInDxIdeal : Cert.InDxIdeal.Facts) (hInDxRefIdeal : Cert.InDxRefIdeal.Facts) (hPre_post_finite : Cert.Pre_post_finite.Facts),
    quiescent_PostBwd (hPostBwd := hPostBwd)
    ∧ quiescent_PostBwdIdeal (hPostBwdIdeal := hPostBwdIdeal)
    ∧ quiescent_PostBwdIdeal_pre_post_finite (hPostBwdIdeal := hPostBwdIdeal) (hPre_post_finite := hPre_post_finite)
    ∧ quiescent_PostRefIdeal (hPostRefIdeal := hPostRefIdeal)
    ∧ quiescent_PostRefIdeal_pre_post_finite (hPostRefIdeal := hPostRefIdeal) (hPre_post_finite := hPre_post_finite)
    ∧ quiescent_EvenBwd (hEvenBwd := hEvenBwd)
    ∧ quiescent_EvenBwdIdeal (hEvenBwdIdeal := hEvenBwdIdeal)
    ∧ quiescent_EvenRefIdeal (hEvenRefIdeal := hEvenRefIdeal)
    ∧ quiescent_OddBwd (hOddBwd := hOddBwd)
    ∧ quiescent_OddBwdIdeal (hOddBwdIdeal := hOddBwdIdeal)
    ∧ quiescent_OddRefIdeal (hOddRefIdeal := hOddRefIdeal)
    ∧ quiescent_LossFwd (hLossFwd := hLossFwd)
    ∧ quiescent_LossFwdIdeal (hLossFwdIdeal := hLossFwdIdeal)
    ∧ quiescent_LossRefIdeal (hLossRefIdeal := hLossRefIdeal)
    ∧ quiescent_MidFwd (hMidFwd := hMidFwd)
    ∧ quiescent_MidFwdIdeal (hMidFwdIdeal := hMidFwdIdeal)
    ∧ quiescent_MidRefIdeal (hMidRefIdeal := hMidRefIdeal)
    ∧ quiescent_EvenFwd (hEvenFwd := hEvenFwd)
    ∧ quiescent_EvenFwdIdeal (hEvenFwdIdeal := hEvenFwdIdeal)
    ∧ quiescent_EvenFwdRefIdeal (hEvenFwdRefIdeal := hEvenFwdRefIdeal)
    ∧ quiescent_OddFwd (hOddFwd := hOddFwd)
    ∧ quiescent_OddFwdIdeal (hOddFwdIdeal := hOddFwdIdeal)
    ∧ quiescent_OddFwdRefIdeal (hOddFwdRefIdeal := hOddFwdRefIdeal)
    ∧ quiescent_InDx (hInDx := hInDx)
    ∧ quiescent_InDxIdeal (hInDxIdeal := hInDxIdeal)
    ∧ quiescent_InDxRefIdeal (hInDxRefIdeal := hInDxRefIdeal)
    ∧ preserves_PostBwd_PostBwdIdeal
    ∧ algebraic_PostBwdIdeal_PostRefIdeal_pre_post_finite (hPostBwdIdeal := hPostBwdIdeal) (hPostRefIdeal := hPostRefIdeal) (hPre_post_finite := hPre_post_finite)
    ∧ preserves_EvenBwd_EvenBwdIdeal
    ∧ algebraic_EvenBwdIdeal_EvenRefIdeal (hEvenBwdIdeal := hEvenBwdIdeal) (hEvenRefIdeal := hEvenRefIdeal)
    ∧ preserves_OddBwd_OddBwdIdeal
    ∧ preserves_LossFwd_LossFwdIdeal
    ∧ algebraic_LossFwdIdeal_LossRefIdeal (hLossFwdIdeal := hLossFwdIdeal) (hLossRefIdeal := hLossRefIdeal)
    ∧ preserves_MidFwd_MidFwdIdeal
    ∧ algebraic_MidFwdIdeal_MidRefIdeal (hMidFwdIdeal := hMidFwdIdeal) (hMidRefIdeal := hMidRefIdeal)
    ∧ preserves_EvenFwd_EvenFwdIdeal
    ∧ algebraic_EvenFwdIdeal_EvenFwdRefIdeal (hEvenFwdIdeal := hEvenFwdIdeal) (hEvenFwdRefIdeal := hEvenFwdRefIdeal)
    ∧ preserves_OddFwd_OddFwdIdeal
    ∧ preserves_InDx_InDxIdeal
    ∧ algebraic_InDxIdeal_InDxRefIdeal (hInDxIdeal := hInDxIdeal) (hInDxRefIdeal := hInDxRefIdeal)
-- ==== Pre_post_finite.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_

variable [Facts]

def fn_part2 {F : FTy → Type} [FloatOps F] (main_arg10 : FVec F S8192x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S8192x1024 .f32 := Host.absf main_arg10
  let main_cst_14 : FVec F S_ .f32 := constant S_ .f32 0x7F800000#32
  let main_v33 : FVec F S8192x1024 .f32 := broadcastInDim S8192x1024 ![] bcast_S_S8192x1024 main_cst_14
  let main_v34 : IVec S8192x1024 1 := cmpf .olt main_v32 main_v33
  let main_c_15 : IVec S_ 1 := constantI S_ 1 1#1
  let main_v35 : IVec S_ 1 := (fun x v => Host.reduce IntOp.andi x v reducesTo_S8192x1024_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1024 .f32) (main_arg5 : FVec F S1024 .f32) (main_arg7 : FVec F S256x1024 .f32) (main_arg8 : FVec F S1024x1024 .f32) (main_arg10 : FVec F S8192x1024 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S256x1024 .f32 := Host.absf main_arg7
  let main_cst_10 : FVec F S_ .f32 := constant S_ .f32 0x7F800000#32
  let main_v25 : FVec F S256x1024 .f32 := broadcastInDim S256x1024 ![] bcast_S_S256x1024 main_cst_10
  let main_v26 : IVec S256x1024 1 := cmpf .olt main_v24 main_v25
  let main_c_11 : IVec S_ 1 := constantI S_ 1 1#1
  let main_v27 : IVec S_ 1 := (fun x v => Host.reduce IntOp.andi x v reducesTo_S256x1024_S_d0_1 h_S_) main_v26 main_c_11
  let main_v28 : FVec F S1024x1024 .f32 := Host.absf main_arg8
  let main_cst_12 : FVec F S_ .f32 := constant S_ .f32 0x7F800000#32
  let main_v29 : FVec F S1024x1024 .f32 := broadcastInDim S1024x1024 ![] bcast_S_S1024x1024 main_cst_12
  let main_v30 : IVec S1024x1024 1 := cmpf .olt main_v28 main_v29
  let main_c_13 : IVec S_ 1 := constantI S_ 1 1#1
  let main_v31 : IVec S_ 1 := (fun x v => Host.reduce IntOp.andi x v reducesTo_S1024x1024_S_d0_1 h_S_) main_v30 main_c_13
  fn_part2 (F := F) main_arg10 main_v3 main_v7 main_v11 main_v15 main_v19 main_v23 main_v27 main_v31

def fn {F : FTy → Type} [FloatOps F] (main_arg0 : FVec F S8192x1024 .f32) (main_arg1 : FVec F S8192x1024 .f32) (main_arg2 : FVec F S8192x256 .f32) (main_arg3 : FVec F S1024x1024 .f32) (main_arg4 : FVec F S1024 .f32) (main_arg5 : FVec F S1024 .f32) (main_arg6 : FVec F S1024 .f32) (main_arg7 : FVec F S256x1024 .f32) (main_arg8 : FVec F S1024x1024 .f32) (main_arg9 : FVec F S1024 .f32) (main_arg10 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S8192x256 .f32 := Host.absf main_arg2
  let main_cst_2 : FVec F S_ .f32 := constant S_ .f32 0x7F800000#32
  let main_v9 : FVec F S8192x256 .f32 := broadcastInDim S8192x256 ![] bcast_S_S8192x256 main_cst_2
  let main_v10 : IVec S8192x256 1 := cmpf .olt main_v8 main_v9
  let main_c_3 : IVec S_ 1 := constantI S_ 1 1#1
  let main_v11 : IVec S_ 1 := (fun x v => Host.reduce IntOp.andi x v reducesTo_S8192x256_S_d0_1 h_S_) main_v10 main_c_3
  let main_v12 : FVec F S1024x1024 .f32 := Host.absf main_arg3
  let main_cst_4 : FVec F S_ .f32 := constant S_ .f32 0x7F800000#32
  let main_v13 : FVec F S1024x1024 .f32 := broadcastInDim S1024x1024 ![] bcast_S_S1024x1024 main_cst_4
  let main_v14 : IVec S1024x1024 1 := cmpf .olt main_v12 main_v13
  let main_c_5 : IVec S_ 1 := constantI S_ 1 1#1
  let main_v15 : IVec S_ 1 := (fun x v => Host.reduce IntOp.andi x v reducesTo_S1024x1024_S_d0_1 h_S_) main_v14 main_c_5
  fn_part1 (F := F) main_arg4 main_arg5 main_arg7 main_arg8 main_arg10 main_v3 main_v7 main_v11 main_v15
-- ==== PostBwd.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S4x1024 : Shape := ⟨2, ![4, 1024]⟩
abbrev S8x1024 : Shape := ⟨2, ![8, 1024]⟩
abbrev S1x8192x256 : Shape := ⟨3, ![1, 8192, 256]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 72
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S8192x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S4x1024, .f32⟩
  | .hbm, ⟨60, _⟩ => ⟨S8x1024, .f32⟩
  | .hbm, ⟨61, _⟩ => ⟨S1x8192x256, .f32⟩
  | .hbm, ⟨62, _⟩ => ⟨S8192x1024, .bf16⟩
  | .hbm, ⟨63, _⟩ => ⟨S1024x1024, .bf16⟩
  | .hbm, ⟨64, _⟩ => ⟨S1024x1024, .bf16⟩
  | .hbm, ⟨65, _⟩ => ⟨S256x1024, .bf16⟩
  | .hbm, ⟨66, _⟩ => ⟨S8192x1024, .f32⟩
  | .hbm, ⟨67, _⟩ => ⟨S8192x1024, .f32⟩
  | .hbm, ⟨68, _⟩ => ⟨S1024x1024, .f32⟩
  | .hbm, ⟨69, _⟩ => ⟨S1024x1024, .f32⟩
  | .hbm, ⟨70, _⟩ => ⟨S256x1024, .f32⟩
  | .hbm, ⟨71, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x512x256, .f32⟩
  | .local _ .vmem, ⟨7, _⟩ => ⟨S1x512x256, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S256x1024, .bf16⟩
  | .local _ .vmem, ⟨13, _⟩ => ⟨S8x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1024x1024, .f32⟩
  | .local _ .vmem, ⟨19, _⟩ => ⟨S1024x1024, .f32⟩
  | .local _ .vmem, ⟨20, _⟩ => ⟨S256x1024, .f32⟩
  | .local _ .vmem, ⟨21, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46_0 : Ref sig .tc := ⟨.hbm, 66, rfl⟩
abbrev main_v46_1 : Ref sig .tc := ⟨.hbm, 67, rfl⟩
abbrev main_v46_2 : Ref sig .tc := ⟨.hbm, 68, rfl⟩
abbrev main_v46_3 : Ref sig .tc := ⟨.hbm, 69, rfl⟩
abbrev main_v46_4 : Ref sig .tc := ⟨.hbm, 70, rfl⟩
abbrev main_v46_5 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== PostRefIdeal.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩
abbrev S1024x256 : Shape := ⟨2, ![1024, 256]⟩
abbrev S4x1024 : Shape := ⟨2, ![4, 1024]⟩
abbrev S8x1024 : Shape := ⟨2, ![8, 1024]⟩

abbrev nBuf : Space → Nat
  | .hbm => 154
  | .vmem => 0
  | .smem => 0
  | _ => 0

abbrev hbmTy0_0 (i : Nat) : BufTy := match i % 128 with
  | 0 => ⟨S8192x1024, .f32⟩
  | 1 => ⟨S8192x1024, .f32⟩
  | 2 => ⟨S8192x256, .f32⟩
  | 3 => ⟨S1024x1024, .f32⟩
  | 4 => ⟨S1024, .f32⟩
  | 5 => ⟨S1024, .f32⟩
  | 6 => ⟨S1024, .f32⟩
  | 7 => ⟨S256x1024, .f32⟩
  | 8 => ⟨S1024x1024, .f32⟩
  | 9 => ⟨S1024, .f32⟩
  | 10 => ⟨S8192x1024, .f32⟩
  | 11 => ⟨S_, .f32⟩
  | 12 => ⟨S8192x1024, .f32⟩
  | 13 => ⟨S8192x1024, .f32⟩
  | 14 => ⟨S8192x1024, .f32⟩
  | 15 => ⟨S8192x1024, .f32⟩
  | 16 => ⟨S1x1024, .f32⟩
  | 17 => ⟨S8192x1024, .f32⟩
  | 18 => ⟨S8192x1024, .f32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S8192x1024, .f32⟩
  | 38 => ⟨S8192x1024, .f32⟩
  | 39 => ⟨S_, .f32⟩
  | 40 => ⟨S8192x1, .f32⟩
  | 41 => ⟨S8192x1, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x1024, .f32⟩
  | 48 => ⟨S8192x1024, .f32⟩
  | 49 => ⟨S1x1024, .f32⟩
  | 50 => ⟨S8192x1024, .f32⟩
  | 51 => ⟨S8192x1024, .f32⟩
  | 52 => ⟨S1x1024, .f32⟩
  | 53 => ⟨S8192x1024, .f32⟩
  | 54 => ⟨S8192x1024, .f32⟩
  | 55 => ⟨S8192x1024, .f32⟩
  | 56 => ⟨S1x1024, .f32⟩
  | 57 => ⟨S8192x1024, .f32⟩
  | 58 => ⟨S8192x1024, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S1024x256, .f32⟩
  | 79 => ⟨S256x1024, .f32⟩
  | 80 => ⟨S8192x256, .f32⟩
  | 81 => ⟨S8192x1024, .f32⟩
  | 82 => ⟨S_, .f32⟩
  | 83 => ⟨S1024, .f32⟩
  | 84 => ⟨S1x1024, .f32⟩
  | 85 => ⟨S_, .f32⟩
  | 86 => ⟨S1024, .f32⟩
  | 87 => ⟨S1024x1024, .f32⟩
  | 88 => ⟨S1024x1024, .f32⟩
  | 89 => ⟨S8192x1024, .f32⟩
  | 90 => ⟨S8192x1024, .f32⟩
  | 91 => ⟨S_, .f32⟩
  | 92 => ⟨S1024, .f32⟩
  | 93 => ⟨S1x1024, .f32⟩
  | 94 => ⟨S_, .f32⟩
  | 95 => ⟨S1024, .f32⟩
  | 96 => ⟨S8192x1024, .f32⟩
  | 97 => ⟨S_, .f32⟩
  | 98 => ⟨S1024, .f32⟩
  | 99 => ⟨S1x1024, .f32⟩
  | 100 => ⟨S8192x1024, .f32⟩
  | 101 => ⟨S8192x1024, .f32⟩
  | 102 => ⟨S_, .f32⟩
  | 103 => ⟨S1024, .f32⟩
  | 104 => ⟨S8192x1024, .f32⟩
  | 105 => ⟨S_, .f32⟩
  | 106 => ⟨S8192, .f32⟩
  | 107 => ⟨S8192x1, .f32⟩
  | 108 => ⟨S8192x1024, .f32⟩
  | 109 => ⟨S8192x1024, .f32⟩
  | 110 => ⟨S8192x1, .f32⟩
  | 111 => ⟨S8192x1024, .f32⟩
  | 112 => ⟨S_, .f32⟩
  | 113 => ⟨S8192, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192, .f32⟩
  | 120 => ⟨S8192x1024, .f32⟩
  | 121 => ⟨S8192x1024, .f32⟩
  | 122 => ⟨S8192x1024, .f32⟩
  | 123 => ⟨S_, .f32⟩
  | 124 => ⟨S8192, .f32⟩
  | 125 => ⟨S8192x1, .f32⟩
  | 126 => ⟨S8192x1024, .f32⟩
  | 127 => ⟨S8192x1, .f32⟩
  | _ => ⟨S8192x1024, .f32⟩

abbrev hbmTy0_1 (i : Nat) : BufTy := match i % 128 with
  | 0 => ⟨S_, .f32⟩
  | 1 => ⟨S8192x1, .f32⟩
  | 2 => ⟨S8192x1, .f32⟩
  | 3 => ⟨S_, .f32⟩
  | 4 => ⟨S8192, .f32⟩
  | 5 => ⟨S8192x1024, .f32⟩
  | 6 => ⟨S8192x1024, .f32⟩
  | 7 => ⟨S_, .f32⟩
  | 8 => ⟨S1024, .f32⟩
  | 9 => ⟨S1x1024, .f32⟩
  | 10 => ⟨S_, .f32⟩
  | 11 => ⟨S1024, .f32⟩
  | 12 => ⟨S1024x1024, .f32⟩
  | 13 => ⟨S1024x1024, .f32⟩
  | 14 => ⟨S8192x1024, .f32⟩
  | 15 => ⟨S_, .f32⟩
  | 16 => ⟨S8192x1024, .f32⟩
  | 17 => ⟨S8192x1024, .f32⟩
  | 18 => ⟨S1x1024, .f32⟩
  | 19 => ⟨S1x1024, .f32⟩
  | 20 => ⟨S1x1024, .f32⟩
  | 21 => ⟨S1x1024, .f32⟩
  | 22 => ⟨S4x1024, .f32⟩
  | 23 => ⟨S_, .f32⟩
  | 24 => ⟨S4x1024, .f32⟩
  | 25 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_cst_16 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_17 : Ref sig .tc := ⟨.hbm, 112, rfl⟩
abbrev main_v83 : Ref sig .tc := ⟨.hbm, 113, rfl⟩
abbrev main_v84 : Ref sig .tc := ⟨.hbm, 114, rfl⟩
abbrev main_cst_18 : Ref sig .tc := ⟨.hbm, 115, rfl⟩
abbrev main_v85 : Ref sig .tc := ⟨.hbm, 116, rfl⟩
abbrev main_v86 : Ref sig .tc := ⟨.hbm, 117, rfl⟩
abbrev main_cst_19 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_20 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_21 : Ref sig .tc := ⟨.hbm, 128, rfl⟩
abbrev main_v95 : Ref sig .tc := ⟨.hbm, 129, rfl⟩
abbrev main_v96 : Ref sig .tc := ⟨.hbm, 130, rfl⟩
abbrev main_cst_22 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_23 : Ref sig .tc := ⟨.hbm, 135, rfl⟩
abbrev main_v100 : Ref sig .tc := ⟨.hbm, 136, rfl⟩
abbrev main_v101 : Ref sig .tc := ⟨.hbm, 137, rfl⟩
abbrev main_cst_24 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_25 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_26 : Ref sig .tc := ⟨.hbm, 151, rfl⟩
abbrev main_v113 : Ref sig .tc := ⟨.hbm, 152, rfl⟩
abbrev main_v114 : Ref sig .tc := ⟨.hbm, 153, rfl⟩

abbrev nD : Nat := 1
abbrev τ : Topo := Topo.v7x

variable {F : FTy → Type} [FloatOps F]
-- ==== EvenBwd.lean ====
abbrev S2x4096x3072 : Shape := ⟨3, ![2, 4096, 3072]⟩
abbrev S31x512 : Shape := ⟨2, ![31, 512]⟩
abbrev S512 : Shape := ⟨1, ![512]⟩
abbrev S8x128x128 : Shape := ⟨3, ![8, 128, 128]⟩
abbrev S8x128 : Shape := ⟨2, ![8, 128]⟩
abbrev S2x4096x1024 : Shape := ⟨3, ![2, 4096, 1024]⟩
abbrev S2x4096x512 : Shape := ⟨3, ![2, 4096, 512]⟩
abbrev S_ : Shape := ⟨0, ![]⟩
abbrev S2x30x512 : Shape := ⟨3, ![2, 30, 512]⟩
abbrev S2x4126x512 : Shape := ⟨3, ![2, 4126, 512]⟩
abbrev S1x512 : Shape := ⟨2, ![1, 512]⟩
abbrev S1x1x512 : Shape := ⟨3, ![1, 1, 512]⟩
abbrev S32x512 : Shape := ⟨2, ![32, 512]⟩
abbrev S3x512 : Shape := ⟨2, ![3, 512]⟩
abbrev S8x512 : Shape := ⟨2, ![8, 512]⟩
abbrev S128x8 : Shape := ⟨2, ![128, 8]⟩
abbrev S128x8x64 : Shape := ⟨3, ![128, 8, 64]⟩
abbrev S128x512 : Shape := ⟨2, ![128, 512]⟩
abbrev S1x3072 : Shape := ⟨2, ![1, 3072]⟩
abbrev S1x512x3072 : Shape := ⟨3, ![1, 512, 3072]⟩
abbrev S1x32x3072 : Shape := ⟨3, ![1, 32, 3072]⟩
abbrev S1x512x1024 : Shape := ⟨3, ![1, 512, 1024]⟩
abbrev S1x32x1024 : Shape := ⟨3, ![1, 32, 1024]⟩
abbrev S1x512x512 : Shape := ⟨3, ![1, 512, 512]⟩
abbrev S1x32x512 : Shape := ⟨3, ![1, 32, 512]⟩
abbrev S584x512 : Shape := ⟨2, ![584, 512]⟩
abbrev S7x576x512 : Shape := ⟨3, ![7, 576, 512]⟩
abbrev S544x512 : Shape := ⟨2, ![544, 512]⟩
abbrev S552x512 : Shape := ⟨2, ![552, 512]⟩
abbrev S32x8x512 : Shape := ⟨3, ![32, 8, 512]⟩
abbrev S32x3072 : Shape := ⟨2, ![32, 3072]⟩
abbrev S1x64x512 : Shape := ⟨3, ![1, 64, 512]⟩
abbrev S64x512 : Shape := ⟨2, ![64, 512]⟩
abbrev S32x1024 : Shape := ⟨2, ![32, 1024]⟩
abbrev S576x512 : Shape := ⟨2, ![576, 512]⟩
abbrev S1x576x512 : Shape := ⟨3, ![1, 576, 512]⟩
abbrev S1x128x512 : Shape := ⟨3, ![1, 128, 512]⟩
abbrev S128 : Shape := ⟨1, ![128]⟩
abbrev S128x1 : Shape := ⟨2, ![128, 1]⟩
abbrev S32 : Shape := ⟨1, ![32]⟩
abbrev S32x1 : Shape := ⟨2, ![32, 1]⟩
abbrev S1x8x512 : Shape := ⟨3, ![1, 8, 512]⟩
abbrev S4x8x512 : Shape := ⟨3, ![4, 8, 512]⟩
abbrev S1x544x512 : Shape := ⟨3, ![1, 544, 512]⟩
abbrev S128x128 : Shape := ⟨2, ![128, 128]⟩
abbrev S1x128x128 : Shape := ⟨3, ![1, 128, 128]⟩

abbrev nBuf : Space → Nat
  | .hbm => 268
  | .vmem => 32
  | .smem => 0
  | _ => 0

abbrev hbmTy0_0 (i : Nat) : BufTy := match i % 128 with
  | 0 => ⟨S2x4096x3072, .f32⟩
  | 1 => ⟨S31x512, .f32⟩
  | 2 => ⟨S512, .f32⟩
  | 3 => ⟨S512, .f32⟩
  | 4 => ⟨S512, .f32⟩
  | 5 => ⟨S512, .f32⟩
  | 6 => ⟨S512, .f32⟩
  | 7 => ⟨S8x128x128, .f32⟩
  | 8 => ⟨S8x128, .f32⟩
  | 9 => ⟨S2x4096x1024, .f32⟩
  | 10 => ⟨S2x4096x512, .f32⟩
  | 11 => ⟨S2x4096x512, .f32⟩
  | 12 => ⟨S2x4096x512, .f32⟩
  | 13 => ⟨S2x4096x512, .f32⟩
  | 14 => ⟨S_, .f32⟩
  | 15 => ⟨S2x4096x512, .f32⟩
  | 16 => ⟨S2x4096x512, .f32⟩
  | 17 => ⟨S_, .f32⟩
  | 18 => ⟨S2x4096x512, .f32⟩
  | 19 => ⟨S2x4096x512, .f32⟩
  | 20 => ⟨S2x4096x512, .f32⟩
  | 21 => ⟨S_, .f32⟩
  | 22 => ⟨S2x30x512, .f32⟩
  | 23 => ⟨S2x4126x512, .f32⟩
  | 24 => ⟨S2x4096x512, .f32⟩
  | 25 => ⟨S1x512, .f32⟩
  | 26 => ⟨S512, .f32⟩
  | 27 => ⟨S1x1x512, .f32⟩
  | 28 => ⟨S2x4096x512, .f32⟩
  | 29 => ⟨S2x4096x512, .f32⟩
  | 30 => ⟨S2x4096x512, .f32⟩
  | 31 => ⟨S1x512, .f32⟩
  | 32 => ⟨S512, .f32⟩
  | 33 => ⟨S1x1x512, .f32⟩
  | 34 => ⟨S2x4096x512, .f32⟩
  | 35 => ⟨S2x4096x512, .f32⟩
  | 36 => ⟨S2x4096x512, .f32⟩
  | 37 => ⟨S2x4096x512, .f32⟩
  | 38 => ⟨S1x512, .f32⟩
  | 39 => ⟨S512, .f32⟩
  | 40 => ⟨S1x1x512, .f32⟩
  | 41 => ⟨S2x4096x512, .f32⟩
  | 42 => ⟨S2x4096x512, .f32⟩
  | 43 => ⟨S2x4096x512, .f32⟩
  | 44 => ⟨S2x4096x512, .f32⟩
  | 45 => ⟨S1x512, .f32⟩
  | 46 => ⟨S512, .f32⟩
  | 47 => ⟨S1x1x512, .f32⟩
  | 48 => ⟨S2x4096x512, .f32⟩
  | 49 => ⟨S2x4096x512, .f32⟩
  | 50 => ⟨S2x4096x512, .f32⟩
  | 51 => ⟨S2x4096x512, .f32⟩
  | 52 => ⟨S1x512, .f32⟩
  | 53 => ⟨S512, .f32⟩
  | 54 => ⟨S1x1x512, .f32⟩
  | 55 => ⟨S2x4096x512, .f32⟩
  | 56 => ⟨S2x4096x512, .f32⟩
  | 57 => ⟨S2x4096x512, .f32⟩
  | 58 => ⟨S2x4096x512, .f32⟩
  | 59 => ⟨S1x512, .f32⟩
  | 60 => ⟨S512, .f32⟩
  | 61 => ⟨S1x1x512, .f32⟩
  | 62 => ⟨S2x4096x512, .f32⟩
  | 63 => ⟨S2x4096x512, .f32⟩
  | 64 => ⟨S2x4096x512, .f32⟩
  | 65 => ⟨S2x4096x512, .f32⟩
  | 66 => ⟨S1x512, .f32⟩
  | 67 => ⟨S512, .f32⟩
  | 68 => ⟨S1x1x512, .f32⟩
  | 69 => ⟨S2x4096x512, .f32⟩
  | 70 => ⟨S2x4096x512, .f32⟩
  | 71 => ⟨S2x4096x512, .f32⟩
  | 72 => ⟨S2x4096x512, .f32⟩
  | 73 => ⟨S1x512, .f32⟩
  | 74 => ⟨S512, .f32⟩
  | 75 => ⟨S1x1x512, .f32⟩
  | 76 => ⟨S2x4096x512, .f32⟩
  | 77 => ⟨S2x4096x512, .f32⟩
  | 78 => ⟨S2x4096x512, .f32⟩
  | 79 => ⟨S2x4096x512, .f32⟩
  | 80 => ⟨S1x512, .f32⟩
  | 81 => ⟨S512, .f32⟩
  | 82 => ⟨S1x1x512, .f32⟩
  | 83 => ⟨S2x4096x512, .f32⟩
  | 84 => ⟨S2x4096x512, .f32⟩
  | 85 => ⟨S2x4096x512, .f32⟩
  | 86 => ⟨S2x4096x512, .f32⟩
  | 87 => ⟨S1x512, .f32⟩
  | 88 => ⟨S512, .f32⟩
  | 89 => ⟨S1x1x512, .f32⟩
  | 90 => ⟨S2x4096x512, .f32⟩
  | 91 => ⟨S2x4096x512, .f32⟩
  | 92 => ⟨S2x4096x512, .f32⟩
  | 93 => ⟨S2x4096x512, .f32⟩
  | 94 => ⟨S1x512, .f32⟩
  | 95 => ⟨S512, .f32⟩
  | 96 => ⟨S1x1x512, .f32⟩
  | 97 => ⟨S2x4096x512, .f32⟩
  | 98 => ⟨S2x4096x512, .f32⟩
  | 99 => ⟨S2x4096x512, .f32⟩
  | 100 => ⟨S2x4096x512, .f32⟩
  | 101 => ⟨S1x512, .f32⟩
  | 102 => ⟨S512, .f32⟩
  | 103 => ⟨S1x1x512, .f32⟩
  | 104 => ⟨S2x4096x512, .f32⟩
  | 105 => ⟨S2x4096x512, .f32⟩
  | 106 => ⟨S2x4096x512, .f32⟩
  | 107 => ⟨S2x4096x512, .f32⟩
  | 108 => ⟨S1x512, .f32⟩
  | 109 => ⟨S512, .f32⟩
  | 110 => ⟨S1x1x512, .f32⟩
  | 111 => ⟨S2x4096x512, .f32⟩
  | 112 => ⟨S2x4096x512, .f32⟩
  | 113 => ⟨S2x4096x512, .f32⟩
  | 114 => ⟨S2x4096x512, .f32⟩
  | 115 => ⟨S1x512, .f32⟩
  | 116 => ⟨S512, .f32⟩
  | 117 => ⟨S1x1x512, .f32⟩
  | 118 => ⟨S2x4096x512, .f32⟩
  | 119 => ⟨S2x4096x512, .f32⟩
  | 120 => ⟨S2x4096x512, .f32⟩
  | 121 => ⟨S2x4096x512, .f32⟩
  | 122 => ⟨S1x512, .f32⟩
  | 123 => ⟨S512, .f32⟩
  | 124 => ⟨S1x1x512, .f32⟩
  | 125 => ⟨S2x4096x512, .f32⟩
  | 126 => ⟨S2x4096x512, .f32⟩
  | 127 => ⟨S2x4096x512, .f32⟩
  | _ => ⟨S2x4096x3072, .f32⟩

abbrev hbmTy0_1 (i : Nat) : BufTy := match i % 128 with
  | 0 => ⟨S2x4096x512, .f32⟩
  | 1 => ⟨S1x512, .f32⟩
  | 2 => ⟨S512, .f32⟩
  | 3 => ⟨S1x1x512, .f32⟩
  | 4 => ⟨S2x4096x512, .f32⟩
  | 5 => ⟨S2x4096x512, .f32⟩
  | 6 => ⟨S2x4096x512, .f32⟩
  | 7 => ⟨S2x4096x512, .f32⟩
  | 8 => ⟨S1x512, .f32⟩
  | 9 => ⟨S512, .f32⟩
  | 10 => ⟨S1x1x512, .f32⟩
  | 11 => ⟨S2x4096x512, .f32⟩
  | 12 => ⟨S2x4096x512, .f32⟩
  | 13 => ⟨S2x4096x512, .f32⟩
  | 14 => ⟨S2x4096x512, .f32⟩
  | 15 => ⟨S1x512, .f32⟩
  | 16 => ⟨S512, .f32⟩
  | 17 => ⟨S1x1x512, .f32⟩
  | 18 => ⟨S2x4096x512, .f32⟩
  | 19 => ⟨S2x4096x512, .f32⟩
  | 20 => ⟨S2x4096x512, .f32⟩
  | 21 => ⟨S2x4096x512, .f32⟩
  | 22 => ⟨S1x512, .f32⟩
  | 23 => ⟨S512, .f32⟩
  | 24 => ⟨S1x1x512, .f32⟩
  | 25 => ⟨S2x4096x512, .f32⟩
  | 26 => ⟨S2x4096x512, .f32⟩
  | 27 => ⟨S2x4096x512, .f32⟩
  | 28 => ⟨S2x4096x512, .f32⟩
  | 29 => ⟨S1x512, .f32⟩
  | 30 => ⟨S512, .f32⟩
  | 31 => ⟨S1x1x512, .f32⟩
  | 32 => ⟨S2x4096x512, .f32⟩
  | 33 => ⟨S2x4096x512, .f32⟩
  | 34 => ⟨S2x4096x512, .f32⟩
  | 35 => ⟨S2x4096x512, .f32⟩
  | 36 => ⟨S1x512, .f32⟩
  | 37 => ⟨S512, .f32⟩
  | 38 => ⟨S1x1x512, .f32⟩
  | 39 => ⟨S2x4096x512, .f32⟩
  | 40 => ⟨S2x4096x512, .f32⟩
  | 41 => ⟨S2x4096x512, .f32⟩
  | 42 => ⟨S2x4096x512, .f32⟩
  | 43 => ⟨S1x512, .f32⟩
  | 44 => ⟨S512, .f32⟩
  | 45 => ⟨S1x1x512, .f32⟩
  | 46 => ⟨S2x4096x512, .f32⟩
  | 47 => ⟨S2x4096x512, .f32⟩
  | 48 => ⟨S2x4096x512, .f32⟩
  | 49 => ⟨S2x4096x512, .f32⟩
  | 50 => ⟨S1x512, .f32⟩
  | 51 => ⟨S512, .f32⟩
  | 52 => ⟨S1x1x512, .f32⟩
  | 53 => ⟨S2x4096x512, .f32⟩
  | 54 => ⟨S2x4096x512, .f32⟩
  | 55 => ⟨S2x4096x512, .f32⟩
  | 56 => ⟨S2x4096x512, .f32⟩
  | 57 => ⟨S1x512, .f32⟩
  | 58 => ⟨S512, .f32⟩
  | 59 => ⟨S1x1x512, .f32⟩
  | 60 => ⟨S2x4096x512, .f32⟩
  | 61 => ⟨S2x4096x512, .f32⟩
  | 62 => ⟨S2x4096x512, .f32⟩
  | 63 => ⟨S2x4096x512, .f32⟩
  | 64 => ⟨S1x512, .f32⟩
  | 65 => ⟨S512, .f32⟩
  | 66 => ⟨S1x1x512, .f32⟩
  | 67 => ⟨S2x4096x512, .f32⟩
  | 68 => ⟨S2x4096x512, .f32⟩
  | 69 => ⟨S2x4096x512, .f32⟩
  | 70 => ⟨S2x4096x512, .f32⟩
  | 71 => ⟨S1x512, .f32⟩
  | 72 => ⟨S512, .f32⟩
  | 73 => ⟨S1x1x512, .f32⟩
  | 74 => ⟨S2x4096x512, .f32⟩
  | 75 => ⟨S2x4096x512, .f32⟩
  | 76 => ⟨S2x4096x512, .f32⟩
  | 77 => ⟨S2x4096x512, .f32⟩
  | 78 => ⟨S1x512, .f32⟩
  | 79 => ⟨S512, .f32⟩
  | 80 => ⟨S1x1x512, .f32⟩
  | 81 => ⟨S2x4096x512, .f32⟩
  | 82 => ⟨S2x4096x512, .f32⟩
  | 83 => ⟨S2x4096x512, .f32⟩
  | 84 => ⟨S2x4096x512, .f32⟩
  | 85 => ⟨S1x512, .f32⟩
  | 86 => ⟨S512, .f32⟩
  | 87 => ⟨S1x1x512, .f32⟩
  | 88 => ⟨S2x4096x512, .f32⟩
  | 89 => ⟨S2x4096x512, .f32⟩
  | 90 => ⟨S2x4096x512, .f32⟩
  | 91 => ⟨S2x4096x512, .f32⟩
  | 92 => ⟨S1x512, .f32⟩
  | 93 => ⟨S512, .f32⟩
  | 94 => ⟨S1x1x512, .f32⟩
  | 95 => ⟨S2x4096x512, .f32⟩
  | 96 => ⟨S2x4096x512, .f32⟩
  | 97 => ⟨S2x4096x512, .f32⟩
  | 98 => ⟨S2x4096x512, .f32⟩
  | 99 => ⟨S1x512, .f32⟩
  | 100 => ⟨S512, .f32⟩
  | 101 => ⟨S1x1x512, .f32⟩
  | 102 => ⟨S2x4096x512, .f32⟩
  | 103 => ⟨S2x4096x512, .f32⟩
  | 104 => ⟨S2x4096x512, .f32⟩
  | 105 => ⟨S2x4096x512, .f32⟩
  | 106 => ⟨S1x512, .f32⟩
  | 107 => ⟨S512, .f32⟩
  | 108 => ⟨S1x1x512, .f32⟩
  | 109 => ⟨S2x4096x512, .f32⟩
  | 110 => ⟨S2x4096x512, .f32⟩
  | 111 => ⟨S2x4096x512, .f32⟩
  | 112 => ⟨S1x1x512, .f32⟩
  | 113 => ⟨S2x4096x512, .f32⟩
  | 114 => ⟨S2x4096x512, .f32⟩
  | 115 => ⟨S_, .f32⟩
  | 116 => ⟨S1x512, .f32⟩
  | 117 => ⟨S32x512, .f32⟩
  | 118 => ⟨S1x512, .f32⟩
  | 119 => ⟨S1x512, .f32⟩
  | 120 => ⟨S1x512, .f32⟩
  | 121 => ⟨S1x512, .f32⟩
  | 122 => ⟨S1x512, .f32⟩
  | 123 => ⟨S_, .f32⟩
  | 124 => ⟨S3x512, .f32⟩
  | 125 => ⟨S8x512, .f32⟩
  | 126 => ⟨S128x8, .f32⟩
  | 127 => ⟨S128x8x64, .f32⟩
  | _ => ⟨S2x4096x3072, .f32⟩

abbrev hbmTy0_2 (i : Nat) : BufTy := match i % 128 with
  | 0 => ⟨S128x512, .f32⟩
  | 1 => ⟨S8x128x128, .f32⟩
  | 2 => ⟨S2x4096x3072, .bf16⟩
  | 3 => ⟨S1x3072, .f32⟩
  | 4 => ⟨S32x512, .f32⟩
  | 5 => ⟨S8x512, .f32⟩
  | 6 => ⟨S8x128x128, .f32⟩
  | 7 => ⟨S128x512, .f32⟩
  | 8 => ⟨S1x512, .f32⟩
  | 9 => ⟨S512, .f32⟩
  | 10 => ⟨S1x512, .f32⟩
  | 11 => ⟨S512, .f32⟩
  | _ => ⟨S2x4096x3072, .f32⟩

abbrev hbmTy (i : Nat) : BufTy := match i / 128 with
  | 0 => hbmTy0_0 i
  | 1 => hbmTy0_1 i
  | 2 => hbmTy0_2 i
  | _ => ⟨S2x4096x3072, .f32⟩

abbrev bufTy : (tb : Table) → Fin (tcTables nBuf tb) → BufTy
  | .hbm, ⟨i, _⟩ => hbmTy i
  | .local _ .vmem, ⟨0, _⟩ => ⟨S1x512x3072, .f32⟩
  | .local _ .vmem, ⟨1, _⟩ => ⟨S1x512x3072, .f32⟩
  | .local _ .vmem, ⟨2, _⟩ => ⟨S1x32x3072, .f32⟩
  | .local _ .vmem, ⟨3, _⟩ => ⟨S1x32x3072, .f32⟩
  | .local _ .vmem, ⟨4, _⟩ => ⟨S1x32x3072, .f32⟩
  | .local _ .vmem, ⟨5, _⟩ => ⟨S1x32x3072, .f32⟩
  | .local _ .vmem, ⟨6, _⟩ => ⟨S1x512x1024, .f32⟩
  | .local _ .vmem, ⟨7, _⟩ => ⟨S1x512x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x512x512, .f32⟩
  | .local _ .vmem, ⟨11, _⟩ => ⟨S1x512x512, .f32⟩
  | .local _ .vmem, ⟨12, _⟩ => ⟨S1x32x512, .f32⟩
  | .local _ .vmem, ⟨13, _⟩ => ⟨S1x32x512, .f32⟩
  | .local _ .vmem, ⟨14, _⟩ => ⟨S32x512, .f32⟩
  | .local _ .vmem, ⟨15, _⟩ => ⟨S8x512, .f32⟩
  | .local _ .vmem, ⟨16, _⟩ => ⟨S8x128x128, .f32⟩
  | .local _ .vmem, ⟨17, _⟩ => ⟨S8x128x128, .f32⟩
  | .local _ .vmem, ⟨18, _⟩ => ⟨S128x512, .f32⟩
  | .local _ .vmem, ⟨19, _⟩ => ⟨S1x512x3072, .bf16⟩
  | .local _ .vmem, ⟨20, _⟩ => ⟨S1x512x3072, .bf16⟩
  | .local _ .vmem, ⟨21, _⟩ => ⟨S1x3072, .f32⟩
  | .local _ .vmem, ⟨22, _⟩ => ⟨S32x512, .f32⟩
  | .local _ .vmem, ⟨23, _⟩ => ⟨S8x512, .f32⟩
  | .local _ .vmem, ⟨24, _⟩ => ⟨S8x128x128, .f32⟩
  | .local _ .vmem, ⟨25, _⟩ => ⟨S128x512, .f32⟩
  | .local _ .vmem, ⟨26, _⟩ => ⟨S584x512, .f32⟩
  | .local _ .vmem, ⟨27, _⟩ => ⟨S7x576x512, .f32⟩
  | .local _ .vmem, ⟨28, _⟩ => ⟨S544x512, .f32⟩
  | .local _ .vmem, ⟨29, _⟩ => ⟨S544x512, .f32⟩
  | .local _ .vmem, ⟨30, _⟩ => ⟨S552x512, .f32⟩
  | .local _ .vmem, ⟨31, _⟩ => ⟨S32x8x512, .f32⟩
  | _, _ => ⟨S2x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_cst_2 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_cst_3 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243_0 : Ref sig .tc := ⟨.hbm, 258, rfl⟩
abbrev main_v243_1 : Ref sig .tc := ⟨.hbm, 259, rfl⟩
abbrev main_v243_2 : Ref sig .tc := ⟨.hbm, 260, rfl⟩
abbrev main_v243_3 : Ref sig .tc := ⟨.hbm, 261, rfl⟩
abbrev main_v243_4 : Ref sig .tc := ⟨.hbm, 262, rfl⟩
abbrev main_v243_5 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩
abbrev main_v247 : Ref sig .tc := ⟨.hbm, 267, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_205 : BitVec 32 := 0#32
  let c4_i32 : BitVec 32 := 4#32
  let v281 : BitVec 32 := Scalar.addi c0_i32_205 c4_i32
  let c1_i32 : BitVec 32 := 1#32
  ⟨c0_i32_205, v281, c1_i32⟩
def k0_mult1 (k0_t1 : Fin k0_t1_loop.trips) : BitVec 32 :=
  let c0_i32_205 : BitVec 32 := 0#32
  let c1_i32 : BitVec 32 := 1#32
  let arg26 : BitVec 32 := Scf.iv c0_i32_205 c1_i32 k0_t1
  let c128_i32 : BitVec 32 := 128#32
  let v408 : BitVec 32 := Scalar.muli arg26 c128_i32
  v408
def k0_off1 (k0_t1 : Fin k0_t1_loop.trips) : Fin 3 → Nat :=
  let c0_300 : Index := 0#32
  let c0_i32_205 : BitVec 32 := 0#32
  let c1_i32 : BitVec 32 := 1#32
  let arg26 : BitVec 32 := Scf.iv c0_i32_205 c1_i32 k0_t1
  let c128_i32 : BitVec 32 := 128#32
  let v408 : BitVec 32 := Scalar.muli arg26 c128_i32
  let v409 : BitVec 32 := v408
  let v410 : Index := Scalar.indexCast v409
  let c0_301 : Index := 0#32
  ![0, v410.toNat, 0]
def k0_off2 (k0_t1 : Fin k0_t1_loop.trips) : Fin 2 → Nat :=
  let c0_i32_205 : BitVec 32 := 0#32
  let c1_i32 : BitVec 32 := 1#32
  let arg26 : BitVec 32 := Scf.iv c0_i32_205 c1_i32 k0_t1
  let c128_i32 : BitVec 32 := 128#32
  let v408 : BitVec 32 := Scalar.muli arg26 c128_i32
  let v409 : BitVec 32 := v408
  let v451 : Index := Scalar.indexCast v409
  let c0_316 : Index := 0#32
  ![v451.toNat, 0]
def k0_off3 (k0_t1 : Fin k0_t1_loop.trips) : Fin 2 → Nat :=
  let c0_i32_205 : BitVec 32 := 0#32
  let c1_i32 : BitVec 32 := 1#32
  let arg26 : BitVec 32 := Scf.iv c0_i32_205 c1_i32 k0_t1
  let c128_i32 : BitVec 32 := 128#32
  let v408 : BitVec 32 := Scalar.muli arg26 c128_i32
  let v409 : BitVec 32 := v408
  let v491 : Index := Scalar.indexCast v409
  let c0_329 : Index := 0#32
  ![v491.toNat, 0]
def k0_off4 (k0_t1 : Fin k0_t1_loop.trips) : Fin 3 → Nat :=
  let c0_330 : Index := 0#32
  let c0_i32_205 : BitVec 32 := 0#32
  let c1_i32 : BitVec 32 := 1#32
  let arg26 : BitVec 32 := Scf.iv c0_i32_205 c1_i32 k0_t1
  let c128_i32 : BitVec 32 := 128#32
  let v408 : BitVec 32 := Scalar.muli arg26 c128_i32
  let v409 : BitVec 32 := v408
  let v498 : Index := Scalar.indexCast v409
  let c1024_331 : Index := 1024#32
  ![0, v498.toNat, 1024]
@[reducible] def k0_t2_loop : Scf.Loop 32 :=
  let c0_i32_247 : BitVec 32 := 0#32
  let c16_i32 : BitVec 32 := 16#32
  let v366 : BitVec 32 := Scalar.addi c0_i32_247 c16_i32
  let c1_i32_248 : BitVec 32 := 1#32
  ⟨c0_i32_247, v366, c1_i32_248⟩
def k0_mult2 (k0_t2 : Fin k0_t2_loop.trips) : BitVec 32 :=
  let c0_i32_247 : BitVec 32 := 0#32
  let c1_i32_248 : BitVec 32 := 1#32
  let arg26 : BitVec 32 := Scf.iv c0_i32_247 c1_i32_248 k0_t2
  let c32_i32 : BitVec 32 := 32#32
  let v408 : BitVec 32 := Scalar.muli arg26 c32_i32
  v408
def k0_off5 (k0_t2 : Fin k0_t2_loop.trips) : Fin 2 → Nat :=
  let c0_i32_247 : BitVec 32 := 0#32
  let c1_i32_248 : BitVec 32 := 1#32
  let arg26 : BitVec 32 := Scf.iv c0_i32_247 c1_i32_248 k0_t2
  let c32_i32 : BitVec 32 := 32#32
  let v408 : BitVec 32 := Scalar.muli arg26 c32_i32
  let v409 : BitVec 32 := v408
  let v410 : Index := Scalar.indexCast v409
  let c0_300 : Index := 0#32
  ![v410.toNat, 0]
def k0_off6 (k0_t2 : Fin k0_t2_loop.trips) (c0_i32_301 : BitVec 32) : Fin 3 → Nat :=
  let c1_302 : Index := 1#32
  let c0_i32_247 : BitVec 32 := 0#32
  let c1_i32_248 : BitVec 32 := 1#32
  let arg26 : BitVec 32 := Scf.iv c0_i32_247 c1_i32_248 k0_t2
  let c32_i32 : BitVec 32 := 32#32
  let v408 : BitVec 32 := Scalar.muli arg26 c32_i32
  let v409 : BitVec 32 := v408
  let v412 : BitVec 32 := Scalar.addi v409 c0_i32_301
  let v413 : Index := Scalar.indexCast v412
  let c0_303 : Index := 0#32
  ![1, v413.toNat, 0]
def k0_off7 (k0_t2 : Fin k0_t2_loop.trips) (c0_i32_311 : BitVec 32) : Fin 3 → Nat :=
  let c2_312 : Index := 2#32
  let c0_i32_247 : BitVec 32 := 0#32
  let c1_i32_248 : BitVec 32 := 1#32
  let arg26 : BitVec 32 := Scf.iv c0_i32_247 c1_i32_248 k0_t2
  let c32_i32 : BitVec 32 := 32#32
  let v408 : BitVec 32 := Scalar.muli arg26 c32_i32
  let v409 : BitVec 32 := v408
  let v425 : BitVec 32 := Scalar.addi v409 c0_i32_311
  let v426 : Index := Scalar.indexCast v425
  let c0_313 : Index := 0#32
  ![2, v426.toNat, 0]
def k0_off8 (k0_t2 : Fin k0_t2_loop.trips) (c0_i32_321 : BitVec 32) : Fin 3 → Nat :=
  let c3_322 : Index := 3#32
  let c0_i32_247 : BitVec 32 := 0#32
  let c1_i32_248 : BitVec 32 := 1#32
  let arg26 : BitVec 32 := Scf.iv c0_i32_247 c1_i32_248 k0_t2
  let c32_i32 : BitVec 32 := 32#32
  let v408 : BitVec 32 := Scalar.muli arg26 c32_i32
  let v409 : BitVec 32 := v408
  let v438 : BitVec 32 := Scalar.addi v409 c0_i32_321
  let v439 : Index := Scalar.indexCast v438
  let c0_323 : Index := 0#32
  ![3, v439.toNat, 0]
def k0_off9 (k0_t2 : Fin k0_t2_loop.trips) (c0_i32_331 : BitVec 32) : Fin 3 → Nat :=
  let c4_332 : Index := 4#32
  let c0_i32_247 : BitVec 32 := 0#32
  let c1_i32_248 : BitVec 32 := 1#32
  let arg26 : BitVec 32 := Scf.iv c0_i32_247 c1_i32_248 k0_t2
  let c32_i32 : BitVec 32 := 32#32
  let v408 : BitVec 32 := Scalar.muli arg26 c32_i32
  let v409 : BitVec 32 := v408
  let v451 : BitVec 32 := Scalar.addi v409 c0_i32_331
  let v452 : Index := Scalar.indexCast v451
  let c0_333 : Index := 0#32
  ![4, v452.toNat, 0]
def k0_off10 (k0_t2 : Fin k0_t2_loop.trips) (c0_i32_341 : BitVec 32) : Fin 3 → Nat :=
  let c5_342 : Index := 5#32
  let c0_i32_247 : BitVec 32 := 0#32
  let c1_i32_248 : BitVec 32 := 1#32
  let arg26 : BitVec 32 := Scf.iv c0_i32_247 c1_i32_248 k0_t2
  let c32_i32 : BitVec 32 := 32#32
  let v408 : BitVec 32 := Scalar.muli arg26 c32_i32
  let v409 : BitVec 32 := v408
  let v464 : BitVec 32 := Scalar.addi v409 c0_i32_341
  let v465 : Index := Scalar.indexCast v464
  let c0_343 : Index := 0#32
  ![5, v465.toNat, 0]
def k0_off11 (k0_t2 : Fin k0_t2_loop.trips) (c0_i32_351 : BitVec 32) : Fin 3 → Nat :=
  let c6_352 : Index := 6#32
  let c0_i32_247 : BitVec 32 := 0#32
  let c1_i32_248 : BitVec 32 := 1#32
  let arg26 : BitVec 32 := Scf.iv c0_i32_247 c1_i32_248 k0_t2
  let c32_i32 : BitVec 32 := 32#32
  let v408 : BitVec 32 := Scalar.muli arg26 c32_i32
  let v409 : BitVec 32 := v408
  let v477 : BitVec 32 := Scalar.addi v409 c0_i32_351
  let v478 : Index := Scalar.indexCast v477
  let c0_353 : Index := 0#32
  ![6, v478.toNat, 0]
def k0_off12 (k0_t2 : Fin k0_t2_loop.trips) (c8_i32_361 : BitVec 32) : Fin 2 → Nat :=
  let c0_i32_247 : BitVec 32 := 0#32
  let c1_i32_248 : BitVec 32 := 1#32
  let arg26 : BitVec 32 := Scf.iv c0_i32_247 c1_i32_248 k0_t2
  let c32_i32 : BitVec 32 := 32#32
  let v408 : BitVec 32 := Scalar.muli arg26 c32_i32
  let v409 : BitVec 32 := v408
  let v490 : BitVec 32 := Scalar.addi v409 c8_i32_361
  let v491 : Index := Scalar.indexCast v490
  let c0_362 : Index := 0#32
  ![v491.toNat, 0]
def k0_off13 (k0_t2 : Fin k0_t2_loop.trips) (c8_i32_370 : BitVec 32) : Fin 3 → Nat :=
  let c0_371 : Index := 0#32
  let c0_i32_247 : BitVec 32 := 0#32
  let c1_i32_248 : BitVec 32 := 1#32
  let arg26 : BitVec 32 := Scf.iv c0_i32_247 c1_i32_248 k0_t2
  let c32_i32 : BitVec 32 := 32#32
  let v408 : BitVec 32 := Scalar.muli arg26 c32_i32
  let v409 : BitVec 32 := v408
  let v502 : BitVec 32 := Scalar.addi v409 c8_i32_370
  let v503 : Index := Scalar.indexCast v502
  let c0_372 : Index := 0#32
  ![0, v503.toNat, 0]
@[reducible] def k0_t3_loop : Scf.Loop 32 :=
  let c0_i32_293 : BitVec 32 := 0#32
  let c8_i32 : BitVec 32 := 8#32
  let v401 : BitVec 32 := Scalar.addi c0_i32_293 c8_i32
  let c1_i32_294 : BitVec 32 := 1#32
  ⟨c0_i32_293, v401, c1_i32_294⟩
def k0_mult3 (k0_t3 : Fin k0_t3_loop.trips) : BitVec 32 :=
  let c0_i32_293 : BitVec 32 := 0#32
  let c1_i32_294 : BitVec 32 := 1#32
  let arg26 : BitVec 32 := Scf.iv c0_i32_293 c1_i32_294 k0_t3
  let c64_i32 : BitVec 32 := 64#32
  let v408 : BitVec 32 := Scalar.muli arg26 c64_i32
  v408
def k0_off14 (k0_t3 : Fin k0_t3_loop.trips) (c0_i32_301 : BitVec 32) : Fin 2 → Nat :=
  let c0_i32_293 : BitVec 32 := 0#32
  let c1_i32_294 : BitVec 32 := 1#32
  let arg26 : BitVec 32 := Scf.iv c0_i32_293 c1_i32_294 k0_t3
  let c64_i32 : BitVec 32 := 64#32
  let v408 : BitVec 32 := Scalar.muli arg26 c64_i32
  let v409 : BitVec 32 := v408
  let v411 : BitVec 32 := Scalar.addi v409 c0_i32_301
  let v412 : Index := Scalar.indexCast v411
  let c0_302 : Index := 0#32
  ![v412.toNat, 0]
def k0_off15 (k0_t3 : Fin k0_t3_loop.trips) (c0_i32_304 : BitVec 32) : Fin 3 → Nat :=
  let c0_305 : Index := 0#32
  let c0_i32_293 : BitVec 32 := 0#32
  let c1_i32_294 : BitVec 32 := 1#32
  let arg26 : BitVec 32 := Scf.iv c0_i32_293 c1_i32_294 k0_t3
  let c64_i32 : BitVec 32 := 64#32
  let v408 : BitVec 32 := Scalar.muli arg26 c64_i32
  let v409 : BitVec 32 := v408
  let v419 : BitVec 32 := Scalar.addi v409 c0_i32_304
  let v420 : Index := Scalar.indexCast v419
  let c0_306 : Index := 0#32
  ![0, v420.toNat, 0]
def k0_off16 (k0_t3 : Fin k0_t3_loop.trips) (c0_i32_308 : BitVec 32) : Fin 3 → Nat :=
  let c1_309 : Index := 1#32
  let c0_i32_293 : BitVec 32 := 0#32
  let c1_i32_294 : BitVec 32 := 1#32
  let arg26 : BitVec 32 := Scf.iv c0_i32_293 c1_i32_294 k0_t3
  let c64_i32 : BitVec 32 := 64#32
  let v408 : BitVec 32 := Scalar.muli arg26 c64_i32
  let v409 : BitVec 32 := v408
  let v428 : BitVec 32 := Scalar.addi v409 c0_i32_308
  let v429 : Index := Scalar.indexCast v428
  let c0_310 : Index := 0#32
  ![1, v429.toNat, 0]
def k0_off17 (k0_t3 : Fin k0_t3_loop.trips) (c0_i32_312 : BitVec 32) : Fin 3 → Nat :=
  let c2_313 : Index := 2#32
  let c0_i32_293 : BitVec 32 := 0#32
  let c1_i32_294 : BitVec 32 := 1#32
  let arg26 : BitVec 32 := Scf.iv c0_i32_293 c1_i32_294 k0_t3
  let c64_i32 : BitVec 32 := 64#32
  let v408 : BitVec 32 := Scalar.muli arg26 c64_i32
  let v409 : BitVec 32 := v408
  let v437 : BitVec 32 := Scalar.addi v409 c0_i32_312
  let v438 : Index := Scalar.indexCast v437
  let c0_314 : Index := 0#32
  ![2, v438.toNat, 0]
def k0_off18 (k0_t3 : Fin k0_t3_loop.trips) (c0_i32_316 : BitVec 32) : Fin 3 → Nat :=
  let c3_317 : Index := 3#32
  let c0_i32_293 : BitVec 32 := 0#32
  let c1_i32_294 : BitVec 32 := 1#32
  let arg26 : BitVec 32 := Scf.iv c0_i32_293 c1_i32_294 k0_t3
  let c64_i32 : BitVec 32 := 64#32
  let v408 : BitVec 32 := Scalar.muli arg26 c64_i32
  let v409 : BitVec 32 := v408
  let v446 : BitVec 32 := Scalar.addi v409 c0_i32_316
  let v447 : Index := Scalar.indexCast v446
  let c0_318 : Index := 0#32
  ![3, v447.toNat, 0]
def k0_off19 (k0_t3 : Fin k0_t3_loop.trips) (c0_i32_320 : BitVec 32) : Fin 3 → Nat :=
  let c4_321 : Index := 4#32
  let c0_i32_293 : BitVec 32 := 0#32
  let c1_i32_294 : BitVec 32 := 1#32
  let arg26 : BitVec 32 := Scf.iv c0_i32_293 c1_i32_294 k0_t3
  let c64_i32 : BitVec 32 := 64#32
  let v408 : BitVec 32 := Scalar.muli arg26 c64_i32
  let v409 : BitVec 32 := v408
  let v455 : BitVec 32 := Scalar.addi v409 c0_i32_320
  let v456 : Index := Scalar.indexCast v455
  let c0_322 : Index := 0#32
  ![4, v456.toNat, 0]
def k0_off20 (k0_t3 : Fin k0_t3_loop.trips) (c0_i32_324 : BitVec 32) : Fin 3 → Nat :=
  let c5_325 : Index := 5#32
  let c0_i32_293 : BitVec 32 := 0#32
  let c1_i32_294 : BitVec 32 := 1#32
  let arg26 : BitVec 32 := Scf.iv c0_i32_293 c1_i32_294 k0_t3
  let c64_i32 : BitVec 32 := 64#32
  let v408 : BitVec 32 := Scalar.muli arg26 c64_i32
  let v409 : BitVec 32 := v408
  let v464 : BitVec 32 := Scalar.addi v409 c0_i32_324
  let v465 : Index := Scalar.indexCast v464
  let c0_326 : Index := 0#32
  ![5, v465.toNat, 0]
def k0_off21 (k0_t3 : Fin k0_t3_loop.trips) (c0_i32_328 : BitVec 32) : Fin 3 → Nat :=
  let c6_329 : Index := 6#32
  let c0_i32_293 : BitVec 32 := 0#32
  let c1_i32_294 : BitVec 32 := 1#32
  let arg26 : BitVec 32 := Scf.iv c0_i32_293 c1_i32_294 k0_t3
  let c64_i32 : BitVec 32 := 64#32
  let v408 : BitVec 32 := Scalar.muli arg26 c64_i32
  let v409 : BitVec 32 := v408
  let v473 : BitVec 32 := Scalar.addi v409 c0_i32_328
  let v474 : Index := Scalar.indexCast v473
  let c0_330 : Index := 0#32
  ![6, v474.toNat, 0]
def k0_off22 (k0_t3 : Fin k0_t3_loop.trips) : Fin 3 → Nat :=
  let c0_428 : Index := 0#32
  let c0_i32_293 : BitVec 32 := 0#32
  let c1_i32_294 : BitVec 32 := 1#32
  let arg26 : BitVec 32 := Scf.iv c0_i32_293 c1_i32_294 k0_t3
  let c64_i32 : BitVec 32 := 64#32
  let v408 : BitVec 32 := Scalar.muli arg26 c64_i32
  let v409 : BitVec 32 := v408
  let v686 : Index := Scalar.indexCast v409
  let c0_429 : Index := 0#32
  ![0, v686.toNat, 0]
def k0_off23 (k0_t3 : Fin k0_t3_loop.trips) : Fin 3 → Nat :=
  let c0_430 : Index := 0#32
  let c0_i32_293 : BitVec 32 := 0#32
  let c1_i32_294 : BitVec 32 := 1#32
  let arg26 : BitVec 32 := Scf.iv c0_i32_293 c1_i32_294 k0_t3
  let c64_i32 : BitVec 32 := 64#32
  let v408 : BitVec 32 := Scalar.muli arg26 c64_i32
  let v409 : BitVec 32 := v408
  let v689 : Index := Scalar.indexCast v409
  let c512_431 : Index := 512#32
  ![0, v689.toNat, 512]
@[reducible] def k0_t4_loop : Scf.Loop 32 :=
  let c0_i32_296 : BitVec 32 := 0#32
  let c4_i32_297 : BitVec 32 := 4#32
  let v407 : BitVec 32 := Scalar.addi c0_i32_296 c4_i32_297
  let c1_i32_298 : BitVec 32 := 1#32
  ⟨c0_i32_296, v407, c1_i32_298⟩
def k0_mult4 (k0_t4 : Fin k0_t4_loop.trips) : BitVec 32 :=
  let c0_i32_296 : BitVec 32 := 0#32
  let c1_i32_298 : BitVec 32 := 1#32
  let arg26 : BitVec 32 := Scf.iv c0_i32_296 c1_i32_298 k0_t4
  let c128_i32 : BitVec 32 := 128#32
  let v408 : BitVec 32 := Scalar.muli arg26 c128_i32
  v408
def k0_off24 (k0_t4 : Fin k0_t4_loop.trips) : Fin 3 → Nat :=
  let c0_300 : Index := 0#32
  let c0_i32_296 : BitVec 32 := 0#32
  let c1_i32_298 : BitVec 32 := 1#32
  let arg26 : BitVec 32 := Scf.iv c0_i32_296 c1_i32_298 k0_t4
  let c128_i32 : BitVec 32 := 128#32
  let v408 : BitVec 32 := Scalar.muli arg26 c128_i32
  let v409 : BitVec 32 := v408
  let v410 : Index := Scalar.indexCast v409
  let c1536 : Index := 1536#32
  ![0, v410.toNat, 1536]
def k0_off25 (k0_t4 : Fin k0_t4_loop.trips) : Fin 3 → Nat :=
  let c0_312 : Index := 0#32
  let c0_i32_296 : BitVec 32 := 0#32
  let c1_i32_298 : BitVec 32 := 1#32
  let arg26 : BitVec 32 := Scf.iv c0_i32_296 c1_i32_298 k0_t4
  let c128_i32 : BitVec 32 := 128#32
  let v408 : BitVec 32 := Scalar.muli arg26 c128_i32
  let v409 : BitVec 32 := v408
  let v444 : Index := Scalar.indexCast v409
  let c2048 : Index := 2048#32
  ![0, v444.toNat, 2048]
def k0_off26 (k0_t4 : Fin k0_t4_loop.trips) : Fin 3 → Nat :=
  let c0_324 : Index := 0#32
  let c0_i32_296 : BitVec 32 := 0#32
  let c1_i32_298 : BitVec 32 := 1#32
  let arg26 : BitVec 32 := Scf.iv c0_i32_296 c1_i32_298 k0_t4
  let c128_i32 : BitVec 32 := 128#32
  let v408 : BitVec 32 := Scalar.muli arg26 c128_i32
  let v409 : BitVec 32 := v408
  let v478 : Index := Scalar.indexCast v409
  let c2560 : Index := 2560#32
  ![0, v478.toNat, 2560]
def k0_off27 (k0_t4 : Fin k0_t4_loop.trips) : Fin 3 → Nat :=
  let c0_384 : Index := 0#32
  let c0_i32_296 : BitVec 32 := 0#32
  let c1_i32_298 : BitVec 32 := 1#32
  let arg26 : BitVec 32 := Scf.iv c0_i32_296 c1_i32_298 k0_t4
  let c128_i32 : BitVec 32 := 128#32
  let v408 : BitVec 32 := Scalar.muli arg26 c128_i32
  let v409 : BitVec 32 := v408
  let v589 : Index := Scalar.indexCast v409
  let c512_385 : Index := 512#32
  ![0, v589.toNat, 512]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S32x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S8x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S8x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== EvenRefIdeal.lean ====
abbrev S2x4096x3072 : Shape := ⟨3, ![2, 4096, 3072]⟩
abbrev S31x512 : Shape := ⟨2, ![31, 512]⟩
abbrev S512 : Shape := ⟨1, ![512]⟩
abbrev S8x128x128 : Shape := ⟨3, ![8, 128, 128]⟩
abbrev S8x128 : Shape := ⟨2, ![8, 128]⟩
abbrev S2x4096x1024 : Shape := ⟨3, ![2, 4096, 1024]⟩
abbrev S128x8 : Shape := ⟨2, ![128, 8]⟩
abbrev S128x8x64 : Shape := ⟨3, ![128, 8, 64]⟩
abbrev S128x512 : Shape := ⟨2, ![128, 512]⟩
abbrev S2x4096x1536 : Shape := ⟨3, ![2, 4096, 1536]⟩
abbrev S2x4096x512 : Shape := ⟨3, ![2, 4096, 512]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S2x32x128x8x64 : Shape := ⟨5, ![2, 32, 128, 8, 64]⟩
abbrev S128x128 : Shape := ⟨2, ![128, 128]⟩
abbrev S1x128x128 : Shape := ⟨3, ![1, 128, 128]⟩
abbrev S8x2x32x64x128 : Shape := ⟨5, ![8, 2, 32, 64, 128]⟩
abbrev S2x32x128x512 : Shape := ⟨4, ![2, 32, 128, 512]⟩
abbrev S1x1x128x512 : Shape := ⟨4, ![1, 1, 128, 512]⟩

abbrev nBuf : Space → Nat
  | .hbm => 146
  | .vmem => 0
  | .smem => 0
  | _ => 0

abbrev hbmTy0_0 (i : Nat) : BufTy := match i % 128 with
  | 0 => ⟨S2x4096x3072, .f32⟩
  | 1 => ⟨S31x512, .f32⟩
  | 2 => ⟨S512, .f32⟩
  | 3 => ⟨S512, .f32⟩
  | 4 => ⟨S512, .f32⟩
  | 5 => ⟨S512, .f32⟩
  | 6 => ⟨S512, .f32⟩
  | 7 => ⟨S8x128x128, .f32⟩
  | 8 => ⟨S8x128, .f32⟩
  | 9 => ⟨S2x4096x1024, .f32⟩
  | 10 => ⟨S128x8, .f32⟩
  | 11 => ⟨S128x8x64, .f32⟩
  | 12 => ⟨S128x512, .f32⟩
  | 13 => ⟨S2x4096x1536, .f32⟩
  | 14 => ⟨S2x4096x512, .f32⟩
  | 15 => ⟨S2x4096x512, .f32⟩
  | 16 => ⟨S2x4096x512, .f32⟩
  | 17 => ⟨S2x4096x512, .f32⟩
  | 18 => ⟨S2x4096x512, .f32⟩
  | 19 => ⟨S_, .f32⟩
  | 20 => ⟨S2x4096x512, .f32⟩
  | 21 => ⟨S2x4096x512, .f32⟩
  | 22 => ⟨S2x4096x512, .f32⟩
  | 23 => ⟨S_, .f32⟩
  | 24 => ⟨S2x4096x512, .f32⟩
  | 25 => ⟨S2x4096x512, .f32⟩
  | 26 => ⟨S2x4096x512, .f32⟩
  | 27 => ⟨S_, .f32⟩
  | 28 => ⟨S2x4096x512, .f32⟩
  | 29 => ⟨S2x4096x512, .f32⟩
  | 30 => ⟨S_, .f32⟩
  | 31 => ⟨S2x4096x512, .f32⟩
  | 32 => ⟨S2x4096x512, .f32⟩
  | 33 => ⟨S2x4096x512, .f32⟩
  | 34 => ⟨S2x4096x512, .f32⟩
  | 35 => ⟨S2x4096x512, .f32⟩
  | 36 => ⟨S_, .f32⟩
  | 37 => ⟨S2x4096x512, .f32⟩
  | 38 => ⟨S2x4096x512, .f32⟩
  | 39 => ⟨S2x4096x512, .f32⟩
  | 40 => ⟨S_, .f32⟩
  | 41 => ⟨S2x4096x512, .f32⟩
  | 42 => ⟨S2x4096x512, .f32⟩
  | 43 => ⟨S2x4096x512, .f32⟩
  | 44 => ⟨S_, .f32⟩
  | 45 => ⟨S2x4096x512, .f32⟩
  | 46 => ⟨S2x4096x512, .f32⟩
  | 47 => ⟨S_, .f32⟩
  | 48 => ⟨S2x4096x512, .f32⟩
  | 49 => ⟨S2x4096x512, .f32⟩
  | 50 => ⟨S2x4096x512, .f32⟩
  | 51 => ⟨S_, .f32⟩
  | 52 => ⟨S2x4096, .f32⟩
  | 53 => ⟨S2x4096x1, .f32⟩
  | 54 => ⟨S_, .f32⟩
  | 55 => ⟨S2x4096x1, .f32⟩
  | 56 => ⟨S2x4096x1, .f32⟩
  | 57 => ⟨S2x4096x512, .f32⟩
  | 58 => ⟨S2x4096x512, .f32⟩
  | 59 => ⟨S2x4096x512, .f32⟩
  | 60 => ⟨S_, .f32⟩
  | 61 => ⟨S2x4096, .f32⟩
  | 62 => ⟨S2x4096x1, .f32⟩
  | 63 => ⟨S_, .f32⟩
  | 64 => ⟨S2x4096x1, .f32⟩
  | 65 => ⟨S2x4096x1, .f32⟩
  | 66 => ⟨S2x4096x512, .f32⟩
  | 67 => ⟨S2x4096x512, .f32⟩
  | 68 => ⟨S_, .f32⟩
  | 69 => ⟨S2x4096x1, .f32⟩
  | 70 => ⟨S2x4096x1, .f32⟩
  | 71 => ⟨S2x4096x1, .f32⟩
  | 72 => ⟨S2x4096x512, .f32⟩
  | 73 => ⟨S2x4096x512, .f32⟩
  | 74 => ⟨S1x1x512, .f32⟩
  | 75 => ⟨S2x4096x512, .f32⟩
  | 76 => ⟨S2x4096x512, .f32⟩
  | 77 => ⟨S1x1x512, .f32⟩
  | 78 => ⟨S2x4096x512, .f32⟩
  | 79 => ⟨S2x4096x512, .f32⟩
  | 80 => ⟨S2x32x128x8x64, .f32⟩
  | 81 => ⟨S_, .i1⟩
  | 82 => ⟨S128x128, .i1⟩
  | 83 => ⟨S128x128, .i32⟩
  | 84 => ⟨S_, .i32⟩
  | 85 => ⟨S128x128, .i32⟩
  | 86 => ⟨S128x128, .i32⟩
  | 87 => ⟨S128x128, .i32⟩
  | 88 => ⟨S128x128, .i1⟩
  | 89 => ⟨S_, .i1⟩
  | 90 => ⟨S128x128, .i1⟩
  | 91 => ⟨S128x128, .i1⟩
  | 92 => ⟨S1x128x128, .i1⟩
  | 93 => ⟨S_, .f32⟩
  | 94 => ⟨S8x128x128, .f32⟩
  | 95 => ⟨S8x128x128, .i1⟩
  | 96 => ⟨S8x128x128, .f32⟩
  | 97 => ⟨S_, .f32⟩
  | 98 => ⟨S8x128x128, .f32⟩
  | 99 => ⟨S8x2x32x64x128, .f32⟩
  | 100 => ⟨S2x32x128x8x64, .f32⟩
  | 101 => ⟨S2x32x128x512, .f32⟩
  | 102 => ⟨S1x1x128x512, .f32⟩
  | 103 => ⟨S2x32x128x512, .f32⟩
  | 104 => ⟨S2x32x128x512, .f32⟩
  | 105 => ⟨S2x4096x512, .f32⟩
  | 106 => ⟨S2x4096x512, .f32⟩
  | 107 => ⟨S2x4096x512, .f32⟩
  | 108 => ⟨S2x4096x512, .f32⟩
  | 109 => ⟨S_, .f32⟩
  | 110 => ⟨S2x4096x512, .f32⟩
  | 111 => ⟨S2x4096x512, .f32⟩
  | 112 => ⟨S_, .f32⟩
  | 113 => ⟨S2x4096x512, .f32⟩
  | 114 => ⟨S2x4096x512, .f32⟩
  | 115 => ⟨S2x4096x512, .f32⟩
  | 116 => ⟨S2x4096x512, .f32⟩
  | 117 => ⟨S2x4096x512, .f32⟩
  | 118 => ⟨S2x4096x512, .f32⟩
  | 119 => ⟨S2x4096x512, .f32⟩
  | 120 => ⟨S2x32x128x512, .f32⟩
  | 121 => ⟨S_, .f32⟩
  | 122 => ⟨S128x512, .f32⟩
  | 123 => ⟨S1x1x128x512, .f32⟩
  | 124 => ⟨S_, .f32⟩
  | 125 => ⟨S128x512, .f32⟩
  | 126 => ⟨S2x32x128x8x64, .f32⟩
  | 127 => ⟨S8x2x32x64x128, .f32⟩
  | _ => ⟨S2x4096x3072, .f32⟩

abbrev hbmTy0_1 (i : Nat) : BufTy := match i % 128 with
  | 0 => ⟨S8x128x128, .f32⟩
  | 1 => ⟨S8x2x32x64x128, .f32⟩
  | 2 => ⟨S2x32x128x8x64, .f32⟩
  | 3 => ⟨S_, .f32⟩
  | 4 => ⟨S8x128x128, .f32⟩
  | 5 => ⟨S8x128x128, .f32⟩
  | 6 => ⟨S2x4096x512, .f32⟩
  | 7 => ⟨S_, .f32⟩
  | 8 => ⟨S512, .f32⟩
  | 9 => ⟨S1x1x512, .f32⟩
  | 10 => ⟨S_, .f32⟩
  | 11 => ⟨S512, .f32⟩
  | 12 => ⟨S2x4096x512, .f32⟩
  | 13 => ⟨S_, .f32⟩
  | 14 => ⟨S512, .f32⟩
  | 15 => ⟨S1x1x512, .f32⟩
  | 16 => ⟨S_, .f32⟩
  | 17 => ⟨S512, .f32⟩
  | _ => ⟨S2x4096x3072, .f32⟩

abbrev hbmTy (i : Nat) : BufTy := match i / 128 with
  | 0 => hbmTy0_0 i
  | 1 => hbmTy0_1 i
  | _ => ⟨S2x4096x3072, .f32⟩

abbrev bufTy : (tb : Table) → Fin (tcTables nBuf tb) → BufTy
  | .hbm, ⟨i, _⟩ => hbmTy i
  | _, _ => ⟨S2x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c : Ref sig .tc := ⟨.hbm, 81, rfl⟩
abbrev main_v58 : Ref sig .tc := ⟨.hbm, 82, rfl⟩
abbrev main_call0_v0 : Ref sig .tc := ⟨.hbm, 83, rfl⟩
abbrev main_call0_c : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_c_0 : Ref sig .tc := ⟨.hbm, 89, rfl⟩
abbrev main_call0_v5 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62_1 : Ref sig .tc := ⟨.hbm, 95, rfl⟩
abbrev main_v62_0 : Ref sig .tc := ⟨.hbm, 96, rfl⟩
abbrev main_call1_cst : Ref sig .tc := ⟨.hbm, 97, rfl⟩
abbrev main_v62_2 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call2_v0 : Ref sig .tc := ⟨.hbm, 107, rfl⟩
abbrev main_call2_v1 : Ref sig .tc := ⟨.hbm, 108, rfl⟩
abbrev main_call2_cst : Ref sig .tc := ⟨.hbm, 109, rfl⟩
abbrev main_call2_v2 : Ref sig .tc := ⟨.hbm, 110, rfl⟩
abbrev main_call2_v3 : Ref sig .tc := ⟨.hbm, 111, rfl⟩
abbrev main_call2_cst_0 : Ref sig .tc := ⟨.hbm, 112, rfl⟩
abbrev main_call2_v4 : Ref sig .tc := ⟨.hbm, 113, rfl⟩
abbrev main_call2_v5 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_13 : Ref sig .tc := ⟨.hbm, 121, rfl⟩
abbrev main_v77 : Ref sig .tc := ⟨.hbm, 122, rfl⟩
abbrev main_v78 : Ref sig .tc := ⟨.hbm, 123, rfl⟩
abbrev main_cst_14 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_call3_cst : Ref sig .tc := ⟨.hbm, 131, rfl⟩
abbrev main_call3_v0 : Ref sig .tc := ⟨.hbm, 132, rfl⟩
abbrev main_v85 : Ref sig .tc := ⟨.hbm, 133, rfl⟩
abbrev main_v86 : Ref sig .tc := ⟨.hbm, 134, rfl⟩
abbrev main_cst_15 : Ref sig .tc := ⟨.hbm, 135, rfl⟩
abbrev main_v87 : Ref sig .tc := ⟨.hbm, 136, rfl⟩
abbrev main_v88 : Ref sig .tc := ⟨.hbm, 137, rfl⟩
abbrev main_cst_16 : Ref sig .tc := ⟨.hbm, 138, rfl⟩
abbrev main_v89 : Ref sig .tc := ⟨.hbm, 139, rfl⟩
abbrev main_v90 : Ref sig .tc := ⟨.hbm, 140, rfl⟩
abbrev main_cst_17 : Ref sig .tc := ⟨.hbm, 141, rfl⟩
abbrev main_v91 : Ref sig .tc := ⟨.hbm, 142, rfl⟩
abbrev main_v92 : Ref sig .tc := ⟨.hbm, 143, rfl⟩
abbrev main_cst_18 : Ref sig .tc := ⟨.hbm, 144, rfl⟩
abbrev main_v93 : Ref sig .tc := ⟨.hbm, 145, rfl⟩

abbrev nD : Nat := 1
abbrev τ : Topo := Topo.v7x

variable {F : FTy → Type} [FloatOps F]
-- ==== OddBwd.lean ====
abbrev S2x4096x3072 : Shape := ⟨3, ![2, 4096, 3072]⟩
abbrev S4x128x128 : Shape := ⟨3, ![4, 128, 128]⟩
abbrev S512 : Shape := ⟨1, ![512]⟩
abbrev S3x512 : Shape := ⟨2, ![3, 512]⟩
abbrev S2x4096x1024 : Shape := ⟨3, ![2, 4096, 1024]⟩
abbrev S1x512 : Shape := ⟨2, ![1, 512]⟩
abbrev S_ : Shape := ⟨0, ![]⟩
abbrev S4x512 : Shape := ⟨2, ![4, 512]⟩
abbrev S8x512 : Shape := ⟨2, ![8, 512]⟩
abbrev S1x3072 : Shape := ⟨2, ![1, 3072]⟩
abbrev S1x512x3072 : Shape := ⟨3, ![1, 512, 3072]⟩
abbrev S1x32x3072 : Shape := ⟨3, ![1, 32, 3072]⟩
abbrev S1x512x1024 : Shape := ⟨3, ![1, 512, 1024]⟩
abbrev S1x32x1024 : Shape := ⟨3, ![1, 32, 1024]⟩
abbrev S544x512 : Shape := ⟨2, ![544, 512]⟩
abbrev S512x512 : Shape := ⟨2, ![512, 512]⟩
abbrev S32x3072 : Shape := ⟨2, ![32, 3072]⟩
abbrev S32x512 : Shape := ⟨2, ![32, 512]⟩
abbrev S1x64x512 : Shape := ⟨3, ![1, 64, 512]⟩
abbrev S64x512 : Shape := ⟨2, ![64, 512]⟩
abbrev S24x512 : Shape := ⟨2, ![24, 512]⟩
abbrev S64x384 : Shape := ⟨2, ![64, 384]⟩
abbrev S16x384 : Shape := ⟨2, ![16, 384]⟩
abbrev S64x256 : Shape := ⟨2, ![64, 256]⟩
abbrev S8x256 : Shape := ⟨2, ![8, 256]⟩
abbrev S64x128 : Shape := ⟨2, ![64, 128]⟩
abbrev S64x1 : Shape := ⟨2, ![64, 1]⟩
abbrev S1x128x512 : Shape := ⟨3, ![1, 128, 512]⟩
abbrev S128x512 : Shape := ⟨2, ![128, 512]⟩
abbrev S128x128 : Shape := ⟨2, ![128, 128]⟩
abbrev S1x128x128 : Shape := ⟨3, ![1, 128, 128]⟩
abbrev S128x1 : Shape := ⟨2, ![128, 1]⟩
abbrev S32x1024 : Shape := ⟨2, ![32, 1024]⟩
abbrev S32x128 : Shape := ⟨2, ![32, 128]⟩
abbrev S32x1 : Shape := ⟨2, ![32, 1]⟩
abbrev S1x64x128 : Shape := ⟨3, ![1, 64, 128]⟩
abbrev S1x128 : Shape := ⟨2, ![1, 128]⟩
abbrev S128 : Shape := ⟨1, ![128]⟩

abbrev nBuf : Space → Nat
  | .hbm => 14
  | .vmem => 32
  | .smem => 0
  | _ => 0

abbrev bufTy : (tb : Table) → Fin (tcTables nBuf tb) → BufTy
  | .hbm, ⟨0, _⟩ => ⟨S2x4096x3072, .f32⟩
  | .hbm, ⟨1, _⟩ => ⟨S4x128x128, .f32⟩
  | .hbm, ⟨2, _⟩ => ⟨S512, .f32⟩
  | .hbm, ⟨3, _⟩ => ⟨S3x512, .f32⟩
  | .hbm, ⟨4, _⟩ => ⟨S2x4096x1024, .f32⟩
  | .hbm, ⟨5, _⟩ => ⟨S1x512, .f32⟩
  | .hbm, ⟨6, _⟩ => ⟨S_, .f32⟩
  | .hbm, ⟨7, _⟩ => ⟨S4x512, .f32⟩
  | .hbm, ⟨8, _⟩ => ⟨S8x512, .f32⟩
  | .hbm, ⟨9, _⟩ => ⟨S4x128x128, .bf16⟩
  | .hbm, ⟨10, _⟩ => ⟨S2x4096x3072, .bf16⟩
  | .hbm, ⟨11, _⟩ => ⟨S1x3072, .f32⟩
  | .hbm, ⟨12, _⟩ => ⟨S4x128x128, .f32⟩
  | .hbm, ⟨13, _⟩ => ⟨S8x512, .f32⟩
  | .local _ .vmem, ⟨0, _⟩ => ⟨S1x512x3072, .f32⟩
  | .local _ .vmem, ⟨1, _⟩ => ⟨S1x512x3072, .f32⟩
  | .local _ .vmem, ⟨2, _⟩ => ⟨S1x32x3072, .f32⟩
  | .local _ .vmem, ⟨3, _⟩ => ⟨S1x32x3072, .f32⟩
  | .local _ .vmem, ⟨4, _⟩ => ⟨S1x32x3072, .f32⟩
  | .local _ .vmem, ⟨5, _⟩ => ⟨S1x32x3072, .f32⟩
  | .local _ .vmem, ⟨6, _⟩ => ⟨S1x512x1024, .f32⟩
  | .local _ .vmem, ⟨7, _⟩ => ⟨S1x512x1024, .f32⟩
  | .local _ .vmem, ⟨8, _⟩ => ⟨S1x32x1024, .f32⟩
  | .local _ .vmem, ⟨9, _⟩ => ⟨S1x32x1024, .f32⟩
  | .local _ .vmem, ⟨10, _⟩ => ⟨S4x128x128, .bf16⟩
  | .local _ .vmem, ⟨11, _⟩ => ⟨S8x512, .f32⟩
  | .local _ .vmem, ⟨12, _⟩ => ⟨S1x512x3072, .bf16⟩
  | .local _ .vmem, ⟨13, _⟩ => ⟨S1x512x3072, .bf16⟩
  | .local _ .vmem, ⟨14, _⟩ => ⟨S1x3072, .f32⟩
  | .local _ .vmem, ⟨15, _⟩ => ⟨S4x128x128, .f32⟩
  | .local _ .vmem, ⟨16, _⟩ => ⟨S8x512, .f32⟩
  | .local _ .vmem, ⟨17, _⟩ => ⟨S544x512, .f32⟩
  | .local _ .vmem, ⟨18, _⟩ => ⟨S544x512, .f32⟩
  | .local _ .vmem, ⟨19, _⟩ => ⟨S544x512, .f32⟩
  | .local _ .vmem, ⟨20, _⟩ => ⟨S544x512, .f32⟩
  | .local _ .vmem, ⟨21, _⟩ => ⟨S544x512, .f32⟩
  | .local _ .vmem, ⟨22, _⟩ => ⟨S512x512, .f32⟩
  | .local _ .vmem, ⟨23, _⟩ => ⟨S544x512, .f32⟩
  | .local _ .vmem, ⟨24, _⟩ => ⟨S512x512, .f32⟩
  | .local _ .vmem, ⟨25, _⟩ => ⟨S544x512, .f32⟩
  | .local _ .vmem, ⟨26, _⟩ => ⟨S544x512, .f32⟩
  | .local _ .vmem, ⟨27, _⟩ => ⟨S544x512, .f32⟩
  | .local _ .vmem, ⟨28, _⟩ => ⟨S544x512, .f32⟩
  | .local _ .vmem, ⟨29, _⟩ => ⟨S544x512, .f32⟩
  | .local _ .vmem, ⟨30, _⟩ => ⟨S544x512, .f32⟩
  | .local _ .vmem, ⟨31, _⟩ => ⟨S512x512, .f32⟩
  | _, _ => ⟨S2x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_scratch11 : Ref sig .tc := ⟨.vmem, 28, rfl⟩
abbrev cc0_scratch12 : Ref sig .tc := ⟨.vmem, 29, rfl⟩
abbrev cc0_scratch13 : Ref sig .tc := ⟨.vmem, 30, rfl⟩
abbrev cc0_scratch14 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_586 : BitVec 32 := 0#32
  let c4_i32 : BitVec 32 := 4#32
  let v874 : BitVec 32 := Scalar.addi c0_i32_586 c4_i32
  let c1_i32_587 : BitVec 32 := 1#32
  ⟨c0_i32_586, v874, c1_i32_587⟩
def k0_mult1 (k0_t1 : Fin k0_t1_loop.trips) : BitVec 32 :=
  let c0_i32_586 : BitVec 32 := 0#32
  let c1_i32_587 : BitVec 32 := 1#32
  let arg28 : BitVec 32 := Scf.iv c0_i32_586 c1_i32_587 k0_t1
  let c128_i32_1642 : BitVec 32 := 128#32
  let v2128 : BitVec 32 := Scalar.muli arg28 c128_i32_1642
  v2128
def k0_off1 (k0_t1 : Fin k0_t1_loop.trips) : Fin 3 → Nat :=
  let c0_1643 : Index := 0#32
  let c0_i32_586 : BitVec 32 := 0#32
  let c1_i32_587 : BitVec 32 := 1#32
  let arg28 : BitVec 32 := Scf.iv c0_i32_586 c1_i32_587 k0_t1
  let c128_i32_1642 : BitVec 32 := 128#32
  let v2128 : BitVec 32 := Scalar.muli arg28 c128_i32_1642
  let v2129 : BitVec 32 := v2128
  let v2130 : Index := Scalar.indexCast v2129
  let c512_1644 : Index := 512#32
  ![0, v2130.toNat, 512]
def k0_off2 (k0_t1 : Fin k0_t1_loop.trips) : Fin 3 → Nat :=
  let c0_1645 : Index := 0#32
  let c0_i32_586 : BitVec 32 := 0#32
  let c1_i32_587 : BitVec 32 := 1#32
  let arg28 : BitVec 32 := Scf.iv c0_i32_586 c1_i32_587 k0_t1
  let c128_i32_1642 : BitVec 32 := 128#32
  let v2128 : BitVec 32 := Scalar.muli arg28 c128_i32_1642
  let v2129 : BitVec 32 := v2128
  let v2133 : Index := Scalar.indexCast v2129
  let c0_1646 : Index := 0#32
  ![0, v2133.toNat, 0]
def k0_off3 (k0_t1 : Fin k0_t1_loop.trips) : Fin 3 → Nat :=
  let c0_1647 : Index := 0#32
  let c0_i32_586 : BitVec 32 := 0#32
  let c1_i32_587 : BitVec 32 := 1#32
  let arg28 : BitVec 32 := Scf.iv c0_i32_586 c1_i32_587 k0_t1
  let c128_i32_1642 : BitVec 32 := 128#32
  let v2128 : BitVec 32 := Scalar.muli arg28 c128_i32_1642
  let v2129 : BitVec 32 := v2128
  let v2136 : Index := Scalar.indexCast v2129
  let c512_1648 : Index := 512#32
  ![0, v2136.toNat, 512]
def k0_off4 (k0_t1 : Fin k0_t1_loop.trips) : Fin 3 → Nat :=
  let c0_1649 : Index := 0#32
  let c0_i32_586 : BitVec 32 := 0#32
  let c1_i32_587 : BitVec 32 := 1#32
  let arg28 : BitVec 32 := Scf.iv c0_i32_586 c1_i32_587 k0_t1
  let c128_i32_1642 : BitVec 32 := 128#32
  let v2128 : BitVec 32 := Scalar.muli arg28 c128_i32_1642
  let v2129 : BitVec 32 := v2128
  let v2139 : Index := Scalar.indexCast v2129
  let c1536 : Index := 1536#32
  ![0, v2139.toNat, 1536]
def k0_off5 (k0_t1 : Fin k0_t1_loop.trips) : Fin 3 → Nat :=
  let c0_1650 : Index := 0#32
  let c0_i32_586 : BitVec 32 := 0#32
  let c1_i32_587 : BitVec 32 := 1#32
  let arg28 : BitVec 32 := Scf.iv c0_i32_586 c1_i32_587 k0_t1
  let c128_i32_1642 : BitVec 32 := 128#32
  let v2128 : BitVec 32 := Scalar.muli arg28 c128_i32_1642
  let v2129 : BitVec 32 := v2128
  let v2142 : Index := Scalar.indexCast v2129
  let c2560 : Index := 2560#32
  ![0, v2142.toNat, 2560]
def k0_off6 (k0_t1 : Fin k0_t1_loop.trips) : Fin 2 → Nat :=
  let c0_i32_586 : BitVec 32 := 0#32
  let c1_i32_587 : BitVec 32 := 1#32
  let arg28 : BitVec 32 := Scf.iv c0_i32_586 c1_i32_587 k0_t1
  let c128_i32_1642 : BitVec 32 := 128#32
  let v2128 : BitVec 32 := Scalar.muli arg28 c128_i32_1642
  let v2129 : BitVec 32 := v2128
  let v2214 : Index := Scalar.indexCast v2129
  let c0_1681 : Index := 0#32
  ![v2214.toNat, 0]
def k0_off7 (k0_t1 : Fin k0_t1_loop.trips) : Fin 2 → Nat :=
  let c0_i32_586 : BitVec 32 := 0#32
  let c1_i32_587 : BitVec 32 := 1#32
  let arg28 : BitVec 32 := Scf.iv c0_i32_586 c1_i32_587 k0_t1
  let c128_i32_1642 : BitVec 32 := 128#32
  let v2128 : BitVec 32 := Scalar.muli arg28 c128_i32_1642
  let v2129 : BitVec 32 := v2128
  let v2226 : Index := Scalar.indexCast v2129
  let c0_1684 : Index := 0#32
  ![v2226.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== OddRefIdeal.lean ====
abbrev S2x4096x3072 : Shape := ⟨3, ![2, 4096, 3072]⟩
abbrev S4x128x128 : Shape := ⟨3, ![4, 128, 128]⟩
abbrev S512 : Shape := ⟨1, ![512]⟩
abbrev S3x512 : Shape := ⟨2, ![3, 512]⟩
abbrev S2x4096x1024 : Shape := ⟨3, ![2, 4096, 1024]⟩
abbrev S2x4096x512 : Shape := ⟨3, ![2, 4096, 512]⟩
abbrev S2x4096x4x128 : Shape := ⟨4, ![2, 4096, 4, 128]⟩
abbrev S_ : Shape := ⟨0, ![]⟩
abbrev S4096 : Shape := ⟨1, ![4096]⟩
abbrev S2x4096x1x128 : Shape := ⟨4, ![2, 4096, 1, 128]⟩
abbrev S2x4096x128 : Shape := ⟨3, ![2, 4096, 128]⟩
abbrev S2x2x128 : Shape := ⟨3, ![2, 2, 128]⟩
abbrev S2x4094x128 : Shape := ⟨3, ![2, 4094, 128]⟩
abbrev S4096x1 : Shape := ⟨2, ![4096, 1]⟩
abbrev S1x4096x1 : Shape := ⟨3, ![1, 4096, 1]⟩
abbrev S2x4x128 : Shape := ⟨3, ![2, 4, 128]⟩
abbrev S2x4092x128 : Shape := ⟨3, ![2, 4092, 128]⟩
abbrev S2x8x128 : Shape := ⟨3, ![2, 8, 128]⟩
abbrev S2x4088x128 : Shape := ⟨3, ![2, 4088, 128]⟩
abbrev S2x16x128 : Shape := ⟨3, ![2, 16, 128]⟩
abbrev S2x4080x128 : Shape := ⟨3, ![2, 4080, 128]⟩
abbrev S4x128x2x4096 : Shape := ⟨4, ![4, 128, 2, 4096]⟩
abbrev S1x1x512 : Shape := ⟨3, ![1, 1, 512]⟩
abbrev S2x2x512 : Shape := ⟨3, ![2, 2, 512]⟩
abbrev S2x4098x512 : Shape := ⟨3, ![2, 4098, 512]⟩
abbrev S1x512 : Shape := ⟨2, ![1, 512]⟩
abbrev S4x2x4096x128 : Shape := ⟨4, ![4, 2, 4096, 128]⟩
abbrev S3072 : Shape := ⟨1, ![3072]⟩
abbrev S4x512 : Shape := ⟨2, ![4, 512]⟩
abbrev S8x512 : Shape := ⟨2, ![8, 512]⟩

abbrev nBuf : Space → Nat
  | .hbm => 297
  | .vmem => 0
  | .smem => 0
  | _ => 0

abbrev hbmTy0_0 (i : Nat) : BufTy := match i % 128 with
  | 0 => ⟨S2x4096x3072, .f32⟩
  | 1 => ⟨S4x128x128, .f32⟩
  | 2 => ⟨S512, .f32⟩
  | 3 => ⟨S3x512, .f32⟩
  | 4 => ⟨S2x4096x1024, .f32⟩
  | 5 => ⟨S2x4096x512, .f32⟩
  | 6 => ⟨S2x4096x512, .f32⟩
  | 7 => ⟨S2x4096x512, .f32⟩
  | 8 => ⟨S2x4096x512, .f32⟩
  | 9 => ⟨S2x4096x512, .f32⟩
  | 10 => ⟨S2x4096x512, .f32⟩
  | 11 => ⟨S2x4096x4x128, .f32⟩
  | 12 => ⟨S_, .f32⟩
  | 13 => ⟨S_, .f32⟩
  | 14 => ⟨S2x4096x4x128, .f32⟩
  | 15 => ⟨S4096, .i32⟩
  | 16 => ⟨S_, .i32⟩
  | 17 => ⟨S4096, .i32⟩
  | 18 => ⟨S4096, .i32⟩
  | 19 => ⟨S4096, .f32⟩
  | 20 => ⟨S2x4096x1x128, .f32⟩
  | 21 => ⟨S2x4096x128, .f32⟩
  | 22 => ⟨S_, .f32⟩
  | 23 => ⟨S2x2x128, .f32⟩
  | 24 => ⟨S2x4094x128, .f32⟩
  | 25 => ⟨S2x4096x128, .f32⟩
  | 26 => ⟨S_, .f32⟩
  | 27 => ⟨S2x2x128, .f32⟩
  | 28 => ⟨S2x4096x128, .f32⟩
  | 29 => ⟨S_, .f32⟩
  | 30 => ⟨S4096, .f32⟩
  | 31 => ⟨S4096, .f32⟩
  | 32 => ⟨S4096x1, .f32⟩
  | 33 => ⟨S1x4096x1, .f32⟩
  | 34 => ⟨S2x4096x128, .f32⟩
  | 35 => ⟨S2x4096x128, .f32⟩
  | 36 => ⟨S2x4096x1x128, .f32⟩
  | 37 => ⟨S2x4096x128, .f32⟩
  | 38 => ⟨S_, .f32⟩
  | 39 => ⟨S2x4x128, .f32⟩
  | 40 => ⟨S2x4092x128, .f32⟩
  | 41 => ⟨S2x4096x128, .f32⟩
  | 42 => ⟨S_, .f32⟩
  | 43 => ⟨S2x4x128, .f32⟩
  | 44 => ⟨S2x4096x128, .f32⟩
  | 45 => ⟨S_, .f32⟩
  | 46 => ⟨S4096, .f32⟩
  | 47 => ⟨S4096, .f32⟩
  | 48 => ⟨S4096x1, .f32⟩
  | 49 => ⟨S1x4096x1, .f32⟩
  | 50 => ⟨S2x4096x128, .f32⟩
  | 51 => ⟨S2x4096x128, .f32⟩
  | 52 => ⟨S2x4096x1x128, .f32⟩
  | 53 => ⟨S2x4096x128, .f32⟩
  | 54 => ⟨S_, .f32⟩
  | 55 => ⟨S2x8x128, .f32⟩
  | 56 => ⟨S2x4088x128, .f32⟩
  | 57 => ⟨S2x4096x128, .f32⟩
  | 58 => ⟨S_, .f32⟩
  | 59 => ⟨S2x8x128, .f32⟩
  | 60 => ⟨S2x4096x128, .f32⟩
  | 61 => ⟨S_, .f32⟩
  | 62 => ⟨S4096, .f32⟩
  | 63 => ⟨S4096, .f32⟩
  | 64 => ⟨S4096x1, .f32⟩
  | 65 => ⟨S1x4096x1, .f32⟩
  | 66 => ⟨S2x4096x128, .f32⟩
  | 67 => ⟨S2x4096x128, .f32⟩
  | 68 => ⟨S2x4096x1x128, .f32⟩
  | 69 => ⟨S2x4096x128, .f32⟩
  | 70 => ⟨S_, .f32⟩
  | 71 => ⟨S2x16x128, .f32⟩
  | 72 => ⟨S2x4080x128, .f32⟩
  | 73 => ⟨S2x4096x128, .f32⟩
  | 74 => ⟨S_, .f32⟩
  | 75 => ⟨S2x16x128, .f32⟩
  | 76 => ⟨S2x4096x128, .f32⟩
  | 77 => ⟨S_, .f32⟩
  | 78 => ⟨S4096, .f32⟩
  | 79 => ⟨S4096, .f32⟩
  | 80 => ⟨S4096x1, .f32⟩
  | 81 => ⟨S1x4096x1, .f32⟩
  | 82 => ⟨S2x4096x128, .f32⟩
  | 83 => ⟨S2x4096x128, .f32⟩
  | 84 => ⟨S2x4096x1x128, .f32⟩
  | 85 => ⟨S2x4096x1x128, .f32⟩
  | 86 => ⟨S2x4096x1x128, .f32⟩
  | 87 => ⟨S2x4096x1x128, .f32⟩
  | 88 => ⟨S2x4096x4x128, .f32⟩
  | 89 => ⟨S2x4096x4x128, .f32⟩
  | 90 => ⟨S4x128x2x4096, .f32⟩
  | 91 => ⟨S2x4096x4x128, .f32⟩
  | 92 => ⟨S2x4096x512, .f32⟩
  | 93 => ⟨S1x1x512, .f32⟩
  | 94 => ⟨S2x4096x512, .f32⟩
  | 95 => ⟨S2x4096x512, .f32⟩
  | 96 => ⟨S2x4096x512, .f32⟩
  | 97 => ⟨S2x4096x512, .f32⟩
  | 98 => ⟨S_, .f32⟩
  | 99 => ⟨S2x4096x512, .f32⟩
  | 100 => ⟨S2x4096x512, .f32⟩
  | 101 => ⟨S_, .f32⟩
  | 102 => ⟨S2x4096x512, .f32⟩
  | 103 => ⟨S2x4096x512, .f32⟩
  | 104 => ⟨S_, .f32⟩
  | 105 => ⟨S2x4096x512, .f32⟩
  | 106 => ⟨S2x4096x512, .f32⟩
  | 107 => ⟨S2x4096x512, .f32⟩
  | 108 => ⟨S2x4096x512, .f32⟩
  | 109 => ⟨S2x4096x512, .f32⟩
  | 110 => ⟨S_, .f32⟩
  | 111 => ⟨S2x2x512, .f32⟩
  | 112 => ⟨S2x4096x512, .f32⟩
  | 113 => ⟨S2x4098x512, .f32⟩
  | 114 => ⟨S_, .f32⟩
  | 115 => ⟨S2x2x512, .f32⟩
  | 116 => ⟨S2x4096x512, .f32⟩
  | 117 => ⟨S1x512, .f32⟩
  | 118 => ⟨S512, .f32⟩
  | 119 => ⟨S1x1x512, .f32⟩
  | 120 => ⟨S2x4096x512, .f32⟩
  | 121 => ⟨S2x4096x512, .f32⟩
  | 122 => ⟨S2x4096x512, .f32⟩
  | 123 => ⟨S1x512, .f32⟩
  | 124 => ⟨S512, .f32⟩
  | 125 => ⟨S1x1x512, .f32⟩
  | 126 => ⟨S2x4096x512, .f32⟩
  | 127 => ⟨S2x4096x512, .f32⟩
  | _ => ⟨S2x4096x3072, .f32⟩

abbrev hbmTy0_1 (i : Nat) : BufTy := match i % 128 with
  | 0 => ⟨S2x4096x512, .f32⟩
  | 1 => ⟨S2x4096x512, .f32⟩
  | 2 => ⟨S1x512, .f32⟩
  | 3 => ⟨S512, .f32⟩
  | 4 => ⟨S1x1x512, .f32⟩
  | 5 => ⟨S2x4096x512, .f32⟩
  | 6 => ⟨S2x4096x512, .f32⟩
  | 7 => ⟨S2x4096x512, .f32⟩
  | 8 => ⟨S2x4096x512, .f32⟩
  | 9 => ⟨S2x4096x512, .f32⟩
  | 10 => ⟨S2x4096x512, .f32⟩
  | 11 => ⟨S_, .f32⟩
  | 12 => ⟨S2x4096x512, .f32⟩
  | 13 => ⟨S2x4096x512, .f32⟩
  | 14 => ⟨S_, .f32⟩
  | 15 => ⟨S2x4096x512, .f32⟩
  | 16 => ⟨S2x4096x512, .f32⟩
  | 17 => ⟨S_, .f32⟩
  | 18 => ⟨S2x4096x512, .f32⟩
  | 19 => ⟨S2x4096x512, .f32⟩
  | 20 => ⟨S2x4096x512, .f32⟩
  | 21 => ⟨S2x4096x512, .f32⟩
  | 22 => ⟨S2x4096x512, .f32⟩
  | 23 => ⟨S2x4096x1024, .f32⟩
  | 24 => ⟨S2x4096x512, .f32⟩
  | 25 => ⟨S2x4096x512, .f32⟩
  | 26 => ⟨S2x4096x512, .f32⟩
  | 27 => ⟨S2x4096x512, .f32⟩
  | 28 => ⟨S2x4096x512, .f32⟩
  | 29 => ⟨S2x4096x512, .f32⟩
  | 30 => ⟨S2x4096x512, .f32⟩
  | 31 => ⟨S2x4096x512, .f32⟩
  | 32 => ⟨S2x4096x512, .f32⟩
  | 33 => ⟨S2x4096x512, .f32⟩
  | 34 => ⟨S2x4096x512, .f32⟩
  | 35 => ⟨S_, .f32⟩
  | 36 => ⟨S512, .f32⟩
  | 37 => ⟨S1x1x512, .f32⟩
  | 38 => ⟨S2x4096x512, .f32⟩
  | 39 => ⟨S2x4096x512, .f32⟩
  | 40 => ⟨S_, .f32⟩
  | 41 => ⟨S512, .f32⟩
  | 42 => ⟨S1x512, .f32⟩
  | 43 => ⟨S_, .f32⟩
  | 44 => ⟨S3x512, .f32⟩
  | 45 => ⟨S_, .f32⟩
  | 46 => ⟨S2x4098x512, .f32⟩
  | 47 => ⟨S2x4096x512, .f32⟩
  | 48 => ⟨S_, .f32⟩
  | 49 => ⟨S512, .f32⟩
  | 50 => ⟨S1x1x512, .f32⟩
  | 51 => ⟨S2x4096x512, .f32⟩
  | 52 => ⟨S2x4096x512, .f32⟩
  | 53 => ⟨S_, .f32⟩
  | 54 => ⟨S512, .f32⟩
  | 55 => ⟨S1x512, .f32⟩
  | 56 => ⟨S_, .f32⟩
  | 57 => ⟨S3x512, .f32⟩
  | 58 => ⟨S3x512, .f32⟩
  | 59 => ⟨S_, .f32⟩
  | 60 => ⟨S2x4098x512, .f32⟩
  | 61 => ⟨S2x4098x512, .f32⟩
  | 62 => ⟨S2x4096x512, .f32⟩
  | 63 => ⟨S_, .f32⟩
  | 64 => ⟨S512, .f32⟩
  | 65 => ⟨S1x1x512, .f32⟩
  | 66 => ⟨S2x4096x512, .f32⟩
  | 67 => ⟨S2x4096x512, .f32⟩
  | 68 => ⟨S_, .f32⟩
  | 69 => ⟨S512, .f32⟩
  | 70 => ⟨S1x512, .f32⟩
  | 71 => ⟨S_, .f32⟩
  | 72 => ⟨S3x512, .f32⟩
  | 73 => ⟨S3x512, .f32⟩
  | 74 => ⟨S_, .f32⟩
  | 75 => ⟨S2x4098x512, .f32⟩
  | 76 => ⟨S2x4098x512, .f32⟩
  | 77 => ⟨S2x2x512, .f32⟩
  | 78 => ⟨S2x4096x512, .f32⟩
  | 79 => ⟨S2x4096x512, .f32⟩
  | 80 => ⟨S2x4096x512, .f32⟩
  | 81 => ⟨S2x4096x512, .f32⟩
  | 82 => ⟨S2x4096x512, .f32⟩
  | 83 => ⟨S2x4096x512, .f32⟩
  | 84 => ⟨S2x4096x512, .f32⟩
  | 85 => ⟨S2x4096x512, .f32⟩
  | 86 => ⟨S2x4096x512, .f32⟩
  | 87 => ⟨S2x4096x512, .f32⟩
  | 88 => ⟨S_, .f32⟩
  | 89 => ⟨S512, .f32⟩
  | 90 => ⟨S1x1x512, .f32⟩
  | 91 => ⟨S2x4096x512, .f32⟩
  | 92 => ⟨S2x4096x512, .f32⟩
  | 93 => ⟨S_, .f32⟩
  | 94 => ⟨S512, .f32⟩
  | 95 => ⟨S2x4096x4x128, .f32⟩
  | 96 => ⟨S4x128x2x4096, .f32⟩
  | 97 => ⟨S4x2x4096x128, .f32⟩
  | 98 => ⟨S2x4096x4x128, .f32⟩
  | 99 => ⟨S4x128x128, .f32⟩
  | 100 => ⟨S4x128x128, .f32⟩
  | 101 => ⟨S2x4096x4x128, .f32⟩
  | 102 => ⟨S2x4096x1x128, .f32⟩
  | 103 => ⟨S2x4096x128, .f32⟩
  | 104 => ⟨S2x4096x1x128, .f32⟩
  | 105 => ⟨S2x4096x128, .f32⟩
  | 106 => ⟨S2x4096x1x128, .f32⟩
  | 107 => ⟨S2x4096x128, .f32⟩
  | 108 => ⟨S2x4096x1x128, .f32⟩
  | 109 => ⟨S2x4096x128, .f32⟩
  | 110 => ⟨S2x4096x128, .f32⟩
  | 111 => ⟨S2x4096x128, .f32⟩
  | 112 => ⟨S2x4096x128, .f32⟩
  | 113 => ⟨S2x16x128, .f32⟩
  | 114 => ⟨S2x4080x128, .f32⟩
  | 115 => ⟨S_, .f32⟩
  | 116 => ⟨S2x4096x128, .f32⟩
  | 117 => ⟨S2x4096x128, .f32⟩
  | 118 => ⟨S2x4096x1x128, .f32⟩
  | 119 => ⟨S_, .f32⟩
  | 120 => ⟨S2x4096x4x128, .f32⟩
  | 121 => ⟨S2x4096x128, .f32⟩
  | 122 => ⟨S2x4096x128, .f32⟩
  | 123 => ⟨S2x4096x128, .f32⟩
  | 124 => ⟨S2x8x128, .f32⟩
  | 125 => ⟨S2x4088x128, .f32⟩
  | 126 => ⟨S_, .f32⟩
  | 127 => ⟨S2x4096x128, .f32⟩
  | _ => ⟨S2x4096x3072, .f32⟩

abbrev hbmTy0_2 (i : Nat) : BufTy := match i % 128 with
  | 0 => ⟨S2x4096x128, .f32⟩
  | 1 => ⟨S2x4096x1x128, .f32⟩
  | 2 => ⟨S_, .f32⟩
  | 3 => ⟨S2x4096x4x128, .f32⟩
  | 4 => ⟨S2x4096x4x128, .f32⟩
  | 5 => ⟨S2x4096x128, .f32⟩
  | 6 => ⟨S2x4096x128, .f32⟩
  | 7 => ⟨S2x4096x128, .f32⟩
  | 8 => ⟨S2x4x128, .f32⟩
  | 9 => ⟨S2x4092x128, .f32⟩
  | 10 => ⟨S_, .f32⟩
  | 11 => ⟨S2x4096x128, .f32⟩
  | 12 => ⟨S2x4096x128, .f32⟩
  | 13 => ⟨S2x4096x1x128, .f32⟩
  | 14 => ⟨S_, .f32⟩
  | 15 => ⟨S2x4096x4x128, .f32⟩
  | 16 => ⟨S2x4096x4x128, .f32⟩
  | 17 => ⟨S2x4096x128, .f32⟩
  | 18 => ⟨S2x4096x128, .f32⟩
  | 19 => ⟨S2x4096x128, .f32⟩
  | 20 => ⟨S2x2x128, .f32⟩
  | 21 => ⟨S2x4094x128, .f32⟩
  | 22 => ⟨S_, .f32⟩
  | 23 => ⟨S2x4096x128, .f32⟩
  | 24 => ⟨S2x4096x128, .f32⟩
  | 25 => ⟨S2x4096x1x128, .f32⟩
  | 26 => ⟨S_, .f32⟩
  | 27 => ⟨S2x4096x4x128, .f32⟩
  | 28 => ⟨S2x4096x4x128, .f32⟩
  | 29 => ⟨S_, .f32⟩
  | 30 => ⟨S_, .f32⟩
  | 31 => ⟨S2x4096x4x128, .f32⟩
  | 32 => ⟨S2x4096x4x128, .f32⟩
  | 33 => ⟨S2x4096x512, .f32⟩
  | 34 => ⟨S2x4096x3072, .f32⟩
  | 35 => ⟨S_, .f32⟩
  | 36 => ⟨S3072, .f32⟩
  | 37 => ⟨S1x512, .f32⟩
  | 38 => ⟨S_, .f32⟩
  | 39 => ⟨S4x512, .f32⟩
  | 40 => ⟨S8x512, .f32⟩
  | _ => ⟨S2x4096x3072, .f32⟩

abbrev hbmTy (i : Nat) : BufTy := match i / 128 with
  | 0 => hbmTy0_0 i
  | 1 => hbmTy0_1 i
  | 2 => hbmTy0_2 i
  | _ => ⟨S2x4096x3072, .f32⟩

abbrev bufTy : (tb : Table) → Fin (tcTables nBuf tb) → BufTy
  | .hbm, ⟨i, _⟩ => hbmTy i
  | _, _ => ⟨S2x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_call0_cst : Ref sig .tc := ⟨.hbm, 12, rfl⟩
abbrev main_call0_call0_v0 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_v76_2 : Ref sig .tc := ⟨.hbm, 103, rfl⟩
abbrev main_call1_cst_1 : Ref sig .tc := ⟨.hbm, 104, rfl⟩
abbrev main_call1_v6 : Ref sig .tc := ⟨.hbm, 105, rfl⟩
abbrev main_call1_v7 : Ref sig .tc := ⟨.hbm, 106, rfl⟩
abbrev main_v76_1 : Ref sig .tc := ⟨.hbm, 107, rfl⟩
abbrev main_v76_0 : Ref sig .tc := ⟨.hbm, 108, rfl⟩
abbrev main_v77 : Ref sig .tc := ⟨.hbm, 109, rfl⟩
abbrev main_cst_11 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_12 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_call2_v0 : Ref sig .tc := ⟨.hbm, 137, rfl⟩
abbrev main_call2_v1 : Ref sig .tc := ⟨.hbm, 138, rfl⟩
abbrev main_call2_cst : Ref sig .tc := ⟨.hbm, 139, rfl⟩
abbrev main_call2_v2 : Ref sig .tc := ⟨.hbm, 140, rfl⟩
abbrev main_call2_v3 : Ref sig .tc := ⟨.hbm, 141, rfl⟩
abbrev main_call2_cst_0 : Ref sig .tc := ⟨.hbm, 142, rfl⟩
abbrev main_call2_v4 : Ref sig .tc := ⟨.hbm, 143, rfl⟩
abbrev main_v103_2 : Ref sig .tc := ⟨.hbm, 144, rfl⟩
abbrev main_call2_cst_1 : Ref sig .tc := ⟨.hbm, 145, rfl⟩
abbrev main_call2_v6 : Ref sig .tc := ⟨.hbm, 146, rfl⟩
abbrev main_call2_v7 : Ref sig .tc := ⟨.hbm, 147, rfl⟩
abbrev main_v103_1 : Ref sig .tc := ⟨.hbm, 148, rfl⟩
abbrev main_v103_0 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_call3_v0 : Ref sig .tc := ⟨.hbm, 156, rfl⟩
abbrev main_call3_v1 : Ref sig .tc := ⟨.hbm, 157, rfl⟩
abbrev main_call3_v2 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_13 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_14 : Ref sig .tc := ⟨.hbm, 168, rfl⟩
abbrev main_v118 : Ref sig .tc := ⟨.hbm, 169, rfl⟩
abbrev main_v119 : Ref sig .tc := ⟨.hbm, 170, rfl⟩
abbrev main_cst_15 : Ref sig .tc := ⟨.hbm, 171, rfl⟩
abbrev main_v120 : Ref sig .tc := ⟨.hbm, 172, rfl⟩
abbrev main_cst_16 : Ref sig .tc := ⟨.hbm, 173, rfl⟩
abbrev main_v121 : Ref sig .tc := ⟨.hbm, 174, rfl⟩
abbrev main_v122 : Ref sig .tc := ⟨.hbm, 175, rfl⟩
abbrev main_cst_17 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_18 : Ref sig .tc := ⟨.hbm, 181, rfl⟩
abbrev main_v127 : Ref sig .tc := ⟨.hbm, 182, rfl⟩
abbrev main_v128 : Ref sig .tc := ⟨.hbm, 183, rfl⟩
abbrev main_cst_19 : Ref sig .tc := ⟨.hbm, 184, rfl⟩
abbrev main_v129 : Ref sig .tc := ⟨.hbm, 185, rfl⟩
abbrev main_v130 : Ref sig .tc := ⟨.hbm, 186, rfl⟩
abbrev main_cst_20 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_21 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_cst_22 : Ref sig .tc := ⟨.hbm, 196, rfl⟩
abbrev main_v138 : Ref sig .tc := ⟨.hbm, 197, rfl⟩
abbrev main_v139 : Ref sig .tc := ⟨.hbm, 198, rfl⟩
abbrev main_cst_23 : Ref sig .tc := ⟨.hbm, 199, rfl⟩
abbrev main_v140 : Ref sig .tc := ⟨.hbm, 200, rfl⟩
abbrev main_v141 : Ref sig .tc := ⟨.hbm, 201, rfl⟩
abbrev main_cst_24 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_call4_v0 : Ref sig .tc := ⟨.hbm, 211, rfl⟩
abbrev main_call4_v1 : Ref sig .tc := ⟨.hbm, 212, rfl⟩
abbrev main_call4_v2 : Ref sig .tc := ⟨.hbm, 213, rfl⟩
abbrev main_v150 : Ref sig .tc := ⟨.hbm, 214, rfl⟩
abbrev main_v151 : Ref sig .tc := ⟨.hbm, 215, rfl⟩
abbrev main_cst_25 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_cst_26 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_cst_27 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_cst_28 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_cst_29 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_cst_30 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_cst_31 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_cst_32 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_cst_33 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_cst_34 : Ref sig .tc := ⟨.hbm, 282, rfl⟩
abbrev main_v209 : Ref sig .tc := ⟨.hbm, 283, rfl⟩
abbrev main_v210 : Ref sig .tc := ⟨.hbm, 284, rfl⟩
abbrev main_call5_call0_cst : Ref sig .tc := ⟨.hbm, 285, rfl⟩
abbrev main_call5_call0_v0 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_cst_35 : Ref sig .tc := ⟨.hbm, 291, rfl⟩
abbrev main_v215 : Ref sig .tc := ⟨.hbm, 292, rfl⟩
abbrev main_v216 : Ref sig .tc := ⟨.hbm, 293, rfl⟩
abbrev main_cst_36 : Ref sig .tc := ⟨.hbm, 294, rfl⟩
abbrev main_v217 : Ref sig .tc := ⟨.hbm, 295, rfl⟩
abbrev main_v218 : Ref sig .tc := ⟨.hbm, 296, rfl⟩

abbrev nD : Nat := 1
abbrev τ : Topo := Topo.v7x

variable {F : FTy → Type} [FloatOps F]
-- ==== LossFwd.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S1x8192x256 : Shape := ⟨3, ![1, 8192, 256]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 27
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S8192x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S4x1024, .f32⟩
  | .hbm, ⟨17, _⟩ => ⟨S8x1024, .f32⟩
  | .hbm, ⟨18, _⟩ => ⟨S8192x1024, .bf16⟩
  | .hbm, ⟨19, _⟩ => ⟨S1x8192x256, .f32⟩
  | .hbm, ⟨20, _⟩ => ⟨S1024x1024, .bf16⟩
  | .hbm, ⟨21, _⟩ => ⟨S1024x1024, .bf16⟩
  | .hbm, ⟨22, _⟩ => ⟨S256x1024, .bf16⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x512x256, .f32⟩
  | .local _ .vmem, ⟨5, _⟩ => ⟨S1x512x256, .f32⟩
  | .local _ .vmem, ⟨6, _⟩ => ⟨S1024x1024, .bf16⟩
  | .local _ .vmem, ⟨7, _⟩ => ⟨S1024x1024, .bf16⟩
  | .local _ .vmem, ⟨8, _⟩ => ⟨S256x1024, .bf16⟩
  | .local _ .vmem, ⟨9, _⟩ => ⟨S8x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== LossRefIdeal.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 91
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S8192, .f32⟩
  | .hbm, ⟨81, _⟩ => ⟨S_, .f32⟩
  | .hbm, ⟨82, _⟩ => ⟨S8192, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S1024, .f32⟩
  | .hbm, ⟨90, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_cst_12 : Ref sig .tc := ⟨.hbm, 77, rfl⟩
abbrev main_cst_13 : Ref sig .tc := ⟨.hbm, 78, rfl⟩
abbrev main_v53 : Ref sig .tc := ⟨.hbm, 79, rfl⟩
abbrev main_v54 : Ref sig .tc := ⟨.hbm, 80, rfl⟩
abbrev main_cst_14 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_15 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]
-- ==== MidFwd.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S1024x3072 : Shape := ⟨2, ![1024, 3072]⟩
abbrev S3072 : Shape := ⟨1, ![3072]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S1x8192x256 : Shape := ⟨3, ![1, 8192, 256]⟩
abbrev S1x3072 : Shape := ⟨2, ![1, 3072]⟩
abbrev S8192x3072 : Shape := ⟨2, ![8192, 3072]⟩
abbrev S512x1024 : Shape := ⟨2, ![512, 1024]⟩
abbrev S1x512x256 : Shape := ⟨3, ![1, 512, 256]⟩
abbrev S512x3072 : Shape := ⟨2, ![512, 3072]⟩
abbrev S512 : Shape := ⟨1, ![512]⟩
abbrev S512x1 : Shape := ⟨2, ![512, 1]⟩
abbrev S512x256 : Shape := ⟨2, ![512, 256]⟩
abbrev S1024x768 : Shape := ⟨2, ![1024, 768]⟩
abbrev S512x768 : Shape := ⟨2, ![512, 768]⟩
abbrev S1x768 : Shape := ⟨2, ![1, 768]⟩

abbrev nBuf : Space → Nat
  | .hbm => 30
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S1024x3072, .f32⟩
  | .hbm, ⟨11, _⟩ => ⟨S3072, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S4x1024, .f32⟩
  | .hbm, ⟨18, _⟩ => ⟨S8x1024, .f32⟩
  | .hbm, ⟨19, _⟩ => ⟨S8192x1024, .bf16⟩
  | .hbm, ⟨20, _⟩ => ⟨S1x8192x256, .f32⟩
  | .hbm, ⟨21, _⟩ => ⟨S1024x1024, .bf16⟩
  | .hbm, ⟨22, _⟩ => ⟨S1024x1024, .bf16⟩
  | .hbm, ⟨23, _⟩ => ⟨S256x1024, .bf16⟩
  | .hbm, ⟨24, _⟩ => ⟨S1024x3072, .bf16⟩
  | .hbm, ⟨25, _⟩ => ⟨S1x3072, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x3072, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x512x256, .f32⟩
  | .local _ .vmem, ⟨5, _⟩ => ⟨S1x512x256, .f32⟩
  | .local _ .vmem, ⟨6, _⟩ => ⟨S1024x1024, .bf16⟩
  | .local _ .vmem, ⟨7, _⟩ => ⟨S1024x1024, .bf16⟩
  | .local _ .vmem, ⟨8, _⟩ => ⟨S256x1024, .bf16⟩
  | .local _ .vmem, ⟨9, _⟩ => ⟨S8x1024, .f32⟩
  | .local _ .vmem, ⟨10, _⟩ => ⟨S1024x3072, .bf16⟩
  | .local _ .vmem, ⟨11, _⟩ => ⟨S1x3072, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x3072, .f32⟩
  | .local _ .vmem, ⟨19, _⟩ => ⟨S512x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev main_v13_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3072 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MidRefIdeal.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S1024x3072 : Shape := ⟨2, ![1024, 3072]⟩
abbrev S3072 : Shape := ⟨1, ![3072]⟩
abbrev S_ : Shape := ⟨0, ![]⟩
abbrev S1x1024 : Shape := ⟨2, ![1, 1024]⟩
abbrev S8192 : Shape := ⟨1, ![8192]⟩
abbrev S8192x1 : Shape := ⟨2, ![8192, 1]⟩
abbrev S8192x3072 : Shape := ⟨2, ![8192, 3072]⟩
abbrev S1x3072 : Shape := ⟨2, ![1, 3072]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S1024x3072, .f32⟩
  | .hbm, ⟨11, _⟩ => ⟨S3072, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x3072, .f32⟩
  | .hbm, ⟨65, _⟩ => ⟨S1x3072, .f32⟩
  | .hbm, ⟨66, _⟩ => ⟨S8192x3072, .f32⟩
  | .hbm, ⟨67, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== EvenFwd.lean ====
abbrev S2x4096x3072 : Shape := ⟨3, ![2, 4096, 3072]⟩
abbrev S31x512 : Shape := ⟨2, ![31, 512]⟩
abbrev S512 : Shape := ⟨1, ![512]⟩
abbrev S8x128x128 : Shape := ⟨3, ![8, 128, 128]⟩
abbrev S8x128 : Shape := ⟨2, ![8, 128]⟩
abbrev S_ : Shape := ⟨0, ![]⟩
abbrev S1x512 : Shape := ⟨2, ![1, 512]⟩
abbrev S32x512 : Shape := ⟨2, ![32, 512]⟩
abbrev S3x512 : Shape := ⟨2, ![3, 512]⟩
abbrev S8x512 : Shape := ⟨2, ![8, 512]⟩
abbrev S128x8 : Shape := ⟨2, ![128, 8]⟩
abbrev S128x8x64 : Shape := ⟨3, ![128, 8, 64]⟩
abbrev S128x512 : Shape := ⟨2, ![128, 512]⟩
abbrev S2x4096x1024 : Shape := ⟨3, ![2, 4096, 1024]⟩
abbrev S2x4096x512 : Shape := ⟨3, ![2, 4096, 512]⟩
abbrev S1x512x3072 : Shape := ⟨3, ![1, 512, 3072]⟩
abbrev S1x32x1024 : Shape := ⟨3, ![1, 32, 1024]⟩
abbrev S1x512x1024 : Shape := ⟨3, ![1, 512, 1024]⟩
abbrev S1x512x512 : Shape := ⟨3, ![1, 512, 512]⟩
abbrev S552x512 : Shape := ⟨2, ![552, 512]⟩
abbrev S7x544x512 : Shape := ⟨3, ![7, 544, 512]⟩
abbrev S32x1024 : Shape := ⟨2, ![32, 1024]⟩
abbrev S1x64x512 : Shape := ⟨3, ![1, 64, 512]⟩
abbrev S64x512 : Shape := ⟨2, ![64, 512]⟩
abbrev S544x512 : Shape := ⟨2, ![544, 512]⟩
abbrev S1x544x512 : Shape := ⟨3, ![1, 544, 512]⟩
abbrev S128x128 : Shape := ⟨2, ![128, 128]⟩
abbrev S1x128x512 : Shape := ⟨3, ![1, 128, 512]⟩
abbrev S128 : Shape := ⟨1, ![128]⟩
abbrev S128x1 : Shape := ⟨2, ![128, 1]⟩
abbrev S1x128x128 : Shape := ⟨3, ![1, 128, 128]⟩

abbrev nBuf : Space → Nat
  | .hbm => 26
  | .vmem => 14
  | .smem => 0
  | _ => 0

abbrev bufTy : (tb : Table) → Fin (tcTables nBuf tb) → BufTy
  | .hbm, ⟨0, _⟩ => ⟨S2x4096x3072, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S8x128x128, .f32⟩
  | .hbm, ⟨8, _⟩ => ⟨S8x128, .f32⟩
  | .hbm, ⟨9, _⟩ => ⟨S_, .f32⟩
  | .hbm, ⟨10, _⟩ => ⟨S1x512, .f32⟩
  | .hbm, ⟨11, _⟩ => ⟨S32x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S_, .f32⟩
  | .hbm, ⟨18, _⟩ => ⟨S3x512, .f32⟩
  | .hbm, ⟨19, _⟩ => ⟨S8x512, .f32⟩
  | .hbm, ⟨20, _⟩ => ⟨S128x8, .f32⟩
  | .hbm, ⟨21, _⟩ => ⟨S128x8x64, .f32⟩
  | .hbm, ⟨22, _⟩ => ⟨S128x512, .f32⟩
  | .hbm, ⟨23, _⟩ => ⟨S2x4096x1024, .bf16⟩
  | .hbm, ⟨24, _⟩ => ⟨S2x4096x512, .f32⟩
  | .hbm, ⟨25, _⟩ => ⟨S2x4096x512, .bf16⟩
  | .local _ .vmem, ⟨0, _⟩ => ⟨S1x512x3072, .f32⟩
  | .local _ .vmem, ⟨1, _⟩ => ⟨S1x512x3072, .f32⟩
  | .local _ .vmem, ⟨2, _⟩ => ⟨S1x32x1024, .f32⟩
  | .local _ .vmem, ⟨3, _⟩ => ⟨S1x32x1024, .f32⟩
  | .local _ .vmem, ⟨4, _⟩ => ⟨S32x512, .f32⟩
  | .local _ .vmem, ⟨5, _⟩ => ⟨S8x512, .f32⟩
  | .local _ .vmem, ⟨6, _⟩ => ⟨S8x128x128, .f32⟩
  | .local _ .vmem, ⟨7, _⟩ => ⟨S128x512, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x512, .f32⟩
  | .local _ .vmem, ⟨11, _⟩ => ⟨S1x512x512, .f32⟩
  | .local _ .vmem, ⟨12, _⟩ => ⟨S552x512, .f32⟩
  | .local _ .vmem, ⟨13, _⟩ => ⟨S7x544x512, .f32⟩
  | _, _ => ⟨S2x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_109 : BitVec 32 := 0#32
  let c8_i32 : BitVec 32 := 8#32
  let v170 : BitVec 32 := Scalar.addi c0_i32_109 c8_i32
  let c1_i32 : BitVec 32 := 1#32
  ⟨c0_i32_109, v170, c1_i32⟩
def k0_mult1 (k0_t1 : Fin k0_t1_loop.trips) : BitVec 32 :=
  let c0_i32_109 : BitVec 32 := 0#32
  let c1_i32 : BitVec 32 := 1#32
  let arg12 : BitVec 32 := Scf.iv c0_i32_109 c1_i32 k0_t1
  let c64_i32 : BitVec 32 := 64#32
  let v175 : BitVec 32 := Scalar.muli arg12 c64_i32
  v175
def k0_off1 (k0_t1 : Fin k0_t1_loop.trips) (c0_i32_117 : BitVec 32) : Fin 3 → Nat :=
  let c1_118 : Index := 1#32
  let c0_i32_109 : BitVec 32 := 0#32
  let c1_i32 : BitVec 32 := 1#32
  let arg12 : BitVec 32 := Scf.iv c0_i32_109 c1_i32 k0_t1
  let c64_i32 : BitVec 32 := 64#32
  let v175 : BitVec 32 := Scalar.muli arg12 c64_i32
  let v176 : BitVec 32 := v175
  let v182 : BitVec 32 := Scalar.addi v176 c0_i32_117
  let v183 : Index := Scalar.indexCast v182
  let c0_119 : Index := 0#32
  ![1, v183.toNat, 0]
def k0_off2 (k0_t1 : Fin k0_t1_loop.trips) (c0_i32_122 : BitVec 32) : Fin 3 → Nat :=
  let c2_123 : Index := 2#32
  let c0_i32_109 : BitVec 32 := 0#32
  let c1_i32 : BitVec 32 := 1#32
  let arg12 : BitVec 32 := Scf.iv c0_i32_109 c1_i32 k0_t1
  let c64_i32 : BitVec 32 := 64#32
  let v175 : BitVec 32 := Scalar.muli arg12 c64_i32
  let v176 : BitVec 32 := v175
  let v191 : BitVec 32 := Scalar.addi v176 c0_i32_122
  let v192 : Index := Scalar.indexCast v191
  let c0_124 : Index := 0#32
  ![2, v192.toNat, 0]
def k0_off3 (k0_t1 : Fin k0_t1_loop.trips) (c0_i32_127 : BitVec 32) : Fin 3 → Nat :=
  let c3_128 : Index := 3#32
  let c0_i32_109 : BitVec 32 := 0#32
  let c1_i32 : BitVec 32 := 1#32
  let arg12 : BitVec 32 := Scf.iv c0_i32_109 c1_i32 k0_t1
  let c64_i32 : BitVec 32 := 64#32
  let v175 : BitVec 32 := Scalar.muli arg12 c64_i32
  let v176 : BitVec 32 := v175
  let v200 : BitVec 32 := Scalar.addi v176 c0_i32_127
  let v201 : Index := Scalar.indexCast v200
  let c0_129 : Index := 0#32
  ![3, v201.toNat, 0]
def k0_off4 (k0_t1 : Fin k0_t1_loop.trips) (c0_i32_132 : BitVec 32) : Fin 3 → Nat :=
  let c4_133 : Index := 4#32
  let c0_i32_109 : BitVec 32 := 0#32
  let c1_i32 : BitVec 32 := 1#32
  let arg12 : BitVec 32 := Scf.iv c0_i32_109 c1_i32 k0_t1
  let c64_i32 : BitVec 32 := 64#32
  let v175 : BitVec 32 := Scalar.muli arg12 c64_i32
  let v176 : BitVec 32 := v175
  let v209 : BitVec 32 := Scalar.addi v176 c0_i32_132
  let v210 : Index := Scalar.indexCast v209
  let c0_134 : Index := 0#32
  ![4, v210.toNat, 0]
def k0_off5 (k0_t1 : Fin k0_t1_loop.trips) (c0_i32_137 : BitVec 32) : Fin 3 → Nat :=
  let c5_138 : Index := 5#32
  let c0_i32_109 : BitVec 32 := 0#32
  let c1_i32 : BitVec 32 := 1#32
  let arg12 : BitVec 32 := Scf.iv c0_i32_109 c1_i32 k0_t1
  let c64_i32 : BitVec 32 := 64#32
  let v175 : BitVec 32 := Scalar.muli arg12 c64_i32
  let v176 : BitVec 32 := v175
  let v218 : BitVec 32 := Scalar.addi v176 c0_i32_137
  let v219 : Index := Scalar.indexCast v218
  let c0_139 : Index := 0#32
  ![5, v219.toNat, 0]
def k0_off6 (k0_t1 : Fin k0_t1_loop.trips) (c0_i32_142 : BitVec 32) : Fin 3 → Nat :=
  let c6_143 : Index := 6#32
  let c0_i32_109 : BitVec 32 := 0#32
  let c1_i32 : BitVec 32 := 1#32
  let arg12 : BitVec 32 := Scf.iv c0_i32_109 c1_i32 k0_t1
  let c64_i32 : BitVec 32 := 64#32
  let v175 : BitVec 32 := Scalar.muli arg12 c64_i32
  let v176 : BitVec 32 := v175
  let v227 : BitVec 32 := Scalar.addi v176 c0_i32_142
  let v228 : Index := Scalar.indexCast v227
  let c0_144 : Index := 0#32
  ![6, v228.toNat, 0]
def k0_off7 (k0_t1 : Fin k0_t1_loop.trips) (c8_i32_147 : BitVec 32) : Fin 2 → Nat :=
  let c0_i32_109 : BitVec 32 := 0#32
  let c1_i32 : BitVec 32 := 1#32
  let arg12 : BitVec 32 := Scf.iv c0_i32_109 c1_i32 k0_t1
  let c64_i32 : BitVec 32 := 64#32
  let v175 : BitVec 32 := Scalar.muli arg12 c64_i32
  let v176 : BitVec 32 := v175
  let v236 : BitVec 32 := Scalar.addi v176 c8_i32_147
  let v237 : Index := Scalar.indexCast v236
  let c0_148 : Index := 0#32
  ![v237.toNat, 0]
def k0_off8 (k0_t1 : Fin k0_t1_loop.trips) (c8_i32_151 : BitVec 32) : Fin 3 → Nat :=
  let c0_152 : Index := 0#32
  let c0_i32_109 : BitVec 32 := 0#32
  let c1_i32 : BitVec 32 := 1#32
  let arg12 : BitVec 32 := Scf.iv c0_i32_109 c1_i32 k0_t1
  let c64_i32 : BitVec 32 := 64#32
  let v175 : BitVec 32 := Scalar.muli arg12 c64_i32
  let v176 : BitVec 32 := v175
  let v244 : BitVec 32 := Scalar.addi v176 c8_i32_151
  let v245 : Index := Scalar.indexCast v244
  let c0_153 : Index := 0#32
  ![0, v245.toNat, 0]
def k0_off9 (k0_t1 : Fin k0_t1_loop.trips) : Fin 3 → Nat :=
  let c0_242 : Index := 0#32
  let c0_i32_109 : BitVec 32 := 0#32
  let c1_i32 : BitVec 32 := 1#32
  let arg12 : BitVec 32 := Scf.iv c0_i32_109 c1_i32 k0_t1
  let c64_i32 : BitVec 32 := 64#32
  let v175 : BitVec 32 := Scalar.muli arg12 c64_i32
  let v176 : BitVec 32 := v175
  let v457 : Index := Scalar.indexCast v176
  let c0_243 : Index := 0#32
  ![0, v457.toNat, 0]
@[reducible] def k0_t2_loop : Scf.Loop 32 :=
  let c0_i32_111 : BitVec 32 := 0#32
  let c4_i32 : BitVec 32 := 4#32
  let v174 : BitVec 32 := Scalar.addi c0_i32_111 c4_i32
  let c1_i32_112 : BitVec 32 := 1#32
  ⟨c0_i32_111, v174, c1_i32_112⟩
def k0_mult2 (k0_t2 : Fin k0_t2_loop.trips) : BitVec 32 :=
  let c0_i32_111 : BitVec 32 := 0#32
  let c1_i32_112 : BitVec 32 := 1#32
  let arg12 : BitVec 32 := Scf.iv c0_i32_111 c1_i32_112 k0_t2
  let c128_i32 : BitVec 32 := 128#32
  let v175 : BitVec 32 := Scalar.muli arg12 c128_i32
  v175
def k0_off10 (k0_t2 : Fin k0_t2_loop.trips) : Fin 3 → Nat :=
  let c0_114 : Index := 0#32
  let c0_i32_111 : BitVec 32 := 0#32
  let c1_i32_112 : BitVec 32 := 1#32
  let arg12 : BitVec 32 := Scf.iv c0_i32_111 c1_i32_112 k0_t2
  let c128_i32 : BitVec 32 := 128#32
  let v175 : BitVec 32 := Scalar.muli arg12 c128_i32
  let v176 : BitVec 32 := v175
  let v177 : Index := Scalar.indexCast v176
  let c0_115 : Index := 0#32
  ![0, v177.toNat, 0]
def k0_off11 (k0_t2 : Fin k0_t2_loop.trips) : Fin 3 → Nat :=
  let c0_128 : Index := 0#32
  let c0_i32_111 : BitVec 32 := 0#32
  let c1_i32_112 : BitVec 32 := 1#32
  let arg12 : BitVec 32 := Scf.iv c0_i32_111 c1_i32_112 k0_t2
  let c128_i32 : BitVec 32 := 128#32
  let v175 : BitVec 32 := Scalar.muli arg12 c128_i32
  let v176 : BitVec 32 := v175
  let v212 : Index := Scalar.indexCast v176
  let c1024 : Index := 1024#32
  ![0, v212.toNat, 1024]
def k0_off12 (k0_t2 : Fin k0_t2_loop.trips) : Fin 3 → Nat :=
  let c0_132 : Index := 0#32
  let c0_i32_111 : BitVec 32 := 0#32
  let c1_i32_112 : BitVec 32 := 1#32
  let arg12 : BitVec 32 := Scf.iv c0_i32_111 c1_i32_112 k0_t2
  let c128_i32 : BitVec 32 := 128#32
  let v175 : BitVec 32 := Scalar.muli arg12 c128_i32
  let v176 : BitVec 32 := v175
  let v225 : Index := Scalar.indexCast v176
  let c0_133 : Index := 0#32
  ![0, v225.toNat, 0]
def k0_off13 (k0_t2 : Fin k0_t2_loop.trips) : Fin 3 → Nat :=
  let c0_134 : Index := 0#32
  let c0_i32_111 : BitVec 32 := 0#32
  let c1_i32_112 : BitVec 32 := 1#32
  let arg12 : BitVec 32 := Scf.iv c0_i32_111 c1_i32_112 k0_t2
  let c128_i32 : BitVec 32 := 128#32
  let v175 : BitVec 32 := Scalar.muli arg12 c128_i32
  let v176 : BitVec 32 := v175
  let v229 : Index := Scalar.indexCast v176
  let c1536 : Index := 1536#32
  ![0, v229.toNat, 1536]
def k0_off14 (k0_t2 : Fin k0_t2_loop.trips) : Fin 3 → Nat :=
  let c0_139 : Index := 0#32
  let c0_i32_111 : BitVec 32 := 0#32
  let c1_i32_112 : BitVec 32 := 1#32
  let arg12 : BitVec 32 := Scf.iv c0_i32_111 c1_i32_112 k0_t2
  let c128_i32 : BitVec 32 := 128#32
  let v175 : BitVec 32 := Scalar.muli arg12 c128_i32
  let v176 : BitVec 32 := v175
  let v245 : Index := Scalar.indexCast v176
  let c2048 : Index := 2048#32
  ![0, v245.toNat, 2048]
def k0_off15 (k0_t2 : Fin k0_t2_loop.trips) : Fin 3 → Nat :=
  let c0_198 : Index := 0#32
  let c0_i32_111 : BitVec 32 := 0#32
  let c1_i32_112 : BitVec 32 := 1#32
  let arg12 : BitVec 32 := Scf.iv c0_i32_111 c1_i32_112 k0_t2
  let c128_i32 : BitVec 32 := 128#32
  let v175 : BitVec 32 := Scalar.muli arg12 c128_i32
  let v176 : BitVec 32 := v175
  let v356 : Index := Scalar.indexCast v176
  let c2560 : Index := 2560#32
  ![0, v356.toNat, 2560]
def k0_off16 (k0_t2 : Fin k0_t2_loop.trips) : Fin 3 → Nat :=
  let c0_202 : Index := 0#32
  let c0_i32_111 : BitVec 32 := 0#32
  let c1_i32_112 : BitVec 32 := 1#32
  let arg12 : BitVec 32 := Scf.iv c0_i32_111 c1_i32_112 k0_t2
  let c128_i32 : BitVec 32 := 128#32
  let v175 : BitVec 32 := Scalar.muli arg12 c128_i32
  let v176 : BitVec 32 := v175
  let v369 : Index := Scalar.indexCast v176
  let c512_203 : Index := 512#32
  ![0, v369.toNat, 512]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== EvenFwdRefIdeal.lean ====
abbrev S2x4096x3072 : Shape := ⟨3, ![2, 4096, 3072]⟩
abbrev S31x512 : Shape := ⟨2, ![31, 512]⟩
abbrev S512 : Shape := ⟨1, ![512]⟩
abbrev S8x128x128 : Shape := ⟨3, ![8, 128, 128]⟩
abbrev S8x128 : Shape := ⟨2, ![8, 128]⟩
abbrev S2x4096x1536 : Shape := ⟨3, ![2, 4096, 1536]⟩
abbrev S2x4096x512 : Shape := ⟨3, ![2, 4096, 512]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S2x32x128x8x64 : Shape := ⟨5, ![2, 32, 128, 8, 64]⟩
abbrev S128x128 : Shape := ⟨2, ![128, 128]⟩
abbrev S1x128x128 : Shape := ⟨3, ![1, 128, 128]⟩
abbrev S8x2x32x64x128 : Shape := ⟨5, ![8, 2, 32, 64, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 113
  | .vmem => 0
  | .smem => 0
  | _ => 0

abbrev bufTy : (tb : Table) → Fin (tcTables nBuf tb) → BufTy
  | .hbm, ⟨0, _⟩ => ⟨S2x4096x3072, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S8x128x128, .f32⟩
  | .hbm, ⟨8, _⟩ => ⟨S8x128, .f32⟩
  | .hbm, ⟨9, _⟩ => ⟨S2x4096x1536, .f32⟩
  | .hbm, ⟨10, _⟩ => ⟨S2x4096x512, .f32⟩
  | .hbm, ⟨11, _⟩ => ⟨S2x4096x512, .f32⟩
  | .hbm, ⟨12, _⟩ => ⟨S2x4096x512, .f32⟩
  | .hbm, ⟨13, _⟩ => ⟨S2x4096x512, .f32⟩
  | .hbm, ⟨14, _⟩ => ⟨S2x4096x512, .f32⟩
  | .hbm, ⟨15, _⟩ => ⟨S_, .f32⟩
  | .hbm, ⟨16, _⟩ => ⟨S2x4096x512, .f32⟩
  | .hbm, ⟨17, _⟩ => ⟨S2x4096x512, .f32⟩
  | .hbm, ⟨18, _⟩ => ⟨S2x4096x512, .f32⟩
  | .hbm, ⟨19, _⟩ => ⟨S_, .f32⟩
  | .hbm, ⟨20, _⟩ => ⟨S2x4096x512, .f32⟩
  | .hbm, ⟨21, _⟩ => ⟨S2x4096x512, .f32⟩
  | .hbm, ⟨22, _⟩ => ⟨S2x4096x512, .f32⟩
  | .hbm, ⟨23, _⟩ => ⟨S_, .f32⟩
  | .hbm, ⟨24, _⟩ => ⟨S2x4096x512, .f32⟩
  | .hbm, ⟨25, _⟩ => ⟨S2x4096x512, .f32⟩
  | .hbm, ⟨26, _⟩ => ⟨S_, .f32⟩
  | .hbm, ⟨27, _⟩ => ⟨S2x4096x512, .f32⟩
  | .hbm, ⟨28, _⟩ => ⟨S2x4096x512, .f32⟩
  | .hbm, ⟨29, _⟩ => ⟨S2x4096x512, .f32⟩
  | .hbm, ⟨30, _⟩ => ⟨S2x4096x512, .f32⟩
  | .hbm, ⟨31, _⟩ => ⟨S2x4096x512, .f32⟩
  | .hbm, ⟨32, _⟩ => ⟨S_, .f32⟩
  | .hbm, ⟨33, _⟩ => ⟨S2x4096x512, .f32⟩
  | .hbm, ⟨34, _⟩ => ⟨S2x4096x512, .f32⟩
  | .hbm, ⟨35, _⟩ => ⟨S2x4096x512, .f32⟩
  | .hbm, ⟨36, _⟩ => ⟨S_, .f32⟩
  | .hbm, ⟨37, _⟩ => ⟨S2x4096x512, .f32⟩
  | .hbm, ⟨38, _⟩ => ⟨S2x4096x512, .f32⟩
  | .hbm, ⟨39, _⟩ => ⟨S2x4096x512, .f32⟩
  | .hbm, ⟨40, _⟩ => ⟨S_, .f32⟩
  | .hbm, ⟨41, _⟩ => ⟨S2x4096x512, .f32⟩
  | .hbm, ⟨42, _⟩ => ⟨S2x4096x512, .f32⟩
  | .hbm, ⟨43, _⟩ => ⟨S_, .f32⟩
  | .hbm, ⟨44, _⟩ => ⟨S2x4096x512, .f32⟩
  | .hbm, ⟨45, _⟩ => ⟨S2x4096x512, .f32⟩
  | .hbm, ⟨46, _⟩ => ⟨S2x4096x512, .f32⟩
  | .hbm, ⟨47, _⟩ => ⟨S_, .f32⟩
  | .hbm, ⟨48, _⟩ => ⟨S2x4096, .f32⟩
  | .hbm, ⟨49, _⟩ => ⟨S2x4096x1, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S2x4096x512, .f32⟩
  | .hbm, ⟨54, _⟩ => ⟨S2x4096x512, .f32⟩
  | .hbm, ⟨55, _⟩ => ⟨S2x4096x512, .f32⟩
  | .hbm, ⟨56, _⟩ => ⟨S_, .f32⟩
  | .hbm, ⟨57, _⟩ => ⟨S2x4096, .f32⟩
  | .hbm, ⟨58, _⟩ => ⟨S2x4096x1, .f32⟩
  | .hbm, ⟨59, _⟩ => ⟨S_, .f32⟩
  | .hbm, ⟨60, _⟩ => ⟨S2x4096x1, .f32⟩
  | .hbm, ⟨61, _⟩ => ⟨S2x4096x1, .f32⟩
  | .hbm, ⟨62, _⟩ => ⟨S2x4096x512, .f32⟩
  | .hbm, ⟨63, _⟩ => ⟨S2x4096x512, .f32⟩
  | .hbm, ⟨64, _⟩ => ⟨S_, .f32⟩
  | .hbm, ⟨65, _⟩ => ⟨S2x4096x1, .f32⟩
  | .hbm, ⟨66, _⟩ => ⟨S2x4096x1, .f32⟩
  | .hbm, ⟨67, _⟩ => ⟨S2x4096x1, .f32⟩
  | .hbm, ⟨68, _⟩ => ⟨S2x4096x512, .f32⟩
  | .hbm, ⟨69, _⟩ => ⟨S2x4096x512, .f32⟩
  | .hbm, ⟨70, _⟩ => ⟨S1x1x512, .f32⟩
  | .hbm, ⟨71, _⟩ => ⟨S2x4096x512, .f32⟩
  | .hbm, ⟨72, _⟩ => ⟨S2x4096x512, .f32⟩
  | .hbm, ⟨73, _⟩ => ⟨S1x1x512, .f32⟩
  | .hbm, ⟨74, _⟩ => ⟨S2x4096x512, .f32⟩
  | .hbm, ⟨75, _⟩ => ⟨S2x4096x512, .f32⟩
  | .hbm, ⟨76, _⟩ => ⟨S2x32x128x8x64, .f32⟩
  | .hbm, ⟨77, _⟩ => ⟨S_, .i1⟩
  | .hbm, ⟨78, _⟩ => ⟨S128x128, .i1⟩
  | .hbm, ⟨79, _⟩ => ⟨S128x128, .i32⟩
  | .hbm, ⟨80, _⟩ => ⟨S_, .i32⟩
  | .hbm, ⟨81, _⟩ => ⟨S128x128, .i32⟩
  | .hbm, ⟨82, _⟩ => ⟨S128x128, .i32⟩
  | .hbm, ⟨83, _⟩ => ⟨S128x128, .i32⟩
  | .hbm, ⟨84, _⟩ => ⟨S128x128, .i1⟩
  | .hbm, ⟨85, _⟩ => ⟨S_, .i1⟩
  | .hbm, ⟨86, _⟩ => ⟨S128x128, .i1⟩
  | .hbm, ⟨87, _⟩ => ⟨S128x128, .i1⟩
  | .hbm, ⟨88, _⟩ => ⟨S1x128x128, .i1⟩
  | .hbm, ⟨89, _⟩ => ⟨S_, .f32⟩
  | .hbm, ⟨90, _⟩ => ⟨S8x128x128, .f32⟩
  | .hbm, ⟨91, _⟩ => ⟨S8x128x128, .i1⟩
  | .hbm, ⟨92, _⟩ => ⟨S8x128x128, .f32⟩
  | .hbm, ⟨93, _⟩ => ⟨S8x2x32x64x128, .f32⟩
  | .hbm, ⟨94, _⟩ => ⟨S2x32x128x8x64, .f32⟩
  | .hbm, ⟨95, _⟩ => ⟨S128x8, .f32⟩
  | .hbm, ⟨96, _⟩ => ⟨S128x8x1, .f32⟩
  | .hbm, ⟨97, _⟩ => ⟨S1x1x128x8x1, .f32⟩
  | .hbm, ⟨98, _⟩ => ⟨S2x32x128x8x64, .f32⟩
  | .hbm, ⟨99, _⟩ => ⟨S2x32x128x8x64, .f32⟩
  | .hbm, ⟨100, _⟩ => ⟨S2x4096x512, .f32⟩
  | .hbm, ⟨101, _⟩ => ⟨S2x4096x512, .f32⟩
  | .hbm, ⟨102, _⟩ => ⟨S2x4096x512, .f32⟩
  | .hbm, ⟨103, _⟩ => ⟨S2x4096x512, .f32⟩
  | .hbm, ⟨104, _⟩ => ⟨S_, .f32⟩
  | .hbm, ⟨105, _⟩ => ⟨S2x4096x512, .f32⟩
  | .hbm, ⟨106, _⟩ => ⟨S2x4096x512, .f32⟩
  | .hbm, ⟨107, _⟩ => ⟨S_, .f32⟩
  | .hbm, ⟨108, _⟩ => ⟨S2x4096x512, .f32⟩
  | .hbm, ⟨109, _⟩ => ⟨S2x4096x512, .f32⟩
  | .hbm, ⟨110, _⟩ => ⟨S2x4096x512, .f32⟩
  | .hbm, ⟨111, _⟩ => ⟨S2x4096x512, .f32⟩
  | .hbm, ⟨112, _⟩ => ⟨S2x4096x512, .bf16⟩
  | _, _ => ⟨S2x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_11 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c : Ref sig .tc := ⟨.hbm, 77, rfl⟩
abbrev main_v55 : Ref sig .tc := ⟨.hbm, 78, rfl⟩
abbrev main_call0_v0 : Ref sig .tc := ⟨.hbm, 79, rfl⟩
abbrev main_call0_c : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_c_0 : Ref sig .tc := ⟨.hbm, 85, rfl⟩
abbrev main_call0_v5 : Ref sig .tc := ⟨.hbm, 86, rfl⟩
abbrev main_v56 : Ref sig .tc := ⟨.hbm, 87, rfl⟩
abbrev main_v57 : Ref sig .tc := ⟨.hbm, 88, rfl⟩
abbrev main_cst_12 : Ref sig .tc := ⟨.hbm, 89, rfl⟩
abbrev main_v58 : Ref sig .tc := ⟨.hbm, 90, rfl⟩
abbrev main_call1_v0 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_call2_v0 : Ref sig .tc := ⟨.hbm, 102, rfl⟩
abbrev main_call2_v1 : Ref sig .tc := ⟨.hbm, 103, rfl⟩
abbrev main_call2_cst : Ref sig .tc := ⟨.hbm, 104, rfl⟩
abbrev main_call2_v2 : Ref sig .tc := ⟨.hbm, 105, rfl⟩
abbrev main_call2_v3 : Ref sig .tc := ⟨.hbm, 106, rfl⟩
abbrev main_call2_cst_0 : Ref sig .tc := ⟨.hbm, 107, rfl⟩
abbrev main_call2_v4 : Ref sig .tc := ⟨.hbm, 108, rfl⟩
abbrev main_call2_v5 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩

abbrev nD : Nat := 1
abbrev τ : Topo := Topo.v7x

variable {F : FTy → Type} [FloatOps F]
-- ==== OddFwd.lean ====
abbrev S2x4096x3072 : Shape := ⟨3, ![2, 4096, 3072]⟩
abbrev S4x128x128 : Shape := ⟨3, ![4, 128, 128]⟩
abbrev S512 : Shape := ⟨1, ![512]⟩
abbrev S3x512 : Shape := ⟨2, ![3, 512]⟩
abbrev S1x512 : Shape := ⟨2, ![1, 512]⟩
abbrev S_ : Shape := ⟨0, ![]⟩
abbrev S4x512 : Shape := ⟨2, ![4, 512]⟩
abbrev S8x512 : Shape := ⟨2, ![8, 512]⟩
abbrev S2x4096x1024 : Shape := ⟨3, ![2, 4096, 1024]⟩
abbrev S1x512x3072 : Shape := ⟨3, ![1, 512, 3072]⟩
abbrev S1x32x3072 : Shape := ⟨3, ![1, 32, 3072]⟩
abbrev S1x512x1024 : Shape := ⟨3, ![1, 512, 1024]⟩
abbrev S544x512 : Shape := ⟨2, ![544, 512]⟩
abbrev S512x512 : Shape := ⟨2, ![512, 512]⟩
abbrev S32x3072 : Shape := ⟨2, ![32, 3072]⟩
abbrev S32x512 : Shape := ⟨2, ![32, 512]⟩
abbrev S1x64x512 : Shape := ⟨3, ![1, 64, 512]⟩
abbrev S64x512 : Shape := ⟨2, ![64, 512]⟩
abbrev S24x512 : Shape := ⟨2, ![24, 512]⟩
abbrev S64x384 : Shape := ⟨2, ![64, 384]⟩
abbrev S16x384 : Shape := ⟨2, ![16, 384]⟩
abbrev S64x256 : Shape := ⟨2, ![64, 256]⟩
abbrev S8x256 : Shape := ⟨2, ![8, 256]⟩
abbrev S64x128 : Shape := ⟨2, ![64, 128]⟩
abbrev S64x1 : Shape := ⟨2, ![64, 1]⟩
abbrev S128x512 : Shape := ⟨2, ![128, 512]⟩
abbrev S128x128 : Shape := ⟨2, ![128, 128]⟩
abbrev S1x128x128 : Shape := ⟨3, ![1, 128, 128]⟩
abbrev S1x128x512 : Shape := ⟨3, ![1, 128, 512]⟩

abbrev nBuf : Space → Nat
  | .hbm => 10
  | .vmem => 16
  | .smem => 0
  | _ => 0

abbrev bufTy : (tb : Table) → Fin (tcTables nBuf tb) → BufTy
  | .hbm, ⟨0, _⟩ => ⟨S2x4096x3072, .f32⟩
  | .hbm, ⟨1, _⟩ => ⟨S4x128x128, .f32⟩
  | .hbm, ⟨2, _⟩ => ⟨S512, .f32⟩
  | .hbm, ⟨3, _⟩ => ⟨S3x512, .f32⟩
  | .hbm, ⟨4, _⟩ => ⟨S1x512, .f32⟩
  | .hbm, ⟨5, _⟩ => ⟨S_, .f32⟩
  | .hbm, ⟨6, _⟩ => ⟨S4x512, .f32⟩
  | .hbm, ⟨7, _⟩ => ⟨S8x512, .f32⟩
  | .hbm, ⟨8, _⟩ => ⟨S4x128x128, .bf16⟩
  | .hbm, ⟨9, _⟩ => ⟨S2x4096x1024, .bf16⟩
  | .local _ .vmem, ⟨0, _⟩ => ⟨S1x512x3072, .f32⟩
  | .local _ .vmem, ⟨1, _⟩ => ⟨S1x512x3072, .f32⟩
  | .local _ .vmem, ⟨2, _⟩ => ⟨S1x32x3072, .f32⟩
  | .local _ .vmem, ⟨3, _⟩ => ⟨S1x32x3072, .f32⟩
  | .local _ .vmem, ⟨4, _⟩ => ⟨S4x128x128, .bf16⟩
  | .local _ .vmem, ⟨5, _⟩ => ⟨S8x512, .f32⟩
  | .local _ .vmem, ⟨6, _⟩ => ⟨S1x512x1024, .bf16⟩
  | .local _ .vmem, ⟨7, _⟩ => ⟨S1x512x1024, .bf16⟩
  | .local _ .vmem, ⟨8, _⟩ => ⟨S544x512, .f32⟩
  | .local _ .vmem, ⟨9, _⟩ => ⟨S544x512, .f32⟩
  | .local _ .vmem, ⟨10, _⟩ => ⟨S544x512, .f32⟩
  | .local _ .vmem, ⟨11, _⟩ => ⟨S544x512, .f32⟩
  | .local _ .vmem, ⟨12, _⟩ => ⟨S544x512, .f32⟩
  | .local _ .vmem, ⟨13, _⟩ => ⟨S512x512, .f32⟩
  | .local _ .vmem, ⟨14, _⟩ => ⟨S544x512, .f32⟩
  | .local _ .vmem, ⟨15, _⟩ => ⟨S512x512, .f32⟩
  | _, _ => ⟨S2x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_583 : BitVec 32 := 0#32
  let c4_i32 : BitVec 32 := 4#32
  let v868 : BitVec 32 := Scalar.addi c0_i32_583 c4_i32
  let c1_i32_584 : BitVec 32 := 1#32
  ⟨c0_i32_583, v868, c1_i32_584⟩
def k0_mult1 (k0_t1 : Fin k0_t1_loop.trips) : BitVec 32 :=
  let c0_i32_583 : BitVec 32 := 0#32
  let c1_i32_584 : BitVec 32 := 1#32
  let arg15 : BitVec 32 := Scf.iv c0_i32_583 c1_i32_584 k0_t1
  let c128_i32_586 : BitVec 32 := 128#32
  let v869 : BitVec 32 := Scalar.muli arg15 c128_i32_586
  v869
def k0_off1 (k0_t1 : Fin k0_t1_loop.trips) : Fin 2 → Nat :=
  let c0_i32_583 : BitVec 32 := 0#32
  let c1_i32_584 : BitVec 32 := 1#32
  let arg15 : BitVec 32 := Scf.iv c0_i32_583 c1_i32_584 k0_t1
  let c128_i32_586 : BitVec 32 := 128#32
  let v869 : BitVec 32 := Scalar.muli arg15 c128_i32_586
  let v870 : BitVec 32 := v869
  let v871 : Index := Scalar.indexCast v870
  let c0_587 : Index := 0#32
  ![v871.toNat, 0]
def k0_off2 (k0_t1 : Fin k0_t1_loop.trips) : Fin 3 → Nat :=
  let c0_606 : Index := 0#32
  let c0_i32_583 : BitVec 32 := 0#32
  let c1_i32_584 : BitVec 32 := 1#32
  let arg15 : BitVec 32 := Scf.iv c0_i32_583 c1_i32_584 k0_t1
  let c128_i32_586 : BitVec 32 := 128#32
  let v869 : BitVec 32 := Scalar.muli arg15 c128_i32_586
  let v870 : BitVec 32 := v869
  let v895 : Index := Scalar.indexCast v870
  let c512 : Index := 512#32
  ![0, v895.toNat, 512]
def k0_off3 (k0_t1 : Fin k0_t1_loop.trips) : Fin 3 → Nat :=
  let c0_610 : Index := 0#32
  let c0_i32_583 : BitVec 32 := 0#32
  let c1_i32_584 : BitVec 32 := 1#32
  let arg15 : BitVec 32 := Scf.iv c0_i32_583 c1_i32_584 k0_t1
  let c128_i32_586 : BitVec 32 := 128#32
  let v869 : BitVec 32 := Scalar.muli arg15 c128_i32_586
  let v870 : BitVec 32 := v869
  let v907 : Index := Scalar.indexCast v870
  let c1536 : Index := 1536#32
  ![0, v907.toNat, 1536]
def k0_off4 (k0_t1 : Fin k0_t1_loop.trips) : Fin 3 → Nat :=
  let c0_612 : Index := 0#32
  let c0_i32_583 : BitVec 32 := 0#32
  let c1_i32_584 : BitVec 32 := 1#32
  let arg15 : BitVec 32 := Scf.iv c0_i32_583 c1_i32_584 k0_t1
  let c128_i32_586 : BitVec 32 := 128#32
  let v869 : BitVec 32 := Scalar.muli arg15 c128_i32_586
  let v870 : BitVec 32 := v869
  let v913 : Index := Scalar.indexCast v870
  let c2560 : Index := 2560#32
  ![0, v913.toNat, 2560]
def k0_off5 (k0_t1 : Fin k0_t1_loop.trips) : Fin 3 → Nat :=
  let c0_616 : Index := 0#32
  let c0_i32_583 : BitVec 32 := 0#32
  let c1_i32_584 : BitVec 32 := 1#32
  let arg15 : BitVec 32 := Scf.iv c0_i32_583 c1_i32_584 k0_t1
  let c128_i32_586 : BitVec 32 := 128#32
  let v869 : BitVec 32 := Scalar.muli arg15 c128_i32_586
  let v870 : BitVec 32 := v869
  let v926 : Index := Scalar.indexCast v870
  let c0_617 : Index := 0#32
  ![0, v926.toNat, 0]
def k0_off6 (k0_t1 : Fin k0_t1_loop.trips) : Fin 3 → Nat :=
  let c0_618 : Index := 0#32
  let c0_i32_583 : BitVec 32 := 0#32
  let c1_i32_584 : BitVec 32 := 1#32
  let arg15 : BitVec 32 := Scf.iv c0_i32_583 c1_i32_584 k0_t1
  let c128_i32_586 : BitVec 32 := 128#32
  let v869 : BitVec 32 := Scalar.muli arg15 c128_i32_586
  let v870 : BitVec 32 := v869
  let v931 : Index := Scalar.indexCast v870
  let c512_619 : Index := 512#32
  ![0, v931.toNat, 512]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OddFwdRefIdeal.lean ====
abbrev S2x4096x3072 : Shape := ⟨3, ![2, 4096, 3072]⟩
abbrev S4x128x128 : Shape := ⟨3, ![4, 128, 128]⟩
abbrev S512 : Shape := ⟨1, ![512]⟩
abbrev S3x512 : Shape := ⟨2, ![3, 512]⟩
abbrev S2x4096x512 : Shape := ⟨3, ![2, 4096, 512]⟩
abbrev S2x4096x4x128 : Shape := ⟨4, ![2, 4096, 4, 128]⟩
abbrev S_ : Shape := ⟨0, ![]⟩
abbrev S4096 : Shape := ⟨1, ![4096]⟩
abbrev S2x4096x1x128 : Shape := ⟨4, ![2, 4096, 1, 128]⟩
abbrev S2x4096x128 : Shape := ⟨3, ![2, 4096, 128]⟩
abbrev S2x2x128 : Shape := ⟨3, ![2, 2, 128]⟩
abbrev S2x4094x128 : Shape := ⟨3, ![2, 4094, 128]⟩
abbrev S4096x1 : Shape := ⟨2, ![4096, 1]⟩
abbrev S1x4096x1 : Shape := ⟨3, ![1, 4096, 1]⟩
abbrev S2x4x128 : Shape := ⟨3, ![2, 4, 128]⟩
abbrev S2x4092x128 : Shape := ⟨3, ![2, 4092, 128]⟩
abbrev S2x8x128 : Shape := ⟨3, ![2, 8, 128]⟩
abbrev S2x4088x128 : Shape := ⟨3, ![2, 4088, 128]⟩
abbrev S2x16x128 : Shape := ⟨3, ![2, 16, 128]⟩
abbrev S2x4080x128 : Shape := ⟨3, ![2, 4080, 128]⟩
abbrev S4x128x2x4096 : Shape := ⟨4, ![4, 128, 2, 4096]⟩
abbrev S1x1x512 : Shape := ⟨3, ![1, 1, 512]⟩
abbrev S2x2x512 : Shape := ⟨3, ![2, 2, 512]⟩
abbrev S2x4098x512 : Shape := ⟨3, ![2, 4098, 512]⟩
abbrev S1x512 : Shape := ⟨2, ![1, 512]⟩
abbrev S2x4096x1024 : Shape := ⟨3, ![2, 4096, 1024]⟩

abbrev nBuf : Space → Nat
  | .hbm => 134
  | .vmem => 0
  | .smem => 0
  | _ => 0

abbrev hbmTy0_0 (i : Nat) : BufTy := match i % 128 with
  | 0 => ⟨S2x4096x3072, .f32⟩
  | 1 => ⟨S4x128x128, .f32⟩
  | 2 => ⟨S512, .f32⟩
  | 3 => ⟨S3x512, .f32⟩
  | 4 => ⟨S2x4096x512, .f32⟩
  | 5 => ⟨S2x4096x512, .f32⟩
  | 6 => ⟨S2x4096x512, .f32⟩
  | 7 => ⟨S2x4096x512, .f32⟩
  | 8 => ⟨S2x4096x512, .f32⟩
  | 9 => ⟨S2x4096x512, .f32⟩
  | 10 => ⟨S2x4096x4x128, .f32⟩
  | 11 => ⟨S_, .f32⟩
  | 12 => ⟨S_, .f32⟩
  | 13 => ⟨S2x4096x4x128, .f32⟩
  | 14 => ⟨S4096, .i32⟩
  | 15 => ⟨S_, .i32⟩
  | 16 => ⟨S4096, .i32⟩
  | 17 => ⟨S4096, .i32⟩
  | 18 => ⟨S4096, .f32⟩
  | 19 => ⟨S2x4096x1x128, .f32⟩
  | 20 => ⟨S2x4096x128, .f32⟩
  | 21 => ⟨S_, .f32⟩
  | 22 => ⟨S2x2x128, .f32⟩
  | 23 => ⟨S2x4094x128, .f32⟩
  | 24 => ⟨S2x4096x128, .f32⟩
  | 25 => ⟨S2x4096x128, .f32⟩
  | 26 => ⟨S_, .f32⟩
  | 27 => ⟨S4096, .f32⟩
  | 28 => ⟨S4096, .f32⟩
  | 29 => ⟨S4096x1, .f32⟩
  | 30 => ⟨S1x4096x1, .f32⟩
  | 31 => ⟨S2x4096x128, .f32⟩
  | 32 => ⟨S2x4096x128, .f32⟩
  | 33 => ⟨S2x4096x1x128, .f32⟩
  | 34 => ⟨S2x4096x128, .f32⟩
  | 35 => ⟨S_, .f32⟩
  | 36 => ⟨S2x4x128, .f32⟩
  | 37 => ⟨S2x4092x128, .f32⟩
  | 38 => ⟨S2x4096x128, .f32⟩
  | 39 => ⟨S2x4096x128, .f32⟩
  | 40 => ⟨S_, .f32⟩
  | 41 => ⟨S4096, .f32⟩
  | 42 => ⟨S4096, .f32⟩
  | 43 => ⟨S4096x1, .f32⟩
  | 44 => ⟨S1x4096x1, .f32⟩
  | 45 => ⟨S2x4096x128, .f32⟩
  | 46 => ⟨S2x4096x128, .f32⟩
  | 47 => ⟨S2x4096x1x128, .f32⟩
  | 48 => ⟨S2x4096x128, .f32⟩
  | 49 => ⟨S_, .f32⟩
  | 50 => ⟨S2x8x128, .f32⟩
  | 51 => ⟨S2x4088x128, .f32⟩
  | 52 => ⟨S2x4096x128, .f32⟩
  | 53 => ⟨S2x4096x128, .f32⟩
  | 54 => ⟨S_, .f32⟩
  | 55 => ⟨S4096, .f32⟩
  | 56 => ⟨S4096, .f32⟩
  | 57 => ⟨S4096x1, .f32⟩
  | 58 => ⟨S1x4096x1, .f32⟩
  | 59 => ⟨S2x4096x128, .f32⟩
  | 60 => ⟨S2x4096x128, .f32⟩
  | 61 => ⟨S2x4096x1x128, .f32⟩
  | 62 => ⟨S2x4096x128, .f32⟩
  | 63 => ⟨S_, .f32⟩
  | 64 => ⟨S2x16x128, .f32⟩
  | 65 => ⟨S2x4080x128, .f32⟩
  | 66 => ⟨S2x4096x128, .f32⟩
  | 67 => ⟨S2x4096x128, .f32⟩
  | 68 => ⟨S_, .f32⟩
  | 69 => ⟨S4096, .f32⟩
  | 70 => ⟨S4096, .f32⟩
  | 71 => ⟨S4096x1, .f32⟩
  | 72 => ⟨S1x4096x1, .f32⟩
  | 73 => ⟨S2x4096x128, .f32⟩
  | 74 => ⟨S2x4096x128, .f32⟩
  | 75 => ⟨S2x4096x1x128, .f32⟩
  | 76 => ⟨S2x4096x1x128, .f32⟩
  | 77 => ⟨S2x4096x1x128, .f32⟩
  | 78 => ⟨S2x4096x1x128, .f32⟩
  | 79 => ⟨S2x4096x4x128, .f32⟩
  | 80 => ⟨S2x4096x4x128, .f32⟩
  | 81 => ⟨S4x128x2x4096, .f32⟩
  | 82 => ⟨S2x4096x4x128, .f32⟩
  | 83 => ⟨S2x4096x512, .f32⟩
  | 84 => ⟨S1x1x512, .f32⟩
  | 85 => ⟨S2x4096x512, .f32⟩
  | 86 => ⟨S2x4096x512, .f32⟩
  | 87 => ⟨S2x4096x512, .f32⟩
  | 88 => ⟨S2x4096x512, .f32⟩
  | 89 => ⟨S_, .f32⟩
  | 90 => ⟨S2x4096x512, .f32⟩
  | 91 => ⟨S2x4096x512, .f32⟩
  | 92 => ⟨S_, .f32⟩
  | 93 => ⟨S2x4096x512, .f32⟩
  | 94 => ⟨S2x4096x512, .f32⟩
  | 95 => ⟨S2x4096x512, .f32⟩
  | 96 => ⟨S2x4096x512, .f32⟩
  | 97 => ⟨S_, .f32⟩
  | 98 => ⟨S2x2x512, .f32⟩
  | 99 => ⟨S2x4096x512, .f32⟩
  | 100 => ⟨S2x4098x512, .f32⟩
  | 101 => ⟨S2x4096x512, .f32⟩
  | 102 => ⟨S1x512, .f32⟩
  | 103 => ⟨S512, .f32⟩
  | 104 => ⟨S1x1x512, .f32⟩
  | 105 => ⟨S2x4096x512, .f32⟩
  | 106 => ⟨S2x4096x512, .f32⟩
  | 107 => ⟨S2x4096x512, .f32⟩
  | 108 => ⟨S1x512, .f32⟩
  | 109 => ⟨S512, .f32⟩
  | 110 => ⟨S1x1x512, .f32⟩
  | 111 => ⟨S2x4096x512, .f32⟩
  | 112 => ⟨S2x4096x512, .f32⟩
  | 113 => ⟨S2x4096x512, .f32⟩
  | 114 => ⟨S2x4096x512, .f32⟩
  | 115 => ⟨S1x512, .f32⟩
  | 116 => ⟨S512, .f32⟩
  | 117 => ⟨S1x1x512, .f32⟩
  | 118 => ⟨S2x4096x512, .f32⟩
  | 119 => ⟨S2x4096x512, .f32⟩
  | 120 => ⟨S2x4096x512, .f32⟩
  | 121 => ⟨S2x4096x512, .f32⟩
  | 122 => ⟨S2x4096x512, .f32⟩
  | 123 => ⟨S2x4096x512, .f32⟩
  | 124 => ⟨S_, .f32⟩
  | 125 => ⟨S2x4096x512, .f32⟩
  | 126 => ⟨S2x4096x512, .f32⟩
  | 127 => ⟨S_, .f32⟩
  | _ => ⟨S2x4096x3072, .f32⟩

abbrev hbmTy0_1 (i : Nat) : BufTy := match i % 128 with
  | 0 => ⟨S2x4096x512, .f32⟩
  | 1 => ⟨S2x4096x512, .f32⟩
  | 2 => ⟨S2x4096x512, .f32⟩
  | 3 => ⟨S2x4096x512, .f32⟩
  | 4 => ⟨S2x4096x1024, .f32⟩
  | 5 => ⟨S2x4096x1024, .bf16⟩
  | _ => ⟨S2x4096x3072, .f32⟩

abbrev hbmTy (i : Nat) : BufTy := match i / 128 with
  | 0 => hbmTy0_0 i
  | 1 => hbmTy0_1 i
  | _ => ⟨S2x4096x3072, .f32⟩

abbrev bufTy : (tb : Table) → Fin (tcTables nBuf tb) → BufTy
  | .hbm, ⟨i, _⟩ => hbmTy i
  | _, _ => ⟨S2x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_call0_cst : Ref sig .tc := ⟨.hbm, 11, rfl⟩
abbrev main_call0_call0_v0 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_call1_v0 : Ref sig .tc := ⟨.hbm, 87, rfl⟩
abbrev main_call1_v1 : Ref sig .tc := ⟨.hbm, 88, rfl⟩
abbrev main_call1_cst : Ref sig .tc := ⟨.hbm, 89, rfl⟩
abbrev main_call1_v2 : Ref sig .tc := ⟨.hbm, 90, rfl⟩
abbrev main_call1_v3 : Ref sig .tc := ⟨.hbm, 91, rfl⟩
abbrev main_call1_cst_0 : Ref sig .tc := ⟨.hbm, 92, rfl⟩
abbrev main_call1_v4 : Ref sig .tc := ⟨.hbm, 93, rfl⟩
abbrev main_call1_v5 : Ref sig .tc := ⟨.hbm, 94, rfl⟩
abbrev main_v72 : Ref sig .tc := ⟨.hbm, 95, rfl⟩
abbrev main_v73 : Ref sig .tc := ⟨.hbm, 96, rfl⟩
abbrev main_cst_7 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_call2_v0 : Ref sig .tc := ⟨.hbm, 122, rfl⟩
abbrev main_call2_v1 : Ref sig .tc := ⟨.hbm, 123, rfl⟩
abbrev main_call2_cst : Ref sig .tc := ⟨.hbm, 124, rfl⟩
abbrev main_call2_v2 : Ref sig .tc := ⟨.hbm, 125, rfl⟩
abbrev main_call2_v3 : Ref sig .tc := ⟨.hbm, 126, rfl⟩
abbrev main_call2_cst_0 : Ref sig .tc := ⟨.hbm, 127, rfl⟩
abbrev main_call2_v4 : Ref sig .tc := ⟨.hbm, 128, rfl⟩
abbrev main_call2_v5 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩

abbrev nD : Nat := 1
abbrev τ : Topo := Topo.v7x

variable {F : FTy → Type} [FloatOps F]
-- ==== InDx.lean ====
abbrev S8192x1024 : Shape := ⟨2, ![8192, 1024]⟩
abbrev S8192x3072 : Shape := ⟨2, ![8192, 3072]⟩
abbrev S1024x3072 : Shape := ⟨2, ![1024, 3072]⟩
abbrev S_ : Shape := ⟨0, ![]⟩
abbrev S8x128 : Shape := ⟨2, ![8, 128]⟩
abbrev S512x1024 : Shape := ⟨2, ![512, 1024]⟩
abbrev S512x3072 : Shape := ⟨2, ![512, 3072]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S1024x3072, .f32⟩
  | .hbm, ⟨3, _⟩ => ⟨S1024x3072, .bf16⟩
  | .hbm, ⟨4, _⟩ => ⟨S_, .f32⟩
  | .hbm, ⟨5, _⟩ => ⟨S8x128, .f32⟩
  | .hbm, ⟨6, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x3072, .f32⟩
  | .local _ .vmem, ⟨3, _⟩ => ⟨S512x3072, .f32⟩
  | .local _ .vmem, ⟨4, _⟩ => ⟨S1024x3072, .bf16⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InDxRefIdeal.lean ====
abbrev S8192x1024 : Shape := ⟨2, ![8192, 1024]⟩
abbrev S8192x3072 : Shape := ⟨2, ![8192, 3072]⟩
abbrev S1024x3072 : Shape := ⟨2, ![1024, 3072]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S1024x3072, .f32⟩
  | .hbm, ⟨3, _⟩ => ⟨S_, .f32⟩
  | .hbm, ⟨4, _⟩ => ⟨S8192x1024, .f32⟩
  | .hbm, ⟨5, _⟩ => ⟨S8192x3072, .f32⟩
  | .hbm, ⟨6, _⟩ => ⟨S8192x1024, .f32⟩
  | .hbm, ⟨7, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.LnGrad.lean ====
module
public import Idealize.ShloMosaic.Lib.Pipeline.ValueKit
public import Idealize.ShloMosaic.Lib.Pointwise

@[expose] public section

/-!
The gradient of a layer norm, row by row, over the extended reals.

A row is a function `Fin n → EReal`.  `lnBwd` is the short form the kernels evaluate; `lnVjp` is what
differentiating the forward lines term by term gives.  On real rows the two are equal (`lnVjp_eq`).
-/

noncomputable section
open Idealize ShloMosaic
namespace Cert.Rows

variable {n : Nat}

/-- The mean of a row, by the divisor `N`. -/
def mean (N : EReal) (f : Fin n → EReal) : EReal := Ideal.div (∑ k, f k) N

/-- A row less its mean. -/
def dev (N : EReal) (f : Fin n → EReal) (j : Fin n) : EReal := f j - mean N f

/-- The variance of a row, plus the small constant. -/
def vpe (N e : EReal) (f : Fin n → EReal) : EReal := mean N (fun k => dev N f k * dev N f k) + e

/-- The reciprocal standard deviation. -/
def rs (N e : EReal) (f : Fin n → EReal) : EReal := Ideal.rsqrt (vpe N e f)

/-- The normalised row. -/
def xh (N e : EReal) (f : Fin n → EReal) (j : Fin n) : EReal := dev N f j * rs N e f

/-- The gradient as the kernels evaluate it: `u` is the cotangent of the normalised row of `f`. -/
def lnBwd (N e : EReal) (f u : Fin n → EReal) (j : Fin n) : EReal :=
  rs N e f * (u j - mean N u - xh N e f j * mean N (fun k => u k * xh N e f k))

/-- The part of the derivative through the variance. -/
def lnVar (N e mh two : EReal) (f u : Fin n → EReal) (j : Fin n) : EReal :=
  Ideal.div ((∑ k, dev N f k * u k) * (mh * Ideal.div (rs N e f) (vpe N e f))) N * (two * dev N f j)

/-- The derivative of the forward lines, taken term by term. -/
def lnVjp (N e mh two : EReal) (f u : Fin n → EReal) (j : Fin n) : EReal :=
  u j * rs N e f + lnVar N e mh two f u j +
    Ideal.div ((∑ k, -(u k * rs N e f)) + ∑ k, -(lnVar N e mh two f u k)) N

/-- A finite sum of reals is real. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

section Real
variable {N : ℝ} (hN : 0 < N) {e : ℝ} (he : 0 < e) (a u : Fin n → ℝ)

/-- The mean of a real row. -/
def meanR (N : ℝ) (a : Fin n → ℝ) : ℝ := (∑ k, a k) * (1 / N)

include hN in
theorem mean_coe : mean (N : EReal) (fun k => (a k : EReal)) = (meanR N a : EReal) := by
  rw [mean, coe_sum, Ideal.div_coe hN.ne', ← EReal.coe_mul]; rfl

include hN in
theorem dev_coe (j : Fin n) : dev (N : EReal) (fun k => (a k : EReal)) j = ((a j - meanR N a : ℝ) : EReal) := by
  rw [dev, mean_coe hN, ← EReal.coe_sub]

/-- The variance plus the constant, of a real row. -/
def vpeR (N e : ℝ) (a : Fin n → ℝ) : ℝ := meanR N (fun k => (a k - meanR N a) * (a k - meanR N a)) + e

include hN in
theorem vpe_coe : vpe (N : EReal) (e : EReal) (fun k => (a k : EReal)) = (vpeR N e a : EReal) := by
  unfold vpe vpeR
  simp_rw [dev_coe hN, ← EReal.coe_mul]
  rw [mean_coe hN, ← EReal.coe_add]

include hN he in
theorem vpeR_pos : 0 < vpeR N e a := by
  refine add_pos_of_nonneg_of_pos (mul_nonneg (Finset.sum_nonneg fun k _ => mul_self_nonneg _) ?_) he
  exact one_div_nonneg.2 hN.le

include hN he in
theorem rs_coe : rs (N : EReal) (e : EReal) (fun k => (a k : EReal)) = (((Real.sqrt (vpeR N e a))⁻¹ : ℝ) : EReal) := by
  have h := vpeR_pos hN he a
  rw [rs, vpe_coe hN, Ideal.rsqrt_coe, if_neg h.not_gt, if_neg h.ne']

include hN he in
theorem xh_coe (j : Fin n) : xh (N : EReal) (e : EReal) (fun k => (a k : EReal)) j =
    (((a j - meanR N a) * (Real.sqrt (vpeR N e a))⁻¹ : ℝ) : EReal) := by
  rw [xh, rs_coe hN he, dev_coe hN, ← EReal.coe_mul]

include hN he in
theorem lnBwd_coe (j : Fin n) : ∃ z : ℝ, lnBwd (N : EReal) (e : EReal) (fun k => (a k : EReal)) (fun k => (u k : EReal)) j = z := by
  unfold lnBwd
  simp_rw [xh_coe hN he, rs_coe hN he, ← EReal.coe_mul]
  rw [mean_coe hN, mean_coe hN, ← EReal.coe_mul, ← EReal.coe_sub, ← EReal.coe_sub, ← EReal.coe_mul]
  exact ⟨_, rfl⟩

include hN he in
/-- On real rows the term-by-term derivative is the short form. -/
theorem lnVjp_coe (hn : N = n) (j : Fin n) :
    lnVjp (N : EReal) (e : EReal) ((-(1 / 2) : ℝ) : EReal) ((2 : ℝ) : EReal) (fun k => (a k : EReal)) (fun k => (u k : EReal)) j =
      lnBwd (N : EReal) (e : EReal) (fun k => (a k : EReal)) (fun k => (u k : EReal)) j := by
  have hv := vpeR_pos hN he a
  have hsum : ∑ k, (a k - meanR N a) = 0 := by
    rw [Finset.sum_sub_distrib, Finset.sum_const, Finset.card_univ, Fintype.card_fin, nsmul_eq_mul, ← hn, meanR]
    field_simp; ring
  have hs : (Real.sqrt (vpeR N e a))⁻¹ * (1 / vpeR N e a) =
      (Real.sqrt (vpeR N e a))⁻¹ * (Real.sqrt (vpeR N e a))⁻¹ * (Real.sqrt (vpeR N e a))⁻¹ := by
    rw [one_div, mul_assoc]
    congr 1
    rw [← mul_inv, Real.mul_self_sqrt hv.le]
  have hvar : ∀ k, lnVar (N : EReal) (e : EReal) ((-(1 / 2) : ℝ) : EReal) ((2 : ℝ) : EReal) (fun k => (a k : EReal)) (fun k => (u k : EReal)) k =
      (((∑ l, (a l - meanR N a) * u l) * (-(1 / 2) * ((Real.sqrt (vpeR N e a))⁻¹ * (1 / vpeR N e a))) * (1 / N) * (2 * (a k - meanR N a)) : ℝ) : EReal) := by
    intro k
    unfold lnVar
    simp_rw [dev_coe hN, rs_coe hN he, vpe_coe hN, ← EReal.coe_mul]
    rw [coe_sum, Ideal.div_coe hv.ne', ← EReal.coe_mul, ← EReal.coe_mul, ← EReal.coe_mul, Ideal.div_coe hN.ne', ← EReal.coe_mul, ← EReal.coe_mul]
  unfold lnVjp lnBwd
  simp_rw [hvar, xh_coe hN he, rs_coe hN he, ← EReal.coe_mul, ← EReal.coe_neg]
  rw [mean_coe hN, mean_coe hN, coe_sum, coe_sum, ← EReal.coe_add, ← EReal.coe_add, Ideal.div_coe hN.ne', ← EReal.coe_mul,
    ← EReal.coe_add, ← EReal.coe_sub, ← EReal.coe_mul, ← EReal.coe_sub, ← EReal.coe_mul]
  congr 1
  rw [hs]
  generalize meanR N a = μ at *
  generalize (Real.sqrt (vpeR N e a))⁻¹ = s
  unfold meanR
  have h1 : ∑ k, -((∑ l, (a l - μ) * u l) * (-(1 / 2) * (s * s * s)) * (1 / N) * (2 * (a k - μ))) = 0 := by
    rw [Finset.sum_neg_distrib, ← Finset.mul_sum, ← Finset.mul_sum, hsum]; ring
  have h2 : ∑ k, u k * ((a k - μ) * s) = (∑ l, (a l - μ) * u l) * s := by
    rw [Finset.sum_mul]; exact Finset.sum_congr rfl fun k _ => by ring
  have h3 : ∑ k, -(u k * s) = -((∑ k, u k) * s) := by
    rw [Finset.sum_neg_distrib, Finset.sum_mul]
  rw [h1, h2, h3]
  ring

end Real

/-- A row of reals, as the coercion of a real row. -/
theorem exists_row {f : Fin n → EReal} (h : ∀ k, ∃ z : ℝ, f k = z) : ∃ a : Fin n → ℝ, f = fun k => (a k : EReal) :=
  ⟨fun k => (h k).choose, funext fun k => (h k).choose_spec⟩

/-- On rows of reals the term-by-term derivative is the short form. -/
theorem lnVjp_eq {N e : ℝ} (hN : 0 < N) (he : 0 < e) (hn : N = n) {f u : Fin n → EReal}
    (hf : ∀ k, ∃ z : ℝ, f k = z) (hu : ∀ k, ∃ z : ℝ, u k = z) (j : Fin n) :
    lnVjp (N : EReal) (e : EReal) ((-(1 / 2) : ℝ) : EReal) ((2 : ℝ) : EReal) f u j = lnBwd (N : EReal) (e : EReal) f u j := by
  obtain ⟨a, rfl⟩ := exists_row hf
  obtain ⟨b, rfl⟩ := exists_row hu
  exact lnVjp_coe hN he a b hn j

end Cert.Rows
-- ==== Proof.PostSpec.lean ====
module
public import proofs.«01_k».proof.Proof.LnGrad

@[expose] public section

/-!
The backward of a residual block's tail, as plain functions of rows and columns: the residual `r`, its
layer norm `h`, the gate of `h`, and the cotangents down to `dr`, the gradient of `r`.
-/

noncomputable section
open Idealize.ShloMosaic
namespace Cert.Rows

/-- A matrix of extended reals. -/
abbrev Mat (a b : Nat) : Type := (⟨2, ![a, b]⟩ : Shape).Idx → EReal

/-- A vector of extended reals. -/
abbrev Row (a : Nat) : Type := (⟨1, ![a]⟩ : Shape).Idx → EReal

/-- The printed constant `(2 · 4)^(1/4)`. -/
def alpha : EReal := Ideal.ofBits .f32 0x3FD744FD#32

/-- The printed small constant of the layer norm. -/
def eps : EReal := Ideal.ofBits .f32 0x3727C5AC#32

/-- The row length as printed. -/
def width : EReal := Ideal.ofBits .f32 0x44800000#32

/-- The arguments of the block's tail and of its backward. -/
structure Tail where
  x : Mat 8192 1024
  y : Mat 8192 1024
  p : Mat 8192 256
  wo : Mat 1024 1024
  bo : Row 1024
  g : Row 1024
  b : Row 1024
  wp : Mat 256 1024
  wg : Mat 1024 1024
  bg : Row 1024
  dxn : Mat 8192 1024

namespace Tail
variable (a : Tail)

/-- The residual sum. -/
def r (i : Fin 8192) (j : Fin 1024) : EReal := alpha * a.x (ix2 i j) + (∑ k : Fin 1024, a.y (ix2 i k) * a.wo (ix2 k j)) + a.bo (ix1 j)

/-- The normalised row. -/
def xh (i : Fin 8192) (j : Fin 1024) : EReal := Rows.xh width eps (a.r i) j

/-- The layer norm. -/
def h (i : Fin 8192) (j : Fin 1024) : EReal := a.xh i j * a.g (ix1 j) + a.b (ix1 j)

/-- The gate. -/
def gate (i : Fin 8192) (j : Fin 1024) : EReal :=
  Ideal.div 1 (1 + Ideal.exp (-((∑ k : Fin 1024, a.h i k * a.wg (ix2 k j)) + a.bg (ix1 j))))

/-- The gated embedding before the gate. -/
def pe (i : Fin 8192) (j : Fin 1024) : EReal := ∑ k : Fin 256, a.p (ix2 i k) * a.wp (ix2 k j)

/-- The cotangent of the gate's argument. -/
def dpre (i : Fin 8192) (j : Fin 1024) : EReal := a.dxn (ix2 i j) * a.pe i j * a.gate i j * (1 - a.gate i j)

/-- The cotangent of the layer norm. -/
def dh (i : Fin 8192) (j : Fin 1024) : EReal := a.dxn (ix2 i j) + ∑ k : Fin 1024, a.dpre i k * a.wg (ix2 j k)

/-- The cotangent of the normalised row. -/
def u (i : Fin 8192) (j : Fin 1024) : EReal := a.dh i j * a.g (ix1 j)

/-- The gradient of the residual. -/
def dr (i : Fin 8192) (j : Fin 1024) : EReal := Rows.lnBwd width eps (a.r i) (a.u i) j

/-- The same, differentiated term by term. -/
def drVjp (i : Fin 8192) (j : Fin 1024) : EReal :=
  Rows.lnVjp width eps (Ideal.ofBits .f32 0xBF000000#32) (Ideal.ofBits .f32 0x40000000#32) (a.r i) (a.u i) j

/-! The six results at a row and a column. -/

/-- The cotangent of the input row. -/
def out0 (i : Fin 8192) (j : Fin 1024) : EReal := alpha * a.dr i j

/-- The cotangent of the mixed branch. -/
def out1 (i : Fin 8192) (j : Fin 1024) : EReal := ∑ k : Fin 1024, a.dr i k * a.wo (ix2 j k)

/-- The gradient of the output projection. -/
def out2 (i j : Fin 1024) : EReal := ∑ k : Fin 8192, a.y (ix2 k i) * a.dr k j

/-- The gradient of the gate's weight. -/
def out3 (i j : Fin 1024) : EReal := ∑ k : Fin 8192, a.h k i * a.dpre k j

/-- The gradient of the embedding's weight. -/
def out4 (i : Fin 256) (j : Fin 1024) : EReal := ∑ k : Fin 8192, a.p (ix2 k i) * (a.dxn (ix2 k j) * a.gate k j)

/-- The summand of a row of the vector gradients: the output bias, the layer norm's scale and shift, the gate's bias. -/
def vecAt (i : Fin 8) (k : Fin 8192) (j : Fin 1024) : EReal :=
  if i.val = 0 then a.dr k j else if i.val = 1 then a.dh k j * a.xh k j else if i.val = 2 then a.dh k j
  else if i.val = 3 then a.dpre k j else 0

/-- The gradients of the vectors, a row each. -/
def out5 (i : Fin 8) (j : Fin 1024) : EReal := ∑ k : Fin 8192, a.vecAt i k j

end Tail
end Cert.Rows
-- ==== Proof.PostRef.lean ====
module
public import proofs.«01_k».proof.Proof.PostSpec
public import proofs.«01_k».proof.Proof.Gen.PostRefIdeal.Run

@[expose] public section

set_option maxRecDepth 16384
noncomputable section
namespace Cert.PostRefIdeal.Value
open Cert.PostRefIdeal Cert.PostRefIdeal.Gen Idealize.ShloMosaic Idealize.ShloMosaic.TcCoe Idealize.SL.Sem Cert.Rows

variable (V : Valuation τ sig (Elt Ideal))

/-- The arguments of the reference. -/
def tail : Tail where
  x := V (Proc.devRef .tc main_arg0)
  y := V (Proc.devRef .tc main_arg1)
  p := V (Proc.devRef .tc main_arg2)
  wo := V (Proc.devRef .tc main_arg3)
  bo := V (Proc.devRef .tc main_arg4)
  g := V (Proc.devRef .tc main_arg5)
  b := V (Proc.devRef .tc main_arg6)
  wp := V (Proc.devRef .tc main_arg7)
  wg := V (Proc.devRef .tc main_arg8)
  bg := V (Proc.devRef .tc main_arg9)
  dxn := V (Proc.devRef .tc main_arg10)

theorem read_v6 (i : Fin 8192) (j : Fin 1024) : (res_main_v6 V (ix2 i j) : EReal) = (tail V).r i j := by
  show (_ : EReal) = _
  unfold res_main_v6
  pointwise
  rfl

theorem read_v10 (i : Fin 8192) (j : Fin 1) : (res_main_v10 V (ix2 i j) : EReal) = mean width ((tail V).r i) := by
  unfold res_main_v10
  pointwise [read_v6]
  rfl

theorem read_v12 (i : Fin 8192) (j : Fin 1024) : (res_main_v12 V (ix2 i j) : EReal) = dev width ((tail V).r i) j := by
  unfold res_main_v12
  pointwise [read_v6, read_v10]
  rfl

theorem read_v21 (i : Fin 8192) (j : Fin 1024) : (res_main_v21 V (ix2 i j) : EReal) = dev width ((tail V).r i) j :=
  read_v12 V i j

theorem read_v23 (i : Fin 8192) (j : Fin 1) : (res_main_v23 V (ix2 i j) : EReal) = vpe width eps ((tail V).r i) := by
  unfold res_main_v23
  pointwise [read_v12]
  rfl

theorem read_v24 (i : Fin 8192) (j : Fin 1) : (res_main_v24 V (ix2 i j) : EReal) = rs width eps ((tail V).r i) := by
  unfold res_main_v24
  pointwise [read_v23]
  rfl

theorem read_v29 (i : Fin 8192) (j : Fin 1024) : (res_main_v29 V (ix2 i j) : EReal) = (tail V).xh i j := by
  unfold res_main_v29
  pointwise [read_v21, read_v24]
  rfl

theorem read_v30 (i : Fin 1) (j : Fin 1024) : (res_main_v30 V (ix2 i j) : EReal) = (tail V).g (ix1 j) := by
  unfold res_main_v30
  pointwise
  rfl

theorem read_v35 (i : Fin 8192) (j : Fin 1024) : (res_main_v35 V (ix2 i j) : EReal) = (tail V).h i j := by
  unfold res_main_v35
  pointwise [read_v29, read_v30]
  rfl

theorem read_v45 (i : Fin 8192) (j : Fin 1024) : (res_main_v45 V (ix2 i j) : EReal) = (tail V).gate i j := by
  unfold res_main_v45
  pointwise [read_v35]
  rfl

theorem read_v49 (i : Fin 8192) (j : Fin 1024) : (res_main_v49 V (ix2 i j) : EReal) = (tail V).pe i j := by
  unfold res_main_v49
  pointwise
  rfl

theorem read_v53 (i : Fin 8192) (j : Fin 1024) : (res_main_v53 V (ix2 i j) : EReal) = (tail V).dxn (ix2 i j) := by
  unfold res_main_v53
  pointwise
  rfl

theorem read_v54 (i : Fin 8192) (j : Fin 1024) : (res_main_v54 V (ix2 i j) : EReal) = (tail V).gate i j * (tail V).dxn (ix2 i j) := by
  unfold res_main_v54
  pointwise [read_v45, read_v53]

theorem read_v59 (i : Fin 8192) (j : Fin 1024) : (res_main_v59 V (ix2 i j) : EReal) = (tail V).dpre i j := by
  unfold res_main_v59
  pointwise [read_v45, read_v53, read_v49]
  exact (mul_assoc (_ : EReal) _ _).symm

theorem read_v66 (i : Fin 8192) (j : Fin 1024) : (res_main_v66 V (ix2 i j) : EReal) = (tail V).dh i j := by
  unfold res_main_v66
  pointwise [read_v59]
  rfl

theorem read_v74 (i : Fin 8192) (j : Fin 1024) : (res_main_v74 V (ix2 i j) : EReal) = (tail V).u i j := by
  unfold res_main_v74
  pointwise [read_v66, read_v30]
  rfl

theorem read_v80 (i : Fin 8192) (j : Fin 1024) :
    (res_main_v80 V (ix2 i j) : EReal) = (tail V).u i j * rs width eps ((tail V).r i) := by
  unfold res_main_v80
  pointwise [read_v74, read_v24]

theorem read_v89 (i : Fin 8192) (j : Fin 1024) : (res_main_v89 V (ix2 i j) : EReal) =
    lnVar width eps (Ideal.ofBits .f32 0xBF000000#32) (Ideal.ofBits .f32 0x40000000#32) ((tail V).r i) ((tail V).u i) j := by
  unfold res_main_v89
  pointwise [read_v74, read_v24, read_v23, read_v21, read_v12]
  rw [Fin.sum_univ_one]
  rfl

theorem read_v99 (i : Fin 8192) (j : Fin 1024) : (res_main_v99 V (ix2 i j) : EReal) = (tail V).drVjp i j := by
  unfold res_main_v99
  pointwise [read_v80, read_v89]
  rw [Fin.sum_univ_one]
  rfl

/-! The six results. -/

variable {V}

theorem dr_of (hv : ∀ i j, (tail V).drVjp i j = (tail V).dr i j) (i : Fin 8192) (j : Fin 1024) : (res_main_v99 V (ix2 i j) : EReal) = (tail V).dr i j := (read_v99 V i j).trans (hv i j)

theorem result0 (hv : ∀ i j, (tail V).drVjp i j = (tail V).dr i j) (i : Fin 8192) (j : Fin 1024) :
    ((mulf (broadcastInDim S8192x1024 ![] bcast_S_S8192x1024 (constant (F := Ideal) S_ .f32 0x3FD744FD#32)) (res_main_v99 V)) (ix2 i j) : EReal) = (tail V).out0 i j := by
  pointwise [dr_of hv]
  rfl

theorem result1 (hv : ∀ i j, (tail V).drVjp i j = (tail V).dr i j) (i : Fin 8192) (j : Fin 1024) :
    ((Host.dotGeneral (φ₁ := .f32) (φ₂ := .f32) dot_S8192x1024_S1024x1024_S8192x1024_1_1_0_0_n_n none (res_main_v99 V) (V (Proc.devRef .tc main_arg3))) (ix2 i j) : EReal) = (tail V).out1 i j := by
  pointwise [dr_of hv]
  rfl

theorem result2 (hv : ∀ i j, (tail V).drVjp i j = (tail V).dr i j) (i : Fin 1024) (j : Fin 1024) :
    ((transpose S1024x1024 [1, 0] (Host.dotGeneral (φ₁ := .f32) (φ₂ := .f32) dot_S8192x1024_S8192x1024_S1024x1024_0_0_1_1_n_n none (res_main_v99 V) (V (Proc.devRef .tc main_arg1))) transposes_S1024x1024_S1024x1024_1_0) (ix2 i j) : EReal) = (tail V).out2 i j := by
  pointwise [dr_of hv]
  exact Finset.sum_congr rfl fun k _ => mul_comm (_ : EReal) _

theorem result3 (i : Fin 1024) (j : Fin 1024) :
    ((transpose S1024x1024 [1, 0] (Host.dotGeneral (φ₁ := .f32) (φ₂ := .f32) dot_S8192x1024_S8192x1024_S1024x1024_0_0_1_1_n_n none (res_main_v59 V) (res_main_v35 V)) transposes_S1024x1024_S1024x1024_1_0) (ix2 i j) : EReal) = (tail V).out3 i j := by
  pointwise [read_v59, read_v35]
  exact Finset.sum_congr rfl fun k _ => mul_comm (_ : EReal) _

theorem result4 (i : Fin 256) (j : Fin 1024) :
    ((transpose S256x1024 [1, 0] (Host.dotGeneral (φ₁ := .f32) (φ₂ := .f32) dot_S8192x1024_S8192x256_S1024x256_0_0_1_1_n_n none (res_main_v54 V) (V (Proc.devRef .tc main_arg2))) transposes_S1024x256_S256x1024_1_0) (ix2 i j) : EReal) = (tail V).out4 i j := by
  pointwise [read_v54]
  exact Finset.sum_congr rfl fun k _ => by rw [mul_comm (_ : EReal), mul_comm ((tail V).gate k j)]; rfl

theorem result5 (hv : ∀ i j, (tail V).drVjp i j = (tail V).dr i j) (i : Fin 8) (j : Fin 1024) :
    ((concatenate S8x1024 0 [⟨S4x1024, ((concatenate S4x1024 0 [⟨S1x1024, ((broadcastInDim S1x1024 ![1] bcast_S1024_S1x1024_1 (Host.reduceAdd (shapeCast _ (Host.reduceAdd (res_main_v99 V) (constant (F := Ideal) S_ .f32 0x00000000#32) reducesTo_S8192x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S1x1024, ((broadcastInDim S1x1024 ![1] bcast_S1024_S1x1024_1 (Host.reduceAdd (shapeCast _ (Host.reduceAdd (mulf (res_main_v29 V) (res_main_v66 V)) (constant (F := Ideal) S_ .f32 0x00000000#32) reducesTo_S8192x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S1x1024, ((broadcastInDim S1x1024 ![1] bcast_S1024_S1x1024_1 (Host.reduceAdd (shapeCast _ (Host.reduceAdd (res_main_v66 V) (constant (F := Ideal) S_ .f32 0x00000000#32) reducesTo_S8192x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S1x1024, ((broadcastInDim S1x1024 ![1] bcast_S1024_S1x1024_1 (Host.reduceAdd (shapeCast _ (Host.reduceAdd (res_main_v59 V) (constant (F := Ideal) S_ .f32 0x00000000#32) reducesTo_S8192x1024_S1024_d0 h_S_) shapeCasts_S1024_S1x1024) (constant (F := Ideal) S_ .f32 0x00000000#32) reducesTo_S1x1024_S1024_d0 h_S_)) : (⟨S1x1024, .f32⟩ : BufTy).Contents (Elt Ideal))⟩] concatenates_S1x1024_S1x1024_S1x1024_S1x1024_S4x1024_d0 : (⟨S4x1024, .f32⟩ : BufTy).Contents (Elt Ideal)))⟩, ⟨S4x1024, (broadcastInDim S4x1024 ![] bcast_S_S4x1024 (constant (F := Ideal) S_ .f32 0x00000000#32))⟩] concatenates_S4x1024_S4x1024_S8x1024_d0) (ix2 i j) : EReal) = (tail V).out5 i j := by
  pointwise [dr_of hv, read_v29, read_v66, read_v59]
  unfold Tail.out5 Tail.vecAt
  simp only [Fin.sum_univ_one]
  split_ifs <;> first
    | omega
    | with_reducible rfl
    | exact (Finset.sum_const_zero (M := EReal)).symm
    | exact Finset.sum_congr rfl fun k _ => mul_comm ((tail V).xh k j) ((tail V).dh k j)

end Cert.PostRefIdeal.Value
-- ==== Proof.PostEntry.lean ====
module
public import proofs.«01_k».proof.Proof.PostSpec
public import proofs.«01_k».proof.Proof.Gen.PostBwdIdeal.Value
public import Idealize.ShloMosaic.Lib.Claim
public import Idealize.ShloMosaic.Lib.StableHlo.RunRead

@[expose] public section

set_option maxRecDepth 16384
noncomputable section
namespace Cert.PostBwdIdeal.Value
open Cert.PostBwdIdeal Cert.PostBwdIdeal.Gen Idealize.ShloMosaic Idealize.ShloMosaic.TcCoe Idealize.SL.Sem Cert.Rows

variable (m : (ℓ : Loc nD τ sig) → Buf (Elt Ideal) ℓ) (c : Dev nD)

/-- The arguments of the kernel. -/
def tail : Tail where
  x := m ((c : Thread nD τ).loc main_arg0)
  y := m ((c : Thread nD τ).loc main_arg1)
  p := m ((c : Thread nD τ).loc main_arg2)
  wo := m ((c : Thread nD τ).loc main_arg3)
  bo := m ((c : Thread nD τ).loc main_arg4)
  g := m ((c : Thread nD τ).loc main_arg5)
  b := m ((c : Thread nD τ).loc main_arg6)
  wp := m ((c : Thread nD τ).loc main_arg7)
  wg := m ((c : Thread nD τ).loc main_arg8)
  bg := m ((c : Thread nD τ).loc main_arg9)
  dxn := m ((c : Thread nD τ).loc main_arg10)

theorem entry_r (i : Fin 8192) (j : Fin 1024) : (V m c main_v9 (ix2 i j) : EReal) = (tail m c).r i j := by
  entry_read
  pointwise
  rfl

theorem entry_y (i : Fin 8192) (j : Fin 1024) : (V m c main_v42 (ix2 i j) : EReal) = (tail m c).y (ix2 i j) := by
  entry_read
  pointwise
  rfl

theorem entry_p (i : Fin 8192) (j : Fin 256) : (V m c main_v41 (ix3 0 i j) : EReal) = (tail m c).p (ix2 i j) := by
  entry_read
  pointwise
  rfl

theorem entry_wo (i : Fin 1024) (j : Fin 1024) : (V m c main_v43 (ix2 i j) : EReal) = (tail m c).wo (ix2 i j) := by
  entry_read
  pointwise
  rfl

theorem entry_wg (i : Fin 1024) (j : Fin 1024) : (V m c main_v44 (ix2 i j) : EReal) = (tail m c).wg (ix2 i j) := by
  entry_read
  pointwise
  rfl

theorem entry_wp (i : Fin 256) (j : Fin 1024) : (V m c main_v45 (ix2 i j) : EReal) = (tail m c).wp (ix2 i j) := by
  entry_read
  pointwise
  rfl

/-- The packed rows: the layer norm's scale is row 1. -/
theorem entry_g (j : Fin 1024) : (V m c main_v40 (ix2 1 j) : EReal) = (tail m c).g (ix1 j) := by
  have e : (StableHlo.upto (hostOps0 (F := Ideal)) (fun b => m (c, b)) 49 (Proc.devRef .tc main_v1) : FVec Ideal S1x1024 .f32) =
      shapeCast S1x1024 (m ((c : Thread nD τ).loc main_arg5) : FVec Ideal S1024 .f32) shapeCasts_S1024_S1x1024 := by
    after_reads_simp
    rfl
  delta V
  after_reads_simp
  pointwise
  refine (congrFun e (ix2 0 j)).trans ?_
  pointwise
  rfl

/-- The layer norm's shift is row 2. -/
theorem entry_b (j : Fin 1024) : (V m c main_v40 (ix2 2 j) : EReal) = (tail m c).b (ix1 j) := by
  have e : (StableHlo.upto (hostOps0 (F := Ideal)) (fun b => m (c, b)) 49 (Proc.devRef .tc main_v2) : FVec Ideal S1x1024 .f32) =
      shapeCast S1x1024 (m ((c : Thread nD τ).loc main_arg6) : FVec Ideal S1024 .f32) shapeCasts_S1024_S1x1024 := by
    after_reads_simp
    rfl
  delta V
  after_reads_simp
  pointwise
  refine (congrFun e (ix2 0 j)).trans ?_
  pointwise
  rfl

theorem entry_gate (i : Fin 8192) (j : Fin 1024) : (V m c main_v38 (ix2 i j) : EReal) = (tail m c).gate i j := by
  entry_read
  pointwise
  rfl

end Cert.PostBwdIdeal.Value
-- ==== Proof.PostPay.lean ====
module
public import proofs.«01_k».proof.Proof.PostSpec
public import proofs.«01_k».proof.Proof.Gen.PostBwdIdeal.Skeleton

@[expose] public section

set_option maxRecDepth 16384
noncomputable section
namespace Cert.PostBwdIdeal.Pay
open Cert.PostBwdIdeal Cert.PostBwdIdeal.Gen Idealize.ShloMosaic Idealize.ShloMosaic.TcCoe Idealize.SL.Sem Cert.Rows

/-!
What the body of the kernel computes from a block of rows: each named value of the body, read at a row and a
column of the block, is the corresponding function of the tail's arguments at that row of the array.
-/

variable (A : Tail) (ρ : Fin 512 → Fin 8192)
  {x0 x1 x2 : Vec Ideal S512x1024 .f32} {x3 : Vec Ideal S1x512x256 .f32} {x4 : Vec Ideal S512x1024 .bf16}
  {x5 x6 : Vec Ideal S1024x1024 .bf16} {x7 : Vec Ideal S256x1024 .bf16} {g b : Vec Ideal S1x1024 .f32}

/-- The blocks a point's body reads hold the rows `ρ` of the arrays. -/
structure Reads (x0 x1 x2 : Vec Ideal S512x1024 .f32) (x3 : Vec Ideal S1x512x256 .f32) (x4 : Vec Ideal S512x1024 .bf16)
    (x5 x6 : Vec Ideal S1024x1024 .bf16) (x7 : Vec Ideal S256x1024 .bf16) (g b : Vec Ideal S1x1024 .f32) : Prop where
  dxn : ∀ (a : Fin 512) (j : Fin 1024), (x0 (ix2 a j) : EReal) = A.dxn (ix2 (ρ a) j)
  r : ∀ (a : Fin 512) (j : Fin 1024), (x1 (ix2 a j) : EReal) = A.r (ρ a) j
  gate : ∀ (a : Fin 512) (j : Fin 1024), (x2 (ix2 a j) : EReal) = A.gate (ρ a) j
  p : ∀ (a : Fin 512) (k : Fin 256), (x3 (ix3 0 a k) : EReal) = A.p (ix2 (ρ a) k)
  y : ∀ (a : Fin 512) (j : Fin 1024), (x4 (ix2 a j) : EReal) = A.y (ix2 (ρ a) j)
  wo : ∀ i j : Fin 1024, (x5 (ix2 i j) : EReal) = A.wo (ix2 i j)
  wg : ∀ i j : Fin 1024, (x6 (ix2 i j) : EReal) = A.wg (ix2 i j)
  wp : ∀ (i : Fin 256) (j : Fin 1024), (x7 (ix2 i j) : EReal) = A.wp (ix2 i j)
  g : ∀ j : Fin 1024, (g (ix2 0 j) : EReal) = A.g (ix1 j)
  b : ∀ j : Fin 1024, (b (ix2 0 j) : EReal) = A.b (ix1 j)

variable {A ρ} (H : Reads A ρ x0 x1 x2 x3 x4 x5 x6 x7 g b)
include H

theorem dev_at (a : Fin 512) (j : Fin 1024) : (k0_pay9 x1 (ix2 a j) : EReal) = dev width (A.r (ρ a)) j := by
  pointwise [k0_pay9, H.r]
  rfl

theorem rs_at (a : Fin 512) (j : Fin 1) : (k0_pay10 x1 (ix2 a j) : EReal) = rs width eps (A.r (ρ a)) := by
  pointwise [k0_pay10, dev_at H]
  rfl

theorem xh_at (a : Fin 512) (j : Fin 1024) : (k0_pay11 x1 (ix2 a j) : EReal) = A.xh (ρ a) j := by
  pointwise [k0_pay11, dev_at H, rs_at H]
  rfl

theorem h_at (a : Fin 512) (j : Fin 1024) : (k0_pay12 x1 g b (ix2 a j) : EReal) = A.h (ρ a) j := by
  pointwise [k0_pay12, xh_at H, H.g, H.b]
  rfl

theorem p_at (a : Fin 512) (j : Fin 256) : (k0_pay13 x3 (ix2 a j) : EReal) = A.p (ix2 (ρ a) j) := by
  pointwise [k0_pay13, H.p]

theorem dpre_at (a : Fin 512) (j : Fin 1024) : (k0_pay14 x0 (k0_pay8 x2) (k0_pay13 x3) x7 (ix2 a j) : EReal) = A.dpre (ρ a) j := by
  pointwise [k0_pay14, k0_pay8, p_at H, H.dxn, H.gate, H.wp]
  rfl

theorem dh_at (a : Fin 512) (j : Fin 1024) : (k0_pay16 x0 (k0_pay8 x2) (k0_pay13 x3) x7 x6 (ix2 a j) : EReal) = A.dh (ρ a) j := by
  pointwise [k0_pay16, k0_pay15, dpre_at H, H.dxn, H.wg]
  rfl

theorem u_at (a : Fin 512) (j : Fin 1024) : (k0_pay19 x0 (k0_pay8 x2) (k0_pay13 x3) x7 x6 g (ix2 a j) : EReal) = A.u (ρ a) j := by
  pointwise [k0_pay19, dh_at H, H.g]
  rfl

theorem um_at (a : Fin 512) (j : Fin 1024) : (k0_pay20 x0 (k0_pay8 x2) (k0_pay13 x3) x7 x6 g (ix2 a j) : EReal) =
    A.u (ρ a) j - mean width (A.u (ρ a)) := by
  pointwise [k0_pay20, u_at H]
  rfl

theorem ux_at (a : Fin 512) (j : Fin 1) : (k0_pay21 x0 (k0_pay8 x2) (k0_pay11 x1) (k0_pay13 x3) x7 x6 g (ix2 a j) : EReal) =
    ∑ k : Fin 1024, A.u (ρ a) k * A.xh (ρ a) k := by
  pointwise [k0_pay21, u_at H, xh_at H]

theorem dr_at (a : Fin 512) (j : Fin 1024) : (k0_pay22 (k0_pay10 x1) (k0_pay11 x1) (k0_pay20 x0 (k0_pay8 x2) (k0_pay13 x3) x7 x6 g)
    (k0_pay21 x0 (k0_pay8 x2) (k0_pay11 x1) (k0_pay13 x3) x7 x6 g) (ix2 a j) : EReal) = A.dr (ρ a) j := by
  pointwise [k0_pay22, rs_at H, xh_at H, um_at H, ux_at H]
  rfl

/-! What the body stores. -/

theorem out0_at (a : Fin 512) (j : Fin 1024) : (k0_pay24 (k0_pay10 x1) (k0_pay11 x1) (k0_pay20 x0 (k0_pay8 x2) (k0_pay13 x3) x7 x6 g)
    (k0_pay21 x0 (k0_pay8 x2) (k0_pay11 x1) (k0_pay13 x3) x7 x6 g) (ix2 a j) : EReal) = A.out0 (ρ a) j := by
  pointwise [k0_pay24, dr_at H]
  rfl

theorem out1_at (a : Fin 512) (j : Fin 1024) : (k0_pay25 (k0_pay10 x1) (k0_pay11 x1) (k0_pay20 x0 (k0_pay8 x2) (k0_pay13 x3) x7 x6 g)
    (k0_pay21 x0 (k0_pay8 x2) (k0_pay11 x1) (k0_pay13 x3) x7 x6 g) x5 (ix2 a j) : EReal) = A.out1 (ρ a) j := by
  pointwise [k0_pay25, k0_pay23, dr_at H, H.wo]
  rfl

theorem out2_at (acc : Vec Ideal S1024x1024 .f32) (i j : Fin 1024) : (k0_pay26 (k0_pay10 x1) (k0_pay11 x1) (k0_pay20 x0 (k0_pay8 x2) (k0_pay13 x3) x7 x6 g)
    (k0_pay21 x0 (k0_pay8 x2) (k0_pay11 x1) (k0_pay13 x3) x7 x6 g) acc x4 (ix2 i j) : EReal) =
    acc (ix2 i j) + ∑ a : Fin 512, A.y (ix2 (ρ a) i) * A.dr (ρ a) j := by
  pointwise [k0_pay26, k0_pay23, dr_at H, H.y]

theorem out3_at (acc : Vec Ideal S1024x1024 .f32) (i j : Fin 1024) :
    (k0_pay17 x0 (k0_pay8 x2) (k0_pay12 x1 g b) (k0_pay13 x3) x7 acc (ix2 i j) : EReal) =
    acc (ix2 i j) + ∑ a : Fin 512, A.h (ρ a) i * A.dpre (ρ a) j := by
  pointwise [k0_pay17, k0_pay15, dpre_at H, h_at H]

theorem out4_at (acc : Vec Ideal S256x1024 .f32) (i : Fin 256) (j : Fin 1024) :
    (k0_pay18 x0 (k0_pay8 x2) (k0_pay13 x3) acc (ix2 i j) : EReal) =
    acc (ix2 i j) + ∑ a : Fin 512, A.p (ix2 (ρ a) i) * (A.dxn (ix2 (ρ a) j) * A.gate (ρ a) j) := by
  pointwise [k0_pay18, k0_pay8, p_at H, H.dxn, H.gate]

theorem row0_at (acc : Vec Ideal S1x1024 .f32) (j : Fin 1024) : (k0_pay27 (k0_pay10 x1) (k0_pay11 x1) (k0_pay20 x0 (k0_pay8 x2) (k0_pay13 x3) x7 x6 g)
    (k0_pay21 x0 (k0_pay8 x2) (k0_pay11 x1) (k0_pay13 x3) x7 x6 g) acc (ix2 0 j) : EReal) =
    acc (ix2 0 j) + ∑ a : Fin 512, A.dr (ρ a) j := by
  pointwise [k0_pay27, dr_at H]

theorem row1_at (acc : Vec Ideal S1x1024 .f32) (j : Fin 1024) :
    (k0_pay1 (k0_pay28 acc) (k0_pay29 (k0_pay11 x1) (k0_pay16 x0 (k0_pay8 x2) (k0_pay13 x3) x7 x6)) (ix2 0 j) : EReal) =
    acc (ix2 0 j) + ∑ a : Fin 512, A.dh (ρ a) j * A.xh (ρ a) j := by
  pointwise [k0_pay1, k0_pay28, k0_pay29, dh_at H, xh_at H]

theorem row2_at (acc : Vec Ideal S1x1024 .f32) (j : Fin 1024) :
    (k0_pay2 (k0_pay16 x0 (k0_pay8 x2) (k0_pay13 x3) x7 x6) acc (ix2 0 j) : EReal) =
    acc (ix2 0 j) + ∑ a : Fin 512, A.dh (ρ a) j := by
  pointwise [k0_pay2, dh_at H]

theorem row3_at (acc : Vec Ideal S1x1024 .f32) (j : Fin 1024) :
    (k0_pay3 (k0_pay14 x0 (k0_pay8 x2) (k0_pay13 x3) x7) acc (ix2 0 j) : EReal) =
    acc (ix2 0 j) + ∑ a : Fin 512, A.dpre (ρ a) j := by
  pointwise [k0_pay3, dpre_at H]

end Cert.PostBwdIdeal.Pay
-- ==== Proof.PostBlk.lean ====
module
public import proofs.«01_k».proof.Proof.PostEntry
public import proofs.«01_k».proof.Proof.PostPay

@[expose] public section

set_option maxRecDepth 16384
noncomputable section
namespace Cert.PostBwdIdeal.Value
open Cert.PostBwdIdeal Cert.PostBwdIdeal.Gen Idealize.ShloMosaic Idealize.ShloMosaic.TcCoe Idealize.SL.Sem Cert.Rows
open Idealize.ShloMosaic.Pipeline (Dat)

variable (m : (ℓ : Loc nD τ sig) → Buf (Elt Ideal) ℓ) (c : Dev nD)

/-- The windows' index maps: the tiled windows walk the rows, the others stay. -/
theorem idx : ∀ t : Fin cfg0.N, win0_0.index t = ![t.val, 0] ∧ win0_1.index t = ![t.val, 0] ∧ win0_2.index t = ![t.val, 0] ∧
    win0_3.index t = ![0, t.val, 0] ∧ win0_4.index t = ![t.val, 0] ∧ win0_5.index t = ![0, 0] ∧ win0_6.index t = ![0, 0] ∧
    win0_7.index t = ![0, 0] ∧ win0_8.index t = ![0, 0] ∧ win0_9.index t = ![t.val, 0] ∧ win0_10.index t = ![t.val, 0] ∧
    win0_11.index t = ![0, 0] ∧ win0_12.index t = ![0, 0] ∧ win0_13.index t = ![0, 0] ∧ win0_14.index t = ![0, 0] :=
  (by decide +kernel : ∀ t : Fin grid0.N, _)

/-- The array row of a block's row. -/
def row (t : Fin cfg0.N) (a : Fin 512) : Fin 8192 :=
  ⟨t.val * 512 + a.val, by have := t.isLt; have h : cfg0.N = 16 := N_0; omega⟩

theorem blk_dxn (t : Fin cfg0.N) (a : Fin 512) (j : Fin 1024) : (iblk m c 0 t (ix2 a j) : EReal) = (tail m c).dxn (ix2 (row t a) j) := by
  refine Eq.trans (b := (V m c main_arg10 (ix2 (row t a) j) : EReal)) ?_ rfl
  blk_ext [iblk, idx t, row]

theorem blk_r (t : Fin cfg0.N) (a : Fin 512) (j : Fin 1024) : (iblk m c 1 t (ix2 a j) : EReal) = (tail m c).r (row t a) j := by
  refine Eq.trans ?_ (entry_r m c (row t a) j)
  blk_ext [iblk, idx t, row]

theorem blk_gate (t : Fin cfg0.N) (a : Fin 512) (j : Fin 1024) : (iblk m c 2 t (ix2 a j) : EReal) = (tail m c).gate (row t a) j := by
  refine Eq.trans ?_ (entry_gate m c (row t a) j)
  blk_ext [iblk, idx t, row]

theorem blk_p (t : Fin cfg0.N) (a : Fin 512) (j : Fin 256) : (iblk m c 3 t (ix3 0 a j) : EReal) = (tail m c).p (ix2 (row t a) j) := by
  refine Eq.trans ?_ (entry_p m c (row t a) j)
  blk_ext [iblk, idx t, row]

theorem blk_y (t : Fin cfg0.N) (a : Fin 512) (j : Fin 1024) : (iblk m c 4 t (ix2 a j) : EReal) = (tail m c).y (ix2 (row t a) j) := by
  refine Eq.trans ?_ (entry_y m c (row t a) j)
  blk_ext [iblk, idx t, row]

theorem blk_wo (t : Fin cfg0.N) (i j : Fin 1024) : (iblk m c 5 t (ix2 i j) : EReal) = (tail m c).wo (ix2 i j) := by
  refine Eq.trans ?_ (entry_wo m c i j)
  blk_ext [iblk, idx t]

theorem blk_wg (t : Fin cfg0.N) (i j : Fin 1024) : (iblk m c 6 t (ix2 i j) : EReal) = (tail m c).wg (ix2 i j) := by
  refine Eq.trans ?_ (entry_wg m c i j)
  blk_ext [iblk, idx t]

theorem blk_wp (t : Fin cfg0.N) (i : Fin 256) (j : Fin 1024) : (iblk m c 7 t (ix2 i j) : EReal) = (tail m c).wp (ix2 i j) := by
  refine Eq.trans ?_ (entry_wp m c i j)
  blk_ext [iblk, idx t]

theorem blk_g (t : Fin cfg0.N) (j : Fin 1024) :
    (View.ld (iblk m c 8 t) (Rect.unit ![1, 0] ![1, 1024] inb_S8x1024_S1x1024_1_0) (ix2 0 j) : EReal) = (tail m c).g (ix1 j) := by
  refine Eq.trans ?_ (entry_g m c j)
  pointwise
  blk_ext [iblk, idx t]

theorem blk_b (t : Fin cfg0.N) (j : Fin 1024) :
    (View.ld (iblk m c 8 t) (Rect.unit ![2, 0] ![1, 1024] inb_S8x1024_S1x1024_2_0) (ix2 0 j) : EReal) = (tail m c).b (ix1 j) := by
  refine Eq.trans ?_ (entry_b m c j)
  pointwise
  blk_ext [iblk, idx t]

/-- A point's blocks hold its rows. -/
theorem reads (t : Fin cfg0.N) : Pay.Reads (tail m c) (row t) (iblk m c 0 t) (iblk m c 1 t) (iblk m c 2 t) (iblk m c 3 t) (iblk m c 4 t)
    (iblk m c 5 t) (iblk m c 6 t) (iblk m c 7 t) (View.ld (iblk m c 8 t) (Rect.unit ![1, 0] ![1, 1024] inb_S8x1024_S1x1024_1_0))
    (View.ld (iblk m c 8 t) (Rect.unit ![2, 0] ![1, 1024] inb_S8x1024_S1x1024_2_0)) where
  dxn := blk_dxn m c t
  r := blk_r m c t
  gate := blk_gate m c t
  p := blk_p m c t
  y := blk_y m c t
  wo := blk_wo m c t
  wg := blk_wg m c t
  wp := blk_wp m c t
  g := blk_g m c t
  b := blk_b m c t

end Cert.PostBwdIdeal.Value
-- ==== Proof.PostFinal.lean ====
module
public import proofs.«01_k».proof.Proof.PostBlk

@[expose] public section

set_option maxRecDepth 16384
noncomputable section
namespace Cert.PostBwdIdeal.Value
open Cert.PostBwdIdeal Cert.PostBwdIdeal.Gen Idealize.ShloMosaic Idealize.ShloMosaic.TcCoe Idealize.SL.Sem Cert.Rows
open Idealize.ShloMosaic.Pipeline (Dat)

variable (m : (ℓ : Loc nD τ sig) → Buf (Elt Ideal) ℓ) (c : Dev nD)

/-- A sum over the blocks of the sums over their rows is the sum over all rows. -/
theorem sum_rows (f : Fin 8192 → EReal) : (∑ t : Fin cfg0.N, ∑ a : Fin 512, f (row t a)) = ∑ k : Fin 8192, f k := by
  refine (Fin.sum_points_lanes_congr (A := 1) (L := 8192) 16 (F := fun (t : Fin cfg0.N) a => f (row t a)) (g := fun _ l => f l)
    (fun t a _ _ => congrArg f (Fin.ext (by
      have := t.isLt
      have h : cfg0.N = 16 := N_0
      show t.val * 512 + a.val = t.val % 16 * 512 + a.val
      omega))) N_0 rfl).trans ?_
  exact Fin.sum_univ_one _

/-! ## The two tiled results -/

theorem place9 (G : Mat 8192 1024) (t : Fin cfg0.N) (a : Fin 512) (j : Fin 1024) :
    G (ix2 (row t a) j) = G (((cfg0.win 9).blk t).view.emb (ix2 a j)) := by
  blk_ext [idx t, row]

theorem place10 (G : Mat 8192 1024) (t : Fin cfg0.N) (a : Fin 512) (j : Fin 1024) :
    G (ix2 (row t a) j) = G (((cfg0.win 10).blk t).view.emb (ix2 a j)) := by
  blk_ext [idx t, row]

theorem final9 : (dats m 0 c).arrAt 9 cfg0.N = fun y => (tail m c).out0 (y 0) (y 1) := by
  refine (dats m 0 c).arrAt_eq_of_covers 9 _ (by decide +kernel) fun t _ y => ?_
  idx_vars y
  refine Eq.trans ?_ (place9 (fun y => (tail m c).out0 (y 0) (y 1)) t y0 y1)
  blk_simp
  rw [after0_9]
  by_cases h : t.val % 16 = 0
  · rw [outsAt0_A m c t h]; frame_out
    exact Pay.out0_at (reads m c t) _ _
  · rw [outsAt0_B m c t h]; frame_out
    exact Pay.out0_at (reads m c t) _ _

theorem final10 : (dats m 0 c).arrAt 10 cfg0.N = fun y => (tail m c).out1 (y 0) (y 1) := by
  refine (dats m 0 c).arrAt_eq_of_covers 10 _ (by decide +kernel) fun t _ y => ?_
  idx_vars y
  refine Eq.trans ?_ (place10 (fun y => (tail m c).out1 (y 0) (y 1)) t y0 y1)
  blk_simp
  rw [after0_10]
  by_cases h : t.val % 16 = 0
  · rw [outsAt0_A m c t h]; frame_out
    exact Pay.out1_at (reads m c t) _ _
  · rw [outsAt0_B m c t h]; frame_out
    exact Pay.out1_at (reads m c t) _ _

/-! ## The three matrices summed over the blocks -/

theorem zero11 (i j : Fin 1024) : (k0_pay4 (F := Ideal) (ix2 i j) : EReal) = 0 := by pointwise [k0_pay4]
theorem zero12 (i j : Fin 1024) : (k0_pay5 (F := Ideal) (ix2 i j) : EReal) = 0 := by pointwise [k0_pay5]
theorem zero13 (i : Fin 256) (j : Fin 1024) : (k0_pay6 (F := Ideal) (ix2 i j) : EReal) = 0 := by pointwise [k0_pay6]

theorem final11 : (dats m 0 c).arrAt 11 cfg0.N = fun y => (tail m c).out2 (y 0) (y 1) := by
  refine (dats m 0 c).arrAt_eq_of_after_last 11 t0_15 (by decide +kernel) _ fun y => ?_
  blk_simp
  idx_vars y
  rw [after0_11]
  refine (Pipeline.eq_sum_fin_of_reset_step_apply_last
    (fun n h (p : Fin 1024 × Fin 1024) => ((outsAt0 m c n h).2.2.1 (ix2 p.1 p.2) : EReal)) 16 (fun _ => 0)
    (fun t p => ∑ a : Fin 512, (tail m c).y (ix2 (row t a) p.1) * (tail m c).dr (row t a) p.2)
    (fun t h p => ?_) (fun t h p => ?_) (le_of_eq N_0) t0_15 rfl (y0, y1)).trans ?_
  · show ((outsAt0 m c t.val t.isLt).2.2.1 (ix2 p.1 p.2) : EReal) = _
    rw [outsAt0_A m c t h]; frame_out
    refine (Pay.out2_at (reads m c t) _ _ _).trans ?_
    rw [zero11]
  · show ((outsAt0 m c t.val t.isLt).2.2.1 (ix2 p.1 p.2) : EReal) = _
    rw [outsAt0_B m c t h]; frame_out
    exact Pay.out2_at (reads m c t) _ _ _
  · rw [zero_add]
    exact sum_rows fun k => (tail m c).y (ix2 k y0) * (tail m c).dr k y1

theorem final12 : (dats m 0 c).arrAt 12 cfg0.N = fun y => (tail m c).out3 (y 0) (y 1) := by
  refine (dats m 0 c).arrAt_eq_of_after_last 12 t0_15 (by decide +kernel) _ fun y => ?_
  blk_simp
  idx_vars y
  rw [after0_12]
  refine (Pipeline.eq_sum_fin_of_reset_step_apply_last
    (fun n h (p : Fin 1024 × Fin 1024) => ((outsAt0 m c n h).2.2.2.1 (ix2 p.1 p.2) : EReal)) 16 (fun _ => 0)
    (fun t p => ∑ a : Fin 512, (tail m c).h (row t a) p.1 * (tail m c).dpre (row t a) p.2)
    (fun t h p => ?_) (fun t h p => ?_) (le_of_eq N_0) t0_15 rfl (y0, y1)).trans ?_
  · show ((outsAt0 m c t.val t.isLt).2.2.2.1 (ix2 p.1 p.2) : EReal) = _
    rw [outsAt0_A m c t h]; frame_out
    refine (Pay.out3_at (reads m c t) _ _ _).trans ?_
    rw [zero12]
  · show ((outsAt0 m c t.val t.isLt).2.2.2.1 (ix2 p.1 p.2) : EReal) = _
    rw [outsAt0_B m c t h]; frame_out
    exact Pay.out3_at (reads m c t) _ _ _
  · rw [zero_add]
    exact sum_rows fun k => (tail m c).h k y0 * (tail m c).dpre k y1

theorem final13 : (dats m 0 c).arrAt 13 cfg0.N = fun y => (tail m c).out4 (y 0) (y 1) := by
  refine (dats m 0 c).arrAt_eq_of_after_last 13 t0_15 (by decide +kernel) _ fun y => ?_
  blk_simp
  idx_vars y
  rw [after0_13]
  refine (Pipeline.eq_sum_fin_of_reset_step_apply_last
    (fun n h (p : Fin 256 × Fin 1024) => ((outsAt0 m c n h).2.2.2.2.1 (ix2 p.1 p.2) : EReal)) 16 (fun _ => 0)
    (fun t p => ∑ a : Fin 512, (tail m c).p (ix2 (row t a) p.1) * ((tail m c).dxn (ix2 (row t a) p.2) * (tail m c).gate (row t a) p.2))
    (fun t h p => ?_) (fun t h p => ?_) (le_of_eq N_0) t0_15 rfl (y0, y1)).trans ?_
  · show ((outsAt0 m c t.val t.isLt).2.2.2.2.1 (ix2 p.1 p.2) : EReal) = _
    rw [outsAt0_A m c t h]; frame_out
    refine (Pay.out4_at (reads m c t) _ _ _).trans ?_
    rw [zero13]
  · show ((outsAt0 m c t.val t.isLt).2.2.2.2.1 (ix2 p.1 p.2) : EReal) = _
    rw [outsAt0_B m c t h]; frame_out
    exact Pay.out4_at (reads m c t) _ _ _
  · rw [zero_add]
    exact sum_rows fun k => (tail m c).p (ix2 k y0) * ((tail m c).dxn (ix2 k y1) * (tail m c).gate k y1)

end Cert.PostBwdIdeal.Value
-- ==== Proof.PostVec.lean ====
module
public import proofs.«01_k».proof.Proof.PostFinal
public import Idealize.ShloMosaic.Lib.WritesUnit

@[expose] public section

set_option maxRecDepth 16384
noncomputable section
namespace Cert.PostBwdIdeal.Value
open Cert.PostBwdIdeal Cert.PostBwdIdeal.Gen Idealize.ShloMosaic Idealize.ShloMosaic.TcCoe Idealize.SL.Sem Cert.Rows
open Idealize.ShloMosaic.Pipeline (Dat)

/-! Reading a buffer of eight rows after stores of single rows. -/

section Rows
variable {sg : RefSig} {κ : Kind} {sp : Space} (v : View sg κ sp S8x1024 .f32) (f : v.ty.Contents (Elt Ideal))

theorem read_row (o : Nat) (inb : ∀ a, (![o, 0] : Fin 2 → Nat) a + (![1, 1024] : Fin 2 → Nat) a ≤ S8x1024.size a)
    (w : S1x1024.Idx → Elt Ideal .f32) (L : List (View.Piece (Elt Ideal) S8x1024 .f32)) (i : Fin 8) (j : Fin 1024) :
    (v.read (Elt Ideal) (v.writes (Elt Ideal) f (⟨Rect.unit (s := S8x1024) ![o, 0] ![1, 1024] inb, w⟩ :: L)) (ix2 i j) : EReal) =
      if i.val = o then (w (ix2 0 j) : EReal) else v.read (Elt Ideal) (v.writes (Elt Ideal) f L) (ix2 i j) := by
  by_cases h : i.val = o
  · rw [if_pos h]
    exact View.read_writes_cons_rows_of_mem v f inb w L (ix2 i j) (ix2 0 j) rfl (by show i.val = o + 0; omega) rfl
  · rw [if_neg h]
    exact View.read_writes_cons_rows_of_not_mem v f inb w L (ix2 i j) (W := 1) rfl rfl (by show i.val < o ∨ o + 1 ≤ i.val; omega)

theorem canon_row (o : Nat) (inb : ∀ a, (![o, 0] : Fin 2 → Nat) a + (![1, 1024] : Fin 2 → Nat) a ≤ S8x1024.size a)
    (w : S1x1024.Idx → Elt Ideal .f32) (L : List (View.Piece (Elt Ideal) S8x1024 .f32)) (i : Fin 8) (j : Fin 1024) :
    (View.canon (⟨Rect.unit (s := S8x1024) ![o, 0] ![1, 1024] inb, w⟩ :: L) (ix2 i j) : EReal) =
      if i.val = o then (w (ix2 0 j) : EReal) else View.canon L (ix2 i j) := by
  rw [← View.read_writes_junk_apply_eq_canon (ms0_14 t0_0).view, ← View.read_writes_junk_apply_eq_canon (ms0_14 t0_0).view]
  exact read_row _ _ o inb w L i j

theorem canon_all (inb : ∀ a, (![0, 0] : Fin 2 → Nat) a + (![8, 1024] : Fin 2 → Nat) a ≤ S8x1024.size a)
    (w : S8x1024.Idx → Elt Ideal .f32) : View.canon [(⟨Rect.unit (s := S8x1024) ![0, 0] ![8, 1024] inb, w⟩ : View.Piece (Elt Ideal) S8x1024 .f32)] = w :=
  View.canon_cons_unit_lit inb w [] (by intro a; fin_cases a <;> rfl)

theorem cov_row (o : Nat) (ho : o < 8) (inb : ∀ a, (![o, 0] : Fin 2 → Nat) a + (![1, 1024] : Fin 2 → Nat) a ≤ S8x1024.size a)
    (L : List (View.Piece (Elt Ideal) S8x1024 .f32)) (j : Fin 1024) :
    (v.readCov L (Rect.unit (s := S8x1024) ![o, 0] ![1, 1024] inb).toLoadRect (ix2 0 j) : EReal) = View.canon L (ix2 (⟨o, ho⟩ : Fin 8) j) := by
  rw [View.readCov_eq_canon']
  refine congrArg (View.canon L) ?_
  funext a
  fin_cases a
  · exact Fin.ext (by show o + 1 * 0 = o; omega)
  · exact Fin.ext (by show 0 + 1 * j.val = j.val; omega)

theorem ld_row (X : S8x1024.Idx → Elt Ideal .f32) (o : Nat) (ho : o < 8) (inb : ∀ a, (![o, 0] : Fin 2 → Nat) a + (![1, 1024] : Fin 2 → Nat) a ≤ S8x1024.size a)
    (j : Fin 1024) : (View.ld X (Rect.unit (s := S8x1024) ![o, 0] ![1, 1024] inb) (ix2 0 j) : EReal) = X (ix2 (⟨o, ho⟩ : Fin 8) j) := by
  refine congrArg X ?_
  funext a
  fin_cases a
  · exact Fin.ext (by show o + 1 * 0 = o; omega)
  · exact Fin.ext (by show 0 + 1 * j.val = j.val; omega)

end Rows

variable (m : (ℓ : Loc nD τ sig) → Buf (Elt Ideal) ℓ) (c : Dev nD)

theorem zero14 (i : Fin 8) (j : Fin 1024) : (k0_pay7 (F := Ideal) (ix2 i j) : EReal) = 0 := by pointwise [k0_pay7]

theorem stepA (t : Fin cfg0.N) (h : t.val % 16 = 0) (i : Fin 8) (j : Fin 1024) :
    ((outsAt0 m c t.val t.isLt).2.2.2.2.2 (ix2 i j) : EReal) = 0 + ∑ a : Fin 512, (tail m c).vecAt i (row t a) j := by
  rw [outsAt0_A m c t h]; frame_out
  rw [canon_row, canon_row, canon_row, canon_row, canon_all]
  unfold Tail.vecAt
  by_cases h3 : i.val = 3
  · rw [if_pos h3]
    refine (Pay.row3_at (reads m c t) _ _).trans ?_
    rw [cov_row _ 3 (by decide), canon_row, canon_row, canon_row, canon_all]
    simp [h3, zero14]
  rw [if_neg h3]
  by_cases h2 : i.val = 2
  · rw [if_pos h2]
    refine (Pay.row2_at (reads m c t) _ _).trans ?_
    rw [cov_row _ 2 (by decide), canon_row, canon_row, canon_all]
    simp [h2, zero14]
  rw [if_neg h2]
  by_cases h1 : i.val = 1
  · rw [if_pos h1]
    refine (Pay.row1_at (reads m c t) _ _).trans ?_
    rw [cov_row _ 1 (by decide), canon_row, canon_all]
    simp [h1, zero14]
  rw [if_neg h1]
  by_cases h0 : i.val = 0
  · rw [if_pos h0]
    refine (Pay.row0_at (reads m c t) _ _).trans ?_
    rw [cov_row _ 0 (by decide), canon_all]
    simp [h0, zero14]
  rw [if_neg h0]
  simp [h0, h1, h2, h3, zero14]

theorem stepB (t : Fin cfg0.N) (h : ¬t.val % 16 = 0) (i : Fin 8) (j : Fin 1024) :
    ((outsAt0 m c t.val t.isLt).2.2.2.2.2 (ix2 i j) : EReal) =
      (outsAt0 m c (t.val - 1) (Nat.lt_of_le_of_lt (Nat.sub_le _ _) t.isLt)).2.2.2.2.2 (ix2 i j) + ∑ a : Fin 512, (tail m c).vecAt i (row t a) j := by
  rw [outsAt0_B m c t h]; frame_out
  rw [read_row, read_row, read_row, read_row]
  unfold Tail.vecAt
  by_cases h3 : i.val = 3
  · obtain rfl : i = ⟨3, by decide⟩ := Fin.ext h3
    rw [if_pos h3]
    refine (Pay.row3_at (reads m c t) _ _).trans ?_
    rw [ld_row _ 3 (by decide)]
    simp
  rw [if_neg h3]
  by_cases h2 : i.val = 2
  · obtain rfl : i = ⟨2, by decide⟩ := Fin.ext h2
    rw [if_pos h2]
    refine (Pay.row2_at (reads m c t) _ _).trans ?_
    rw [ld_row _ 2 (by decide)]
    simp
  rw [if_neg h2]
  by_cases h1 : i.val = 1
  · obtain rfl : i = ⟨1, by decide⟩ := Fin.ext h1
    rw [if_pos h1]
    refine (Pay.row1_at (reads m c t) _ _).trans ?_
    rw [ld_row _ 1 (by decide)]
    simp
  rw [if_neg h1]
  by_cases h0 : i.val = 0
  · obtain rfl : i = ⟨0, by decide⟩ := Fin.ext h0
    rw [if_pos h0]
    refine (Pay.row0_at (reads m c t) _ _).trans ?_
    rw [ld_row _ 0 (by decide)]
    simp
  rw [if_neg h0]
  simp only [if_neg h0, if_neg h1, if_neg h2, if_neg h3, Finset.sum_const_zero, add_zero]
  exact congrFun (Memref.IsWhole.read_unread _ _) (ix2 i j)

theorem final14 : (dats m 0 c).arrAt 14 cfg0.N = fun y => (tail m c).out5 (y 0) (y 1) := by
  refine (dats m 0 c).arrAt_eq_of_after_last 14 t0_15 (by decide +kernel) _ fun y => ?_
  blk_simp
  idx_vars y
  rw [after0_14]
  refine (Pipeline.eq_sum_fin_of_reset_step_apply_last
    (fun n h (p : Fin 8 × Fin 1024) => ((outsAt0 m c n h).2.2.2.2.2 (ix2 p.1 p.2) : EReal)) 16 (fun _ => 0)
    (fun t p => ∑ a : Fin 512, (tail m c).vecAt p.1 (row t a) p.2)
    (fun t h p => stepA m c t h p.1 p.2) (fun t h p => stepB m c t h p.1 p.2) (le_of_eq N_0) t0_15 rfl (y0, y1)).trans ?_
  rw [zero_add]
  exact sum_rows fun k => (tail m c).vecAt y0 k y1

end Cert.PostBwdIdeal.Value
-- ==== Proof.RealKit.lean ====
module
public import proofs.«01_k».proof.Proof.LnGrad
public import Idealize.ShloMosaic.Lib.ReduceAll
public import Idealize.ShloMosaic.Lib.Affine

@[expose] public section

noncomputable section
namespace Cert.Rows
open Idealize.ShloMosaic

/-! Extended reals that are real numbers, and what keeps them so. -/

/-- An extended real that is a real number. -/
def IsReal (x : EReal) : Prop := ∃ z : ℝ, x = z

namespace IsReal

theorem coe (z : ℝ) : IsReal (z : EReal) := ⟨z, rfl⟩

theorem add {x y : EReal} (hx : IsReal x) (hy : IsReal y) : IsReal (x + y) := by
  obtain ⟨a, rfl⟩ := hx
  obtain ⟨b, rfl⟩ := hy
  exact ⟨a + b, (EReal.coe_add a b).symm⟩

theorem sub {x y : EReal} (hx : IsReal x) (hy : IsReal y) : IsReal (x - y) := by
  obtain ⟨a, rfl⟩ := hx
  obtain ⟨b, rfl⟩ := hy
  exact ⟨a - b, (EReal.coe_sub a b).symm⟩

theorem mul {x y : EReal} (hx : IsReal x) (hy : IsReal y) : IsReal (x * y) := by
  obtain ⟨a, rfl⟩ := hx
  obtain ⟨b, rfl⟩ := hy
  exact ⟨a * b, (EReal.coe_mul a b).symm⟩

theorem neg {x : EReal} (hx : IsReal x) : IsReal (-x) := by
  obtain ⟨a, rfl⟩ := hx
  exact ⟨-a, (EReal.coe_neg a).symm⟩

theorem sum {ι : Type} {s : Finset ι} {f : ι → EReal} (h : ∀ k, IsReal (f k)) : IsReal (∑ k ∈ s, f k) := by
  choose g hg using h
  exact ⟨∑ k ∈ s, g k, by rw [← coe_sum]; exact Finset.sum_congr rfl fun k _ => hg k⟩

theorem one : IsReal 1 := ⟨1, rfl⟩
theorem zero : IsReal 0 := ⟨0, rfl⟩

/-- The logistic function has real values, at the infinities too. -/
theorem sigmoid (x : EReal) : IsReal (Ideal.div 1 (1 + Ideal.exp (-x))) := by
  induction x using EReal.rec with
  | bot => exact ⟨0, by simp [Ideal.div, show (1 : EReal) + ⊤ = ⊤ from rfl]⟩
  | top => exact ⟨1, by simp [Ideal.div]⟩
  | coe r =>
    refine ⟨1 / (1 + Real.exp (-r)), ?_⟩
    have e : (1 : EReal) + Ideal.exp (-(r : EReal)) = ((1 + Real.exp (-r) : ℝ) : EReal) := rfl
    rw [e, Ideal.div_coe (by positivity), one_mul]

/-- A magnitude below infinity is a real number's. -/
theorem of_lt {x : EReal} (h : max x (-x) < ⊤) : IsReal x := by
  induction x using EReal.rec with
  | bot => simp at h
  | top => simp at h
  | coe r => exact ⟨r, rfl⟩

end IsReal

theorem inf_f32 : Ideal.ofBits .f32 0x7F800000#32 = ⊤ := by
  simp [Ideal.ofBits, Ideal.ieee]

/-- What the printed comparison of a magnitude with infinity says. -/
theorem isReal_of_cmp {x : EReal} (h : Ideal.cmp .olt (max x (-x)) (Ideal.ofBits .f32 0x7F800000#32) = 1#1) : IsReal x := by
  rw [inf_f32] at h
  refine IsReal.of_lt ?_
  by_contra hn
  have : Ideal.cmp .olt (max x (-x)) ⊤ = 0#1 := by
    unfold Ideal.cmp
    rw [decide_eq_false hn]
    rfl
  rw [this] at h
  exact absurd h (by decide)

theorem f32_1024 : Ideal.ofBits .f32 0x44800000#32 = ((1024 : ℝ) : EReal) := by
  simp [Ideal.ofBits, Ideal.ieee, -EReal.coe_mul]; norm_num
theorem f32_neg_half : Ideal.ofBits .f32 0xBF000000#32 = ((-(1 / 2) : ℝ) : EReal) := by
  simp [Ideal.ofBits, Ideal.ieee, -EReal.coe_mul]; norm_num
theorem f32_two : Ideal.ofBits .f32 0x40000000#32 = ((2 : ℝ) : EReal) := by
  simp [Ideal.ofBits, Ideal.ieee, -EReal.coe_mul]; norm_num
theorem f32_alpha : IsReal (Ideal.ofBits .f32 0x3FD744FD#32) := by
  simp only [IsReal, Ideal.ofBits, Ideal.ieee]
  exact ⟨_, rfl⟩
theorem f32_eps : ∃ z : ℝ, 0 < z ∧ Ideal.ofBits .f32 0x3727C5AC#32 = (z : EReal) := by
  simp [Ideal.ofBits, Ideal.ieee, -EReal.coe_mul]

end Cert.Rows
-- ==== Proof.PostFinite.lean ====
module
public import proofs.«01_k».proof.Proof.PostSpec
public import proofs.«01_k».proof.Proof.RealKit
public import proofs.«01_k».proof.Proof.Gen.Pre_post_finite

@[expose] public section

set_option maxRecDepth 16384
noncomputable section
namespace Cert.Rows
open Idealize.ShloMosaic

/-- The arguments that the gradient needs finite are finite. -/
structure Tail.Finite (a : Tail) : Prop where
  x : ∀ i, IsReal (a.x i)
  y : ∀ i, IsReal (a.y i)
  p : ∀ i, IsReal (a.p i)
  wo : ∀ i, IsReal (a.wo i)
  bo : ∀ i, IsReal (a.bo i)
  g : ∀ i, IsReal (a.g i)
  wp : ∀ i, IsReal (a.wp i)
  wg : ∀ i, IsReal (a.wg i)
  dxn : ∀ i, IsReal (a.dxn i)

namespace Tail
variable {a : Tail} (h : a.Finite)
include h

theorem r_real (i : Fin 8192) (j : Fin 1024) : IsReal (a.r i j) :=
  ((f32_alpha.mul (h.x _)).add (IsReal.sum fun _ => (h.y _).mul (h.wo _))).add (h.bo _)

theorem dpre_real (i : Fin 8192) (j : Fin 1024) : IsReal (a.dpre i j) :=
  (((h.dxn _).mul (IsReal.sum fun _ => (h.p _).mul (h.wp _))).mul (IsReal.sigmoid _)).mul (IsReal.one.sub (IsReal.sigmoid _))

theorem u_real (i : Fin 8192) (j : Fin 1024) : IsReal (a.u i j) :=
  ((h.dxn _).add (IsReal.sum fun _ => (dpre_real h _ _).mul (h.wg _))).mul (h.g _)

/-- The short form of the layer norm's gradient is its derivative. -/
theorem drVjp_eq (i : Fin 8192) (j : Fin 1024) : a.drVjp i j = a.dr i j := by
  obtain ⟨e, he, hE⟩ := f32_eps
  unfold Tail.drVjp Tail.dr
  rw [show width = ((1024 : ℝ) : EReal) from f32_1024, show eps = (e : EReal) from hE, f32_neg_half, f32_two]
  exact lnVjp_eq (by norm_num) he (by norm_num) (r_real h i) (u_real h i) j

end Tail

open Cert.Pre_post_finite

instance : Subsingleton S_.Idx := ⟨fun a b => funext fun k => k.elim0⟩

/-- What the printed precondition says of the arguments. -/
theorem Tail.finite_of_pre (a : Tail)
    (h : Cert.Pre_post_finite.fn (F := Ideal) a.x a.y a.p a.wo a.bo a.g a.b a.wp a.wg a.bg a.dxn = fun _ => 1#1) : a.Finite := by
  have e := congrFun h (fun k => k.elim0)
  simp only [fn, fn_part1, fn_part2, andi_apply, IntOp.andi_eq_one] at e
  obtain ⟨⟨⟨⟨⟨⟨⟨⟨e0, e1⟩, e2⟩, e3⟩, e4⟩, e5⟩, e6⟩, e7⟩, e8⟩ := e
  exact ⟨fun i => isReal_of_cmp (Host.reduce_andi_all _ _ _ _ _ e0 i), fun i => isReal_of_cmp (Host.reduce_andi_all _ _ _ _ _ e1 i),
    fun i => isReal_of_cmp (Host.reduce_andi_all _ _ _ _ _ e2 i), fun i => isReal_of_cmp (Host.reduce_andi_all _ _ _ _ _ e3 i),
    fun i => isReal_of_cmp (Host.reduce_andi_all _ _ _ _ _ e4 i), fun i => isReal_of_cmp (Host.reduce_andi_all _ _ _ _ _ e5 i),
    fun i => isReal_of_cmp (Host.reduce_andi_all _ _ _ _ _ e6 i), fun i => isReal_of_cmp (Host.reduce_andi_all _ _ _ _ _ e7 i),
    fun i => isReal_of_cmp (Host.reduce_andi_all _ _ _ _ _ e8 i)⟩

end Cert.Rows
-- ==== Proof.RelTail.lean ====
module
public import Idealize.ShloMosaic.Lib.Pipeline.FrameSuffix

/-! A launch whose outputs are known by a relation only, followed by lines that read them: what those lines leave. -/

@[expose] public section

noncomputable section
namespace Cert.RelTail
open Idealize.ShloMosaic Idealize.ShloMosaic.TcCoe Idealize.ShloMosaic.Pipeline
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

section
variable {cfg : Cfg sig Λ₀} {c : Dev nD} (rd : RDat τ Val Unit ℕ (UR sig nD τ) ℕ cfg c)

/-- The launch's arrays at its end are SOME contents the relation allows. -/
theorem arrays_open : (rd.arraysAt cfg.N : sProp (MT nD τ sig Unit Val ℕ (UR sig nD τ) ℕ)) ⊢ iprop(∃ A : (w : Fin cfg.W) → Buf Val ((cfg.win w).arr.view.loc (c.tc : Thread nD τ)), ⌜∀ w, rd.ArrAt w cfg.N (A w)⌝ ∗ rd.arrays A) := by
  unfold RDat.arraysAt
  iintro H
  ihave H1 := (BI.bigSep_exists_pi Finset.univ (fun w X => iprop(⌜rd.ArrAt w cfg.N X⌝
    ∗ (cfg.win w).arr.view.loc (c.tc : Thread nD τ) ↦[(cfg.win w).arr.view.set]{rd.share w} X))) $$ H
  icases H1 with ⟨%A, H1⟩
  ihave H2 := (BI.bigSep_pure_sep Finset.univ (fun w => rd.ArrAt w cfg.N (A w))
    (fun w => (cfg.win w).arr.view.loc (c.tc : Thread nD τ) ↦[(cfg.win w).arr.view.set]{rd.share w} A w)) $$ H1
  icases H2 with ⟨%h, H2⟩
  iexists A
  isplitr
  · ipureintro; exact fun w => h w (Finset.mem_univ w)
  unfold RDat.arrays
  iexact H2

theorem arrays_close (A : (w : Fin cfg.W) → Buf Val ((cfg.win w).arr.view.loc (c.tc : Thread nD τ))) (h : ∀ w, rd.ArrAt w cfg.N (A w)) :
    (rd.arrays A : sProp (MT nD τ sig Unit Val ℕ (UR sig nD τ) ℕ)) ⊢ rd.arraysAt cfg.N := by
  unfold RDat.arraysAt RDat.arrays
  refine BI.bigSep_mono fun w _ => ?_
  show ((cfg.win w).arr.view.loc (c.tc : Thread nD τ) ↦[(cfg.win w).arr.view.set]{rd.share w} A w : sProp (MT nD τ sig Unit Val ℕ (UR sig nD τ) ℕ))
    ⊢ iprop(∃ X, ⌜rd.ArrAt w cfg.N X⌝ ∗ (cfg.win w).arr.view.loc (c.tc : Thread nD τ) ↦[(cfg.win w).arr.view.set]{rd.share w} X)
  iintro H
  iexists (A w)
  isplitr
  · ipureintro; exact h w
  iexact H
end

variable (cfgs : P → Cfg sig Λ₀) (p : P) (kit : LaunchFacts₀ (nD := nD) (τ := τ) cfgs p) (defs₀ : Defs nD τ sig Val Λ₀) (𝒱₀ : Variants)

/-- What is known at the end: each array by the relation, and every buffer beside the arrays as the later lines leave it
    from SOME arrays the relation allows. -/
def Post (rdat : (c : Dev nD) → RDat τ Val Unit ℕ (UR sig nD τ) ℕ (cfgs p) c) (V₀ : Dev nD → Valuation τ sig Val)
    (opss : List (List (HloOp τ sig Val))) (s : MemSt nD τ sig Val) : Prop :=
  ∀ c : Dev nD, (∀ w, (rdat c).ArrAt w (cfgs p).N (s.mem (((cfgs p).win w).arr.view.loc (c.tc : Thread nD τ))))
    ∧ ∃ A : (w : Fin (cfgs p).W) → Buf Val (((cfgs p).win w).arr.view.loc (c.tc : Thread nD τ)), (∀ w, (rdat c).ArrAt w (cfgs p).N (A w)) ∧ ∀ b ∈ restRefsP sig Prefetch.none (cfgs p).spec,
      s.mem ((c.tc : Thread nD τ).loc b) = StableHlo.after opss.flatten (withArrays (cfgs p).spec c (V₀ c) A) (Proc.devRef .tc b)

include kit in
theorem run (rdat : (c : Dev nD) → RDat τ Val Unit ℕ (UR sig nD τ) ℕ (cfgs p) c)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rdat c).BodyObligation defs₀ 𝒱₀ () Set.univ)
    (hq : ∀ c w, ((cfgs p).spec w).isOut = false → (rdat c).q w = shareOf (cfgs p).spec w) (howed : ∀ c t, (rdat c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rdat c).A w = V₀ c (Proc.devRef .tc (arrRef (cfgs p).spec w)))
    (hΦ : ∀ c k, (rdat c).Φ k = ΦA (cfgs p).spec c) :
    θ_run (Pipeline.defs (fun q => (cfgs q).toPCfg (Val := Val)) defs₀) (onTc main) (s₀ m g)
      (fun r => Post cfgs p rdat V₀ opss r.2 ∧ r.2.sem = fun _ => 0) := by
  classical
  let V : (c : Dev nD) → (b : Ref sig .tc) → Buf Val ((c.tc : Thread nD τ).loc b) := fun c b => V₀ c (Proc.devRef .tc b)
  have kp := kit.toP (Val := Val)
  refine RDat.θ_run_region_pf_tail_quiescent (fun q => (cfgs q).toPCfg (Val := Val)) (fun q => (cfgs q).toPCfg_adm) (RDat.familyOf (fun q => (cfgs q).toPCfg (Val := Val)) (fun q => (cfgs q).toPCfg_adm) p rdat) () (kp.cellOf_inj (fun q => (cfgs q).toPCfg_adm)) p kp.win (OwnSemFacts.none (cfgs p).spec) kp.pre emb₁ defs₀ 𝒱₀ m g main
    (fun _ => chain (opss.map StableHlo.seq)) (fun c => by rw [RDat.familyOf_self]; exact hbody c)
    kp.block_pos kp.arr_whole kp.stage_whole (fun c t => by rw [RDat.familyOf_self]; exact howed c t)
    (G := fun _ => iprop(emp)) (u₀ := initOf (cells (pin (fun q => (cfgs q).toPCfg (Val := Val)) (fun q => (cfgs q).toPCfg_adm)) (kp.cellOf_inj (fun q => (cfgs q).toPCfg_adm))) (launchToks (pin (fun q => (cfgs q).toPCfg (Val := Val)) (fun q => (cfgs q).toPCfg_adm)) (kp.cellOf_inj (fun q => (cfgs q).toPCfg_adm))))
    (hu₀ := ?_) (V := V) (hmain := hmain)
    (hsplit := fun c => by rw [RDat.familyOf_self]; exact (rdat c).arrays_split_shared kp.sharedIn kp.arr_whole (hq c) (V c) _ (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (V c))
    (Z' := fun c => iprop(∃ A, ⌜∀ w, (rdat c).ArrAt w (cfgs p).N (A w)⌝
      ∗ unscopedRestP (Ix := Unit) (Name := ℕ) (U := UR sig nD τ) (Lvl := ℕ) Prefetch.none (cfgs p).spec c
          (fun b => StableHlo.after opss.flatten (withArrays (cfgs p).spec c (V₀ c) A) (Proc.devRef .tc b))))
    (hX := ?_) (hin := ?_) (hout := ?_) (htail := ?_)
    (QY := fun c s => ∃ A, (∀ w, (rdat c).ArrAt w (cfgs p).N (A w)) ∧ ∀ b ∈ restRefsP sig Prefetch.none (cfgs p).spec,
      s.mem ((c.tc : Thread nD τ).loc b) = StableHlo.after opss.flatten (withArrays (cfgs p).spec c (V₀ c) A) (Proc.devRef .tc b))
    (hY := ?_) (hQ := ?_)
  · iintro Hu; imodintro
    isplitl [Hu]
    · iapply (show (ownU _ : sProp (MT nD τ sig Unit Val ℕ (UR sig nD τ) ℕ)) ⊢ BI.own (emb₁ (initOf (cells (pin (fun q => (cfgs q).toPCfg (Val := Val)) (fun q => (cfgs q).toPCfg_adm)) (kp.cellOf_inj (fun q => (cfgs q).toPCfg_adm))) (launchToks (pin (fun q => (cfgs q).toPCfg (Val := Val)) (fun q => (cfgs q).toPCfg_adm)) (kp.cellOf_inj (fun q => (cfgs q).toPCfg_adm))))) from .rfl)
      iexact Hu
    iapply (show (BI.emp : sProp (MT nD τ sig Unit Val ℕ (UR sig nD τ) ℕ)) ⊢ bigSep Finset.univ (fun _ : Dev nD => (BI.emp : sProp (MT nD τ sig Unit Val ℕ (UR sig nD τ) ℕ))) from by rw [BI.bigSep_emp_const])
    iempintro
  · intro c
    iintro ⟨HU, -, -, Hp, -⟩; imodintro
    isplitl [Hp]
    · iexists _; iexact Hp
    iexact HU
  · intro c
    rw [RDat.familyOf_self, hΦ]
    unfold ΦA
    iintro ⟨Hp, Ht, Hr⟩
    isplitl [Hr] <;> iassumption
  · intro c
    rw [RDat.familyOf_self, hΦ, ownSems0_none]
    unfold ΦA
    iintro ⟨Hr, Hp⟩
    isplitl [Hp]; · iexact Hp
    isplitr; · iempintro
    iexact Hr
  · intro c Q'
    rw [RDat.familyOf_self]
    iintro ⟨Hk, Hb, Ha, HZ⟩
    ihave Ha' := (arrays_open (rdat c)) $$ Ha
    icases Ha' with ⟨%A, %hA', Ha⟩
    have hB : (rdat c).arrays A = arrBufs (cfgs p).spec c (fun b => withArrays (cfgs p).spec c (V₀ c) A (Proc.devRef .tc b)) :=
      ((rdat c).arrBufs_eq_arrays kp.sharedIn kp.arr_whole (hq c) _ A fun w =>
        (withArrays_arr_shared (cfgs p).spec c (V₀ c) A ((rdat c).ArrAt_sharedIn kp.sharedIn (V₀ c) (hA c) (cfgs p).N A hA') w).symm).symm
    iapply (tail_seqs_bufs_b (fun q => (cfgs q).toPCfg (Val := Val)) defs₀ 𝒱₀ Prefetch.none (cfgs p).spec c (V₀ c) A opss hsub hfresh hkeep Q')
    isplitl [Hk]
    · iintro ⟨Hb2, Ha2, Hu⟩
      iapply Hk
      isplitl [Hb2]; · iexact Hb2
      isplitl [Ha2]
      · iapply (arrays_close (rdat c) A hA')
        iapply (Entails.of_eq hB.symm)
        iexact Ha2
      iexists A
      isplitr
      · ipureintro; exact hA'
      iexact Hu
    · isplitl [Hb]; · iexact Hb
      isplitl [Ha]
      · iapply (Entails.of_eq hB); iexact Ha
      iexact HZ
  · intro c s
    iintro ⟨-, HZ, HSI⟩
    icases HZ with ⟨%A, %hA', HZ⟩
    unfold unscopedRestP
    ihave HZ' := (pointsTo_read_all (restRefsP sig Prefetch.none (cfgs p).spec) (fun b => (c.tc : Thread nD τ).loc b) _ s) $$ [HZ HSI]
    · isplitl [HZ] <;> iassumption
    icases HZ' with ⟨%hZ, HSI⟩
    imodintro
    isplitr
    · ipureintro
      exact ⟨A, hA', fun b hb => hZ b hb⟩
    iexact HSI
  · intro s h hz
    exact ⟨fun c => ⟨fun w => by simpa only [RDat.familyOf_self] using (h c).1 w, (h c).2.2⟩, hz⟩

include kit in
/-- An array's own buffer, before the later lines, holds the contents chosen for it. -/
theorem withArrays_eq (rdat : (c : Dev nD) → RDat τ Val Unit ℕ (UR sig nD τ) ℕ (cfgs p) c) (V₀ : Dev nD → Valuation τ sig Val) (c : Dev nD)
    (hA : ∀ w, (rdat c).A w = V₀ c (Proc.devRef .tc (arrRef (cfgs p).spec w)))
    (A : (w : Fin (cfgs p).W) → Buf Val (((cfgs p).win w).arr.view.loc (c.tc : Thread nD τ))) (hA' : ∀ w, (rdat c).ArrAt w (cfgs p).N (A w)) (w : Fin (cfgs p).W) :
    withArrays (cfgs p).spec c (V₀ c) A (Proc.devRef .tc (arrRef (cfgs p).spec w)) = A w :=
  withArrays_arr_shared (cfgs p).spec c (V₀ c) A ((rdat c).ArrAt_sharedIn (kit.toP (Val := Val)).sharedIn (V₀ c) hA (cfgs p).N A hA') w

end Cert.RelTail
end
-- ==== Proof.EvenBitsRunB.lean ====
module
public import proofs.«01_k».proof.Proof.EvenBitsBase

@[expose] public section

set_option maxRecDepth 16384
noncomputable section
namespace Cert.EvenBwd.Run
open Cert.EvenBwd Cert.EvenBwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- At every other point the body runs, keeps its inputs and ends. -/
theorem runB (c : Dev nD) (i : grid0.Coords) (arg2 : Memref sig .tc .vmem S1x512x3072 .f32) (harg2 : arg2.IsWhole) (arg3 : Memref sig .tc .vmem S1x32x3072 .f32) (harg3 : arg3.IsWhole) (arg4 : Memref sig .tc .vmem S1x32x3072 .f32) (harg4 : arg4.IsWhole) (arg5 : Memref sig .tc .vmem S1x512x1024 .f32) (harg5 : arg5.IsWhole) (arg6 : Memref sig .tc .vmem S1x32x1024 .f32) (harg6 : arg6.IsWhole) (arg7 : Memref sig .tc .vmem S1x512x512 .f32) (harg7 : arg7.IsWhole) (arg8 : Memref sig .tc .vmem S1x32x512 .f32) (harg8 : arg8.IsWhole) (arg9 : Memref sig .tc .vmem S32x512 .f32) (harg9 : arg9.IsWhole) (arg10 : Memref sig .tc .vmem S8x512 .f32) (harg10 : arg10.IsWhole) (arg11 : Memref sig .tc .vmem S8x128x128 .f32) (harg11 : arg11.IsWhole) (arg12 : Memref sig .tc .vmem S8x128x128 .f32) (harg12 : arg12.IsWhole) (arg13 : Memref sig .tc .vmem S128x512 .f32) (harg13 : arg13.IsWhole) (arg14 : Memref sig .tc .vmem S1x512x3072 .bf16) (harg14 : arg14.IsWhole) (arg15 : Memref sig .tc .vmem S1x3072 .f32) (harg15 : arg15.IsWhole) (arg16 : Memref sig .tc .vmem S32x512 .f32) (harg16 : arg16.IsWhole) (arg17 : Memref sig .tc .vmem S8x512 .f32) (harg17 : arg17.IsWhole) (arg18 : Memref sig .tc .vmem S8x128x128 .f32) (harg18 : arg18.IsWhole) (arg19 : Memref sig .tc .vmem S128x512 .f32) (harg19 : arg19.IsWhole) (arg20 : Memref sig .tc .vmem S584x512 .f32) (harg20 : arg20.IsWhole) (arg21 : Memref sig .tc .vmem S7x576x512 .f32) (harg21 : arg21.IsWhole) (arg22 : Memref sig .tc .vmem S544x512 .f32) (harg22 : arg22.IsWhole) (arg23 : Memref sig .tc .vmem S544x512 .f32) (harg23 : arg23.IsWhole) (arg24 : Memref sig .tc .vmem S552x512 .f32) (harg24 : arg24.IsWhole) (arg25 : Memref sig .tc .vmem S32x8x512 .f32) (harg25 : arg25.IsWhole)
    (hc : ¬ first i) (x0 : Vec F S1x512x3072 .f32) (x1 : Vec F S1x32x3072 .f32) (x2 : Vec F S1x32x3072 .f32) (x3 : Vec F S1x512x1024 .f32) (x4 : Vec F S1x32x1024 .f32) (x5 : Vec F S1x512x512 .f32) (x6 : Vec F S1x32x512 .f32) (x7 : Vec F S32x512 .f32) (x8 : Vec F S8x512 .f32) (x9 : Vec F S8x128x128 .f32) (x10 : Vec F S8x128x128 .f32) (x11 : Vec F S128x512 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
      ⊢ wp frame (wpE (defs₀ (F := F)) Variants.none c none) E (cc0_even_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_even_bwd_eq_skeleton]; unfold cc0_even_bwd_skel
  simp only [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hc)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; exact harg11.read_unread _
  isplitl [H10]
  · iexists _; isplitr; swap; · iexact H10
    ipureintro; exact harg12.read_unread _
  isplitl [H11]
  · iexists _; isplitr; swap; · iexact H11
    ipureintro; exact harg13.read_unread _
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  iexists _, _; isplitr; swap; · iexact H23
  ipureintro; rfl

end Cert.EvenBwd.Run
-- ==== Proof.EvenBitsLaunch.lean ====
module
public import proofs.«01_k».proof.Proof.EvenBitsRunA
public import proofs.«01_k».proof.Proof.EvenBitsRunB

@[expose] public section

set_option maxRecDepth 16384
noncomputable section
namespace Cert.EvenBwd.Run
open Cert.EvenBwd Cert.EvenBwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The outputs of which nothing is said. -/
def forgets0 : Fin 18 → Bool := fun w => w.val == 12 || w.val == 13 || w.val == 14 || w.val == 15 || w.val == 16 || w.val == 17

/-- The launch's data on one device: each window's array and what its buffer holds after the body at point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨_ + 18, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body is called with at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare d)
    ∗ (∃ d, owns (c : Thread nD τ) (st13 t) fullShare d)
    ∗ (∃ d, owns (c : Thread nD τ) (st14 t) fullShare d)
    ∗ (∃ d, owns (c : Thread nD τ) (st15 t) fullShare d)
    ∗ (∃ d, owns (c : Thread nD τ) (st16 t) fullShare d)
    ∗ (∃ d, owns (c : Thread nD τ) (st17 t) fullShare d))

/-- What it gives back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t)
    ∗ (∃ d, owns (c : Thread nD τ) (st12 t) fullShare d)
    ∗ (∃ d, owns (c : Thread nD τ) (st13 t) fullShare d)
    ∗ (∃ d, owns (c : Thread nD τ) (st14 t) fullShare d)
    ∗ (∃ d, owns (c : Thread nD τ) (st15 t) fullShare d)
    ∗ (∃ d, owns (c : Thread nD τ) (st16 t) fullShare d)
    ∗ (∃ d, owns (c : Thread nD τ) (st17 t) fullShare d))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, kept_eq]
  by_cases h0 : t.val = 0
  · iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (runA c (grid0.coords t) _ _ _ _ _ _ _ _ _ _ _ _ _ _ _ _ _ _ _ _ _ _ _ _ _ _ _ _ _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, H13, H14, H15, H16, H17, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (runB c (grid0.coords t) _ _ _ _ _ _ _ _ _ _ _ _ _ _ _ _ _ _ _ _ _ _ _ _ _ _ _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, H13, H14, H15, H16, H17, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The launch's data with the marked outputs known by relation only. -/
abbrev rdat (c : Dev nD) : Pipeline.RDat τ (Elt F) Unit ℕ (UR sig nD τ) ℕ (cfgs 0) c := (dats m 0 c).toRForget forgets0

set_option backward.isDefEq.respectTransparency.types false in
/-- The launch and the lines after it end, with every array as the data says and every counter at zero. -/
theorem run : θ_run defs (onTc (τ := τ) (main (F := F))) (s₀ m ρ)
    (fun r => RelTail.Post cfgs 0 (rdat m) (V0 m) [hostOps1] r.2 ∧ r.2.sem = fun _ => 0) :=
  RelTail.run cfgs (0 : Fin 1) launch₀0 defs₀ Variants.none (rdat m) m ρ main (fun c => (body_obligation m c).loose.toRForget) (fun _ _ _ => rfl) (fun _ _ => rfl)
    (V0 m) [hostOps1] sfx_sub sfx_fresh sfx_keeps (hmain m Variants.none) (A_eq m) (fun _ _ => rfl)

/-- The argument arrays end as they were launched and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
    ∧ r.2.sem = fun _ => 0) :=
  (θ_run defs _ _).mono (fun r h => ⟨frame_of_post m (rdat m) (A_eq m) r.2 h.1, h.2⟩) (run m ρ)

end Cert.EvenBwd.Run
-- ==== Proof.EvenBase.lean ====
module
public import proofs.«01_k».proof.Proof.Gen.EvenBwdIdeal.Frame
public import proofs.«01_k».proof.Proof.Gen.EvenBwdIdeal.Loops
public import proofs.«01_k».proof.Proof.RelTail

@[expose] public section

set_option maxRecDepth 16384
noncomputable section
namespace Cert.EvenBwdIdeal.Run
open Cert.EvenBwdIdeal Cert.EvenBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body clears its accumulators at the grid's first point. -/
abbrev first (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

theorem first_iff (t : Fin cfg0.N) : first (grid0.coords t) ↔ t.val = 0 := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  have h : first (grid0.coords t) ↔ t.val % 16 = 0 := by
    simp only [first, e0, e1]
    word_cmp
  rw [h]; omega

abbrev st0 (t : Fin cfg0.N) : Memref sig .tc .vmem S1x512x3072 .f32 := win0_0.stage (cfg0.slots t 0)
abbrev st1 (t : Fin cfg0.N) : Memref sig .tc .vmem S1x32x3072 .f32 := win0_1.stage (cfg0.slots t 1)
abbrev st2 (t : Fin cfg0.N) : Memref sig .tc .vmem S1x32x3072 .f32 := win0_2.stage (cfg0.slots t 2)
abbrev st3 (t : Fin cfg0.N) : Memref sig .tc .vmem S1x512x1024 .f32 := win0_3.stage (cfg0.slots t 3)
abbrev st4 (t : Fin cfg0.N) : Memref sig .tc .vmem S1x32x1024 .f32 := win0_4.stage (cfg0.slots t 4)
abbrev st5 (t : Fin cfg0.N) : Memref sig .tc .vmem S1x512x512 .f32 := win0_5.stage (cfg0.slots t 5)
abbrev st6 (t : Fin cfg0.N) : Memref sig .tc .vmem S1x32x512 .f32 := win0_6.stage (cfg0.slots t 6)
abbrev st7 (t : Fin cfg0.N) : Memref sig .tc .vmem S32x512 .f32 := win0_7.stage (cfg0.slots t 7)
abbrev st8 (t : Fin cfg0.N) : Memref sig .tc .vmem S8x512 .f32 := win0_8.stage (cfg0.slots t 8)
abbrev st9 (t : Fin cfg0.N) : Memref sig .tc .vmem S8x128x128 .f32 := win0_9.stage (cfg0.slots t 9)
abbrev st10 (t : Fin cfg0.N) : Memref sig .tc .vmem S8x128x128 .f32 := win0_10.stage (cfg0.slots t 10)
abbrev st11 (t : Fin cfg0.N) : Memref sig .tc .vmem S128x512 .f32 := win0_11.stage (cfg0.slots t 11)
abbrev st12 (t : Fin cfg0.N) : Memref sig .tc .vmem S1x512x3072 .bf16 := win0_12.stage (cfg0.slots t 12)
abbrev st13 (t : Fin cfg0.N) : Memref sig .tc .vmem S1x3072 .f32 := win0_13.stage (cfg0.slots t 13)
abbrev st14 (t : Fin cfg0.N) : Memref sig .tc .vmem S32x512 .f32 := win0_14.stage (cfg0.slots t 14)
abbrev st15 (t : Fin cfg0.N) : Memref sig .tc .vmem S8x512 .f32 := win0_15.stage (cfg0.slots t 15)
abbrev st16 (t : Fin cfg0.N) : Memref sig .tc .vmem S8x128x128 .f32 := win0_16.stage (cfg0.slots t 16)
abbrev st17 (t : Fin cfg0.N) : Memref sig .tc .vmem S128x512 .f32 := win0_17.stage (cfg0.slots t 17)
abbrev sc0 : Memref sig .tc .vmem S584x512 .f32 := Memref.whole cc0_scratch0
abbrev sc1 : Memref sig .tc .vmem S7x576x512 .f32 := Memref.whole cc0_scratch1
abbrev sc2 : Memref sig .tc .vmem S544x512 .f32 := Memref.whole cc0_scratch2
abbrev sc3 : Memref sig .tc .vmem S544x512 .f32 := Memref.whole cc0_scratch3
abbrev sc4 : Memref sig .tc .vmem S552x512 .f32 := Memref.whole cc0_scratch4
abbrev sc5 : Memref sig .tc .vmem S32x8x512 .f32 := Memref.whole cc0_scratch5

/-- What the region keeps between points: the scratch buffers at some contents and the generator's register. -/
theorem kept_eq (c : Dev nD) : (Pipeline.ΦA spec0 c : sProp (MT nD τ sig Unit (Elt F) ℕ (UR sig nD τ) ℕ)) =
    iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The four lines after the launch write their own results only. -/
theorem rest_of_post (m : (ℓ : Loc nD τ sig) → Buf (Elt F) ℓ)
    (rdat : (c : Dev nD) → Pipeline.RDat τ (Elt F) Unit ℕ (UR sig nD τ) ℕ (cfgs 0) c)
    (s : MemSt nD τ sig (Elt F)) (h : RelTail.Post cfgs 0 rdat (V0 m) [hostOps1] s) (c : Dev nD) (b : Ref sig .tc) (hs : b.isScoped = false)
    (ha : ∀ w, Pipeline.arrRef spec0 w ≠ b) (h0 : b ≠ main_v244) (h1 : b ≠ main_v245) (h2 : b ≠ main_v246) (h3 : b ≠ main_v247) :
    s.mem ((c.tc : Thread nD τ).loc b) = V m c b := by
  obtain ⟨A, -, hb⟩ := (h c).2
  have hm : b ∈ Pipeline.restRefsP sig Pipeline.Prefetch.none spec0 :=
    Finset.mem_sdiff.mpr ⟨Pipeline.mem_restRefs_of b hs ha, fun h => ((Finset.mem_image.mp h).elim fun k _ => k.elim0)⟩
  rw [hb b hm, StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      exact ⟨StableHlo.devRef_ne_of_ne h0, StableHlo.devRef_ne_of_ne h1, StableHlo.devRef_ne_of_ne h2, StableHlo.devRef_ne_of_ne h3⟩)),
    Pipeline.withArrays_of_ne _ c (V0 m c) _ b ha]

/-- The argument arrays end as they were launched, from any run of the launch that keeps its inputs. -/
theorem frame_of_post (m : (ℓ : Loc nD τ sig) → Buf (Elt F) ℓ)
    (rdat : (c : Dev nD) → Pipeline.RDat τ (Elt F) Unit ℕ (UR sig nD τ) ℕ (cfgs 0) c) (hA : ∀ c w, (rdat c).A w = V m c (Pipeline.arrRef spec0 w))
    (s : MemSt nD τ sig (Elt F)) (h : RelTail.Post cfgs 0 rdat (V0 m) [hostOps1] s) (c : Dev nD) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9) := by
  have inp (w : Fin 18) (hin : (cfg0.win w).isOut = false) : s.mem ((spec0 w).arr.view.loc (c.tc : Thread nD τ)) = (rdat c).A w := by
    have h1 := (h c).1 w
    rw [(rdat c).ArrAt_in w hin] at h1
    exact h1
  have rest (b : Ref sig .tc) (hs : _) (ha : _) (h0 : _) (h1 : _) (h2 : _) (h3 : _) := rest_of_post m rdat s h c b hs ha h0 h1 h2 h3
  exact ⟨(inp 2 rfl).trans ((hA c 2).trans (V_main_arg0 m c)),
    (rest main_arg1 (by decide) (by decide) (by decide) (by decide) (by decide) (by decide)).trans (V_main_arg1 m c), (rest main_arg2 (by decide) (by decide) (by decide) (by decide) (by decide) (by decide)).trans (V_main_arg2 m c), (rest main_arg3 (by decide) (by decide) (by decide) (by decide) (by decide) (by decide)).trans (V_main_arg3 m c), (rest main_arg4 (by decide) (by decide) (by decide) (by decide) (by decide) (by decide)).trans (V_main_arg4 m c), (rest main_arg5 (by decide) (by decide) (by decide) (by decide) (by decide) (by decide)).trans (V_main_arg5 m c), (rest main_arg6 (by decide) (by decide) (by decide) (by decide) (by decide) (by decide)).trans (V_main_arg6 m c),
    (inp 9 rfl).trans ((hA c 9).trans (V_main_arg7 m c)),
    (rest main_arg8 (by decide) (by decide) (by decide) (by decide) (by decide) (by decide)).trans (V_main_arg8 m c),
    (inp 4 rfl).trans ((hA c 4).trans (V_main_arg9 m c))⟩

end Cert.EvenBwdIdeal.Run
-- ==== Proof.EvenSpec.lean ====
module
public import proofs.«01_k».proof.Proof.PostSpec

@[expose] public section

/-!
The gradients of the spatial mixing of the gated branch, as plain functions: a block of 128 positions is mixed by
one lower triangular matrix per head, the heads being groups of 64 lanes, and the mixed lanes are multiplied by
`gelu u` and by `silu` of the gate.  `dws` is the gradient of the matrices, `dbias` that of the bias added to the
mixed lanes.
-/

noncomputable section
open Idealize.ShloMosaic
namespace Cert.Rows

/-- The row length of the gated branch as printed. -/
def lanes : EReal := Ideal.ofBits .f32 0x44000000#32

/-- `x` times the logistic function of `x`. -/
def silu (x : EReal) : EReal := x * Ideal.div 1 (1 + Ideal.exp (-x))

/-- The smooth rectifier, by the hyperbolic tangent. -/
def gelu (x : EReal) : EReal :=
  Ideal.ofBits .f32 0x3F000000#32 * x *
    (1 + Ideal.tanh (Ideal.ofBits .f32 0x3F4C422A#32 * (x + Ideal.ofBits .f32 0x3D372713#32 * (x * (x * x)))))

/-- What the gated branch reads: its columns of the projected rows, the layer norm's two rows and the cotangent. -/
structure Gated where
  z : (⟨3, ![2, 4096, 3072]⟩ : Shape).Idx → EReal
  g : Row 512
  b : Row 512
  dy : (⟨3, ![2, 4096, 1024]⟩ : Shape).Idx → EReal

/-- Column `j` of the `k`-th group of 512 lanes. -/
def col (k : Fin 6) (j : Fin 512) : Fin 3072 := ⟨512 * k.val + j.val, by omega⟩

/-- Column `j` of the second half of the cotangent. -/
def colDy (j : Fin 512) : Fin 1024 := ⟨512 + j.val, by omega⟩

/-- Position `r` of block `n`. -/
def pos (n : Fin 32) (r : Fin 128) : Fin 4096 := ⟨128 * n.val + r.val, by omega⟩

/-- Lane `d` of head `h`. -/
def lane (h : Fin 8) (d : Fin 64) : Fin 512 := ⟨64 * h.val + d.val, by omega⟩

namespace Gated
variable (a : Gated)

/-- The rectified value row. -/
def va (i : Fin 2) (s : Fin 4096) (j : Fin 512) : EReal := gelu (a.z (ix3 i s (col 4 j)))

/-- The layer norm of the value row. -/
def vl (i : Fin 2) (s : Fin 4096) (j : Fin 512) : EReal := Rows.xh lanes eps (a.va i s) j * a.g (ix1 j) + a.b (ix1 j)

/-- The cotangent of the mixed lanes. -/
def dsg (i : Fin 2) (s : Fin 4096) (j : Fin 512) : EReal :=
  a.dy (ix3 i s (colDy j)) * gelu (a.z (ix3 i s (col 3 j))) * silu (a.z (ix3 i s (col 5 j)))

/-- One block's part of the gradient of the mixing matrices. -/
def dwsBlk (i : Fin 2) (n : Fin 32) (h : Fin 8) (t s : Fin 128) : EReal :=
  if s ≤ t then ∑ d : Fin 64, a.dsg i (pos n t) (lane h d) * a.vl i (pos n s) (lane h d) else 0

/-- The gradient of the mixing matrices. -/
def dws (h : Fin 8) (t s : Fin 128) : EReal := ∑ i : Fin 2, ∑ n : Fin 32, a.dwsBlk i n h t s

/-- The gradient of the bias. -/
def dbias (t : Fin 128) (j : Fin 512) : EReal := ∑ i : Fin 2, ∑ n : Fin 32, a.dsg i (pos n t) j

end Gated
end Cert.Rows
-- ==== Proof.EvenPay.lean ====
module
public import proofs.«01_k».proof.Proof.EvenSpec
public import proofs.«01_k».proof.Proof.Gen.EvenBwdIdeal.Skeleton

@[expose] public section

set_option maxRecDepth 16384
noncomputable section
namespace Cert.EvenBwdIdeal.Pay
open Cert.EvenBwdIdeal Cert.EvenBwdIdeal.Gen Idealize.ShloMosaic Idealize.ShloMosaic.TcCoe Idealize.SL.Sem Cert.Rows

/-!
What one trip of the body's loop over blocks of 128 positions computes: each named value, read at a position of the
block and a lane, is the corresponding function of the gated branch.
-/

theorem tri_bit : ∀ t s : Fin 128, IntOp.cmpi .sge (BitVec.ofNat 32 t.val) (BitVec.ofNat 32 s.val) = if s ≤ t then 1#1 else 0#1 := by
  decide +kernel

theorem lo_bit : ∀ x : Fin 128, IntOp.cmpi .slt (BitVec.ofNat 32 x.val) 64#32 = if x.val < 64 then 1#1 else 0#1 := by decide +kernel

theorem hi_bit : ∀ x : Fin 128, IntOp.cmpi .sge (BitVec.ofNat 32 x.val) 64#32 = if x.val < 64 then 0#1 else 1#1 := by decide +kernel

theorem tri (t s : Fin 128) (x : EReal) :
    Scalar.select (IntOp.cmpi .sge (BitVec.ofNat 32 t.val) (BitVec.ofNat 32 s.val)) x 0 = if s ≤ t then x else 0 := by
  rw [tri_bit]; split <;> rfl

/-- The lower half of 128 lanes. -/
theorem sum_lo (F : Fin 128 → EReal) :
    ∑ x : Fin 128, Scalar.select (IntOp.cmpi .slt (BitVec.ofNat 32 x.val) 64#32) (F x) 0 = ∑ d : Fin 64, F ⟨d.val, by omega⟩ := by
  refine (Fin.sum_univ_add (a := 64) (b := 64) _).trans ?_
  refine (congrArg₂ (· + ·) (Finset.sum_congr rfl fun d _ => ?_) (Finset.sum_eq_zero fun d _ => ?_)).trans (add_zero _)
  · rw [lo_bit, if_pos (by simp)]; rfl
  · rw [lo_bit, if_neg (by simp)]; rfl

/-- The upper half of 128 lanes. -/
theorem sum_hi (F : Fin 128 → EReal) :
    ∑ x : Fin 128, Scalar.select (IntOp.cmpi .sge (BitVec.ofNat 32 x.val) 64#32) (F x) 0 = ∑ d : Fin 64, F ⟨64 + d.val, by omega⟩ := by
  refine (Fin.sum_univ_add (a := 64) (b := 64) _).trans ?_
  refine (congrArg₂ (· + ·) (Finset.sum_eq_zero fun d _ => ?_) (Finset.sum_congr rfl fun d _ => ?_)).trans (zero_add _)
  · rw [hi_bit, if_pos (by simp)]; rfl
  · rw [hi_bit, if_neg (by simp)]; rfl

variable (A : Gated) (i : Fin 2) (n : Fin 32)

theorem blk_of (h : Fin 8) (t s : Fin 128) (a b : Fin 64 → Fin 512) (ha : ∀ d, (a d).val = 64 * h.val + d.val) (hb : ∀ d, (b d).val = 64 * h.val + d.val) :
    (if s ≤ t then ∑ d : Fin 64, A.dsg i (pos n t) (a d) * A.vl i (pos n s) (b d) else 0) = A.dwsBlk i n h t s := by
  have ea : a = lane h := funext fun d => Fin.ext (ha d)
  have eb : b = lane h := funext fun d => Fin.ext (hb d)
  subst ea eb; rfl

variable
  {xu xv xg xd : Vec Ideal S1x128x512 .f32} {g b : Vec Ideal S1x512 .f32}

/-- The rows a trip loads are those of block `n` of sequence `i`. -/
structure Reads (xu xv xg xd : Vec Ideal S1x128x512 .f32) (g b : Vec Ideal S1x512 .f32) : Prop where
  u : ∀ (r : Fin 128) (j : Fin 512), (xu (ix3 0 r j) : EReal) = A.z (ix3 i (pos n r) (col 3 j))
  v : ∀ (r : Fin 128) (j : Fin 512), (xv (ix3 0 r j) : EReal) = A.z (ix3 i (pos n r) (col 4 j))
  gg : ∀ (r : Fin 128) (j : Fin 512), (xg (ix3 0 r j) : EReal) = A.z (ix3 i (pos n r) (col 5 j))
  dy : ∀ (r : Fin 128) (j : Fin 512), (xd (ix3 0 r j) : EReal) = A.dy (ix3 i (pos n r) (colDy j))
  g : ∀ j : Fin 512, (g (ix2 0 j) : EReal) = A.g (ix1 j)
  b : ∀ j : Fin 512, (b (ix2 0 j) : EReal) = A.b (ix1 j)

/-- The cotangent of the mixed lanes, as the trip computes it. -/
abbrev dsgV (xu xg xd : Vec Ideal S1x128x512 .f32) : FVec Ideal S128x512 .f32 := k0_pay111 (k0_pay82 xu) (k0_pay93 xg) xd

/-- The rectified value row, as the trip computes it. -/
abbrev vaV (xv : Vec Ideal S1x128x512 .f32) : FVec Ideal S128x512 .f32 := k0_pay89 (k0_pay84 xv) (k0_pay86 xv) k0_pay87

/-- The layer norm of the value row, as the trip computes it. -/
abbrev vlV (xv : Vec Ideal S1x128x512 .f32) (g b : Vec Ideal S1x512 .f32) : FVec Ideal S128x512 .bf16 := k0_pay100 (vaV xv) g b

variable {A i n} (H : Reads A i n xu xv xg xd g b)
include H

theorem ua_at (r : Fin 128) (j : Fin 512) : (k0_pay82 xu (ix2 r j) : EReal) = gelu (A.z (ix3 i (pos n r) (col 3 j))) := by
  pointwise [k0_pay82, k0_pay81, k0_pay80, k0_pay79, H.u]
  rfl

theorem va_at (r : Fin 128) (j : Fin 512) : (vaV xv (ix2 r j) : EReal) = A.va i (pos n r) j := by
  pointwise [vaV, k0_pay89, k0_pay88, k0_pay84, k0_pay85, k0_pay86, k0_pay87, H.v]
  rfl

theorem sg_at (r : Fin 128) (j : Fin 512) : (k0_pay93 xg (ix2 r j) : EReal) = silu (A.z (ix3 i (pos n r) (col 5 j))) := by
  pointwise [k0_pay93, k0_pay92, k0_pay91, H.gg]
  simp only [silu, zero_sub]

theorem dsg_at (r : Fin 128) (j : Fin 512) : (dsgV xu xg xd (ix2 r j) : EReal) = A.dsg i (pos n r) j := by
  pointwise [dsgV, k0_pay111, k0_pay109, H.dy, ua_at H, sg_at H]
  rfl

theorem dev_at (r : Fin 128) (j : Fin 512) : (k0_pay97 (vaV xv) (ix2 r j) : EReal) = Rows.dev lanes (A.va i (pos n r)) j := by
  pointwise [k0_pay97, va_at H]
  rfl

theorem rs_at (r : Fin 128) (j : Fin 1) : (k0_pay98 (vaV xv) (ix2 r j) : EReal) = Rows.rs lanes eps (A.va i (pos n r)) := by
  pointwise [k0_pay98, dev_at H]
  rfl

theorem xh_at (r : Fin 128) (j : Fin 512) : (k0_pay99 (vaV xv) (ix2 r j) : EReal) = Rows.xh lanes eps (A.va i (pos n r)) j := by
  pointwise [k0_pay99, dev_at H, rs_at H]
  rfl

theorem vl_at (r : Fin 128) (j : Fin 512) : (vlV xv g b (ix2 r j) : EReal) = A.vl i (pos n r) j := by
  pointwise [vlV, k0_pay100, xh_at H, H.g, H.b]
  rfl

/-- The lanes' numbers, as the body spells them. -/
abbrev laneV : IVec S128x128 32 := iota .tc S128x128 32 [1] iota_S128x128_d1_w32

theorem w0_at (X : Vec Ideal S1x128x128 .f32) (t s : Fin 128) :
    (k0_pay125 (k0_pay124 k0_pay3 laneV (vlV xv g b) (dsgV xu xg xd) X) (ix3 0 t s) : EReal) =
      X (ix3 0 t s) + A.dwsBlk i n 0 t s := by
  pointwise [k0_pay125, k0_pay124, k0_pay122, k0_pay123, k0_pay3, laneV, dsg_at H, vl_at H]
  simp only [tri, sum_lo (fun x => A.dsg i (pos n t) _ * A.vl i (pos n s) _)]
  exact congrArg (X (ix3 0 t s) + ·) (blk_of A i n 0 t s _ _ (fun d => by simp; try omega) (fun d => by simp; try omega))

theorem w1_at (X : Vec Ideal S1x128x128 .f32) (t s : Fin 128) :
    (k0_pay126 k0_pay3 laneV (k0_pay122 (dsgV xu xg xd)) (k0_pay123 (vlV xv g b)) X (ix3 0 t s) : EReal) =
      X (ix3 0 t s) + A.dwsBlk i n 1 t s := by
  pointwise [k0_pay126, k0_pay122, k0_pay123, k0_pay3, laneV, dsg_at H, vl_at H]
  simp only [tri, sum_hi (fun x => A.dsg i (pos n t) _ * A.vl i (pos n s) _)]
  exact congrArg (X (ix3 0 t s) + ·) (blk_of A i n 1 t s _ _ (fun d => by simp; try omega) (fun d => by simp; try omega))

theorem w2_at (X : Vec Ideal S1x128x128 .f32) (t s : Fin 128) :
    (k0_pay129 k0_pay3 laneV (vlV xv g b) (dsgV xu xg xd) X (ix3 0 t s) : EReal) =
      X (ix3 0 t s) + A.dwsBlk i n 2 t s := by
  pointwise [k0_pay129, k0_pay127, k0_pay128, k0_pay3, laneV, dsg_at H, vl_at H]
  simp only [tri, sum_lo (fun x => A.dsg i (pos n t) _ * A.vl i (pos n s) _)]
  exact congrArg (X (ix3 0 t s) + ·) (blk_of A i n 2 t s _ _ (fun d => by simp; try omega) (fun d => by simp; try omega))

theorem w3_at (X : Vec Ideal S1x128x128 .f32) (t s : Fin 128) :
    (k0_pay131 k0_pay3 laneV (k0_pay127 (dsgV xu xg xd)) (k0_pay128 (vlV xv g b)) (k0_pay130 X) 64#32 (ix3 0 t s) : EReal) =
      X (ix3 0 t s) + A.dwsBlk i n 3 t s := by
  pointwise [k0_pay131, k0_pay130, k0_pay127, k0_pay128, k0_pay3, laneV, dsg_at H, vl_at H]
  simp only [tri, sum_hi (fun x => A.dsg i (pos n t) _ * A.vl i (pos n s) _)]
  exact congrArg (X (ix3 0 t s) + ·) (blk_of A i n 3 t s _ _ (fun d => by simp; try omega) (fun d => by simp; try omega))

theorem w4_at (X : Vec Ideal S1x128x128 .f32) (t s : Fin 128) :
    (k0_pay134 k0_pay3 laneV (vlV xv g b) (dsgV xu xg xd) X (ix3 0 t s) : EReal) =
      X (ix3 0 t s) + A.dwsBlk i n 4 t s := by
  pointwise [k0_pay134, k0_pay132, k0_pay133, k0_pay3, laneV, dsg_at H, vl_at H]
  simp only [tri, sum_lo (fun x => A.dsg i (pos n t) _ * A.vl i (pos n s) _)]
  exact congrArg (X (ix3 0 t s) + ·) (blk_of A i n 4 t s _ _ (fun d => by simp; try omega) (fun d => by simp; try omega))

theorem w5_at (X : Vec Ideal S1x128x128 .f32) (t s : Fin 128) :
    (k0_pay137 k0_pay3 (k0_pay135 X) (k0_pay136 laneV (vlV xv g b) (dsgV xu xg xd)) (ix3 0 t s) : EReal) =
      X (ix3 0 t s) + A.dwsBlk i n 5 t s := by
  pointwise [k0_pay137, k0_pay136, k0_pay135, k0_pay132, k0_pay133, k0_pay3, laneV, dsg_at H, vl_at H]
  simp only [tri, sum_hi (fun x => A.dsg i (pos n t) _ * A.vl i (pos n s) _)]
  exact congrArg (X (ix3 0 t s) + ·) (blk_of A i n 5 t s _ _ (fun d => by simp; try omega) (fun d => by simp; try omega))

theorem w6_at (X : Vec Ideal S1x128x128 .f32) (t s : Fin 128) :
    (k0_pay140 k0_pay3 laneV (vlV xv g b) (dsgV xu xg xd) X (ix3 0 t s) : EReal) =
      X (ix3 0 t s) + A.dwsBlk i n 6 t s := by
  pointwise [k0_pay140, k0_pay138, k0_pay139, k0_pay3, laneV, dsg_at H, vl_at H]
  simp only [tri, sum_lo (fun x => A.dsg i (pos n t) _ * A.vl i (pos n s) _)]
  exact congrArg (X (ix3 0 t s) + ·) (blk_of A i n 6 t s _ _ (fun d => by simp; try omega) (fun d => by simp; try omega))

theorem w7_at (X : Vec Ideal S1x128x128 .f32) (t s : Fin 128) :
    (k0_pay142 (k0_pay141 k0_pay3 laneV (vlV xv g b) (dsgV xu xg xd) X) (ix3 0 t s) : EReal) =
      X (ix3 0 t s) + A.dwsBlk i n 7 t s := by
  pointwise [k0_pay142, k0_pay141, k0_pay138, k0_pay139, k0_pay3, laneV, dsg_at H, vl_at H]
  simp only [tri, sum_hi (fun x => A.dsg i (pos n t) _ * A.vl i (pos n s) _)]
  exact congrArg (X (ix3 0 t s) + ·) (blk_of A i n 7 t s _ _ (fun d => by simp; try omega) (fun d => by simp; try omega))

theorem bias_at (X : Vec Ideal S128x512 .f32) (t : Fin 128) (j : Fin 512) :
    (k0_pay143 (dsgV xu xg xd) X (ix2 t j) : EReal) = X (ix2 t j) + A.dsg i (pos n t) j := by
  pointwise [k0_pay143, dsg_at H]

end Cert.EvenBwdIdeal.Pay
-- ==== Proof.EvenTrip.lean ====
module
public import proofs.«01_k».proof.Proof.EvenPay
public import Idealize.ShloMosaic.Lib.WritesUnit
public import proofs.«01_k».proof.Proof.Gen.EvenBwdIdeal.Loops

@[expose] public section

set_option maxRecDepth 16384
noncomputable section
namespace Cert.EvenBwdIdeal.Pay
open Cert.EvenBwdIdeal Cert.EvenBwdIdeal.Gen Idealize.ShloMosaic Idealize.ShloMosaic.TcCoe Idealize.SL.Sem Cert.Rows

/-- The rows of a block a trip reads: the mixed lanes, the values, the gate and the incoming gradient. -/
abbrev ldU (a : Memref sig .tc .vmem S1x512x3072 .f32) (X : BufTy.Contents (Elt Ideal) a.view.ty) (k : Fin k0_t4_loop.trips) : Vec Ideal S1x128x512 .f32 :=
  View.readAt (Elt Ideal) a.view (Rect.unit (s := S1x512x3072) (k0_off24 k) S1x128x512.size (k0_off24_inb k)).toLoadRect X
abbrev ldV (a : Memref sig .tc .vmem S1x512x3072 .f32) (X : BufTy.Contents (Elt Ideal) a.view.ty) (k : Fin k0_t4_loop.trips) : Vec Ideal S1x128x512 .f32 :=
  View.readAt (Elt Ideal) a.view (Rect.unit (s := S1x512x3072) (k0_off25 k) S1x128x512.size (k0_off25_inb k)).toLoadRect X
abbrev ldG (a : Memref sig .tc .vmem S1x512x3072 .f32) (X : BufTy.Contents (Elt Ideal) a.view.ty) (k : Fin k0_t4_loop.trips) : Vec Ideal S1x128x512 .f32 :=
  View.readAt (Elt Ideal) a.view (Rect.unit (s := S1x512x3072) (k0_off26 k) S1x128x512.size (k0_off26_inb k)).toLoadRect X
abbrev ldD (a : Memref sig .tc .vmem S1x512x1024 .f32) (X : BufTy.Contents (Elt Ideal) a.view.ty) (k : Fin k0_t4_loop.trips) : Vec Ideal S1x128x512 .f32 :=
  View.readAt (Elt Ideal) a.view (Rect.unit (s := S1x512x1024) (k0_off27 k) S1x128x512.size (k0_off27_inb k)).toLoadRect X
/-- The layer norm's scale and shift. -/
abbrev ldg (a : Memref sig .tc .vmem S8x512 .f32) (X : BufTy.Contents (Elt Ideal) a.view.ty) : Vec Ideal S1x512 .f32 :=
  View.readAt (Elt Ideal) a.view (Rect.unit (s := S8x512) ![3, 0] ![1, 512] inb_S8x512_S1x512_3_0).toLoadRect X
abbrev ldb (a : Memref sig .tc .vmem S8x512 .f32) (X : BufTy.Contents (Elt Ideal) a.view.ty) : Vec Ideal S1x512 .f32 :=
  View.readAt (Elt Ideal) a.view (Rect.unit (s := S8x512) ![4, 0] ![1, 512] inb_S8x512_S1x512_4_0).toLoadRect X
/-- A head's slab of the mixing gradient, and the bias gradient, as the trip finds them. -/
abbrev ldR (a : Memref sig .tc .vmem S8x128x128 .f32) (X : BufTy.Contents (Elt Ideal) a.view.ty) (o : Fin 3 → ℕ)
    (h : ∀ i, o i + (![1, 128, 128] : Fin 3 → ℕ) i ≤ S8x128x128.size i) : Vec Ideal S1x128x128 .f32 :=
  View.readAt (Elt Ideal) a.view (Rect.unit (s := S8x128x128) o ![1, 128, 128] h).toLoadRect X
abbrev ldB (a : Memref sig .tc .vmem S128x512 .f32) (X : BufTy.Contents (Elt Ideal) a.view.ty) : Vec Ideal S128x512 .f32 :=
  View.readAt (Elt Ideal) a.view (Rect.unit (s := S128x512) ![0, 0] ![128, 512] inb_S128x512_S128x512_0_0).toLoadRect X

section
variable (𝒱 : Variants) (c : Dev nD) (bd : Option 𝒱.V) (i : grid0.Coords) (arg2 : Memref sig .tc .vmem S1x512x3072 .f32) (harg2 : arg2.IsWhole) (arg3 : Memref sig .tc .vmem S1x32x3072 .f32) (harg3 : arg3.IsWhole) (arg4 : Memref sig .tc .vmem S1x32x3072 .f32) (harg4 : arg4.IsWhole) (arg5 : Memref sig .tc .vmem S1x512x1024 .f32) (harg5 : arg5.IsWhole) (arg6 : Memref sig .tc .vmem S1x32x1024 .f32) (harg6 : arg6.IsWhole) (arg7 : Memref sig .tc .vmem S1x512x512 .f32) (harg7 : arg7.IsWhole) (arg8 : Memref sig .tc .vmem S1x32x512 .f32) (harg8 : arg8.IsWhole) (arg9 : Memref sig .tc .vmem S32x512 .f32) (harg9 : arg9.IsWhole) (arg10 : Memref sig .tc .vmem S8x512 .f32) (harg10 : arg10.IsWhole) (arg11 : Memref sig .tc .vmem S8x128x128 .f32) (harg11 : arg11.IsWhole) (arg12 : Memref sig .tc .vmem S8x128x128 .f32) (harg12 : arg12.IsWhole) (arg13 : Memref sig .tc .vmem S128x512 .f32) (harg13 : arg13.IsWhole) (arg14 : Memref sig .tc .vmem S1x512x3072 .bf16) (harg14 : arg14.IsWhole) (arg15 : Memref sig .tc .vmem S1x3072 .f32) (harg15 : arg15.IsWhole) (arg16 : Memref sig .tc .vmem S32x512 .f32) (harg16 : arg16.IsWhole) (arg17 : Memref sig .tc .vmem S8x512 .f32) (harg17 : arg17.IsWhole) (arg18 : Memref sig .tc .vmem S8x128x128 .f32) (harg18 : arg18.IsWhole) (arg19 : Memref sig .tc .vmem S128x512 .f32) (harg19 : arg19.IsWhole) (arg20 : Memref sig .tc .vmem S584x512 .f32) (harg20 : arg20.IsWhole) (arg21 : Memref sig .tc .vmem S7x576x512 .f32) (harg21 : arg21.IsWhole) (arg22 : Memref sig .tc .vmem S544x512 .f32) (harg22 : arg22.IsWhole) (arg23 : Memref sig .tc .vmem S544x512 .f32) (harg23 : arg23.IsWhole) (arg24 : Memref sig .tc .vmem S552x512 .f32) (harg24 : arg24.IsWhole) (arg25 : Memref sig .tc .vmem S32x8x512 .f32) (harg25 : arg25.IsWhole) (X_arg2 : BufTy.Contents (Elt Ideal) arg2.view.ty) (X_arg5 : BufTy.Contents (Elt Ideal) arg5.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (k : Fin k0_t4_loop.trips) (f_arg14 : BufTy.Contents (Elt Ideal) arg14.view.ty) (f_arg15 : BufTy.Contents (Elt Ideal) arg15.view.ty) (f_arg17 : BufTy.Contents (Elt Ideal) arg17.view.ty) (f_arg18 : BufTy.Contents (Elt Ideal) arg18.view.ty) (f_arg19 : BufTy.Contents (Elt Ideal) arg19.view.ty)

theorem trip18 : (trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 k).2.2.2.1 f_arg14 f_arg15 f_arg17 f_arg18 f_arg19 =
    [⟨Rect.unit ![7, 0, 0] ![1, 128, 128] inb_S8x128x128_S1x128x128_7_0_0, k0_pay142 (k0_pay141 k0_pay3 laneV (vlV (ldV arg2 X_arg2 k) (ldg arg10 X_arg10) (ldb arg10 X_arg10)) (dsgV (ldU arg2 X_arg2 k) (ldG arg2 X_arg2 k) (ldD arg5 X_arg5 k)) (ldR arg18 f_arg18 ![7, 0, 0] inb_S8x128x128_S1x128x128_7_0_0))⟩,
    ⟨Rect.unit ![6, 0, 0] ![1, 128, 128] inb_S8x128x128_S1x128x128_6_0_0, k0_pay140 k0_pay3 laneV (vlV (ldV arg2 X_arg2 k) (ldg arg10 X_arg10) (ldb arg10 X_arg10)) (dsgV (ldU arg2 X_arg2 k) (ldG arg2 X_arg2 k) (ldD arg5 X_arg5 k)) (ldR arg18 f_arg18 ![6, 0, 0] inb_S8x128x128_S1x128x128_6_0_0)⟩,
    ⟨Rect.unit ![5, 0, 0] ![1, 128, 128] inb_S8x128x128_S1x128x128_5_0_0, k0_pay137 k0_pay3 (k0_pay135 (ldR arg18 f_arg18 ![5, 0, 0] inb_S8x128x128_S1x128x128_5_0_0)) (k0_pay136 laneV (vlV (ldV arg2 X_arg2 k) (ldg arg10 X_arg10) (ldb arg10 X_arg10)) (dsgV (ldU arg2 X_arg2 k) (ldG arg2 X_arg2 k) (ldD arg5 X_arg5 k)))⟩,
    ⟨Rect.unit ![4, 0, 0] ![1, 128, 128] inb_S8x128x128_S1x128x128_4_0_0, k0_pay134 k0_pay3 laneV (vlV (ldV arg2 X_arg2 k) (ldg arg10 X_arg10) (ldb arg10 X_arg10)) (dsgV (ldU arg2 X_arg2 k) (ldG arg2 X_arg2 k) (ldD arg5 X_arg5 k)) (ldR arg18 f_arg18 ![4, 0, 0] inb_S8x128x128_S1x128x128_4_0_0)⟩,
    ⟨Rect.unit ![3, 0, 0] ![1, 128, 128] inb_S8x128x128_S1x128x128_3_0_0, k0_pay131 k0_pay3 laneV (k0_pay127 (dsgV (ldU arg2 X_arg2 k) (ldG arg2 X_arg2 k) (ldD arg5 X_arg5 k))) (k0_pay128 (vlV (ldV arg2 X_arg2 k) (ldg arg10 X_arg10) (ldb arg10 X_arg10))) (k0_pay130 (ldR arg18 f_arg18 ![3, 0, 0] inb_S8x128x128_S1x128x128_3_0_0)) 64#32⟩,
    ⟨Rect.unit ![2, 0, 0] ![1, 128, 128] inb_S8x128x128_S1x128x128_2_0_0, k0_pay129 k0_pay3 laneV (vlV (ldV arg2 X_arg2 k) (ldg arg10 X_arg10) (ldb arg10 X_arg10)) (dsgV (ldU arg2 X_arg2 k) (ldG arg2 X_arg2 k) (ldD arg5 X_arg5 k)) (ldR arg18 f_arg18 ![2, 0, 0] inb_S8x128x128_S1x128x128_2_0_0)⟩,
    ⟨Rect.unit ![1, 0, 0] ![1, 128, 128] inb_S8x128x128_S1x128x128_1_0_0, k0_pay126 k0_pay3 laneV (k0_pay122 (dsgV (ldU arg2 X_arg2 k) (ldG arg2 X_arg2 k) (ldD arg5 X_arg5 k))) (k0_pay123 (vlV (ldV arg2 X_arg2 k) (ldg arg10 X_arg10) (ldb arg10 X_arg10))) (ldR arg18 f_arg18 ![1, 0, 0] inb_S8x128x128_S1x128x128_1_0_0)⟩,
    ⟨Rect.unit ![0, 0, 0] ![1, 128, 128] inb_S8x128x128_S1x128x128_0_0_0, k0_pay125 (k0_pay124 k0_pay3 laneV (vlV (ldV arg2 X_arg2 k) (ldg arg10 X_arg10) (ldb arg10 X_arg10)) (dsgV (ldU arg2 X_arg2 k) (ldG arg2 X_arg2 k) (ldD arg5 X_arg5 k)) (ldR arg18 f_arg18 ![0, 0, 0] inb_S8x128x128_S1x128x128_0_0_0))⟩] := by
  unfold trip_k0_t4
  rfl

theorem trip19 : (trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 k).2.2.2.2.1 f_arg14 f_arg15 f_arg17 f_arg18 f_arg19 =
    [⟨Rect.unit ![0, 0] ![128, 512] inb_S128x512_S128x512_0_0, k0_pay143 (dsgV (ldU arg2 X_arg2 k) (ldG arg2 X_arg2 k) (ldD arg5 X_arg5 k)) (ldB arg19 f_arg19)⟩] := by
  unfold trip_k0_t4
  rfl
end

/-- Reading a buffer of eight slabs after the store of one. -/
theorem read_slab {sg : RefSig} {κ : Kind} {sp : Space} (v : View sg κ sp S8x128x128 .f32) (f : v.ty.Contents (Elt Ideal)) (o : Nat)
    (inb : ∀ a, (![o, 0, 0] : Fin 3 → Nat) a + (![1, 128, 128] : Fin 3 → Nat) a ≤ S8x128x128.size a)
    (w : S1x128x128.Idx → Elt Ideal .f32) (L : List (View.Piece (Elt Ideal) S8x128x128 .f32)) (h : Fin 8) (t s : Fin 128) :
    (v.read (Elt Ideal) (v.writes (Elt Ideal) f (⟨Rect.unit (s := S8x128x128) ![o, 0, 0] ![1, 128, 128] inb, w⟩ :: L)) (ix3 h t s) : EReal) =
      if h.val = o then (w (ix3 0 t s) : EReal) else v.read (Elt Ideal) (v.writes (Elt Ideal) f L) (ix3 h t s) := by
  by_cases hh : h.val = o
  · rw [if_pos hh]
    refine View.read_writes_cons_unit_of_mem v f inb w L (ix3 h t s) (ix3 0 t s) rfl ?_
    intro a
    fin_cases a
    · show h.val = o + 0; omega
    · show t.val = 0 + t.val; omega
    · show s.val = 0 + s.val; omega
  · rw [if_neg hh]
    exact View.read_writes_cons_unit_of_not_mem v f inb w L (ix3 h t s) rfl (0 : Fin 3) (by show h.val < o ∨ o + 1 ≤ h.val; omega)

theorem ld_slab (a : Memref sig .tc .vmem S8x128x128 .f32) (X : BufTy.Contents (Elt Ideal) a.view.ty) (o : Fin 8)
    (inb : ∀ i, (![o.val, 0, 0] : Fin 3 → Nat) i + (![1, 128, 128] : Fin 3 → Nat) i ≤ S8x128x128.size i) (ho : True) (t s : Fin 128) :
    (ldR a X ![o.val, 0, 0] inb (ix3 0 t s) : EReal) = a.view.read (Elt Ideal) X (ix3 o t s) := by
  refine congrArg (a.view.read (Elt Ideal) X) ?_
  funext i
  fin_cases i
  · exact Fin.ext (by show o.val + 1 * 0 = o.val; omega)
  · exact Fin.ext (by show 0 + 1 * t.val = t.val; omega)
  · exact Fin.ext (by show 0 + 1 * s.val = s.val; omega)

/-- Block `q` of tile `p`. -/
def blk (p : Fin 8) (q : Fin k0_t4_loop.trips) : Fin 32 := ⟨4 * p.val + q.val, by have := k0_t4_abs.2.1; omega⟩

/-- Position `r` of tile `p`. -/
def tpos (p : Fin 8) (r : Fin 512) : Fin 4096 := ⟨512 * p.val + r.val, by omega⟩

/-- What the windows hold at tile `p` of sequence `i`. -/
structure Tile (A : Gated) (i : Fin 2) (p : Fin 8) (x0 : Vec Ideal S1x512x3072 .f32) (x3 : Vec Ideal S1x512x1024 .f32) (x8 : Vec Ideal S8x512 .f32) : Prop where
  z : ∀ (r : Fin 512) (j : Fin 3072), (x0 (ix3 0 r j) : EReal) = A.z (ix3 i (tpos p r) j)
  dy : ∀ (r : Fin 512) (j : Fin 1024), (x3 (ix3 0 r j) : EReal) = A.dy (ix3 i (tpos p r) j)
  g : ∀ j : Fin 512, (x8 (ix2 3 j) : EReal) = A.g (ix1 j)
  b : ∀ j : Fin 512, (x8 (ix2 4 j) : EReal) = A.b (ix1 j)

section
variable (𝒱 : Variants) (c : Dev nD) (bd : Option 𝒱.V) (i : grid0.Coords) (arg2 : Memref sig .tc .vmem S1x512x3072 .f32) (harg2 : arg2.IsWhole) (arg3 : Memref sig .tc .vmem S1x32x3072 .f32) (harg3 : arg3.IsWhole) (arg4 : Memref sig .tc .vmem S1x32x3072 .f32) (harg4 : arg4.IsWhole) (arg5 : Memref sig .tc .vmem S1x512x1024 .f32) (harg5 : arg5.IsWhole) (arg6 : Memref sig .tc .vmem S1x32x1024 .f32) (harg6 : arg6.IsWhole) (arg7 : Memref sig .tc .vmem S1x512x512 .f32) (harg7 : arg7.IsWhole) (arg8 : Memref sig .tc .vmem S1x32x512 .f32) (harg8 : arg8.IsWhole) (arg9 : Memref sig .tc .vmem S32x512 .f32) (harg9 : arg9.IsWhole) (arg10 : Memref sig .tc .vmem S8x512 .f32) (harg10 : arg10.IsWhole) (arg11 : Memref sig .tc .vmem S8x128x128 .f32) (harg11 : arg11.IsWhole) (arg12 : Memref sig .tc .vmem S8x128x128 .f32) (harg12 : arg12.IsWhole) (arg13 : Memref sig .tc .vmem S128x512 .f32) (harg13 : arg13.IsWhole) (arg14 : Memref sig .tc .vmem S1x512x3072 .bf16) (harg14 : arg14.IsWhole) (arg15 : Memref sig .tc .vmem S1x3072 .f32) (harg15 : arg15.IsWhole) (arg16 : Memref sig .tc .vmem S32x512 .f32) (harg16 : arg16.IsWhole) (arg17 : Memref sig .tc .vmem S8x512 .f32) (harg17 : arg17.IsWhole) (arg18 : Memref sig .tc .vmem S8x128x128 .f32) (harg18 : arg18.IsWhole) (arg19 : Memref sig .tc .vmem S128x512 .f32) (harg19 : arg19.IsWhole) (arg20 : Memref sig .tc .vmem S584x512 .f32) (harg20 : arg20.IsWhole) (arg21 : Memref sig .tc .vmem S7x576x512 .f32) (harg21 : arg21.IsWhole) (arg22 : Memref sig .tc .vmem S544x512 .f32) (harg22 : arg22.IsWhole) (arg23 : Memref sig .tc .vmem S544x512 .f32) (harg23 : arg23.IsWhole) (arg24 : Memref sig .tc .vmem S552x512 .f32) (harg24 : arg24.IsWhole) (arg25 : Memref sig .tc .vmem S32x8x512 .f32) (harg25 : arg25.IsWhole) (X_arg2 : BufTy.Contents (Elt Ideal) arg2.view.ty) (X_arg5 : BufTy.Contents (Elt Ideal) arg5.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (k : Fin k0_t4_loop.trips) (f_arg14 : BufTy.Contents (Elt Ideal) arg14.view.ty) (f_arg15 : BufTy.Contents (Elt Ideal) arg15.view.ty) (f_arg17 : BufTy.Contents (Elt Ideal) arg17.view.ty) (f_arg18 : BufTy.Contents (Elt Ideal) arg18.view.ty) (f_arg19 : BufTy.Contents (Elt Ideal) arg19.view.ty)
variable (A : Gated) (i' : Fin 2) (p : Fin 8)

theorem reads_of (T : Tile A i' p (arg2.view.read (Elt Ideal) X_arg2) (arg5.view.read (Elt Ideal) X_arg5) (arg10.view.read (Elt Ideal) X_arg10)) :
    Reads A i' (blk p k) (ldU arg2 X_arg2 k) (ldV arg2 X_arg2 k) (ldG arg2 X_arg2 k) (ldD arg5 X_arg5 k) (ldg arg10 X_arg10) (ldb arg10 X_arg10) := by
  have hk : k.val < 4 := Nat.lt_of_lt_of_le k.isLt k0_t4_abs.2.1
  have e : ∀ r : Fin 128, tpos p ⟨128 * k.val + r.val, by omega⟩ = pos (blk p k) r := fun r =>
    Fin.ext (by show 512 * p.val + (128 * k.val + r.val) = 128 * (4 * p.val + k.val) + r.val; omega)
  refine ⟨fun r j => ?_, fun r j => ?_, fun r j => ?_, fun r j => ?_, fun j => ?_, fun j => ?_⟩
  · refine (congrArg (arg2.view.read (Elt Ideal) X_arg2) (?_ : _ = ix3 0 ⟨128 * k.val + r.val, by omega⟩ (col 3 j))).trans ((T.z _ _).trans (by rw [e]))
    funext a
    fin_cases a
    · exact Fin.ext (by show k0_off24 k 0 + 1 * 0 = 0; rw [k0_off24_eq]; rfl)
    · exact Fin.ext (by show k0_off24 k 1 + 1 * r.val = 128 * k.val + r.val; rw [k0_off24_eq]; show 128 * k.val + 1 * r.val = _; omega)
    · exact Fin.ext (by show k0_off24 k 2 + 1 * j.val = 512 * 3 + j.val; rw [k0_off24_eq]; show 1536 + 1 * j.val = _; omega)
  · refine (congrArg (arg2.view.read (Elt Ideal) X_arg2) (?_ : _ = ix3 0 ⟨128 * k.val + r.val, by omega⟩ (col 4 j))).trans ((T.z _ _).trans (by rw [e]))
    funext a
    fin_cases a
    · exact Fin.ext (by show k0_off25 k 0 + 1 * 0 = 0; rw [k0_off25_eq]; rfl)
    · exact Fin.ext (by show k0_off25 k 1 + 1 * r.val = 128 * k.val + r.val; rw [k0_off25_eq]; show 128 * k.val + 1 * r.val = _; omega)
    · exact Fin.ext (by show k0_off25 k 2 + 1 * j.val = 512 * 4 + j.val; rw [k0_off25_eq]; show 2048 + 1 * j.val = _; omega)
  · refine (congrArg (arg2.view.read (Elt Ideal) X_arg2) (?_ : _ = ix3 0 ⟨128 * k.val + r.val, by omega⟩ (col 5 j))).trans ((T.z _ _).trans (by rw [e]))
    funext a
    fin_cases a
    · exact Fin.ext (by show k0_off26 k 0 + 1 * 0 = 0; rw [k0_off26_eq]; rfl)
    · exact Fin.ext (by show k0_off26 k 1 + 1 * r.val = 128 * k.val + r.val; rw [k0_off26_eq]; show 128 * k.val + 1 * r.val = _; omega)
    · exact Fin.ext (by show k0_off26 k 2 + 1 * j.val = 512 * 5 + j.val; rw [k0_off26_eq]; show 2560 + 1 * j.val = _; omega)
  · refine (congrArg (arg5.view.read (Elt Ideal) X_arg5) (?_ : _ = ix3 0 ⟨128 * k.val + r.val, by omega⟩ (colDy j))).trans ((T.dy _ _).trans (by rw [e]))
    funext a
    fin_cases a
    · exact Fin.ext (by show k0_off27 k 0 + 1 * 0 = 0; rw [k0_off27_eq]; rfl)
    · exact Fin.ext (by show k0_off27 k 1 + 1 * r.val = 128 * k.val + r.val; rw [k0_off27_eq]; show 128 * k.val + 1 * r.val = _; omega)
    · exact Fin.ext (by show k0_off27 k 2 + 1 * j.val = 512 + j.val; rw [k0_off27_eq]; show 512 + 1 * j.val = _; omega)
  · refine (congrArg (arg10.view.read (Elt Ideal) X_arg10) (?_ : _ = ix2 3 j)).trans (T.g j)
    funext a
    fin_cases a
    · rfl
    · exact Fin.ext (by show 0 + 1 * j.val = j.val; omega)
  · refine (congrArg (arg10.view.read (Elt Ideal) X_arg10) (?_ : _ = ix2 4 j)).trans (T.b j)
    funext a
    fin_cases a
    · rfl
    · exact Fin.ext (by show 0 + 1 * j.val = j.val; omega)

/-- A trip adds its block's part to every head's slab, -/
theorem trip18_read (T : Tile A i' p (arg2.view.read (Elt Ideal) X_arg2) (arg5.view.read (Elt Ideal) X_arg5) (arg10.view.read (Elt Ideal) X_arg10)) (h : Fin 8) (t s : Fin 128) :
    (arg18.view.read (Elt Ideal) (arg18.view.writes (Elt Ideal) f_arg18 ((trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 k).2.2.2.1 f_arg14 f_arg15 f_arg17 f_arg18 f_arg19)) (ix3 h t s) : EReal) =
      arg18.view.read (Elt Ideal) f_arg18 (ix3 h t s) + A.dwsBlk i' (blk p k) h t s := by
  have H := reads_of arg2 arg5 arg10 X_arg2 X_arg5 X_arg10 k A i' p T
  rw [trip18]
  fin_cases h
  · rw [read_slab, if_neg (by decide), read_slab, if_neg (by decide), read_slab, if_neg (by decide), read_slab, if_neg (by decide), read_slab, if_neg (by decide), read_slab, if_neg (by decide), read_slab, if_neg (by decide), read_slab, if_pos rfl]; exact (w0_at H _ t s).trans (congrArg (· + A.dwsBlk i' (blk p k) 0 t s) (ld_slab _ _ 0 _ trivial t s))
  · rw [read_slab, if_neg (by decide), read_slab, if_neg (by decide), read_slab, if_neg (by decide), read_slab, if_neg (by decide), read_slab, if_neg (by decide), read_slab, if_neg (by decide), read_slab, if_pos rfl]; exact (w1_at H _ t s).trans (congrArg (· + A.dwsBlk i' (blk p k) 1 t s) (ld_slab _ _ 1 _ trivial t s))
  · rw [read_slab, if_neg (by decide), read_slab, if_neg (by decide), read_slab, if_neg (by decide), read_slab, if_neg (by decide), read_slab, if_neg (by decide), read_slab, if_pos rfl]; exact (w2_at H _ t s).trans (congrArg (· + A.dwsBlk i' (blk p k) 2 t s) (ld_slab _ _ 2 _ trivial t s))
  · rw [read_slab, if_neg (by decide), read_slab, if_neg (by decide), read_slab, if_neg (by decide), read_slab, if_neg (by decide), read_slab, if_pos rfl]; exact (w3_at H _ t s).trans (congrArg (· + A.dwsBlk i' (blk p k) 3 t s) (ld_slab _ _ 3 _ trivial t s))
  · rw [read_slab, if_neg (by decide), read_slab, if_neg (by decide), read_slab, if_neg (by decide), read_slab, if_pos rfl]; exact (w4_at H _ t s).trans (congrArg (· + A.dwsBlk i' (blk p k) 4 t s) (ld_slab _ _ 4 _ trivial t s))
  · rw [read_slab, if_neg (by decide), read_slab, if_neg (by decide), read_slab, if_pos rfl]; exact (w5_at H _ t s).trans (congrArg (· + A.dwsBlk i' (blk p k) 5 t s) (ld_slab _ _ 5 _ trivial t s))
  · rw [read_slab, if_neg (by decide), read_slab, if_pos rfl]; exact (w6_at H _ t s).trans (congrArg (· + A.dwsBlk i' (blk p k) 6 t s) (ld_slab _ _ 6 _ trivial t s))
  · rw [read_slab, if_pos rfl]; exact (w7_at H _ t s).trans (congrArg (· + A.dwsBlk i' (blk p k) 7 t s) (ld_slab _ _ 7 _ trivial t s))

end

/-- A tile's part of the gradient of the mixing matrices, and of the bias. -/
def inc18 (A : Gated) (i : Fin 2) (p : Fin 8) (y : S8x128x128.Idx) : EReal := ∑ q : Fin k0_t4_loop.trips, A.dwsBlk i (blk p q) (y 0) (y 1) (y 2)
def inc19 (A : Gated) (i : Fin 2) (p : Fin 8) (y : S128x512.Idx) : EReal := ∑ q : Fin k0_t4_loop.trips, A.dsg i (pos (blk p q) (y 0)) (y 1)

/-- One more term of a sum taken up to a bound. -/
theorem sum_step {n : Nat} (f : Fin n → EReal) (k : Fin n) :
    (∑ q : Fin n, (if q.val < k.val + 1 then f q else 0)) = (∑ q : Fin n, (if q.val < k.val then f q else 0)) + f k := by
  rw [← Finset.sum_add_sum_compl {k} (fun q : Fin n => if q.val < k.val + 1 then f q else 0),
    ← Finset.sum_add_sum_compl {k} (fun q : Fin n => if q.val < k.val then f q else 0)]
  rw [Finset.sum_singleton, Finset.sum_singleton, if_pos (Nat.lt_succ_self _), if_neg (Nat.lt_irrefl _), zero_add, add_comm]
  refine congrArg (· + f k) (Finset.sum_congr rfl fun q hq => ?_)
  have hne : q.val ≠ k.val := fun e => (Finset.mem_compl.mp hq) (Finset.mem_singleton.mpr (Fin.ext e))
  by_cases h : q.val < k.val
  · rw [if_pos h, if_pos (Nat.lt_succ_of_lt h)]
  · rw [if_neg h, if_neg (by omega)]

section
variable (𝒱 : Variants) (c : Dev nD) (bd : Option 𝒱.V) (i : grid0.Coords) (arg2 : Memref sig .tc .vmem S1x512x3072 .f32) (harg2 : arg2.IsWhole) (arg3 : Memref sig .tc .vmem S1x32x3072 .f32) (harg3 : arg3.IsWhole) (arg4 : Memref sig .tc .vmem S1x32x3072 .f32) (harg4 : arg4.IsWhole) (arg5 : Memref sig .tc .vmem S1x512x1024 .f32) (harg5 : arg5.IsWhole) (arg6 : Memref sig .tc .vmem S1x32x1024 .f32) (harg6 : arg6.IsWhole) (arg7 : Memref sig .tc .vmem S1x512x512 .f32) (harg7 : arg7.IsWhole) (arg8 : Memref sig .tc .vmem S1x32x512 .f32) (harg8 : arg8.IsWhole) (arg9 : Memref sig .tc .vmem S32x512 .f32) (harg9 : arg9.IsWhole) (arg10 : Memref sig .tc .vmem S8x512 .f32) (harg10 : arg10.IsWhole) (arg11 : Memref sig .tc .vmem S8x128x128 .f32) (harg11 : arg11.IsWhole) (arg12 : Memref sig .tc .vmem S8x128x128 .f32) (harg12 : arg12.IsWhole) (arg13 : Memref sig .tc .vmem S128x512 .f32) (harg13 : arg13.IsWhole) (arg14 : Memref sig .tc .vmem S1x512x3072 .bf16) (harg14 : arg14.IsWhole) (arg15 : Memref sig .tc .vmem S1x3072 .f32) (harg15 : arg15.IsWhole) (arg16 : Memref sig .tc .vmem S32x512 .f32) (harg16 : arg16.IsWhole) (arg17 : Memref sig .tc .vmem S8x512 .f32) (harg17 : arg17.IsWhole) (arg18 : Memref sig .tc .vmem S8x128x128 .f32) (harg18 : arg18.IsWhole) (arg19 : Memref sig .tc .vmem S128x512 .f32) (harg19 : arg19.IsWhole) (arg20 : Memref sig .tc .vmem S584x512 .f32) (harg20 : arg20.IsWhole) (arg21 : Memref sig .tc .vmem S7x576x512 .f32) (harg21 : arg21.IsWhole) (arg22 : Memref sig .tc .vmem S544x512 .f32) (harg22 : arg22.IsWhole) (arg23 : Memref sig .tc .vmem S544x512 .f32) (harg23 : arg23.IsWhole) (arg24 : Memref sig .tc .vmem S552x512 .f32) (harg24 : arg24.IsWhole) (arg25 : Memref sig .tc .vmem S32x8x512 .f32) (harg25 : arg25.IsWhole) (X_arg2 : BufTy.Contents (Elt Ideal) arg2.view.ty) (X_arg5 : BufTy.Contents (Elt Ideal) arg5.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (k : Fin k0_t4_loop.trips) (f_arg14 : BufTy.Contents (Elt Ideal) arg14.view.ty) (f_arg15 : BufTy.Contents (Elt Ideal) arg15.view.ty) (f_arg17 : BufTy.Contents (Elt Ideal) arg17.view.ty) (f_arg18 : BufTy.Contents (Elt Ideal) arg18.view.ty) (f_arg19 : BufTy.Contents (Elt Ideal) arg19.view.ty)
variable (A : Gated) (i' : Fin 2) (p : Fin 8)

/-- and to the bias gradient. -/
theorem trip19_read (T : Tile A i' p (arg2.view.read (Elt Ideal) X_arg2) (arg5.view.read (Elt Ideal) X_arg5) (arg10.view.read (Elt Ideal) X_arg10)) (t : Fin 128) (j : Fin 512) :
    (arg19.view.read (Elt Ideal) (arg19.view.writes (Elt Ideal) f_arg19 ((trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 k).2.2.2.2.1 f_arg14 f_arg15 f_arg17 f_arg18 f_arg19)) (ix2 t j) : EReal) =
      arg19.view.read (Elt Ideal) f_arg19 (ix2 t j) + A.dsg i' (pos (blk p k) t) j := by
  have H := reads_of arg2 arg5 arg10 X_arg2 X_arg5 X_arg10 k A i' p T
  rw [trip19]
  refine (View.read_writes_cons_unit_of_mem arg19.view f_arg19 inb_S128x512_S128x512_0_0 _ [] (ix2 t j) (ix2 t j) rfl ?_).trans
    ((bias_at H _ t j).trans (congrArg (· + A.dsg i' (pos (blk p k) t) j) (congrArg (arg19.view.read (Elt Ideal) f_arg19) ?_)))
  · intro a
    fin_cases a
    · show t.val = 0 + t.val; omega
    · show j.val = 0 + j.val; omega
  · funext a
    fin_cases a
    · exact Fin.ext (by show 0 + 1 * t.val = t.val; omega)
    · exact Fin.ext (by show 0 + 1 * j.val = j.val; omega)

end

section
variable (𝒱 : Variants) (c : Dev nD) (bd : Option 𝒱.V) (i : grid0.Coords) (arg2 : Memref sig .tc .vmem S1x512x3072 .f32) (harg2 : arg2.IsWhole) (arg3 : Memref sig .tc .vmem S1x32x3072 .f32) (harg3 : arg3.IsWhole) (arg4 : Memref sig .tc .vmem S1x32x3072 .f32) (harg4 : arg4.IsWhole) (arg5 : Memref sig .tc .vmem S1x512x1024 .f32) (harg5 : arg5.IsWhole) (arg6 : Memref sig .tc .vmem S1x32x1024 .f32) (harg6 : arg6.IsWhole) (arg7 : Memref sig .tc .vmem S1x512x512 .f32) (harg7 : arg7.IsWhole) (arg8 : Memref sig .tc .vmem S1x32x512 .f32) (harg8 : arg8.IsWhole) (arg9 : Memref sig .tc .vmem S32x512 .f32) (harg9 : arg9.IsWhole) (arg10 : Memref sig .tc .vmem S8x512 .f32) (harg10 : arg10.IsWhole) (arg11 : Memref sig .tc .vmem S8x128x128 .f32) (harg11 : arg11.IsWhole) (arg12 : Memref sig .tc .vmem S8x128x128 .f32) (harg12 : arg12.IsWhole) (arg13 : Memref sig .tc .vmem S128x512 .f32) (harg13 : arg13.IsWhole) (arg14 : Memref sig .tc .vmem S1x512x3072 .bf16) (harg14 : arg14.IsWhole) (arg15 : Memref sig .tc .vmem S1x3072 .f32) (harg15 : arg15.IsWhole) (arg16 : Memref sig .tc .vmem S32x512 .f32) (harg16 : arg16.IsWhole) (arg17 : Memref sig .tc .vmem S8x512 .f32) (harg17 : arg17.IsWhole) (arg18 : Memref sig .tc .vmem S8x128x128 .f32) (harg18 : arg18.IsWhole) (arg19 : Memref sig .tc .vmem S128x512 .f32) (harg19 : arg19.IsWhole) (arg20 : Memref sig .tc .vmem S584x512 .f32) (harg20 : arg20.IsWhole) (arg21 : Memref sig .tc .vmem S7x576x512 .f32) (harg21 : arg21.IsWhole) (arg22 : Memref sig .tc .vmem S544x512 .f32) (harg22 : arg22.IsWhole) (arg23 : Memref sig .tc .vmem S544x512 .f32) (harg23 : arg23.IsWhole) (arg24 : Memref sig .tc .vmem S552x512 .f32) (harg24 : arg24.IsWhole) (arg25 : Memref sig .tc .vmem S32x8x512 .f32) (harg25 : arg25.IsWhole) (X_arg2 : BufTy.Contents (Elt Ideal) arg2.view.ty) (X_arg5 : BufTy.Contents (Elt Ideal) arg5.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (G_arg14 : BufTy.Contents (Elt Ideal) arg14.view.ty) (G_arg15 : BufTy.Contents (Elt Ideal) arg15.view.ty) (G_arg17 : BufTy.Contents (Elt Ideal) arg17.view.ty) (G_arg18 : BufTy.Contents (Elt Ideal) arg18.view.ty) (G_arg19 : BufTy.Contents (Elt Ideal) arg19.view.ty)
variable (A : Gated) (i' : Fin 2) (p : Fin 8)

theorem pb18_succ (k : Fin k0_t4_loop.trips) : (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 (k.val + 1)).2.2.2.1 =
    (trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 k).2.2.2.1 (arg14.view.writes (Elt Ideal) G_arg14 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k.val).1) (arg15.view.writes (Elt Ideal) G_arg15 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k.val).2.1) (arg17.view.writes (Elt Ideal) G_arg17 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k.val).2.2.1) (arg18.view.writes (Elt Ideal) G_arg18 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k.val).2.2.2.1) (arg19.view.writes (Elt Ideal) G_arg19 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k.val).2.2.2.2) ++ (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k.val).2.2.2.1 := by
  rw [pb_k0_t4_succ]

theorem pb19_succ (k : Fin k0_t4_loop.trips) : (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 (k.val + 1)).2.2.2.2 =
    (trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 k).2.2.2.2.1 (arg14.view.writes (Elt Ideal) G_arg14 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k.val).1) (arg15.view.writes (Elt Ideal) G_arg15 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k.val).2.1) (arg17.view.writes (Elt Ideal) G_arg17 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k.val).2.2.1) (arg18.view.writes (Elt Ideal) G_arg18 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k.val).2.2.2.1) (arg19.view.writes (Elt Ideal) G_arg19 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k.val).2.2.2.2) ++ (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k.val).2.2.2.2 := by
  rw [pb_k0_t4_succ]

/-- After the loop's first `k` trips the slabs hold what they held and the first `k` blocks' parts. -/
theorem pb18_read (T : Tile A i' p (arg2.view.read (Elt Ideal) X_arg2) (arg5.view.read (Elt Ideal) X_arg5) (arg10.view.read (Elt Ideal) X_arg10)) (h : Fin 8) (t s : Fin 128) : ∀ k : Nat, k ≤ k0_t4_loop.trips →
    (arg18.view.read (Elt Ideal) (arg18.view.writes (Elt Ideal) G_arg18 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k).2.2.2.1) (ix3 h t s) : EReal) =
      arg18.view.read (Elt Ideal) G_arg18 (ix3 h t s) + ∑ q : Fin k0_t4_loop.trips, (if q.val < k then A.dwsBlk i' (blk p q) h t s else 0)
  | 0, _ => by
    rw [pb_k0_t4.eq_1]
    simp
  | k + 1, hk => by
    rw [pb18_succ (k := ⟨k, hk⟩), View.writes_append, trip18_read (A := A) (i' := i') (p := p) (T := T), pb18_read T h t s k (Nat.le_of_lt hk), add_assoc]
    refine congrArg (_ + ·) ?_
    rw [sum_step (fun q => A.dwsBlk i' (blk p q) h t s) ⟨k, hk⟩]

/-- and the bias gradient likewise. -/
theorem pb19_read (T : Tile A i' p (arg2.view.read (Elt Ideal) X_arg2) (arg5.view.read (Elt Ideal) X_arg5) (arg10.view.read (Elt Ideal) X_arg10)) (t : Fin 128) (j : Fin 512) : ∀ k : Nat, k ≤ k0_t4_loop.trips →
    (arg19.view.read (Elt Ideal) (arg19.view.writes (Elt Ideal) G_arg19 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k).2.2.2.2) (ix2 t j) : EReal) =
      arg19.view.read (Elt Ideal) G_arg19 (ix2 t j) + ∑ q : Fin k0_t4_loop.trips, (if q.val < k then A.dsg i' (pos (blk p q) t) j else 0)
  | 0, _ => by
    rw [pb_k0_t4.eq_1]
    simp
  | k + 1, hk => by
    rw [pb19_succ (k := ⟨k, hk⟩), View.writes_append, trip19_read (A := A) (i' := i') (p := p) (T := T), pb19_read T t j k (Nat.le_of_lt hk), add_assoc]
    refine congrArg (_ + ·) ?_
    rw [sum_step (fun q => A.dsg i' (pos (blk p q) t) j) ⟨k, hk⟩]

/-- After the whole loop. -/
theorem loop18_read (T : Tile A i' p (arg2.view.read (Elt Ideal) X_arg2) (arg5.view.read (Elt Ideal) X_arg5) (arg10.view.read (Elt Ideal) X_arg10)) (h : Fin 8) (t s : Fin 128) :
    (arg18.view.read (Elt Ideal) (arg18.view.writes (Elt Ideal) G_arg18 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k0_t4_loop.trips).2.2.2.1) (ix3 h t s) : EReal) =
      arg18.view.read (Elt Ideal) G_arg18 (ix3 h t s) + ∑ q : Fin k0_t4_loop.trips, A.dwsBlk i' (blk p q) h t s :=
  (pb18_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X_arg2 X_arg5 X_arg10 X_arg11 X_arg12 X_arg13 G_arg14 G_arg15 G_arg17 G_arg18 G_arg19 A i' p T h t s _ le_rfl).trans
    (congrArg (_ + ·) (Finset.sum_congr rfl fun q _ => if_pos q.isLt))

theorem loop19_read (T : Tile A i' p (arg2.view.read (Elt Ideal) X_arg2) (arg5.view.read (Elt Ideal) X_arg5) (arg10.view.read (Elt Ideal) X_arg10)) (t : Fin 128) (j : Fin 512) :
    (arg19.view.read (Elt Ideal) (arg19.view.writes (Elt Ideal) G_arg19 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k0_t4_loop.trips).2.2.2.2) (ix2 t j) : EReal) =
      arg19.view.read (Elt Ideal) G_arg19 (ix2 t j) + ∑ q : Fin k0_t4_loop.trips, A.dsg i' (pos (blk p q) t) j :=
  (pb19_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X_arg2 X_arg5 X_arg10 X_arg11 X_arg12 X_arg13 G_arg14 G_arg15 G_arg17 G_arg18 G_arg19 A i' p T t j _ le_rfl).trans
    (congrArg (_ + ·) (Finset.sum_congr rfl fun q _ => if_pos q.isLt))

theorem loop18_fn (T : Tile A i' p (arg2.view.read (Elt Ideal) X_arg2) (arg5.view.read (Elt Ideal) X_arg5) (arg10.view.read (Elt Ideal) X_arg10)) :
    arg18.view.read (Elt Ideal) (arg18.view.writes (Elt Ideal) G_arg18 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k0_t4_loop.trips).2.2.2.1) =
      fun y => (arg18.view.read (Elt Ideal) G_arg18 y : EReal) + inc18 A i' p y := by
  funext y
  idx_vars y
  exact loop18_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X_arg2 X_arg5 X_arg10 X_arg11 X_arg12 X_arg13 G_arg14 G_arg15 G_arg17 G_arg18 G_arg19 A i' p T _ _ _

theorem loop19_fn (T : Tile A i' p (arg2.view.read (Elt Ideal) X_arg2) (arg5.view.read (Elt Ideal) X_arg5) (arg10.view.read (Elt Ideal) X_arg10)) :
    arg19.view.read (Elt Ideal) (arg19.view.writes (Elt Ideal) G_arg19 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k0_t4_loop.trips).2.2.2.2) =
      fun y => (arg19.view.read (Elt Ideal) G_arg19 y : EReal) + inc19 A i' p y := by
  funext y
  idx_vars y
  exact loop19_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X_arg2 X_arg5 X_arg10 X_arg11 X_arg12 X_arg13 G_arg14 G_arg15 G_arg17 G_arg18 G_arg19 A i' p T _ _

/-- What the windows hold, read through whole buffers. -/
theorem tile_of {A : Gated} {i' : Fin 2} {p : Fin 8} {arg2 : Memref sig .tc .vmem S1x512x3072 .f32} (harg2 : arg2.IsWhole)
    {arg5 : Memref sig .tc .vmem S1x512x1024 .f32} (harg5 : arg5.IsWhole) {arg10 : Memref sig .tc .vmem S8x512 .f32} (harg10 : arg10.IsWhole)
    {x0 : Vec Ideal S1x512x3072 .f32} {x3 : Vec Ideal S1x512x1024 .f32} {x8 : Vec Ideal S8x512 .f32} (T : Tile A i' p x0 x3 x8) :
    Tile A i' p (arg2.view.read (Elt Ideal) (harg2.unread x0)) (arg5.view.read (Elt Ideal) (harg5.unread x3)) (arg10.view.read (Elt Ideal) (harg10.unread x8)) := by
  rw [harg2.read_unread, harg5.read_unread, harg10.read_unread]; exact T

/-- The accumulators cleared. -/
theorem clear18 (a : Memref sig .tc .vmem S8x128x128 .f32) (f : BufTy.Contents (Elt Ideal) a.view.ty) (y : S8x128x128.Idx) :
    (a.view.read (Elt Ideal) (a.view.writes (Elt Ideal) f [⟨Rect.unit ![0, 0, 0] ![8, 128, 128] inb_S8x128x128_S8x128x128_0_0_0, k0_pay159 (F := Ideal)⟩]) y : EReal) = 0 := by
  refine (View.read_writes_cons_unit_of_mem a.view f inb_S8x128x128_S8x128x128_0_0_0 _ [] y y rfl ?_).trans ?_
  · intro i
    fin_cases i <;> exact (Nat.zero_add _).symm
  · pointwise [k0_pay159]

theorem clear19 (a : Memref sig .tc .vmem S128x512 .f32) (f : BufTy.Contents (Elt Ideal) a.view.ty) (y : S128x512.Idx) :
    (a.view.read (Elt Ideal) (a.view.writes (Elt Ideal) f [⟨Rect.unit ![0, 0] ![128, 512] inb_S128x512_S128x512_0_0, k0_pay160 (F := Ideal)⟩]) y : EReal) = 0 := by
  refine (View.read_writes_cons_unit_of_mem a.view f inb_S128x512_S128x512_0_0 _ [] y y rfl ?_).trans ?_
  · intro i
    fin_cases i <;> exact (Nat.zero_add _).symm
  · pointwise [k0_pay160]

end
/-- Cleared contents read the same whatever they were. -/
theorem clear18_eq {a : Memref sig .tc .vmem S8x128x128 .f32} (ha : a.IsWhole) (f g : BufTy.Contents (Elt Ideal) a.view.ty) :
    a.view.writes (Elt Ideal) f [⟨Rect.unit ![0, 0, 0] ![8, 128, 128] inb_S8x128x128_S8x128x128_0_0_0, k0_pay159 (F := Ideal)⟩] = a.view.writes (Elt Ideal) g [⟨Rect.unit ![0, 0, 0] ![8, 128, 128] inb_S8x128x128_S8x128x128_0_0_0, k0_pay159 (F := Ideal)⟩] :=
  (ha.eq_unread (funext fun y => (clear18 a f y).trans (clear18 a g y).symm)).trans (ha.eq_unread rfl).symm

section
variable (𝒱 : Variants) (c : Dev nD) (bd : Option 𝒱.V) (i : grid0.Coords) (arg2 : Memref sig .tc .vmem S1x512x3072 .f32) (harg2 : arg2.IsWhole) (arg3 : Memref sig .tc .vmem S1x32x3072 .f32) (harg3 : arg3.IsWhole) (arg4 : Memref sig .tc .vmem S1x32x3072 .f32) (harg4 : arg4.IsWhole) (arg5 : Memref sig .tc .vmem S1x512x1024 .f32) (harg5 : arg5.IsWhole) (arg6 : Memref sig .tc .vmem S1x32x1024 .f32) (harg6 : arg6.IsWhole) (arg7 : Memref sig .tc .vmem S1x512x512 .f32) (harg7 : arg7.IsWhole) (arg8 : Memref sig .tc .vmem S1x32x512 .f32) (harg8 : arg8.IsWhole) (arg9 : Memref sig .tc .vmem S32x512 .f32) (harg9 : arg9.IsWhole) (arg10 : Memref sig .tc .vmem S8x512 .f32) (harg10 : arg10.IsWhole) (arg11 : Memref sig .tc .vmem S8x128x128 .f32) (harg11 : arg11.IsWhole) (arg12 : Memref sig .tc .vmem S8x128x128 .f32) (harg12 : arg12.IsWhole) (arg13 : Memref sig .tc .vmem S128x512 .f32) (harg13 : arg13.IsWhole) (arg14 : Memref sig .tc .vmem S1x512x3072 .bf16) (harg14 : arg14.IsWhole) (arg15 : Memref sig .tc .vmem S1x3072 .f32) (harg15 : arg15.IsWhole) (arg16 : Memref sig .tc .vmem S32x512 .f32) (harg16 : arg16.IsWhole) (arg17 : Memref sig .tc .vmem S8x512 .f32) (harg17 : arg17.IsWhole) (arg18 : Memref sig .tc .vmem S8x128x128 .f32) (harg18 : arg18.IsWhole) (arg19 : Memref sig .tc .vmem S128x512 .f32) (harg19 : arg19.IsWhole) (arg20 : Memref sig .tc .vmem S584x512 .f32) (harg20 : arg20.IsWhole) (arg21 : Memref sig .tc .vmem S7x576x512 .f32) (harg21 : arg21.IsWhole) (arg22 : Memref sig .tc .vmem S544x512 .f32) (harg22 : arg22.IsWhole) (arg23 : Memref sig .tc .vmem S544x512 .f32) (harg23 : arg23.IsWhole) (arg24 : Memref sig .tc .vmem S552x512 .f32) (harg24 : arg24.IsWhole) (arg25 : Memref sig .tc .vmem S32x8x512 .f32) (harg25 : arg25.IsWhole) (X_arg2 : BufTy.Contents (Elt Ideal) arg2.view.ty) (X_arg5 : BufTy.Contents (Elt Ideal) arg5.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (G_arg14 : BufTy.Contents (Elt Ideal) arg14.view.ty) (G_arg15 : BufTy.Contents (Elt Ideal) arg15.view.ty) (G_arg17 : BufTy.Contents (Elt Ideal) arg17.view.ty) (G_arg18 : BufTy.Contents (Elt Ideal) arg18.view.ty) (G_arg19 : BufTy.Contents (Elt Ideal) arg19.view.ty)
variable (A : Gated) (i' : Fin 2) (p : Fin 8)

theorem loop18_first (T : Tile A i' p (arg2.view.read (Elt Ideal) X_arg2) (arg5.view.read (Elt Ideal) X_arg5) (arg10.view.read (Elt Ideal) X_arg10)) (f g : BufTy.Contents (Elt Ideal) arg18.view.ty)
    (hG : G_arg18 = arg18.view.writes (Elt Ideal) g [⟨Rect.unit ![0, 0, 0] ![8, 128, 128] inb_S8x128x128_S8x128x128_0_0_0, k0_pay159 (F := Ideal)⟩]) :
    arg18.view.read (Elt Ideal) (arg18.view.writes (Elt Ideal) f ((pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k0_t4_loop.trips).2.2.2.1 ++ [⟨Rect.unit ![0, 0, 0] ![8, 128, 128] inb_S8x128x128_S8x128x128_0_0_0, k0_pay159 (F := Ideal)⟩])) =
      fun y => (0 : EReal) + inc18 A i' p y := by
  rw [View.writes_append, clear18_eq harg18 f g, ← hG, loop18_fn 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X_arg2 X_arg5 X_arg10 X_arg11 X_arg12 X_arg13 G_arg14 G_arg15 G_arg17 G_arg18 G_arg19 A i' p T, hG]
  exact funext fun y => congrArg (· + inc18 A i' p y) (clear18 _ _ y)
end

/-- Cleared contents read the same whatever they were. -/
theorem clear19_eq {a : Memref sig .tc .vmem S128x512 .f32} (ha : a.IsWhole) (f g : BufTy.Contents (Elt Ideal) a.view.ty) :
    a.view.writes (Elt Ideal) f [⟨Rect.unit ![0, 0] ![128, 512] inb_S128x512_S128x512_0_0, k0_pay160 (F := Ideal)⟩] = a.view.writes (Elt Ideal) g [⟨Rect.unit ![0, 0] ![128, 512] inb_S128x512_S128x512_0_0, k0_pay160 (F := Ideal)⟩] :=
  (ha.eq_unread (funext fun y => (clear19 a f y).trans (clear19 a g y).symm)).trans (ha.eq_unread rfl).symm

section
variable (𝒱 : Variants) (c : Dev nD) (bd : Option 𝒱.V) (i : grid0.Coords) (arg2 : Memref sig .tc .vmem S1x512x3072 .f32) (harg2 : arg2.IsWhole) (arg3 : Memref sig .tc .vmem S1x32x3072 .f32) (harg3 : arg3.IsWhole) (arg4 : Memref sig .tc .vmem S1x32x3072 .f32) (harg4 : arg4.IsWhole) (arg5 : Memref sig .tc .vmem S1x512x1024 .f32) (harg5 : arg5.IsWhole) (arg6 : Memref sig .tc .vmem S1x32x1024 .f32) (harg6 : arg6.IsWhole) (arg7 : Memref sig .tc .vmem S1x512x512 .f32) (harg7 : arg7.IsWhole) (arg8 : Memref sig .tc .vmem S1x32x512 .f32) (harg8 : arg8.IsWhole) (arg9 : Memref sig .tc .vmem S32x512 .f32) (harg9 : arg9.IsWhole) (arg10 : Memref sig .tc .vmem S8x512 .f32) (harg10 : arg10.IsWhole) (arg11 : Memref sig .tc .vmem S8x128x128 .f32) (harg11 : arg11.IsWhole) (arg12 : Memref sig .tc .vmem S8x128x128 .f32) (harg12 : arg12.IsWhole) (arg13 : Memref sig .tc .vmem S128x512 .f32) (harg13 : arg13.IsWhole) (arg14 : Memref sig .tc .vmem S1x512x3072 .bf16) (harg14 : arg14.IsWhole) (arg15 : Memref sig .tc .vmem S1x3072 .f32) (harg15 : arg15.IsWhole) (arg16 : Memref sig .tc .vmem S32x512 .f32) (harg16 : arg16.IsWhole) (arg17 : Memref sig .tc .vmem S8x512 .f32) (harg17 : arg17.IsWhole) (arg18 : Memref sig .tc .vmem S8x128x128 .f32) (harg18 : arg18.IsWhole) (arg19 : Memref sig .tc .vmem S128x512 .f32) (harg19 : arg19.IsWhole) (arg20 : Memref sig .tc .vmem S584x512 .f32) (harg20 : arg20.IsWhole) (arg21 : Memref sig .tc .vmem S7x576x512 .f32) (harg21 : arg21.IsWhole) (arg22 : Memref sig .tc .vmem S544x512 .f32) (harg22 : arg22.IsWhole) (arg23 : Memref sig .tc .vmem S544x512 .f32) (harg23 : arg23.IsWhole) (arg24 : Memref sig .tc .vmem S552x512 .f32) (harg24 : arg24.IsWhole) (arg25 : Memref sig .tc .vmem S32x8x512 .f32) (harg25 : arg25.IsWhole) (X_arg2 : BufTy.Contents (Elt Ideal) arg2.view.ty) (X_arg5 : BufTy.Contents (Elt Ideal) arg5.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (G_arg14 : BufTy.Contents (Elt Ideal) arg14.view.ty) (G_arg15 : BufTy.Contents (Elt Ideal) arg15.view.ty) (G_arg17 : BufTy.Contents (Elt Ideal) arg17.view.ty) (G_arg18 : BufTy.Contents (Elt Ideal) arg18.view.ty) (G_arg19 : BufTy.Contents (Elt Ideal) arg19.view.ty)
variable (A : Gated) (i' : Fin 2) (p : Fin 8)

theorem loop19_first (T : Tile A i' p (arg2.view.read (Elt Ideal) X_arg2) (arg5.view.read (Elt Ideal) X_arg5) (arg10.view.read (Elt Ideal) X_arg10)) (f g : BufTy.Contents (Elt Ideal) arg19.view.ty)
    (hG : G_arg19 = arg19.view.writes (Elt Ideal) g [⟨Rect.unit ![0, 0] ![128, 512] inb_S128x512_S128x512_0_0, k0_pay160 (F := Ideal)⟩]) :
    arg19.view.read (Elt Ideal) (arg19.view.writes (Elt Ideal) f ((pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k0_t4_loop.trips).2.2.2.2 ++ [⟨Rect.unit ![0, 0] ![128, 512] inb_S128x512_S128x512_0_0, k0_pay160 (F := Ideal)⟩])) =
      fun y => (0 : EReal) + inc19 A i' p y := by
  rw [View.writes_append, clear19_eq harg19 f g, ← hG, loop19_fn 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X_arg2 X_arg5 X_arg10 X_arg11 X_arg12 X_arg13 G_arg14 G_arg15 G_arg17 G_arg18 G_arg19 A i' p T, hG]
  exact funext fun y => congrArg (· + inc19 A i' p y) (clear19 _ _ y)
end

end Cert.EvenBwdIdeal.Pay
-- ==== Proof.EvenMix.lean ====
module
public import proofs.«01_k».proof.Proof.EvenPay

@[expose] public section

/-!
The gradients of the layer norm of the gated branch's value row: the cotangent of the normed lanes is the cotangent of
the mixed lanes, mixed by the transposed lower triangular matrices of the heads.
-/

set_option maxRecDepth 16384
noncomputable section
open Idealize.ShloMosaic

namespace Cert.Rows

/-- The head of lane `j`. -/
def head (j : Fin 512) : Fin 8 := ⟨j.val / 64, by omega⟩

/-- The mixing matrices. -/
abbrev Mixing : Type := Fin 8 → Fin 128 → Fin 128 → EReal

namespace Gated
variable (a : Gated) (w : Mixing)

/-- The cotangent of the normed lanes. -/
def dvl (i : Fin 2) (n : Fin 32) (s : Fin 128) (j : Fin 512) : EReal :=
  ∑ t : Fin 128, if s ≤ t then w (head j) t s * a.dsg i (pos n t) j else 0

/-- One block's part of the gradient of the layer norm's scale, -/
def dgBlk (i : Fin 2) (n : Fin 32) (j : Fin 512) : EReal := ∑ s : Fin 128, a.dvl w i n s j * Rows.xh lanes eps (a.va i (pos n s)) j

/-- and of its shift. -/
def dbBlk (i : Fin 2) (n : Fin 32) (j : Fin 512) : EReal := ∑ s : Fin 128, a.dvl w i n s j

/-- The gradient of the layer norm's scale, -/
def dg (j : Fin 512) : EReal := ∑ i : Fin 2, ∑ n : Fin 32, a.dgBlk w i n j

/-- and of its shift. -/
def db (j : Fin 512) : EReal := ∑ i : Fin 2, ∑ n : Fin 32, a.dbBlk w i n j

end Gated
end Cert.Rows

namespace Cert.EvenBwdIdeal.Pay
open Cert.EvenBwdIdeal Cert.EvenBwdIdeal.Gen Idealize.ShloMosaic.TcCoe Idealize.SL.Sem Cert.Rows

theorem tri' (s t : Fin 128) (x : EReal) :
    Scalar.select (IntOp.cmpi .sge (BitVec.ofNat 32 t.val) (BitVec.ofNat 32 s.val)) x 0 = if s ≤ t then x else 0 := tri t s x

theorem lo_sel (x : Fin 128) (a b : EReal) :
    Scalar.select (IntOp.cmpi .slt (BitVec.ofNat 32 x.val) 64#32) a b = if x.val < 64 then a else b := by
  rw [lo_bit]; split <;> rfl

variable {A : Gated} {w : Mixing} {i : Fin 2} {n : Fin 32}
  {xu xv xg xd : Vec Ideal S1x128x512 .f32} {g b : Vec Ideal S1x512 .f32} {w0 w1 w2 w3 w4 w5 w6 w7 : Vec Ideal S1x128x128 .f32}

/-- A slab of the transposed mixing matrices. -/
def Slab (w : Mixing) (h : Fin 8) (x : Vec Ideal S1x128x128 .f32) : Prop := ∀ s t : Fin 128, (x (ix3 0 s t) : EReal) = w h t s

/-- The cotangent of the normed lanes, as the trip computes it. -/
abbrev dvV (xu xg xd : Vec Ideal S1x128x512 .f32) (w0 w1 w2 w3 w4 w5 w6 w7 : Vec Ideal S1x128x128 .f32) : FVec Ideal S128x512 .f32 :=
  k0_pay121 k0_pay4 (k0_pay113 (k0_pay82 xu) (k0_pay93 xg) xd) laneV
    (k0_pay116 k0_pay4 laneV (k0_pay114 (k0_pay82 xu) (k0_pay93 xg) xd) (k0_pay115 k0_pay4 (k0_pay82 xu) (k0_pay93 xg) xd w0) w1)
    (k0_pay117 k0_pay4 (k0_pay113 (k0_pay82 xu) (k0_pay93 xg) xd) laneV w2 w3)
    (k0_pay118 (k0_pay113 (k0_pay82 xu) (k0_pay93 xg) xd)) (k0_pay119 k0_pay4 (k0_pay113 (k0_pay82 xu) (k0_pay93 xg) xd) w4)
    (k0_pay120 k0_pay4 w5) w6 w7

/-- One pair of heads' lanes. -/
theorem pair_at (A : Gated) (i : Fin 2) (n : Fin 32) (p : ℕ) (q r : Fin 8) (hq : q.val = 2 * p) (hr : r.val = 2 * p + 1) (a b : Vec Ideal S1x128x128 .f32) (ha : Slab w q a) (hb : Slab w r b)
    (s : Fin 128) (j jj : Fin 512) (x : ℕ) (hx : x < 128) (hj : j.val = 128 * p + x) (hjj : jj = j) :
    Scalar.select (IntOp.cmpi .slt (BitVec.ofNat 32 x) 64#32)
      (∑ t : Fin 128, Scalar.select (IntOp.cmpi .sge (BitVec.ofNat 32 t.val) (BitVec.ofNat 32 s.val)) (a (ix3 0 s t) * A.dsg i (pos n t) jj : EReal) 0)
      (∑ t : Fin 128, Scalar.select (IntOp.cmpi .sge (BitVec.ofNat 32 t.val) (BitVec.ofNat 32 s.val)) (b (ix3 0 s t) * A.dsg i (pos n t) jj : EReal) 0) =
    A.dvl w i n s j := by
  subst hjj
  refine (lo_sel ⟨x, hx⟩ _ _).trans ?_
  simp only [tri']
  unfold Gated.dvl
  split
  · rename_i h
    have e : head jj = q := Fin.ext (by show jj.val / 64 = q.val; omega)
    rw [e]
    exact Finset.sum_congr rfl fun t _ => by rw [ha s t]
  · rename_i h
    have e : head jj = r := Fin.ext (by show jj.val / 64 = r.val; omega)
    rw [e]
    exact Finset.sum_congr rfl fun t _ => by rw [hb s t]

variable (H : Reads A i n xu xv xg xd g b)
  (h0 : Slab w 0 w0) (h1 : Slab w 1 w1) (h2 : Slab w 2 w2) (h3 : Slab w 3 w3) (h4 : Slab w 4 w4) (h5 : Slab w 5 w5) (h6 : Slab w 6 w6) (h7 : Slab w 7 w7)
include H

theorem dsg16_at (r : Fin 128) (j : Fin 512) : (k0_pay113 (k0_pay82 xu) (k0_pay93 xg) xd (ix2 r j) : EReal) = A.dsg i (pos n r) j := by
  have e := dsg_at H r j
  pointwise [k0_pay113]
  exact e

include h0 h1 h2 h3 h4 h5 h6 h7
theorem dv_at (s : Fin 128) (j : Fin 512) : (dvV xu xg xd w0 w1 w2 w3 w4 w5 w6 w7 (ix2 s j) : EReal) = A.dvl w i n s j := by
  pointwise [dvV, k0_pay121, k0_pay116, k0_pay117, k0_pay114, k0_pay115, k0_pay118, k0_pay119, k0_pay120, k0_pay4, laneV, dsg16_at H]
  by_cases c0 : j.val < 128
  · rw [dif_pos c0]
    exact pair_at A i n 0 0 1 rfl rfl w0 w1 h0 h1 s j j j.val c0 (by omega) rfl
  rw [dif_neg c0]
  by_cases c1 : j.val - 128 < 128
  · rw [dif_pos c1]
    exact pair_at A i n 1 2 3 rfl rfl w2 w3 h2 h3 s j ⟨128 + (j.val - 128), by omega⟩ (j.val - 128) c1 (by omega) (Fin.ext (by dsimp only; omega))
  rw [dif_neg c1]
  by_cases c2 : j.val - 128 - 128 < 128
  · rw [dif_pos c2]
    exact pair_at A i n 2 4 5 rfl rfl w4 w5 h4 h5 s j ⟨256 + (j.val - 128 - 128), by omega⟩ (j.val - 128 - 128) c2 (by omega) (Fin.ext (by dsimp only; omega))
  · rw [dif_neg c2]
    exact pair_at A i n 3 6 7 rfl rfl w6 w7 h6 h7 s j ⟨384 + (j.val - 128 - 128 - 128), by omega⟩ (j.val - 128 - 128 - 128) (by omega) (by omega) (Fin.ext (by dsimp only; omega))

theorem dg_at (X : Vec Ideal S1x512 .f32) (j : Fin 512) :
    (k0_pay144 (k0_pay99 (vaV xv)) (dvV xu xg xd w0 w1 w2 w3 w4 w5 w6 w7) X (ix2 0 j) : EReal) = X (ix2 0 j) + A.dgBlk w i n j := by
  pointwise [k0_pay144, dv_at H h0 h1 h2 h3 h4 h5 h6 h7, xh_at H]
  rfl

theorem db_at (X : Vec Ideal S1x512 .f32) (j : Fin 512) :
    (k0_pay145 (dvV xu xg xd w0 w1 w2 w3 w4 w5 w6 w7) X (ix2 0 j) : EReal) = X (ix2 0 j) + A.dbBlk w i n j := by
  pointwise [k0_pay145, dv_at H h0 h1 h2 h3 h4 h5 h6 h7]
  rfl

end Cert.EvenBwdIdeal.Pay
-- ==== Proof.EvenMixTrip.lean ====
module
public import proofs.«01_k».proof.Proof.EvenTrip
public import proofs.«01_k».proof.Proof.EvenMix

@[expose] public section

/-!
Rows 3 and 4 of the packed gradients: the loop over blocks of 128 positions adds a block's part to each, the loop of the
convolution's layer norm leaves both.
-/

set_option maxRecDepth 16384
noncomputable section
namespace Cert.EvenBwdIdeal.Pay
open Cert.EvenBwdIdeal Cert.EvenBwdIdeal.Gen Idealize.ShloMosaic Idealize.ShloMosaic.TcCoe Idealize.SL.Sem Cert.Rows

/-- A row of the packed gradients, as a trip finds it. -/
abbrev ldRow (a : Memref sig .tc .vmem S8x512 .f32) (X : BufTy.Contents (Elt Ideal) a.view.ty) (o : Fin 2 → ℕ)
    (h : ∀ i, o i + (![1, 512] : Fin 2 → ℕ) i ≤ S8x512.size i) : Vec Ideal S1x512 .f32 :=
  View.readAt (Elt Ideal) a.view (Rect.unit (s := S8x512) o ![1, 512] h).toLoadRect X

/-- The window of the transposed mixing matrices. -/
def Mixed (w : Mixing) (x : Vec Ideal S8x128x128 .f32) : Prop := ∀ (h : Fin 8) (s t : Fin 128), (x (ix3 h s t) : EReal) = w h t s

theorem slab_of (a : Memref sig .tc .vmem S8x128x128 .f32) (X : BufTy.Contents (Elt Ideal) a.view.ty) (w : Mixing) (hw : Mixed w (a.view.read (Elt Ideal) X))
    (o : Fin 8) (inb : ∀ i, (![o.val, 0, 0] : Fin 3 → Nat) i + (![1, 128, 128] : Fin 3 → Nat) i ≤ S8x128x128.size i) : Slab w o (ldR a X ![o.val, 0, 0] inb) :=
  fun s t => (ld_slab a X o inb trivial s t).trans (hw o s t)

theorem ld_row (a : Memref sig .tc .vmem S8x512 .f32) (X : BufTy.Contents (Elt Ideal) a.view.ty) (o : Fin 8)
    (inb : ∀ i, (![o.val, 0] : Fin 2 → Nat) i + (![1, 512] : Fin 2 → Nat) i ≤ S8x512.size i) (j : Fin 512) :
    (ldRow a X ![o.val, 0] inb (ix2 0 j) : EReal) = a.view.read (Elt Ideal) X (ix2 o j) := by
  refine congrArg (a.view.read (Elt Ideal) X) ?_
  funext i
  fin_cases i
  · exact Fin.ext (by show o.val + 1 * 0 = o.val; omega)
  · exact Fin.ext (by show 0 + 1 * j.val = j.val; omega)

/-- Reading a buffer of eight rows after the store of one. -/
theorem read_row {sg : RefSig} {κ : Kind} {sp : Space} (v : View sg κ sp S8x512 .f32) (f : v.ty.Contents (Elt Ideal)) (o : Nat)
    (inb : ∀ a, (![o, 0] : Fin 2 → Nat) a + (![1, 512] : Fin 2 → Nat) a ≤ S8x512.size a)
    (x : S1x512.Idx → Elt Ideal .f32) (L : List (View.Piece (Elt Ideal) S8x512 .f32)) (h : Fin 8) (j : Fin 512) :
    (v.read (Elt Ideal) (v.writes (Elt Ideal) f (⟨Rect.unit (s := S8x512) ![o, 0] ![1, 512] inb, x⟩ :: L)) (ix2 h j) : EReal) =
      if h.val = o then (x (ix2 0 j) : EReal) else v.read (Elt Ideal) (v.writes (Elt Ideal) f L) (ix2 h j) := by
  by_cases hh : h.val = o
  · rw [if_pos hh]
    refine View.read_writes_cons_unit_of_mem v f inb x L (ix2 h j) (ix2 0 j) rfl ?_
    intro a
    fin_cases a
    · show h.val = o + 0; omega
    · show j.val = 0 + j.val; omega
  · rw [if_neg hh]
    exact View.read_writes_cons_unit_of_not_mem v f inb x L (ix2 h j) rfl (0 : Fin 2) (by show h.val < o ∨ o + 1 ≤ h.val; omega)

section
variable (𝒱 : Variants) (c : Dev nD) (bd : Option 𝒱.V) (i : grid0.Coords) (arg2 : Memref sig .tc .vmem S1x512x3072 .f32) (harg2 : arg2.IsWhole) (arg3 : Memref sig .tc .vmem S1x32x3072 .f32) (harg3 : arg3.IsWhole) (arg4 : Memref sig .tc .vmem S1x32x3072 .f32) (harg4 : arg4.IsWhole) (arg5 : Memref sig .tc .vmem S1x512x1024 .f32) (harg5 : arg5.IsWhole) (arg6 : Memref sig .tc .vmem S1x32x1024 .f32) (harg6 : arg6.IsWhole) (arg7 : Memref sig .tc .vmem S1x512x512 .f32) (harg7 : arg7.IsWhole) (arg8 : Memref sig .tc .vmem S1x32x512 .f32) (harg8 : arg8.IsWhole) (arg9 : Memref sig .tc .vmem S32x512 .f32) (harg9 : arg9.IsWhole) (arg10 : Memref sig .tc .vmem S8x512 .f32) (harg10 : arg10.IsWhole) (arg11 : Memref sig .tc .vmem S8x128x128 .f32) (harg11 : arg11.IsWhole) (arg12 : Memref sig .tc .vmem S8x128x128 .f32) (harg12 : arg12.IsWhole) (arg13 : Memref sig .tc .vmem S128x512 .f32) (harg13 : arg13.IsWhole) (arg14 : Memref sig .tc .vmem S1x512x3072 .bf16) (harg14 : arg14.IsWhole) (arg15 : Memref sig .tc .vmem S1x3072 .f32) (harg15 : arg15.IsWhole) (arg16 : Memref sig .tc .vmem S32x512 .f32) (harg16 : arg16.IsWhole) (arg17 : Memref sig .tc .vmem S8x512 .f32) (harg17 : arg17.IsWhole) (arg18 : Memref sig .tc .vmem S8x128x128 .f32) (harg18 : arg18.IsWhole) (arg19 : Memref sig .tc .vmem S128x512 .f32) (harg19 : arg19.IsWhole) (arg20 : Memref sig .tc .vmem S584x512 .f32) (harg20 : arg20.IsWhole) (arg21 : Memref sig .tc .vmem S7x576x512 .f32) (harg21 : arg21.IsWhole) (arg22 : Memref sig .tc .vmem S544x512 .f32) (harg22 : arg22.IsWhole) (arg23 : Memref sig .tc .vmem S544x512 .f32) (harg23 : arg23.IsWhole) (arg24 : Memref sig .tc .vmem S552x512 .f32) (harg24 : arg24.IsWhole) (arg25 : Memref sig .tc .vmem S32x8x512 .f32) (harg25 : arg25.IsWhole) (X_arg2 : BufTy.Contents (Elt Ideal) arg2.view.ty) (X_arg5 : BufTy.Contents (Elt Ideal) arg5.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (k : Fin k0_t4_loop.trips) (f_arg14 : BufTy.Contents (Elt Ideal) arg14.view.ty) (f_arg15 : BufTy.Contents (Elt Ideal) arg15.view.ty) (f_arg17 : BufTy.Contents (Elt Ideal) arg17.view.ty) (f_arg18 : BufTy.Contents (Elt Ideal) arg18.view.ty) (f_arg19 : BufTy.Contents (Elt Ideal) arg19.view.ty)

theorem trip17 : (trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 k).2.2.1 f_arg14 f_arg15 f_arg17 f_arg18 f_arg19 =
    [⟨Rect.unit ![4, 0] ![1, 512] inb_S8x512_S1x512_4_0, k0_pay145 (dvV (ldU arg2 X_arg2 k) (ldG arg2 X_arg2 k) (ldD arg5 X_arg5 k) (ldR arg12 X_arg12 ![0, 0, 0] inb_S8x128x128_S1x128x128_0_0_0) (ldR arg12 X_arg12 ![1, 0, 0] inb_S8x128x128_S1x128x128_1_0_0) (ldR arg12 X_arg12 ![2, 0, 0] inb_S8x128x128_S1x128x128_2_0_0) (ldR arg12 X_arg12 ![3, 0, 0] inb_S8x128x128_S1x128x128_3_0_0) (ldR arg12 X_arg12 ![4, 0, 0] inb_S8x128x128_S1x128x128_4_0_0) (ldR arg12 X_arg12 ![5, 0, 0] inb_S8x128x128_S1x128x128_5_0_0) (ldR arg12 X_arg12 ![6, 0, 0] inb_S8x128x128_S1x128x128_6_0_0) (ldR arg12 X_arg12 ![7, 0, 0] inb_S8x128x128_S1x128x128_7_0_0)) (ldRow arg17 f_arg17 ![4, 0] inb_S8x512_S1x512_4_0)⟩,
    ⟨Rect.unit ![3, 0] ![1, 512] inb_S8x512_S1x512_3_0, k0_pay144 (k0_pay99 (vaV (ldV arg2 X_arg2 k))) (dvV (ldU arg2 X_arg2 k) (ldG arg2 X_arg2 k) (ldD arg5 X_arg5 k) (ldR arg12 X_arg12 ![0, 0, 0] inb_S8x128x128_S1x128x128_0_0_0) (ldR arg12 X_arg12 ![1, 0, 0] inb_S8x128x128_S1x128x128_1_0_0) (ldR arg12 X_arg12 ![2, 0, 0] inb_S8x128x128_S1x128x128_2_0_0) (ldR arg12 X_arg12 ![3, 0, 0] inb_S8x128x128_S1x128x128_3_0_0) (ldR arg12 X_arg12 ![4, 0, 0] inb_S8x128x128_S1x128x128_4_0_0) (ldR arg12 X_arg12 ![5, 0, 0] inb_S8x128x128_S1x128x128_5_0_0) (ldR arg12 X_arg12 ![6, 0, 0] inb_S8x128x128_S1x128x128_6_0_0) (ldR arg12 X_arg12 ![7, 0, 0] inb_S8x128x128_S1x128x128_7_0_0)) (ldRow arg17 f_arg17 ![3, 0] inb_S8x512_S1x512_3_0)⟩] := by
  unfold trip_k0_t4
  rfl

variable (A : Gated) (w : Mixing) (i' : Fin 2) (p : Fin 8)

/-- A trip adds its block's part to both rows. -/
theorem trip17_g (T : Tile A i' p (arg2.view.read (Elt Ideal) X_arg2) (arg5.view.read (Elt Ideal) X_arg5) (arg10.view.read (Elt Ideal) X_arg10)) (hw : Mixed w (arg12.view.read (Elt Ideal) X_arg12)) (j : Fin 512) :
    (arg17.view.read (Elt Ideal) (arg17.view.writes (Elt Ideal) f_arg17 ((trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 k).2.2.1 f_arg14 f_arg15 f_arg17 f_arg18 f_arg19)) (ix2 3 j) : EReal) =
      arg17.view.read (Elt Ideal) f_arg17 (ix2 3 j) + A.dgBlk w i' (blk p k) j := by
  have H := reads_of arg2 arg5 arg10 X_arg2 X_arg5 X_arg10 k A i' p T
  rw [trip17, read_row, if_neg (by decide), read_row, if_pos (by decide)]
  exact (dg_at H (slab_of arg12 X_arg12 w hw 0 inb_S8x128x128_S1x128x128_0_0_0) (slab_of arg12 X_arg12 w hw 1 inb_S8x128x128_S1x128x128_1_0_0) (slab_of arg12 X_arg12 w hw 2 inb_S8x128x128_S1x128x128_2_0_0) (slab_of arg12 X_arg12 w hw 3 inb_S8x128x128_S1x128x128_3_0_0) (slab_of arg12 X_arg12 w hw 4 inb_S8x128x128_S1x128x128_4_0_0) (slab_of arg12 X_arg12 w hw 5 inb_S8x128x128_S1x128x128_5_0_0) (slab_of arg12 X_arg12 w hw 6 inb_S8x128x128_S1x128x128_6_0_0) (slab_of arg12 X_arg12 w hw 7 inb_S8x128x128_S1x128x128_7_0_0) _ j).trans (congrArg (· + A.dgBlk w i' (blk p k) j) (ld_row arg17 f_arg17 3 inb_S8x512_S1x512_3_0 j))

theorem trip17_b (T : Tile A i' p (arg2.view.read (Elt Ideal) X_arg2) (arg5.view.read (Elt Ideal) X_arg5) (arg10.view.read (Elt Ideal) X_arg10)) (hw : Mixed w (arg12.view.read (Elt Ideal) X_arg12)) (j : Fin 512) :
    (arg17.view.read (Elt Ideal) (arg17.view.writes (Elt Ideal) f_arg17 ((trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 k).2.2.1 f_arg14 f_arg15 f_arg17 f_arg18 f_arg19)) (ix2 4 j) : EReal) =
      arg17.view.read (Elt Ideal) f_arg17 (ix2 4 j) + A.dbBlk w i' (blk p k) j := by
  have H := reads_of arg2 arg5 arg10 X_arg2 X_arg5 X_arg10 k A i' p T
  rw [trip17, read_row, if_pos (by decide)]
  exact (db_at H (slab_of arg12 X_arg12 w hw 0 inb_S8x128x128_S1x128x128_0_0_0) (slab_of arg12 X_arg12 w hw 1 inb_S8x128x128_S1x128x128_1_0_0) (slab_of arg12 X_arg12 w hw 2 inb_S8x128x128_S1x128x128_2_0_0) (slab_of arg12 X_arg12 w hw 3 inb_S8x128x128_S1x128x128_3_0_0) (slab_of arg12 X_arg12 w hw 4 inb_S8x128x128_S1x128x128_4_0_0) (slab_of arg12 X_arg12 w hw 5 inb_S8x128x128_S1x128x128_5_0_0) (slab_of arg12 X_arg12 w hw 6 inb_S8x128x128_S1x128x128_6_0_0) (slab_of arg12 X_arg12 w hw 7 inb_S8x128x128_S1x128x128_7_0_0) _ j).trans (congrArg (· + A.dbBlk w i' (blk p k) j) (ld_row arg17 f_arg17 4 inb_S8x512_S1x512_4_0 j))
end

section
variable (𝒱 : Variants) (c : Dev nD) (bd : Option 𝒱.V) (i : grid0.Coords) (arg2 : Memref sig .tc .vmem S1x512x3072 .f32) (harg2 : arg2.IsWhole) (arg3 : Memref sig .tc .vmem S1x32x3072 .f32) (harg3 : arg3.IsWhole) (arg4 : Memref sig .tc .vmem S1x32x3072 .f32) (harg4 : arg4.IsWhole) (arg5 : Memref sig .tc .vmem S1x512x1024 .f32) (harg5 : arg5.IsWhole) (arg6 : Memref sig .tc .vmem S1x32x1024 .f32) (harg6 : arg6.IsWhole) (arg7 : Memref sig .tc .vmem S1x512x512 .f32) (harg7 : arg7.IsWhole) (arg8 : Memref sig .tc .vmem S1x32x512 .f32) (harg8 : arg8.IsWhole) (arg9 : Memref sig .tc .vmem S32x512 .f32) (harg9 : arg9.IsWhole) (arg10 : Memref sig .tc .vmem S8x512 .f32) (harg10 : arg10.IsWhole) (arg11 : Memref sig .tc .vmem S8x128x128 .f32) (harg11 : arg11.IsWhole) (arg12 : Memref sig .tc .vmem S8x128x128 .f32) (harg12 : arg12.IsWhole) (arg13 : Memref sig .tc .vmem S128x512 .f32) (harg13 : arg13.IsWhole) (arg14 : Memref sig .tc .vmem S1x512x3072 .bf16) (harg14 : arg14.IsWhole) (arg15 : Memref sig .tc .vmem S1x3072 .f32) (harg15 : arg15.IsWhole) (arg16 : Memref sig .tc .vmem S32x512 .f32) (harg16 : arg16.IsWhole) (arg17 : Memref sig .tc .vmem S8x512 .f32) (harg17 : arg17.IsWhole) (arg18 : Memref sig .tc .vmem S8x128x128 .f32) (harg18 : arg18.IsWhole) (arg19 : Memref sig .tc .vmem S128x512 .f32) (harg19 : arg19.IsWhole) (arg20 : Memref sig .tc .vmem S584x512 .f32) (harg20 : arg20.IsWhole) (arg21 : Memref sig .tc .vmem S7x576x512 .f32) (harg21 : arg21.IsWhole) (arg22 : Memref sig .tc .vmem S544x512 .f32) (harg22 : arg22.IsWhole) (arg23 : Memref sig .tc .vmem S544x512 .f32) (harg23 : arg23.IsWhole) (arg24 : Memref sig .tc .vmem S552x512 .f32) (harg24 : arg24.IsWhole) (arg25 : Memref sig .tc .vmem S32x8x512 .f32) (harg25 : arg25.IsWhole) (X_arg2 : BufTy.Contents (Elt Ideal) arg2.view.ty) (X_arg5 : BufTy.Contents (Elt Ideal) arg5.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (G_arg14 : BufTy.Contents (Elt Ideal) arg14.view.ty) (G_arg15 : BufTy.Contents (Elt Ideal) arg15.view.ty) (G_arg17 : BufTy.Contents (Elt Ideal) arg17.view.ty) (G_arg18 : BufTy.Contents (Elt Ideal) arg18.view.ty) (G_arg19 : BufTy.Contents (Elt Ideal) arg19.view.ty)
variable (A : Gated) (w : Mixing) (i' : Fin 2) (p : Fin 8)

theorem pb17_succ (k : Fin k0_t4_loop.trips) : (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 (k.val + 1)).2.2.1 =
    (trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 k).2.2.1 (arg14.view.writes (Elt Ideal) G_arg14 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k.val).1) (arg15.view.writes (Elt Ideal) G_arg15 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k.val).2.1) (arg17.view.writes (Elt Ideal) G_arg17 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k.val).2.2.1) (arg18.view.writes (Elt Ideal) G_arg18 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k.val).2.2.2.1) (arg19.view.writes (Elt Ideal) G_arg19 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k.val).2.2.2.2) ++ (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k.val).2.2.1 := by
  rw [pb_k0_t4_succ]

theorem pb17_g (T : Tile A i' p (arg2.view.read (Elt Ideal) X_arg2) (arg5.view.read (Elt Ideal) X_arg5) (arg10.view.read (Elt Ideal) X_arg10)) (hw : Mixed w (arg12.view.read (Elt Ideal) X_arg12)) (j : Fin 512) : ∀ k : Nat, k ≤ k0_t4_loop.trips →
    (arg17.view.read (Elt Ideal) (arg17.view.writes (Elt Ideal) G_arg17 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k).2.2.1) (ix2 3 j) : EReal) =
      arg17.view.read (Elt Ideal) G_arg17 (ix2 3 j) + ∑ q : Fin k0_t4_loop.trips, (if q.val < k then A.dgBlk w i' (blk p q) j else 0)
  | 0, _ => by
    rw [pb_k0_t4.eq_1]
    simp
  | k + 1, hk => by
    rw [pb17_succ (k := ⟨k, hk⟩), View.writes_append, trip17_g (A := A) (w := w) (i' := i') (p := p) (T := T) (hw := hw), pb17_g T hw j k (Nat.le_of_lt hk), add_assoc]
    refine congrArg (_ + ·) ?_
    rw [sum_step (fun q => A.dgBlk w i' (blk p q) j) ⟨k, hk⟩]

/-- After the whole loop. -/
theorem loop17_g (T : Tile A i' p (arg2.view.read (Elt Ideal) X_arg2) (arg5.view.read (Elt Ideal) X_arg5) (arg10.view.read (Elt Ideal) X_arg10)) (hw : Mixed w (arg12.view.read (Elt Ideal) X_arg12)) (j : Fin 512) :
    (arg17.view.read (Elt Ideal) (arg17.view.writes (Elt Ideal) G_arg17 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k0_t4_loop.trips).2.2.1) (ix2 3 j) : EReal) =
      arg17.view.read (Elt Ideal) G_arg17 (ix2 3 j) + ∑ q : Fin k0_t4_loop.trips, A.dgBlk w i' (blk p q) j :=
  (pb17_g 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X_arg2 X_arg5 X_arg10 X_arg11 X_arg12 X_arg13 G_arg14 G_arg15 G_arg17 G_arg18 G_arg19 A w i' p T hw j _ le_rfl).trans
    (congrArg (_ + ·) (Finset.sum_congr rfl fun q _ => if_pos q.isLt))

theorem pb17_b (T : Tile A i' p (arg2.view.read (Elt Ideal) X_arg2) (arg5.view.read (Elt Ideal) X_arg5) (arg10.view.read (Elt Ideal) X_arg10)) (hw : Mixed w (arg12.view.read (Elt Ideal) X_arg12)) (j : Fin 512) : ∀ k : Nat, k ≤ k0_t4_loop.trips →
    (arg17.view.read (Elt Ideal) (arg17.view.writes (Elt Ideal) G_arg17 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k).2.2.1) (ix2 4 j) : EReal) =
      arg17.view.read (Elt Ideal) G_arg17 (ix2 4 j) + ∑ q : Fin k0_t4_loop.trips, (if q.val < k then A.dbBlk w i' (blk p q) j else 0)
  | 0, _ => by
    rw [pb_k0_t4.eq_1]
    simp
  | k + 1, hk => by
    rw [pb17_succ (k := ⟨k, hk⟩), View.writes_append, trip17_b (A := A) (w := w) (i' := i') (p := p) (T := T) (hw := hw), pb17_b T hw j k (Nat.le_of_lt hk), add_assoc]
    refine congrArg (_ + ·) ?_
    rw [sum_step (fun q => A.dbBlk w i' (blk p q) j) ⟨k, hk⟩]

/-- After the whole loop. -/
theorem loop17_b (T : Tile A i' p (arg2.view.read (Elt Ideal) X_arg2) (arg5.view.read (Elt Ideal) X_arg5) (arg10.view.read (Elt Ideal) X_arg10)) (hw : Mixed w (arg12.view.read (Elt Ideal) X_arg12)) (j : Fin 512) :
    (arg17.view.read (Elt Ideal) (arg17.view.writes (Elt Ideal) G_arg17 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 laneV X_arg2 X_arg5 X_arg10 X_arg11 X_arg12 X_arg13 G_arg14 G_arg15 G_arg17 G_arg18 G_arg19 k0_t4_loop.trips).2.2.1) (ix2 4 j) : EReal) =
      arg17.view.read (Elt Ideal) G_arg17 (ix2 4 j) + ∑ q : Fin k0_t4_loop.trips, A.dbBlk w i' (blk p q) j :=
  (pb17_b 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X_arg2 X_arg5 X_arg10 X_arg11 X_arg12 X_arg13 G_arg14 G_arg15 G_arg17 G_arg18 G_arg19 A w i' p T hw j _ le_rfl).trans
    (congrArg (_ + ·) (Finset.sum_congr rfl fun q _ => if_pos q.isLt))
end

section
variable (𝒱 : Variants) (c : Dev nD) (bd : Option 𝒱.V) (i : grid0.Coords) (arg2 : Memref sig .tc .vmem S1x512x3072 .f32) (harg2 : arg2.IsWhole) (arg3 : Memref sig .tc .vmem S1x32x3072 .f32) (harg3 : arg3.IsWhole) (arg4 : Memref sig .tc .vmem S1x32x3072 .f32) (harg4 : arg4.IsWhole) (arg5 : Memref sig .tc .vmem S1x512x1024 .f32) (harg5 : arg5.IsWhole) (arg6 : Memref sig .tc .vmem S1x32x1024 .f32) (harg6 : arg6.IsWhole) (arg7 : Memref sig .tc .vmem S1x512x512 .f32) (harg7 : arg7.IsWhole) (arg8 : Memref sig .tc .vmem S1x32x512 .f32) (harg8 : arg8.IsWhole) (arg9 : Memref sig .tc .vmem S32x512 .f32) (harg9 : arg9.IsWhole) (arg10 : Memref sig .tc .vmem S8x512 .f32) (harg10 : arg10.IsWhole) (arg11 : Memref sig .tc .vmem S8x128x128 .f32) (harg11 : arg11.IsWhole) (arg12 : Memref sig .tc .vmem S8x128x128 .f32) (harg12 : arg12.IsWhole) (arg13 : Memref sig .tc .vmem S128x512 .f32) (harg13 : arg13.IsWhole) (arg14 : Memref sig .tc .vmem S1x512x3072 .bf16) (harg14 : arg14.IsWhole) (arg15 : Memref sig .tc .vmem S1x3072 .f32) (harg15 : arg15.IsWhole) (arg16 : Memref sig .tc .vmem S32x512 .f32) (harg16 : arg16.IsWhole) (arg17 : Memref sig .tc .vmem S8x512 .f32) (harg17 : arg17.IsWhole) (arg18 : Memref sig .tc .vmem S8x128x128 .f32) (harg18 : arg18.IsWhole) (arg19 : Memref sig .tc .vmem S128x512 .f32) (harg19 : arg19.IsWhole) (arg20 : Memref sig .tc .vmem S584x512 .f32) (harg20 : arg20.IsWhole) (arg21 : Memref sig .tc .vmem S7x576x512 .f32) (harg21 : arg21.IsWhole) (arg22 : Memref sig .tc .vmem S544x512 .f32) (harg22 : arg22.IsWhole) (arg23 : Memref sig .tc .vmem S544x512 .f32) (harg23 : arg23.IsWhole) (arg24 : Memref sig .tc .vmem S552x512 .f32) (harg24 : arg24.IsWhole) (arg25 : Memref sig .tc .vmem S32x8x512 .f32) (harg25 : arg25.IsWhole) (v273 : Vec Ideal S576x512 .f32) (X_arg7 : BufTy.Contents (Elt Ideal) arg7.view.ty) (X_arg10 : BufTy.Contents (Elt Ideal) arg10.view.ty) (X_arg22 : BufTy.Contents (Elt Ideal) arg22.view.ty) (X_arg23 : BufTy.Contents (Elt Ideal) arg23.view.ty) (k : Fin k0_t1_loop.trips) (f_arg14 : BufTy.Contents (Elt Ideal) arg14.view.ty) (f_arg15 : BufTy.Contents (Elt Ideal) arg15.view.ty) (f_arg17 : BufTy.Contents (Elt Ideal) arg17.view.ty) (f_arg24 : BufTy.Contents (Elt Ideal) arg24.view.ty)

/-- The convolution's loop stores rows 0, 1 and 2 only, -/
theorem trip17_conv : ∃ x y z, (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v273 X_arg7 X_arg10 X_arg22 X_arg23 k).2.2.1 f_arg14 f_arg15 f_arg17 f_arg24 =
    [⟨Rect.unit ![2, 0] ![1, 512] inb_S8x512_S1x512_2_0, x⟩, ⟨Rect.unit ![1, 0] ![1, 512] inb_S8x512_S1x512_1_0, y⟩, ⟨Rect.unit ![0, 0] ![1, 512] inb_S8x512_S1x512_0_0, z⟩] := by
  unfold trip_k0_t1
  exact ⟨_, _, _, rfl⟩

theorem trip17_keep (h : Fin 8) (hh : 3 ≤ h.val) (j : Fin 512) :
    (arg17.view.read (Elt Ideal) (arg17.view.writes (Elt Ideal) f_arg17 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v273 X_arg7 X_arg10 X_arg22 X_arg23 k).2.2.1 f_arg14 f_arg15 f_arg17 f_arg24)) (ix2 h j) : EReal) = arg17.view.read (Elt Ideal) f_arg17 (ix2 h j) := by
  obtain ⟨x, y, z, e⟩ := trip17_conv 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v273 X_arg7 X_arg10 X_arg22 X_arg23 k f_arg14 f_arg15 f_arg17 f_arg24
  rw [e, read_row, if_neg (by omega), read_row, if_neg (by omega), read_row, if_neg (by omega)]
  rfl
end

section
variable (𝒱 : Variants) (c : Dev nD) (bd : Option 𝒱.V) (i : grid0.Coords) (arg2 : Memref sig .tc .vmem S1x512x3072 .f32) (harg2 : arg2.IsWhole) (arg3 : Memref sig .tc .vmem S1x32x3072 .f32) (harg3 : arg3.IsWhole) (arg4 : Memref sig .tc .vmem S1x32x3072 .f32) (harg4 : arg4.IsWhole) (arg5 : Memref sig .tc .vmem S1x512x1024 .f32) (harg5 : arg5.IsWhole) (arg6 : Memref sig .tc .vmem S1x32x1024 .f32) (harg6 : arg6.IsWhole) (arg7 : Memref sig .tc .vmem S1x512x512 .f32) (harg7 : arg7.IsWhole) (arg8 : Memref sig .tc .vmem S1x32x512 .f32) (harg8 : arg8.IsWhole) (arg9 : Memref sig .tc .vmem S32x512 .f32) (harg9 : arg9.IsWhole) (arg10 : Memref sig .tc .vmem S8x512 .f32) (harg10 : arg10.IsWhole) (arg11 : Memref sig .tc .vmem S8x128x128 .f32) (harg11 : arg11.IsWhole) (arg12 : Memref sig .tc .vmem S8x128x128 .f32) (harg12 : arg12.IsWhole) (arg13 : Memref sig .tc .vmem S128x512 .f32) (harg13 : arg13.IsWhole) (arg14 : Memref sig .tc .vmem S1x512x3072 .bf16) (harg14 : arg14.IsWhole) (arg15 : Memref sig .tc .vmem S1x3072 .f32) (harg15 : arg15.IsWhole) (arg16 : Memref sig .tc .vmem S32x512 .f32) (harg16 : arg16.IsWhole) (arg17 : Memref sig .tc .vmem S8x512 .f32) (harg17 : arg17.IsWhole) (arg18 : Memref sig .tc .vmem S8x128x128 .f32) (harg18 : arg18.IsWhole) (arg19 : Memref sig .tc .vmem S128x512 .f32) (harg19 : arg19.IsWhole) (arg20 : Memref sig .tc .vmem S584x512 .f32) (harg20 : arg20.IsWhole) (arg21 : Memref sig .tc .vmem S7x576x512 .f32) (harg21 : arg21.IsWhole) (arg22 : Memref sig .tc .vmem S544x512 .f32) (harg22 : arg22.IsWhole) (arg23 : Memref sig .tc .vmem S544x512 .f32) (harg23 : arg23.IsWhole) (arg24 : Memref sig .tc .vmem S552x512 .f32) (harg24 : arg24.IsWhole) (arg25 : Memref sig .tc .vmem S32x8x512 .f32) (harg25 : arg25.IsWhole) (v273 : Vec Ideal S576x512 .f32) (X_arg7 : BufTy.Contents (Elt Ideal) arg7.view.ty) (X_arg10 : BufTy.Contents (Elt Ideal) arg10.view.ty) (X_arg22 : BufTy.Contents (Elt Ideal) arg22.view.ty) (X_arg23 : BufTy.Contents (Elt Ideal) arg23.view.ty) (G_arg14 : BufTy.Contents (Elt Ideal) arg14.view.ty) (G_arg15 : BufTy.Contents (Elt Ideal) arg15.view.ty) (G_arg17 : BufTy.Contents (Elt Ideal) arg17.view.ty) (G_arg24 : BufTy.Contents (Elt Ideal) arg24.view.ty)

theorem pb17_conv_succ (k : Fin k0_t1_loop.trips) : (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v273 X_arg7 X_arg10 X_arg22 X_arg23 G_arg14 G_arg15 G_arg17 G_arg24 (k.val + 1)).2.2.1 =
    (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v273 X_arg7 X_arg10 X_arg22 X_arg23 k).2.2.1 (arg14.view.writes (Elt Ideal) G_arg14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v273 X_arg7 X_arg10 X_arg22 X_arg23 G_arg14 G_arg15 G_arg17 G_arg24 k.val).1) (arg15.view.writes (Elt Ideal) G_arg15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v273 X_arg7 X_arg10 X_arg22 X_arg23 G_arg14 G_arg15 G_arg17 G_arg24 k.val).2.1) (arg17.view.writes (Elt Ideal) G_arg17 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v273 X_arg7 X_arg10 X_arg22 X_arg23 G_arg14 G_arg15 G_arg17 G_arg24 k.val).2.2.1) (arg24.view.writes (Elt Ideal) G_arg24 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v273 X_arg7 X_arg10 X_arg22 X_arg23 G_arg14 G_arg15 G_arg17 G_arg24 k.val).2.2.2) ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v273 X_arg7 X_arg10 X_arg22 X_arg23 G_arg14 G_arg15 G_arg17 G_arg24 k.val).2.2.1 := by
  rw [pb_k0_t1_succ]

/-- and keeps the rows below. -/
theorem loop17_keep (h : Fin 8) (hh : 3 ≤ h.val) (j : Fin 512) : ∀ k : Nat, k ≤ k0_t1_loop.trips →
    (arg17.view.read (Elt Ideal) (arg17.view.writes (Elt Ideal) G_arg17 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v273 X_arg7 X_arg10 X_arg22 X_arg23 G_arg14 G_arg15 G_arg17 G_arg24 k).2.2.1) (ix2 h j) : EReal) = arg17.view.read (Elt Ideal) G_arg17 (ix2 h j)
  | 0, _ => by
    rw [pb_k0_t1.eq_1]
    rfl
  | k + 1, hk => by
    rw [pb17_conv_succ (k := ⟨k, hk⟩), View.writes_append, trip17_keep (hh := hh), loop17_keep h hh j k (Nat.le_of_lt hk)]
end

/-- The rows cleared. -/
theorem clear17 (a : Memref sig .tc .vmem S8x512 .f32) (f : BufTy.Contents (Elt Ideal) a.view.ty) (y : S8x512.Idx) :
    (a.view.read (Elt Ideal) (a.view.writes (Elt Ideal) f [⟨Rect.unit ![0, 0] ![8, 512] inb_S8x512_S8x512_0_0, k0_pay158 (F := Ideal)⟩]) y : EReal) = 0 := by
  refine (View.read_writes_cons_unit_of_mem a.view f inb_S8x512_S8x512_0_0 _ [] y y rfl ?_).trans ?_
  · intro i
    fin_cases i <;> exact (Nat.zero_add _).symm
  · pointwise [k0_pay158]

/-- Later stores over earlier ones. -/
theorem split17 (a : Memref sig .tc .vmem S8x512 .f32) (f : BufTy.Contents (Elt Ideal) a.view.ty) (L L' : List (View.Piece (Elt Ideal) S8x512 .f32)) (y : S8x512.Idx) :
    (a.view.read (Elt Ideal) (a.view.writes (Elt Ideal) f (L ++ L')) y : EReal) = a.view.read (Elt Ideal) (a.view.writes (Elt Ideal) (a.view.writes (Elt Ideal) f L') L) y := by
  rw [View.writes_append]

/-- One grid point adds its four blocks to rows 3 and 4. -/
def Step (A : Gated) (w : Mixing) (i' : Fin 2) (p : Fin 8) (Y X : Vec Ideal S8x512 .f32) : Prop :=
  ∀ j : Fin 512, (X (ix2 3 j) : EReal) = (Y (ix2 3 j) : EReal) + ∑ q : Fin k0_t4_loop.trips, A.dgBlk w i' (blk p q) j ∧
    (X (ix2 4 j) : EReal) = (Y (ix2 4 j) : EReal) + ∑ q : Fin k0_t4_loop.trips, A.dbBlk w i' (blk p q) j

end Cert.EvenBwdIdeal.Pay
-- ==== Proof.EvenRunA.lean ====
module
public import proofs.«01_k».proof.Proof.EvenBase
public import proofs.«01_k».proof.Proof.EvenMixTrip

@[expose] public section

set_option maxRecDepth 16384
noncomputable section
namespace Cert.EvenBwdIdeal.Run
open Cert.EvenBwdIdeal Cert.EvenBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.EvenBwdIdeal.Pay Cert.Rows

set_option maxHeartbeats 2000000 in
/-- At the first point the body runs, keeps its inputs and adds the tile's part to the two accumulators. -/
theorem runA (c : Dev nD) (i : grid0.Coords) (arg2 : Memref sig .tc .vmem S1x512x3072 .f32) (harg2 : arg2.IsWhole) (arg3 : Memref sig .tc .vmem S1x32x3072 .f32) (harg3 : arg3.IsWhole) (arg4 : Memref sig .tc .vmem S1x32x3072 .f32) (harg4 : arg4.IsWhole) (arg5 : Memref sig .tc .vmem S1x512x1024 .f32) (harg5 : arg5.IsWhole) (arg6 : Memref sig .tc .vmem S1x32x1024 .f32) (harg6 : arg6.IsWhole) (arg7 : Memref sig .tc .vmem S1x512x512 .f32) (harg7 : arg7.IsWhole) (arg8 : Memref sig .tc .vmem S1x32x512 .f32) (harg8 : arg8.IsWhole) (arg9 : Memref sig .tc .vmem S32x512 .f32) (harg9 : arg9.IsWhole) (arg10 : Memref sig .tc .vmem S8x512 .f32) (harg10 : arg10.IsWhole) (arg11 : Memref sig .tc .vmem S8x128x128 .f32) (harg11 : arg11.IsWhole) (arg12 : Memref sig .tc .vmem S8x128x128 .f32) (harg12 : arg12.IsWhole) (arg13 : Memref sig .tc .vmem S128x512 .f32) (harg13 : arg13.IsWhole) (arg14 : Memref sig .tc .vmem S1x512x3072 .bf16) (harg14 : arg14.IsWhole) (arg15 : Memref sig .tc .vmem S1x3072 .f32) (harg15 : arg15.IsWhole) (arg16 : Memref sig .tc .vmem S32x512 .f32) (harg16 : arg16.IsWhole) (arg17 : Memref sig .tc .vmem S8x512 .f32) (harg17 : arg17.IsWhole) (arg18 : Memref sig .tc .vmem S8x128x128 .f32) (harg18 : arg18.IsWhole) (arg19 : Memref sig .tc .vmem S128x512 .f32) (harg19 : arg19.IsWhole) (arg20 : Memref sig .tc .vmem S584x512 .f32) (harg20 : arg20.IsWhole) (arg21 : Memref sig .tc .vmem S7x576x512 .f32) (harg21 : arg21.IsWhole) (arg22 : Memref sig .tc .vmem S544x512 .f32) (harg22 : arg22.IsWhole) (arg23 : Memref sig .tc .vmem S544x512 .f32) (harg23 : arg23.IsWhole) (arg24 : Memref sig .tc .vmem S552x512 .f32) (harg24 : arg24.IsWhole) (arg25 : Memref sig .tc .vmem S32x8x512 .f32) (harg25 : arg25.IsWhole)
    (hc : first i) (x0 : Vec Ideal S1x512x3072 .f32) (x1 : Vec Ideal S1x32x3072 .f32) (x2 : Vec Ideal S1x32x3072 .f32) (x3 : Vec Ideal S1x512x1024 .f32) (x4 : Vec Ideal S1x32x1024 .f32) (x5 : Vec Ideal S1x512x512 .f32) (x6 : Vec Ideal S1x32x512 .f32) (x7 : Vec Ideal S32x512 .f32) (x8 : Vec Ideal S8x512 .f32) (x9 : Vec Ideal S8x128x128 .f32) (x10 : Vec Ideal S8x128x128 .f32) (x11 : Vec Ideal S128x512 .f32) (A : Gated) (i' : Fin 2) (p : Fin 8) (w : Rows.Mixing) (hw : Mixed w x10) (T : Tile A i' p x0 x3 x8) (E : Set ℕ) (K : PUnit → sProp (MT nD τ sig Unit (Elt Ideal) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, ⌜Step A w i' p (fun _ => (0 : EReal)) d⌝ ∗ owns (c : Thread nD τ) arg17 fullShare d) ∗ owns (c : Thread nD τ) arg18 fullShare (fun y => ((0 : EReal) : EReal) + inc18 A i' p y) ∗ owns (c : Thread nD τ) arg19 fullShare (fun y => ((0 : EReal) : EReal) + inc19 A i' p y) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
      ⊢ wp frame (wpE (defs₀ (F := Ideal)) Variants.none c none) E (cc0_even_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_even_bwd_eq_skeleton]; unfold cc0_even_bwd_skel
  simp only [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hc)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; exact harg11.read_unread _
  isplitl [H10]
  · iexists _; isplitr; swap; · iexact H10
    ipureintro; exact harg12.read_unread _
  isplitl [H11]
  · iexists _; isplitr; swap; · iexact H11
    ipureintro; exact harg13.read_unread _
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _; isplitr; swap
    · iexists _; isplitr; swap; · iexact H15
      ipureintro; rfl
    ipureintro
    intro j
    refine ⟨(split17 _ _ _ _ _).trans ((loop17_g _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ A w i' p (tile_of harg2 harg5 harg10 T) (by rw [harg12.read_unread]; exact hw) j).trans (congrArg (· + _) ((split17 _ _ _ _ _).trans ((loop17_keep _ _ _ _ _ _ _ _ _ _ _ _ _ _ _ _ _ _ _ _ _ _ _ _ _ _ _ _ _ _ _ _ _ _ _ _ _ _ _ _ _ _ _ _ _ _ _ _ _ _ _ _ _ _ _ _ _ _ _ _ _ 3 (by decide) j _ le_rfl).trans (clear17 _ _ _))))), (split17 _ _ _ _ _).trans ((loop17_b _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ A w i' p (tile_of harg2 harg5 harg10 T) (by rw [harg12.read_unread]; exact hw) j).trans (congrArg (· + _) ((split17 _ _ _ _ _).trans ((loop17_keep _ _ _ _ _ _ _ _ _ _ _ _ _ _ _ _ _ _ _ _ _ _ _ _ _ _ _ _ _ _ _ _ _ _ _ _ _ _ _ _ _ _ _ _ _ _ _ _ _ _ _ _ _ _ _ _ _ _ _ _ _ 4 (by decide) j _ le_rfl).trans (clear17 _ _ _)))))⟩
  isplitl [H16]
  · iexists _; isplitr; swap; · iexact H16
    ipureintro
    exact loop18_first _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ A i' p (tile_of harg2 harg5 harg10 T) _ _ rfl
  isplitl [H17]
  · iexists _; isplitr; swap; · iexact H17
    ipureintro
    exact loop19_first _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ A i' p (tile_of harg2 harg5 harg10 T) _ _ rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  iexists _, _; isplitr; swap; · iexact H23
  ipureintro; rfl

end Cert.EvenBwdIdeal.Run
-- ==== Proof.EvenRunB.lean ====
module
public import proofs.«01_k».proof.Proof.EvenBase
public import proofs.«01_k».proof.Proof.EvenMixTrip

@[expose] public section

set_option maxRecDepth 16384
noncomputable section
namespace Cert.EvenBwdIdeal.Run
open Cert.EvenBwdIdeal Cert.EvenBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.EvenBwdIdeal.Pay Cert.Rows

set_option maxHeartbeats 2000000 in
/-- At every other point the body runs, keeps its inputs and adds the tile's part to the two accumulators. -/
theorem runB (c : Dev nD) (i : grid0.Coords) (arg2 : Memref sig .tc .vmem S1x512x3072 .f32) (harg2 : arg2.IsWhole) (arg3 : Memref sig .tc .vmem S1x32x3072 .f32) (harg3 : arg3.IsWhole) (arg4 : Memref sig .tc .vmem S1x32x3072 .f32) (harg4 : arg4.IsWhole) (arg5 : Memref sig .tc .vmem S1x512x1024 .f32) (harg5 : arg5.IsWhole) (arg6 : Memref sig .tc .vmem S1x32x1024 .f32) (harg6 : arg6.IsWhole) (arg7 : Memref sig .tc .vmem S1x512x512 .f32) (harg7 : arg7.IsWhole) (arg8 : Memref sig .tc .vmem S1x32x512 .f32) (harg8 : arg8.IsWhole) (arg9 : Memref sig .tc .vmem S32x512 .f32) (harg9 : arg9.IsWhole) (arg10 : Memref sig .tc .vmem S8x512 .f32) (harg10 : arg10.IsWhole) (arg11 : Memref sig .tc .vmem S8x128x128 .f32) (harg11 : arg11.IsWhole) (arg12 : Memref sig .tc .vmem S8x128x128 .f32) (harg12 : arg12.IsWhole) (arg13 : Memref sig .tc .vmem S128x512 .f32) (harg13 : arg13.IsWhole) (arg14 : Memref sig .tc .vmem S1x512x3072 .bf16) (harg14 : arg14.IsWhole) (arg15 : Memref sig .tc .vmem S1x3072 .f32) (harg15 : arg15.IsWhole) (arg16 : Memref sig .tc .vmem S32x512 .f32) (harg16 : arg16.IsWhole) (arg17 : Memref sig .tc .vmem S8x512 .f32) (harg17 : arg17.IsWhole) (arg18 : Memref sig .tc .vmem S8x128x128 .f32) (harg18 : arg18.IsWhole) (arg19 : Memref sig .tc .vmem S128x512 .f32) (harg19 : arg19.IsWhole) (arg20 : Memref sig .tc .vmem S584x512 .f32) (harg20 : arg20.IsWhole) (arg21 : Memref sig .tc .vmem S7x576x512 .f32) (harg21 : arg21.IsWhole) (arg22 : Memref sig .tc .vmem S544x512 .f32) (harg22 : arg22.IsWhole) (arg23 : Memref sig .tc .vmem S544x512 .f32) (harg23 : arg23.IsWhole) (arg24 : Memref sig .tc .vmem S552x512 .f32) (harg24 : arg24.IsWhole) (arg25 : Memref sig .tc .vmem S32x8x512 .f32) (harg25 : arg25.IsWhole)
    (hc : ¬ first i) (x0 : Vec Ideal S1x512x3072 .f32) (x1 : Vec Ideal S1x32x3072 .f32) (x2 : Vec Ideal S1x32x3072 .f32) (x3 : Vec Ideal S1x512x1024 .f32) (x4 : Vec Ideal S1x32x1024 .f32) (x5 : Vec Ideal S1x512x512 .f32) (x6 : Vec Ideal S1x32x512 .f32) (x7 : Vec Ideal S32x512 .f32) (x8 : Vec Ideal S8x512 .f32) (x9 : Vec Ideal S8x128x128 .f32) (x10 : Vec Ideal S8x128x128 .f32) (x11 : Vec Ideal S128x512 .f32) (x15 : Vec Ideal S8x512 .f32) (x16 : Vec Ideal S8x128x128 .f32) (x17 : Vec Ideal S128x512 .f32) (A : Gated) (i' : Fin 2) (p : Fin 8) (w : Rows.Mixing) (hw : Mixed w x10) (T : Tile A i' p x0 x3 x8) (E : Set ℕ) (K : PUnit → sProp (MT nD τ sig Unit (Elt Ideal) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, ⌜Step A w i' p x15 d⌝ ∗ owns (c : Thread nD τ) arg17 fullShare d) ∗ owns (c : Thread nD τ) arg18 fullShare (fun y => (x16 y : EReal) + inc18 A i' p y) ∗ owns (c : Thread nD τ) arg19 fullShare (fun y => (x17 y : EReal) + inc19 A i' p y) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
      ⊢ wp frame (wpE (defs₀ (F := Ideal)) Variants.none c none) E (cc0_even_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_even_bwd_eq_skeleton]; unfold cc0_even_bwd_skel
  simp only [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg17.eq_unread hf15; obtain rfl := harg18.eq_unread hf16; obtain rfl := harg19.eq_unread hf17
  sl_exec (disch := first | sl_exact hc)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; exact harg11.read_unread _
  isplitl [H10]
  · iexists _; isplitr; swap; · iexact H10
    ipureintro; exact harg12.read_unread _
  isplitl [H11]
  · iexists _; isplitr; swap; · iexact H11
    ipureintro; exact harg13.read_unread _
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _; isplitr; swap
    · iexists _; isplitr; swap; · iexact H15
      ipureintro; rfl
    ipureintro
    intro j
    refine ⟨(split17 _ _ _ _ _).trans ((loop17_g _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ A w i' p (tile_of harg2 harg5 harg10 T) (by rw [harg12.read_unread]; exact hw) j).trans (congrArg (· + _) ((loop17_keep _ _ _ _ _ _ _ _ _ _ _ _ _ _ _ _ _ _ _ _ _ _ _ _ _ _ _ _ _ _ _ _ _ _ _ _ _ _ _ _ _ _ _ _ _ _ _ _ _ _ _ _ _ _ _ _ _ _ _ _ _ 3 (by decide) j _ le_rfl).trans (congrFun (harg17.read_unread x15) _)))), (split17 _ _ _ _ _).trans ((loop17_b _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ A w i' p (tile_of harg2 harg5 harg10 T) (by rw [harg12.read_unread]; exact hw) j).trans (congrArg (· + _) ((loop17_keep _ _ _ _ _ _ _ _ _ _ _ _ _ _ _ _ _ _ _ _ _ _ _ _ _ _ _ _ _ _ _ _ _ _ _ _ _ _ _ _ _ _ _ _ _ _ _ _ _ _ _ _ _ _ _ _ _ _ _ _ _ 4 (by decide) j _ le_rfl).trans (congrFun (harg17.read_unread x15) _))))⟩
  isplitl [H16]
  · iexists _; isplitr; swap; · iexact H16
    ipureintro
    exact (loop18_fn _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ A i' p (tile_of harg2 harg5 harg10 T)).trans (by rw [harg18.read_unread])
  isplitl [H17]
  · iexists _; isplitr; swap; · iexact H17
    ipureintro
    exact (loop19_fn _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ A i' p (tile_of harg2 harg5 harg10 T)).trans (by rw [harg19.read_unread])
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  iexists _, _; isplitr; swap; · iexact H23
  ipureintro; rfl

end Cert.EvenBwdIdeal.Run
-- ==== Proof.EvenLaunch.lean ====
module
public import proofs.«01_k».proof.Proof.EvenRunA
public import proofs.«01_k».proof.Proof.EvenRunB
public import Idealize.ShloMosaic.Lib.Pipeline.DatRel

@[expose] public section

set_option maxRecDepth 16384
noncomputable section
namespace Cert.EvenBwdIdeal.Run
open Cert.EvenBwdIdeal Cert.EvenBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.EvenBwdIdeal.Pay Cert.Rows
variable (m : (ℓ : Loc nD τ sig) → Buf (Elt Ideal) ℓ) (ρ : Dev nD → PrngReg)

/-- What the gated branch reads: the projected rows, the cotangent and the packed rows. -/
def gatedOf (Z : Vec Ideal S2x4096x3072 .f32) (D : Vec Ideal S2x4096x1024 .f32) (W : Vec Ideal S8x512 .f32) : Gated where
  z := Z
  g := fun y => W (ix2 3 (y 0))
  b := fun y => W (ix2 4 (y 0))
  dy := D

/-- What it reads as the launch finds it. -/
def gated (c : Dev nD) : Gated := gatedOf (V m c main_arg0) (V m c main_arg9) (V m c main_v238)

/-- The sequence of point `k`. -/
def seq (k : ℕ) : Fin 2 := ⟨k / 8 % 2, by omega⟩
/-- The tile of point `k`. -/
def tile (k : ℕ) : Fin 8 := ⟨k % 8, by omega⟩

theorem idx : ∀ t : Fin cfg0.N, win0_0.index t = ![t.val / 8 % 2, t.val % 8, 0] ∧ win0_3.index t = ![t.val / 8 % 2, t.val % 8, 0] ∧ win0_8.index t = ![0, 0] :=
  (by decide +kernel : ∀ t : Fin grid0.N, _)

section
variable (t : Fin cfg0.N)
theorem blk_z (X : Vec Ideal S2x4096x3072 .f32) (r : Fin 512) (j : Fin 3072) :
    (((cfg0.win 0).blk t).view.read (Elt Ideal) X (ix3 0 r j) : EReal) = X (ix3 (seq t.val) (tpos (tile t.val) r) j) := by
  blk_ext [idx t, seq, tile, tpos]
theorem blk_dy (X : Vec Ideal S2x4096x1024 .f32) (r : Fin 512) (j : Fin 1024) :
    (((cfg0.win 3).blk t).view.read (Elt Ideal) X (ix3 0 r j) : EReal) = X (ix3 (seq t.val) (tpos (tile t.val) r) j) := by
  blk_ext [idx t, seq, tile, tpos]
theorem blk_vec (X : Vec Ideal S8x512 .f32) (k : Fin 8) (j : Fin 512) :
    (((cfg0.win 8).blk t).view.read (Elt Ideal) X (ix2 k j) : EReal) = X (ix2 k j) := by
  blk_ext [idx t]

theorem tile_of_blk (Z : Vec Ideal S2x4096x3072 .f32) (D : Vec Ideal S2x4096x1024 .f32) (W : Vec Ideal S8x512 .f32) :
    Tile (gatedOf Z D W) (seq t.val) (tile t.val) (((cfg0.win 0).blk t).view.read (Elt Ideal) Z) (((cfg0.win 3).blk t).view.read (Elt Ideal) D)
      (((cfg0.win 8).blk t).view.read (Elt Ideal) W) where
  z r j := blk_z t Z r j
  dy r j := blk_dy t D r j
  g j := blk_vec t W 3 j
  b j := blk_vec t W 4 j
end

theorem tile_at (c : Dev nD) (t : Fin cfg0.N) : Tile (gated m c) (seq t.val) (tile t.val) (iblk m c 0 t) (iblk m c 3 t) (iblk m c 8 t) :=
  tile_of_blk t (V m c main_arg0) (V m c main_arg9) (V m c main_v238)

/-- What output 16 holds after point `k`. -/
def acc16 (A : Gated) : ℕ → Vec Ideal S8x128x128 .f32
  | 0 => fun y => (0 : EReal) + inc18 A (seq 0) (tile 0) y
  | k + 1 => fun y => (acc16 A k y : EReal) + inc18 A (seq (k + 1)) (tile (k + 1)) y

theorem acc16_first (A : Gated) (k : ℕ) (h : k = 0) : acc16 A k = fun y => (0 : EReal) + inc18 A (seq k) (tile k) y := by
  subst h; rfl

theorem acc16_next (A : Gated) (k : ℕ) (h : k ≠ 0) : acc16 A k = fun y => (acc16 A (k - 1) y : EReal) + inc18 A (seq k) (tile k) y := by
  cases k with
  | zero => exact absurd rfl h
  | succ k => rfl

/-- What output 17 holds after point `k`. -/
def acc17 (A : Gated) : ℕ → Vec Ideal S128x512 .f32
  | 0 => fun y => (0 : EReal) + inc19 A (seq 0) (tile 0) y
  | k + 1 => fun y => (acc17 A k y : EReal) + inc19 A (seq (k + 1)) (tile (k + 1)) y

theorem acc17_first (A : Gated) (k : ℕ) (h : k = 0) : acc17 A k = fun y => (0 : EReal) + inc19 A (seq k) (tile k) y := by
  subst h; rfl

theorem acc17_next (A : Gated) (k : ℕ) (h : k ≠ 0) : acc17 A k = fun y => (acc17 A (k - 1) y : EReal) + inc19 A (seq k) (tile k) y := by
  cases k with
  | zero => exact absurd rfl h
  | succ k => rfl

/-- The outputs of which nothing is said. -/
def forgets0 : Fin 18 → Bool := fun w => w.val == 12 || w.val == 13 || w.val == 14 || w.val == 15

/-- The mixing matrices of their transposes. -/
def mixOf (X : Vec Ideal S8x128x128 .f32) : Mixing := fun h s t => X (ix3 h t s)

/-- They are what the launch finds. -/
def mix (c : Dev nD) : Mixing := mixOf (V m c main_v242)

theorem idx10 : ∀ t : Fin cfg0.N, win0_10.index t = ![0, 0, 0] := (by decide +kernel : ∀ t : Fin grid0.N, _)

theorem blk_mix (t : Fin cfg0.N) (X : Vec Ideal S8x128x128 .f32) (h : Fin 8) (r s : Fin 128) :
    (((cfg0.win 10).blk t).view.read (Elt Ideal) X (ix3 h r s) : EReal) = X (ix3 h r s) := by
  blk_ext [idx10 t]

theorem mixed_at (c : Dev nD) (t : Fin cfg0.N) : Mixed (mix m c) (iblk m c 10 t) :=
  fun h s r => blk_mix t (V m c main_v242) h s r

/-- What rows 3 and 4 of output 15 hold after point `k`. -/
def Row (A : Gated) (w : Mixing) (k : ℕ) (X : Vec Ideal S8x512 .f32) : Prop :=
  ∀ j : Fin 512, (X (ix2 3 j) : EReal) = ∑ t ∈ Finset.range (k + 1), ∑ q : Fin k0_t4_loop.trips, A.dgBlk w (seq t) (blk (tile t) q) j ∧
    (X (ix2 4 j) : EReal) = ∑ t ∈ Finset.range (k + 1), ∑ q : Fin k0_t4_loop.trips, A.dbBlk w (seq t) (blk (tile t) q) j

theorem row_first {A : Gated} {w : Mixing} {k : ℕ} (hk : k = 0) {X : Vec Ideal S8x512 .f32} (h : Step A w (seq k) (tile k) (fun _ => (0 : EReal)) X) : Row A w k X := by
  subst hk
  intro j
  rw [Finset.sum_range_one, Finset.sum_range_one]
  exact ⟨(h j).1.trans (zero_add _), (h j).2.trans (zero_add _)⟩

theorem row_next {A : Gated} {w : Mixing} {k : ℕ} (hk : k ≠ 0) {Y X : Vec Ideal S8x512 .f32} (hY : Row A w (k - 1) Y) (h : Step A w (seq k) (tile k) Y X) : Row A w k X := by
  obtain ⟨k, rfl⟩ := Nat.exists_eq_succ_of_ne_zero hk
  intro j
  exact ⟨((h j).1.trans (congrArg (· + _) (hY j).1)).trans (Finset.sum_range_succ _ (k + 1)).symm,
    ((h j).2.trans (congrArg (· + _) (hY j).2)).trans (Finset.sum_range_succ _ (k + 1)).symm⟩

/-- What is known of the marked outputs: of output 15 its rows 3 and 4. -/
def Rl (c : Dev nD) : (w : Fin cfg0.W) → Fin cfg0.N → ((cfg0.win w).block.Idx → Elt Ideal (cfg0.win w).elt) → Prop
  | ⟨15, _⟩, t, X => Row (gated m c) (mix m c) t.val X
  | _, _, _ => True

/-- The launch's data on one device: each window's array and what its buffer holds after the body at point `t`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, _⟩ => acc16 (gated m c) t.val
    | ⟨17, _⟩ => acc17 (gated m c) t.val
    | ⟨_ + 18, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_16 (c : Dev nD) (t : Fin cfg0.N) : (dats m 0 c).after 16 t = acc16 (gated m c) t.val := by dsimp only [dats]
theorem after0_17 (c : Dev nD) (t : Fin cfg0.N) : (dats m 0 c).after 17 t = acc17 (gated m c) t.val := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_16 (c : Dev nD) (t : Fin cfg0.N) (h : t.val ≠ 0) (d) : (dats m 0 c).before 16 t d = acc16 (gated m c) (t.val - 1) := by
  have ht : t.val < 16 := Nat.lt_of_lt_of_eq t.isLt N_0
  rw [Dat.before_out_kept _ 16 rfl t (by omega) (Bool.eq_false_iff.mpr fun h => by
    have := (flush0_16 _).mp h
    dsimp only at this
    omega) (fun _ => rfl) (fun _ _ => rfl)]
  dsimp only [dats]
theorem before0_17 (c : Dev nD) (t : Fin cfg0.N) (h : t.val ≠ 0) (d) : (dats m 0 c).before 17 t d = acc17 (gated m c) (t.val - 1) := by
  have ht : t.val < 16 := Nat.lt_of_lt_of_eq t.isLt N_0
  rw [Dat.before_out_kept _ 17 rfl t (by omega) (Bool.eq_false_iff.mpr fun h => by
    have := (flush0_17 _).mp h
    dsimp only at this
    omega) (fun _ => rfl) (fun _ _ => rfl)]
  dsimp only [dats]

/-- What the body finds in output 15 is what it left there. -/
theorem finds15 (c : Dev nD) (t : Fin cfg0.N) (h : t.val ≠ 0) (Y : Vec Ideal S8x512 .f32)
    (hY : ((dats m 0 c).toRRel forgets0 (Rl m c)).Finds 15 t Y) : Row (gated m c) (mix m c) (t.val - 1) Y := by
  have ht : t.val < 16 := Nat.lt_of_lt_of_eq t.isLt N_0
  have hl := ((Pipeline.RDat.finds_of_pos _ (w := 15) (t := t) (by simp [Pipeline.Window.fetch]) h Y).mp hY).resolve_left fun hf => by
    have := (flush0_15 _).mp hf
    dsimp only at this
    omega
  exact (dats m 0 c).toRRel_leaves (fgt := forgets0) (Rl := Rl m c) (w := 15) rfl hl

/-- What the body is called with at point `t`. -/
def bodyPre (c : Dev nD) (t : Fin cfg0.N) : sProp (MT nD τ sig Unit (Elt Ideal) ℕ (UR sig nD τ) ℕ) :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ Y, ⌜((dats m 0 c).toRRel forgets0 (Rl m c)).Finds 12 t Y⌝ ∗ owns (c : Thread nD τ) (st12 t) fullShare Y)
    ∗ (∃ Y, ⌜((dats m 0 c).toRRel forgets0 (Rl m c)).Finds 13 t Y⌝ ∗ owns (c : Thread nD τ) (st13 t) fullShare Y)
    ∗ (∃ Y, ⌜((dats m 0 c).toRRel forgets0 (Rl m c)).Finds 14 t Y⌝ ∗ owns (c : Thread nD τ) (st14 t) fullShare Y)
    ∗ (∃ Y, ⌜((dats m 0 c).toRRel forgets0 (Rl m c)).Finds 15 t Y⌝ ∗ owns (c : Thread nD τ) (st15 t) fullShare Y)
    ∗ (∃ d, owns (c : Thread nD τ) (st16 t) fullShare ((dats m 0 c).before 16 t d))
    ∗ (∃ d, owns (c : Thread nD τ) (st17 t) fullShare ((dats m 0 c).before 17 t d)))

/-- What it gives back. -/
def bodyPost (c : Dev nD) (t : Fin cfg0.N) : sProp (MT nD τ sig Unit (Elt Ideal) ℕ (UR sig nD τ) ℕ) :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t)
    ∗ (∃ X, ⌜Rl m c 12 t X⌝ ∗ owns (c : Thread nD τ) (st12 t) fullShare X)
    ∗ (∃ X, ⌜Rl m c 13 t X⌝ ∗ owns (c : Thread nD τ) (st13 t) fullShare X)
    ∗ (∃ X, ⌜Rl m c 14 t X⌝ ∗ owns (c : Thread nD τ) (st14 t) fullShare X)
    ∗ (∃ X, ⌜Rl m c 15 t X⌝ ∗ owns (c : Thread nD τ) (st15 t) fullShare X)
    ∗ owns (c : Thread nD τ) (st16 t) fullShare ((dats m 0 c).after 16 t)
    ∗ owns (c : Thread nD τ) (st17 t) fullShare ((dats m 0 c).after 17 t))

set_option maxHeartbeats 4800000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_16, after0_17]
  rw [show (dats m 0 c).Φ t.castSucc = Pipeline.ΦA spec0 c from rfl, kept_eq]
  by_cases h0 : t.val = 0
  · rw [acc16_first (gated m c) t.val h0]
    rw [acc17_first (gated m c) t.val h0]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, %_h12, H12⟩, ⟨%d13, %_h13, H13⟩, ⟨%d14, %_h14, H14⟩, ⟨%d15, %h15, H15⟩, ⟨%d16, H16⟩, ⟨%d17, H17⟩⟩
    iapply (runA c (grid0.coords t) _ _ _ _ _ _ _ _ _ _ _ _ _ _ _ _ _ _ _ _ _ _ _ _ _ _ _ _ _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (gated m c) (seq t.val) (tile t.val) (mix m c) (mixed_at m c t) (tile_at m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, ⟨%e12, H12⟩, ⟨%e13, H13⟩, ⟨%e14, H14⟩, ⟨%e15, %s15, H15⟩, H16, H17, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists _; isplitr; swap; · iexact H12
      ipureintro; trivial
    isplitl [H13]
    · iexists _; isplitr; swap; · iexact H13
      ipureintro; trivial
    isplitl [H14]
    · iexists _; isplitr; swap; · iexact H14
      ipureintro; trivial
    isplitl [H15]
    · iexists _; isplitr; swap; · iexact H15
      ipureintro; exact row_first h0 s15
    isplitl [H16]; · iexact H16
    iexact H17
  · rw [acc16_next (gated m c) t.val h0]
    rw [acc17_next (gated m c) t.val h0]
    simp only [before0_16 m c t h0, before0_17 m c t h0]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, %_h12, H12⟩, ⟨%d13, %_h13, H13⟩, ⟨%d14, %_h14, H14⟩, ⟨%d15, %h15, H15⟩, ⟨%d16, H16⟩, ⟨%d17, H17⟩⟩
    iapply (runB c (grid0.coords t) _ _ _ _ _ _ _ _ _ _ _ _ _ _ _ _ _ _ _ _ _ _ _ _ _ _ _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d15 (acc16 (gated m c) (t.val - 1)) (acc17 (gated m c) (t.val - 1)) (gated m c) (seq t.val) (tile t.val) (mix m c) (mixed_at m c t) (tile_at m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexact H15
    isplitl [H16]; · iexact H16
    isplitl [H17]; · iexact H17
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, ⟨%e12, H12⟩, ⟨%e13, H13⟩, ⟨%e14, H14⟩, ⟨%e15, %s15, H15⟩, H16, H17, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists _; isplitr; swap; · iexact H12
      ipureintro; trivial
    isplitl [H13]
    · iexists _; isplitr; swap; · iexact H13
      ipureintro; trivial
    isplitl [H14]
    · iexists _; isplitr; swap; · iexact H14
      ipureintro; trivial
    isplitl [H15]
    · iexists _; isplitr; swap; · iexact H15
      ipureintro; exact row_next h0 (finds15 m c t h0 d15 h15) s15
    isplitl [H16]; · iexact H16
    iexact H17

theorem defs₀_row (t : Fin cfg0.N) : defs₀ (F := Ideal) .tc cfg0.body (cfg0.bodyArgs t (cfg0.slots t)) = bodyAt0 t := by
  unfold defs₀; rw [Defs.onTc_tc]

theorem body_obligation (c : Dev nD) : Pipeline.BodyObligationRel (dats m 0 c) (defs₀ (F := Ideal)) Variants.none () Set.univ forgets0 (Rl m c) := fun t => by
  rw [bigSep_W0, bigSep_W0, defs₀_row]
  exact triple_restated (sound_body m c t) rfl .rfl fun _ => .rfl

/-- The launch's data with the marked outputs known by relation only. -/
abbrev rdat (c : Dev nD) : Pipeline.RDat τ (Elt Ideal) Unit ℕ (UR sig nD τ) ℕ (cfgs 0) c := (dats m 0 c).toRRel forgets0 (Rl m c)

set_option backward.isDefEq.respectTransparency.types false in
/-- The launch and the lines after it end, with every array as the data says and every counter at zero. -/
theorem run : θ_run defs (onTc (τ := τ) (main (F := Ideal))) (s₀ m ρ)
    (fun r => RelTail.Post cfgs 0 (rdat m) (V0 m) [hostOps1] r.2 ∧ r.2.sem = fun _ => 0) :=
  RelTail.run cfgs (0 : Fin 1) launch₀0 defs₀ Variants.none (rdat m) m ρ main (fun c => (body_obligation m c).toRRel) (fun _ _ _ => rfl) (fun _ _ => rfl)
    (V0 m) [hostOps1] sfx_sub sfx_fresh sfx_keeps (hmain m Variants.none) (A_eq m) (fun _ _ => rfl)

/-- The argument arrays end as they were launched and every counter at zero. -/
theorem quiet : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
    ∧ r.2.sem = fun _ => 0) :=
  (θ_run defs _ _).mono (fun r h => ⟨frame_of_post m (rdat m) (A_eq m) r.2 h.1, h.2⟩) (run m ρ)

end Cert.EvenBwdIdeal.Run
-- ==== Proof.EvenFinal.lean ====
module
public import proofs.«01_k».proof.Proof.EvenLaunch
public import Idealize.ShloMosaic.Lib.Pipeline.ArrRel
public import Idealize.ShloMosaic.Lib.StableHlo.RunRead
public import Idealize.ShloMosaic.Lib.Claim

@[expose] public section

set_option maxRecDepth 16384
noncomputable section
namespace Cert.EvenBwdIdeal.Run
open Cert.EvenBwdIdeal Cert.EvenBwdIdeal.Gen Cert.EvenBwdIdeal.Pay Cert.Rows
open Idealize.ShloMosaic Idealize.ShloMosaic.TcCoe Idealize.ShloMosaic.Tactic Idealize.SL.Sem
open Idealize.ShloMosaic.Pipeline (Dat)

theorem trips4 : k0_t4_loop.trips = 4 := by decide +kernel

/-- The sixteen points' four blocks each are the thirty-two blocks of the two sequences. -/
theorem sum_blocks (f : Fin 2 → Fin 32 → EReal) :
    (∑ t ∈ Finset.range 16, ∑ q : Fin k0_t4_loop.trips, f (seq t) (blk (tile t) q)) = ∑ i : Fin 2, ∑ n : Fin 32, f i n := by
  let G : ℕ → ℕ → EReal := fun i n => f ⟨i % 2, by omega⟩ ⟨n % 32, by omega⟩
  have e1 : ∀ t, (∑ q : Fin k0_t4_loop.trips, f (seq t) (blk (tile t) q)) = ∑ q ∈ Finset.range 4, G (t / 8) (4 * (t % 8) + q) := fun t => by
    rw [← trips4, Finset.sum_range]
    refine Finset.sum_congr rfl fun q _ => ?_
    have hq : q.val < 4 := Nat.lt_of_lt_of_eq q.isLt trips4
    show f (seq t) (blk (tile t) q) = f _ _
    congr 1
    apply Fin.ext
    show 4 * (t % 8) + q.val = (4 * (t % 8) + q.val) % 32
    omega
  have e2 : (∑ i : Fin 2, ∑ n : Fin 32, f i n) = ∑ i ∈ Finset.range 2, ∑ n ∈ Finset.range 32, G i n := by
    rw [Finset.sum_range]
    refine Finset.sum_congr rfl fun i _ => ?_
    rw [Finset.sum_range]
    refine Finset.sum_congr rfl fun n _ => ?_
    show f i n = f _ _
    congr 1
    · apply Fin.ext; show i.val = i.val % 2; omega
    · apply Fin.ext; show n.val = n.val % 32; omega
  rw [e2]
  simp only [e1, Finset.sum_range_succ, Finset.sum_range_zero, zero_add, add_assoc, Nat.reduceDiv, Nat.reduceMod, Nat.reduceMul, Nat.reduceAdd]

theorem acc16_sum (A : Gated) (k : ℕ) (y : S8x128x128.Idx) : (acc16 A k y : EReal) = ∑ t ∈ Finset.range (k + 1), inc18 A (seq t) (tile t) y := by
  induction k with
  | zero => rw [Finset.sum_range_succ, Finset.sum_range_zero]; rfl
  | succ k ih => rw [Finset.sum_range_succ, ← ih]; rfl

theorem acc17_sum (A : Gated) (k : ℕ) (y : S128x512.Idx) : (acc17 A k y : EReal) = ∑ t ∈ Finset.range (k + 1), inc19 A (seq t) (tile t) y := by
  induction k with
  | zero => rw [Finset.sum_range_succ, Finset.sum_range_zero]; rfl
  | succ k ih => rw [Finset.sum_range_succ, ← ih]; rfl

theorem last16 (A : Gated) (y : S8x128x128.Idx) : (acc16 A 15 y : EReal) = A.dws (y 0) (y 1) (y 2) :=
  (acc16_sum A 15 y).trans (sum_blocks fun i n => A.dwsBlk i n (y 0) (y 1) (y 2))

theorem last17 (A : Gated) (y : S128x512.Idx) : (acc17 A 15 y : EReal) = A.dbias (y 0) (y 1) :=
  (acc17_sum A 15 y).trans (sum_blocks fun i n => A.dsg i (pos n (y 0)) (y 1))

variable (m : (ℓ : Loc nD τ sig) → Buf (Elt Ideal) ℓ) (ρ : Dev nD → PrngReg) (c : Dev nD)

theorem final16 : (dats m 0 c).arrAt 16 cfg0.N = fun y => (gated m c).dws (y 0) (y 1) (y 2) := by
  refine (dats m 0 c).arrAt_eq_of_after_last 16 t0_15 (by decide +kernel) _ fun y => ?_
  blk_simp
  idx_vars y
  rw [after0_16]
  exact last16 (gated m c) (ix3 y0 y1 y2)

theorem final17 : (dats m 0 c).arrAt 17 cfg0.N = fun y => (gated m c).dbias (y 0) (y 1) := by
  refine (dats m 0 c).arrAt_eq_of_after_last 17 t0_15 (by decide +kernel) _ fun y => ?_
  blk_simp
  idx_vars y
  rw [after0_17]
  exact last17 (gated m c) (ix2 y0 y1)

theorem last_row {A : Gated} {w : Mixing} {X : Vec Ideal S8x512 .f32} (h : Row A w 15 X) (j : Fin 512) :
    (X (ix2 3 j) : EReal) = A.dg w j ∧ (X (ix2 4 j) : EReal) = A.db w j :=
  ⟨(h j).1.trans (sum_blocks fun i n => A.dgBlk w i n j), (h j).2.trans (sum_blocks fun i n => A.dbBlk w i n j)⟩

/-- Output 15's array ends as its buffer after the last point. -/
theorem final15 (X : Buf (Elt Ideal) ((cfg0.win 15).arr.view.loc (c.tc : Thread nD τ))) (h : (rdat m c).ArrAt 15 cfg0.N X) :
    Row (gated m c) (mix m c) 15 X := by
  classical
  obtain ⟨Y, hY, hA⟩ := h.exists_exact
  have hl := (dats m 0 c).toRRel_leaves (fgt := forgets0) (Rl := Rl m c) (w := 15) rfl (hY t0_15 (by decide +kernel) (by decide +kernel))
  let after : (w : Fin cfg0.W) → Fin cfg0.N → (cfg0.win w).block.Idx → Elt Ideal (cfg0.win w).elt :=
    Function.update (fun _ _ _ => Classical.arbitrary _) 15 Y
  have ha : after 15 = Y := Function.update_self _ _ _
  have e : X = Y t0_15 := (hA after fun u _ _ => congrFun ha u).trans
    (Pipeline.Dat.arrAt_eq_of_after_last _ 15 t0_15 (by decide +kernel) _ fun y => by
      blk_simp
      show after 15 t0_15 _ = Y t0_15 _
      rw [ha])
  rw [e]
  exact hl

/-- The lines after the launch take the third and the fourth row of that array. -/
theorem tail3 (W : Valuation τ sig (Elt Ideal)) (j : Fin 512) :
    ((StableHlo.after hostOps1 W (Proc.devRef .tc main_v245) : FVec Ideal S512 .f32) (ix1 j) : EReal) = (W (Proc.devRef .tc main_v243_3) : FVec Ideal S8x512 .f32) (ix2 3 j) := by
  after_reads_simp
  pointwise

theorem tail4 (W : Valuation τ sig (Elt Ideal)) (j : Fin 512) :
    ((StableHlo.after hostOps1 W (Proc.devRef .tc main_v247) : FVec Ideal S512 .f32) (ix1 j) : EReal) = (W (Proc.devRef .tc main_v243_3) : FVec Ideal S8x512 .f32) (ix2 4 j) := by
  after_reads_simp
  pointwise

theorem rest_mem (b : Ref sig .tc) (hs : b.isScoped = false) (ha : ∀ w, Pipeline.arrRef spec0 w ≠ b) :
    b ∈ Pipeline.restRefsP sig Pipeline.Prefetch.none spec0 :=
  Finset.mem_sdiff.mpr ⟨Pipeline.mem_restRefs_of b hs ha, fun h => ((Finset.mem_image.mp h).elim fun k _ => k.elim0)⟩

theorem results (s : MemSt nD τ sig (Elt Ideal)) (h : RelTail.Post cfgs 0 (rdat m) (V0 m) [hostOps1] s) :
      s.mem ((c.tc : Thread nD τ).loc main_v245) = (fun y => (gated m c).dg (mix m c) (y 0))
      ∧ s.mem ((c.tc : Thread nD τ).loc main_v247) = (fun y => (gated m c).db (mix m c) (y 0)) := by
  obtain ⟨A, hA, hb⟩ := (h c).2
  have hr := final15 m c (A 15) (hA 15)
  have ew := RelTail.withArrays_eq cfgs 0 launch₀0 (rdat m) (V0 m) c (A_eq m c) A hA 15
  constructor
  · refine (hb main_v245 (rest_mem main_v245 (by decide) (by decide))).trans (funext fun y => ?_)
    idx_vars y
    refine (tail3 _ y0).trans ((congrFun ew (ix2 3 y0)).trans (last_row hr y0).1)
  · refine (hb main_v247 (rest_mem main_v247 (by decide) (by decide))).trans (funext fun y => ?_)
    idx_vars y
    refine (tail4 _ y0).trans ((congrFun ew (ix2 4 y0)).trans (last_row hr y0).2)

/-- An output that is known exactly. -/
theorem known (w : Fin cfg0.W) (hw : forgets0 w = false) (s : MemSt nD τ sig (Elt Ideal)) (h : RelTail.Post cfgs 0 (rdat m) (V0 m) [hostOps1] s) :
    s.mem ((cfg0.win w).arr.view.loc (c.tc : Thread nD τ)) = (dats m 0 c).arrAt w cfg0.N :=
  (((dats m 0 c).toR.override_arrAt (by simp only [hw]) cfg0.N _).trans ((dats m 0 c).toR_arrAt_iff w cfg0.N _)).mp ((h c).1 w)

/-- What the launch leaves in the four results and in its arguments. -/
theorem values : θ_run defs (onTc (τ := τ) (main (F := Ideal))) ⟨m, fun _ => 0, ρ⟩ (fun r => ∀ c : Dev nD,
      r.2.mem ((c.tc : Thread nD τ).loc main_v245) = (fun y => (gated m c).dg (mix m c) (y 0))
      ∧ r.2.mem ((c.tc : Thread nD τ).loc main_v247) = (fun y => (gated m c).db (mix m c) (y 0))
      ∧ r.2.mem ((c.tc : Thread nD τ).loc main_v243_4) = (fun y => (gated m c).dws (y 0) (y 1) (y 2))
      ∧ r.2.mem ((c.tc : Thread nD τ).loc main_v243_5) = (fun y => (gated m c).dbias (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(results m c r.2 h.1).1, (results m c r.2 h.1).2, (known m c 16 rfl r.2 h.1).trans (final16 m c), (known m c 17 rfl r.2 h.1).trans (final17 m c),
      frame_of_post m (rdat m) (A_eq m) r.2 h.1 c⟩) (run m ρ)

end Cert.EvenBwdIdeal.Run
-- ==== Proof.EvenEntry.lean ====
module
public import proofs.«01_k».proof.Proof.Gen.EvenBwdIdeal.Frame
public import proofs.«01_k».proof.Proof.EvenSpec
public import proofs.«01_k».proof.Proof.EvenPay
public import Idealize.ShloMosaic.Lib.Claim
public import Idealize.ShloMosaic.Lib.StableHlo.RunRead

@[expose] public section

set_option maxRecDepth 16384
noncomputable section
namespace Cert.EvenBwdIdeal.Run
open Cert.EvenBwdIdeal Cert.EvenBwdIdeal.Gen Idealize.ShloMosaic Idealize.ShloMosaic.TcCoe Idealize.SL.Sem

variable (m : (ℓ : Loc nD τ sig) → Buf (Elt Ideal) ℓ) (c : Dev nD)

/-- The packed rows: the layer norm's scale is row 3. -/
theorem entry_g (j : Fin 512) : (V m c main_v238 (ix2 3 j) : EReal) = m ((c : Thread nD τ).loc main_arg5) (ix1 j) := by
  have e : (StableHlo.upto (hostOps0 (F := Ideal)) (fun b => m (c, b)) 240 (Proc.devRef .tc main_v235) : FVec Ideal S1x512 .f32) =
      shapeCast S1x512 (m ((c : Thread nD τ).loc main_arg5) : FVec Ideal S512 .f32) shapeCasts_S512_S1x512 := by
    after_reads_simp
    rfl
  delta V
  after_reads_simp
  pointwise
  refine (congrFun e (ix2 0 j)).trans ?_
  pointwise

/-- The layer norm's shift is row 4. -/
theorem entry_b (j : Fin 512) : (V m c main_v238 (ix2 4 j) : EReal) = m ((c : Thread nD τ).loc main_arg6) (ix1 j) := by
  have e : (StableHlo.upto (hostOps0 (F := Ideal)) (fun b => m (c, b)) 241 (Proc.devRef .tc main_v236) : FVec Ideal S1x512 .f32) =
      shapeCast S1x512 (m ((c : Thread nD τ).loc main_arg6) : FVec Ideal S512 .f32) shapeCasts_S512_S1x512 := by
    after_reads_simp
    rfl
  delta V
  after_reads_simp
  pointwise
  refine (congrFun e (ix2 0 j)).trans ?_
  pointwise

/-- The launch reads the mixing matrices transposed. -/
theorem entry_w (h : Fin 8) (s t : Fin 128) : (V m c main_v242 (ix3 h t s) : EReal) = m ((c : Thread nD τ).loc main_arg7) (ix3 h s t) := by
  delta V
  after_reads_simp
  pointwise

end Cert.EvenBwdIdeal.Run
-- ==== Proof.EvenRefVal.lean ====
module
public import proofs.«01_k».proof.Proof.EvenMix
public import proofs.«01_k».proof.Proof.Gen.EvenRefIdeal.Run

@[expose] public section

set_option maxRecDepth 16384
noncomputable section
namespace Cert.EvenRefIdeal.Value
open Cert.EvenRefIdeal Cert.EvenRefIdeal.Gen Idealize.ShloMosaic Idealize.ShloMosaic.TcCoe Idealize.SL.Sem Cert.Rows

abbrev Rows5 := FVec Ideal S2x4096x512 .f32
abbrev Col1 := FVec Ideal S2x4096x1 .f32

/-- One number in every lane. -/
def lit (b : BitVec 32) : Rows5 := broadcastInDim S2x4096x512 ![] bcast_S_S2x4096x512 (constant S_ .f32 b)
def lit1 (b : BitVec 32) : Col1 := broadcastInDim S2x4096x1 ![] bcast_S_S2x4096x1 (constant S_ .f32 b)

def geluT (x : Rows5) : Rows5 :=
  mulf x (mulf (lit 0x3F000000#32) (addf (lit 0x3F800000#32) (Host.tanh (mulf (lit 0x3F4C422A#32) (addf x (mulf (lit 0x3D372713#32) (mulf (mulf x x) x)))))))
def siluT (x : Rows5) : Rows5 := mulf x (Host.divf (lit 0x3F800000#32) (addf (lit 0x3F800000#32) (Host.exp (Host.negf x))))

def half (Z : FVec Ideal S2x4096x3072 .f32) : FVec Ideal S2x4096x1536 .f32 := extractStridedSlice S2x4096x1536 ![0, 0, 1536] Z slices_S2x4096x3072_S2x4096x1536_0_0_1536
def uT (Z : FVec Ideal S2x4096x3072 .f32) : Rows5 := extractStridedSlice S2x4096x512 ![0, 0, 0] (half Z) slices_S2x4096x1536_S2x4096x512_0_0_0
def vT (Z : FVec Ideal S2x4096x3072 .f32) : Rows5 := extractStridedSlice S2x4096x512 ![0, 0, 512] (half Z) slices_S2x4096x1536_S2x4096x512_0_0_512
def gT (Z : FVec Ideal S2x4096x3072 .f32) : Rows5 := extractStridedSlice S2x4096x512 ![0, 0, 1024] (half Z) slices_S2x4096x1536_S2x4096x512_0_0_1024

/-- The cotangent of the mixed lanes. -/
def dsgT (Z : FVec Ideal S2x4096x3072 .f32) (D : FVec Ideal S2x4096x1024 .f32) : Rows5 :=
  mulf (geluT (uT Z)) (mulf (extractStridedSlice S2x4096x512 ![0, 0, 512] D slices_S2x4096x1024_S2x4096x512_0_0_512) (siluT (gT Z)))

def meanT (x : Rows5) : Col1 :=
  Host.divf (broadcastInDim S2x4096x1 ![0, 1] bcast_S2x4096_S2x4096x1_0_1 (Host.reduceAdd x (constant S_ .f32 0x00000000#32) reducesTo_S2x4096x512_S2x4096_d2 h_S_)) (lit1 0x44000000#32)
def devT (x : Rows5) : Rows5 := subf x (broadcastInDim S2x4096x512 ![0, 1, 2] bcast_S2x4096x1_S2x4096x512_0_1_2 (meanT x))
def rsT (x : Rows5) : Col1 := Host.rsqrt (addf (meanT (mulf (devT x) (devT x))) (lit1 0x3727C5AC#32))
def lnT (x : Rows5) (G B : FVec Ideal S512 .f32) : Rows5 :=
  addf (mulf (mulf (devT x) (broadcastInDim S2x4096x512 ![0, 1, 2] bcast_S2x4096x1_S2x4096x512_0_1_2 (rsT x)))
    (broadcastInDim S2x4096x512 ![0, 1, 2] bcast_S1x1x512_S2x4096x512_0_1_2 (broadcastInDim S1x1x512 ![2] bcast_S512_S1x1x512_2 G)))
    (broadcastInDim S2x4096x512 ![0, 1, 2] bcast_S1x1x512_S2x4096x512_0_1_2 (broadcastInDim S1x1x512 ![2] bcast_S512_S1x1x512_2 B))

def dwsT (Z : FVec Ideal S2x4096x3072 .f32) (D : FVec Ideal S2x4096x1024 .f32) (G B : FVec Ideal S512 .f32) : FVec Ideal S8x128x128 .f32 :=
  select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))))
    (Host.dotGeneral dot_S8x2x32x64x128_S2x32x128x8x64_S8x128x128_123_014_4_2_0_3 none
      (transpose S8x2x32x64x128 [3, 0, 1, 4, 2] (shapeCast S2x32x128x8x64 (shapeCast S2x32x128x512 (dsgT Z D) shapeCasts_S2x4096x512_S2x32x128x512) shapeCasts_S2x32x128x512_S2x32x128x8x64) transposes_S2x32x128x8x64_S8x2x32x64x128_3_0_1_4_2)
      (shapeCast S2x32x128x8x64 (lnT (geluT (vT Z)) G B) shapeCasts_S2x4096x512_S2x32x128x8x64))
    (broadcastInDim S8x128x128 ![] bcast_S_S8x128x128 (constant S_ .f32 0x00000000#32))

def dbiasT (Z : FVec Ideal S2x4096x3072 .f32) (D : FVec Ideal S2x4096x1024 .f32) : FVec Ideal S128x512 .f32 :=
  Host.reduceAdd (shapeCast S1x1x128x512 (Host.reduceAdd (shapeCast S2x32x128x512 (dsgT Z D) shapeCasts_S2x4096x512_S2x32x128x512) (constant S_ .f32 0x00000000#32) reducesTo_S2x32x128x512_S128x512_d0_1 h_S_) shapeCasts_S128x512_S1x1x128x512) (constant S_ .f32 0x00000000#32) reducesTo_S1x1x128x512_S128x512_d0_1 h_S_

/-- The mixing matrices, lower triangular. -/
def maskT (X : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))))
    X (broadcastInDim S8x128x128 ![] bcast_S_S8x128x128 (constant S_ .f32 0x00000000#32))

/-- The cotangent of the normed lanes. -/
def dvlT (Z : FVec Ideal S2x4096x3072 .f32) (D : FVec Ideal S2x4096x1024 .f32) (W : FVec Ideal S8x128x128 .f32) : Rows5 :=
  shapeCast S2x4096x512 (transpose S2x32x128x8x64 [1, 2, 4, 0, 3] (Host.dotGeneral dot_S8x2x32x64x128_S8x128x128_S8x2x32x64x128_4_1_123_2_0_0 none
    (transpose S8x2x32x64x128 [3, 0, 1, 4, 2] (shapeCast S2x32x128x8x64 (shapeCast S2x32x128x512 (dsgT Z D) shapeCasts_S2x4096x512_S2x32x128x512) shapeCasts_S2x32x128x512_S2x32x128x8x64) transposes_S2x32x128x8x64_S8x2x32x64x128_3_0_1_4_2)
    (maskT W)) transposes_S8x2x32x64x128_S2x32x128x8x64_1_2_4_0_3) shapeCasts_S2x32x128x8x64_S2x4096x512

/-- The sum over every position, at a lane. -/
def sumT (x : Rows5) : FVec Ideal S512 .f32 :=
  Host.reduceAdd (shapeCast S1x1x512 (Host.reduceAdd x (constant S_ .f32 0x00000000#32) reducesTo_S2x4096x512_S512_d0_1 h_S_) shapeCasts_S512_S1x1x512) (constant S_ .f32 0x00000000#32) reducesTo_S1x1x512_S512_d0_1 h_S_

def dbT (Z : FVec Ideal S2x4096x3072 .f32) (D : FVec Ideal S2x4096x1024 .f32) (W : FVec Ideal S8x128x128 .f32) : FVec Ideal S512 .f32 := sumT (dvlT Z D W)

def dgT (Z : FVec Ideal S2x4096x3072 .f32) (D : FVec Ideal S2x4096x1024 .f32) (W : FVec Ideal S8x128x128 .f32) : FVec Ideal S512 .f32 :=
  sumT (mulf (mulf (devT (geluT (vT Z))) (broadcastInDim S2x4096x512 ![0, 1, 2] bcast_S2x4096x1_S2x4096x512_0_1_2 (rsT (geluT (vT Z))))) (dvlT Z D W))

section
variable (m : (ℓ : Loc nD τ sig) → Buf (Elt Ideal) ℓ) (c : Dev nD)
theorem res_dws : res_main_v85 m c = dwsT (m ((c.tc : Thread nD τ).loc main_arg0)) (m ((c.tc : Thread nD τ).loc main_arg9)) (m ((c.tc : Thread nD τ).loc main_arg5)) (m ((c.tc : Thread nD τ).loc main_arg6)) := rfl
theorem res_dg : res_main_v93 m c = dgT (m ((c.tc : Thread nD τ).loc main_arg0)) (m ((c.tc : Thread nD τ).loc main_arg9)) (m ((c.tc : Thread nD τ).loc main_arg7)) := rfl
end

variable (A : Gated)

theorem gelu_at (x : Rows5) (i : Fin 2) (s : Fin 4096) (j : Fin 512) : (geluT x (ix3 i s j) : EReal) = gelu (x (ix3 i s j)) := by
  pointwise [geluT, lit]
  rw [gelu, mul_assoc (x (ix3 i s j) : EReal) (x (ix3 i s j) : EReal), ← mul_assoc, mul_comm (x (ix3 i s j) : EReal) (Ideal.ofBits .f32 0x3F000000#32)]

theorem silu_at (x : Rows5) (i : Fin 2) (s : Fin 4096) (j : Fin 512) : (siluT x (ix3 i s j) : EReal) = silu (x (ix3 i s j)) := by
  pointwise [siluT, lit]
  rfl

theorem u_at (i : Fin 2) (s : Fin 4096) (j : Fin 512) : (uT A.z (ix3 i s j) : EReal) = A.z (ix3 i s (col 3 j)) := by
  pointwise [uT, half]
  rfl
theorem v_at (i : Fin 2) (s : Fin 4096) (j : Fin 512) : (vT A.z (ix3 i s j) : EReal) = A.z (ix3 i s (col 4 j)) := by
  pointwise [vT, half]
  exact congrArg A.z (congrArg (ix3 i s) (Fin.ext (by show 1536 + (512 + j.val) = 512 * 4 + j.val; omega)))
theorem g_at (i : Fin 2) (s : Fin 4096) (j : Fin 512) : (gT A.z (ix3 i s j) : EReal) = A.z (ix3 i s (col 5 j)) := by
  pointwise [gT, half]
  exact congrArg A.z (congrArg (ix3 i s) (Fin.ext (by show 1536 + (1024 + j.val) = 512 * 5 + j.val; omega)))

theorem dsg_at (i : Fin 2) (s : Fin 4096) (j : Fin 512) : (dsgT A.z A.dy (ix3 i s j) : EReal) = A.dsg i s j := by
  pointwise [dsgT, gelu_at, silu_at, u_at, g_at]
  rw [Gated.dsg, ← mul_assoc, mul_comm (gelu _) (A.dy _)]
  rfl

theorem mean_at (x : Rows5) (i : Fin 2) (s : Fin 4096) (j : Fin 1) : (meanT x (ix3 i s j) : EReal) = mean lanes (fun k => x (ix3 i s k)) := by
  pointwise [meanT, lit1]
  rfl
theorem dev_at (x : Rows5) (i : Fin 2) (s : Fin 4096) (j : Fin 512) : (devT x (ix3 i s j) : EReal) = dev lanes (fun k => x (ix3 i s k)) j := by
  pointwise [devT, mean_at]
  rfl
theorem rs_at (x : Rows5) (i : Fin 2) (s : Fin 4096) (j : Fin 1) : (rsT x (ix3 i s j) : EReal) = rs lanes eps (fun k => x (ix3 i s k)) := by
  pointwise [rsT, mean_at, dev_at, lit1]
  rfl

theorem vl_at (i : Fin 2) (s : Fin 4096) (j : Fin 512) : (lnT (geluT (vT A.z)) A.g A.b (ix3 i s j) : EReal) = A.vl i s j := by
  pointwise [lnT, dev_at, rs_at, gelu_at, v_at]
  rfl

theorem tri_bit : ∀ t s : Fin 128, IntOp.cmpi .sge (IntOp.addi (BitVec.ofNat 32 t.val) 0#32) (BitVec.ofNat 32 s.val) = if s ≤ t then 1#1 else 0#1 := by
  decide +kernel

theorem mask_at (t s : Fin 128) (x : EReal) :
    (Scalar.select (Scalar.select (IntOp.cmpi .sge (IntOp.addi (BitVec.ofNat 32 t.val) 0#32) (BitVec.ofNat 32 s.val)) (1#1) (0#1)) x 0 : EReal) =
      if s ≤ t then x else 0 := by
  rw [tri_bit]
  by_cases h : s ≤ t
  · rw [if_pos h, if_pos h]; rfl
  · rw [if_neg h, if_neg h]; rfl

theorem pos_eq (n : Fin 32) (t : Fin 128) (h : n.val * 128 + t.val < 4096) : (⟨n.val * 128 + t.val, h⟩ : Fin 4096) = pos n t := Fin.ext (by show n.val * 128 + t.val = 128 * n.val + t.val; omega)
theorem lane_eq (n : Fin 8) (t : Fin 64) (h : n.val * 64 + t.val < 512) : (⟨n.val * 64 + t.val, h⟩ : Fin 512) = lane n t := Fin.ext (by show n.val * 64 + t.val = 64 * n.val + t.val; omega)

/-- A sum over the blocks of both sequences, at a row and a lane. -/
theorem reduce_blocks (x : FVec Ideal S2x32x128x512 .f32) (t : Fin 128) (j : Fin 512) :
    Ideal.hostReduceAdd reducesTo_S2x32x128x512_S128x512_d0_1 x 0 (ix2 t j) = ∑ i : Fin 2, ∑ n : Fin 32, (x (ix4 i n t j) : EReal) := by
  unfold Ideal.hostReduceAdd
  rw [zero_add, Finset.sum_filter]
  refine (sum_idx4 _).trans (Finset.sum_congr rfl fun i _ => Finset.sum_congr rfl fun n _ => ?_)
  have e : ∀ (t' : Fin 128) (j' : Fin 512), (reducesTo_S2x32x128x512_S128x512_d0_1.drop (ix4 i n t' j') = ix2 t j) ↔ (t' = t ∧ j' = j) := fun t' j' => by
    constructor
    · intro h
      exact ⟨congrFun h 0, congrFun h 1⟩
    · rintro ⟨rfl, rfl⟩
      funext a
      fin_cases a <;> rfl
  simp only [e, ite_and, Finset.sum_ite_eq', Finset.sum_ite_irrel, Finset.mem_univ, if_true, Finset.sum_const_zero]

theorem reduce_one (x : FVec Ideal S1x1x128x512 .f32) (t : Fin 128) (j : Fin 512) :
    Ideal.hostReduceAdd reducesTo_S1x1x128x512_S128x512_d0_1 x 0 (ix2 t j) = (x (ix4 0 0 t j) : EReal) := by
  unfold Ideal.hostReduceAdd
  rw [zero_add, Finset.sum_filter]
  refine (sum_idx4 _).trans ?_
  rw [Fin.sum_univ_one, Fin.sum_univ_one]
  have e : ∀ (t' : Fin 128) (j' : Fin 512), (reducesTo_S1x1x128x512_S128x512_d0_1.drop (ix4 0 0 t' j') = ix2 t j) ↔ (t' = t ∧ j' = j) := fun t' j' => by
    constructor
    · intro h
      exact ⟨congrFun h 0, congrFun h 1⟩
    · rintro ⟨rfl, rfl⟩
      funext a
      fin_cases a <;> rfl
  simp only [e, ite_and, Finset.sum_ite_eq', Finset.sum_ite_irrel, Finset.mem_univ, if_true, Finset.sum_const_zero]

theorem block_at (i : Fin 2) (n : Fin 32) (t : Fin 128) (j : Fin 512) :
    (shapeCast S2x32x128x512 (dsgT A.z A.dy) shapeCasts_S2x4096x512_S2x32x128x512 (ix4 i n t j) : EReal) = A.dsg i (pos n t) j := by
  pointwise [dsg_at]
  rw [pos_eq]

theorem dbias_at (t : Fin 128) (j : Fin 512) : (dbiasT A.z A.dy (ix2 t j) : EReal) = A.dbias t j := by
  pointwise [dbiasT]
  rw [reduce_one]
  pointwise
  rw [reduce_blocks]
  exact Finset.sum_congr rfl fun i _ => Finset.sum_congr rfl fun n _ => block_at A i n t j

theorem left_at (h : Fin 8) (i : Fin 2) (n : Fin 32) (d : Fin 64) (t : Fin 128) :
    (transpose S8x2x32x64x128 [3, 0, 1, 4, 2] (shapeCast S2x32x128x8x64 (shapeCast S2x32x128x512 (dsgT A.z A.dy) shapeCasts_S2x4096x512_S2x32x128x512) shapeCasts_S2x32x128x512_S2x32x128x8x64) transposes_S2x32x128x8x64_S8x2x32x64x128_3_0_1_4_2 (ix5 h i n d t) : EReal)
      = A.dsg i (pos n t) (lane h d) := by
  pointwise [dsg_at]
  rw [pos_eq, lane_eq]

theorem right_at (h : Fin 8) (i : Fin 2) (n : Fin 32) (d : Fin 64) (s : Fin 128) :
    (shapeCast S2x32x128x8x64 (lnT (geluT (vT A.z)) A.g A.b) shapeCasts_S2x4096x512_S2x32x128x8x64 (ix5 i n s h d) : EReal) = A.vl i (pos n s) (lane h d) := by
  pointwise [vl_at]
  rw [pos_eq, lane_eq]

theorem contr_size : ∀ a : Fin 3, dot_S8x2x32x64x128_S2x32x128x8x64_S8x128x128_123_014_4_2_0_3.contr.size a = (![2, 32, 64] : Fin 3 → ℕ) a := by
  intro a; fin_cases a <;> rfl

/-- The three summed coordinates: the sequence, the block and the lane of a head. -/
def contr : (⟨3, ![2, 32, 64]⟩ : Shape).Idx ≃ dot_S8x2x32x64x128_S2x32x128x8x64_S8x128x128_123_014_4_2_0_3.contr.Idx where
  toFun q := fun a => (q a).cast (contr_size a).symm
  invFun q := fun a => (q a).cast (contr_size a)
  left_inv _ := rfl
  right_inv _ := rfl

theorem dot_at (L : FVec Ideal S8x2x32x64x128 .f32) (R : FVec Ideal S2x32x128x8x64 .f32) (h : Fin 8) (t s : Fin 128) :
    (Ideal.matmul dot_S8x2x32x64x128_S2x32x128x8x64_S8x128x128_123_014_4_2_0_3 L R (fun _ => 0) (ix3 h t s) : EReal) =
      ∑ i : Fin 2, ∑ n : Fin 32, ∑ d : Fin 64, (L (ix5 h i n d t) : EReal) * R (ix5 i n s h d) := by
  unfold Ideal.matmul
  rw [zero_add]
  rw [← Equiv.sum_comp contr]
  refine (sum_idx3 (M := EReal) (n0 := 2) (n1 := 32) (n2 := 64) _).trans ?_
  refine Finset.sum_congr rfl fun i _ => Finset.sum_congr rfl fun n _ => Finset.sum_congr rfl fun d _ => ?_
  congr 2
  · funext a; fin_cases a <;> rfl
  · funext a; fin_cases a <;> rfl

theorem masked (X : FVec Ideal S8x128x128 .f32) (h : Fin 8) (t s : Fin 128) :
    (select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))))
      X (broadcastInDim S8x128x128 ![] bcast_S_S8x128x128 (constant (F := Ideal) S_ .f32 0x00000000#32) : FVec Ideal S8x128x128 .f32) (ix3 h t s) : EReal) = if s ≤ t then X (ix3 h t s) else 0 := by
  pointwise
  exact mask_at t s _

theorem host_dot (L : FVec Ideal S8x2x32x64x128 .f32) (R : FVec Ideal S2x32x128x8x64 .f32) (h : Fin 8) (t s : Fin 128) :
    (Host.dotGeneral (F := Ideal) dot_S8x2x32x64x128_S2x32x128x8x64_S8x128x128_123_014_4_2_0_3 none L R (ix3 h t s) : EReal) =
      ∑ i : Fin 2, ∑ n : Fin 32, ∑ d : Fin 64, (L (ix5 h i n d t) : EReal) * R (ix5 i n s h d) := by
  pointwise
  exact dot_at L R h t s

theorem dws_at (h : Fin 8) (t s : Fin 128) : (dwsT A.z A.dy A.g A.b (ix3 h t s) : EReal) = A.dws h t s := by
  unfold dwsT
  refine (masked _ h t s).trans ?_
  unfold Gated.dws Gated.dwsBlk
  by_cases hs : s ≤ t
  · simp only [if_pos hs]
    refine (host_dot _ _ h t s).trans ?_
    exact Finset.sum_congr rfl fun i _ => Finset.sum_congr rfl fun n _ => Finset.sum_congr rfl fun d _ =>
      congrArg₂ (fun x y : EReal => x * y) (left_at A h i n d t) (right_at A h i n d s)
  · simp only [if_neg hs, Finset.sum_const_zero]

theorem reduce_rows (x : Rows5) (j : Fin 512) :
    Ideal.hostReduceAdd reducesTo_S2x4096x512_S512_d0_1 x 0 (ix1 j) = ∑ i : Fin 2, ∑ p : Fin 4096, (x (ix3 i p j) : EReal) := by
  unfold Ideal.hostReduceAdd
  rw [zero_add, Finset.sum_filter]
  refine (sum_idx3 _).trans (Finset.sum_congr rfl fun i _ => Finset.sum_congr rfl fun p _ => ?_)
  have e : ∀ j' : Fin 512, (reducesTo_S2x4096x512_S512_d0_1.drop (ix3 i p j') = ix1 j) ↔ j' = j := fun j' => by
    constructor
    · intro h
      exact congrFun h 0
    · rintro rfl
      funext a
      fin_cases a
      rfl
  simp only [e, Finset.sum_ite_eq', Finset.mem_univ, if_true]

theorem reduce_row (x : FVec Ideal S1x1x512 .f32) (j : Fin 512) :
    Ideal.hostReduceAdd reducesTo_S1x1x512_S512_d0_1 x 0 (ix1 j) = (x (ix3 0 0 j) : EReal) := by
  unfold Ideal.hostReduceAdd
  rw [zero_add, Finset.sum_filter]
  refine (sum_idx3 _).trans ?_
  rw [Fin.sum_univ_one, Fin.sum_univ_one]
  have e : ∀ j' : Fin 512, (reducesTo_S1x1x512_S512_d0_1.drop (ix3 0 0 j') = ix1 j) ↔ j' = j := fun j' => by
    constructor
    · intro h
      exact congrFun h 0
    · rintro rfl
      funext a
      fin_cases a
      rfl
  simp only [e, Finset.sum_ite_eq', Finset.mem_univ, if_true]

theorem sum_at (x : Rows5) (j : Fin 512) : (sumT x (ix1 j) : EReal) = ∑ i : Fin 2, ∑ p : Fin 4096, (x (ix3 i p j) : EReal) := by
  pointwise [sumT]
  rw [reduce_row]
  pointwise
  rw [reduce_rows]

/-- The positions are the blocks' positions. -/
theorem sum_pos (f : Fin 4096 → EReal) : (∑ p : Fin 4096, f p) = ∑ n : Fin 32, ∑ s : Fin 128, f (pos n s) := by
  rw [← Fintype.sum_prod_type' (fun n s => f (pos n s))]
  refine (Fintype.sum_equiv (finProdFinEquiv.trans (finCongr (by norm_num : 32 * 128 = 4096))) _ _ fun q => ?_).symm
  refine congrArg f (Fin.ext ?_)
  show 128 * q.1.val + q.2.val = q.2.val + 128 * q.1.val
  omega

theorem mix_at (X : FVec Ideal S2x32x128x8x64 .f32) (i : Fin 2) (n : Fin 32) (s : Fin 128) (h : Fin 8) (d : Fin 64) :
    (shapeCast S2x4096x512 X shapeCasts_S2x32x128x8x64_S2x4096x512 (ix3 i (pos n s) (lane h d)) : EReal) = X (ix5 i n s h d) := by
  pointwise
  have e1 : ∀ h', (⟨(pos n s).val / 128, h'⟩ : Fin 32) = n := fun _ => Fin.ext (by show (128 * n.val + s.val) / 128 = n.val; omega)
  have e2 : ∀ h', (⟨(pos n s).val % 128, h'⟩ : Fin 128) = s := fun _ => Fin.ext (by show (128 * n.val + s.val) % 128 = s.val; omega)
  have e3 : ∀ h', (⟨(lane h d).val / 64, h'⟩ : Fin 8) = h := fun _ => Fin.ext (by show (64 * h.val + d.val) / 64 = h.val; omega)
  have e4 : ∀ h', (⟨(lane h d).val % 64, h'⟩ : Fin 64) = d := fun _ => Fin.ext (by show (64 * h.val + d.val) % 64 = d.val; omega)
  rw [e1, e2, e3, e4]

theorem lane_head (j : Fin 512) : lane (head j) ⟨j.val % 64, Nat.mod_lt _ (by decide)⟩ = j := Fin.ext (by show 64 * (j.val / 64) + j.val % 64 = j.val; omega)

theorem dvl_at (W : FVec Ideal S8x128x128 .f32) (i : Fin 2) (n : Fin 32) (s : Fin 128) (j : Fin 512) :
    (dvlT A.z A.dy W (ix3 i (pos n s) j) : EReal) = A.dvl (fun h t s => W (ix3 h t s)) i n s j := by
  have key : ∀ (h : Fin 8) (d : Fin 64), lane h d = j → h = head j → (dvlT A.z A.dy W (ix3 i (pos n s) j) : EReal) = A.dvl (fun h t s => W (ix3 h t s)) i n s j := by
    rintro h d rfl e
    unfold dvlT
    refine (mix_at _ i n s h d).trans ?_
    pointwise
    unfold Gated.dvl
    rw [← e]
    refine Finset.sum_congr rfl fun t _ => ?_
    rw [pos_eq, lane_eq]
    refine (congrArg₂ (fun x y : EReal => x * y) (dsg_at A i (pos n t) (lane h d)) (masked W h t s)).trans ?_
    by_cases hs : s ≤ t
    · simp only [if_pos hs]; exact mul_comm _ _
    · simp only [if_neg hs]; exact mul_zero _
  exact key _ _ (lane_head j) rfl

theorem db_at (W : FVec Ideal S8x128x128 .f32) (j : Fin 512) : (dbT A.z A.dy W (ix1 j) : EReal) = A.db (fun h t s => W (ix3 h t s)) j := by
  unfold dbT
  refine (sum_at _ j).trans (Finset.sum_congr rfl fun i _ => (sum_pos _).trans (Finset.sum_congr rfl fun n _ => Finset.sum_congr rfl fun s _ => ?_))
  exact dvl_at A W i n s j

theorem xh_at (i : Fin 2) (p : Fin 4096) (j : Fin 512) :
    (mulf (devT (geluT (vT A.z))) (broadcastInDim S2x4096x512 ![0, 1, 2] bcast_S2x4096x1_S2x4096x512_0_1_2 (rsT (geluT (vT A.z)))) (ix3 i p j) : EReal) = Rows.xh lanes eps (A.va i p) j := by
  pointwise [dev_at, rs_at, gelu_at, v_at]
  rfl

theorem dg_at (W : FVec Ideal S8x128x128 .f32) (j : Fin 512) : (dgT A.z A.dy W (ix1 j) : EReal) = A.dg (fun h t s => W (ix3 h t s)) j := by
  unfold dgT
  refine (sum_at _ j).trans (Finset.sum_congr rfl fun i _ => (sum_pos _).trans (Finset.sum_congr rfl fun n _ => Finset.sum_congr rfl fun s _ => ?_))
  exact (congrArg₂ (fun x y : EReal => x * y) (xh_at A i (pos n s) j) (dvl_at A W i n s j)).trans (mul_comm _ _)

end Cert.EvenRefIdeal.Value
-- ==== Proof.OddBase.lean ====
module
public import proofs.«01_k».proof.Proof.Gen.OddBwdIdeal.Frame
public import proofs.«01_k».proof.Proof.Gen.OddBwdIdeal.Loops

@[expose] public section

set_option maxRecDepth 16384
noncomputable section
namespace Cert.OddBwdIdeal.Run
open Cert.OddBwdIdeal Cert.OddBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body clears its accumulators at the grid's first point. -/
abbrev first (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

theorem first_iff (t : Fin cfg0.N) : first (grid0.coords t) ↔ t.val = 0 := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  have h : first (grid0.coords t) ↔ t.val % 16 = 0 := by
    simp only [first, e0, e1]
    word_cmp
  rw [h]; omega

abbrev st0 (t : Fin cfg0.N) : Memref sig .tc .vmem S1x512x3072 .f32 := win0_0.stage (cfg0.slots t 0)
abbrev st1 (t : Fin cfg0.N) : Memref sig .tc .vmem S1x32x3072 .f32 := win0_1.stage (cfg0.slots t 1)
abbrev st2 (t : Fin cfg0.N) : Memref sig .tc .vmem S1x32x3072 .f32 := win0_2.stage (cfg0.slots t 2)
abbrev st3 (t : Fin cfg0.N) : Memref sig .tc .vmem S1x512x1024 .f32 := win0_3.stage (cfg0.slots t 3)
abbrev st4 (t : Fin cfg0.N) : Memref sig .tc .vmem S1x32x1024 .f32 := win0_4.stage (cfg0.slots t 4)
abbrev st5 (t : Fin cfg0.N) : Memref sig .tc .vmem S4x128x128 .bf16 := win0_5.stage (cfg0.slots t 5)
abbrev st6 (t : Fin cfg0.N) : Memref sig .tc .vmem S8x512 .f32 := win0_6.stage (cfg0.slots t 6)
abbrev st7 (t : Fin cfg0.N) : Memref sig .tc .vmem S1x512x3072 .bf16 := win0_7.stage (cfg0.slots t 7)
abbrev st8 (t : Fin cfg0.N) : Memref sig .tc .vmem S1x3072 .f32 := win0_8.stage (cfg0.slots t 8)
abbrev st9 (t : Fin cfg0.N) : Memref sig .tc .vmem S4x128x128 .f32 := win0_9.stage (cfg0.slots t 9)
abbrev st10 (t : Fin cfg0.N) : Memref sig .tc .vmem S8x512 .f32 := win0_10.stage (cfg0.slots t 10)
abbrev sc0 : Memref sig .tc .vmem S544x512 .f32 := Memref.whole cc0_scratch0
abbrev sc1 : Memref sig .tc .vmem S544x512 .f32 := Memref.whole cc0_scratch1
abbrev sc2 : Memref sig .tc .vmem S544x512 .f32 := Memref.whole cc0_scratch2
abbrev sc3 : Memref sig .tc .vmem S544x512 .f32 := Memref.whole cc0_scratch3
abbrev sc4 : Memref sig .tc .vmem S544x512 .f32 := Memref.whole cc0_scratch4
abbrev sc5 : Memref sig .tc .vmem S512x512 .f32 := Memref.whole cc0_scratch5
abbrev sc6 : Memref sig .tc .vmem S544x512 .f32 := Memref.whole cc0_scratch6
abbrev sc7 : Memref sig .tc .vmem S512x512 .f32 := Memref.whole cc0_scratch7
abbrev sc8 : Memref sig .tc .vmem S544x512 .f32 := Memref.whole cc0_scratch8
abbrev sc9 : Memref sig .tc .vmem S544x512 .f32 := Memref.whole cc0_scratch9
abbrev sc10 : Memref sig .tc .vmem S544x512 .f32 := Memref.whole cc0_scratch10
abbrev sc11 : Memref sig .tc .vmem S544x512 .f32 := Memref.whole cc0_scratch11
abbrev sc12 : Memref sig .tc .vmem S544x512 .f32 := Memref.whole cc0_scratch12
abbrev sc13 : Memref sig .tc .vmem S544x512 .f32 := Memref.whole cc0_scratch13
abbrev sc14 : Memref sig .tc .vmem S512x512 .f32 := Memref.whole cc0_scratch14

/-- What the region keeps between points: the scratch buffers at some contents and the generator's register. -/
theorem kept_eq (c : Dev nD) : (Pipeline.ΦA spec0 c : sProp (MT nD τ sig Unit (Elt F) ℕ (UR sig nD τ) ℕ)) =
    iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d) ∗ (∃ d, owns (c : Thread nD τ) sc11 fullShare d) ∗ (∃ d, owns (c : Thread nD τ) sc12 fullShare d) ∗ (∃ d, owns (c : Thread nD τ) sc13 fullShare d) ∗ (∃ d, owns (c : Thread nD τ) sc14 fullShare d)) ∗ (∃ r, prngReg c r)) := by
  unfold Pipeline.ΦA; rw [scopedRest0_eq]; simp only [sc0, sc1, sc2, sc3, sc4, sc5, sc6, sc7, sc8, sc9, sc10, sc11, sc12, sc13, sc14, owns_whole]; try rfl

/-- The argument arrays end as they were launched, from any run of the launch that keeps its inputs. -/
theorem frame_of_rel (m : (ℓ : Loc nD τ sig) → Buf (Elt F) ℓ) (ρ : Dev nD → PrngReg)
    (rdat : (c : Dev nD) → Pipeline.RDat τ (Elt F) Unit ℕ (UR sig nD τ) ℕ (cfgs 0) c) (hA : ∀ c w, (rdat c).A w = V m c (Pipeline.arrRef spec0 w))
    (r : _) (h : Pipeline.RDat.FramePost (cfgs 0) rdat (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have rest (b : Ref sig .tc) (h1 : _) (h2 : _) := (h c).2 b (Pipeline.mem_restRefs_of b h1 h2)
  exact ⟨(Pipeline.RDat.FramePost.arr_in h c 2 rfl).trans ((hA c 2).trans (V_main_arg0 m c)),
    (rest main_arg1 (by decide) (by decide)).trans (V_main_arg1 m c), (rest main_arg2 (by decide) (by decide)).trans (V_main_arg2 m c), (rest main_arg3 (by decide) (by decide)).trans (V_main_arg3 m c),
    (Pipeline.RDat.FramePost.arr_in h c 4 rfl).trans ((hA c 4).trans (V_main_arg4 m c))⟩

end Cert.OddBwdIdeal.Run
-- ==== Proof.OddLoop.lean ====
module
public import proofs.«01_k».proof.Proof.Gen.OddBwdIdeal.Loops

@[expose] public section

set_option maxRecDepth 16384
noncomputable section
namespace Cert.OddBwdIdeal.Run
open Cert.OddBwdIdeal Cert.OddBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What the block loop holds before every trip: the buffers it only reads at their contents, the buffers it writes at some. -/
abbrev blockInv (c : Dev nD) (arg2 : Memref sig .tc .vmem S1x512x3072 .f32) (arg5 : Memref sig .tc .vmem S1x512x1024 .f32) (arg7 : Memref sig .tc .vmem S4x128x128 .bf16) (arg8 : Memref sig .tc .vmem S8x512 .f32) (arg18 : Memref sig .tc .vmem S512x512 .f32) (arg20 : Memref sig .tc .vmem S512x512 .f32) (arg9 : Memref sig .tc .vmem S1x512x3072 .bf16) (arg10 : Memref sig .tc .vmem S1x3072 .f32) (arg11 : Memref sig .tc .vmem S4x128x128 .f32) (arg12 : Memref sig .tc .vmem S8x512 .f32) (arg21 : Memref sig .tc .vmem S544x512 .f32) (arg22 : Memref sig .tc .vmem S544x512 .f32) (arg23 : Memref sig .tc .vmem S544x512 .f32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg18 : BufTy.Contents (Elt F) arg18.view.ty) (X_arg20 : BufTy.Contents (Elt F) arg20.view.ty) (k : ℕ) (_u : PUnit) : sProp (MT nD τ sig Unit (Elt F) ℕ (UR sig nD τ) ℕ) :=
  iprop((arg2.view.loc (c : Thread nD τ) ↦[arg2.view.set]{fullShare} X_arg2) ∗ (arg5.view.loc (c : Thread nD τ) ↦[arg5.view.set]{fullShare} X_arg5) ∗ (arg7.view.loc (c : Thread nD τ) ↦[arg7.view.set]{fullShare} X_arg7) ∗ (arg8.view.loc (c : Thread nD τ) ↦[arg8.view.set]{fullShare} X_arg8) ∗ (arg18.view.loc (c : Thread nD τ) ↦[arg18.view.set]{fullShare} X_arg18) ∗ (arg20.view.loc (c : Thread nD τ) ↦[arg20.view.set]{fullShare} X_arg20) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)))

set_option maxHeartbeats 4000000 in
set_option warn.classDefReducibility false in
/-- The block loop ends and keeps what it only reads. -/
@[sl_loop] def blockLoop (𝒱 : Variants) (c : Dev nD) (bd : Option 𝒱.V) (E : Set ℕ) (i : grid0.Coords) (arg2 : Memref sig .tc .vmem S1x512x3072 .f32) (harg2 : arg2.IsWhole) (arg3 : Memref sig .tc .vmem S1x32x3072 .f32) (harg3 : arg3.IsWhole) (arg4 : Memref sig .tc .vmem S1x32x3072 .f32) (harg4 : arg4.IsWhole) (arg5 : Memref sig .tc .vmem S1x512x1024 .f32) (harg5 : arg5.IsWhole) (arg6 : Memref sig .tc .vmem S1x32x1024 .f32) (harg6 : arg6.IsWhole) (arg7 : Memref sig .tc .vmem S4x128x128 .bf16) (harg7 : arg7.IsWhole) (arg8 : Memref sig .tc .vmem S8x512 .f32) (harg8 : arg8.IsWhole) (arg9 : Memref sig .tc .vmem S1x512x3072 .bf16) (harg9 : arg9.IsWhole) (arg10 : Memref sig .tc .vmem S1x3072 .f32) (harg10 : arg10.IsWhole) (arg11 : Memref sig .tc .vmem S4x128x128 .f32) (harg11 : arg11.IsWhole) (arg12 : Memref sig .tc .vmem S8x512 .f32) (harg12 : arg12.IsWhole) (arg13 : Memref sig .tc .vmem S544x512 .f32) (harg13 : arg13.IsWhole) (arg14 : Memref sig .tc .vmem S544x512 .f32) (harg14 : arg14.IsWhole) (arg15 : Memref sig .tc .vmem S544x512 .f32) (harg15 : arg15.IsWhole) (arg16 : Memref sig .tc .vmem S544x512 .f32) (harg16 : arg16.IsWhole) (arg17 : Memref sig .tc .vmem S544x512 .f32) (harg17 : arg17.IsWhole) (arg18 : Memref sig .tc .vmem S512x512 .f32) (harg18 : arg18.IsWhole) (arg19 : Memref sig .tc .vmem S544x512 .f32) (harg19 : arg19.IsWhole) (arg20 : Memref sig .tc .vmem S512x512 .f32) (harg20 : arg20.IsWhole) (arg21 : Memref sig .tc .vmem S544x512 .f32) (harg21 : arg21.IsWhole) (arg22 : Memref sig .tc .vmem S544x512 .f32) (harg22 : arg22.IsWhole) (arg23 : Memref sig .tc .vmem S544x512 .f32) (harg23 : arg23.IsWhole) (arg24 : Memref sig .tc .vmem S544x512 .f32) (harg24 : arg24.IsWhole) (arg25 : Memref sig .tc .vmem S544x512 .f32) (harg25 : arg25.IsWhole) (arg26 : Memref sig .tc .vmem S544x512 .f32) (harg26 : arg26.IsWhole) (arg27 : Memref sig .tc .vmem S512x512 .f32) (harg27 : arg27.IsWhole) (arg1 : BitVec 32) (v850 : FVec F S64x512 .f32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg18 : BufTy.Contents (Elt F) arg18.view.ty) (X_arg20 : BufTy.Contents (Elt F) arg20.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v850 where
  inv := blockInv c arg2 arg5 arg7 arg8 arg18 arg20 arg9 arg10 arg11 arg12 arg21 arg22 arg23 X_arg2 X_arg5 X_arg7 X_arg8 X_arg18 X_arg20
  step k acc := by
    have hk : k.val < 4 := Nat.lt_of_lt_of_le k.isLt k0_t1_abs.2.1
    unfold k0_t1_body
    simp only [k0_part1_eq_skeleton, k0_part2_eq_skeleton, k0_part3_eq_skeleton, k0_part4_eq_skeleton, k0_part5_eq_skeleton, k0_part6_eq_skeleton]
    iintro ⟨H2, H5, H7, H8, H18, H20, ⟨%f9, H9⟩, ⟨%f10, H10⟩, ⟨%f11, H11⟩, ⟨%f12, H12⟩, ⟨%f21, H21⟩, ⟨%f22, H22⟩, ⟨%f23, H23⟩⟩
    sl_exec
    sl_step
    isplitl [H2]; · iexact H2
    isplitl [H5]; · iexact H5
    isplitl [H7]; · iexact H7
    isplitl [H8]; · iexact H8
    isplitl [H18]; · iexact H18
    isplitl [H20]; · iexact H20
    isplitl [H9]; · iexists _; iexact H9
    isplitl [H10]; · iexists _; iexact H10
    isplitl [H11]; · iexists _; iexact H11
    isplitl [H12]; · iexists _; iexact H12
    isplitl [H21]; · iexists _; iexact H21
    isplitl [H22]; · iexists _; iexact H22
    iexists _; iexact H23

end Cert.OddBwdIdeal.Run
-- ==== Proof.OddRunA.lean ====
module
public import proofs.«01_k».proof.Proof.OddBase
public import proofs.«01_k».proof.Proof.OddLoop

@[expose] public section

set_option maxRecDepth 16384
noncomputable section
namespace Cert.OddBwdIdeal.Run
open Cert.OddBwdIdeal Cert.OddBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- At the first point the body runs, keeps its inputs and ends. -/
theorem runA (c : Dev nD) (i : grid0.Coords) (arg2 : Memref sig .tc .vmem S1x512x3072 .f32) (harg2 : arg2.IsWhole) (arg3 : Memref sig .tc .vmem S1x32x3072 .f32) (harg3 : arg3.IsWhole) (arg4 : Memref sig .tc .vmem S1x32x3072 .f32) (harg4 : arg4.IsWhole) (arg5 : Memref sig .tc .vmem S1x512x1024 .f32) (harg5 : arg5.IsWhole) (arg6 : Memref sig .tc .vmem S1x32x1024 .f32) (harg6 : arg6.IsWhole) (arg7 : Memref sig .tc .vmem S4x128x128 .bf16) (harg7 : arg7.IsWhole) (arg8 : Memref sig .tc .vmem S8x512 .f32) (harg8 : arg8.IsWhole) (arg9 : Memref sig .tc .vmem S1x512x3072 .bf16) (harg9 : arg9.IsWhole) (arg10 : Memref sig .tc .vmem S1x3072 .f32) (harg10 : arg10.IsWhole) (arg11 : Memref sig .tc .vmem S4x128x128 .f32) (harg11 : arg11.IsWhole) (arg12 : Memref sig .tc .vmem S8x512 .f32) (harg12 : arg12.IsWhole) (arg13 : Memref sig .tc .vmem S544x512 .f32) (harg13 : arg13.IsWhole) (arg14 : Memref sig .tc .vmem S544x512 .f32) (harg14 : arg14.IsWhole) (arg15 : Memref sig .tc .vmem S544x512 .f32) (harg15 : arg15.IsWhole) (arg16 : Memref sig .tc .vmem S544x512 .f32) (harg16 : arg16.IsWhole) (arg17 : Memref sig .tc .vmem S544x512 .f32) (harg17 : arg17.IsWhole) (arg18 : Memref sig .tc .vmem S512x512 .f32) (harg18 : arg18.IsWhole) (arg19 : Memref sig .tc .vmem S544x512 .f32) (harg19 : arg19.IsWhole) (arg20 : Memref sig .tc .vmem S512x512 .f32) (harg20 : arg20.IsWhole) (arg21 : Memref sig .tc .vmem S544x512 .f32) (harg21 : arg21.IsWhole) (arg22 : Memref sig .tc .vmem S544x512 .f32) (harg22 : arg22.IsWhole) (arg23 : Memref sig .tc .vmem S544x512 .f32) (harg23 : arg23.IsWhole) (arg24 : Memref sig .tc .vmem S544x512 .f32) (harg24 : arg24.IsWhole) (arg25 : Memref sig .tc .vmem S544x512 .f32) (harg25 : arg25.IsWhole) (arg26 : Memref sig .tc .vmem S544x512 .f32) (harg26 : arg26.IsWhole) (arg27 : Memref sig .tc .vmem S512x512 .f32) (harg27 : arg27.IsWhole)
    (hc : first i) (x0 : Vec F S1x512x3072 .f32) (x1 : Vec F S1x32x3072 .f32) (x2 : Vec F S1x32x3072 .f32) (x3 : Vec F S1x512x1024 .f32) (x4 : Vec F S1x32x1024 .f32) (x5 : Vec F S4x128x128 .bf16) (x6 : Vec F S8x512 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
      ⊢ wp frame (wpE (defs₀ (F := F)) Variants.none c none) E (cc0_odd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_odd_bwd_eq_skeleton]; unfold cc0_odd_bwd_skel
  simp only [k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  iexists _, _; isplitr; swap; · iexact H25
  ipureintro; rfl

end Cert.OddBwdIdeal.Run
-- ==== Proof.OddRunB.lean ====
module
public import proofs.«01_k».proof.Proof.OddBase
public import proofs.«01_k».proof.Proof.OddLoop

@[expose] public section

set_option maxRecDepth 16384
noncomputable section
namespace Cert.OddBwdIdeal.Run
open Cert.OddBwdIdeal Cert.OddBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- At every other point the body runs, keeps its inputs and ends. -/
theorem runB (c : Dev nD) (i : grid0.Coords) (arg2 : Memref sig .tc .vmem S1x512x3072 .f32) (harg2 : arg2.IsWhole) (arg3 : Memref sig .tc .vmem S1x32x3072 .f32) (harg3 : arg3.IsWhole) (arg4 : Memref sig .tc .vmem S1x32x3072 .f32) (harg4 : arg4.IsWhole) (arg5 : Memref sig .tc .vmem S1x512x1024 .f32) (harg5 : arg5.IsWhole) (arg6 : Memref sig .tc .vmem S1x32x1024 .f32) (harg6 : arg6.IsWhole) (arg7 : Memref sig .tc .vmem S4x128x128 .bf16) (harg7 : arg7.IsWhole) (arg8 : Memref sig .tc .vmem S8x512 .f32) (harg8 : arg8.IsWhole) (arg9 : Memref sig .tc .vmem S1x512x3072 .bf16) (harg9 : arg9.IsWhole) (arg10 : Memref sig .tc .vmem S1x3072 .f32) (harg10 : arg10.IsWhole) (arg11 : Memref sig .tc .vmem S4x128x128 .f32) (harg11 : arg11.IsWhole) (arg12 : Memref sig .tc .vmem S8x512 .f32) (harg12 : arg12.IsWhole) (arg13 : Memref sig .tc .vmem S544x512 .f32) (harg13 : arg13.IsWhole) (arg14 : Memref sig .tc .vmem S544x512 .f32) (harg14 : arg14.IsWhole) (arg15 : Memref sig .tc .vmem S544x512 .f32) (harg15 : arg15.IsWhole) (arg16 : Memref sig .tc .vmem S544x512 .f32) (harg16 : arg16.IsWhole) (arg17 : Memref sig .tc .vmem S544x512 .f32) (harg17 : arg17.IsWhole) (arg18 : Memref sig .tc .vmem S512x512 .f32) (harg18 : arg18.IsWhole) (arg19 : Memref sig .tc .vmem S544x512 .f32) (harg19 : arg19.IsWhole) (arg20 : Memref sig .tc .vmem S512x512 .f32) (harg20 : arg20.IsWhole) (arg21 : Memref sig .tc .vmem S544x512 .f32) (harg21 : arg21.IsWhole) (arg22 : Memref sig .tc .vmem S544x512 .f32) (harg22 : arg22.IsWhole) (arg23 : Memref sig .tc .vmem S544x512 .f32) (harg23 : arg23.IsWhole) (arg24 : Memref sig .tc .vmem S544x512 .f32) (harg24 : arg24.IsWhole) (arg25 : Memref sig .tc .vmem S544x512 .f32) (harg25 : arg25.IsWhole) (arg26 : Memref sig .tc .vmem S544x512 .f32) (harg26 : arg26.IsWhole) (arg27 : Memref sig .tc .vmem S512x512 .f32) (harg27 : arg27.IsWhole)
    (hc : ¬ first i) (x0 : Vec F S1x512x3072 .f32) (x1 : Vec F S1x32x3072 .f32) (x2 : Vec F S1x32x3072 .f32) (x3 : Vec F S1x512x1024 .f32) (x4 : Vec F S1x32x1024 .f32) (x5 : Vec F S4x128x128 .bf16) (x6 : Vec F S8x512 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
      ⊢ wp frame (wpE (defs₀ (F := F)) Variants.none c none) E (cc0_odd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_odd_bwd_eq_skeleton]; unfold cc0_odd_bwd_skel
  simp only [k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  iexists _, _; isplitr; swap; · iexact H25
  ipureintro; rfl

end Cert.OddBwdIdeal.Run
-- ==== Proof.OddLaunch.lean ====
module
public import proofs.«01_k».proof.Proof.OddRunA
public import proofs.«01_k».proof.Proof.OddRunB

@[expose] public section

set_option maxRecDepth 16384
noncomputable section
namespace Cert.OddBwdIdeal.Run
open Cert.OddBwdIdeal Cert.OddBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The outputs of which nothing is said. -/
def forgets0 : Fin 11 → Bool := fun w => w.val == 7 || w.val == 8 || w.val == 9 || w.val == 10

/-- The launch's data on one device: each window's array and what its buffer holds after the body at point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨_ + 11, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare d)
    ∗ (∃ d, owns (c : Thread nD τ) (st8 t) fullShare d)
    ∗ (∃ d, owns (c : Thread nD τ) (st9 t) fullShare d)
    ∗ (∃ d, owns (c : Thread nD τ) (st10 t) fullShare d))

/-- What it gives back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ (∃ d, owns (c : Thread nD τ) (st7 t) fullShare d)
    ∗ (∃ d, owns (c : Thread nD τ) (st8 t) fullShare d)
    ∗ (∃ d, owns (c : Thread nD τ) (st9 t) fullShare d)
    ∗ (∃ d, owns (c : Thread nD τ) (st10 t) fullShare d))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, kept_eq]
  by_cases h0 : t.val = 0
  · iintro ⟨⟨⟨HS0, HS1, HS2, HS3, HS4, HS5, HS6, HS7, HS8, HS9, HS10, HS11, HS12, HS13, HS14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA c (grid0.coords t) _ _ _ _ _ _ _ _ _ _ _ _ _ _ _ _ _ _ _ _ _ _ _ _ _ _ _ _ _ _ _ _ _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iintro ⟨H0, H1, H2, H3, H4, H5, H6, H7, H8, H9, H10, HS0, HS1, HS2, HS3, HS4, HS5, HS6, HS7, HS8, HS9, HS10, HS11, HS12, HS13, HS14⟩
    isplitl [HS0 HS1 HS2 HS3 HS4 HS5 HS6 HS7 HS8 HS9 HS10 HS11 HS12 HS13 HS14 Hg]
    · isplitl [HS0 HS1 HS2 HS3 HS4 HS5 HS6 HS7 HS8 HS9 HS10 HS11 HS12 HS13 HS14]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        isplitl [HS12]; · iexact HS12
        isplitl [HS13]; · iexact HS13
        iexact HS14
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro ⟨⟨⟨HS0, HS1, HS2, HS3, HS4, HS5, HS6, HS7, HS8, HS9, HS10, HS11, HS12, HS13, HS14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runB c (grid0.coords t) _ _ _ _ _ _ _ _ _ _ _ _ _ _ _ _ _ _ _ _ _ _ _ _ _ _ _ _ _ _ _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iintro ⟨H0, H1, H2, H3, H4, H5, H6, H7, H8, H9, H10, HS0, HS1, HS2, HS3, HS4, HS5, HS6, HS7, HS8, HS9, HS10, HS11, HS12, HS13, HS14⟩
    isplitl [HS0 HS1 HS2 HS3 HS4 HS5 HS6 HS7 HS8 HS9 HS10 HS11 HS12 HS13 HS14 Hg]
    · isplitl [HS0 HS1 HS2 HS3 HS4 HS5 HS6 HS7 HS8 HS9 HS10 HS11 HS12 HS13 HS14]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        isplitl [HS12]; · iexact HS12
        isplitl [HS13]; · iexact HS13
        iexact HS14
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch ends, with every array as the data says and every counter at zero. -/
theorem run : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The argument arrays end as they were launched and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨frame_of_rel m ρ _ (A_eq m) r h.1, h.2⟩) (run m ρ)

end Cert.OddBwdIdeal.Run
-- ==== Proof.LossSpec.lean ====
module
public import proofs.«01_k».proof.Proof.PostSpec
public import proofs.«01_k».proof.Proof.RealKit

@[expose] public section

/-!
The last layer's tail with the loss: the error against the target, which takes the place of the cotangent among the
arguments, the loss's gradient and the columns' sums of squares.
-/

noncomputable section
open Idealize.ShloMosaic
namespace Cert.Rows
namespace Tail
variable (a : Tail)

/-- The error of the tail's output. -/
def err (i : Fin 8192) (j : Fin 1024) : EReal := a.h i j + a.gate i j * a.pe i j - a.dxn (ix2 i j)

/-- The loss's gradient. -/
def dloss (i : Fin 8192) (j : Fin 1024) : EReal := Ideal.div (a.err i j) width

/-- The sum of a column's squared errors. -/
def sq (j : Fin 1024) : EReal := ∑ k : Fin 8192, a.err k j * a.err k j

end Tail

theorem f32_half : Ideal.ofBits .f32 0x3F000000#32 = ((1 / 2 : ℝ) : EReal) := by
  simp [Ideal.ofBits, Ideal.ieee, -EReal.coe_mul]; norm_num

/-- Half of twice the error over the row length. -/
theorem scale_eq (e : EReal) :
    Ideal.div (Ideal.ofBits .f32 0x3F000000#32) width * (Ideal.ofBits .f32 0x40000000#32 * e) = Ideal.div e width := by
  rw [show width = ((1024 : ℝ) : EReal) from f32_1024, f32_two, f32_half, Ideal.div_coe (by norm_num), Ideal.div_coe (by norm_num),
    ← EReal.coe_mul, ← mul_assoc, ← EReal.coe_mul, mul_comm e]
  congr 2
  norm_num

end Cert.Rows
-- ==== Proof.LossEntry.lean ====
module
public import proofs.«01_k».proof.Proof.LossSpec
public import proofs.«01_k».proof.Proof.Gen.LossFwdIdeal.Value
public import Idealize.ShloMosaic.Lib.Claim
public import Idealize.ShloMosaic.Lib.StableHlo.RunRead

@[expose] public section

set_option maxRecDepth 16384
noncomputable section
namespace Cert.LossFwdIdeal.Value
open Cert.LossFwdIdeal Cert.LossFwdIdeal.Gen Idealize.ShloMosaic Idealize.ShloMosaic.TcCoe Idealize.SL.Sem Cert.Rows

variable (m : (ℓ : Loc nD τ sig) → Buf (Elt Ideal) ℓ) (c : Dev nD)

/-- The arguments of the kernel. -/
def tail : Tail where
  x := m ((c : Thread nD τ).loc main_arg0)
  y := m ((c : Thread nD τ).loc main_arg1)
  p := m ((c : Thread nD τ).loc main_arg2)
  wo := m ((c : Thread nD τ).loc main_arg3)
  bo := m ((c : Thread nD τ).loc main_arg4)
  g := m ((c : Thread nD τ).loc main_arg5)
  b := m ((c : Thread nD τ).loc main_arg6)
  wp := m ((c : Thread nD τ).loc main_arg7)
  wg := m ((c : Thread nD τ).loc main_arg8)
  bg := m ((c : Thread nD τ).loc main_arg9)
  dxn := m ((c : Thread nD τ).loc main_arg10)

theorem entry_y (i : Fin 8192) (j : Fin 1024) : (V m c main_v6 (ix2 i j) : EReal) = (tail m c).y (ix2 i j) := by
  entry_read
  pointwise
  rfl

theorem entry_p (i : Fin 8192) (j : Fin 256) : (V m c main_v7 (ix3 0 i j) : EReal) = (tail m c).p (ix2 i j) := by
  entry_read
  pointwise
  rfl

theorem entry_wo (i : Fin 1024) (j : Fin 1024) : (V m c main_v8 (ix2 i j) : EReal) = (tail m c).wo (ix2 i j) := by
  entry_read
  pointwise
  rfl

theorem entry_wg (i : Fin 1024) (j : Fin 1024) : (V m c main_v9 (ix2 i j) : EReal) = (tail m c).wg (ix2 i j) := by
  entry_read
  pointwise
  rfl

theorem entry_wp (i : Fin 256) (j : Fin 1024) : (V m c main_v10 (ix2 i j) : EReal) = (tail m c).wp (ix2 i j) := by
  entry_read
  pointwise
  rfl

/-- The packed rows: the projection's bias is row 0. -/
theorem entry_bo (j : Fin 1024) : (V m c main_v5 (ix2 0 j) : EReal) = (tail m c).bo (ix1 j) := by
  have e : (StableHlo.upto (hostOps0 (F := Ideal)) (fun b => m (c, b)) 6 (Proc.devRef .tc main_v0) : FVec Ideal S1x1024 .f32) =
      shapeCast S1x1024 (m ((c : Thread nD τ).loc main_arg4) : FVec Ideal S1024 .f32) shapeCasts_S1024_S1x1024 := by
    after_reads_simp
    rfl
  delta V
  after_reads_simp
  pointwise
  refine (congrFun e (ix2 0 j)).trans ?_
  pointwise
  rfl

/-- The packed rows: the layer norm's scale is row 1. -/
theorem entry_g (j : Fin 1024) : (V m c main_v5 (ix2 1 j) : EReal) = (tail m c).g (ix1 j) := by
  have e : (StableHlo.upto (hostOps0 (F := Ideal)) (fun b => m (c, b)) 6 (Proc.devRef .tc main_v1) : FVec Ideal S1x1024 .f32) =
      shapeCast S1x1024 (m ((c : Thread nD τ).loc main_arg5) : FVec Ideal S1024 .f32) shapeCasts_S1024_S1x1024 := by
    after_reads_simp
    rfl
  delta V
  after_reads_simp
  pointwise
  refine (congrFun e (ix2 0 j)).trans ?_
  pointwise
  rfl

/-- The packed rows: the layer norm's shift is row 2. -/
theorem entry_b (j : Fin 1024) : (V m c main_v5 (ix2 2 j) : EReal) = (tail m c).b (ix1 j) := by
  have e : (StableHlo.upto (hostOps0 (F := Ideal)) (fun b => m (c, b)) 6 (Proc.devRef .tc main_v2) : FVec Ideal S1x1024 .f32) =
      shapeCast S1x1024 (m ((c : Thread nD τ).loc main_arg6) : FVec Ideal S1024 .f32) shapeCasts_S1024_S1x1024 := by
    after_reads_simp
    rfl
  delta V
  after_reads_simp
  pointwise
  refine (congrFun e (ix2 0 j)).trans ?_
  pointwise
  rfl

/-- The packed rows: the gate's bias is row 3. -/
theorem entry_bg (j : Fin 1024) : (V m c main_v5 (ix2 3 j) : EReal) = (tail m c).bg (ix1 j) := by
  have e : (StableHlo.upto (hostOps0 (F := Ideal)) (fun b => m (c, b)) 6 (Proc.devRef .tc main_v3) : FVec Ideal S1x1024 .f32) =
      shapeCast S1x1024 (m ((c : Thread nD τ).loc main_arg9) : FVec Ideal S1024 .f32) shapeCasts_S1024_S1x1024 := by
    after_reads_simp
    rfl
  delta V
  after_reads_simp
  pointwise
  refine (congrFun e (ix2 0 j)).trans ?_
  pointwise
  rfl

end Cert.LossFwdIdeal.Value
-- ==== Proof.LossPay.lean ====
module
public import proofs.«01_k».proof.Proof.LossSpec
public import proofs.«01_k».proof.Proof.Gen.LossFwdIdeal.Skeleton

@[expose] public section

set_option maxRecDepth 16384
noncomputable section
namespace Cert.LossFwdIdeal.Pay
open Cert.LossFwdIdeal Cert.LossFwdIdeal.Gen Idealize.ShloMosaic Idealize.ShloMosaic.TcCoe Idealize.SL.Sem Cert.Rows

/-!
What the body of the kernel computes from a block of rows: each named value of the body, read at a row and a
column of the block, is the corresponding function of the tail's arguments at that row of the array.
-/

/-- The blocks a point's body reads hold the rows `ρ` of the arrays. -/
structure Reads (A : Tail) (ρ : Fin 512 → Fin 8192) (y : Vec Ideal S512x1024 .bf16) (x : Vec Ideal S512x1024 .f32) (p : Vec Ideal S1x512x256 .f32)
    (wo wg : Vec Ideal S1024x1024 .bf16) (wp : Vec Ideal S256x1024 .bf16) (bo g b bg : Vec Ideal S1x1024 .f32) (tgt : Vec Ideal S512x1024 .f32) : Prop where
  y : ∀ (a : Fin 512) (j : Fin 1024), (y (ix2 a j) : EReal) = A.y (ix2 (ρ a) j)
  x : ∀ (a : Fin 512) (j : Fin 1024), (x (ix2 a j) : EReal) = A.x (ix2 (ρ a) j)
  p : ∀ (a : Fin 512) (k : Fin 256), (p (ix3 0 a k) : EReal) = A.p (ix2 (ρ a) k)
  wo : ∀ i j : Fin 1024, (wo (ix2 i j) : EReal) = A.wo (ix2 i j)
  wg : ∀ i j : Fin 1024, (wg (ix2 i j) : EReal) = A.wg (ix2 i j)
  wp : ∀ (i : Fin 256) (j : Fin 1024), (wp (ix2 i j) : EReal) = A.wp (ix2 i j)
  bo : ∀ j : Fin 1024, (bo (ix2 0 j) : EReal) = A.bo (ix1 j)
  g : ∀ j : Fin 1024, (g (ix2 0 j) : EReal) = A.g (ix1 j)
  b : ∀ j : Fin 1024, (b (ix2 0 j) : EReal) = A.b (ix1 j)
  bg : ∀ j : Fin 1024, (bg (ix2 0 j) : EReal) = A.bg (ix1 j)
  tgt : ∀ (a : Fin 512) (j : Fin 1024), (tgt (ix2 a j) : EReal) = A.dxn (ix2 (ρ a) j)

variable {A : Tail} {ρ : Fin 512 → Fin 8192} {y : Vec Ideal S512x1024 .bf16} {x : Vec Ideal S512x1024 .f32} {p : Vec Ideal S1x512x256 .f32}
  {wo wg : Vec Ideal S1024x1024 .bf16} {wp : Vec Ideal S256x1024 .bf16} {bo g b bg : Vec Ideal S1x1024 .f32} {tgt : Vec Ideal S512x1024 .f32}
  (H : Reads A ρ y x p wo wg wp bo g b bg tgt)
include H

theorem r_at (a : Fin 512) (j : Fin 1024) : (k0_pay2 x y wo bo (ix2 a j) : EReal) = A.r (ρ a) j := by
  pointwise [k0_pay2, H.x, H.y, H.wo, H.bo]
  rfl

theorem xg_at (a : Fin 512) (j : Fin 1024) : (k0_pay3 x y wo bo g (ix2 a j) : EReal) = A.xh (ρ a) j * A.g (ix1 j) := by
  pointwise [k0_pay3, r_at H, H.g]
  rfl

theorem b_at (a : Fin 512) (j : Fin 1024) : (k0_pay4 b (ix2 a j) : EReal) = A.b (ix1 j) := by
  pointwise [k0_pay4, H.b]

theorem h_at (a : Fin 512) (j : Fin 1024) : (k0_pay5 (k0_pay3 x y wo bo g) (k0_pay4 b) (ix2 a j) : EReal) = A.h (ρ a) j := by
  pointwise [k0_pay5, xg_at H, b_at H]
  rfl

theorem gate_at (a : Fin 512) (j : Fin 1024) : (k0_pay6 (k0_pay3 x y wo bo g) (k0_pay4 b) wg bg (ix2 a j) : EReal) = A.gate (ρ a) j := by
  pointwise [k0_pay6, h_at H, H.wg, H.bg]
  rw [zero_sub (_ : EReal)]
  rfl

theorem err_at (a : Fin 512) (j : Fin 1024) : (k0_pay8 (k0_pay3 x y wo bo g) (k0_pay4 b) wg bg p wp tgt (ix2 a j) : EReal) = A.err (ρ a) j := by
  pointwise [k0_pay8, gate_at H, h_at H, H.p, H.wp, H.tgt]
  rfl

theorem dloss_at (a : Fin 512) (j : Fin 1024) : (k0_pay9 (k0_pay3 x y wo bo g) (k0_pay4 b) wg bg p wp tgt (ix2 a j) : EReal) = A.dloss (ρ a) j := by
  pointwise [k0_pay9, err_at H]
  rfl

theorem sq_at (acc : Vec Ideal S1x1024 .f32) (j : Fin 1024) :
    (k0_pay1 (k0_pay8 (k0_pay3 x y wo bo g) (k0_pay4 b) wg bg p wp tgt) acc (ix2 0 j) : EReal) =
    acc (ix2 0 j) + ∑ a : Fin 512, A.err (ρ a) j * A.err (ρ a) j := by
  pointwise [k0_pay1, err_at H]

end Cert.LossFwdIdeal.Pay
-- ==== Proof.LossBlk.lean ====
module
public import proofs.«01_k».proof.Proof.LossEntry
public import proofs.«01_k».proof.Proof.LossPay

@[expose] public section

set_option maxRecDepth 16384
noncomputable section
namespace Cert.LossFwdIdeal.Value
open Cert.LossFwdIdeal Cert.LossFwdIdeal.Gen Idealize.ShloMosaic Idealize.ShloMosaic.TcCoe Idealize.SL.Sem Cert.Rows
open Idealize.ShloMosaic.Pipeline (Dat)

variable (m : (ℓ : Loc nD τ sig) → Buf (Elt Ideal) ℓ) (c : Dev nD)

/-- The windows' index maps: the tiled windows walk the rows, the others stay. -/
theorem idx : ∀ t : Fin cfg0.N, win0_0.index t = ![t.val, 0] ∧ win0_1.index t = ![t.val, 0] ∧ win0_2.index t = ![0, t.val, 0] ∧
    win0_3.index t = ![0, 0] ∧ win0_4.index t = ![0, 0] ∧ win0_5.index t = ![0, 0] ∧ win0_6.index t = ![0, 0] ∧
    win0_7.index t = ![t.val, 0] ∧ win0_8.index t = ![t.val, 0] ∧ win0_9.index t = ![t.val, 0] ∧ win0_10.index t = ![t.val, 0] ∧
    win0_11.index t = ![0, 0] :=
  (by decide +kernel : ∀ t : Fin grid0.N, _)

/-- The array row of a block's row. -/
def row (t : Fin cfg0.N) (a : Fin 512) : Fin 8192 :=
  ⟨t.val * 512 + a.val, by have := t.isLt; have h : cfg0.N = 16 := N_0; omega⟩

theorem blk_y (t : Fin cfg0.N) (a : Fin 512) (j : Fin 1024) : (iblk m c 0 t (ix2 a j) : EReal) = (tail m c).y (ix2 (row t a) j) := by
  refine Eq.trans ?_ (entry_y m c (row t a) j)
  blk_ext [iblk, idx t, row]

theorem blk_x (t : Fin cfg0.N) (a : Fin 512) (j : Fin 1024) : (iblk m c 1 t (ix2 a j) : EReal) = (tail m c).x (ix2 (row t a) j) := by
  refine Eq.trans (b := (V m c main_arg0 (ix2 (row t a) j) : EReal)) ?_ rfl
  blk_ext [iblk, idx t, row]

theorem blk_p (t : Fin cfg0.N) (a : Fin 512) (j : Fin 256) : (iblk m c 2 t (ix3 0 a j) : EReal) = (tail m c).p (ix2 (row t a) j) := by
  refine Eq.trans ?_ (entry_p m c (row t a) j)
  blk_ext [iblk, idx t, row]

theorem blk_wo (t : Fin cfg0.N) (i j : Fin 1024) : (iblk m c 3 t (ix2 i j) : EReal) = (tail m c).wo (ix2 i j) := by
  refine Eq.trans ?_ (entry_wo m c i j)
  blk_ext [iblk, idx t]

theorem blk_wg (t : Fin cfg0.N) (i j : Fin 1024) : (iblk m c 4 t (ix2 i j) : EReal) = (tail m c).wg (ix2 i j) := by
  refine Eq.trans ?_ (entry_wg m c i j)
  blk_ext [iblk, idx t]

theorem blk_wp (t : Fin cfg0.N) (i : Fin 256) (j : Fin 1024) : (iblk m c 5 t (ix2 i j) : EReal) = (tail m c).wp (ix2 i j) := by
  refine Eq.trans ?_ (entry_wp m c i j)
  blk_ext [iblk, idx t]

theorem blk_tgt (t : Fin cfg0.N) (a : Fin 512) (j : Fin 1024) : (iblk m c 7 t (ix2 a j) : EReal) = (tail m c).dxn (ix2 (row t a) j) := by
  refine Eq.trans (b := (V m c main_arg10 (ix2 (row t a) j) : EReal)) ?_ rfl
  blk_ext [iblk, idx t, row]

theorem blk_bo (t : Fin cfg0.N) (j : Fin 1024) :
    (View.ld (iblk m c 6 t) (Rect.unit ![0, 0] ![1, 1024] inb_S8x1024_S1x1024_0_0) (ix2 0 j) : EReal) = (tail m c).bo (ix1 j) := by
  refine Eq.trans ?_ (entry_bo m c j)
  pointwise
  blk_ext [iblk, idx t]

theorem blk_g (t : Fin cfg0.N) (j : Fin 1024) :
    (View.ld (iblk m c 6 t) (Rect.unit ![1, 0] ![1, 1024] inb_S8x1024_S1x1024_1_0) (ix2 0 j) : EReal) = (tail m c).g (ix1 j) := by
  refine Eq.trans ?_ (entry_g m c j)
  pointwise
  blk_ext [iblk, idx t]

theorem blk_b (t : Fin cfg0.N) (j : Fin 1024) :
    (View.ld (iblk m c 6 t) (Rect.unit ![2, 0] ![1, 1024] inb_S8x1024_S1x1024_2_0) (ix2 0 j) : EReal) = (tail m c).b (ix1 j) := by
  refine Eq.trans ?_ (entry_b m c j)
  pointwise
  blk_ext [iblk, idx t]

theorem blk_bg (t : Fin cfg0.N) (j : Fin 1024) :
    (View.ld (iblk m c 6 t) (Rect.unit ![3, 0] ![1, 1024] inb_S8x1024_S1x1024_3_0) (ix2 0 j) : EReal) = (tail m c).bg (ix1 j) := by
  refine Eq.trans ?_ (entry_bg m c j)
  pointwise
  blk_ext [iblk, idx t]

/-- A point's blocks hold its rows. -/
theorem reads (t : Fin cfg0.N) : Pay.Reads (tail m c) (row t) (iblk m c 0 t) (iblk m c 1 t) (iblk m c 2 t) (iblk m c 3 t) (iblk m c 4 t)
    (iblk m c 5 t) (View.ld (iblk m c 6 t) (Rect.unit ![0, 0] ![1, 1024] inb_S8x1024_S1x1024_0_0))
    (View.ld (iblk m c 6 t) (Rect.unit ![1, 0] ![1, 1024] inb_S8x1024_S1x1024_1_0))
    (View.ld (iblk m c 6 t) (Rect.unit ![2, 0] ![1, 1024] inb_S8x1024_S1x1024_2_0))
    (View.ld (iblk m c 6 t) (Rect.unit ![3, 0] ![1, 1024] inb_S8x1024_S1x1024_3_0)) (iblk m c 7 t) where
  y := blk_y m c t
  x := blk_x m c t
  p := blk_p m c t
  wo := blk_wo m c t
  wg := blk_wg m c t
  wp := blk_wp m c t
  bo := blk_bo m c t
  g := blk_g m c t
  b := blk_b m c t
  bg := blk_bg m c t
  tgt := blk_tgt m c t

end Cert.LossFwdIdeal.Value
-- ==== Proof.LossFinal.lean ====
module
public import proofs.«01_k».proof.Proof.LossBlk

@[expose] public section

set_option maxRecDepth 16384
noncomputable section
namespace Cert.LossFwdIdeal.Value
open Cert.LossFwdIdeal Cert.LossFwdIdeal.Gen Idealize.ShloMosaic Idealize.ShloMosaic.TcCoe Idealize.SL.Sem Cert.Rows
open Idealize.ShloMosaic.Pipeline (Dat)

variable (m : (ℓ : Loc nD τ sig) → Buf (Elt Ideal) ℓ) (c : Dev nD)

/-- A sum over the blocks of the sums over their rows is the sum over all rows. -/
theorem sum_rows (f : Fin 8192 → EReal) : (∑ t : Fin cfg0.N, ∑ a : Fin 512, f (row t a)) = ∑ k : Fin 8192, f k := by
  refine (Fin.sum_points_lanes_congr (A := 1) (L := 8192) 16 (F := fun (t : Fin cfg0.N) a => f (row t a)) (g := fun _ l => f l)
    (fun t a _ _ => congrArg f (Fin.ext (by
      have := t.isLt
      have h : cfg0.N = 16 := N_0
      show t.val * 512 + a.val = t.val % 16 * 512 + a.val
      omega))) N_0 rfl).trans ?_
  exact Fin.sum_univ_one _

/-! ## The three tiled results -/

theorem place8 (G : Mat 8192 1024) (t : Fin cfg0.N) (a : Fin 512) (j : Fin 1024) :
    G (ix2 (row t a) j) = G (((cfg0.win 8).blk t).view.emb (ix2 a j)) := by
  blk_ext [idx t, row]

theorem final8 : (dats m 0 c).arrAt 8 cfg0.N = fun y => (tail m c).dloss (y 0) (y 1) := by
  refine (dats m 0 c).arrAt_eq_of_covers 8 _ (by decide +kernel) fun t _ y => ?_
  idx_vars y
  refine Eq.trans ?_ (place8 (fun y => (tail m c).dloss (y 0) (y 1)) t y0 y1)
  blk_simp
  rw [after0_8]
  by_cases h : t.val % 16 = 0
  · rw [outsAt0_A m c t h]; frame_out
    exact Pay.dloss_at (reads m c t) _ _
  · rw [outsAt0_B m c t h]; frame_out
    exact Pay.dloss_at (reads m c t) _ _

theorem place9 (G : Mat 8192 1024) (t : Fin cfg0.N) (a : Fin 512) (j : Fin 1024) :
    G (ix2 (row t a) j) = G (((cfg0.win 9).blk t).view.emb (ix2 a j)) := by
  blk_ext [idx t, row]

theorem final9 : (dats m 0 c).arrAt 9 cfg0.N = fun y => (tail m c).r (y 0) (y 1) := by
  refine (dats m 0 c).arrAt_eq_of_covers 9 _ (by decide +kernel) fun t _ y => ?_
  idx_vars y
  refine Eq.trans ?_ (place9 (fun y => (tail m c).r (y 0) (y 1)) t y0 y1)
  blk_simp
  rw [after0_9]
  by_cases h : t.val % 16 = 0
  · rw [outsAt0_A m c t h]; frame_out
    exact Pay.r_at (reads m c t) _ _
  · rw [outsAt0_B m c t h]; frame_out
    exact Pay.r_at (reads m c t) _ _

theorem place10 (G : Mat 8192 1024) (t : Fin cfg0.N) (a : Fin 512) (j : Fin 1024) :
    G (ix2 (row t a) j) = G (((cfg0.win 10).blk t).view.emb (ix2 a j)) := by
  blk_ext [idx t, row]

theorem final10 : (dats m 0 c).arrAt 10 cfg0.N = fun y => (tail m c).gate (y 0) (y 1) := by
  refine (dats m 0 c).arrAt_eq_of_covers 10 _ (by decide +kernel) fun t _ y => ?_
  idx_vars y
  refine Eq.trans ?_ (place10 (fun y => (tail m c).gate (y 0) (y 1)) t y0 y1)
  blk_simp
  rw [after0_10]
  by_cases h : t.val % 16 = 0
  · rw [outsAt0_A m c t h]; frame_out
    exact Pay.gate_at (reads m c t) _ _
  · rw [outsAt0_B m c t h]; frame_out
    exact Pay.gate_at (reads m c t) _ _

/-! ## The squared errors summed over the blocks -/

theorem zero11 (i : Fin 1) (j : Fin 1024) : (k0_pay7 (F := Ideal) (ix2 i j) : EReal) = 0 := by pointwise [k0_pay7]

theorem final11 : (dats m 0 c).arrAt 11 cfg0.N = fun y => (tail m c).sq (y 1) := by
  refine (dats m 0 c).arrAt_eq_of_after_last 11 t0_15 (by decide +kernel) _ fun y => ?_
  blk_simp
  idx_vars y
  obtain rfl : y0 = 0 := Subsingleton.elim _ _
  rw [after0_11]
  refine (Pipeline.eq_sum_fin_of_reset_step_apply_last
    (fun n h (j : Fin 1024) => ((outsAt0 m c n h).2.2.2 (ix2 0 j) : EReal)) 16 (fun _ => 0)
    (fun t j => ∑ a : Fin 512, (tail m c).err (row t a) j * (tail m c).err (row t a) j)
    (fun t h j => ?_) (fun t h j => ?_) (le_of_eq N_0) t0_15 rfl y1).trans ?_
  · show ((outsAt0 m c t.val t.isLt).2.2.2 (ix2 0 j) : EReal) = _
    rw [outsAt0_A m c t h]; frame_out
    refine (Pay.sq_at (reads m c t) _ _).trans ?_
    rw [zero11]
  · show ((outsAt0 m c t.val t.isLt).2.2.2 (ix2 0 j) : EReal) = _
    rw [outsAt0_B m c t h]; frame_out
    exact Pay.sq_at (reads m c t) _ _
  · rw [zero_add]
    exact sum_rows fun k => (tail m c).err k y1 * (tail m c).err k y1

end Cert.LossFwdIdeal.Value
-- ==== Proof.LossRefVal.lean ====
module
public import proofs.«01_k».proof.Proof.LossSpec
public import proofs.«01_k».proof.Proof.Gen.LossRefIdeal.Run

@[expose] public section

set_option maxRecDepth 16384
noncomputable section
namespace Cert.LossRefIdeal.Value
open Cert.LossRefIdeal Cert.LossRefIdeal.Gen Idealize.ShloMosaic Idealize.ShloMosaic.TcCoe Idealize.SL.Sem Cert.Rows

variable (m : (ℓ : Loc nD τ sig) → Buf (Elt Ideal) ℓ) (c : Dev nD)

/-- The arguments of the reference. -/
def tail : Tail where
  x := m ((c.tc : Thread nD τ).loc main_arg0)
  y := m ((c.tc : Thread nD τ).loc main_arg1)
  p := m ((c.tc : Thread nD τ).loc main_arg2)
  wo := m ((c.tc : Thread nD τ).loc main_arg3)
  bo := m ((c.tc : Thread nD τ).loc main_arg4)
  g := m ((c.tc : Thread nD τ).loc main_arg5)
  b := m ((c.tc : Thread nD τ).loc main_arg6)
  wp := m ((c.tc : Thread nD τ).loc main_arg7)
  wg := m ((c.tc : Thread nD τ).loc main_arg8)
  bg := m ((c.tc : Thread nD τ).loc main_arg9)
  dxn := m ((c.tc : Thread nD τ).loc main_arg10)

/-! The reference's lines, one named stage each. -/

def rT : FVec Ideal S8192x1024 .f32 :=
  addf (addf (mulf (broadcastInDim S8192x1024 ![] bcast_S_S8192x1024 (constant S_ .f32 0x3FD744FD#32)) (m ((c.tc : Thread nD τ).loc main_arg0)))
    (Host.dotGeneral (φ₁ := .f32) (φ₂ := .f32) dot_S8192x1024_S1024x1024_S8192x1024_1_0_0_1_n_n none (m ((c.tc : Thread nD τ).loc main_arg1)) (m ((c.tc : Thread nD τ).loc main_arg3))))
    (broadcastInDim S8192x1024 ![0, 1] bcast_S1x1024_S8192x1024_0_1 (broadcastInDim S1x1024 ![1] bcast_S1024_S1x1024_1 (m ((c.tc : Thread nD τ).loc main_arg4))))

def meanT (f : FVec Ideal S8192x1024 .f32) : FVec Ideal S8192x1 .f32 :=
  Host.divf (broadcastInDim S8192x1 ![0] bcast_S8192_S8192x1_0 (Host.reduceAdd f (constant S_ .f32 0x00000000#32) reducesTo_S8192x1024_S8192_d1 h_S_))
    (broadcastInDim S8192x1 ![] bcast_S_S8192x1 (constant S_ .f32 0x44800000#32))

def devT : FVec Ideal S8192x1024 .f32 :=
  subf (rT m c) (broadcastInDim S8192x1024 ![0, 1] bcast_S8192x1_S8192x1024_0_1 (meanT (rT m c)))

def rsT : FVec Ideal S8192x1 .f32 :=
  Host.rsqrt (addf (meanT (mulf (devT m c) (devT m c))) (broadcastInDim S8192x1 ![] bcast_S_S8192x1 (constant S_ .f32 0x3727C5AC#32)))

def hT : FVec Ideal S8192x1024 .f32 :=
  addf (mulf (mulf (devT m c) (broadcastInDim S8192x1024 ![0, 1] bcast_S8192x1_S8192x1024_0_1 (rsT m c)))
    (broadcastInDim S8192x1024 ![0, 1] bcast_S1x1024_S8192x1024_0_1 (broadcastInDim S1x1024 ![1] bcast_S1024_S1x1024_1 (m ((c.tc : Thread nD τ).loc main_arg5)))))
    (broadcastInDim S8192x1024 ![0, 1] bcast_S1x1024_S8192x1024_0_1 (broadcastInDim S1x1024 ![1] bcast_S1024_S1x1024_1 (m ((c.tc : Thread nD τ).loc main_arg6))))

def gateT : FVec Ideal S8192x1024 .f32 :=
  Host.divf (broadcastInDim S8192x1024 ![] bcast_S_S8192x1024 (constant S_ .f32 0x3F800000#32))
    (addf (broadcastInDim S8192x1024 ![] bcast_S_S8192x1024 (constant S_ .f32 0x3F800000#32))
      (Host.exp (Host.negf (addf (Host.dotGeneral (φ₁ := .f32) (φ₂ := .f32) dot_S8192x1024_S1024x1024_S8192x1024_1_0_0_1_n_n none (hT m c) (m ((c.tc : Thread nD τ).loc main_arg8)))
        (broadcastInDim S8192x1024 ![0, 1] bcast_S1x1024_S8192x1024_0_1 (broadcastInDim S1x1024 ![1] bcast_S1024_S1x1024_1 (m ((c.tc : Thread nD τ).loc main_arg9))))))))

def errT : FVec Ideal S8192x1024 .f32 :=
  subf (addf (hT m c) (mulf (gateT m c)
    (Host.dotGeneral (φ₁ := .f32) (φ₂ := .f32) dot_S8192x256_S256x1024_S8192x1024_1_0_0_1_n_n none (m ((c.tc : Thread nD τ).loc main_arg2)) (m ((c.tc : Thread nD τ).loc main_arg7)))))
    (m ((c.tc : Thread nD τ).loc main_arg10))

def dlossT : FVec Ideal S8192x1024 .f32 :=
  mulf (broadcastInDim S8192x1024 ![0] bcast_S8192_S8192x1024_0
      (Host.divf (broadcastInDim S8192 ![] bcast_S_S8192 (mulf (constant S_ .f32 0x3F000000#32) (constant S_ .f32 0x3F800000#32)))
        (broadcastInDim S8192 ![] bcast_S_S8192 (constant S_ .f32 0x44800000#32))))
    (mulf (broadcastInDim S8192x1024 ![] bcast_S_S8192x1024 (constant S_ .f32 0x40000000#32)) (errT m c))

def sqT : FVec Ideal S1x1024 .f32 :=
  broadcastInDim S1x1024 ![1] bcast_S1024_S1x1024_1
    (Host.reduceAdd (mulf (errT m c) (errT m c)) (constant S_ .f32 0x00000000#32) reducesTo_S8192x1024_S1024_d0 h_S_)

theorem res_gate : res_main_v40 m c = gateT m c := rfl
theorem res_dloss : res_main_v58 m c = dlossT m c := rfl
theorem res_sq : res_main_v62 m c = sqT m c := rfl

theorem r_at (i : Fin 8192) (j : Fin 1024) : (rT m c (ix2 i j) : EReal) = (tail m c).r i j := by
  pointwise [rT]
  rfl

theorem mean_at (f : FVec Ideal S8192x1024 .f32) (i : Fin 8192) (j : Fin 1) :
    (meanT f (ix2 i j) : EReal) = mean width (fun k : Fin 1024 => (f (ix2 i k) : EReal)) := by
  pointwise [meanT]
  rfl

theorem dev_at (i : Fin 8192) (j : Fin 1024) : (devT m c (ix2 i j) : EReal) = dev width ((tail m c).r i) j := by
  pointwise [devT, mean_at, r_at]
  rfl

theorem rs_at (i : Fin 8192) (j : Fin 1) : (rsT m c (ix2 i j) : EReal) = rs width eps ((tail m c).r i) := by
  pointwise [rsT, mean_at, dev_at]
  rfl

theorem h_at (i : Fin 8192) (j : Fin 1024) : (hT m c (ix2 i j) : EReal) = (tail m c).h i j := by
  pointwise [hT, dev_at, rs_at]
  rfl

theorem gate_at (i : Fin 8192) (j : Fin 1024) : (gateT m c (ix2 i j) : EReal) = (tail m c).gate i j := by
  pointwise [gateT, h_at]
  rfl

theorem err_at (i : Fin 8192) (j : Fin 1024) : (errT m c (ix2 i j) : EReal) = (tail m c).err i j := by
  pointwise [errT, h_at, gate_at]
  rfl

theorem dloss_at (i : Fin 8192) (j : Fin 1024) : (dlossT m c (ix2 i j) : EReal) = (tail m c).dloss i j := by
  pointwise [dlossT, err_at]
  exact scale_eq _

theorem sq_at (i : Fin 1) (j : Fin 1024) : (sqT m c (ix2 i j) : EReal) = (tail m c).sq j := by
  pointwise [sqT, err_at]
  rfl

end Cert.LossRefIdeal.Value
-- ==== Proof.MidSpec.lean ====
module
public import proofs.«01_k».proof.Proof.PostSpec

@[expose] public section

/-!
A layer's tail and the projection into the next layer, as plain functions of rows and columns.
-/

noncomputable section
open Idealize.ShloMosaic
namespace Cert.Rows

/-- The arguments of a tail's forward and of the next layer's projection. -/
structure Mid where
  x : Mat 8192 1024
  y : Mat 8192 1024
  p : Mat 8192 256
  wo : Mat 1024 1024
  bo : Row 1024
  g : Row 1024
  b : Row 1024
  wp : Mat 256 1024
  wg : Mat 1024 1024
  bg : Row 1024
  wi : Mat 1024 3072
  bi : Row 3072

namespace Mid
variable (a : Mid)

/-- The tail among them; its forward reads no cotangent. -/
def tail : Tail := ⟨a.x, a.y, a.p, a.wo, a.bo, a.g, a.b, a.wp, a.wg, a.bg, fun _ => 0⟩

/-- The tail's output. -/
def xn (i : Fin 8192) (j : Fin 1024) : EReal := a.tail.h i j + a.tail.gate i j * a.tail.pe i j

/-- The next layer's projection. -/
def z (i : Fin 8192) (j : Fin 3072) : EReal := (∑ k : Fin 1024, a.xn i k * a.wi (ix2 k j)) + a.bi (ix1 j)

end Mid
end Cert.Rows
-- ==== Proof.MidEntry.lean ====
module
public import proofs.«01_k».proof.Proof.MidSpec
public import proofs.«01_k».proof.Proof.Gen.MidFwdIdeal.Value
public import Idealize.ShloMosaic.Lib.Claim
public import Idealize.ShloMosaic.Lib.StableHlo.RunRead

@[expose] public section

set_option maxRecDepth 16384
noncomputable section
namespace Cert.MidFwdIdeal.Value
open Cert.MidFwdIdeal Cert.MidFwdIdeal.Gen Idealize.ShloMosaic Idealize.ShloMosaic.TcCoe Idealize.SL.Sem Cert.Rows

variable (m : (ℓ : Loc nD τ sig) → Buf (Elt Ideal) ℓ) (c : Dev nD)

/-- The arguments of the kernel. -/
def mid : Mid where
  x := m ((c : Thread nD τ).loc main_arg0)
  y := m ((c : Thread nD τ).loc main_arg1)
  p := m ((c : Thread nD τ).loc main_arg2)
  wo := m ((c : Thread nD τ).loc main_arg3)
  bo := m ((c : Thread nD τ).loc main_arg4)
  g := m ((c : Thread nD τ).loc main_arg5)
  b := m ((c : Thread nD τ).loc main_arg6)
  wp := m ((c : Thread nD τ).loc main_arg7)
  wg := m ((c : Thread nD τ).loc main_arg8)
  bg := m ((c : Thread nD τ).loc main_arg9)
  wi := m ((c : Thread nD τ).loc main_arg10)
  bi := m ((c : Thread nD τ).loc main_arg11)

theorem entry_y (i : Fin 8192) (j : Fin 1024) : (V m c main_v6 (ix2 i j) : EReal) = (mid m c).y (ix2 i j) := by
  entry_read
  pointwise
  rfl

theorem entry_p (i : Fin 8192) (j : Fin 256) : (V m c main_v7 (ix3 0 i j) : EReal) = (mid m c).p (ix2 i j) := by
  entry_read
  pointwise
  rfl

theorem entry_wo (i : Fin 1024) (j : Fin 1024) : (V m c main_v8 (ix2 i j) : EReal) = (mid m c).wo (ix2 i j) := by
  entry_read
  pointwise
  rfl

theorem entry_wg (i : Fin 1024) (j : Fin 1024) : (V m c main_v9 (ix2 i j) : EReal) = (mid m c).wg (ix2 i j) := by
  entry_read
  pointwise
  rfl

theorem entry_wp (i : Fin 256) (j : Fin 1024) : (V m c main_v10 (ix2 i j) : EReal) = (mid m c).wp (ix2 i j) := by
  entry_read
  pointwise
  rfl

theorem entry_wi (i : Fin 1024) (j : Fin 3072) : (V m c main_v11 (ix2 i j) : EReal) = (mid m c).wi (ix2 i j) := by
  entry_read
  pointwise
  rfl

theorem entry_bi (j : Fin 3072) : (V m c main_v12 (ix2 0 j) : EReal) = (mid m c).bi (ix1 j) := by
  entry_read
  pointwise
  rfl

/-- The packed rows: the projection's bias is row 0. -/
theorem entry_bo (j : Fin 1024) : (V m c main_v5 (ix2 0 j) : EReal) = (mid m c).bo (ix1 j) := by
  have e : (StableHlo.upto (hostOps0 (F := Ideal)) (fun b => m (c, b)) 6 (Proc.devRef .tc main_v0) : FVec Ideal S1x1024 .f32) =
      shapeCast S1x1024 (m ((c : Thread nD τ).loc main_arg4) : FVec Ideal S1024 .f32) shapeCasts_S1024_S1x1024 := by
    after_reads_simp
    rfl
  delta V
  after_reads_simp
  pointwise
  refine (congrFun e (ix2 0 j)).trans ?_
  pointwise
  rfl

/-- The packed rows: the layer norm's scale is row 1. -/
theorem entry_g (j : Fin 1024) : (V m c main_v5 (ix2 1 j) : EReal) = (mid m c).g (ix1 j) := by
  have e : (StableHlo.upto (hostOps0 (F := Ideal)) (fun b => m (c, b)) 6 (Proc.devRef .tc main_v1) : FVec Ideal S1x1024 .f32) =
      shapeCast S1x1024 (m ((c : Thread nD τ).loc main_arg5) : FVec Ideal S1024 .f32) shapeCasts_S1024_S1x1024 := by
    after_reads_simp
    rfl
  delta V
  after_reads_simp
  pointwise
  refine (congrFun e (ix2 0 j)).trans ?_
  pointwise
  rfl

/-- The packed rows: the layer norm's shift is row 2. -/
theorem entry_b (j : Fin 1024) : (V m c main_v5 (ix2 2 j) : EReal) = (mid m c).b (ix1 j) := by
  have e : (StableHlo.upto (hostOps0 (F := Ideal)) (fun b => m (c, b)) 6 (Proc.devRef .tc main_v2) : FVec Ideal S1x1024 .f32) =
      shapeCast S1x1024 (m ((c : Thread nD τ).loc main_arg6) : FVec Ideal S1024 .f32) shapeCasts_S1024_S1x1024 := by
    after_reads_simp
    rfl
  delta V
  after_reads_simp
  pointwise
  refine (congrFun e (ix2 0 j)).trans ?_
  pointwise
  rfl

/-- The packed rows: the gate's bias is row 3. -/
theorem entry_bg (j : Fin 1024) : (V m c main_v5 (ix2 3 j) : EReal) = (mid m c).bg (ix1 j) := by
  have e : (StableHlo.upto (hostOps0 (F := Ideal)) (fun b => m (c, b)) 6 (Proc.devRef .tc main_v3) : FVec Ideal S1x1024 .f32) =
      shapeCast S1x1024 (m ((c : Thread nD τ).loc main_arg9) : FVec Ideal S1024 .f32) shapeCasts_S1024_S1x1024 := by
    after_reads_simp
    rfl
  delta V
  after_reads_simp
  pointwise
  refine (congrFun e (ix2 0 j)).trans ?_
  pointwise
  rfl

end Cert.MidFwdIdeal.Value
-- ==== Proof.MidPay.lean ====
module
public import proofs.«01_k».proof.Proof.MidSpec
public import proofs.«01_k».proof.Proof.Gen.MidFwdIdeal.Skeleton

@[expose] public section

set_option maxRecDepth 16384
noncomputable section
namespace Cert.MidFwdIdeal.Pay
open Cert.MidFwdIdeal Cert.MidFwdIdeal.Gen Idealize.ShloMosaic Idealize.ShloMosaic.TcCoe Idealize.SL.Sem Cert.Rows

/-!
What the body of the kernel computes from a block of rows: each named value of the body, read at a row and a
column of the block, is the corresponding function of the tail's arguments at that row of the array.
-/

/-- The blocks a point's body reads hold the rows `ρ` of the arrays. -/
structure Reads (A : Mid) (ρ : Fin 512 → Fin 8192) (y : Vec Ideal S512x1024 .bf16) (x : Vec Ideal S512x1024 .f32) (p : Vec Ideal S1x512x256 .f32)
    (wo wg : Vec Ideal S1024x1024 .bf16) (wp : Vec Ideal S256x1024 .bf16) (bo g b bg : Vec Ideal S1x1024 .f32) : Prop where
  y : ∀ (a : Fin 512) (j : Fin 1024), (y (ix2 a j) : EReal) = A.y (ix2 (ρ a) j)
  x : ∀ (a : Fin 512) (j : Fin 1024), (x (ix2 a j) : EReal) = A.x (ix2 (ρ a) j)
  p : ∀ (a : Fin 512) (k : Fin 256), (p (ix3 0 a k) : EReal) = A.p (ix2 (ρ a) k)
  wo : ∀ i j : Fin 1024, (wo (ix2 i j) : EReal) = A.wo (ix2 i j)
  wg : ∀ i j : Fin 1024, (wg (ix2 i j) : EReal) = A.wg (ix2 i j)
  wp : ∀ (i : Fin 256) (j : Fin 1024), (wp (ix2 i j) : EReal) = A.wp (ix2 i j)
  bo : ∀ j : Fin 1024, (bo (ix2 0 j) : EReal) = A.bo (ix1 j)
  g : ∀ j : Fin 1024, (g (ix2 0 j) : EReal) = A.g (ix1 j)
  b : ∀ j : Fin 1024, (b (ix2 0 j) : EReal) = A.b (ix1 j)
  bg : ∀ j : Fin 1024, (bg (ix2 0 j) : EReal) = A.bg (ix1 j)

variable {A : Mid} {ρ : Fin 512 → Fin 8192} {y : Vec Ideal S512x1024 .bf16} {x : Vec Ideal S512x1024 .f32} {p : Vec Ideal S1x512x256 .f32}
  {wo wg : Vec Ideal S1024x1024 .bf16} {wp : Vec Ideal S256x1024 .bf16} {bo g b bg : Vec Ideal S1x1024 .f32}
  (H : Reads A ρ y x p wo wg wp bo g b bg)
include H

theorem r_at (a : Fin 512) (j : Fin 1024) : (k0_pay4 x y wo bo (ix2 a j) : EReal) = A.tail.r (ρ a) j := by
  pointwise [k0_pay4, H.x, H.y, H.wo, H.bo]
  rfl

theorem xg_at (a : Fin 512) (j : Fin 1024) : (k0_pay5 x y wo bo g (ix2 a j) : EReal) = A.tail.xh (ρ a) j * A.g (ix1 j) := by
  pointwise [k0_pay5, r_at H, H.g]
  rfl

theorem b_at (a : Fin 512) (j : Fin 1024) : (k0_pay6 b (ix2 a j) : EReal) = A.b (ix1 j) := by
  pointwise [k0_pay6, H.b]

theorem h_at (a : Fin 512) (j : Fin 1024) : (k0_pay7 (k0_pay5 x y wo bo g) (k0_pay6 b) (ix2 a j) : EReal) = A.tail.h (ρ a) j := by
  pointwise [k0_pay7, xg_at H, b_at H]
  rfl

theorem gate_at (a : Fin 512) (j : Fin 1024) : (k0_pay8 (k0_pay5 x y wo bo g) (k0_pay6 b) wg bg (ix2 a j) : EReal) = A.tail.gate (ρ a) j := by
  pointwise [k0_pay8, h_at H, H.wg, H.bg]
  rw [zero_sub (_ : EReal)]
  rfl

theorem xn_at (a : Fin 512) (j : Fin 1024) : (k0_pay9 (k0_pay5 x y wo bo g) (k0_pay6 b) wg bg p wp (ix2 a j) : EReal) = A.xn (ρ a) j := by
  pointwise [k0_pay9, gate_at H, h_at H, H.p, H.wp]
  rfl

theorem xb_at (a : Fin 512) (j : Fin 1024) : (k0_pay10 (k0_pay5 x y wo bo g) (k0_pay6 b) wg bg p wp (ix2 a j) : EReal) = A.xn (ρ a) j := by
  pointwise [k0_pay10, xn_at H]

omit H in
/-- The four column pieces of the projection have one body. -/
theorem pay2_eq : @k0_pay2 Ideal _ = k0_pay1 := rfl
omit H in
theorem pay3_eq : @k0_pay3 Ideal _ = k0_pay1 := rfl
omit H in
theorem pay11_eq (v33 v36 : FVec Ideal S512x1024 .f32) (v38 : Vec Ideal S1024x1024 .bf16) (v42 : Vec Ideal S1x1024 .f32) (v54 : Vec Ideal S1x512x256 .f32)
    (v56 : Vec Ideal S256x1024 .bf16) (w : Vec Ideal S1024x768 .bf16) (q : Vec Ideal S1x768 .f32) :
    k0_pay11 v33 v36 v38 v42 v54 v56 w q = k0_pay1 (k0_pay10 v33 v36 v38 v42 v54 v56) w q := rfl

/-- A column piece of the projection, from the piece's columns of the matrix and of the bias. -/
theorem z_at (w : Vec Ideal S1024x768 .bf16) (q : Vec Ideal S1x768 .f32) (κ : Fin 768 → Fin 3072)
    (hw : ∀ (i : Fin 1024) (j : Fin 768), (w (ix2 i j) : EReal) = A.wi (ix2 i (κ j))) (hq : ∀ j : Fin 768, (q (ix2 0 j) : EReal) = A.bi (ix1 (κ j)))
    (a : Fin 512) (j : Fin 768) :
    (k0_pay1 (k0_pay10 (k0_pay5 x y wo bo g) (k0_pay6 b) wg bg p wp) w q (ix2 a j) : EReal) = A.z (ρ a) (κ j) := by
  pointwise [k0_pay1, xb_at H, hw, hq]
  rfl

end Cert.MidFwdIdeal.Pay
-- ==== Proof.MidBlk.lean ====
module
public import proofs.«01_k».proof.Proof.MidEntry
public import proofs.«01_k».proof.Proof.MidPay

@[expose] public section

set_option maxRecDepth 16384
noncomputable section
namespace Cert.MidFwdIdeal.Value
open Cert.MidFwdIdeal Cert.MidFwdIdeal.Gen Idealize.ShloMosaic Idealize.ShloMosaic.TcCoe Idealize.SL.Sem Cert.Rows
open Idealize.ShloMosaic.Pipeline (Dat)

variable (m : (ℓ : Loc nD τ sig) → Buf (Elt Ideal) ℓ) (c : Dev nD)

/-- The windows' index maps: the tiled windows walk the rows, the others stay. -/
theorem idx : ∀ t : Fin cfg0.N, win0_0.index t = ![t.val, 0] ∧ win0_1.index t = ![t.val, 0] ∧ win0_2.index t = ![0, t.val, 0] ∧
    win0_3.index t = ![0, 0] ∧ win0_4.index t = ![0, 0] ∧ win0_5.index t = ![0, 0] ∧ win0_6.index t = ![0, 0] ∧
    win0_7.index t = ![0, 0] ∧ win0_8.index t = ![0, 0] ∧ win0_9.index t = ![t.val, 0] ∧ win0_10.index t = ![t.val, 0] ∧
    win0_11.index t = ![t.val, 0] ∧ win0_12.index t = ![t.val, 0] :=
  (by decide +kernel : ∀ t : Fin grid0.N, _)

/-- The array row of a block's row. -/
def row (t : Fin cfg0.N) (a : Fin 512) : Fin 8192 :=
  ⟨t.val * 512 + a.val, by have := t.isLt; have h : cfg0.N = 16 := N_0; omega⟩

theorem blk_y (t : Fin cfg0.N) (a : Fin 512) (j : Fin 1024) : (iblk m c 0 t (ix2 a j) : EReal) = (mid m c).y (ix2 (row t a) j) := by
  refine Eq.trans ?_ (entry_y m c (row t a) j)
  blk_ext [iblk, idx t, row]

theorem blk_x (t : Fin cfg0.N) (a : Fin 512) (j : Fin 1024) : (iblk m c 1 t (ix2 a j) : EReal) = (mid m c).x (ix2 (row t a) j) := by
  refine Eq.trans (b := (V m c main_arg0 (ix2 (row t a) j) : EReal)) ?_ rfl
  blk_ext [iblk, idx t, row]

theorem blk_p (t : Fin cfg0.N) (a : Fin 512) (j : Fin 256) : (iblk m c 2 t (ix3 0 a j) : EReal) = (mid m c).p (ix2 (row t a) j) := by
  refine Eq.trans ?_ (entry_p m c (row t a) j)
  blk_ext [iblk, idx t, row]

theorem blk_wo (t : Fin cfg0.N) (i j : Fin 1024) : (iblk m c 3 t (ix2 i j) : EReal) = (mid m c).wo (ix2 i j) := by
  refine Eq.trans ?_ (entry_wo m c i j)
  blk_ext [iblk, idx t]

theorem blk_wg (t : Fin cfg0.N) (i j : Fin 1024) : (iblk m c 4 t (ix2 i j) : EReal) = (mid m c).wg (ix2 i j) := by
  refine Eq.trans ?_ (entry_wg m c i j)
  blk_ext [iblk, idx t]

theorem blk_wp (t : Fin cfg0.N) (i : Fin 256) (j : Fin 1024) : (iblk m c 5 t (ix2 i j) : EReal) = (mid m c).wp (ix2 i j) := by
  refine Eq.trans ?_ (entry_wp m c i j)
  blk_ext [iblk, idx t]

theorem blk_wi (t : Fin cfg0.N) (i : Fin 1024) (j : Fin 3072) : (iblk m c 7 t (ix2 i j) : EReal) = (mid m c).wi (ix2 i j) := by
  refine Eq.trans ?_ (entry_wi m c i j)
  blk_ext [iblk, idx t]

theorem blk_bi (t : Fin cfg0.N) (j : Fin 3072) : (iblk m c 8 t (ix2 0 j) : EReal) = (mid m c).bi (ix1 j) := by
  refine Eq.trans ?_ (entry_bi m c j)
  blk_ext [iblk, idx t]

theorem blk_bo (t : Fin cfg0.N) (j : Fin 1024) :
    (View.ld (iblk m c 6 t) (Rect.unit ![0, 0] ![1, 1024] inb_S8x1024_S1x1024_0_0) (ix2 0 j) : EReal) = (mid m c).bo (ix1 j) := by
  refine Eq.trans ?_ (entry_bo m c j)
  pointwise
  blk_ext [iblk, idx t]

theorem blk_g (t : Fin cfg0.N) (j : Fin 1024) :
    (View.ld (iblk m c 6 t) (Rect.unit ![1, 0] ![1, 1024] inb_S8x1024_S1x1024_1_0) (ix2 0 j) : EReal) = (mid m c).g (ix1 j) := by
  refine Eq.trans ?_ (entry_g m c j)
  pointwise
  blk_ext [iblk, idx t]

theorem blk_b (t : Fin cfg0.N) (j : Fin 1024) :
    (View.ld (iblk m c 6 t) (Rect.unit ![2, 0] ![1, 1024] inb_S8x1024_S1x1024_2_0) (ix2 0 j) : EReal) = (mid m c).b (ix1 j) := by
  refine Eq.trans ?_ (entry_b m c j)
  pointwise
  blk_ext [iblk, idx t]

theorem blk_bg (t : Fin cfg0.N) (j : Fin 1024) :
    (View.ld (iblk m c 6 t) (Rect.unit ![3, 0] ![1, 1024] inb_S8x1024_S1x1024_3_0) (ix2 0 j) : EReal) = (mid m c).bg (ix1 j) := by
  refine Eq.trans ?_ (entry_bg m c j)
  pointwise
  blk_ext [iblk, idx t]

/-- A point's blocks hold its rows. -/
theorem reads (t : Fin cfg0.N) : Pay.Reads (mid m c) (row t) (iblk m c 0 t) (iblk m c 1 t) (iblk m c 2 t) (iblk m c 3 t) (iblk m c 4 t)
    (iblk m c 5 t) (View.ld (iblk m c 6 t) (Rect.unit ![0, 0] ![1, 1024] inb_S8x1024_S1x1024_0_0))
    (View.ld (iblk m c 6 t) (Rect.unit ![1, 0] ![1, 1024] inb_S8x1024_S1x1024_1_0))
    (View.ld (iblk m c 6 t) (Rect.unit ![2, 0] ![1, 1024] inb_S8x1024_S1x1024_2_0))
    (View.ld (iblk m c 6 t) (Rect.unit ![3, 0] ![1, 1024] inb_S8x1024_S1x1024_3_0)) where
  y := blk_y m c t
  x := blk_x m c t
  p := blk_p m c t
  wo := blk_wo m c t
  wg := blk_wg m c t
  wp := blk_wp m c t
  bo := blk_bo m c t
  g := blk_g m c t
  b := blk_b m c t
  bg := blk_bg m c t

end Cert.MidFwdIdeal.Value
-- ==== Proof.MidFinal.lean ====
module
public import proofs.«01_k».proof.Proof.MidBlk

@[expose] public section

set_option maxRecDepth 16384
noncomputable section
namespace Cert.MidFwdIdeal.Value
open Cert.MidFwdIdeal Cert.MidFwdIdeal.Gen Idealize.ShloMosaic Idealize.ShloMosaic.TcCoe Idealize.SL.Sem Cert.Rows
open Idealize.ShloMosaic.Pipeline (Dat)

variable (m : (ℓ : Loc nD τ sig) → Buf (Elt Ideal) ℓ) (c : Dev nD)

theorem place9 (G : Mat 8192 1024) (t : Fin cfg0.N) (a : Fin 512) (j : Fin 1024) :
    G (ix2 (row t a) j) = G (((cfg0.win 9).blk t).view.emb (ix2 a j)) := by
  blk_ext [idx t, row]

theorem final9 : (dats m 0 c).arrAt 9 cfg0.N = fun y => (mid m c).xn (y 0) (y 1) := by
  refine (dats m 0 c).arrAt_eq_of_covers 9 _ (by decide +kernel) fun t _ y => ?_
  idx_vars y
  refine Eq.trans ?_ (place9 (fun y => (mid m c).xn (y 0) (y 1)) t y0 y1)
  blk_simp
  rw [after0_9]
  unfold_out out0_9
  frame_out
  exact Pay.xn_at (reads m c t) _ _

theorem place10 (G : Mat 8192 1024) (t : Fin cfg0.N) (a : Fin 512) (j : Fin 1024) :
    G (ix2 (row t a) j) = G (((cfg0.win 10).blk t).view.emb (ix2 a j)) := by
  blk_ext [idx t, row]

theorem final10 : (dats m 0 c).arrAt 10 cfg0.N = fun y => (mid m c).tail.r (y 0) (y 1) := by
  refine (dats m 0 c).arrAt_eq_of_covers 10 _ (by decide +kernel) fun t _ y => ?_
  idx_vars y
  refine Eq.trans ?_ (place10 (fun y => (mid m c).tail.r (y 0) (y 1)) t y0 y1)
  blk_simp
  rw [after0_10]
  frame_out
  exact Pay.r_at (reads m c t) _ _

theorem place11 (G : Mat 8192 1024) (t : Fin cfg0.N) (a : Fin 512) (j : Fin 1024) :
    G (ix2 (row t a) j) = G (((cfg0.win 11).blk t).view.emb (ix2 a j)) := by
  blk_ext [idx t, row]

theorem final11 : (dats m 0 c).arrAt 11 cfg0.N = fun y => (mid m c).tail.gate (y 0) (y 1) := by
  refine (dats m 0 c).arrAt_eq_of_covers 11 _ (by decide +kernel) fun t _ y => ?_
  idx_vars y
  refine Eq.trans ?_ (place11 (fun y => (mid m c).tail.gate (y 0) (y 1)) t y0 y1)
  blk_simp
  rw [after0_11]
  unfold_out out0_11
  frame_out
  exact Pay.gate_at (reads m c t) _ _

/-! ## The projection, written in four column pieces -/

/-- Column `j` of the piece that starts at column `o`. -/
def col (o : Nat) (h : o ≤ 2304) (j : Fin 768) : Fin 3072 := ⟨o + j.val, by omega⟩

theorem blkw (t : Fin cfg0.N) (o : Nat) (h : o ≤ 2304) (hb : ∀ a : Fin 2, ![0, o] a + ![1024, 768] a ≤ S1024x3072.size a) (i : Fin 1024) (j : Fin 768) :
    (View.ld (iblk m c 7 t) (Rect.unit (s := S1024x3072) ![0, o] ![1024, 768] hb) (ix2 i j) : EReal) = (mid m c).wi (ix2 i (col o h j)) := by
  refine Eq.trans ?_ (blk_wi m c t i (col o h j))
  refine View.ld_unit_apply_of _ _ _ _ _ _ fun a => ?_
  fin_cases a
  · show i.val = 0 + i.val
    omega
  · rfl

theorem blkb (t : Fin cfg0.N) (o : Nat) (h : o ≤ 2304) (hb : ∀ a : Fin 2, ![0, o] a + ![1, 768] a ≤ S1x3072.size a) (j : Fin 768) :
    (View.ld (iblk m c 8 t) (Rect.unit (s := S1x3072) ![0, o] ![1, 768] hb) (ix2 0 j) : EReal) = (mid m c).bi (ix1 (col o h j)) := by
  refine Eq.trans ?_ (blk_bi m c t (col o h j))
  refine View.ld_unit_apply_of _ _ _ _ _ _ fun a => ?_
  fin_cases a
  · rfl
  · rfl

theorem place12 (G : Mat 8192 3072) (t : Fin cfg0.N) (a : Fin 512) (j : Fin 3072) :
    G (ix2 (row t a) j) = G (((cfg0.win 12).blk t).view.emb (ix2 a j)) := by
  blk_ext [idx t, row]

/-- A column piece at the index of the block it holds. -/
theorem piece (t : Fin cfg0.N) (o : Nat) (h : o ≤ 2304) (w : Vec Ideal S1024x768 .bf16) (q : Vec Ideal S1x768 .f32)
    (hw : ∀ (i : Fin 1024) (j : Fin 768), (w (ix2 i j) : EReal) = (mid m c).wi (ix2 i (col o h j)))
    (hq : ∀ j : Fin 768, (q (ix2 0 j) : EReal) = (mid m c).bi (ix1 (col o h j)))
    (x : S512x768.Idx) (a : Fin 512) (j : Fin 3072) (h0 : a.val = (x 0).val) (h1 : j.val = o + (x 1).val) :
    (k0_pay1 (k0_pay10 (k0_pay5 (iblk m c 1 t) (iblk m c 0 t) (iblk m c 3 t)
      (View.ld (iblk m c 6 t) (Rect.unit ![0, 0] ![1, 1024] inb_S8x1024_S1x1024_0_0))
      (View.ld (iblk m c 6 t) (Rect.unit ![1, 0] ![1, 1024] inb_S8x1024_S1x1024_1_0)))
      (k0_pay6 (View.ld (iblk m c 6 t) (Rect.unit ![2, 0] ![1, 1024] inb_S8x1024_S1x1024_2_0)))
      (iblk m c 4 t) (View.ld (iblk m c 6 t) (Rect.unit ![3, 0] ![1, 1024] inb_S8x1024_S1x1024_3_0)) (iblk m c 2 t) (iblk m c 5 t)) w q x : EReal) =
      (mid m c).z (row t a) j := by
  idx_vars x
  have ea : a = x0 := Fin.ext h0
  have ej : j = col o h x1 := Fin.ext h1
  rw [ea, ej]
  exact Pay.z_at (reads m c t) w q (col o h) hw hq x0 x1

theorem final12 : (dats m 0 c).arrAt 12 cfg0.N = fun y => (mid m c).z (y 0) (y 1) := by
  refine (dats m 0 c).arrAt_eq_of_covers 12 _ (by decide +kernel) fun t _ y => ?_
  idx_vars y
  refine Eq.trans ?_ (place12 (fun y => (mid m c).z (y 0) (y 1)) t y0 y1)
  blk_simp
  rw [after0_12]
  unfold_out out0_12
  rw [Pay.pay11_eq, Pay.pay2_eq, Pay.pay3_eq]
  frame_out
  canon_tiles x h using cover0_12 ..
  · exact piece m c t 2304 (by omega) _ _ (blkw m c t 2304 (by omega) _) (blkb m c t 2304 (by omega) _) x y0 y1 h0 h1
  · exact piece m c t 1536 (by omega) _ _ (blkw m c t 1536 (by omega) _) (blkb m c t 1536 (by omega) _) x y0 y1 h0 h1
  · exact piece m c t 768 (by omega) _ _ (blkw m c t 768 (by omega) _) (blkb m c t 768 (by omega) _) x y0 y1 h0 h1
  · exact piece m c t 0 (by omega) _ _ (blkw m c t 0 (by omega) _) (blkb m c t 0 (by omega) _) x y0 y1 h0 (h1.trans (Nat.zero_add _).symm)

end Cert.MidFwdIdeal.Value
-- ==== Proof.MidRefVal.lean ====
module
public import proofs.«01_k».proof.Proof.MidSpec
public import proofs.«01_k».proof.Proof.Gen.MidRefIdeal.Run

@[expose] public section

set_option maxRecDepth 16384
noncomputable section
namespace Cert.MidRefIdeal.Value
open Cert.MidRefIdeal Cert.MidRefIdeal.Gen Idealize.ShloMosaic Idealize.ShloMosaic.TcCoe Idealize.SL.Sem Cert.Rows

variable (m : (ℓ : Loc nD τ sig) → Buf (Elt Ideal) ℓ) (c : Dev nD)

/-- The arguments of the reference. -/
def mid : Mid where
  x := m ((c.tc : Thread nD τ).loc main_arg0)
  y := m ((c.tc : Thread nD τ).loc main_arg1)
  p := m ((c.tc : Thread nD τ).loc main_arg2)
  wo := m ((c.tc : Thread nD τ).loc main_arg3)
  bo := m ((c.tc : Thread nD τ).loc main_arg4)
  g := m ((c.tc : Thread nD τ).loc main_arg5)
  b := m ((c.tc : Thread nD τ).loc main_arg6)
  wp := m ((c.tc : Thread nD τ).loc main_arg7)
  wg := m ((c.tc : Thread nD τ).loc main_arg8)
  bg := m ((c.tc : Thread nD τ).loc main_arg9)
  wi := m ((c.tc : Thread nD τ).loc main_arg10)
  bi := m ((c.tc : Thread nD τ).loc main_arg11)

/-! The reference's lines, one named stage each. -/

def rT : FVec Ideal S8192x1024 .f32 :=
  addf (addf (mulf (broadcastInDim S8192x1024 ![] bcast_S_S8192x1024 (constant S_ .f32 0x3FD744FD#32)) (m ((c.tc : Thread nD τ).loc main_arg0)))
    (Host.dotGeneral (φ₁ := .f32) (φ₂ := .f32) dot_S8192x1024_S1024x1024_S8192x1024_1_0_0_1_n_n none (m ((c.tc : Thread nD τ).loc main_arg1)) (m ((c.tc : Thread nD τ).loc main_arg3))))
    (broadcastInDim S8192x1024 ![0, 1] bcast_S1x1024_S8192x1024_0_1 (broadcastInDim S1x1024 ![1] bcast_S1024_S1x1024_1 (m ((c.tc : Thread nD τ).loc main_arg4))))

def meanT (f : FVec Ideal S8192x1024 .f32) : FVec Ideal S8192x1 .f32 :=
  Host.divf (broadcastInDim S8192x1 ![0] bcast_S8192_S8192x1_0 (Host.reduceAdd f (constant S_ .f32 0x00000000#32) reducesTo_S8192x1024_S8192_d1 h_S_))
    (broadcastInDim S8192x1 ![] bcast_S_S8192x1 (constant S_ .f32 0x44800000#32))

def devT : FVec Ideal S8192x1024 .f32 :=
  subf (rT m c) (broadcastInDim S8192x1024 ![0, 1] bcast_S8192x1_S8192x1024_0_1 (meanT (rT m c)))

def rsT : FVec Ideal S8192x1 .f32 :=
  Host.rsqrt (addf (meanT (mulf (devT m c) (devT m c))) (broadcastInDim S8192x1 ![] bcast_S_S8192x1 (constant S_ .f32 0x3727C5AC#32)))

def hT : FVec Ideal S8192x1024 .f32 :=
  addf (mulf (mulf (devT m c) (broadcastInDim S8192x1024 ![0, 1] bcast_S8192x1_S8192x1024_0_1 (rsT m c)))
    (broadcastInDim S8192x1024 ![0, 1] bcast_S1x1024_S8192x1024_0_1 (broadcastInDim S1x1024 ![1] bcast_S1024_S1x1024_1 (m ((c.tc : Thread nD τ).loc main_arg5)))))
    (broadcastInDim S8192x1024 ![0, 1] bcast_S1x1024_S8192x1024_0_1 (broadcastInDim S1x1024 ![1] bcast_S1024_S1x1024_1 (m ((c.tc : Thread nD τ).loc main_arg6))))

def gateT : FVec Ideal S8192x1024 .f32 :=
  Host.divf (broadcastInDim S8192x1024 ![] bcast_S_S8192x1024 (constant S_ .f32 0x3F800000#32))
    (addf (broadcastInDim S8192x1024 ![] bcast_S_S8192x1024 (constant S_ .f32 0x3F800000#32))
      (Host.exp (Host.negf (addf (Host.dotGeneral (φ₁ := .f32) (φ₂ := .f32) dot_S8192x1024_S1024x1024_S8192x1024_1_0_0_1_n_n none (hT m c) (m ((c.tc : Thread nD τ).loc main_arg8)))
        (broadcastInDim S8192x1024 ![0, 1] bcast_S1x1024_S8192x1024_0_1 (broadcastInDim S1x1024 ![1] bcast_S1024_S1x1024_1 (m ((c.tc : Thread nD τ).loc main_arg9))))))))

def xnT : FVec Ideal S8192x1024 .f32 :=
  addf (hT m c) (mulf (gateT m c)
    (Host.dotGeneral (φ₁ := .f32) (φ₂ := .f32) dot_S8192x256_S256x1024_S8192x1024_1_0_0_1_n_n none (m ((c.tc : Thread nD τ).loc main_arg2)) (m ((c.tc : Thread nD τ).loc main_arg7))))

def zT : FVec Ideal S8192x3072 .f32 :=
  addf (Host.dotGeneral (φ₁ := .f32) (φ₂ := .f32) dot_S8192x1024_S1024x3072_S8192x3072_1_0_0_1_n_n none (xnT m c) (m ((c.tc : Thread nD τ).loc main_arg10)))
    (broadcastInDim S8192x3072 ![0, 1] bcast_S1x3072_S8192x3072_0_1 (broadcastInDim S1x3072 ![1] bcast_S3072_S1x3072_1 (m ((c.tc : Thread nD τ).loc main_arg11))))

theorem res_gate : res_main_v40 m c = gateT m c := rfl
theorem res_xn : res_main_v43 m c = xnT m c := rfl
theorem res_z : res_main_v47 m c = zT m c := rfl

theorem r_at (i : Fin 8192) (j : Fin 1024) : (rT m c (ix2 i j) : EReal) = (mid m c).tail.r i j := by
  pointwise [rT]
  rfl

theorem mean_at (f : FVec Ideal S8192x1024 .f32) (i : Fin 8192) (j : Fin 1) :
    (meanT f (ix2 i j) : EReal) = mean width (fun k : Fin 1024 => (f (ix2 i k) : EReal)) := by
  pointwise [meanT]
  rfl

theorem dev_at (i : Fin 8192) (j : Fin 1024) : (devT m c (ix2 i j) : EReal) = dev width ((mid m c).tail.r i) j := by
  pointwise [devT, mean_at, r_at]
  rfl

theorem rs_at (i : Fin 8192) (j : Fin 1) : (rsT m c (ix2 i j) : EReal) = rs width eps ((mid m c).tail.r i) := by
  pointwise [rsT, mean_at, dev_at]
  rfl

theorem h_at (i : Fin 8192) (j : Fin 1024) : (hT m c (ix2 i j) : EReal) = (mid m c).tail.h i j := by
  pointwise [hT, dev_at, rs_at]
  rfl

theorem gate_at (i : Fin 8192) (j : Fin 1024) : (gateT m c (ix2 i j) : EReal) = (mid m c).tail.gate i j := by
  pointwise [gateT, h_at]
  rfl

theorem xn_at (i : Fin 8192) (j : Fin 1024) : (xnT m c (ix2 i j) : EReal) = (mid m c).xn i j := by
  pointwise [xnT, h_at, gate_at]
  rfl

theorem z_at (i : Fin 8192) (j : Fin 3072) : (zT m c (ix2 i j) : EReal) = (mid m c).z i j := by
  pointwise [zT, xn_at]
  rfl

end Cert.MidRefIdeal.Value
-- ==== Proof.FwdBits.lean ====
module
public import proofs.«01_k».proof.Proof.Gen.EvenFwd.Frame.Runs
public import proofs.«01_k».proof.Proof.RelTail
public import Idealize.ShloMosaic.Lib.Pipeline.DatRel
public import Idealize.ShloMosaic.Lib.Claim

@[expose] public section

/-! The even mixer's forward call over the machine's numbers: it ends, and it keeps its arguments. -/

set_option maxRecDepth 16384
noncomputable section
namespace Cert.EvenFwd.Run
open Cert.EvenFwd Cert.EvenFwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
theorem runA (c : Dev nD) (i : grid0.Coords) (arg2 : Memref sig .tc .vmem S1x512x3072 .f32) (harg2 : arg2.IsWhole) (arg3 : Memref sig .tc .vmem S1x32x1024 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S8x128x128 .f32) (harg6 : arg6.IsWhole) (arg7 : Memref sig .tc .vmem S128x512 .f32) (harg7 : arg7.IsWhole) (arg8 : Memref sig .tc .vmem S1x512x1024 .bf16) (harg8 : arg8.IsWhole) (arg9 : Memref sig .tc .vmem S1x512x512 .f32) (harg9 : arg9.IsWhole) (arg10 : Memref sig .tc .vmem S552x512 .f32) (harg10 : arg10.IsWhole) (arg11 : Memref sig .tc .vmem S7x544x512 .f32) (harg11 : arg11.IsWhole)
    (x0 : Vec F S1x512x3072 .f32) (x1 : Vec F S1x32x1024 .f32) (x2 : Vec F S32x512 .f32) (x3 : Vec F S8x512 .f32) (x4 : Vec F S8x128x128 .f32) (x5 : Vec F S128x512 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_even_fwd i arg2 harg2 arg3 harg3 arg4 harg4 arg5 harg5 arg6 harg6 arg7 harg7 arg8 harg8 arg9 harg9 arg10 harg10 arg11 harg11) K := by
  simp only [cc0_even_fwd_eq_skeleton]; unfold cc0_even_fwd_skel
  simp only [k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _, _; isplitr; swap; · iexact H6
    ipureintro; rfl
  isplitl [H7]
  · iexists _, _; isplitr; swap; · iexact H7
    ipureintro; rfl
  isplitl [HS0]
  · iexists _, _; isplitr; swap; · iexact HS0
    ipureintro; rfl
  iexists _, _; isplitr; swap; · iexact HS1
  ipureintro; rfl

variable (m : (ℓ : Loc nD τ sig) → Buf (Elt F) ℓ) (ρ : Dev nD → PrngReg)

/-- The line after the launch writes its own result only. -/
theorem rest_of_post (rdat : (c : Dev nD) → Pipeline.RDat τ (Elt F) Unit ℕ (UR sig nD τ) ℕ (cfgs 0) c)
    (s : MemSt nD τ sig (Elt F)) (h : RelTail.Post cfgs 0 rdat (V0 m) [hostOps1] s) (c : Dev nD) (b : Ref sig .tc) (hs : b.isScoped = false)
    (ha : ∀ w, Pipeline.arrRef spec0 w ≠ b) (h0 : b ≠ main_v13) :
    s.mem ((c.tc : Thread nD τ).loc b) = V m c b := by
  obtain ⟨A, -, hb⟩ := (h c).2
  have hm : b ∈ Pipeline.restRefsP sig Pipeline.Prefetch.none spec0 :=
    Finset.mem_sdiff.mpr ⟨Pipeline.mem_restRefs_of b hs ha, fun h => ((Finset.mem_image.mp h).elim fun k _ => k.elim0)⟩
  rw [hb b hm, StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      exact StableHlo.devRef_ne_of_ne h0)),
    Pipeline.withArrays_of_ne _ c (V0 m c) _ b ha]

/-- The argument arrays end as they were launched, from any run of the launch that keeps its inputs. -/
theorem frame_of_post (rdat : (c : Dev nD) → Pipeline.RDat τ (Elt F) Unit ℕ (UR sig nD τ) ℕ (cfgs 0) c) (hA : ∀ c w, (rdat c).A w = V m c (Pipeline.arrRef spec0 w))
    (s : MemSt nD τ sig (Elt F)) (h : RelTail.Post cfgs 0 rdat (V0 m) [hostOps1] s) (c : Dev nD) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8) := by
  have inp (w : Fin 8) (hin : (cfg0.win w).isOut = false) : s.mem ((spec0 w).arr.view.loc (c.tc : Thread nD τ)) = (rdat c).A w := by
    have h1 := (h c).1 w
    rw [(rdat c).ArrAt_in w hin] at h1
    exact h1
  have rest (b : Ref sig .tc) (hs : _) (ha : _) (h0 : _) := rest_of_post m rdat s h c b hs ha h0
  exact ⟨(inp 0 rfl).trans ((hA c 0).trans (V_main_arg0 m c)),
    (rest main_arg1 (by decide) (by decide) (by decide)).trans (V_main_arg1 m c), (rest main_arg2 (by decide) (by decide) (by decide)).trans (V_main_arg2 m c), (rest main_arg3 (by decide) (by decide) (by decide)).trans (V_main_arg3 m c), (rest main_arg4 (by decide) (by decide) (by decide)).trans (V_main_arg4 m c), (rest main_arg5 (by decide) (by decide) (by decide)).trans (V_main_arg5 m c), (rest main_arg6 (by decide) (by decide) (by decide)).trans (V_main_arg6 m c),
    (inp 4 rfl).trans ((hA c 4).trans (V_main_arg7 m c)),
    (rest main_arg8 (by decide) (by decide) (by decide)).trans (V_main_arg8 m c)⟩

/-- The outputs of which nothing is said. -/
def forgets0 : Fin 8 → Bool := fun w => w.val == 6 || w.val == 7

/-- Nothing is said of them. -/
def Rl (c : Dev nD) : (w : Fin cfg0.W) → Fin cfg0.N → ((cfg0.win w).block.Idx → Elt F (cfg0.win w).elt) → Prop := fun _ _ _ => True

/-- The launch's data on one device: each window's array and what its buffer holds after the body at point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨_ + 8, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜((dats m 0 c).toRRel forgets0 (Rl (F := F) c)).Finds 6 t Y⌝ ∗ owns (c : Thread nD τ) (ms0_6 t) fullShare Y)
    ∗ (∃ Y, ⌜((dats m 0 c).toRRel forgets0 (Rl (F := F) c)).Finds 7 t Y⌝ ∗ owns (c : Thread nD τ) (ms0_7 t) fullShare Y))

/-- What it gives back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜Rl (F := F) c 6 t X⌝ ∗ owns (c : Thread nD τ) (ms0_6 t) fullShare X)
    ∗ (∃ X, ⌜Rl (F := F) c 7 t X⌝ ∗ owns (c : Thread nD τ) (ms0_7 t) fullShare X))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, %_h6, H6⟩, ⟨%d7, %_h7, H7⟩⟩
  iapply (runA c (grid0.coords t) _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, ⟨%e6, H6⟩, ⟨%e7, H7⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; trivial
  iexists _; isplitr; swap; · iexact H7
  ipureintro; trivial

theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligationRel (dats m 0 c) (defs₀ (F := F)) Variants.none () Set.univ forgets0 (Rl (F := F) c) := fun t => by
  rw [bigSep_W0, bigSep_W0, defs₀_row]
  exact triple_restated (sound_body m c t) rfl .rfl fun _ => .rfl

/-- The launch's data with the marked outputs unnamed. -/
abbrev rdat (c : Dev nD) : Pipeline.RDat τ (Elt F) Unit ℕ (UR sig nD τ) ℕ (cfgs 0) c := (dats m 0 c).toRRel forgets0 (Rl (F := F) c)

set_option backward.isDefEq.respectTransparency.types false in
/-- The launch and the lines after it end, with every array as the data says and every counter at zero. -/
theorem run : θ_run defs (onTc (τ := τ) (main (F := F))) (s₀ m ρ)
    (fun r => RelTail.Post cfgs 0 (rdat m) (V0 m) [hostOps1] r.2 ∧ r.2.sem = fun _ => 0) :=
  RelTail.run cfgs (0 : Fin 1) launch₀0 defs₀ Variants.none (rdat m) m ρ main (fun c => (body_obligation m c).toRRel) (fun _ _ _ => rfl) (fun _ _ => rfl)
    (V0 m) [hostOps1] sfx_sub sfx_fresh sfx_keeps (hmain m Variants.none) (A_eq m) (fun _ _ => rfl)

/-- The argument arrays end as they were launched and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
    ∧ r.2.sem = fun _ => 0) :=
  (θ_run defs _ _).mono (fun r h => ⟨frame_of_post m (rdat m) (A_eq m) r.2 h.1, h.2⟩) (run m ρ)

end Cert.EvenFwd.Run
-- ==== Proof.FwdSpec.lean ====
module
public import proofs.«01_k».proof.Proof.EvenMix

@[expose] public section

/-!
The gated branch forward: the normed value lanes mixed by the heads' lower triangular matrices, plus the bias, times the
rectified lanes and the gate.
-/

noncomputable section
open Idealize.ShloMosaic

namespace Cert.Rows.Gated
variable (a : Gated) (w : Mixing) (bias : Fin 128 → Fin 512 → EReal)

/-- The mixed lanes. -/
def sg (i : Fin 2) (n : Fin 32) (t : Fin 128) (j : Fin 512) : EReal :=
  ∑ s : Fin 128, if s ≤ t then w (head j) t s * a.vl i (pos n s) j else 0

/-- The branch's output. -/
def out (i : Fin 2) (n : Fin 32) (t : Fin 128) (j : Fin 512) : EReal :=
  gelu (a.z (ix3 i (pos n t) (col 3 j))) * (a.sg w i n t j + bias t j) * silu (a.z (ix3 i (pos n t) (col 5 j)))

end Cert.Rows.Gated

namespace Cert.Rows

/-- The gated branch at a row of a sequence. -/
def outAt (A : Gated) (w : Mixing) (bias : Fin 128 → Fin 512 → EReal) (i : Fin 2) (r : Fin 4096) (j : Fin 512) : EReal :=
  A.out w bias i ⟨r.val / 128, by omega⟩ ⟨r.val % 128, by omega⟩ j

end Cert.Rows
-- ==== Proof.FwdPay.lean ====
module
public import proofs.«01_k».proof.Proof.EvenMix
public import proofs.«01_k».proof.Proof.FwdSpec
public import proofs.«01_k».proof.Proof.Gen.EvenFwdIdeal.Skeleton

@[expose] public section

/-! What a trip over a block stores is the gated branch of its rows. -/

set_option maxRecDepth 16384
noncomputable section
open Idealize.ShloMosaic

namespace Cert.EvenFwdIdeal.Pay
open Cert.EvenFwdIdeal Cert.EvenFwdIdeal.Gen Idealize.ShloMosaic.TcCoe Idealize.SL.Sem Cert.Rows
open Cert.EvenBwdIdeal.Pay (tri lo_sel)

/-- A slab of the mixing matrices. -/
def Slab (w : Mixing) (h : Fin 8) (x : Vec Ideal S1x128x128 .f32) : Prop := ∀ t s : Fin 128, (x (ix3 0 t s) : EReal) = w h t s

/-- The rectifier with its cube spelt the other way. -/
theorem gelu_eq (x : EReal) : Ideal.ofBits .f32 0x3F000000#32 * x *
    (1 + Ideal.tanh (Ideal.ofBits .f32 0x3F4C422A#32 * (x + Ideal.ofBits .f32 0x3D372713#32 * (x * x * x)))) = gelu x := by
  rw [mul_comm (x * x) x]; rfl

variable {A : Gated} {w : Mixing} {bias : Fin 128 → Fin 512 → EReal} {i : Fin 2} {n : Fin 32}
  {xu xv xg : Vec Ideal S1x128x512 .f32} {g b : Vec Ideal S1x512 .f32} {w0 w1 w2 w3 w4 w5 w6 w7 : Vec Ideal S1x128x128 .f32} {bs : Vec Ideal S128x512 .f32}

variable (A w bias i n xu xv xg g b w0 w1 w2 w3 w4 w5 w6 w7 bs) in
/-- The rows a trip loads are those of block `n` of sequence `i`. -/
structure Reads : Prop where
  u : ∀ (r : Fin 128) (j : Fin 512), (xu (ix3 0 r j) : EReal) = A.z (ix3 i (pos n r) (col 3 j))
  v : ∀ (r : Fin 128) (j : Fin 512), (xv (ix3 0 r j) : EReal) = A.z (ix3 i (pos n r) (col 4 j))
  gg : ∀ (r : Fin 128) (j : Fin 512), (xg (ix3 0 r j) : EReal) = A.z (ix3 i (pos n r) (col 5 j))
  g : ∀ j : Fin 512, (g (ix2 0 j) : EReal) = A.g (ix1 j)
  b : ∀ j : Fin 512, (b (ix2 0 j) : EReal) = A.b (ix1 j)
  bs : ∀ (r : Fin 128) (j : Fin 512), (bs (ix2 r j) : EReal) = bias r j
  w0 : Slab w 0 w0
  w1 : Slab w 1 w1
  w2 : Slab w 2 w2
  w3 : Slab w 3 w3
  w4 : Slab w 4 w4
  w5 : Slab w 5 w5
  w6 : Slab w 6 w6
  w7 : Slab w 7 w7

/-- The layer norm of the value row, as the trip computes it. -/
abbrev vlV (xv : Vec Ideal S1x128x512 .f32) (g b : Vec Ideal S1x512 .f32) : FVec Ideal S128x512 .bf16 := k0_pay28 (k0_pay25 xv) (k0_pay26 xv) k0_pay27 g b

/-- The lanes' numbers, as the body spells them. -/
abbrev laneV : IVec S128x128 32 := iota .tc S128x128 32 [1] iota_S128x128_d1_w32

/-- What the trip stores. -/
abbrev outV (xu xv xg : Vec Ideal S1x128x512 .f32) (g b : Vec Ideal S1x512 .f32) (w0 w1 w2 w3 w4 w5 w6 w7 : Vec Ideal S1x128x128 .f32) (bs : Vec Ideal S128x512 .f32) : FVec Ideal S1x128x512 .bf16 :=
  k0_pay36 k0_pay5 (k0_pay23 xu) laneV
    (k0_pay32 laneV (k0_pay30 k0_pay5 (k0_pay25 xv) (k0_pay26 xv) k0_pay27 g b w0) (k0_pay31 k0_pay5 (k0_pay25 xv) (k0_pay26 xv) k0_pay27 g b w1))
    (k0_pay33 k0_pay5 (vlV xv g b) laneV w2 w3) (k0_pay34 k0_pay5 (vlV xv g b) laneV w4 w5) (k0_pay35 (vlV xv g b)) w6 w7 bs xg

variable (H : Reads A w bias i n xu xv xg g b w0 w1 w2 w3 w4 w5 w6 w7 bs)

/-- One pair of heads' lanes. -/
theorem pair_at (A : Gated) (w : Mixing) (i : Fin 2) (n : Fin 32) (p : ℕ) (q r : Fin 8) (hq : q.val = 2 * p) (hr : r.val = 2 * p + 1) (a b : Vec Ideal S1x128x128 .f32) (ha : Slab w q a) (hb : Slab w r b)
    (t : Fin 128) (j jj : Fin 512) (x : ℕ) (hx : x < 128) (hj : j.val = 128 * p + x) (hjj : jj = j) :
    Scalar.select (IntOp.cmpi .slt (BitVec.ofNat 32 x) 64#32)
      (∑ s : Fin 128, Scalar.select (IntOp.cmpi .sge (BitVec.ofNat 32 t.val) (BitVec.ofNat 32 s.val)) (a (ix3 0 t s) * A.vl i (pos n s) jj : EReal) 0)
      (∑ s : Fin 128, Scalar.select (IntOp.cmpi .sge (BitVec.ofNat 32 t.val) (BitVec.ofNat 32 s.val)) (b (ix3 0 t s) * A.vl i (pos n s) jj : EReal) 0) =
    A.sg w i n t j := by
  subst hjj
  refine (lo_sel ⟨x, hx⟩ _ _).trans ?_
  simp only [tri]
  unfold Gated.sg
  split
  · rename_i h
    have e : head jj = q := Fin.ext (by show jj.val / 64 = q.val; omega)
    rw [e]
    exact Finset.sum_congr rfl fun s _ => by rw [show (a (ix3 0 t s) : EReal) = w q t s from ha t s]
  · rename_i h
    have e : head jj = r := Fin.ext (by show jj.val / 64 = r.val; omega)
    rw [e]
    exact Finset.sum_congr rfl fun s _ => by rw [show (b (ix3 0 t s) : EReal) = w r t s from hb t s]

include H
theorem ua_at (r : Fin 128) (j : Fin 512) : (k0_pay23 xu (ix2 r j) : EReal) = gelu (A.z (ix3 i (pos n r) (col 3 j))) := by
  pointwise [k0_pay23, H.u]
  exact gelu_eq _

theorem vl_at (r : Fin 128) (j : Fin 512) : (vlV xv g b (ix2 r j) : EReal) = A.vl i (pos n r) j := by
  pointwise [vlV, k0_pay28, k0_pay25, k0_pay26, k0_pay24, k0_pay27, H.v, H.g, H.b]
  simp only [gelu_eq]
  rfl

theorem out_at (t : Fin 128) (j : Fin 512) : (outV xu xv xg g b w0 w1 w2 w3 w4 w5 w6 w7 bs (ix3 0 t j) : EReal) = A.out w bias i n t j := by
  have vl28 : ∀ (r : Fin 128) (j : Fin 512), (k0_pay28 (k0_pay25 xv) (k0_pay26 xv) k0_pay27 g b (ix2 r j) : EReal) = A.vl i (pos n r) j := fun r j => vl_at H r j
  pointwise [outV, k0_pay36, k0_pay30, k0_pay31, k0_pay32, k0_pay33, k0_pay34, k0_pay35, k0_pay29, k0_pay5, laneV, ua_at H, vl28, H.gg, H.bs]
  simp only [zero_sub]
  refine congrArg (fun x => gelu (A.z (ix3 i (pos n t) (col 3 j))) * (x + bias t j) * silu (A.z (ix3 i (pos n t) (col 5 j)))) ?_
  by_cases c0 : j.val < 128
  · rw [dif_pos c0]
    exact pair_at A w i n 0 0 1 rfl rfl w0 w1 H.w0 H.w1 t j j j.val c0 (by omega) rfl
  rw [dif_neg c0]
  by_cases c1 : j.val - 128 < 128
  · rw [dif_pos c1]
    exact pair_at A w i n 1 2 3 rfl rfl w2 w3 H.w2 H.w3 t j ⟨128 + (j.val - 128), by omega⟩ (j.val - 128) c1 (by omega) (Fin.ext (by dsimp only; omega))
  rw [dif_neg c1]
  by_cases c2 : j.val - 128 - 128 < 128
  · rw [dif_pos c2]
    exact pair_at A w i n 2 4 5 rfl rfl w4 w5 H.w4 H.w5 t j ⟨256 + (j.val - 128 - 128), by omega⟩ (j.val - 128 - 128) c2 (by omega) (Fin.ext (by dsimp only; omega))
  · rw [dif_neg c2]
    exact pair_at A w i n 3 6 7 rfl rfl w6 w7 H.w6 H.w7 t j ⟨384 + (j.val - 128 - 128 - 128), by omega⟩ (j.val - 128 - 128 - 128) (by omega) (by omega) (Fin.ext (by dsimp only; omega))

end Cert.EvenFwdIdeal.Pay
-- ==== Proof.FwdLoop.lean ====
module
public import proofs.«01_k».proof.Proof.FwdPay
public import Idealize.ShloMosaic.Lib.WritesUnit
public import proofs.«01_k».proof.Proof.Gen.EvenFwdIdeal.Loops

@[expose] public section

/-! The loop over a tile's blocks stores the gated branch of its rows in the upper half of the output's columns. -/

set_option maxRecDepth 16384
noncomputable section
namespace Cert.EvenFwdIdeal.Pay
open Cert.EvenFwdIdeal Cert.EvenFwdIdeal.Gen Idealize.ShloMosaic Idealize.ShloMosaic.TcCoe Idealize.SL.Sem Cert.Rows

/-- The rows of a block a trip reads: the mixed lanes, the values and the gate. -/
abbrev ldU (a : Memref sig .tc .vmem S1x512x3072 .f32) (X : BufTy.Contents (Elt Ideal) a.view.ty) (k : Fin k0_t2_loop.trips) : Vec Ideal S1x128x512 .f32 :=
  View.readAt (Elt Ideal) a.view (Rect.unit (s := S1x512x3072) (k0_off13 k) S1x128x512.size (k0_off13_inb k)).toLoadRect X
abbrev ldV (a : Memref sig .tc .vmem S1x512x3072 .f32) (X : BufTy.Contents (Elt Ideal) a.view.ty) (k : Fin k0_t2_loop.trips) : Vec Ideal S1x128x512 .f32 :=
  View.readAt (Elt Ideal) a.view (Rect.unit (s := S1x512x3072) (k0_off14 k) S1x128x512.size (k0_off14_inb k)).toLoadRect X
abbrev ldG (a : Memref sig .tc .vmem S1x512x3072 .f32) (X : BufTy.Contents (Elt Ideal) a.view.ty) (k : Fin k0_t2_loop.trips) : Vec Ideal S1x128x512 .f32 :=
  View.readAt (Elt Ideal) a.view (Rect.unit (s := S1x512x3072) (k0_off15 k) S1x128x512.size (k0_off15_inb k)).toLoadRect X
/-- The layer norm's scale and shift. -/
abbrev ldg (a : Memref sig .tc .vmem S8x512 .f32) (X : BufTy.Contents (Elt Ideal) a.view.ty) : Vec Ideal S1x512 .f32 :=
  View.readAt (Elt Ideal) a.view (Rect.unit (s := S8x512) ![3, 0] S1x512.size inb_S8x512_S1x512_3_0).toLoadRect X
abbrev ldb (a : Memref sig .tc .vmem S8x512 .f32) (X : BufTy.Contents (Elt Ideal) a.view.ty) : Vec Ideal S1x512 .f32 :=
  View.readAt (Elt Ideal) a.view (Rect.unit (s := S8x512) ![4, 0] S1x512.size inb_S8x512_S1x512_4_0).toLoadRect X
/-- A head's mixing matrix, and the bias. -/
abbrev ldR (a : Memref sig .tc .vmem S8x128x128 .f32) (X : BufTy.Contents (Elt Ideal) a.view.ty) (o : Fin 3 → ℕ)
    (h : ∀ i, o i + S1x128x128.size i ≤ S8x128x128.size i) : Vec Ideal S1x128x128 .f32 :=
  View.readAt (Elt Ideal) a.view (Rect.unit (s := S8x128x128) o S1x128x128.size h).toLoadRect X
abbrev ldB (a : Memref sig .tc .vmem S128x512 .f32) (X : BufTy.Contents (Elt Ideal) a.view.ty) : Vec Ideal S128x512 .f32 :=
  View.readAt (Elt Ideal) a.view (Rect.unit (s := S128x512) ![0, 0] S128x512.size inb_S128x512_S128x512_0_0).toLoadRect X

section
variable (𝒱 : Variants) (c : Dev nD) (bd : Option 𝒱.V) (i : grid0.Coords) (arg2 : Memref sig .tc .vmem S1x512x3072 .f32) (harg2 : arg2.IsWhole) (arg3 : Memref sig .tc .vmem S1x32x1024 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S8x128x128 .f32) (harg6 : arg6.IsWhole) (arg7 : Memref sig .tc .vmem S128x512 .f32) (harg7 : arg7.IsWhole) (arg8 : Memref sig .tc .vmem S1x512x1024 .bf16) (harg8 : arg8.IsWhole) (arg9 : Memref sig .tc .vmem S1x512x512 .f32) (harg9 : arg9.IsWhole) (arg10 : Memref sig .tc .vmem S552x512 .f32) (harg10 : arg10.IsWhole) (arg11 : Memref sig .tc .vmem S7x544x512 .f32) (harg11 : arg11.IsWhole) (X_arg2 : BufTy.Contents (Elt Ideal) arg2.view.ty) (X_arg5 : BufTy.Contents (Elt Ideal) arg5.view.ty) (X_arg6 : BufTy.Contents (Elt Ideal) arg6.view.ty) (X_arg7 : BufTy.Contents (Elt Ideal) arg7.view.ty) (X_arg9 : BufTy.Contents (Elt Ideal) arg9.view.ty) (k : Fin k0_t2_loop.trips)

theorem trip_head : ∃ x, tripL_k0_t2 (F := Ideal) 𝒱 c bd i arg2 harg2 arg3 harg3 arg4 harg4 arg5 harg5 arg6 harg6 arg7 harg7 arg8 harg8 arg9 harg9 arg10 harg10 arg11 harg11 X_arg2 X_arg5 X_arg6 X_arg7 X_arg9 k =
    [⟨Rect.unit (k0_off16 k) S1x128x512.size (k0_off16_inb k), outV (ldU arg2 X_arg2 k) (ldV arg2 X_arg2 k) (ldG arg2 X_arg2 k) (ldg arg5 X_arg5) (ldb arg5 X_arg5) (ldR arg6 X_arg6 ![0, 0, 0] inb_S8x128x128_S1x128x128_0_0_0) (ldR arg6 X_arg6 ![1, 0, 0] inb_S8x128x128_S1x128x128_1_0_0) (ldR arg6 X_arg6 ![2, 0, 0] inb_S8x128x128_S1x128x128_2_0_0) (ldR arg6 X_arg6 ![3, 0, 0] inb_S8x128x128_S1x128x128_3_0_0) (ldR arg6 X_arg6 ![4, 0, 0] inb_S8x128x128_S1x128x128_4_0_0) (ldR arg6 X_arg6 ![5, 0, 0] inb_S8x128x128_S1x128x128_5_0_0) (ldR arg6 X_arg6 ![6, 0, 0] inb_S8x128x128_S1x128x128_6_0_0) (ldR arg6 X_arg6 ![7, 0, 0] inb_S8x128x128_S1x128x128_7_0_0) (ldB arg7 X_arg7)⟩,
     ⟨Rect.unit (k0_off12 k) S1x128x512.size (k0_off12_inb k), x⟩] := by
  unfold tripL_k0_t2 trip_k0_t2
  exact ⟨_, rfl⟩
end

/-- Block `q` of tile `p`. -/
def blk (p : Fin 8) (q : Fin k0_t2_loop.trips) : Fin 32 := ⟨4 * p.val + q.val, by have := k0_t2_abs.2.1; omega⟩

/-- Position `r` of tile `p`. -/
def tpos (p : Fin 8) (r : Fin 512) : Fin 4096 := ⟨512 * p.val + r.val, by omega⟩

/-- What the windows hold at tile `p` of sequence `i`. -/
structure Tile (A : Gated) (w : Mixing) (bias : Fin 128 → Fin 512 → EReal) (i : Fin 2) (p : Fin 8) (x0 : Vec Ideal S1x512x3072 .f32) (x3 : Vec Ideal S8x512 .f32)
    (x4 : Vec Ideal S8x128x128 .f32) (x5 : Vec Ideal S128x512 .f32) : Prop where
  z : ∀ (r : Fin 512) (j : Fin 3072), (x0 (ix3 0 r j) : EReal) = A.z (ix3 i (tpos p r) j)
  g : ∀ j : Fin 512, (x3 (ix2 3 j) : EReal) = A.g (ix1 j)
  b : ∀ j : Fin 512, (x3 (ix2 4 j) : EReal) = A.b (ix1 j)
  w : ∀ (h : Fin 8) (t s : Fin 128), (x4 (ix3 h t s) : EReal) = w h t s
  bs : ∀ (t : Fin 128) (j : Fin 512), (x5 (ix2 t j) : EReal) = bias t j

theorem ld_slab {w : Mixing} (a : Memref sig .tc .vmem S8x128x128 .f32) (X : BufTy.Contents (Elt Ideal) a.view.ty) (o : Fin 8)
    (inb : ∀ i, (![o.val, 0, 0] : Fin 3 → Nat) i + S1x128x128.size i ≤ S8x128x128.size i)
    (hw : ∀ (h : Fin 8) (t s : Fin 128), (a.view.read (Elt Ideal) X (ix3 h t s) : EReal) = w h t s) : Slab w o (ldR a X ![o.val, 0, 0] inb) := by
  intro t s
  refine (congrArg (a.view.read (Elt Ideal) X) ?_).trans (hw o t s)
  funext i
  fin_cases i
  · exact Fin.ext (by show o.val + 1 * 0 = o.val; omega)
  · exact Fin.ext (by show 0 + 1 * t.val = t.val; omega)
  · exact Fin.ext (by show 0 + 1 * s.val = s.val; omega)

section
variable (𝒱 : Variants) (c : Dev nD) (bd : Option 𝒱.V) (i : grid0.Coords) (arg2 : Memref sig .tc .vmem S1x512x3072 .f32) (harg2 : arg2.IsWhole) (arg3 : Memref sig .tc .vmem S1x32x1024 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S8x128x128 .f32) (harg6 : arg6.IsWhole) (arg7 : Memref sig .tc .vmem S128x512 .f32) (harg7 : arg7.IsWhole) (arg8 : Memref sig .tc .vmem S1x512x1024 .bf16) (harg8 : arg8.IsWhole) (arg9 : Memref sig .tc .vmem S1x512x512 .f32) (harg9 : arg9.IsWhole) (arg10 : Memref sig .tc .vmem S552x512 .f32) (harg10 : arg10.IsWhole) (arg11 : Memref sig .tc .vmem S7x544x512 .f32) (harg11 : arg11.IsWhole) (X_arg2 : BufTy.Contents (Elt Ideal) arg2.view.ty) (X_arg5 : BufTy.Contents (Elt Ideal) arg5.view.ty) (X_arg6 : BufTy.Contents (Elt Ideal) arg6.view.ty) (X_arg7 : BufTy.Contents (Elt Ideal) arg7.view.ty) (X_arg9 : BufTy.Contents (Elt Ideal) arg9.view.ty)
variable {A : Gated} {w : Mixing} {bias : Fin 128 → Fin 512 → EReal} {i' : Fin 2} {p : Fin 8} (T : Tile A w bias i' p (arg2.view.read (Elt Ideal) X_arg2) (arg5.view.read (Elt Ideal) X_arg5) (arg6.view.read (Elt Ideal) X_arg6) (arg7.view.read (Elt Ideal) X_arg7))

include T in
theorem reads_of (k : Fin k0_t2_loop.trips) : Reads A w bias i' (blk p k) (ldU arg2 X_arg2 k) (ldV arg2 X_arg2 k) (ldG arg2 X_arg2 k) (ldg arg5 X_arg5) (ldb arg5 X_arg5) (ldR arg6 X_arg6 ![0, 0, 0] inb_S8x128x128_S1x128x128_0_0_0) (ldR arg6 X_arg6 ![1, 0, 0] inb_S8x128x128_S1x128x128_1_0_0) (ldR arg6 X_arg6 ![2, 0, 0] inb_S8x128x128_S1x128x128_2_0_0) (ldR arg6 X_arg6 ![3, 0, 0] inb_S8x128x128_S1x128x128_3_0_0) (ldR arg6 X_arg6 ![4, 0, 0] inb_S8x128x128_S1x128x128_4_0_0) (ldR arg6 X_arg6 ![5, 0, 0] inb_S8x128x128_S1x128x128_5_0_0) (ldR arg6 X_arg6 ![6, 0, 0] inb_S8x128x128_S1x128x128_6_0_0) (ldR arg6 X_arg6 ![7, 0, 0] inb_S8x128x128_S1x128x128_7_0_0) (ldB arg7 X_arg7) := by
  have hk : k.val < 4 := Nat.lt_of_lt_of_le k.isLt k0_t2_abs.2.1
  have e : ∀ r : Fin 128, tpos p ⟨128 * k.val + r.val, by omega⟩ = pos (blk p k) r := fun r =>
    Fin.ext (by show 512 * p.val + (128 * k.val + r.val) = 128 * (4 * p.val + k.val) + r.val; omega)
  refine ⟨fun r j => ?_, fun r j => ?_, fun r j => ?_, fun j => ?_, fun j => ?_, fun r j => ?_, ?_, ?_, ?_, ?_, ?_, ?_, ?_, ?_⟩
  · refine (congrArg (arg2.view.read (Elt Ideal) X_arg2) (?_ : _ = ix3 0 ⟨128 * k.val + r.val, by omega⟩ (col 3 j))).trans ((T.z _ _).trans (by rw [e]))
    funext a
    fin_cases a
    · exact Fin.ext (by show k0_off13 k 0 + 1 * 0 = 0; rw [k0_off13_eq]; rfl)
    · exact Fin.ext (by show k0_off13 k 1 + 1 * r.val = 128 * k.val + r.val; rw [k0_off13_eq]; show 128 * k.val + 1 * r.val = _; omega)
    · exact Fin.ext (by show k0_off13 k 2 + 1 * j.val = 512 * 3 + j.val; rw [k0_off13_eq]; show 1536 + 1 * j.val = _; omega)
  · refine (congrArg (arg2.view.read (Elt Ideal) X_arg2) (?_ : _ = ix3 0 ⟨128 * k.val + r.val, by omega⟩ (col 4 j))).trans ((T.z _ _).trans (by rw [e]))
    funext a
    fin_cases a
    · exact Fin.ext (by show k0_off14 k 0 + 1 * 0 = 0; rw [k0_off14_eq]; rfl)
    · exact Fin.ext (by show k0_off14 k 1 + 1 * r.val = 128 * k.val + r.val; rw [k0_off14_eq]; show 128 * k.val + 1 * r.val = _; omega)
    · exact Fin.ext (by show k0_off14 k 2 + 1 * j.val = 512 * 4 + j.val; rw [k0_off14_eq]; show 2048 + 1 * j.val = _; omega)
  · refine (congrArg (arg2.view.read (Elt Ideal) X_arg2) (?_ : _ = ix3 0 ⟨128 * k.val + r.val, by omega⟩ (col 5 j))).trans ((T.z _ _).trans (by rw [e]))
    funext a
    fin_cases a
    · exact Fin.ext (by show k0_off15 k 0 + 1 * 0 = 0; rw [k0_off15_eq]; rfl)
    · exact Fin.ext (by show k0_off15 k 1 + 1 * r.val = 128 * k.val + r.val; rw [k0_off15_eq]; show 128 * k.val + 1 * r.val = _; omega)
    · exact Fin.ext (by show k0_off15 k 2 + 1 * j.val = 512 * 5 + j.val; rw [k0_off15_eq]; show 2560 + 1 * j.val = _; omega)
  · refine (congrArg (arg5.view.read (Elt Ideal) X_arg5) (?_ : _ = ix2 3 j)).trans (T.g j)
    funext a
    fin_cases a
    · rfl
    · exact Fin.ext (by show 0 + 1 * j.val = j.val; omega)
  · refine (congrArg (arg5.view.read (Elt Ideal) X_arg5) (?_ : _ = ix2 4 j)).trans (T.b j)
    funext a
    fin_cases a
    · rfl
    · exact Fin.ext (by show 0 + 1 * j.val = j.val; omega)
  · refine (congrArg (arg7.view.read (Elt Ideal) X_arg7) (?_ : _ = ix2 r j)).trans (T.bs r j)
    funext a
    fin_cases a
    · exact Fin.ext (by show 0 + 1 * r.val = r.val; omega)
    · exact Fin.ext (by show 0 + 1 * j.val = j.val; omega)
  · exact ld_slab arg6 X_arg6 0 _ T.w
  · exact ld_slab arg6 X_arg6 1 _ T.w
  · exact ld_slab arg6 X_arg6 2 _ T.w
  · exact ld_slab arg6 X_arg6 3 _ T.w
  · exact ld_slab arg6 X_arg6 4 _ T.w
  · exact ld_slab arg6 X_arg6 5 _ T.w
  · exact ld_slab arg6 X_arg6 6 _ T.w
  · exact ld_slab arg6 X_arg6 7 _ T.w

include T in
/-- After the loop's first `k` trips the upper half of the columns of their blocks' rows is the gated branch. -/
theorem pb_read (G : BufTy.Contents (Elt Ideal) arg8.view.ty) (q : Fin k0_t2_loop.trips) (t : Fin 128) (j : Fin 512) : ∀ k : Nat, k ≤ k0_t2_loop.trips → q.val < k →
    (arg8.view.read (Elt Ideal) (arg8.view.writes (Elt Ideal) G (pb_k0_t2 (F := Ideal) 𝒱 c bd i arg2 harg2 arg3 harg3 arg4 harg4 arg5 harg5 arg6 harg6 arg7 harg7 arg8 harg8 arg9 harg9 arg10 harg10 arg11 harg11 X_arg2 X_arg5 X_arg6 X_arg7 X_arg9 k)) (ix3 0 ⟨128 * q.val + t.val, by have := k0_t2_abs.2.1; omega⟩ (colDy j)) : EReal) = A.out w bias i' (blk p q) t j
  | 0, _, h => absurd h (Nat.not_lt_zero _)
  | k + 1, hk, h => by
    have hb := k0_t2_abs.2.1
    obtain ⟨x, hx⟩ := trip_head 𝒱 c bd i arg2 harg2 arg3 harg3 arg4 harg4 arg5 harg5 arg6 harg6 arg7 harg7 arg8 harg8 arg9 harg9 arg10 harg10 arg11 harg11 X_arg2 X_arg5 X_arg6 X_arg7 X_arg9 ⟨k, hk⟩
    rw [show (pb_k0_t2 (F := Ideal) 𝒱 c bd i arg2 harg2 arg3 harg3 arg4 harg4 arg5 harg5 arg6 harg6 arg7 harg7 arg8 harg8 arg9 harg9 arg10 harg10 arg11 harg11 X_arg2 X_arg5 X_arg6 X_arg7 X_arg9 (k + 1)) = _ from pb_k0_t2_succ (F := Ideal) 𝒱 c bd i arg2 harg2 arg3 harg3 arg4 harg4 arg5 harg5 arg6 harg6 arg7 harg7 arg8 harg8 arg9 harg9 arg10 harg10 arg11 harg11 X_arg2 X_arg5 X_arg6 X_arg7 X_arg9 ⟨k, hk⟩, hx]
    simp only [List.cons_append, List.nil_append]
    by_cases e : q.val = k
    · obtain rfl : q = ⟨k, hk⟩ := Fin.ext e
      refine (View.read_writes_cons_unit_of_mem arg8.view G (k0_off16_inb ⟨k, hk⟩) _ _ _ (ix3 0 t j) rfl ?_).trans (out_at (reads_of _ _ _ _ _ _ _ _ T ⟨k, hk⟩) t j)
      intro a
      refine Eq.trans ?_ (congrArg (fun n : ℕ => n + _) (congrFun (k0_off16_eq ⟨k, hk⟩) a).symm)
      fin_cases a
      · rfl
      · rfl
      · rfl
    · have hlt : q.val < k := by omega
      refine (View.read_writes_cons_unit_of_not_mem arg8.view G (k0_off16_inb ⟨k, hk⟩) _ _ _ rfl (1 : Fin 3) ?_).trans ?_
      · rw [k0_off16_eq]
        show 128 * q.val + t.val < 128 * k ∨ 128 * k + 128 ≤ 128 * q.val + t.val
        omega
      refine (View.read_writes_cons_unit_of_not_mem arg8.view G (k0_off12_inb ⟨k, hk⟩) _ _ _ rfl (1 : Fin 3) ?_).trans ?_
      · rw [k0_off12_eq]
        show 128 * q.val + t.val < 128 * k ∨ 128 * k + 128 ≤ 128 * q.val + t.val
        omega
      exact pb_read G q t j k (Nat.le_of_lt hk) hlt

end
end Cert.EvenFwdIdeal.Pay
-- ==== Proof.FwdRun.lean ====
module
public import proofs.«01_k».proof.Proof.FwdLoop
public import proofs.«01_k».proof.Proof.Gen.EvenFwdIdeal.Frame.Runs
public import proofs.«01_k».proof.Proof.RelTail

@[expose] public section

/-! The body at a point: it keeps its inputs and leaves the gated branch of its tile in the upper half of the output's columns. -/

set_option maxRecDepth 16384
noncomputable section
namespace Cert.EvenFwdIdeal.Run
open Cert.EvenFwdIdeal Cert.EvenFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.EvenFwdIdeal.Pay Cert.Rows

/-- The upper half of the output's columns is the tile's gated branch. -/
def Done (A : Gated) (w : Mixing) (bias : Fin 128 → Fin 512 → EReal) (i : Fin 2) (p : Fin 8) (X : Vec Ideal S1x512x1024 .bf16) : Prop :=
  ∀ (q : Fin k0_t2_loop.trips) (t : Fin 128) (j : Fin 512),
    (X (ix3 0 ⟨128 * q.val + t.val, by have := k0_t2_abs.2.1; omega⟩ (colDy j)) : EReal) = A.out w bias i (blk p q) t j

theorem tile_of {A : Gated} {w : Mixing} {bias : Fin 128 → Fin 512 → EReal} {i' : Fin 2} {p : Fin 8} {arg2 : Memref sig .tc .vmem S1x512x3072 .f32} (harg2 : arg2.IsWhole)
    {arg5 : Memref sig .tc .vmem S8x512 .f32} (harg5 : arg5.IsWhole) {arg6 : Memref sig .tc .vmem S8x128x128 .f32} (harg6 : arg6.IsWhole)
    {arg7 : Memref sig .tc .vmem S128x512 .f32} (harg7 : arg7.IsWhole)
    {x0 : Vec Ideal S1x512x3072 .f32} {x3 : Vec Ideal S8x512 .f32} {x4 : Vec Ideal S8x128x128 .f32} {x5 : Vec Ideal S128x512 .f32} (T : Tile A w bias i' p x0 x3 x4 x5) :
    Tile A w bias i' p (arg2.view.read (Elt Ideal) (harg2.unread x0)) (arg5.view.read (Elt Ideal) (harg5.unread x3)) (arg6.view.read (Elt Ideal) (harg6.unread x4)) (arg7.view.read (Elt Ideal) (harg7.unread x5)) := by
  rw [harg2.read_unread, harg5.read_unread, harg6.read_unread, harg7.read_unread]; exact T

set_option maxHeartbeats 2000000 in
theorem runA (c : Dev nD) (i : grid0.Coords) (arg2 : Memref sig .tc .vmem S1x512x3072 .f32) (harg2 : arg2.IsWhole) (arg3 : Memref sig .tc .vmem S1x32x1024 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S8x128x128 .f32) (harg6 : arg6.IsWhole) (arg7 : Memref sig .tc .vmem S128x512 .f32) (harg7 : arg7.IsWhole) (arg8 : Memref sig .tc .vmem S1x512x1024 .bf16) (harg8 : arg8.IsWhole) (arg9 : Memref sig .tc .vmem S1x512x512 .f32) (harg9 : arg9.IsWhole) (arg10 : Memref sig .tc .vmem S552x512 .f32) (harg10 : arg10.IsWhole) (arg11 : Memref sig .tc .vmem S7x544x512 .f32) (harg11 : arg11.IsWhole)
    (x0 : Vec Ideal S1x512x3072 .f32) (x1 : Vec Ideal S1x32x1024 .f32) (x2 : Vec Ideal S32x512 .f32) (x3 : Vec Ideal S8x512 .f32) (x4 : Vec Ideal S8x128x128 .f32) (x5 : Vec Ideal S128x512 .f32) (A : Gated) (w : Mixing) (bias : Fin 128 → Fin 512 → EReal) (i' : Fin 2) (p : Fin 8) (T : Tile A w bias i' p x0 x3 x4 x5) (E : Set ℕ) (K : PUnit → sProp (MT nD τ sig Unit (Elt Ideal) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, ⌜Done A w bias i' p d⌝ ∗ owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := Ideal)) Variants.none c none) E (cc0_even_fwd i arg2 harg2 arg3 harg3 arg4 harg4 arg5 harg5 arg6 harg6 arg7 harg7 arg8 harg8 arg9 harg9 arg10 harg10 arg11 harg11) K := by
  simp only [cc0_even_fwd_eq_skeleton]; unfold cc0_even_fwd_skel
  simp only [k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap
    · iexists _; isplitr; swap; · iexact H6
      ipureintro; rfl
    ipureintro
    intro q t j
    exact pb_read _ _ _ _ _ _ _ _ _ _ _ _ _ _ _ _ _ _ _ _ _ _ _ _ _ _ _ _ _ (tile_of harg2 harg5 harg6 harg7 T) _ q t j _ le_rfl q.isLt
  isplitl [H7]
  · iexists _, _; isplitr; swap; · iexact H7
    ipureintro; rfl
  isplitl [HS0]
  · iexists _, _; isplitr; swap; · iexact HS0
    ipureintro; rfl
  iexists _, _; isplitr; swap; · iexact HS1
  ipureintro; rfl

end Cert.EvenFwdIdeal.Run
-- ==== Proof.FwdLaunch.lean ====
module
public import proofs.«01_k».proof.Proof.FwdRun
public import Idealize.ShloMosaic.Lib.Pipeline.DatRel
public import Idealize.ShloMosaic.Lib.Claim

@[expose] public section

set_option maxRecDepth 16384
noncomputable section
namespace Cert.EvenFwdIdeal.Run
open Cert.EvenFwdIdeal Cert.EvenFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.EvenFwdIdeal.Pay Cert.Rows
variable (m : (ℓ : Loc nD τ sig) → Buf (Elt Ideal) ℓ) (ρ : Dev nD → PrngReg)

/-- The line after the launch writes its own result only. -/
theorem rest_of_post (rdat : (c : Dev nD) → Pipeline.RDat τ (Elt Ideal) Unit ℕ (UR sig nD τ) ℕ (cfgs 0) c)
    (s : MemSt nD τ sig (Elt Ideal)) (h : RelTail.Post cfgs 0 rdat (V0 m) [hostOps1] s) (c : Dev nD) (b : Ref sig .tc) (hs : b.isScoped = false)
    (ha : ∀ w, Pipeline.arrRef spec0 w ≠ b) (h0 : b ≠ main_v13) :
    s.mem ((c.tc : Thread nD τ).loc b) = V m c b := by
  obtain ⟨A, -, hb⟩ := (h c).2
  have hm : b ∈ Pipeline.restRefsP sig Pipeline.Prefetch.none spec0 :=
    Finset.mem_sdiff.mpr ⟨Pipeline.mem_restRefs_of b hs ha, fun h => ((Finset.mem_image.mp h).elim fun k _ => k.elim0)⟩
  rw [hb b hm, StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      exact StableHlo.devRef_ne_of_ne h0)),
    Pipeline.withArrays_of_ne _ c (V0 m c) _ b ha]

/-- The argument arrays end as they were launched, from any run of the launch that keeps its inputs. -/
theorem frame_of_post (rdat : (c : Dev nD) → Pipeline.RDat τ (Elt Ideal) Unit ℕ (UR sig nD τ) ℕ (cfgs 0) c) (hA : ∀ c w, (rdat c).A w = V m c (Pipeline.arrRef spec0 w))
    (s : MemSt nD τ sig (Elt Ideal)) (h : RelTail.Post cfgs 0 rdat (V0 m) [hostOps1] s) (c : Dev nD) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8) := by
  have inp (w : Fin 8) (hin : (cfg0.win w).isOut = false) : s.mem ((spec0 w).arr.view.loc (c.tc : Thread nD τ)) = (rdat c).A w := by
    have h1 := (h c).1 w
    rw [(rdat c).ArrAt_in w hin] at h1
    exact h1
  have rest (b : Ref sig .tc) (hs : _) (ha : _) (h0 : _) := rest_of_post m rdat s h c b hs ha h0
  exact ⟨(inp 0 rfl).trans ((hA c 0).trans (V_main_arg0 m c)),
    (rest main_arg1 (by decide) (by decide) (by decide)).trans (V_main_arg1 m c), (rest main_arg2 (by decide) (by decide) (by decide)).trans (V_main_arg2 m c), (rest main_arg3 (by decide) (by decide) (by decide)).trans (V_main_arg3 m c), (rest main_arg4 (by decide) (by decide) (by decide)).trans (V_main_arg4 m c), (rest main_arg5 (by decide) (by decide) (by decide)).trans (V_main_arg5 m c), (rest main_arg6 (by decide) (by decide) (by decide)).trans (V_main_arg6 m c),
    (inp 4 rfl).trans ((hA c 4).trans (V_main_arg7 m c)),
    (rest main_arg8 (by decide) (by decide) (by decide)).trans (V_main_arg8 m c)⟩

/-- What the gated branch reads: the projected rows and the packed rows. -/
def gatedOf (Z : Vec Ideal S2x4096x3072 .f32) (W : Vec Ideal S8x512 .f32) : Gated where
  z := Z
  g := fun y => W (ix2 3 (y 0))
  b := fun y => W (ix2 4 (y 0))
  dy := fun _ => 0

/-- The mixing matrices and the bias of the array that holds them. -/
def mixOf (X : Vec Ideal S8x128x128 .f32) : Mixing := fun h t s => X (ix3 h t s)
def biasOf (X : Vec Ideal S128x512 .f32) : Fin 128 → Fin 512 → EReal := fun t j => X (ix2 t j)

/-- They are what the launch finds. -/
def gated (c : Dev nD) : Gated := gatedOf (V m c main_arg0) (V m c main_v8)
def mix (c : Dev nD) : Mixing := mixOf (V m c main_arg7)
def bias (c : Dev nD) : Fin 128 → Fin 512 → EReal := biasOf (V m c main_v11)

/-- The sequence of point `k`. -/
def seq (k : ℕ) : Fin 2 := ⟨k / 8 % 2, by omega⟩
/-- The tile of point `k`. -/
def tile (k : ℕ) : Fin 8 := ⟨k % 8, by omega⟩

theorem idx : ∀ t : Fin cfg0.N, win0_0.index t = ![t.val / 8 % 2, t.val % 8, 0] ∧ win0_3.index t = ![0, 0] ∧ win0_4.index t = ![0, 0, 0]
    ∧ win0_5.index t = ![0, 0] ∧ win0_6.index t = ![t.val / 8 % 2, t.val % 8, 0] :=
  (by decide +kernel : ∀ t : Fin grid0.N, _)

section
variable (t : Fin cfg0.N)
theorem blk_z (X : Vec Ideal S2x4096x3072 .f32) (r : Fin 512) (j : Fin 3072) :
    (((cfg0.win 0).blk t).view.read (Elt Ideal) X (ix3 0 r j) : EReal) = X (ix3 (seq t.val) (tpos (tile t.val) r) j) := by
  blk_ext [idx t, seq, tile, tpos]
theorem blk_vec (X : Vec Ideal S8x512 .f32) (k : Fin 8) (j : Fin 512) :
    (((cfg0.win 3).blk t).view.read (Elt Ideal) X (ix2 k j) : EReal) = X (ix2 k j) := by
  blk_ext [idx t]
theorem blk_mix (X : Vec Ideal S8x128x128 .f32) (h : Fin 8) (r s : Fin 128) :
    (((cfg0.win 4).blk t).view.read (Elt Ideal) X (ix3 h r s) : EReal) = X (ix3 h r s) := by
  blk_ext [idx t]
theorem blk_bias (X : Vec Ideal S128x512 .f32) (r : Fin 128) (j : Fin 512) :
    (((cfg0.win 5).blk t).view.read (Elt Ideal) X (ix2 r j) : EReal) = X (ix2 r j) := by
  blk_ext [idx t]

theorem tile_of_blk (Z : Vec Ideal S2x4096x3072 .f32) (W : Vec Ideal S8x512 .f32) (X : Vec Ideal S8x128x128 .f32) (B : Vec Ideal S128x512 .f32) :
    Tile (gatedOf Z W) (mixOf X) (biasOf B) (seq t.val) (tile t.val) (((cfg0.win 0).blk t).view.read (Elt Ideal) Z)
      (((cfg0.win 3).blk t).view.read (Elt Ideal) W) (((cfg0.win 4).blk t).view.read (Elt Ideal) X) (((cfg0.win 5).blk t).view.read (Elt Ideal) B) where
  z r j := blk_z t Z r j
  g j := blk_vec t W 3 j
  b j := blk_vec t W 4 j
  w h r s := blk_mix t X h r s
  bs r j := blk_bias t B r j
end

theorem tile_at (c : Dev nD) (t : Fin cfg0.N) : Tile (gated m c) (mix m c) (bias m c) (seq t.val) (tile t.val) (iblk m c 0 t) (iblk m c 3 t) (iblk m c 4 t) (iblk m c 5 t) :=
  tile_of_blk t (V m c main_arg0) (V m c main_v8) (V m c main_arg7) (V m c main_v11)

/-- The outputs that are known by a relation, if at all. -/
def forgets0 : Fin 8 → Bool := fun w => w.val == 6 || w.val == 7

/-- What is known of them: of output 6 the upper half of its columns. -/
def Rl (c : Dev nD) : (w : Fin cfg0.W) → Fin cfg0.N → ((cfg0.win w).block.Idx → Elt Ideal (cfg0.win w).elt) → Prop
  | ⟨6, _⟩, t, X => Done (gated m c) (mix m c) (bias m c) (seq t.val) (tile t.val) X
  | _, _, _ => True

/-- The launch's data on one device: each window's array and what its buffer holds after the body at point `t`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨_ + 8, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`. -/
def bodyPre (c : Dev nD) (t : Fin cfg0.N) : sProp (MT nD τ sig Unit (Elt Ideal) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜((dats m 0 c).toRRel forgets0 (Rl m c)).Finds 6 t Y⌝ ∗ owns (c : Thread nD τ) (ms0_6 t) fullShare Y)
    ∗ (∃ Y, ⌜((dats m 0 c).toRRel forgets0 (Rl m c)).Finds 7 t Y⌝ ∗ owns (c : Thread nD τ) (ms0_7 t) fullShare Y))

/-- What it gives back. -/
def bodyPost (c : Dev nD) (t : Fin cfg0.N) : sProp (MT nD τ sig Unit (Elt Ideal) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜Rl m c 6 t X⌝ ∗ owns (c : Thread nD τ) (ms0_6 t) fullShare X)
    ∗ (∃ X, ⌜Rl m c 7 t X⌝ ∗ owns (c : Thread nD τ) (ms0_7 t) fullShare X))

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, %_h6, H6⟩, ⟨%d7, %_h7, H7⟩⟩
  iapply (runA c (grid0.coords t) _ _ _ _ _ _ _ _ _ _ _ _ _ _ _ _ _ _ _ _ (iblk m c 0 t) (iblk m c 1 t) (iblk m c 2 t) (iblk m c 3 t) (iblk m c 4 t) (iblk m c 5 t) (gated m c) (mix m c) (bias m c) (seq t.val) (tile t.val) (tile_at m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, ⟨%e6, %s6, H6⟩, ⟨%e7, H7⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; exact s6
  iexists _; isplitr; swap; · iexact H7
  ipureintro; trivial

theorem defs₀_row (t : Fin cfg0.N) : defs₀ (F := Ideal) .tc cfg0.body (cfg0.bodyArgs t (cfg0.slots t)) = bodyAt0 t := by
  unfold defs₀; rw [Defs.onTc_tc]

theorem body_obligation (c : Dev nD) : Pipeline.BodyObligationRel (dats m 0 c) (defs₀ (F := Ideal)) Variants.none () Set.univ forgets0 (Rl m c) := fun t => by
  rw [bigSep_W0, bigSep_W0, defs₀_row]
  exact triple_restated (sound_body m c t) rfl .rfl fun _ => .rfl

/-- The launch's data with the marked outputs known by relation only. -/
abbrev rdat (c : Dev nD) : Pipeline.RDat τ (Elt Ideal) Unit ℕ (UR sig nD τ) ℕ (cfgs 0) c := (dats m 0 c).toRRel forgets0 (Rl m c)

set_option backward.isDefEq.respectTransparency.types false in
/-- The launch and the lines after it end, with every array as the data says and every counter at zero. -/
theorem run : θ_run defs (onTc (τ := τ) (main (F := Ideal))) (s₀ m ρ)
    (fun r => RelTail.Post cfgs 0 (rdat m) (V0 m) [hostOps1] r.2 ∧ r.2.sem = fun _ => 0) :=
  RelTail.run cfgs (0 : Fin 1) launch₀0 defs₀ Variants.none (rdat m) m ρ main (fun c => (body_obligation m c).toRRel) (fun _ _ _ => rfl) (fun _ _ => rfl)
    (V0 m) [hostOps1] sfx_sub sfx_fresh sfx_keeps (hmain m Variants.none) (A_eq m) (fun _ _ => rfl)

/-- The argument arrays end as they were launched and every counter at zero. -/
theorem quiet : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
    ∧ r.2.sem = fun _ => 0) :=
  (θ_run defs _ _).mono (fun r h => ⟨frame_of_post m (rdat m) (A_eq m) r.2 h.1, h.2⟩) (run m ρ)

end Cert.EvenFwdIdeal.Run
-- ==== Proof.FwdFinal.lean ====
module
public import proofs.«01_k».proof.Proof.FwdLaunch
public import Idealize.ShloMosaic.Lib.Pipeline.ArrRel
public import Idealize.ShloMosaic.Lib.StableHlo.RunRead
public import Idealize.ShloMosaic.Lib.Claim

@[expose] public section

set_option maxRecDepth 16384
noncomputable section
namespace Cert.EvenFwdIdeal.Run
open Cert.EvenFwdIdeal Cert.EvenFwdIdeal.Gen Cert.EvenFwdIdeal.Pay Cert.Rows
open Idealize.ShloMosaic Idealize.ShloMosaic.TcCoe Idealize.ShloMosaic.Tactic Idealize.SL.Sem
open Idealize.ShloMosaic.Pipeline (Dat)

theorem trips2 : k0_t2_loop.trips = 4 := by decide +kernel

/-- What is known of a block, at each of its rows. -/
theorem done_at {A : Gated} {w : Mixing} {bias : Fin 128 → Fin 512 → EReal} {i : Fin 2} {p : Fin 8} {X : Vec Ideal S1x512x1024 .bf16} (h : Done A w bias i p X)
    (r : Fin 512) (j : Fin 512) : (X (ix3 0 r (colDy j)) : EReal) = outAt A w bias i (tpos p r) j := by
  have e := h ⟨r.val / 128, by rw [trips2]; omega⟩ ⟨r.val % 128, by omega⟩ j
  rw [show (⟨128 * (r.val / 128) + r.val % 128, by omega⟩ : Fin 512) = r from Fin.ext (by dsimp only; omega)] at e
  refine e.trans ?_
  unfold outAt
  congr 1
  · exact Fin.ext (by show 4 * p.val + r.val / 128 = (512 * p.val + r.val) / 128; omega)
  · exact Fin.ext (by show r.val % 128 = (512 * p.val + r.val) % 128; omega)

variable (m : (ℓ : Loc nD τ sig) → Buf (Elt Ideal) ℓ) (ρ : Dev nD → PrngReg) (c : Dev nD)

theorem place6 (t : Fin cfg0.N) (a : Fin 512) (j : Fin 1024) :
    (((cfg0.win 6).blk t).view.emb (ix3 0 a j) : S2x4096x1024.Idx) = ix3 (seq t.val) (tpos (tile t.val) a) j := by
  blk_ext [idx t, seq, tile, tpos]

/-- The upper half of the columns of output 6's array. -/
theorem final6 (X : Buf (Elt Ideal) ((cfg0.win 6).arr.view.loc (c.tc : Thread nD τ))) (h : (rdat m c).ArrAt 6 cfg0.N X) (i : Fin 2) (r : Fin 4096) (j : Fin 512) :
    ((X : FVec Ideal S2x4096x1024 .bf16) (ix3 i r (colDy j)) : EReal) = outAt (gated m c) (mix m c) (bias m c) i r j := by
  classical
  obtain ⟨Y, hY, hA⟩ := h.exists_exact
  let after : (w : Fin cfg0.W) → Fin cfg0.N → (cfg0.win w).block.Idx → Elt Ideal (cfg0.win w).elt :=
    Function.update (fun _ _ _ => Classical.arbitrary _) 6 Y
  have ha : after 6 = Y := Function.update_self _ _ _
  have e := hA after fun u _ _ => congrFun ha u
  have key := Pipeline.Dat.arrAt_forall_of_covers ((rdat m c).withAfter after) 6
    (fun y v => ∀ j : Fin 512, (y (2 : Fin 3)).val = 512 + j.val → (v : EReal) = outAt (gated m c) (mix m c) (bias m c) (y (0 : Fin 3)) (y (1 : Fin 3)) j) (by decide +kernel)
    (fun t hf y => ?_) (ix3 i r (colDy j))
  · rw [e]
    exact key j rfl
  · idx_vars y
    intro j hj
    have hl := (dats m 0 c).toRRel_leaves (fgt := forgets0) (Rl := Rl m c) (w := 6) rfl (hY t t.isLt hf)
    obtain rfl : y0 = 0 := Subsingleton.elim _ _
    have hp := place6 t y1 y2
    obtain rfl : y2 = colDy j := Fin.ext ((congrArg Fin.val (congrFun hp (2 : Fin 3))).symm.trans hj)
    have h0 := congrFun hp (0 : Fin 3)
    have h1 := congrFun hp (1 : Fin 3)
    blk_simp
    refine ((congrFun (congrFun ha t) _).trans (done_at hl y1 j)).trans ?_
    exact congrArg₂ (fun i r => outAt (gated m c) (mix m c) (bias m c) i r j) h0.symm h1.symm

/-- The line after the launch takes the upper half. -/
theorem tail (W : Valuation τ sig (Elt Ideal)) (i : Fin 2) (r : Fin 4096) (j : Fin 512) :
    ((StableHlo.after hostOps1 W (Proc.devRef .tc main_v13) : FVec Ideal S2x4096x512 .bf16) (ix3 i r j) : EReal) = (W (Proc.devRef .tc main_v12_0) : FVec Ideal S2x4096x1024 .bf16) (ix3 i r (colDy j)) := by
  after_reads_simp
  pointwise
  rfl

theorem rest_mem (b : Ref sig .tc) (hs : b.isScoped = false) (ha : ∀ w, Pipeline.arrRef spec0 w ≠ b) :
    b ∈ Pipeline.restRefsP sig Pipeline.Prefetch.none spec0 :=
  Finset.mem_sdiff.mpr ⟨Pipeline.mem_restRefs_of b hs ha, fun h => ((Finset.mem_image.mp h).elim fun k _ => k.elim0)⟩

theorem result (s : MemSt nD τ sig (Elt Ideal)) (h : RelTail.Post cfgs 0 (rdat m) (V0 m) [hostOps1] s) :
    s.mem ((c.tc : Thread nD τ).loc main_v13) = (fun y => outAt (gated m c) (mix m c) (bias m c) (y (0 : Fin 3)) (y (1 : Fin 3)) (y (2 : Fin 3))) := by
  obtain ⟨A, hA, hb⟩ := (h c).2
  have ew := RelTail.withArrays_eq cfgs 0 launch₀0 (rdat m) (V0 m) c (A_eq m c) A hA 6
  refine (hb main_v13 (rest_mem main_v13 (by decide) (by decide))).trans (funext fun y => ?_)
  idx_vars y
  exact (tail _ y0 y1 y2).trans ((congrFun ew (ix3 y0 y1 (colDy y2))).trans (final6 m c (A 6) (hA 6) y0 y1 y2))

/-- What the launch leaves in its result and in its arguments. -/
theorem values : θ_run defs (onTc (τ := τ) (main (F := Ideal))) ⟨m, fun _ => 0, ρ⟩ (fun r => ∀ c : Dev nD,
      r.2.mem ((c.tc : Thread nD τ).loc main_v13) = (fun y => outAt (gated m c) (mix m c) (bias m c) (y (0 : Fin 3)) (y (1 : Fin 3)) (y (2 : Fin 3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨result m c r.2 h.1, frame_of_post m (rdat m) (A_eq m) r.2 h.1 c⟩) (run m ρ)

/-! What the launch finds, by the arguments. -/

/-- The packed rows: the layer norm's scale is row 3. -/
theorem entry_g (j : Fin 512) : (V m c main_v8 (ix2 3 j) : EReal) = m ((c : Thread nD τ).loc main_arg5) (ix1 j) := by
  have e : (StableHlo.upto (hostOps0 (F := Ideal)) (fun b => m (c, b)) 7 (Proc.devRef .tc main_v5) : FVec Ideal S1x512 .f32) =
      shapeCast S1x512 (m ((c : Thread nD τ).loc main_arg5) : FVec Ideal S512 .f32) shapeCasts_S512_S1x512 := by
    after_reads_simp
    rfl
  delta V
  after_reads_simp
  pointwise
  refine (congrFun e (ix2 0 j)).trans ?_
  pointwise

/-- The layer norm's shift is row 4. -/
theorem entry_b (j : Fin 512) : (V m c main_v8 (ix2 4 j) : EReal) = m ((c : Thread nD τ).loc main_arg6) (ix1 j) := by
  have e : (StableHlo.upto (hostOps0 (F := Ideal)) (fun b => m (c, b)) 8 (Proc.devRef .tc main_v6) : FVec Ideal S1x512 .f32) =
      shapeCast S1x512 (m ((c : Thread nD τ).loc main_arg6) : FVec Ideal S512 .f32) shapeCasts_S512_S1x512 := by
    after_reads_simp
    rfl
  delta V
  after_reads_simp
  pointwise
  refine (congrFun e (ix2 0 j)).trans ?_
  pointwise

/-- The bias of a lane is its head's. -/
theorem entry_bias (t : Fin 128) (j : Fin 512) : (V m c main_v11 (ix2 t j) : EReal) = m ((c : Thread nD τ).loc main_arg8) (ix2 (head j) t) := by
  delta V
  after_reads_simp
  pointwise
  rfl

end Cert.EvenFwdIdeal.Run
-- ==== Proof.FwdRefVal.lean ====
module
public import proofs.«01_k».proof.Proof.EvenMix
public import proofs.«01_k».proof.Proof.FwdSpec
public import proofs.«01_k».proof.Proof.Gen.EvenFwdRefIdeal.Run

@[expose] public section

/-! What the plain forward pass of the gated branch gives. -/

set_option maxRecDepth 16384
noncomputable section
namespace Cert.EvenFwdRefIdeal.Value
open Cert.EvenFwdRefIdeal Cert.EvenFwdRefIdeal.Gen Idealize.ShloMosaic Idealize.ShloMosaic.TcCoe Idealize.SL.Sem Cert.Rows

abbrev Rows5 := FVec Ideal S2x4096x512 .f32
abbrev Col1 := FVec Ideal S2x4096x1 .f32

/-- One number in every lane. -/
def lit (b : BitVec 32) : Rows5 := broadcastInDim S2x4096x512 ![] bcast_S_S2x4096x512 (constant S_ .f32 b)
def lit1 (b : BitVec 32) : Col1 := broadcastInDim S2x4096x1 ![] bcast_S_S2x4096x1 (constant S_ .f32 b)

def geluT (x : Rows5) : Rows5 :=
  mulf x (mulf (lit 0x3F000000#32) (addf (lit 0x3F800000#32) (Host.tanh (mulf (lit 0x3F4C422A#32) (addf x (mulf (lit 0x3D372713#32) (mulf (mulf x x) x)))))))
def siluT (x : Rows5) : Rows5 := mulf x (Host.divf (lit 0x3F800000#32) (addf (lit 0x3F800000#32) (Host.exp (Host.negf x))))

def half (Z : FVec Ideal S2x4096x3072 .f32) : FVec Ideal S2x4096x1536 .f32 := extractStridedSlice S2x4096x1536 ![0, 0, 1536] Z slices_S2x4096x3072_S2x4096x1536_0_0_1536
def uT (Z : FVec Ideal S2x4096x3072 .f32) : Rows5 := extractStridedSlice S2x4096x512 ![0, 0, 0] (half Z) slices_S2x4096x1536_S2x4096x512_0_0_0
def vT (Z : FVec Ideal S2x4096x3072 .f32) : Rows5 := extractStridedSlice S2x4096x512 ![0, 0, 512] (half Z) slices_S2x4096x1536_S2x4096x512_0_0_512
def gT (Z : FVec Ideal S2x4096x3072 .f32) : Rows5 := extractStridedSlice S2x4096x512 ![0, 0, 1024] (half Z) slices_S2x4096x1536_S2x4096x512_0_0_1024

def meanT (x : Rows5) : Col1 :=
  Host.divf (broadcastInDim S2x4096x1 ![0, 1] bcast_S2x4096_S2x4096x1_0_1 (Host.reduceAdd x (constant S_ .f32 0x00000000#32) reducesTo_S2x4096x512_S2x4096_d2 h_S_)) (lit1 0x44000000#32)
def devT (x : Rows5) : Rows5 := subf x (broadcastInDim S2x4096x512 ![0, 1, 2] bcast_S2x4096x1_S2x4096x512_0_1_2 (meanT x))
def rsT (x : Rows5) : Col1 := Host.rsqrt (addf (meanT (mulf (devT x) (devT x))) (lit1 0x3727C5AC#32))
def lnT (x : Rows5) (G B : FVec Ideal S512 .f32) : Rows5 :=
  addf (mulf (mulf (devT x) (broadcastInDim S2x4096x512 ![0, 1, 2] bcast_S2x4096x1_S2x4096x512_0_1_2 (rsT x)))
    (broadcastInDim S2x4096x512 ![0, 1, 2] bcast_S1x1x512_S2x4096x512_0_1_2 (broadcastInDim S1x1x512 ![2] bcast_S512_S1x1x512_2 G)))
    (broadcastInDim S2x4096x512 ![0, 1, 2] bcast_S1x1x512_S2x4096x512_0_1_2 (broadcastInDim S1x1x512 ![2] bcast_S512_S1x1x512_2 B))

/-- The mixing matrices, lower triangular. -/
def maskT (X : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))))
    X (broadcastInDim S8x128x128 ![] bcast_S_S8x128x128 (constant S_ .f32 0x00000000#32))

/-- The mixed lanes with their bias. -/
def sgT (Z : FVec Ideal S2x4096x3072 .f32) (G B : FVec Ideal S512 .f32) (W : FVec Ideal S8x128x128 .f32) (C : FVec Ideal S8x128 .f32) : FVec Ideal S2x32x128x8x64 .f32 :=
  addf (transpose S2x32x128x8x64 [1, 2, 4, 0, 3] (Host.dotGeneral dot_S2x32x128x8x64_S8x128x128_S8x2x32x64x128_2_2_014_1_3_0 none
      (shapeCast S2x32x128x8x64 (lnT (geluT (vT Z)) G B) shapeCasts_S2x4096x512_S2x32x128x8x64) (maskT W)) transposes_S8x2x32x64x128_S2x32x128x8x64_1_2_4_0_3)
    (broadcastInDim S2x32x128x8x64 ![0, 1, 2, 3, 4] bcast_S1x1x128x8x1_S2x32x128x8x64_0_1_2_3_4 (broadcastInDim S1x1x128x8x1 ![2, 3, 4] bcast_S128x8x1_S1x1x128x8x1_2_3_4 (broadcastInDim S128x8x1 ![0, 1] bcast_S128x8_S128x8x1_0_1 (transpose S128x8 [1, 0] C transposes_S8x128_S128x8_1_0))))

def outT (Z : FVec Ideal S2x4096x3072 .f32) (G B : FVec Ideal S512 .f32) (W : FVec Ideal S8x128x128 .f32) (C : FVec Ideal S8x128 .f32) : FVec Ideal S2x4096x512 .bf16 :=
  truncf .bf16 (mulf (mulf (geluT (uT Z)) (shapeCast S2x4096x512 (sgT Z G B W C) shapeCasts_S2x32x128x8x64_S2x4096x512)) (siluT (gT Z))) bitsLt_bf16_f32

section
variable (m : (ℓ : Loc nD τ sig) → Buf (Elt Ideal) ℓ) (c : Dev nD)
theorem res_out : res_main_v71 m c = outT (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) := rfl
end

variable (A : Gated)

theorem gelu_at (x : Rows5) (i : Fin 2) (s : Fin 4096) (j : Fin 512) : (geluT x (ix3 i s j) : EReal) = gelu (x (ix3 i s j)) := by
  pointwise [geluT, lit]
  rw [gelu, mul_assoc (x (ix3 i s j) : EReal) (x (ix3 i s j) : EReal), ← mul_assoc, mul_comm (x (ix3 i s j) : EReal) (Ideal.ofBits .f32 0x3F000000#32)]

theorem silu_at (x : Rows5) (i : Fin 2) (s : Fin 4096) (j : Fin 512) : (siluT x (ix3 i s j) : EReal) = silu (x (ix3 i s j)) := by
  pointwise [siluT, lit]
  rfl

theorem u_at (i : Fin 2) (s : Fin 4096) (j : Fin 512) : (uT A.z (ix3 i s j) : EReal) = A.z (ix3 i s (col 3 j)) := by
  pointwise [uT, half]
  rfl
theorem v_at (i : Fin 2) (s : Fin 4096) (j : Fin 512) : (vT A.z (ix3 i s j) : EReal) = A.z (ix3 i s (col 4 j)) := by
  pointwise [vT, half]
  exact congrArg A.z (congrArg (ix3 i s) (Fin.ext (by show 1536 + (512 + j.val) = 512 * 4 + j.val; omega)))
theorem g_at (i : Fin 2) (s : Fin 4096) (j : Fin 512) : (gT A.z (ix3 i s j) : EReal) = A.z (ix3 i s (col 5 j)) := by
  pointwise [gT, half]
  exact congrArg A.z (congrArg (ix3 i s) (Fin.ext (by show 1536 + (1024 + j.val) = 512 * 5 + j.val; omega)))

theorem mean_at (x : Rows5) (i : Fin 2) (s : Fin 4096) (j : Fin 1) : (meanT x (ix3 i s j) : EReal) = mean lanes (fun k => x (ix3 i s k)) := by
  pointwise [meanT, lit1]
  rfl
theorem dev_at (x : Rows5) (i : Fin 2) (s : Fin 4096) (j : Fin 512) : (devT x (ix3 i s j) : EReal) = dev lanes (fun k => x (ix3 i s k)) j := by
  pointwise [devT, mean_at]
  rfl
theorem rs_at (x : Rows5) (i : Fin 2) (s : Fin 4096) (j : Fin 1) : (rsT x (ix3 i s j) : EReal) = rs lanes eps (fun k => x (ix3 i s k)) := by
  pointwise [rsT, mean_at, dev_at, lit1]
  rfl

theorem vl_at (i : Fin 2) (s : Fin 4096) (j : Fin 512) : (lnT (geluT (vT A.z)) A.g A.b (ix3 i s j) : EReal) = A.vl i s j := by
  pointwise [lnT, dev_at, rs_at, gelu_at, v_at]
  rfl

theorem tri_bit : ∀ t s : Fin 128, IntOp.cmpi .sge (IntOp.addi (BitVec.ofNat 32 t.val) 0#32) (BitVec.ofNat 32 s.val) = if s ≤ t then 1#1 else 0#1 := by
  decide +kernel

theorem mask_at (t s : Fin 128) (x : EReal) :
    (Scalar.select (Scalar.select (IntOp.cmpi .sge (IntOp.addi (BitVec.ofNat 32 t.val) 0#32) (BitVec.ofNat 32 s.val)) (1#1) (0#1)) x 0 : EReal) =
      if s ≤ t then x else 0 := by
  rw [tri_bit]
  by_cases h : s ≤ t
  · rw [if_pos h, if_pos h]; rfl
  · rw [if_neg h, if_neg h]; rfl

theorem pos_eq (n : Fin 32) (t : Fin 128) (h : n.val * 128 + t.val < 4096) : (⟨n.val * 128 + t.val, h⟩ : Fin 4096) = pos n t := Fin.ext (by show n.val * 128 + t.val = 128 * n.val + t.val; omega)
theorem lane_eq (n : Fin 8) (t : Fin 64) (h : n.val * 64 + t.val < 512) : (⟨n.val * 64 + t.val, h⟩ : Fin 512) = lane n t := Fin.ext (by show n.val * 64 + t.val = 64 * n.val + t.val; omega)

theorem right_at (h : Fin 8) (i : Fin 2) (n : Fin 32) (d : Fin 64) (s : Fin 128) :
    (shapeCast S2x32x128x8x64 (lnT (geluT (vT A.z)) A.g A.b) shapeCasts_S2x4096x512_S2x32x128x8x64 (ix5 i n s h d) : EReal) = A.vl i (pos n s) (lane h d) := by
  pointwise [vl_at]
  rw [pos_eq, lane_eq]

theorem masked (X : FVec Ideal S8x128x128 .f32) (h : Fin 8) (t s : Fin 128) :
    (select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))))
      X (broadcastInDim S8x128x128 ![] bcast_S_S8x128x128 (constant (F := Ideal) S_ .f32 0x00000000#32) : FVec Ideal S8x128x128 .f32) (ix3 h t s) : EReal) = if s ≤ t then X (ix3 h t s) else 0 := by
  pointwise
  exact mask_at t s _

theorem lane_head (j : Fin 512) : lane (head j) ⟨j.val % 64, Nat.mod_lt _ (by decide)⟩ = j := Fin.ext (by show 64 * (j.val / 64) + j.val % 64 = j.val; omega)

theorem sg_at (W : FVec Ideal S8x128x128 .f32) (C : FVec Ideal S8x128 .f32) (i : Fin 2) (n : Fin 32) (t : Fin 128) (h : Fin 8) (d : Fin 64) :
    (sgT A.z A.g A.b W C (ix5 i n t h d) : EReal) = (∑ s : Fin 128, if s ≤ t then (W (ix3 h t s) : EReal) * A.vl i (pos n s) (lane h d) else 0) + C (ix2 h t) := by
  unfold sgT
  pointwise
  refine congrArg (fun x : EReal => x + C (ix2 h t)) (Finset.sum_congr rfl fun s _ => ?_)
  rw [pos_eq, lane_eq]
  refine (congrArg₂ (fun x y : EReal => x * y) (vl_at A i (pos n s) (lane h d)) (masked W h t s)).trans ?_
  by_cases hs : s ≤ t
  · simp only [if_pos hs]; exact mul_comm _ _
  · simp only [if_neg hs]; exact mul_zero _

theorem out_at (W : FVec Ideal S8x128x128 .f32) (C : FVec Ideal S8x128 .f32) (i : Fin 2) (n : Fin 32) (t : Fin 128) (j : Fin 512) :
    (outT A.z A.g A.b W C (ix3 i (pos n t) j) : EReal) = A.out (fun h t s => W (ix3 h t s)) (fun t j => C (ix2 (head j) t)) i n t j := by
  have key : ∀ (h : Fin 8) (d : Fin 64), lane h d = j → h = head j → (outT A.z A.g A.b W C (ix3 i (pos n t) j) : EReal) = A.out (fun h t s => W (ix3 h t s)) (fun t j => C (ix2 (head j) t)) i n t j := by
    rintro h d rfl e
    unfold outT
    have e1 : ∀ h', (⟨(pos n t).val / 128, h'⟩ : Fin 32) = n := fun _ => Fin.ext (by show (128 * n.val + t.val) / 128 = n.val; omega)
    have e2 : ∀ h', (⟨(pos n t).val % 128, h'⟩ : Fin 128) = t := fun _ => Fin.ext (by show (128 * n.val + t.val) % 128 = t.val; omega)
    have e3 : ∀ h', (⟨(lane h d).val / 64, h'⟩ : Fin 8) = h := fun _ => Fin.ext (by show (64 * h.val + d.val) / 64 = h.val; omega)
    have e4 : ∀ h', (⟨(lane h d).val % 64, h'⟩ : Fin 64) = d := fun _ => Fin.ext (by show (64 * h.val + d.val) % 64 = d.val; omega)
    pointwise [gelu_at, silu_at, u_at, g_at]
    rw [e1, e2, e3, e4, sg_at]
    unfold Gated.out Gated.sg
    dsimp only
    rw [← e]
  exact key _ _ (lane_head j) rfl

theorem row_at (W : FVec Ideal S8x128x128 .f32) (C : FVec Ideal S8x128 .f32) (i : Fin 2) (r : Fin 4096) (j : Fin 512) :
    (outT A.z A.g A.b W C (ix3 i r j) : EReal) = outAt A (fun h t s => W (ix3 h t s)) (fun t j => C (ix2 (head j) t)) i r j := by
  have e : pos ⟨r.val / 128, by omega⟩ ⟨r.val % 128, by omega⟩ = r := Fin.ext (by show 128 * (r.val / 128) + r.val % 128 = r.val; omega)
  refine Eq.trans ?_ (out_at A W C i ⟨r.val / 128, by omega⟩ ⟨r.val % 128, by omega⟩ j)
  rw [e]

end Cert.EvenFwdRefIdeal.Value
-- ==== Proof.InDxSpec.lean ====
module
public import proofs.«01_k».proof.Proof.PostSpec

@[expose] public section

/-!
The gradient of the input projection by its input, as a plain function of rows and columns.
-/

noncomputable section
open Idealize.ShloMosaic
namespace Cert.Rows

/-- What the gradient reads: what has come back so far, the projection's cotangent and the projection's matrix. -/
structure InDx where
  dr : Mat 8192 1024
  dz : Mat 8192 3072
  w : Mat 1024 3072

/-- The gradient by the input. -/
def InDx.dx (a : InDx) (i : Fin 8192) (j : Fin 1024) : EReal := a.dr (ix2 i j) + ∑ k : Fin 3072, a.dz (ix2 i k) * a.w (ix2 j k)

end Cert.Rows
-- ==== Proof.InDxFinal.lean ====
module
public import proofs.«01_k».proof.Proof.InDxSpec
public import proofs.«01_k».proof.Proof.Gen.InDxIdeal.Value
public import Idealize.ShloMosaic.Lib.Claim
public import Idealize.ShloMosaic.Lib.StableHlo.RunRead

@[expose] public section

set_option maxRecDepth 16384
noncomputable section
namespace Cert.InDxIdeal.Value
open Cert.InDxIdeal Cert.InDxIdeal.Gen Idealize.ShloMosaic Idealize.ShloMosaic.TcCoe Idealize.SL.Sem Cert.Rows
open Idealize.ShloMosaic.Pipeline (Dat)

variable (m : (ℓ : Loc nD τ sig) → Buf (Elt Ideal) ℓ) (c : Dev nD)

/-- The arguments of the kernel. -/
def args : InDx where
  dr := m ((c : Thread nD τ).loc main_arg0)
  dz := m ((c : Thread nD τ).loc main_arg1)
  w := m ((c : Thread nD τ).loc main_arg2)

theorem entry_w (i : Fin 1024) (j : Fin 3072) : (V m c main_v0 (ix2 i j) : EReal) = (args m c).w (ix2 i j) := by
  entry_read
  pointwise
  rfl

/-- The windows' index maps: the tiled windows walk the rows, the others stay. -/
theorem idx : ∀ t : Fin cfg0.N, win0_0.index t = ![t.val, 0] ∧ win0_1.index t = ![t.val, 0] ∧ win0_2.index t = ![0, 0] ∧
    win0_3.index t = ![0, 0] ∧ win0_4.index t = ![t.val, 0] :=
  (by decide +kernel : ∀ t : Fin grid0.N, _)

/-- The array row of a block's row. -/
def row (t : Fin cfg0.N) (a : Fin 512) : Fin 8192 :=
  ⟨t.val * 512 + a.val, by have := t.isLt; have h : cfg0.N = 16 := N_0; omega⟩

theorem blk_dr (t : Fin cfg0.N) (a : Fin 512) (j : Fin 1024) : (iblk m c 0 t (ix2 a j) : EReal) = (args m c).dr (ix2 (row t a) j) := by
  refine Eq.trans (b := (V m c main_arg0 (ix2 (row t a) j) : EReal)) ?_ rfl
  blk_ext [iblk, idx t, row]

theorem blk_dz (t : Fin cfg0.N) (a : Fin 512) (j : Fin 3072) : (iblk m c 1 t (ix2 a j) : EReal) = (args m c).dz (ix2 (row t a) j) := by
  refine Eq.trans (b := (V m c main_arg1 (ix2 (row t a) j) : EReal)) ?_ rfl
  blk_ext [iblk, idx t, row]

theorem blk_w (t : Fin cfg0.N) (i : Fin 1024) (j : Fin 3072) : (iblk m c 2 t (ix2 i j) : EReal) = (args m c).w (ix2 i j) := by
  refine Eq.trans ?_ (entry_w m c i j)
  blk_ext [iblk, idx t]

/-- What the body computes of a block of rows. -/
theorem dx_at (A : InDx) (ρ : Fin 512 → Fin 8192) (r : Vec Ideal S512x1024 .f32) (z : Vec Ideal S512x3072 .f32) (w : Vec Ideal S1024x3072 .bf16)
    (hr : ∀ (a : Fin 512) (j : Fin 1024), (r (ix2 a j) : EReal) = A.dr (ix2 (ρ a) j))
    (hz : ∀ (a : Fin 512) (j : Fin 3072), (z (ix2 a j) : EReal) = A.dz (ix2 (ρ a) j))
    (hw : ∀ (i : Fin 1024) (j : Fin 3072), (w (ix2 i j) : EReal) = A.w (ix2 i j)) (a : Fin 512) (j : Fin 1024) :
    (k0_pay1 r z w (ix2 a j) : EReal) = A.dx (ρ a) j := by
  pointwise [k0_pay1, hr, hz, hw]
  rfl

theorem place (G : Mat 8192 1024) (t : Fin cfg0.N) (a : Fin 512) (j : Fin 1024) :
    G (ix2 (row t a) j) = G (((cfg0.win 4).blk t).view.emb (ix2 a j)) := by
  blk_ext [idx t, row]

theorem final4 : (dats m 0 c).arrAt 4 cfg0.N = fun y => (args m c).dx (y 0) (y 1) := by
  refine (dats m 0 c).arrAt_eq_of_covers 4 _ (by decide +kernel) fun t _ y => ?_
  idx_vars y
  refine Eq.trans ?_ (place (fun y => (args m c).dx (y 0) (y 1)) t y0 y1)
  blk_simp
  rw [after0_4]
  frame_out
  exact dx_at (args m c) (row t) _ _ _ (blk_dr m c t) (blk_dz m c t) (blk_w m c t) _ _

end Cert.InDxIdeal.Value
-- ==== Proof.InDxRefVal.lean ====
module
public import proofs.«01_k».proof.Proof.InDxSpec
public import proofs.«01_k».proof.Proof.Gen.InDxRefIdeal.Run

@[expose] public section

set_option maxRecDepth 16384
noncomputable section
namespace Cert.InDxRefIdeal.Value
open Cert.InDxRefIdeal Cert.InDxRefIdeal.Gen Idealize.ShloMosaic Idealize.ShloMosaic.TcCoe Idealize.SL.Sem Cert.Rows

variable (m : (ℓ : Loc nD τ sig) → Buf (Elt Ideal) ℓ) (c : Dev nD)

/-- The arguments of the reference. -/
def args : InDx where
  dr := m ((c.tc : Thread nD τ).loc main_arg0)
  dz := m ((c.tc : Thread nD τ).loc main_arg1)
  w := m ((c.tc : Thread nD τ).loc main_arg2)

/-- The reference's lines. -/
def dxT : FVec Ideal S8192x1024 .f32 :=
  addf (m ((c.tc : Thread nD τ).loc main_arg0)) (Host.dotGeneral (φ₁ := .f32) (φ₂ := .f32) dot_S8192x3072_S1024x3072_S8192x1024_1_1_0_0_n_n none
    (m ((c.tc : Thread nD τ).loc main_arg1)) (m ((c.tc : Thread nD τ).loc main_arg2)))

theorem dx_at (i : Fin 8192) (j : Fin 1024) : (dxT m c (ix2 i j) : EReal) = (args m c).dx i j := by
  pointwise [dxT]
  rfl

end Cert.InDxRefIdeal.Value
-- ==== Proof.lean ====
module

public import proofs.«01_k».proof.Defs
public import proofs.«01_k».proof.Proof.Gen.PostBwd.Frame
public import proofs.«01_k».proof.Proof.PostRef
public import proofs.«01_k».proof.Proof.PostVec
public import proofs.«01_k».proof.Proof.PostFinite
public import proofs.«01_k».proof.Proof.EvenBitsLaunch
public import proofs.«01_k».proof.Proof.EvenFinal
public import proofs.«01_k».proof.Proof.EvenEntry
public import proofs.«01_k».proof.Proof.EvenRefVal
public import proofs.«01_k».proof.Proof.OddBitsLaunch
public import proofs.«01_k».proof.Proof.OddLaunch
public import proofs.«01_k».proof.Proof.Gen.OddRefIdeal.Run
public import proofs.«01_k».proof.Proof.Gen.LossFwd.Frame
public import proofs.«01_k».proof.Proof.LossFinal
public import proofs.«01_k».proof.Proof.LossRefVal
public import proofs.«01_k».proof.Proof.Gen.MidFwd.Frame
public import proofs.«01_k».proof.Proof.MidFinal
public import proofs.«01_k».proof.Proof.MidRefVal
public import proofs.«01_k».proof.Proof.FwdBits
public import proofs.«01_k».proof.Proof.FwdFinal
public import proofs.«01_k».proof.Proof.FwdRefVal
public import proofs.«01_k».proof.Proof.Gen.OddFwd.Frame
public import proofs.«01_k».proof.Proof.Gen.OddFwdIdeal.Frame
public import proofs.«01_k».proof.Proof.Gen.OddFwdRefIdeal.Run
public import proofs.«01_k».proof.Proof.Gen.InDx.Frame
public import proofs.«01_k».proof.Proof.InDxFinal
public import proofs.«01_k».proof.Proof.InDxRefVal

@[expose] public section

set_option maxRecDepth 16384

noncomputable section

namespace Cert.Proof

open Idealize.ShloMosaic Idealize.SL.Sem Cert.Rows

theorem frame_post : Cert.quiescent_PostBwd := fun m ρ _ => Cert.PostBwd.Gen.frame m ρ
theorem frame_postIdeal : Cert.quiescent_PostBwdIdeal := fun m ρ _ => Cert.PostBwdIdeal.Gen.frame m ρ
theorem frame_postRef : Cert.quiescent_PostRefIdeal := fun m ρ _ =>
  (θ_run Cert.PostRefIdeal.defs _ _).mono (fun r h => ⟨fun c => (h c).2.2.2.2.2.2, sem_eq_zero_of_no_sems (by decide) r.2⟩)
    (Cert.PostRefIdeal.Value.run (F := Ideal) m ρ)

/-- The six gradients of the post-norm tail: the kernel's blocks and the reference's derivative are the same functions
    of the arguments. -/
theorem algebraic_post : Cert.algebraic_PostBwdIdeal_PostRefIdeal_pre_post_finite := by
  intro m g m' g' hpre hargs
  have htail : ∀ c : Dev Cert.PostBwdIdeal.nD,
      Cert.PostRefIdeal.Value.tail (StableHlo.launchContents m' c) = Cert.PostBwdIdeal.Value.tail m c := fun c => by
    obtain ⟨h0, h1, h2, h3, h4, h5, h6, h7, h8, h9, h10⟩ := hargs c
    unfold Cert.PostRefIdeal.Value.tail Cert.PostBwdIdeal.Value.tail
    congr 1
  have hv : ∀ c : Dev Cert.PostBwdIdeal.nD, ∀ i j, (Cert.PostRefIdeal.Value.tail (StableHlo.launchContents m' c)).drVjp i j =
      (Cert.PostRefIdeal.Value.tail (StableHlo.launchContents m' c)).dr i j := fun c i j => by
    rw [htail c]
    exact Tail.drVjp_eq (Tail.finite_of_pre (Cert.PostBwdIdeal.Value.tail m c) (hpre c)) i j
  refine ⟨fun c y => (Cert.PostBwdIdeal.Value.tail m c).out0 (y 0) (y 1), fun c y => (Cert.PostBwdIdeal.Value.tail m c).out1 (y 0) (y 1),
    fun c y => (Cert.PostBwdIdeal.Value.tail m c).out2 (y 0) (y 1), fun c y => (Cert.PostBwdIdeal.Value.tail m c).out3 (y 0) (y 1),
    fun c y => (Cert.PostBwdIdeal.Value.tail m c).out4 (y 0) (y 1), fun c y => (Cert.PostBwdIdeal.Value.tail m c).out5 (y 0) (y 1),
    (θ_run Cert.PostBwdIdeal.defs _ _).mono (fun r h c => ?_) (Cert.PostBwdIdeal.Value.run_blocks (F := Ideal) m g),
    (θ_run Cert.PostRefIdeal.defs _ _).mono (fun r h c => ?_) (Cert.PostRefIdeal.Value.run (F := Ideal) m' g')⟩
  · obtain ⟨h0, h1, h2, h3, h4, h5, ha⟩ := h c
    exact ⟨h0.trans (Cert.PostBwdIdeal.Value.final9 m c), h1.trans (Cert.PostBwdIdeal.Value.final10 m c),
      h2.trans (Cert.PostBwdIdeal.Value.final11 m c), h3.trans (Cert.PostBwdIdeal.Value.final12 m c),
      h4.trans (Cert.PostBwdIdeal.Value.final13 m c), h5.trans (Cert.PostBwdIdeal.Value.final14 m c), ha⟩
  · obtain ⟨h0, h1, h2, h3, h4, h5, ha⟩ := h c
    refine ⟨h0.trans (funext fun y => ?_), h1.trans (funext fun y => ?_), h2.trans (funext fun y => ?_),
      h3.trans (funext fun y => ?_), h4.trans (funext fun y => ?_), h5.trans (funext fun y => ?_), ha⟩
    all_goals idx_vars y
    · exact (Cert.PostRefIdeal.Value.result0 (hv c) y0 y1).trans (congrArg (fun T : Tail => T.out0 y0 y1) (htail c))
    · exact (Cert.PostRefIdeal.Value.result1 (hv c) y0 y1).trans (congrArg (fun T : Tail => T.out1 y0 y1) (htail c))
    · exact (Cert.PostRefIdeal.Value.result2 (hv c) y0 y1).trans (congrArg (fun T : Tail => T.out2 y0 y1) (htail c))
    · exact (Cert.PostRefIdeal.Value.result3 y0 y1).trans (congrArg (fun T : Tail => T.out3 y0 y1) (htail c))
    · exact (Cert.PostRefIdeal.Value.result4 y0 y1).trans (congrArg (fun T : Tail => T.out4 y0 y1) (htail c))
    · exact (Cert.PostRefIdeal.Value.result5 (hv c) y0 y1).trans (congrArg (fun T : Tail => T.out5 y0 y1) (htail c))

theorem frame_even : Cert.quiescent_EvenBwd := fun m ρ _ => Cert.EvenBwd.Run.quiet m ρ
theorem frame_evenIdeal : Cert.quiescent_EvenBwdIdeal := fun m ρ _ => Cert.EvenBwdIdeal.Run.quiet m ρ
theorem frame_evenRef : Cert.quiescent_EvenRefIdeal := fun m ρ _ =>
  (θ_run Cert.EvenRefIdeal.defs _ _).mono (fun r h => ⟨fun c => (h c).2.2.2.2, sem_eq_zero_of_no_sems (by decide) r.2⟩)
    (Cert.EvenRefIdeal.Value.run (F := Ideal) m ρ)

theorem gated_ext {z z' : (⟨3, ![2, 4096, 3072]⟩ : Shape).Idx → EReal} {g g' b b' : Row 512} {dy dy' : (⟨3, ![2, 4096, 1024]⟩ : Shape).Idx → EReal}
    (hz : z = z') (hg : g = g') (hb : b = b') (hd : dy = dy') : (⟨z, g, b, dy⟩ : Gated) = ⟨z', g', b', dy'⟩ := by
  subst hz hg hb hd; rfl

/-- What the gated branch reads, as the arguments give it. -/
theorem gated_eq (m : (ℓ : Loc Cert.EvenBwdIdeal.nD Cert.EvenBwdIdeal.τ Cert.EvenBwdIdeal.sig) → Buf (Elt Ideal) ℓ) (c : Dev Cert.EvenBwdIdeal.nD) :
    Cert.EvenBwdIdeal.Run.gated m c =
      { z := m ((c.tc : Thread _ _).loc Cert.EvenBwdIdeal.main_arg0), g := m ((c.tc : Thread _ _).loc Cert.EvenBwdIdeal.main_arg5),
        b := m ((c.tc : Thread _ _).loc Cert.EvenBwdIdeal.main_arg6), dy := m ((c.tc : Thread _ _).loc Cert.EvenBwdIdeal.main_arg9) } := by
  have hz := Cert.EvenBwdIdeal.Gen.V_main_arg0 m c
  have hd := Cert.EvenBwdIdeal.Gen.V_main_arg9 m c
  have hg : (fun y : (⟨1, ![512]⟩ : Shape).Idx => (Cert.EvenBwdIdeal.Gen.V m c Cert.EvenBwdIdeal.main_v238 (ix2 3 (y 0)) : EReal)) =
      m ((c.tc : Thread _ _).loc Cert.EvenBwdIdeal.main_arg5) := funext fun y => by
    idx_vars y
    exact Cert.EvenBwdIdeal.Run.entry_g m c y0
  have hb : (fun y : (⟨1, ![512]⟩ : Shape).Idx => (Cert.EvenBwdIdeal.Gen.V m c Cert.EvenBwdIdeal.main_v238 (ix2 4 (y 0)) : EReal)) =
      m ((c.tc : Thread _ _).loc Cert.EvenBwdIdeal.main_arg6) := funext fun y => by
    idx_vars y
    exact Cert.EvenBwdIdeal.Run.entry_b m c y0
  exact gated_ext hz hg hb hd

/-- What the reference's gated branch reads. -/
def refGated (m' : (ℓ : Loc Cert.EvenRefIdeal.nD Cert.EvenRefIdeal.τ Cert.EvenRefIdeal.sig) → Buf (Elt Ideal) ℓ) (c : Dev Cert.EvenRefIdeal.nD) : Gated :=
  { z := m' ((c.tc : Thread _ _).loc Cert.EvenRefIdeal.main_arg0), g := m' ((c.tc : Thread _ _).loc Cert.EvenRefIdeal.main_arg5),
    b := m' ((c.tc : Thread _ _).loc Cert.EvenRefIdeal.main_arg6), dy := m' ((c.tc : Thread _ _).loc Cert.EvenRefIdeal.main_arg9) }

/-- The mixing matrices as the arguments give them. -/
theorem mix_eq (m : (ℓ : Loc Cert.EvenBwdIdeal.nD Cert.EvenBwdIdeal.τ Cert.EvenBwdIdeal.sig) → Buf (Elt Ideal) ℓ) (c : Dev Cert.EvenBwdIdeal.nD) :
    Cert.EvenBwdIdeal.Run.mix m c = fun h s t => (m ((c.tc : Thread _ _).loc Cert.EvenBwdIdeal.main_arg7) : FVec Ideal ⟨3, ![8, 128, 128]⟩ .f32) (ix3 h s t) :=
  funext fun h => funext fun s => funext fun t => Cert.EvenBwdIdeal.Run.entry_w m c h s t

/-- What the reference's mixing matrices are. -/
def refMix (m' : (ℓ : Loc Cert.EvenRefIdeal.nD Cert.EvenRefIdeal.τ Cert.EvenRefIdeal.sig) → Buf (Elt Ideal) ℓ) (c : Dev Cert.EvenRefIdeal.nD) : Mixing :=
  fun h s t => (m' ((c.tc : Thread _ _).loc Cert.EvenRefIdeal.main_arg7) : FVec Ideal ⟨3, ![8, 128, 128]⟩ .f32) (ix3 h s t)

theorem mixing_ext {x x' : FVec Ideal ⟨3, ![8, 128, 128]⟩ .f32} (h : x = x') :
    (fun a s t => x (ix3 a s t) : Mixing) = fun a s t => x' (ix3 a s t) := by
  subst h; rfl

/-- The gradients of the value row's layer norm, of the mixing matrices and of their bias: the kernel's blocks summed and
    the reference's derivative are the same functions of the arguments. -/
theorem algebraic_even : Cert.algebraic_EvenBwdIdeal_EvenRefIdeal := by
  intro m g m' g' _ hargs
  have hA : ∀ c : Dev Cert.EvenBwdIdeal.nD, Cert.EvenBwdIdeal.Run.gated m c =
      refGated m' c := fun c => by
    obtain ⟨h0, h1, h2, h3, h4, h5, h6, h7, h8, h9⟩ := hargs c
    exact (gated_eq m c).trans (gated_ext h0.symm h5.symm h6.symm h9.symm)
  have hW : ∀ c : Dev Cert.EvenBwdIdeal.nD, Cert.EvenBwdIdeal.Run.mix m c = refMix m' c := fun c => by
    obtain ⟨h0, h1, h2, h3, h4, h5, h6, h7, h8, h9⟩ := hargs c
    exact (mix_eq m c).trans (mixing_ext h7.symm)
  refine ⟨fun c y => (Cert.EvenBwdIdeal.Run.gated m c).dg (Cert.EvenBwdIdeal.Run.mix m c) (y 0), fun c y => (Cert.EvenBwdIdeal.Run.gated m c).db (Cert.EvenBwdIdeal.Run.mix m c) (y 0),
    fun c y => (Cert.EvenBwdIdeal.Run.gated m c).dws (y 0) (y 1) (y 2), fun c y => (Cert.EvenBwdIdeal.Run.gated m c).dbias (y 0) (y 1),
    (θ_run Cert.EvenBwdIdeal.defs _ _).mono (fun r h c => h c) (Cert.EvenBwdIdeal.Run.values m g),
    (θ_run Cert.EvenRefIdeal.defs _ _).mono (fun r h c => ?_) (Cert.EvenRefIdeal.Value.run (F := Ideal) m' g')⟩
  obtain ⟨h93, h89, h0, h1, ha⟩ := h c
  have e1 : r.2.mem ((c.tc : Thread _ _).loc Cert.EvenRefIdeal.main_v79) =
      Cert.EvenRefIdeal.Value.dbiasT (m' ((c.tc : Thread _ _).loc Cert.EvenRefIdeal.main_arg0)) (m' ((c.tc : Thread _ _).loc Cert.EvenRefIdeal.main_arg9)) := h1
  have e2 : r.2.mem ((c.tc : Thread _ _).loc Cert.EvenRefIdeal.main_v89) =
      Cert.EvenRefIdeal.Value.dbT (m' ((c.tc : Thread _ _).loc Cert.EvenRefIdeal.main_arg0)) (m' ((c.tc : Thread _ _).loc Cert.EvenRefIdeal.main_arg9)) (m' ((c.tc : Thread _ _).loc Cert.EvenRefIdeal.main_arg7)) := h89
  refine ⟨(h93.trans (Cert.EvenRefIdeal.Value.res_dg m' c)).trans (funext fun y => ?_), e2.trans (funext fun y => ?_),
    (h0.trans (Cert.EvenRefIdeal.Value.res_dws m' c)).trans (funext fun y => ?_), e1.trans (funext fun y => ?_), ha⟩
  · idx_vars y
    rw [hA c, hW c]
    exact Cert.EvenRefIdeal.Value.dg_at (refGated m' c) (m' ((c.tc : Thread _ _).loc Cert.EvenRefIdeal.main_arg7)) y0
  · idx_vars y
    rw [hA c, hW c]
    exact Cert.EvenRefIdeal.Value.db_at (refGated m' c) (m' ((c.tc : Thread _ _).loc Cert.EvenRefIdeal.main_arg7)) y0
  · idx_vars y
    rw [hA c]
    exact Cert.EvenRefIdeal.Value.dws_at (refGated m' c) y0 y1 y2
  · idx_vars y
    rw [hA c]
    exact Cert.EvenRefIdeal.Value.dbias_at (refGated m' c) y0 y1

theorem frame_odd : Cert.quiescent_OddBwd := fun m ρ _ => Cert.OddBwd.Run.quiet m ρ
theorem frame_oddIdeal : Cert.quiescent_OddBwdIdeal := fun m ρ _ => Cert.OddBwdIdeal.Run.quiet m ρ
theorem frame_oddRef : Cert.quiescent_OddRefIdeal := fun m ρ _ =>
  (θ_run Cert.OddRefIdeal.defs _ _).mono (fun r h => ⟨fun c => (h c).2.2.2.2, sem_eq_zero_of_no_sems (by decide) r.2⟩)
    (Cert.OddRefIdeal.Value.run (F := Ideal) m ρ)

theorem frame_loss : Cert.quiescent_LossFwd := fun m ρ _ => Cert.LossFwd.Gen.frame m ρ
theorem frame_lossIdeal : Cert.quiescent_LossFwdIdeal := fun m ρ _ => Cert.LossFwdIdeal.Gen.frame m ρ
theorem frame_lossRef : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)

/-- The last layer's tail with the loss: the loss's gradient, the residual sum, the gate and the columns' sums of squared
    errors are the same functions of the arguments. -/
theorem algebraic_loss : Cert.algebraic_LossFwdIdeal_LossRefIdeal := by
  intro m g m' g' _ hargs
  have htail : ∀ c : Dev Cert.LossFwdIdeal.nD, Cert.LossRefIdeal.Value.tail m' c = Cert.LossFwdIdeal.Value.tail m c := fun c => by
    obtain ⟨h0, h1, h2, h3, h4, h5, h6, h7, h8, h9, h10⟩ := hargs c
    unfold Cert.LossRefIdeal.Value.tail Cert.LossFwdIdeal.Value.tail
    congr 1
  refine ⟨fun c y => (Cert.LossFwdIdeal.Value.tail m c).dloss (y 0) (y 1), fun c y => (Cert.LossFwdIdeal.Value.tail m c).r (y 0) (y 1),
    fun c y => (Cert.LossFwdIdeal.Value.tail m c).gate (y 0) (y 1), fun c y => (Cert.LossFwdIdeal.Value.tail m c).sq (y 1),
    (θ_run Cert.LossFwdIdeal.defs _ _).mono (fun r h c => ?_) (Cert.LossFwdIdeal.Value.run_blocks (F := Ideal) m g),
    (θ_run Cert.LossRefIdeal.defs _ _).mono (fun r h c => ?_) (Cert.LossRefIdeal.Value.run (F := Ideal) m' g')⟩
  · obtain ⟨h0, h1, h2, h3, ha⟩ := h c
    exact ⟨h0.trans (Cert.LossFwdIdeal.Value.final8 m c), h1.trans (Cert.LossFwdIdeal.Value.final9 m c),
      h2.trans (Cert.LossFwdIdeal.Value.final10 m c), h3.trans (Cert.LossFwdIdeal.Value.final11 m c), ha⟩
  · obtain ⟨h0, h1, h2, h3, ha⟩ := h c
    have e1 : r.2.mem ((c.tc : Thread _ _).loc Cert.LossRefIdeal.main_v6) = Cert.LossRefIdeal.Value.rT m' c := h1
    refine ⟨(h0.trans (Cert.LossRefIdeal.Value.res_dloss m' c)).trans (funext fun y => ?_), e1.trans (funext fun y => ?_),
      (h2.trans (Cert.LossRefIdeal.Value.res_gate m' c)).trans (funext fun y => ?_),
      (h3.trans (Cert.LossRefIdeal.Value.res_sq m' c)).trans (funext fun y => ?_), ha⟩
    all_goals idx_vars y
    · exact (Cert.LossRefIdeal.Value.dloss_at m' c y0 y1).trans (congrArg (fun T : Tail => T.dloss y0 y1) (htail c))
    · exact (Cert.LossRefIdeal.Value.r_at m' c y0 y1).trans (congrArg (fun T : Tail => T.r y0 y1) (htail c))
    · exact (Cert.LossRefIdeal.Value.gate_at m' c y0 y1).trans (congrArg (fun T : Tail => T.gate y0 y1) (htail c))
    · exact (Cert.LossRefIdeal.Value.sq_at m' c y0 y1).trans (congrArg (fun T : Tail => T.sq y1) (htail c))

theorem frame_mid : Cert.quiescent_MidFwd := fun m ρ _ => Cert.MidFwd.Gen.frame m ρ
theorem frame_midIdeal : Cert.quiescent_MidFwdIdeal := fun m ρ _ => Cert.MidFwdIdeal.Gen.frame m ρ
theorem frame_midRef : Cert.quiescent_MidRefIdeal := fun m ρ _ =>
  (θ_run Cert.MidRefIdeal.defs _ _).mono (fun r h => ⟨fun c => (h c).2.2.2.2, sem_eq_zero_of_no_sems (by decide) r.2⟩)
    (Cert.MidRefIdeal.Value.run (F := Ideal) m ρ)

/-- A layer's tail with the projection into the next layer: the output, the residual sum, the gate and the projection are
    the same functions of the arguments. -/
theorem algebraic_mid : Cert.algebraic_MidFwdIdeal_MidRefIdeal := by
  intro m g m' g' _ hargs
  have hmid : ∀ c : Dev Cert.MidFwdIdeal.nD, Cert.MidRefIdeal.Value.mid m' c = Cert.MidFwdIdeal.Value.mid m c := fun c => by
    obtain ⟨h0, h1, h2, h3, h4, h5, h6, h7, h8, h9, h10, h11⟩ := hargs c
    unfold Cert.MidRefIdeal.Value.mid Cert.MidFwdIdeal.Value.mid
    congr 1
  refine ⟨fun c y => (Cert.MidFwdIdeal.Value.mid m c).xn (y 0) (y 1), fun c y => (Cert.MidFwdIdeal.Value.mid m c).tail.r (y 0) (y 1),
    fun c y => (Cert.MidFwdIdeal.Value.mid m c).tail.gate (y 0) (y 1), fun c y => (Cert.MidFwdIdeal.Value.mid m c).z (y 0) (y 1),
    (θ_run Cert.MidFwdIdeal.defs _ _).mono (fun r h c => ?_) (Cert.MidFwdIdeal.Value.run_blocks (F := Ideal) m g),
    (θ_run Cert.MidRefIdeal.defs _ _).mono (fun r h c => ?_) (Cert.MidRefIdeal.Value.run (F := Ideal) m' g')⟩
  · obtain ⟨h0, h1, h2, h3, ha⟩ := h c
    exact ⟨h0.trans (Cert.MidFwdIdeal.Value.final9 m c), h1.trans (Cert.MidFwdIdeal.Value.final10 m c),
      h2.trans (Cert.MidFwdIdeal.Value.final11 m c), h3.trans (Cert.MidFwdIdeal.Value.final12 m c), ha⟩
  · obtain ⟨h0, h1, h2, h3, ha⟩ := h c
    have e1 : r.2.mem ((c.tc : Thread _ _).loc Cert.MidRefIdeal.main_v6) = Cert.MidRefIdeal.Value.rT m' c := h1
    refine ⟨(h0.trans (Cert.MidRefIdeal.Value.res_xn m' c)).trans (funext fun y => ?_), e1.trans (funext fun y => ?_),
      (h2.trans (Cert.MidRefIdeal.Value.res_gate m' c)).trans (funext fun y => ?_),
      (h3.trans (Cert.MidRefIdeal.Value.res_z m' c)).trans (funext fun y => ?_), ha⟩
    all_goals idx_vars y
    · exact (Cert.MidRefIdeal.Value.xn_at m' c y0 y1).trans (congrArg (fun T : Mid => T.xn y0 y1) (hmid c))
    · exact (Cert.MidRefIdeal.Value.r_at m' c y0 y1).trans (congrArg (fun T : Mid => T.tail.r y0 y1) (hmid c))
    · exact (Cert.MidRefIdeal.Value.gate_at m' c y0 y1).trans (congrArg (fun T : Mid => T.tail.gate y0 y1) (hmid c))
    · exact (Cert.MidRefIdeal.Value.z_at m' c y0 y1).trans (congrArg (fun T : Mid => T.z y0 y1) (hmid c))

theorem frame_evenFwd : Cert.quiescent_EvenFwd := fun m ρ _ => Cert.EvenFwd.Run.quiet m ρ
theorem frame_evenFwdIdeal : Cert.quiescent_EvenFwdIdeal := fun m ρ _ => Cert.EvenFwdIdeal.Run.quiet m ρ
theorem frame_evenFwdRef : Cert.quiescent_EvenFwdRefIdeal := fun m ρ _ =>
  (θ_run Cert.EvenFwdRefIdeal.defs _ _).mono (fun r h => ⟨fun c => (h c).2, sem_eq_zero_of_no_sems (by decide) r.2⟩)
    (Cert.EvenFwdRefIdeal.Value.run (F := Ideal) m ρ)

/-- What the forward call's gated branch reads, as the arguments give it. -/
theorem gatedFwd_eq (m : (ℓ : Loc Cert.EvenFwdIdeal.nD Cert.EvenFwdIdeal.τ Cert.EvenFwdIdeal.sig) → Buf (Elt Ideal) ℓ) (c : Dev Cert.EvenFwdIdeal.nD) :
    Cert.EvenFwdIdeal.Run.gated m c =
      { z := m ((c.tc : Thread _ _).loc Cert.EvenFwdIdeal.main_arg0), g := m ((c.tc : Thread _ _).loc Cert.EvenFwdIdeal.main_arg5),
        b := m ((c.tc : Thread _ _).loc Cert.EvenFwdIdeal.main_arg6), dy := fun _ => 0 } := by
  have hz := Cert.EvenFwdIdeal.Gen.V_main_arg0 m c
  have hg : (fun y : (⟨1, ![512]⟩ : Shape).Idx => (Cert.EvenFwdIdeal.Gen.V m c Cert.EvenFwdIdeal.main_v8 (ix2 3 (y 0)) : EReal)) =
      m ((c.tc : Thread _ _).loc Cert.EvenFwdIdeal.main_arg5) := funext fun y => by
    idx_vars y
    exact Cert.EvenFwdIdeal.Run.entry_g m c y0
  have hb : (fun y : (⟨1, ![512]⟩ : Shape).Idx => (Cert.EvenFwdIdeal.Gen.V m c Cert.EvenFwdIdeal.main_v8 (ix2 4 (y 0)) : EReal)) =
      m ((c.tc : Thread _ _).loc Cert.EvenFwdIdeal.main_arg6) := funext fun y => by
    idx_vars y
    exact Cert.EvenFwdIdeal.Run.entry_b m c y0
  exact gated_ext hz hg hb rfl

/-- What the reference's gated branch reads. -/
def refGatedFwd (m' : (ℓ : Loc Cert.EvenFwdRefIdeal.nD Cert.EvenFwdRefIdeal.τ Cert.EvenFwdRefIdeal.sig) → Buf (Elt Ideal) ℓ) (c : Dev Cert.EvenFwdRefIdeal.nD) : Gated :=
  { z := m' ((c.tc : Thread _ _).loc Cert.EvenFwdRefIdeal.main_arg0), g := m' ((c.tc : Thread _ _).loc Cert.EvenFwdRefIdeal.main_arg5),
    b := m' ((c.tc : Thread _ _).loc Cert.EvenFwdRefIdeal.main_arg6), dy := fun _ => 0 }

theorem bias_ext {x x' : FVec Ideal ⟨2, ![8, 128]⟩ .f32} (h : x = x') :
    (fun t j => x (ix2 (head j) t) : Fin 128 → Fin 512 → EReal) = fun t j => x' (ix2 (head j) t) := by
  subst h; rfl

/-- The gated branch of the forward call: the kernel's tiles and the reference's rows are the same function of the
    arguments. -/
theorem algebraic_evenFwd : Cert.algebraic_EvenFwdIdeal_EvenFwdRefIdeal := by
  intro m g m' g' _ hargs
  have hA : ∀ c : Dev Cert.EvenFwdIdeal.nD, Cert.EvenFwdIdeal.Run.gated m c = refGatedFwd m' c := fun c => by
    obtain ⟨h0, h1, h2, h3, h4, h5, h6, h7, h8⟩ := hargs c
    exact (gatedFwd_eq m c).trans (gated_ext h0.symm h5.symm h6.symm rfl)
  have hW : ∀ c : Dev Cert.EvenFwdIdeal.nD, Cert.EvenFwdIdeal.Run.mix m c =
      fun h t s => (m' ((c.tc : Thread _ _).loc Cert.EvenFwdRefIdeal.main_arg7) : FVec Ideal ⟨3, ![8, 128, 128]⟩ .f32) (ix3 h t s) := fun c => by
    obtain ⟨h0, h1, h2, h3, h4, h5, h6, h7, h8⟩ := hargs c
    exact mixing_ext ((Cert.EvenFwdIdeal.Gen.V_main_arg7 m c).trans h7.symm)
  have hB : ∀ c : Dev Cert.EvenFwdIdeal.nD, Cert.EvenFwdIdeal.Run.bias m c =
      fun t j => (m' ((c.tc : Thread _ _).loc Cert.EvenFwdRefIdeal.main_arg8) : FVec Ideal ⟨2, ![8, 128]⟩ .f32) (ix2 (head j) t) := fun c => by
    obtain ⟨h0, h1, h2, h3, h4, h5, h6, h7, h8⟩ := hargs c
    have e : Cert.EvenFwdIdeal.Run.bias m c =
        fun t j => (m ((c.tc : Thread _ _).loc Cert.EvenFwdIdeal.main_arg8) : FVec Ideal ⟨2, ![8, 128]⟩ .f32) (ix2 (head j) t) :=
      funext fun t => funext fun j => Cert.EvenFwdIdeal.Run.entry_bias m c t j
    exact e.trans (bias_ext h8.symm)
  refine ⟨fun c y => outAt (Cert.EvenFwdIdeal.Run.gated m c) (Cert.EvenFwdIdeal.Run.mix m c) (Cert.EvenFwdIdeal.Run.bias m c) (y 0) (y 1) (y 2),
    (θ_run Cert.EvenFwdIdeal.defs _ _).mono (fun r h c => h c) (Cert.EvenFwdIdeal.Run.values m g),
    (θ_run Cert.EvenFwdRefIdeal.defs _ _).mono (fun r h c => ?_) (Cert.EvenFwdRefIdeal.Value.run (F := Ideal) m' g')⟩
  obtain ⟨h0, ha⟩ := h c
  refine ⟨(h0.trans (Cert.EvenFwdRefIdeal.Value.res_out m' c)).trans (funext fun y => ?_), ha⟩
  idx_vars y
  rw [hA c, hW c, hB c]
  exact Cert.EvenFwdRefIdeal.Value.row_at (refGatedFwd m' c) (m' ((c.tc : Thread _ _).loc Cert.EvenFwdRefIdeal.main_arg7))
    (m' ((c.tc : Thread _ _).loc Cert.EvenFwdRefIdeal.main_arg8)) y0 y1 y2

theorem frame_oddFwd : Cert.quiescent_OddFwd := fun m ρ _ => Cert.OddFwd.Gen.frame m ρ
theorem frame_oddFwdIdeal : Cert.quiescent_OddFwdIdeal := fun m ρ _ => Cert.OddFwdIdeal.Gen.frame m ρ
theorem frame_oddFwdRef : Cert.quiescent_OddFwdRefIdeal := fun m ρ _ =>
  (θ_run Cert.OddFwdRefIdeal.defs _ _).mono (fun r h => ⟨fun c => (h c).2, sem_eq_zero_of_no_sems (by decide) r.2⟩)
    (Cert.OddFwdRefIdeal.Value.run (F := Ideal) m ρ)

theorem frame_inDx : Cert.quiescent_InDx := fun m ρ _ => Cert.InDx.Gen.frame m ρ
theorem frame_inDxIdeal : Cert.quiescent_InDxIdeal := fun m ρ _ => Cert.InDxIdeal.Gen.frame m ρ
theorem frame_inDxRef : Cert.quiescent_InDxRefIdeal := fun m ρ _ =>
  (θ_run Cert.InDxRefIdeal.defs _ _).mono (fun r h => ⟨fun c => (h c).2, sem_eq_zero_of_no_sems (by decide) r.2⟩)
    (Cert.InDxRefIdeal.Value.run (F := Ideal) m ρ)

/-- The input projection's gradient by its input is the same function of the arguments. -/
theorem algebraic_inDx : Cert.algebraic_InDxIdeal_InDxRefIdeal := by
  intro m g m' g' _ hargs
  have ha : ∀ c : Dev Cert.InDxIdeal.nD, Cert.InDxRefIdeal.Value.args m' c = Cert.InDxIdeal.Value.args m c := fun c => by
    obtain ⟨h0, h1, h2⟩ := hargs c
    unfold Cert.InDxRefIdeal.Value.args Cert.InDxIdeal.Value.args
    congr 1
  refine ⟨fun c y => (Cert.InDxIdeal.Value.args m c).dx (y 0) (y 1),
    (θ_run Cert.InDxIdeal.defs _ _).mono (fun r h c => ?_) (Cert.InDxIdeal.Value.run_blocks (F := Ideal) m g),
    (θ_run Cert.InDxRefIdeal.defs _ _).mono (fun r h c => ?_) (Cert.InDxRefIdeal.Value.run (F := Ideal) m' g')⟩
  · obtain ⟨h0, hb⟩ := h c
    exact ⟨h0.trans (Cert.InDxIdeal.Value.final4 m c), hb⟩
  · obtain ⟨h0, hb⟩ := h c
    have e : r.2.mem ((c.tc : Thread _ _).loc Cert.InDxRefIdeal.main_v3) = Cert.InDxRefIdeal.Value.dxT m' c := h0
    refine ⟨e.trans (funext fun y => ?_), hb⟩
    idx_vars y
    exact (Cert.InDxRefIdeal.Value.dx_at m' c y0 y1).trans (congrArg (fun A : InDx => A.dx y0 y1) (ha c))

theorem claim : Cert.Claim :=
  ⟨Cert.PostBwd.Gen.facts, Cert.PostBwdIdeal.Gen.facts, Cert.PostRefIdeal.Gen.facts, Cert.EvenBwd.Gen.facts, Cert.EvenBwdIdeal.Gen.facts,
    Cert.EvenRefIdeal.Gen.facts, Cert.OddBwd.Gen.facts, Cert.OddBwdIdeal.Gen.facts, Cert.OddRefIdeal.Gen.facts,
    Cert.LossFwd.Gen.facts, Cert.LossFwdIdeal.Gen.facts, Cert.LossRefIdeal.Gen.facts, Cert.MidFwd.Gen.facts, Cert.MidFwdIdeal.Gen.facts,
    Cert.MidRefIdeal.Gen.facts, Cert.EvenFwd.Gen.facts, Cert.EvenFwdIdeal.Gen.facts, Cert.EvenFwdRefIdeal.Gen.facts,
    Cert.OddFwd.Gen.facts, Cert.OddFwdIdeal.Gen.facts, Cert.OddFwdRefIdeal.Gen.facts,
    Cert.InDx.Gen.facts, Cert.InDxIdeal.Gen.facts, Cert.InDxRefIdeal.Gen.facts, Cert.Pre_post_finite.Gen.facts,
    frame_post, frame_postIdeal, fun m ρ _ => frame_postIdeal m ρ trivial, frame_postRef, fun m ρ _ => frame_postRef m ρ trivial,
    frame_even, frame_evenIdeal, frame_evenRef, frame_odd, frame_oddIdeal, frame_oddRef,
    frame_loss, frame_lossIdeal, frame_lossRef, frame_mid, frame_midIdeal, frame_midRef,
    frame_evenFwd, frame_evenFwdIdeal, frame_evenFwdRef, frame_oddFwd, frame_oddFwdIdeal, frame_oddFwdRef,
    frame_inDx, frame_inDxIdeal, frame_inDxRef, trivial, algebraic_post, trivial, algebraic_even, trivial,
    trivial, algebraic_loss, trivial, algebraic_mid, trivial, algebraic_evenFwd, trivial, trivial, algebraic_inDx⟩

end Cert.Proof

end
